-- ==== Defs.lean ====
def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2))) = (fun _ => 1#1)

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpIdeal_gmlp_finite [hPre_gmlp_finite : Cert.Pre_gmlp_finite.Facts] (m : (ℓ : Loc Cert.GmlpIdeal.nD Cert.GmlpIdeal.τ Cert.GmlpIdeal.sig) → Buf (Elt Ideal) ℓ) : Prop :=
  ∀ c : Dev Cert.GmlpIdeal.nD,
    (Cert.Pre_gmlp_finite.fn (F := Ideal) (m ((c.tc : Thread Cert.GmlpIdeal.nD Cert.GmlpIdeal.τ).loc Cert.GmlpIdeal.main_arg0)) (m ((c.tc : Thread Cert.GmlpIdeal.nD Cert.GmlpIdeal.τ).loc Cert.GmlpIdeal.main_arg1)) (m ((c.tc : Thread Cert.GmlpIdeal.nD Cert.GmlpIdeal.τ).loc Cert.GmlpIdeal.main_arg2)) (m ((c.tc : Thread Cert.GmlpIdeal.nD Cert.GmlpIdeal.τ).loc Cert.GmlpIdeal.main_arg3)) (m ((c.tc : Thread Cert.GmlpIdeal.nD Cert.GmlpIdeal.τ).loc Cert.GmlpIdeal.main_arg4)) (m ((c.tc : Thread Cert.GmlpIdeal.nD Cert.GmlpIdeal.τ).loc Cert.GmlpIdeal.main_arg5))) = (fun _ => 1#1)

def Pre_GmlpRefIdeal (m : (ℓ : Loc Cert.GmlpRefIdeal.nD Cert.GmlpRefIdeal.τ Cert.GmlpRefIdeal.sig) → Buf (Elt Ideal) ℓ) : Prop :=
  True

def Pre_GmlpRefIdeal_gmlp_finite [hPre_gmlp_finite : Cert.Pre_gmlp_finite.Facts] (m : (ℓ : Loc Cert.GmlpRefIdeal.nD Cert.GmlpRefIdeal.τ Cert.GmlpRefIdeal.sig) → Buf (Elt Ideal) ℓ) : Prop :=
  ∀ c : Dev Cert.GmlpRefIdeal.nD,
    (Cert.Pre_gmlp_finite.fn (F := Ideal) (m ((c.tc : Thread Cert.GmlpRefIdeal.nD Cert.GmlpRefIdeal.τ).loc Cert.GmlpRefIdeal.main_arg0)) (m ((c.tc : Thread Cert.GmlpRefIdeal.nD Cert.GmlpRefIdeal.τ).loc Cert.GmlpRefIdeal.main_arg1)) (m ((c.tc : Thread Cert.GmlpRefIdeal.nD Cert.GmlpRefIdeal.τ).loc Cert.GmlpRefIdeal.main_arg2)) (m ((c.tc : Thread Cert.GmlpRefIdeal.nD Cert.GmlpRefIdeal.τ).loc Cert.GmlpRefIdeal.main_arg3)) (m ((c.tc : Thread Cert.GmlpRefIdeal.nD Cert.GmlpRefIdeal.τ).loc Cert.GmlpRefIdeal.main_arg4)) (m ((c.tc : Thread Cert.GmlpRefIdeal.nD Cert.GmlpRefIdeal.τ).loc Cert.GmlpRefIdeal.main_arg5))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_final_finite [hPre_final_finite : Cert.Pre_final_finite.Facts] (m : (ℓ : Loc Cert.FinalIdeal.nD Cert.FinalIdeal.τ Cert.FinalIdeal.sig) → Buf (Elt Ideal) ℓ) : Prop :=
  ∀ c : Dev Cert.FinalIdeal.nD,
    (Cert.Pre_final_finite.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4))) = (fun _ => 1#1)

def Pre_FinalRefIdeal (m : (ℓ : Loc Cert.FinalRefIdeal.nD Cert.FinalRefIdeal.τ Cert.FinalRefIdeal.sig) → Buf (Elt Ideal) ℓ) : Prop :=
  True

def Pre_FinalRefIdeal_final_finite [hPre_final_finite : Cert.Pre_final_finite.Facts] (m : (ℓ : Loc Cert.FinalRefIdeal.nD Cert.FinalRefIdeal.τ Cert.FinalRefIdeal.sig) → Buf (Elt Ideal) ℓ) : Prop :=
  ∀ c : Dev Cert.FinalRefIdeal.nD,
    (Cert.Pre_final_finite.fn (F := Ideal) (m ((c.tc : Thread Cert.FinalRefIdeal.nD Cert.FinalRefIdeal.τ).loc Cert.FinalRefIdeal.main_arg0)) (m ((c.tc : Thread Cert.FinalRefIdeal.nD Cert.FinalRefIdeal.τ).loc Cert.FinalRefIdeal.main_arg1)) (m ((c.tc : Thread Cert.FinalRefIdeal.nD Cert.FinalRefIdeal.τ).loc Cert.FinalRefIdeal.main_arg2)) (m ((c.tc : Thread Cert.FinalRefIdeal.nD Cert.FinalRefIdeal.τ).loc Cert.FinalRefIdeal.main_arg3)) (m ((c.tc : Thread Cert.FinalRefIdeal.nD Cert.FinalRefIdeal.τ).loc Cert.FinalRefIdeal.main_arg4))) = (fun _ => 1#1)

def Pre_DnBack (m : (ℓ : Loc Cert.DnBack.nD Cert.DnBack.τ Cert.DnBack.sig) → Buf (Elt Bits) ℓ) : Prop :=
  True

def Pre_DnBackIdeal (m : (ℓ : Loc Cert.DnBackIdeal.nD Cert.DnBackIdeal.τ Cert.DnBackIdeal.sig) → Buf (Elt Ideal) ℓ) : Prop :=
  True

def Pre_DnPreBack (m : (ℓ : Loc Cert.DnPreBack.nD Cert.DnPreBack.τ Cert.DnPreBack.sig) → Buf (Elt Bits) ℓ) : Prop :=
  True

def Pre_DnPreBackIdeal (m : (ℓ : Loc Cert.DnPreBackIdeal.nD Cert.DnPreBackIdeal.τ Cert.DnPreBackIdeal.sig) → Buf (Elt Ideal) ℓ) : Prop :=
  True

def Pre_InNorm (m : (ℓ : Loc Cert.InNorm.nD Cert.InNorm.τ Cert.InNorm.sig) → Buf (Elt Bits) ℓ) : Prop :=
  True

def Pre_InNormIdeal (m : (ℓ : Loc Cert.InNormIdeal.nD Cert.InNormIdeal.τ Cert.InNormIdeal.sig) → Buf (Elt Ideal) ℓ) : Prop :=
  True

def Pre_InNormIdeal_in_norm_finite [hPre_in_norm_finite : Cert.Pre_in_norm_finite.Facts] (m : (ℓ : Loc Cert.InNormIdeal.nD Cert.InNormIdeal.τ Cert.InNormIdeal.sig) → Buf (Elt Ideal) ℓ) : Prop :=
  ∀ c : Dev Cert.InNormIdeal.nD,
    (Cert.Pre_in_norm_finite.fn (F := Ideal) (m ((c.tc : Thread Cert.InNormIdeal.nD Cert.InNormIdeal.τ).loc Cert.InNormIdeal.main_arg0)) (m ((c.tc : Thread Cert.InNormIdeal.nD Cert.InNormIdeal.τ).loc Cert.InNormIdeal.main_arg1)) (m ((c.tc : Thread Cert.InNormIdeal.nD Cert.InNormIdeal.τ).loc Cert.InNormIdeal.main_arg2)) (m ((c.tc : Thread Cert.InNormIdeal.nD Cert.InNormIdeal.τ).loc Cert.InNormIdeal.main_arg3)) (m ((c.tc : Thread Cert.InNormIdeal.nD Cert.InNormIdeal.τ).loc Cert.InNormIdeal.main_arg4))) = (fun _ => 1#1)

def Pre_InNormRefIdeal (m : (ℓ : Loc Cert.InNormRefIdeal.nD Cert.InNormRefIdeal.τ Cert.InNormRefIdeal.sig) → Buf (Elt Ideal) ℓ) : Prop :=
  True

def Pre_InNormRefIdeal_in_norm_finite [hPre_in_norm_finite : Cert.Pre_in_norm_finite.Facts] (m : (ℓ : Loc Cert.InNormRefIdeal.nD Cert.InNormRefIdeal.τ Cert.InNormRefIdeal.sig) → Buf (Elt Ideal) ℓ) : Prop :=
  ∀ c : Dev Cert.InNormRefIdeal.nD,
    (Cert.Pre_in_norm_finite.fn (F := Ideal) (m ((c.tc : Thread Cert.InNormRefIdeal.nD Cert.InNormRefIdeal.τ).loc Cert.InNormRefIdeal.main_arg0)) (m ((c.tc : Thread Cert.InNormRefIdeal.nD Cert.InNormRefIdeal.τ).loc Cert.InNormRefIdeal.main_arg1)) (m ((c.tc : Thread Cert.InNormRefIdeal.nD Cert.InNormRefIdeal.τ).loc Cert.InNormRefIdeal.main_arg2)) (m ((c.tc : Thread Cert.InNormRefIdeal.nD Cert.InNormRefIdeal.τ).loc Cert.InNormRefIdeal.main_arg3)) (m ((c.tc : Thread Cert.InNormRefIdeal.nD Cert.InNormRefIdeal.τ).loc Cert.InNormRefIdeal.main_arg4))) = (fun _ => 1#1)

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdRefIdeal (m : (ℓ : Loc Cert.XattnFwdRefIdeal.nD Cert.XattnFwdRefIdeal.τ Cert.XattnFwdRefIdeal.sig) → Buf (Elt Ideal) ℓ) : Prop :=
  True

def Pre_MemKvFwd (m : (ℓ : Loc Cert.MemKvFwd.nD Cert.MemKvFwd.τ Cert.MemKvFwd.sig) → Buf (Elt Bits) ℓ) : Prop :=
  True

def Pre_MemKvFwdIdeal (m : (ℓ : Loc Cert.MemKvFwdIdeal.nD Cert.MemKvFwdIdeal.τ Cert.MemKvFwdIdeal.sig) → Buf (Elt Ideal) ℓ) : Prop :=
  True

def Pre_MemKvFwdRefIdeal (m : (ℓ : Loc Cert.MemKvFwdRefIdeal.nD Cert.MemKvFwdRefIdeal.τ Cert.MemKvFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_DnPre (m : (ℓ : Loc Cert.DnPre.nD Cert.DnPre.τ Cert.DnPre.sig) → Buf (Elt Bits) ℓ) : Prop :=
  True

def Pre_DnPreIdeal (m : (ℓ : Loc Cert.DnPreIdeal.nD Cert.DnPreIdeal.τ Cert.DnPreIdeal.sig) → Buf (Elt Ideal) ℓ) : Prop :=
  True

def Pre_DnPreRefIdeal (m : (ℓ : Loc Cert.DnPreRefIdeal.nD Cert.DnPreRefIdeal.τ Cert.DnPreRefIdeal.sig) → Buf (Elt Ideal) ℓ) : Prop :=
  True

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpIdeal_pre_gmlp_finite [hGmlpIdeal : Cert.GmlpIdeal.Facts] [hPre_gmlp_finite : Cert.Pre_gmlp_finite.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal_gmlp_finite m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_GmlpRefIdeal_pre_gmlp_finite [hGmlpRefIdeal : Cert.GmlpRefIdeal.Facts] [hPre_gmlp_finite : Cert.Pre_gmlp_finite.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal_gmlp_finite m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3)
      ∧ r.2.mem ((c.tc : Thread Cert.GmlpRefIdeal.nD Cert.GmlpRefIdeal.τ).loc Cert.GmlpRefIdeal.main_arg4) = m ((c.tc : Thread Cert.GmlpRefIdeal.nD Cert.GmlpRefIdeal.τ).loc Cert.GmlpRefIdeal.main_arg4)
      ∧ r.2.mem ((c.tc : Thread Cert.GmlpRefIdeal.nD Cert.GmlpRefIdeal.τ).loc Cert.GmlpRefIdeal.main_arg5) = m ((c.tc : Thread Cert.GmlpRefIdeal.nD Cert.GmlpRefIdeal.τ).loc Cert.GmlpRefIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalIdeal_pre_final_finite [hFinalIdeal : Cert.FinalIdeal.Facts] [hPre_final_finite : Cert.Pre_final_finite.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_final_finite m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_FinalRefIdeal_pre_final_finite [hFinalRefIdeal : Cert.FinalRefIdeal.Facts] [hPre_final_finite : Cert.Pre_final_finite.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal_final_finite m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3)
      ∧ r.2.mem ((c.tc : Thread Cert.FinalRefIdeal.nD Cert.FinalRefIdeal.τ).loc Cert.FinalRefIdeal.main_arg4) = m ((c.tc : Thread Cert.FinalRefIdeal.nD Cert.FinalRefIdeal.τ).loc Cert.FinalRefIdeal.main_arg4))
      ∧ r.2.sem = fun _ => 0)

def quiescent_DnBack [hDnBack : Cert.DnBack.Facts] : Prop :=
  ∀ (m : (ℓ : Loc Cert.DnBack.nD Cert.DnBack.τ Cert.DnBack.sig) → Buf (Elt Bits) ℓ) (g : Dev Cert.DnBack.nD → PrngReg), Pre_DnBack m →
    θ_run (Cert.DnBack.defs (F := Bits)) (onTc (τ := Cert.DnBack.τ) (Cert.DnBack.main (F := Bits))) ⟨m, fun _ => 0, g⟩ (fun r => (∀ c : Dev Cert.DnBack.nD,
      r.2.mem ((c.tc : Thread Cert.DnBack.nD Cert.DnBack.τ).loc Cert.DnBack.main_arg0) = m ((c.tc : Thread Cert.DnBack.nD Cert.DnBack.τ).loc Cert.DnBack.main_arg0)
      ∧ r.2.mem ((c.tc : Thread Cert.DnBack.nD Cert.DnBack.τ).loc Cert.DnBack.main_arg1) = m ((c.tc : Thread Cert.DnBack.nD Cert.DnBack.τ).loc Cert.DnBack.main_arg1)
      ∧ r.2.mem ((c.tc : Thread Cert.DnBack.nD Cert.DnBack.τ).loc Cert.DnBack.main_arg2) = m ((c.tc : Thread Cert.DnBack.nD Cert.DnBack.τ).loc Cert.DnBack.main_arg2)
      ∧ r.2.mem ((c.tc : Thread Cert.DnBack.nD Cert.DnBack.τ).loc Cert.DnBack.main_arg3) = m ((c.tc : Thread Cert.DnBack.nD Cert.DnBack.τ).loc Cert.DnBack.main_arg3)
      ∧ r.2.mem ((c.tc : Thread Cert.DnBack.nD Cert.DnBack.τ).loc Cert.DnBack.main_arg4) = m ((c.tc : Thread Cert.DnBack.nD Cert.DnBack.τ).loc Cert.DnBack.main_arg4)
      ∧ r.2.mem ((c.tc : Thread Cert.DnBack.nD Cert.DnBack.τ).loc Cert.DnBack.main_arg5) = m ((c.tc : Thread Cert.DnBack.nD Cert.DnBack.τ).loc Cert.DnBack.main_arg5)
      ∧ r.2.mem ((c.tc : Thread Cert.DnBack.nD Cert.DnBack.τ).loc Cert.DnBack.main_arg6) = m ((c.tc : Thread Cert.DnBack.nD Cert.DnBack.τ).loc Cert.DnBack.main_arg6)
      ∧ r.2.mem ((c.tc : Thread Cert.DnBack.nD Cert.DnBack.τ).loc Cert.DnBack.main_arg7) = m ((c.tc : Thread Cert.DnBack.nD Cert.DnBack.τ).loc Cert.DnBack.main_arg7)
      ∧ r.2.mem ((c.tc : Thread Cert.DnBack.nD Cert.DnBack.τ).loc Cert.DnBack.main_arg8) = m ((c.tc : Thread Cert.DnBack.nD Cert.DnBack.τ).loc Cert.DnBack.main_arg8)
      ∧ r.2.mem ((c.tc : Thread Cert.DnBack.nD Cert.DnBack.τ).loc Cert.DnBack.main_arg9) = m ((c.tc : Thread Cert.DnBack.nD Cert.DnBack.τ).loc Cert.DnBack.main_arg9)
      ∧ r.2.mem ((c.tc : Thread Cert.DnBack.nD Cert.DnBack.τ).loc Cert.DnBack.main_arg10) = m ((c.tc : Thread Cert.DnBack.nD Cert.DnBack.τ).loc Cert.DnBack.main_arg10)
      ∧ r.2.mem ((c.tc : Thread Cert.DnBack.nD Cert.DnBack.τ).loc Cert.DnBack.main_arg11) = m ((c.tc : Thread Cert.DnBack.nD Cert.DnBack.τ).loc Cert.DnBack.main_arg11)
      ∧ r.2.mem ((c.tc : Thread Cert.DnBack.nD Cert.DnBack.τ).loc Cert.DnBack.main_arg12) = m ((c.tc : Thread Cert.DnBack.nD Cert.DnBack.τ).loc Cert.DnBack.main_arg12)
      ∧ r.2.mem ((c.tc : Thread Cert.DnBack.nD Cert.DnBack.τ).loc Cert.DnBack.main_arg13) = m ((c.tc : Thread Cert.DnBack.nD Cert.DnBack.τ).loc Cert.DnBack.main_arg13)
      ∧ r.2.mem ((c.tc : Thread Cert.DnBack.nD Cert.DnBack.τ).loc Cert.DnBack.main_arg14) = m ((c.tc : Thread Cert.DnBack.nD Cert.DnBack.τ).loc Cert.DnBack.main_arg14)
      ∧ r.2.mem ((c.tc : Thread Cert.DnBack.nD Cert.DnBack.τ).loc Cert.DnBack.main_arg15) = m ((c.tc : Thread Cert.DnBack.nD Cert.DnBack.τ).loc Cert.DnBack.main_arg15)
      ∧ r.2.mem ((c.tc : Thread Cert.DnBack.nD Cert.DnBack.τ).loc Cert.DnBack.main_arg16) = m ((c.tc : Thread Cert.DnBack.nD Cert.DnBack.τ).loc Cert.DnBack.main_arg16))
      ∧ r.2.sem = fun _ => 0)

def quiescent_DnBackIdeal [hDnBackIdeal : Cert.DnBackIdeal.Facts] : Prop :=
  ∀ (m : (ℓ : Loc Cert.DnBackIdeal.nD Cert.DnBackIdeal.τ Cert.DnBackIdeal.sig) → Buf (Elt Ideal) ℓ) (g : Dev Cert.DnBackIdeal.nD → PrngReg), Pre_DnBackIdeal m →
    θ_run (Cert.DnBackIdeal.defs (F := Ideal)) (onTc (τ := Cert.DnBackIdeal.τ) (Cert.DnBackIdeal.main (F := Ideal))) ⟨m, fun _ => 0, g⟩ (fun r => (∀ c : Dev Cert.DnBackIdeal.nD,
      r.2.mem ((c.tc : Thread Cert.DnBackIdeal.nD Cert.DnBackIdeal.τ).loc Cert.DnBackIdeal.main_arg0) = m ((c.tc : Thread Cert.DnBackIdeal.nD Cert.DnBackIdeal.τ).loc Cert.DnBackIdeal.main_arg0)
      ∧ r.2.mem ((c.tc : Thread Cert.DnBackIdeal.nD Cert.DnBackIdeal.τ).loc Cert.DnBackIdeal.main_arg1) = m ((c.tc : Thread Cert.DnBackIdeal.nD Cert.DnBackIdeal.τ).loc Cert.DnBackIdeal.main_arg1)
      ∧ r.2.mem ((c.tc : Thread Cert.DnBackIdeal.nD Cert.DnBackIdeal.τ).loc Cert.DnBackIdeal.main_arg2) = m ((c.tc : Thread Cert.DnBackIdeal.nD Cert.DnBackIdeal.τ).loc Cert.DnBackIdeal.main_arg2)
      ∧ r.2.mem ((c.tc : Thread Cert.DnBackIdeal.nD Cert.DnBackIdeal.τ).loc Cert.DnBackIdeal.main_arg3) = m ((c.tc : Thread Cert.DnBackIdeal.nD Cert.DnBackIdeal.τ).loc Cert.DnBackIdeal.main_arg3)
      ∧ r.2.mem ((c.tc : Thread Cert.DnBackIdeal.nD Cert.DnBackIdeal.τ).loc Cert.DnBackIdeal.main_arg4) = m ((c.tc : Thread Cert.DnBackIdeal.nD Cert.DnBackIdeal.τ).loc Cert.DnBackIdeal.main_arg4)
      ∧ r.2.mem ((c.tc : Thread Cert.DnBackIdeal.nD Cert.DnBackIdeal.τ).loc Cert.DnBackIdeal.main_arg5) = m ((c.tc : Thread Cert.DnBackIdeal.nD Cert.DnBackIdeal.τ).loc Cert.DnBackIdeal.main_arg5)
      ∧ r.2.mem ((c.tc : Thread Cert.DnBackIdeal.nD Cert.DnBackIdeal.τ).loc Cert.DnBackIdeal.main_arg6) = m ((c.tc : Thread Cert.DnBackIdeal.nD Cert.DnBackIdeal.τ).loc Cert.DnBackIdeal.main_arg6)
      ∧ r.2.mem ((c.tc : Thread Cert.DnBackIdeal.nD Cert.DnBackIdeal.τ).loc Cert.DnBackIdeal.main_arg7) = m ((c.tc : Thread Cert.DnBackIdeal.nD Cert.DnBackIdeal.τ).loc Cert.DnBackIdeal.main_arg7)
      ∧ r.2.mem ((c.tc : Thread Cert.DnBackIdeal.nD Cert.DnBackIdeal.τ).loc Cert.DnBackIdeal.main_arg8) = m ((c.tc : Thread Cert.DnBackIdeal.nD Cert.DnBackIdeal.τ).loc Cert.DnBackIdeal.main_arg8)
      ∧ r.2.mem ((c.tc : Thread Cert.DnBackIdeal.nD Cert.DnBackIdeal.τ).loc Cert.DnBackIdeal.main_arg9) = m ((c.tc : Thread Cert.DnBackIdeal.nD Cert.DnBackIdeal.τ).loc Cert.DnBackIdeal.main_arg9)
      ∧ r.2.mem ((c.tc : Thread Cert.DnBackIdeal.nD Cert.DnBackIdeal.τ).loc Cert.DnBackIdeal.main_arg10) = m ((c.tc : Thread Cert.DnBackIdeal.nD Cert.DnBackIdeal.τ).loc Cert.DnBackIdeal.main_arg10)
      ∧ r.2.mem ((c.tc : Thread Cert.DnBackIdeal.nD Cert.DnBackIdeal.τ).loc Cert.DnBackIdeal.main_arg11) = m ((c.tc : Thread Cert.DnBackIdeal.nD Cert.DnBackIdeal.τ).loc Cert.DnBackIdeal.main_arg11)
      ∧ r.2.mem ((c.tc : Thread Cert.DnBackIdeal.nD Cert.DnBackIdeal.τ).loc Cert.DnBackIdeal.main_arg12) = m ((c.tc : Thread Cert.DnBackIdeal.nD Cert.DnBackIdeal.τ).loc Cert.DnBackIdeal.main_arg12)
      ∧ r.2.mem ((c.tc : Thread Cert.DnBackIdeal.nD Cert.DnBackIdeal.τ).loc Cert.DnBackIdeal.main_arg13) = m ((c.tc : Thread Cert.DnBackIdeal.nD Cert.DnBackIdeal.τ).loc Cert.DnBackIdeal.main_arg13)
      ∧ r.2.mem ((c.tc : Thread Cert.DnBackIdeal.nD Cert.DnBackIdeal.τ).loc Cert.DnBackIdeal.main_arg14) = m ((c.tc : Thread Cert.DnBackIdeal.nD Cert.DnBackIdeal.τ).loc Cert.DnBackIdeal.main_arg14)
      ∧ r.2.mem ((c.tc : Thread Cert.DnBackIdeal.nD Cert.DnBackIdeal.τ).loc Cert.DnBackIdeal.main_arg15) = m ((c.tc : Thread Cert.DnBackIdeal.nD Cert.DnBackIdeal.τ).loc Cert.DnBackIdeal.main_arg15)
      ∧ r.2.mem ((c.tc : Thread Cert.DnBackIdeal.nD Cert.DnBackIdeal.τ).loc Cert.DnBackIdeal.main_arg16) = m ((c.tc : Thread Cert.DnBackIdeal.nD Cert.DnBackIdeal.τ).loc Cert.DnBackIdeal.main_arg16))
      ∧ r.2.sem = fun _ => 0)

def quiescent_DnPreBack [hDnPreBack : Cert.DnPreBack.Facts] : Prop :=
  ∀ (m : (ℓ : Loc Cert.DnPreBack.nD Cert.DnPreBack.τ Cert.DnPreBack.sig) → Buf (Elt Bits) ℓ) (g : Dev Cert.DnPreBack.nD → PrngReg), Pre_DnPreBack m →
    θ_run (Cert.DnPreBack.defs (F := Bits)) (onTc (τ := Cert.DnPreBack.τ) (Cert.DnPreBack.main (F := Bits))) ⟨m, fun _ => 0, g⟩ (fun r => (∀ c : Dev Cert.DnPreBack.nD,
      r.2.mem ((c.tc : Thread Cert.DnPreBack.nD Cert.DnPreBack.τ).loc Cert.DnPreBack.main_arg0) = m ((c.tc : Thread Cert.DnPreBack.nD Cert.DnPreBack.τ).loc Cert.DnPreBack.main_arg0)
      ∧ r.2.mem ((c.tc : Thread Cert.DnPreBack.nD Cert.DnPreBack.τ).loc Cert.DnPreBack.main_arg1) = m ((c.tc : Thread Cert.DnPreBack.nD Cert.DnPreBack.τ).loc Cert.DnPreBack.main_arg1)
      ∧ r.2.mem ((c.tc : Thread Cert.DnPreBack.nD Cert.DnPreBack.τ).loc Cert.DnPreBack.main_arg2) = m ((c.tc : Thread Cert.DnPreBack.nD Cert.DnPreBack.τ).loc Cert.DnPreBack.main_arg2)
      ∧ r.2.mem ((c.tc : Thread Cert.DnPreBack.nD Cert.DnPreBack.τ).loc Cert.DnPreBack.main_arg3) = m ((c.tc : Thread Cert.DnPreBack.nD Cert.DnPreBack.τ).loc Cert.DnPreBack.main_arg3)
      ∧ r.2.mem ((c.tc : Thread Cert.DnPreBack.nD Cert.DnPreBack.τ).loc Cert.DnPreBack.main_arg4) = m ((c.tc : Thread Cert.DnPreBack.nD Cert.DnPreBack.τ).loc Cert.DnPreBack.main_arg4)
      ∧ r.2.mem ((c.tc : Thread Cert.DnPreBack.nD Cert.DnPreBack.τ).loc Cert.DnPreBack.main_arg5) = m ((c.tc : Thread Cert.DnPreBack.nD Cert.DnPreBack.τ).loc Cert.DnPreBack.main_arg5)
      ∧ r.2.mem ((c.tc : Thread Cert.DnPreBack.nD Cert.DnPreBack.τ).loc Cert.DnPreBack.main_arg6) = m ((c.tc : Thread Cert.DnPreBack.nD Cert.DnPreBack.τ).loc Cert.DnPreBack.main_arg6)
      ∧ r.2.mem ((c.tc : Thread Cert.DnPreBack.nD Cert.DnPreBack.τ).loc Cert.DnPreBack.main_arg7) = m ((c.tc : Thread Cert.DnPreBack.nD Cert.DnPreBack.τ).loc Cert.DnPreBack.main_arg7)
      ∧ r.2.mem ((c.tc : Thread Cert.DnPreBack.nD Cert.DnPreBack.τ).loc Cert.DnPreBack.main_arg8) = m ((c.tc : Thread Cert.DnPreBack.nD Cert.DnPreBack.τ).loc Cert.DnPreBack.main_arg8)
      ∧ r.2.mem ((c.tc : Thread Cert.DnPreBack.nD Cert.DnPreBack.τ).loc Cert.DnPreBack.main_arg9) = m ((c.tc : Thread Cert.DnPreBack.nD Cert.DnPreBack.τ).loc Cert.DnPreBack.main_arg9))
      ∧ r.2.sem = fun _ => 0)

def quiescent_DnPreBackIdeal [hDnPreBackIdeal : Cert.DnPreBackIdeal.Facts] : Prop :=
  ∀ (m : (ℓ : Loc Cert.DnPreBackIdeal.nD Cert.DnPreBackIdeal.τ Cert.DnPreBackIdeal.sig) → Buf (Elt Ideal) ℓ) (g : Dev Cert.DnPreBackIdeal.nD → PrngReg), Pre_DnPreBackIdeal m →
    θ_run (Cert.DnPreBackIdeal.defs (F := Ideal)) (onTc (τ := Cert.DnPreBackIdeal.τ) (Cert.DnPreBackIdeal.main (F := Ideal))) ⟨m, fun _ => 0, g⟩ (fun r => (∀ c : Dev Cert.DnPreBackIdeal.nD,
      r.2.mem ((c.tc : Thread Cert.DnPreBackIdeal.nD Cert.DnPreBackIdeal.τ).loc Cert.DnPreBackIdeal.main_arg0) = m ((c.tc : Thread Cert.DnPreBackIdeal.nD Cert.DnPreBackIdeal.τ).loc Cert.DnPreBackIdeal.main_arg0)
      ∧ r.2.mem ((c.tc : Thread Cert.DnPreBackIdeal.nD Cert.DnPreBackIdeal.τ).loc Cert.DnPreBackIdeal.main_arg1) = m ((c.tc : Thread Cert.DnPreBackIdeal.nD Cert.DnPreBackIdeal.τ).loc Cert.DnPreBackIdeal.main_arg1)
      ∧ r.2.mem ((c.tc : Thread Cert.DnPreBackIdeal.nD Cert.DnPreBackIdeal.τ).loc Cert.DnPreBackIdeal.main_arg2) = m ((c.tc : Thread Cert.DnPreBackIdeal.nD Cert.DnPreBackIdeal.τ).loc Cert.DnPreBackIdeal.main_arg2)
      ∧ r.2.mem ((c.tc : Thread Cert.DnPreBackIdeal.nD Cert.DnPreBackIdeal.τ).loc Cert.DnPreBackIdeal.main_arg3) = m ((c.tc : Thread Cert.DnPreBackIdeal.nD Cert.DnPreBackIdeal.τ).loc Cert.DnPreBackIdeal.main_arg3)
      ∧ r.2.mem ((c.tc : Thread Cert.DnPreBackIdeal.nD Cert.DnPreBackIdeal.τ).loc Cert.DnPreBackIdeal.main_arg4) = m ((c.tc : Thread Cert.DnPreBackIdeal.nD Cert.DnPreBackIdeal.τ).loc Cert.DnPreBackIdeal.main_arg4)
      ∧ r.2.mem ((c.tc : Thread Cert.DnPreBackIdeal.nD Cert.DnPreBackIdeal.τ).loc Cert.DnPreBackIdeal.main_arg5) = m ((c.tc : Thread Cert.DnPreBackIdeal.nD Cert.DnPreBackIdeal.τ).loc Cert.DnPreBackIdeal.main_arg5)
      ∧ r.2.mem ((c.tc : Thread Cert.DnPreBackIdeal.nD Cert.DnPreBackIdeal.τ).loc Cert.DnPreBackIdeal.main_arg6) = m ((c.tc : Thread Cert.DnPreBackIdeal.nD Cert.DnPreBackIdeal.τ).loc Cert.DnPreBackIdeal.main_arg6)
      ∧ r.2.mem ((c.tc : Thread Cert.DnPreBackIdeal.nD Cert.DnPreBackIdeal.τ).loc Cert.DnPreBackIdeal.main_arg7) = m ((c.tc : Thread Cert.DnPreBackIdeal.nD Cert.DnPreBackIdeal.τ).loc Cert.DnPreBackIdeal.main_arg7)
      ∧ r.2.mem ((c.tc : Thread Cert.DnPreBackIdeal.nD Cert.DnPreBackIdeal.τ).loc Cert.DnPreBackIdeal.main_arg8) = m ((c.tc : Thread Cert.DnPreBackIdeal.nD Cert.DnPreBackIdeal.τ).loc Cert.DnPreBackIdeal.main_arg8)
      ∧ r.2.mem ((c.tc : Thread Cert.DnPreBackIdeal.nD Cert.DnPreBackIdeal.τ).loc Cert.DnPreBackIdeal.main_arg9) = m ((c.tc : Thread Cert.DnPreBackIdeal.nD Cert.DnPreBackIdeal.τ).loc Cert.DnPreBackIdeal.main_arg9))
      ∧ r.2.sem = fun _ => 0)

def quiescent_InNorm [hInNorm : Cert.InNorm.Facts] : Prop :=
  ∀ (m : (ℓ : Loc Cert.InNorm.nD Cert.InNorm.τ Cert.InNorm.sig) → Buf (Elt Bits) ℓ) (g : Dev Cert.InNorm.nD → PrngReg), Pre_InNorm m →
    θ_run (Cert.InNorm.defs (F := Bits)) (onTc (τ := Cert.InNorm.τ) (Cert.InNorm.main (F := Bits))) ⟨m, fun _ => 0, g⟩ (fun r => (∀ c : Dev Cert.InNorm.nD,
      r.2.mem ((c.tc : Thread Cert.InNorm.nD Cert.InNorm.τ).loc Cert.InNorm.main_arg0) = m ((c.tc : Thread Cert.InNorm.nD Cert.InNorm.τ).loc Cert.InNorm.main_arg0)
      ∧ r.2.mem ((c.tc : Thread Cert.InNorm.nD Cert.InNorm.τ).loc Cert.InNorm.main_arg1) = m ((c.tc : Thread Cert.InNorm.nD Cert.InNorm.τ).loc Cert.InNorm.main_arg1)
      ∧ r.2.mem ((c.tc : Thread Cert.InNorm.nD Cert.InNorm.τ).loc Cert.InNorm.main_arg2) = m ((c.tc : Thread Cert.InNorm.nD Cert.InNorm.τ).loc Cert.InNorm.main_arg2)
      ∧ r.2.mem ((c.tc : Thread Cert.InNorm.nD Cert.InNorm.τ).loc Cert.InNorm.main_arg3) = m ((c.tc : Thread Cert.InNorm.nD Cert.InNorm.τ).loc Cert.InNorm.main_arg3)
      ∧ r.2.mem ((c.tc : Thread Cert.InNorm.nD Cert.InNorm.τ).loc Cert.InNorm.main_arg4) = m ((c.tc : Thread Cert.InNorm.nD Cert.InNorm.τ).loc Cert.InNorm.main_arg4))
      ∧ r.2.sem = fun _ => 0)

def quiescent_InNormIdeal [hInNormIdeal : Cert.InNormIdeal.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
      ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ r.2.sem = fun _ => 0)

def quiescent_InNormIdeal_pre_in_norm_finite [hInNormIdeal : Cert.InNormIdeal.Facts] [hPre_in_norm_finite : Cert.Pre_in_norm_finite.Facts] : Prop :=
  ∀ (m : (ℓ : Loc Cert.InNormIdeal.nD Cert.InNormIdeal.τ Cert.InNormIdeal.sig) → Buf (Elt Ideal) ℓ) (g : Dev Cert.InNormIdeal.nD → PrngReg), Pre_InNormIdeal_in_norm_finite m →
    θ_run (Cert.InNormIdeal.defs (F := Ideal)) (onTc (τ := Cert.InNormIdeal.τ) (Cert.InNormIdeal.main (F := Ideal))) ⟨m, fun _ => 0, g⟩ (fun r => (∀ c : Dev Cert.InNormIdeal.nD,
      r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
      ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
      ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
      ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
      ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ r.2.sem = fun _ => 0)

def quiescent_InNormRefIdeal [hInNormRefIdeal : Cert.InNormRefIdeal.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3)
      ∧ r.2.mem ((c.tc : Thread Cert.InNormRefIdeal.nD Cert.InNormRefIdeal.τ).loc Cert.InNormRefIdeal.main_arg4) = m ((c.tc : Thread Cert.InNormRefIdeal.nD Cert.InNormRefIdeal.τ).loc Cert.InNormRefIdeal.main_arg4))
      ∧ r.2.sem = fun _ => 0)

def quiescent_InNormRefIdeal_pre_in_norm_finite [hInNormRefIdeal : Cert.InNormRefIdeal.Facts] [hPre_in_norm_finite : Cert.Pre_in_norm_finite.Facts] : Prop :=
  ∀ (m : (ℓ : Loc Cert.InNormRefIdeal.nD Cert.InNormRefIdeal.τ Cert.InNormRefIdeal.sig) → Buf (Elt Ideal) ℓ) (g : Dev Cert.InNormRefIdeal.nD → PrngReg), Pre_InNormRefIdeal_in_norm_finite m →
    θ_run (Cert.InNormRefIdeal.defs (F := Ideal)) (onTc (τ := Cert.InNormRefIdeal.τ) (Cert.InNormRefIdeal.main (F := Ideal))) ⟨m, fun _ => 0, g⟩ (fun r => (∀ c : Dev Cert.InNormRefIdeal.nD,
      r.2.mem ((c.tc : Thread Cert.InNormRefIdeal.nD Cert.InNormRefIdeal.τ).loc Cert.InNormRefIdeal.main_arg0) = m ((c.tc : Thread Cert.InNormRefIdeal.nD Cert.InNormRefIdeal.τ).loc Cert.InNormRefIdeal.main_arg0)
      ∧ r.2.mem ((c.tc : Thread Cert.InNormRefIdeal.nD Cert.InNormRefIdeal.τ).loc Cert.InNormRefIdeal.main_arg1) = m ((c.tc : Thread Cert.InNormRefIdeal.nD Cert.InNormRefIdeal.τ).loc Cert.InNormRefIdeal.main_arg1)
      ∧ r.2.mem ((c.tc : Thread Cert.InNormRefIdeal.nD Cert.InNormRefIdeal.τ).loc Cert.InNormRefIdeal.main_arg2) = m ((c.tc : Thread Cert.InNormRefIdeal.nD Cert.InNormRefIdeal.τ).loc Cert.InNormRefIdeal.main_arg2)
      ∧ r.2.mem ((c.tc : Thread Cert.InNormRefIdeal.nD Cert.InNormRefIdeal.τ).loc Cert.InNormRefIdeal.main_arg3) = m ((c.tc : Thread Cert.InNormRefIdeal.nD Cert.InNormRefIdeal.τ).loc Cert.InNormRefIdeal.main_arg3)
      ∧ r.2.mem ((c.tc : Thread Cert.InNormRefIdeal.nD Cert.InNormRefIdeal.τ).loc Cert.InNormRefIdeal.main_arg4) = m ((c.tc : Thread Cert.InNormRefIdeal.nD Cert.InNormRefIdeal.τ).loc Cert.InNormRefIdeal.main_arg4))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1))
      ∧ r.2.sem = fun _ => 0)

def quiescent_MemKvFwd [hMemKvFwd : Cert.MemKvFwd.Facts] : Prop :=
  ∀ (m : (ℓ : Loc Cert.MemKvFwd.nD Cert.MemKvFwd.τ Cert.MemKvFwd.sig) → Buf (Elt Bits) ℓ) (g : Dev Cert.MemKvFwd.nD → PrngReg), Pre_MemKvFwd m →
    θ_run (Cert.MemKvFwd.defs (F := Bits)) (onTc (τ := Cert.MemKvFwd.τ) (Cert.MemKvFwd.main (F := Bits))) ⟨m, fun _ => 0, g⟩ (fun r => (∀ c : Dev Cert.MemKvFwd.nD,
      r.2.mem ((c.tc : Thread Cert.MemKvFwd.nD Cert.MemKvFwd.τ).loc Cert.MemKvFwd.main_arg0) = m ((c.tc : Thread Cert.MemKvFwd.nD Cert.MemKvFwd.τ).loc Cert.MemKvFwd.main_arg0)
      ∧ r.2.mem ((c.tc : Thread Cert.MemKvFwd.nD Cert.MemKvFwd.τ).loc Cert.MemKvFwd.main_arg1) = m ((c.tc : Thread Cert.MemKvFwd.nD Cert.MemKvFwd.τ).loc Cert.MemKvFwd.main_arg1)
      ∧ r.2.mem ((c.tc : Thread Cert.MemKvFwd.nD Cert.MemKvFwd.τ).loc Cert.MemKvFwd.main_arg2) = m ((c.tc : Thread Cert.MemKvFwd.nD Cert.MemKvFwd.τ).loc Cert.MemKvFwd.main_arg2))
      ∧ r.2.sem = fun _ => 0)

def quiescent_MemKvFwdIdeal [hMemKvFwdIdeal : Cert.MemKvFwdIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg), Pre_MemKvFwdIdeal m →
    θ_run (Cert.MemKvFwdIdeal.defs (F := Ideal)) (onTc (τ := Cert.MemKvFwdIdeal.τ) (Cert.MemKvFwdIdeal.main (F := Ideal))) ⟨m, fun _ => 0, g⟩ (fun r => (∀ c : Dev Cert.MemKvFwdIdeal.nD,
      r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
      ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
      ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ r.2.sem = fun _ => 0)

def quiescent_MemKvFwdRefIdeal [hMemKvFwdRefIdeal : Cert.MemKvFwdRefIdeal.Facts] : Prop :=
  ∀ (m : (ℓ : Loc Cert.MemKvFwdRefIdeal.nD Cert.MemKvFwdRefIdeal.τ Cert.MemKvFwdRefIdeal.sig) → Buf (Elt Ideal) ℓ) (g : Dev Cert.MemKvFwdRefIdeal.nD → PrngReg), Pre_MemKvFwdRefIdeal m →
    θ_run (Cert.MemKvFwdRefIdeal.defs (F := Ideal)) (onTc (τ := Cert.MemKvFwdRefIdeal.τ) (Cert.MemKvFwdRefIdeal.main (F := Ideal))) ⟨m, fun _ => 0, g⟩ (fun r => (∀ c : Dev Cert.MemKvFwdRefIdeal.nD,
      r.2.mem ((c.tc : Thread Cert.MemKvFwdRefIdeal.nD Cert.MemKvFwdRefIdeal.τ).loc Cert.MemKvFwdRefIdeal.main_arg0) = m ((c.tc : Thread Cert.MemKvFwdRefIdeal.nD Cert.MemKvFwdRefIdeal.τ).loc Cert.MemKvFwdRefIdeal.main_arg0)
      ∧ r.2.mem ((c.tc : Thread Cert.MemKvFwdRefIdeal.nD Cert.MemKvFwdRefIdeal.τ).loc Cert.MemKvFwdRefIdeal.main_arg1) = m ((c.tc : Thread Cert.MemKvFwdRefIdeal.nD Cert.MemKvFwdRefIdeal.τ).loc Cert.MemKvFwdRefIdeal.main_arg1)
      ∧ r.2.mem ((c.tc : Thread Cert.MemKvFwdRefIdeal.nD Cert.MemKvFwdRefIdeal.τ).loc Cert.MemKvFwdRefIdeal.main_arg2) = m ((c.tc : Thread Cert.MemKvFwdRefIdeal.nD Cert.MemKvFwdRefIdeal.τ).loc Cert.MemKvFwdRefIdeal.main_arg2))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1))
      ∧ r.2.sem = fun _ => 0)

def quiescent_DnPre [hDnPre : Cert.DnPre.Facts] : Prop :=
  ∀ (m : (ℓ : Loc Cert.DnPre.nD Cert.DnPre.τ Cert.DnPre.sig) → Buf (Elt Bits) ℓ) (g : Dev Cert.DnPre.nD → PrngReg), Pre_DnPre m →
    θ_run (Cert.DnPre.defs (F := Bits)) (onTc (τ := Cert.DnPre.τ) (Cert.DnPre.main (F := Bits))) ⟨m, fun _ => 0, g⟩ (fun r => (∀ c : Dev Cert.DnPre.nD,
      r.2.mem ((c.tc : Thread Cert.DnPre.nD Cert.DnPre.τ).loc Cert.DnPre.main_arg0) = m ((c.tc : Thread Cert.DnPre.nD Cert.DnPre.τ).loc Cert.DnPre.main_arg0)
      ∧ r.2.mem ((c.tc : Thread Cert.DnPre.nD Cert.DnPre.τ).loc Cert.DnPre.main_arg1) = m ((c.tc : Thread Cert.DnPre.nD Cert.DnPre.τ).loc Cert.DnPre.main_arg1)
      ∧ r.2.mem ((c.tc : Thread Cert.DnPre.nD Cert.DnPre.τ).loc Cert.DnPre.main_arg2) = m ((c.tc : Thread Cert.DnPre.nD Cert.DnPre.τ).loc Cert.DnPre.main_arg2)
      ∧ r.2.mem ((c.tc : Thread Cert.DnPre.nD Cert.DnPre.τ).loc Cert.DnPre.main_arg3) = m ((c.tc : Thread Cert.DnPre.nD Cert.DnPre.τ).loc Cert.DnPre.main_arg3))
      ∧ r.2.sem = fun _ => 0)

def quiescent_DnPreIdeal [hDnPreIdeal : Cert.DnPreIdeal.Facts] : Prop :=
  ∀ (m : (ℓ : Loc Cert.DnPreIdeal.nD Cert.DnPreIdeal.τ Cert.DnPreIdeal.sig) → Buf (Elt Ideal) ℓ) (g : Dev Cert.DnPreIdeal.nD → PrngReg), Pre_DnPreIdeal m →
    θ_run (Cert.DnPreIdeal.defs (F := Ideal)) (onTc (τ := Cert.DnPreIdeal.τ) (Cert.DnPreIdeal.main (F := Ideal))) ⟨m, fun _ => 0, g⟩ (fun r => (∀ c : Dev Cert.DnPreIdeal.nD,
      r.2.mem ((c.tc : Thread Cert.DnPreIdeal.nD Cert.DnPreIdeal.τ).loc Cert.DnPreIdeal.main_arg0) = m ((c.tc : Thread Cert.DnPreIdeal.nD Cert.DnPreIdeal.τ).loc Cert.DnPreIdeal.main_arg0)
      ∧ r.2.mem ((c.tc : Thread Cert.DnPreIdeal.nD Cert.DnPreIdeal.τ).loc Cert.DnPreIdeal.main_arg1) = m ((c.tc : Thread Cert.DnPreIdeal.nD Cert.DnPreIdeal.τ).loc Cert.DnPreIdeal.main_arg1)
      ∧ r.2.mem ((c.tc : Thread Cert.DnPreIdeal.nD Cert.DnPreIdeal.τ).loc Cert.DnPreIdeal.main_arg2) = m ((c.tc : Thread Cert.DnPreIdeal.nD Cert.DnPreIdeal.τ).loc Cert.DnPreIdeal.main_arg2)
      ∧ r.2.mem ((c.tc : Thread Cert.DnPreIdeal.nD Cert.DnPreIdeal.τ).loc Cert.DnPreIdeal.main_arg3) = m ((c.tc : Thread Cert.DnPreIdeal.nD Cert.DnPreIdeal.τ).loc Cert.DnPreIdeal.main_arg3))
      ∧ r.2.sem = fun _ => 0)

def quiescent_DnPreRefIdeal [hDnPreRefIdeal : Cert.DnPreRefIdeal.Facts] : Prop :=
  ∀ (m : (ℓ : Loc Cert.DnPreRefIdeal.nD Cert.DnPreRefIdeal.τ Cert.DnPreRefIdeal.sig) → Buf (Elt Ideal) ℓ) (g : Dev Cert.DnPreRefIdeal.nD → PrngReg), Pre_DnPreRefIdeal m →
    θ_run (Cert.DnPreRefIdeal.defs (F := Ideal)) (onTc (τ := Cert.DnPreRefIdeal.τ) (Cert.DnPreRefIdeal.main (F := Ideal))) ⟨m, fun _ => 0, g⟩ (fun r => (∀ c : Dev Cert.DnPreRefIdeal.nD,
      r.2.mem ((c.tc : Thread Cert.DnPreRefIdeal.nD Cert.DnPreRefIdeal.τ).loc Cert.DnPreRefIdeal.main_arg0) = m ((c.tc : Thread Cert.DnPreRefIdeal.nD Cert.DnPreRefIdeal.τ).loc Cert.DnPreRefIdeal.main_arg0)
      ∧ r.2.mem ((c.tc : Thread Cert.DnPreRefIdeal.nD Cert.DnPreRefIdeal.τ).loc Cert.DnPreRefIdeal.main_arg1) = m ((c.tc : Thread Cert.DnPreRefIdeal.nD Cert.DnPreRefIdeal.τ).loc Cert.DnPreRefIdeal.main_arg1)
      ∧ r.2.mem ((c.tc : Thread Cert.DnPreRefIdeal.nD Cert.DnPreRefIdeal.τ).loc Cert.DnPreRefIdeal.main_arg2) = m ((c.tc : Thread Cert.DnPreRefIdeal.nD Cert.DnPreRefIdeal.τ).loc Cert.DnPreRefIdeal.main_arg2)
      ∧ r.2.mem ((c.tc : Thread Cert.DnPreRefIdeal.nD Cert.DnPreRefIdeal.τ).loc Cert.DnPreRefIdeal.main_arg3) = m ((c.tc : Thread Cert.DnPreRefIdeal.nD Cert.DnPreRefIdeal.τ).loc Cert.DnPreRefIdeal.main_arg3))
      ∧ r.2.sem = fun _ => 0)

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v4_0)) (v1 : (c : Dev Cert.MemKvIdeal.nD) → Buf (Elt Ideal) ((c.tc : Thread Cert.MemKvIdeal.nD Cert.MemKvIdeal.τ).loc Cert.MemKvIdeal.main_v4_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4_0) = v0 c
          ∧ r.2.mem ((c.tc : Thread Cert.MemKvIdeal.nD Cert.MemKvIdeal.τ).loc Cert.MemKvIdeal.main_v4_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v27) = v0 c
          ∧ r.2.mem ((c.tc : Thread Cert.MemKvRefIdeal.nD Cert.MemKvRefIdeal.τ).loc Cert.MemKvRefIdeal.main_v26) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)) →
    ∃ (v0 : (c : Dev Cert.XattnIdeal.nD) → Buf (Elt Ideal) ((c.tc : Thread Cert.XattnIdeal.nD Cert.XattnIdeal.τ).loc Cert.XattnIdeal.main_v11_0)) (v1 : (c : Dev Cert.XattnIdeal.nD) → Buf (Elt Ideal) ((c.tc : Thread Cert.XattnIdeal.nD Cert.XattnIdeal.τ).loc Cert.XattnIdeal.main_v11_1)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v11_0) = v0 c
          ∧ r.2.mem ((c.tc : Thread Cert.XattnIdeal.nD Cert.XattnIdeal.τ).loc Cert.XattnIdeal.main_v11_1) = v1 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v79) = v0 c
          ∧ r.2.mem ((c.tc : Thread Cert.XattnRefIdeal.nD Cert.XattnRefIdeal.τ).loc Cert.XattnRefIdeal.main_v77) = v1 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2))

def preserves_Gmlp_GmlpIdeal : Prop :=
  IdealRules.named_const.Statement Cert.GmlpIdeal.κ "gelu_cubic" .f32 0x3D372713#32 ((8943 / 200000 : ℝ) : EReal)
  ∧ IdealRules.named_const.Statement Cert.GmlpIdeal.κ "gelu_slope" .f32 0x3E095D4F#32 ((26829 / 200000 : ℝ) : EReal)

def algebraic_GmlpIdeal_GmlpRefIdeal_pre_gmlp_finite [hGmlpIdeal : Cert.GmlpIdeal.Facts] [hGmlpRefIdeal : Cert.GmlpRefIdeal.Facts] [hPre_gmlp_finite : Cert.Pre_gmlp_finite.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal_gmlp_finite m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)
      ∧ m' ((c.tc : Thread Cert.GmlpRefIdeal.nD Cert.GmlpRefIdeal.τ).loc Cert.GmlpRefIdeal.main_arg4) = m ((c.tc : Thread Cert.GmlpIdeal.nD Cert.GmlpIdeal.τ).loc Cert.GmlpIdeal.main_arg4)
      ∧ m' ((c.tc : Thread Cert.GmlpRefIdeal.nD Cert.GmlpRefIdeal.τ).loc Cert.GmlpRefIdeal.main_arg5) = m ((c.tc : Thread Cert.GmlpIdeal.nD Cert.GmlpIdeal.τ).loc Cert.GmlpIdeal.main_arg5)) →
    ∃ (v0 : (c : Dev Cert.GmlpIdeal.nD) → Buf (Elt Ideal) ((c.tc : Thread Cert.GmlpIdeal.nD Cert.GmlpIdeal.τ).loc Cert.GmlpIdeal.main_v13_0)) (v1 : (c : Dev Cert.GmlpIdeal.nD) → Buf (Elt Ideal) ((c.tc : Thread Cert.GmlpIdeal.nD Cert.GmlpIdeal.τ).loc Cert.GmlpIdeal.main_v13_1)) (v2 : (c : Dev Cert.GmlpIdeal.nD) → Buf (Elt Ideal) ((c.tc : Thread Cert.GmlpIdeal.nD Cert.GmlpIdeal.τ).loc Cert.GmlpIdeal.main_v13_2)) (v3 : (c : Dev Cert.GmlpIdeal.nD) → Buf (Elt Ideal) ((c.tc : Thread Cert.GmlpIdeal.nD Cert.GmlpIdeal.τ).loc Cert.GmlpIdeal.main_v13_3)) (v4 : (c : Dev Cert.GmlpIdeal.nD) → Buf (Elt Ideal) ((c.tc : Thread Cert.GmlpIdeal.nD Cert.GmlpIdeal.τ).loc Cert.GmlpIdeal.main_v13_4)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v13_0) = v0 c
          ∧ r.2.mem ((c.tc : Thread Cert.GmlpIdeal.nD Cert.GmlpIdeal.τ).loc Cert.GmlpIdeal.main_v13_1) = v1 c
          ∧ r.2.mem ((c.tc : Thread Cert.GmlpIdeal.nD Cert.GmlpIdeal.τ).loc Cert.GmlpIdeal.main_v13_2) = v2 c
          ∧ r.2.mem ((c.tc : Thread Cert.GmlpIdeal.nD Cert.GmlpIdeal.τ).loc Cert.GmlpIdeal.main_v13_3) = v3 c
          ∧ r.2.mem ((c.tc : Thread Cert.GmlpIdeal.nD Cert.GmlpIdeal.τ).loc Cert.GmlpIdeal.main_v13_4) = v4 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v171) = v0 c
          ∧ r.2.mem ((c.tc : Thread Cert.GmlpRefIdeal.nD Cert.GmlpRefIdeal.τ).loc Cert.GmlpRefIdeal.main_v172) = v1 c
          ∧ r.2.mem ((c.tc : Thread Cert.GmlpRefIdeal.nD Cert.GmlpRefIdeal.τ).loc Cert.GmlpRefIdeal.main_v174) = v2 c
          ∧ r.2.mem ((c.tc : Thread Cert.GmlpRefIdeal.nD Cert.GmlpRefIdeal.τ).loc Cert.GmlpRefIdeal.main_v167) = v3 c
          ∧ r.2.mem ((c.tc : Thread Cert.GmlpRefIdeal.nD Cert.GmlpRefIdeal.τ).loc Cert.GmlpRefIdeal.main_v166) = v4 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3)
          ∧ r.2.mem ((c.tc : Thread Cert.GmlpRefIdeal.nD Cert.GmlpRefIdeal.τ).loc Cert.GmlpRefIdeal.main_arg4) = m' ((c.tc : Thread Cert.GmlpRefIdeal.nD Cert.GmlpRefIdeal.τ).loc Cert.GmlpRefIdeal.main_arg4)
          ∧ r.2.mem ((c.tc : Thread Cert.GmlpRefIdeal.nD Cert.GmlpRefIdeal.τ).loc Cert.GmlpRefIdeal.main_arg5) = m' ((c.tc : Thread Cert.GmlpRefIdeal.nD Cert.GmlpRefIdeal.τ).loc Cert.GmlpRefIdeal.main_arg5))

def preserves_Final_FinalIdeal : Prop :=
  True

def algebraic_FinalIdeal_FinalRefIdeal_pre_final_finite [hFinalIdeal : Cert.FinalIdeal.Facts] [hFinalRefIdeal : Cert.FinalRefIdeal.Facts] [hPre_final_finite : Cert.Pre_final_finite.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal_final_finite m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)
      ∧ m' ((c.tc : Thread Cert.FinalRefIdeal.nD Cert.FinalRefIdeal.τ).loc Cert.FinalRefIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v14_0)) (v1 : (c : Dev Cert.FinalIdeal.nD) → Buf (Elt Ideal) ((c.tc : Thread Cert.FinalIdeal.nD Cert.FinalIdeal.τ).loc Cert.FinalIdeal.main_v14_1)) (v2 : (c : Dev Cert.FinalIdeal.nD) → Buf (Elt Ideal) ((c.tc : Thread Cert.FinalIdeal.nD Cert.FinalIdeal.τ).loc Cert.FinalIdeal.main_v14_2)) (v3 : (c : Dev Cert.FinalIdeal.nD) → Buf (Elt Ideal) ((c.tc : Thread Cert.FinalIdeal.nD Cert.FinalIdeal.τ).loc Cert.FinalIdeal.main_v14_3)) (v4 : (c : Dev Cert.FinalIdeal.nD) → Buf (Elt Ideal) ((c.tc : Thread Cert.FinalIdeal.nD Cert.FinalIdeal.τ).loc Cert.FinalIdeal.main_v14_4)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v14_0) = v0 c
          ∧ r.2.mem ((c.tc : Thread Cert.FinalIdeal.nD Cert.FinalIdeal.τ).loc Cert.FinalIdeal.main_v14_1) = v1 c
          ∧ r.2.mem ((c.tc : Thread Cert.FinalIdeal.nD Cert.FinalIdeal.τ).loc Cert.FinalIdeal.main_v14_2) = v2 c
          ∧ r.2.mem ((c.tc : Thread Cert.FinalIdeal.nD Cert.FinalIdeal.τ).loc Cert.FinalIdeal.main_v14_3) = v3 c
          ∧ r.2.mem ((c.tc : Thread Cert.FinalIdeal.nD Cert.FinalIdeal.τ).loc Cert.FinalIdeal.main_v14_4) = v4 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v56) = v0 c
          ∧ r.2.mem ((c.tc : Thread Cert.FinalRefIdeal.nD Cert.FinalRefIdeal.τ).loc Cert.FinalRefIdeal.main_v58) = v1 c
          ∧ r.2.mem ((c.tc : Thread Cert.FinalRefIdeal.nD Cert.FinalRefIdeal.τ).loc Cert.FinalRefIdeal.main_v63) = v2 c
          ∧ r.2.mem ((c.tc : Thread Cert.FinalRefIdeal.nD Cert.FinalRefIdeal.τ).loc Cert.FinalRefIdeal.main_v64) = v3 c
          ∧ r.2.mem ((c.tc : Thread Cert.FinalRefIdeal.nD Cert.FinalRefIdeal.τ).loc Cert.FinalRefIdeal.main_v65) = v4 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3)
          ∧ r.2.mem ((c.tc : Thread Cert.FinalRefIdeal.nD Cert.FinalRefIdeal.τ).loc Cert.FinalRefIdeal.main_arg4) = m' ((c.tc : Thread Cert.FinalRefIdeal.nD Cert.FinalRefIdeal.τ).loc Cert.FinalRefIdeal.main_arg4))

def preserves_DnBack_DnBackIdeal : Prop :=
  True

def preserves_DnPreBack_DnPreBackIdeal : Prop :=
  True

def preserves_InNorm_InNormIdeal : Prop :=
  True

def algebraic_InNormIdeal_InNormRefIdeal_pre_in_norm_finite [hInNormIdeal : Cert.InNormIdeal.Facts] [hInNormRefIdeal : Cert.InNormRefIdeal.Facts] [hPre_in_norm_finite : Cert.Pre_in_norm_finite.Facts] : Prop :=
  ∀ (m : (ℓ : Loc Cert.InNormIdeal.nD Cert.InNormIdeal.τ Cert.InNormIdeal.sig) → Buf (Elt Ideal) ℓ) (g : Dev Cert.InNormIdeal.nD → PrngReg)
    (m' : (ℓ : Loc Cert.InNormRefIdeal.nD Cert.InNormRefIdeal.τ Cert.InNormRefIdeal.sig) → Buf (Elt Ideal) ℓ) (g' : Dev Cert.InNormRefIdeal.nD → PrngReg), Pre_InNormIdeal_in_norm_finite m →
    (∀ c : Dev Cert.InNormIdeal.nD,
      m' ((c.tc : Thread Cert.InNormRefIdeal.nD Cert.InNormRefIdeal.τ).loc Cert.InNormRefIdeal.main_arg0) = m ((c.tc : Thread Cert.InNormIdeal.nD Cert.InNormIdeal.τ).loc Cert.InNormIdeal.main_arg0)
      ∧ m' ((c.tc : Thread Cert.InNormRefIdeal.nD Cert.InNormRefIdeal.τ).loc Cert.InNormRefIdeal.main_arg1) = m ((c.tc : Thread Cert.InNormIdeal.nD Cert.InNormIdeal.τ).loc Cert.InNormIdeal.main_arg1)
      ∧ m' ((c.tc : Thread Cert.InNormRefIdeal.nD Cert.InNormRefIdeal.τ).loc Cert.InNormRefIdeal.main_arg2) = m ((c.tc : Thread Cert.InNormIdeal.nD Cert.InNormIdeal.τ).loc Cert.InNormIdeal.main_arg2)
      ∧ m' ((c.tc : Thread Cert.InNormRefIdeal.nD Cert.InNormRefIdeal.τ).loc Cert.InNormRefIdeal.main_arg3) = m ((c.tc : Thread Cert.InNormIdeal.nD Cert.InNormIdeal.τ).loc Cert.InNormIdeal.main_arg3)
      ∧ m' ((c.tc : Thread Cert.InNormRefIdeal.nD Cert.InNormRefIdeal.τ).loc Cert.InNormRefIdeal.main_arg4) = m ((c.tc : Thread Cert.InNormIdeal.nD Cert.InNormIdeal.τ).loc Cert.InNormIdeal.main_arg4)) →
    ∃ (v0 : (c : Dev Cert.InNormIdeal.nD) → Buf (Elt Ideal) ((c.tc : Thread Cert.InNormIdeal.nD Cert.InNormIdeal.τ).loc Cert.InNormIdeal.main_v18_0)) (v1 : (c : Dev Cert.InNormIdeal.nD) → Buf (Elt Ideal) ((c.tc : Thread Cert.InNormIdeal.nD Cert.InNormIdeal.τ).loc Cert.InNormIdeal.main_v18_1)),
      θ_run (Cert.InNormIdeal.defs (F := Ideal)) (onTc (τ := Cert.InNormIdeal.τ) (Cert.InNormIdeal.main (F := Ideal))) ⟨m, fun _ => 0, g⟩ (fun r => ∀ c : Dev Cert.InNormIdeal.nD,
          r.2.mem ((c.tc : Thread Cert.InNormIdeal.nD Cert.InNormIdeal.τ).loc Cert.InNormIdeal.main_v18_0) = v0 c
          ∧ r.2.mem ((c.tc : Thread Cert.InNormIdeal.nD Cert.InNormIdeal.τ).loc Cert.InNormIdeal.main_v18_1) = v1 c
          ∧ r.2.mem ((c.tc : Thread Cert.InNormIdeal.nD Cert.InNormIdeal.τ).loc Cert.InNormIdeal.main_arg0) = m ((c.tc : Thread Cert.InNormIdeal.nD Cert.InNormIdeal.τ).loc Cert.InNormIdeal.main_arg0)
          ∧ r.2.mem ((c.tc : Thread Cert.InNormIdeal.nD Cert.InNormIdeal.τ).loc Cert.InNormIdeal.main_arg1) = m ((c.tc : Thread Cert.InNormIdeal.nD Cert.InNormIdeal.τ).loc Cert.InNormIdeal.main_arg1)
          ∧ r.2.mem ((c.tc : Thread Cert.InNormIdeal.nD Cert.InNormIdeal.τ).loc Cert.InNormIdeal.main_arg2) = m ((c.tc : Thread Cert.InNormIdeal.nD Cert.InNormIdeal.τ).loc Cert.InNormIdeal.main_arg2)
          ∧ r.2.mem ((c.tc : Thread Cert.InNormIdeal.nD Cert.InNormIdeal.τ).loc Cert.InNormIdeal.main_arg3) = m ((c.tc : Thread Cert.InNormIdeal.nD Cert.InNormIdeal.τ).loc Cert.InNormIdeal.main_arg3)
          ∧ r.2.mem ((c.tc : Thread Cert.InNormIdeal.nD Cert.InNormIdeal.τ).loc Cert.InNormIdeal.main_arg4) = m ((c.tc : Thread Cert.InNormIdeal.nD Cert.InNormIdeal.τ).loc Cert.InNormIdeal.main_arg4))
      ∧ θ_run (Cert.InNormRefIdeal.defs (F := Ideal)) (onTc (τ := Cert.InNormRefIdeal.τ) (Cert.InNormRefIdeal.main (F := Ideal))) ⟨m', fun _ => 0, g'⟩ (fun r => ∀ c : Dev Cert.InNormRefIdeal.nD,
          r.2.mem ((c.tc : Thread Cert.InNormRefIdeal.nD Cert.InNormRefIdeal.τ).loc Cert.InNormRefIdeal.main_v43) = v0 c
          ∧ r.2.mem ((c.tc : Thread Cert.InNormRefIdeal.nD Cert.InNormRefIdeal.τ).loc Cert.InNormRefIdeal.main_v42) = v1 c
          ∧ r.2.mem ((c.tc : Thread Cert.InNormRefIdeal.nD Cert.InNormRefIdeal.τ).loc Cert.InNormRefIdeal.main_arg0) = m' ((c.tc : Thread Cert.InNormRefIdeal.nD Cert.InNormRefIdeal.τ).loc Cert.InNormRefIdeal.main_arg0)
          ∧ r.2.mem ((c.tc : Thread Cert.InNormRefIdeal.nD Cert.InNormRefIdeal.τ).loc Cert.InNormRefIdeal.main_arg1) = m' ((c.tc : Thread Cert.InNormRefIdeal.nD Cert.InNormRefIdeal.τ).loc Cert.InNormRefIdeal.main_arg1)
          ∧ r.2.mem ((c.tc : Thread Cert.InNormRefIdeal.nD Cert.InNormRefIdeal.τ).loc Cert.InNormRefIdeal.main_arg2) = m' ((c.tc : Thread Cert.InNormRefIdeal.nD Cert.InNormRefIdeal.τ).loc Cert.InNormRefIdeal.main_arg2)
          ∧ r.2.mem ((c.tc : Thread Cert.InNormRefIdeal.nD Cert.InNormRefIdeal.τ).loc Cert.InNormRefIdeal.main_arg3) = m' ((c.tc : Thread Cert.InNormRefIdeal.nD Cert.InNormRefIdeal.τ).loc Cert.InNormRefIdeal.main_arg3)
          ∧ r.2.mem ((c.tc : Thread Cert.InNormRefIdeal.nD Cert.InNormRefIdeal.τ).loc Cert.InNormRefIdeal.main_arg4) = m' ((c.tc : Thread Cert.InNormRefIdeal.nD Cert.InNormRefIdeal.τ).loc Cert.InNormRefIdeal.main_arg4))

def preserves_XattnFwd_XattnFwdIdeal : Prop :=
  True

def algebraic_XattnFwdIdeal_XattnFwdRefIdeal [hXattnFwdIdeal : Cert.XattnFwdIdeal.Facts] [hXattnFwdRefIdeal : Cert.XattnFwdRefIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)) →
    ∃ (v0 : (c : Dev Cert.XattnFwdIdeal.nD) → Buf (Elt Ideal) ((c.tc : Thread Cert.XattnFwdIdeal.nD Cert.XattnFwdIdeal.τ).loc Cert.XattnFwdIdeal.main_v6)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v6) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v29) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1))

def preserves_MemKvFwd_MemKvFwdIdeal : Prop :=
  True

def algebraic_MemKvFwdIdeal_MemKvFwdRefIdeal [hMemKvFwdIdeal : Cert.MemKvFwdIdeal.Facts] [hMemKvFwdRefIdeal : Cert.MemKvFwdRefIdeal.Facts] : Prop :=
  ∀ (m : (ℓ : Loc Cert.MemKvFwdIdeal.nD Cert.MemKvFwdIdeal.τ Cert.MemKvFwdIdeal.sig) → Buf (Elt Ideal) ℓ) (g : Dev Cert.MemKvFwdIdeal.nD → PrngReg)
    (m' : (ℓ : Loc Cert.MemKvFwdRefIdeal.nD Cert.MemKvFwdRefIdeal.τ Cert.MemKvFwdRefIdeal.sig) → Buf (Elt Ideal) ℓ) (g' : Dev Cert.MemKvFwdRefIdeal.nD → PrngReg), Pre_MemKvFwdIdeal m →
    (∀ c : Dev Cert.MemKvFwdIdeal.nD,
      m' ((c.tc : Thread Cert.MemKvFwdRefIdeal.nD Cert.MemKvFwdRefIdeal.τ).loc Cert.MemKvFwdRefIdeal.main_arg0) = m ((c.tc : Thread Cert.MemKvFwdIdeal.nD Cert.MemKvFwdIdeal.τ).loc Cert.MemKvFwdIdeal.main_arg0)
      ∧ m' ((c.tc : Thread Cert.MemKvFwdRefIdeal.nD Cert.MemKvFwdRefIdeal.τ).loc Cert.MemKvFwdRefIdeal.main_arg1) = m ((c.tc : Thread Cert.MemKvFwdIdeal.nD Cert.MemKvFwdIdeal.τ).loc Cert.MemKvFwdIdeal.main_arg1)
      ∧ m' ((c.tc : Thread Cert.MemKvFwdRefIdeal.nD Cert.MemKvFwdRefIdeal.τ).loc Cert.MemKvFwdRefIdeal.main_arg2) = m ((c.tc : Thread Cert.MemKvFwdIdeal.nD Cert.MemKvFwdIdeal.τ).loc Cert.MemKvFwdIdeal.main_arg2)) →
    ∃ (v0 : (c : Dev Cert.MemKvFwdIdeal.nD) → Buf (Elt Ideal) ((c.tc : Thread Cert.MemKvFwdIdeal.nD Cert.MemKvFwdIdeal.τ).loc Cert.MemKvFwdIdeal.main_v3)),
      θ_run (Cert.MemKvFwdIdeal.defs (F := Ideal)) (onTc (τ := Cert.MemKvFwdIdeal.τ) (Cert.MemKvFwdIdeal.main (F := Ideal))) ⟨m, fun _ => 0, g⟩ (fun r => ∀ c : Dev Cert.MemKvFwdIdeal.nD,
          r.2.mem ((c.tc : Thread Cert.MemKvFwdIdeal.nD Cert.MemKvFwdIdeal.τ).loc Cert.MemKvFwdIdeal.main_v3) = v0 c
          ∧ r.2.mem ((c.tc : Thread Cert.MemKvFwdIdeal.nD Cert.MemKvFwdIdeal.τ).loc Cert.MemKvFwdIdeal.main_arg0) = m ((c.tc : Thread Cert.MemKvFwdIdeal.nD Cert.MemKvFwdIdeal.τ).loc Cert.MemKvFwdIdeal.main_arg0)
          ∧ r.2.mem ((c.tc : Thread Cert.MemKvFwdIdeal.nD Cert.MemKvFwdIdeal.τ).loc Cert.MemKvFwdIdeal.main_arg1) = m ((c.tc : Thread Cert.MemKvFwdIdeal.nD Cert.MemKvFwdIdeal.τ).loc Cert.MemKvFwdIdeal.main_arg1)
          ∧ r.2.mem ((c.tc : Thread Cert.MemKvFwdIdeal.nD Cert.MemKvFwdIdeal.τ).loc Cert.MemKvFwdIdeal.main_arg2) = m ((c.tc : Thread Cert.MemKvFwdIdeal.nD Cert.MemKvFwdIdeal.τ).loc Cert.MemKvFwdIdeal.main_arg2))
      ∧ θ_run (Cert.MemKvFwdRefIdeal.defs (F := Ideal)) (onTc (τ := Cert.MemKvFwdRefIdeal.τ) (Cert.MemKvFwdRefIdeal.main (F := Ideal))) ⟨m', fun _ => 0, g'⟩ (fun r => ∀ c : Dev Cert.MemKvFwdRefIdeal.nD,
          r.2.mem ((c.tc : Thread Cert.MemKvFwdRefIdeal.nD Cert.MemKvFwdRefIdeal.τ).loc Cert.MemKvFwdRefIdeal.main_v16) = v0 c
          ∧ r.2.mem ((c.tc : Thread Cert.MemKvFwdRefIdeal.nD Cert.MemKvFwdRefIdeal.τ).loc Cert.MemKvFwdRefIdeal.main_arg0) = m' ((c.tc : Thread Cert.MemKvFwdRefIdeal.nD Cert.MemKvFwdRefIdeal.τ).loc Cert.MemKvFwdRefIdeal.main_arg0)
          ∧ r.2.mem ((c.tc : Thread Cert.MemKvFwdRefIdeal.nD Cert.MemKvFwdRefIdeal.τ).loc Cert.MemKvFwdRefIdeal.main_arg1) = m' ((c.tc : Thread Cert.MemKvFwdRefIdeal.nD Cert.MemKvFwdRefIdeal.τ).loc Cert.MemKvFwdRefIdeal.main_arg1)
          ∧ r.2.mem ((c.tc : Thread Cert.MemKvFwdRefIdeal.nD Cert.MemKvFwdRefIdeal.τ).loc Cert.MemKvFwdRefIdeal.main_arg2) = m' ((c.tc : Thread Cert.MemKvFwdRefIdeal.nD Cert.MemKvFwdRefIdeal.τ).loc Cert.MemKvFwdRefIdeal.main_arg2))

def preserves_GmlpFwd_GmlpFwdIdeal : Prop :=
  IdealRules.named_const.Statement Cert.GmlpFwdIdeal.κ "gelu_cubic" .f32 0x3D372713#32 ((8943 / 200000 : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v8)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v8) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v74) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v9_0)) (v1 : (c : Dev Cert.InProjIdeal.nD) → Buf (Elt Ideal) ((c.tc : Thread Cert.InProjIdeal.nD Cert.InProjIdeal.τ).loc Cert.InProjIdeal.main_v9_1)) (v2 : (c : Dev Cert.InProjIdeal.nD) → Buf (Elt Ideal) ((c.tc : Thread Cert.InProjIdeal.nD Cert.InProjIdeal.τ).loc Cert.InProjIdeal.main_v9_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v9_0) = v0 c
          ∧ r.2.mem ((c.tc : Thread Cert.InProjIdeal.nD Cert.InProjIdeal.τ).loc Cert.InProjIdeal.main_v9_1) = v1 c
          ∧ r.2.mem ((c.tc : Thread Cert.InProjIdeal.nD Cert.InProjIdeal.τ).loc Cert.InProjIdeal.main_v9_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v20) = v0 c
          ∧ r.2.mem ((c.tc : Thread Cert.InProjRefIdeal.nD Cert.InProjRefIdeal.τ).loc Cert.InProjRefIdeal.main_v22) = v1 c
          ∧ r.2.mem ((c.tc : Thread Cert.InProjRefIdeal.nD Cert.InProjRefIdeal.τ).loc Cert.InProjRefIdeal.main_v24) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v5)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v5) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v7) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v6)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v6) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v7) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1))

def preserves_DnPre_DnPreIdeal : Prop :=
  True

def algebraic_DnPreIdeal_DnPreRefIdeal [hDnPreIdeal : Cert.DnPreIdeal.Facts] [hDnPreRefIdeal : Cert.DnPreRefIdeal.Facts] : Prop :=
  ∀ (m : (ℓ : Loc Cert.DnPreIdeal.nD Cert.DnPreIdeal.τ Cert.DnPreIdeal.sig) → Buf (Elt Ideal) ℓ) (g : Dev Cert.DnPreIdeal.nD → PrngReg)
    (m' : (ℓ : Loc Cert.DnPreRefIdeal.nD Cert.DnPreRefIdeal.τ Cert.DnPreRefIdeal.sig) → Buf (Elt Ideal) ℓ) (g' : Dev Cert.DnPreRefIdeal.nD → PrngReg), Pre_DnPreIdeal m →
    (∀ c : Dev Cert.DnPreIdeal.nD,
      m' ((c.tc : Thread Cert.DnPreRefIdeal.nD Cert.DnPreRefIdeal.τ).loc Cert.DnPreRefIdeal.main_arg0) = m ((c.tc : Thread Cert.DnPreIdeal.nD Cert.DnPreIdeal.τ).loc Cert.DnPreIdeal.main_arg0)
      ∧ m' ((c.tc : Thread Cert.DnPreRefIdeal.nD Cert.DnPreRefIdeal.τ).loc Cert.DnPreRefIdeal.main_arg1) = m ((c.tc : Thread Cert.DnPreIdeal.nD Cert.DnPreIdeal.τ).loc Cert.DnPreIdeal.main_arg1)
      ∧ m' ((c.tc : Thread Cert.DnPreRefIdeal.nD Cert.DnPreRefIdeal.τ).loc Cert.DnPreRefIdeal.main_arg2) = m ((c.tc : Thread Cert.DnPreIdeal.nD Cert.DnPreIdeal.τ).loc Cert.DnPreIdeal.main_arg2)
      ∧ m' ((c.tc : Thread Cert.DnPreRefIdeal.nD Cert.DnPreRefIdeal.τ).loc Cert.DnPreRefIdeal.main_arg3) = m ((c.tc : Thread Cert.DnPreIdeal.nD Cert.DnPreIdeal.τ).loc Cert.DnPreIdeal.main_arg3)) →
    ∃ (v0 : (c : Dev Cert.DnPreIdeal.nD) → Buf (Elt Ideal) ((c.tc : Thread Cert.DnPreIdeal.nD Cert.DnPreIdeal.τ).loc Cert.DnPreIdeal.main_v11_0)) (v1 : (c : Dev Cert.DnPreIdeal.nD) → Buf (Elt Ideal) ((c.tc : Thread Cert.DnPreIdeal.nD Cert.DnPreIdeal.τ).loc Cert.DnPreIdeal.main_v11_1)) (v2 : (c : Dev Cert.DnPreIdeal.nD) → Buf (Elt Ideal) ((c.tc : Thread Cert.DnPreIdeal.nD Cert.DnPreIdeal.τ).loc Cert.DnPreIdeal.main_v11_2)) (v3 : (c : Dev Cert.DnPreIdeal.nD) → Buf (Elt Ideal) ((c.tc : Thread Cert.DnPreIdeal.nD Cert.DnPreIdeal.τ).loc Cert.DnPreIdeal.main_v11_3)) (v4 : (c : Dev Cert.DnPreIdeal.nD) → Buf (Elt Ideal) ((c.tc : Thread Cert.DnPreIdeal.nD Cert.DnPreIdeal.τ).loc Cert.DnPreIdeal.main_v11_4)) (v5 : (c : Dev Cert.DnPreIdeal.nD) → Buf (Elt Ideal) ((c.tc : Thread Cert.DnPreIdeal.nD Cert.DnPreIdeal.τ).loc Cert.DnPreIdeal.main_v11_5)),
      θ_run (Cert.DnPreIdeal.defs (F := Ideal)) (onTc (τ := Cert.DnPreIdeal.τ) (Cert.DnPreIdeal.main (F := Ideal))) ⟨m, fun _ => 0, g⟩ (fun r => ∀ c : Dev Cert.DnPreIdeal.nD,
          r.2.mem ((c.tc : Thread Cert.DnPreIdeal.nD Cert.DnPreIdeal.τ).loc Cert.DnPreIdeal.main_v11_0) = v0 c
          ∧ r.2.mem ((c.tc : Thread Cert.DnPreIdeal.nD Cert.DnPreIdeal.τ).loc Cert.DnPreIdeal.main_v11_1) = v1 c
          ∧ r.2.mem ((c.tc : Thread Cert.DnPreIdeal.nD Cert.DnPreIdeal.τ).loc Cert.DnPreIdeal.main_v11_2) = v2 c
          ∧ r.2.mem ((c.tc : Thread Cert.DnPreIdeal.nD Cert.DnPreIdeal.τ).loc Cert.DnPreIdeal.main_v11_3) = v3 c
          ∧ r.2.mem ((c.tc : Thread Cert.DnPreIdeal.nD Cert.DnPreIdeal.τ).loc Cert.DnPreIdeal.main_v11_4) = v4 c
          ∧ r.2.mem ((c.tc : Thread Cert.DnPreIdeal.nD Cert.DnPreIdeal.τ).loc Cert.DnPreIdeal.main_v11_5) = v5 c
          ∧ r.2.mem ((c.tc : Thread Cert.DnPreIdeal.nD Cert.DnPreIdeal.τ).loc Cert.DnPreIdeal.main_arg0) = m ((c.tc : Thread Cert.DnPreIdeal.nD Cert.DnPreIdeal.τ).loc Cert.DnPreIdeal.main_arg0)
          ∧ r.2.mem ((c.tc : Thread Cert.DnPreIdeal.nD Cert.DnPreIdeal.τ).loc Cert.DnPreIdeal.main_arg1) = m ((c.tc : Thread Cert.DnPreIdeal.nD Cert.DnPreIdeal.τ).loc Cert.DnPreIdeal.main_arg1)
          ∧ r.2.mem ((c.tc : Thread Cert.DnPreIdeal.nD Cert.DnPreIdeal.τ).loc Cert.DnPreIdeal.main_arg2) = m ((c.tc : Thread Cert.DnPreIdeal.nD Cert.DnPreIdeal.τ).loc Cert.DnPreIdeal.main_arg2)
          ∧ r.2.mem ((c.tc : Thread Cert.DnPreIdeal.nD Cert.DnPreIdeal.τ).loc Cert.DnPreIdeal.main_arg3) = m ((c.tc : Thread Cert.DnPreIdeal.nD Cert.DnPreIdeal.τ).loc Cert.DnPreIdeal.main_arg3))
      ∧ θ_run (Cert.DnPreRefIdeal.defs (F := Ideal)) (onTc (τ := Cert.DnPreRefIdeal.τ) (Cert.DnPreRefIdeal.main (F := Ideal))) ⟨m', fun _ => 0, g'⟩ (fun r => ∀ c : Dev Cert.DnPreRefIdeal.nD,
          r.2.mem ((c.tc : Thread Cert.DnPreRefIdeal.nD Cert.DnPreRefIdeal.τ).loc Cert.DnPreRefIdeal.main_v80) = v0 c
          ∧ r.2.mem ((c.tc : Thread Cert.DnPreRefIdeal.nD Cert.DnPreRefIdeal.τ).loc Cert.DnPreRefIdeal.main_v81) = v1 c
          ∧ r.2.mem ((c.tc : Thread Cert.DnPreRefIdeal.nD Cert.DnPreRefIdeal.τ).loc Cert.DnPreRefIdeal.main_v38) = v2 c
          ∧ r.2.mem ((c.tc : Thread Cert.DnPreRefIdeal.nD Cert.DnPreRefIdeal.τ).loc Cert.DnPreRefIdeal.main_v82) = v3 c
          ∧ r.2.mem ((c.tc : Thread Cert.DnPreRefIdeal.nD Cert.DnPreRefIdeal.τ).loc Cert.DnPreRefIdeal.main_v84) = v4 c
          ∧ r.2.mem ((c.tc : Thread Cert.DnPreRefIdeal.nD Cert.DnPreRefIdeal.τ).loc Cert.DnPreRefIdeal.main_v34) = v5 c
          ∧ r.2.mem ((c.tc : Thread Cert.DnPreRefIdeal.nD Cert.DnPreRefIdeal.τ).loc Cert.DnPreRefIdeal.main_arg0) = m' ((c.tc : Thread Cert.DnPreRefIdeal.nD Cert.DnPreRefIdeal.τ).loc Cert.DnPreRefIdeal.main_arg0)
          ∧ r.2.mem ((c.tc : Thread Cert.DnPreRefIdeal.nD Cert.DnPreRefIdeal.τ).loc Cert.DnPreRefIdeal.main_arg1) = m' ((c.tc : Thread Cert.DnPreRefIdeal.nD Cert.DnPreRefIdeal.τ).loc Cert.DnPreRefIdeal.main_arg1)
          ∧ r.2.mem ((c.tc : Thread Cert.DnPreRefIdeal.nD Cert.DnPreRefIdeal.τ).loc Cert.DnPreRefIdeal.main_arg2) = m' ((c.tc : Thread Cert.DnPreRefIdeal.nD Cert.DnPreRefIdeal.τ).loc Cert.DnPreRefIdeal.main_arg2)
          ∧ r.2.mem ((c.tc : Thread Cert.DnPreRefIdeal.nD Cert.DnPreRefIdeal.τ).loc Cert.DnPreRefIdeal.main_arg3) = m' ((c.tc : Thread Cert.DnPreRefIdeal.nD Cert.DnPreRefIdeal.τ).loc Cert.DnPreRefIdeal.main_arg3))

def Claim : Prop :=
  ∃ (hMemKv : Cert.MemKv.Facts) (hMemKvIdeal : Cert.MemKvIdeal.Facts) (hMemKvRefIdeal : Cert.MemKvRefIdeal.Facts) (hXattn : Cert.Xattn.Facts) (hXattnIdeal : Cert.XattnIdeal.Facts) (hXattnRefIdeal : Cert.XattnRefIdeal.Facts) (hGmlp : Cert.Gmlp.Facts) (hGmlpIdeal : Cert.GmlpIdeal.Facts) (hGmlpRefIdeal : Cert.GmlpRefIdeal.Facts) (hFinal : Cert.Final.Facts) (hFinalIdeal : Cert.FinalIdeal.Facts) (hFinalRefIdeal : Cert.FinalRefIdeal.Facts) (hDnBack : Cert.DnBack.Facts) (hDnBackIdeal : Cert.DnBackIdeal.Facts) (hDnPreBack : Cert.DnPreBack.Facts) (hDnPreBackIdeal : Cert.DnPreBackIdeal.Facts) (hInNorm : Cert.InNorm.Facts) (hInNormIdeal : Cert.InNormIdeal.Facts) (hInNormRefIdeal : Cert.InNormRefIdeal.Facts) (hXattnFwd : Cert.XattnFwd.Facts) (hXattnFwdIdeal : Cert.XattnFwdIdeal.Facts) (hXattnFwdRefIdeal : Cert.XattnFwdRefIdeal.Facts) (hMemKvFwd : Cert.MemKvFwd.Facts) (hMemKvFwdIdeal : Cert.MemKvFwdIdeal.Facts) (hMemKvFwdRefIdeal : Cert.MemKvFwdRefIdeal.Facts) (hGmlpFwd : Cert.GmlpFwd.Facts) (hGmlpFwdIdeal : Cert.GmlpFwdIdeal.Facts) (hGmlpFwdRefIdeal : Cert.GmlpFwdRefIdeal.Facts) (hAdam : Cert.Adam.Facts) (hAdamIdeal : Cert.AdamIdeal.Facts) (hAdamRefIdeal : Cert.AdamRefIdeal.Facts) (hInProj : Cert.InProj.Facts) (hInProjIdeal : Cert.InProjIdeal.Facts) (hInProjRefIdeal : Cert.InProjRefIdeal.Facts) (hOutWeight : Cert.OutWeight.Facts) (hOutWeightIdeal : Cert.OutWeightIdeal.Facts) (hOutWeightRefIdeal : Cert.OutWeightRefIdeal.Facts) (hInWeight : Cert.InWeight.Facts) (hInWeightIdeal : Cert.InWeightIdeal.Facts) (hInWeightRefIdeal : Cert.InWeightRefIdeal.Facts) (hDnPre : Cert.DnPre.Facts) (hDnPreIdeal : Cert.DnPreIdeal.Facts) (hDnPreRefIdeal : Cert.DnPreRefIdeal.Facts) (hPre_xattn_finite : Cert.Pre_xattn_finite.Facts) (hPre_gmlp_finite : Cert.Pre_gmlp_finite.Facts) (hPre_final_finite : Cert.Pre_final_finite.Facts) (hPre_in_norm_finite : Cert.Pre_in_norm_finite.Facts),
    quiescent_MemKv (hMemKv := hMemKv)
    ∧ quiescent_MemKvIdeal (hMemKvIdeal := hMemKvIdeal)
    ∧ quiescent_MemKvRefIdeal (hMemKvRefIdeal := hMemKvRefIdeal)
    ∧ quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_Gmlp (hGmlp := hGmlp)
    ∧ quiescent_GmlpIdeal (hGmlpIdeal := hGmlpIdeal)
    ∧ quiescent_GmlpIdeal_pre_gmlp_finite (hGmlpIdeal := hGmlpIdeal) (hPre_gmlp_finite := hPre_gmlp_finite)
    ∧ quiescent_GmlpRefIdeal (hGmlpRefIdeal := hGmlpRefIdeal)
    ∧ quiescent_GmlpRefIdeal_pre_gmlp_finite (hGmlpRefIdeal := hGmlpRefIdeal) (hPre_gmlp_finite := hPre_gmlp_finite)
    ∧ quiescent_Final (hFinal := hFinal)
    ∧ quiescent_FinalIdeal (hFinalIdeal := hFinalIdeal)
    ∧ quiescent_FinalIdeal_pre_final_finite (hFinalIdeal := hFinalIdeal) (hPre_final_finite := hPre_final_finite)
    ∧ quiescent_FinalRefIdeal (hFinalRefIdeal := hFinalRefIdeal)
    ∧ quiescent_FinalRefIdeal_pre_final_finite (hFinalRefIdeal := hFinalRefIdeal) (hPre_final_finite := hPre_final_finite)
    ∧ quiescent_DnBack (hDnBack := hDnBack)
    ∧ quiescent_DnBackIdeal (hDnBackIdeal := hDnBackIdeal)
    ∧ quiescent_DnPreBack (hDnPreBack := hDnPreBack)
    ∧ quiescent_DnPreBackIdeal (hDnPreBackIdeal := hDnPreBackIdeal)
    ∧ quiescent_InNorm (hInNorm := hInNorm)
    ∧ quiescent_InNormIdeal (hInNormIdeal := hInNormIdeal)
    ∧ quiescent_InNormIdeal_pre_in_norm_finite (hInNormIdeal := hInNormIdeal) (hPre_in_norm_finite := hPre_in_norm_finite)
    ∧ quiescent_InNormRefIdeal (hInNormRefIdeal := hInNormRefIdeal)
    ∧ quiescent_InNormRefIdeal_pre_in_norm_finite (hInNormRefIdeal := hInNormRefIdeal) (hPre_in_norm_finite := hPre_in_norm_finite)
    ∧ quiescent_XattnFwd (hXattnFwd := hXattnFwd)
    ∧ quiescent_XattnFwdIdeal (hXattnFwdIdeal := hXattnFwdIdeal)
    ∧ quiescent_XattnFwdRefIdeal (hXattnFwdRefIdeal := hXattnFwdRefIdeal)
    ∧ quiescent_MemKvFwd (hMemKvFwd := hMemKvFwd)
    ∧ quiescent_MemKvFwdIdeal (hMemKvFwdIdeal := hMemKvFwdIdeal)
    ∧ quiescent_MemKvFwdRefIdeal (hMemKvFwdRefIdeal := hMemKvFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_DnPre (hDnPre := hDnPre)
    ∧ quiescent_DnPreIdeal (hDnPreIdeal := hDnPreIdeal)
    ∧ quiescent_DnPreRefIdeal (hDnPreRefIdeal := hDnPreRefIdeal)
    ∧ preserves_MemKv_MemKvIdeal
    ∧ algebraic_MemKvIdeal_MemKvRefIdeal (hMemKvIdeal := hMemKvIdeal) (hMemKvRefIdeal := hMemKvRefIdeal)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_Gmlp_GmlpIdeal
    ∧ algebraic_GmlpIdeal_GmlpRefIdeal_pre_gmlp_finite (hGmlpIdeal := hGmlpIdeal) (hGmlpRefIdeal := hGmlpRefIdeal) (hPre_gmlp_finite := hPre_gmlp_finite)
    ∧ preserves_Final_FinalIdeal
    ∧ algebraic_FinalIdeal_FinalRefIdeal_pre_final_finite (hFinalIdeal := hFinalIdeal) (hFinalRefIdeal := hFinalRefIdeal) (hPre_final_finite := hPre_final_finite)
    ∧ preserves_DnBack_DnBackIdeal
    ∧ preserves_DnPreBack_DnPreBackIdeal
    ∧ preserves_InNorm_InNormIdeal
    ∧ algebraic_InNormIdeal_InNormRefIdeal_pre_in_norm_finite (hInNormIdeal := hInNormIdeal) (hInNormRefIdeal := hInNormRefIdeal) (hPre_in_norm_finite := hPre_in_norm_finite)
    ∧ preserves_XattnFwd_XattnFwdIdeal
    ∧ algebraic_XattnFwdIdeal_XattnFwdRefIdeal (hXattnFwdIdeal := hXattnFwdIdeal) (hXattnFwdRefIdeal := hXattnFwdRefIdeal)
    ∧ preserves_MemKvFwd_MemKvFwdIdeal
    ∧ algebraic_MemKvFwdIdeal_MemKvFwdRefIdeal (hMemKvFwdIdeal := hMemKvFwdIdeal) (hMemKvFwdRefIdeal := hMemKvFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_Adam_AdamIdeal
    ∧ algebraic_AdamIdeal_AdamRefIdeal (hAdamIdeal := hAdamIdeal) (hAdamRefIdeal := hAdamRefIdeal)
    ∧ preserves_InProj_InProjIdeal
    ∧ algebraic_InProjIdeal_InProjRefIdeal (hInProjIdeal := hInProjIdeal) (hInProjRefIdeal := hInProjRefIdeal)
    ∧ preserves_OutWeight_OutWeightIdeal
    ∧ algebraic_OutWeightIdeal_OutWeightRefIdeal (hOutWeightIdeal := hOutWeightIdeal) (hOutWeightRefIdeal := hOutWeightRefIdeal)
    ∧ preserves_InWeight_InWeightIdeal
    ∧ algebraic_InWeightIdeal_InWeightRefIdeal (hInWeightIdeal := hInWeightIdeal) (hInWeightRefIdeal := hInWeightRefIdeal)
    ∧ preserves_DnPre_DnPreIdeal
    ∧ algebraic_DnPreIdeal_DnPreRefIdeal (hDnPreIdeal := hDnPreIdeal) (hDnPreRefIdeal := hDnPreRefIdeal)
-- ==== Pre_final_finite.lean ====
abbrev S1x8192x2048 : Shape := ⟨3, ![1, 8192, 2048]⟩
abbrev S1x2048x2048 : Shape := ⟨3, ![1, 2048, 2048]⟩
abbrev S2048 : Shape := ⟨1, ![2048]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1x8192x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S1x8192x2048 .f32 := Host.absf main_arg4
  let main_cst_6 : FVec F S_ .f32 := constant S_ .f32 0x7F800000#32
  let main_v20 : FVec F S1x8192x2048 .f32 := broadcastInDim S1x8192x2048 ![] bcast_S_S1x8192x2048 main_cst_6
  let main_v21 : IVec S1x8192x2048 1 := cmpf .olt main_v19 main_v20
  let main_c_7 : IVec S_ 1 := constantI S_ 1 1#1
  let main_v22 : IVec S_ 1 := (fun x v => Host.reduce IntOp.andi x v reducesTo_S1x8192x2048_S_d0_1_2 h_S_) main_v21 main_c_7
  let main_v23 : IVec S_ 1 := andi main_v18 main_v22
  main_v23

def fn {F : FTy → Type} [FloatOps F] (main_arg0 : FVec F S1x8192x2048 .f32) (main_arg1 : FVec F S1x8192x2048 .f32) (main_arg2 : FVec F S1x2048x2048 .f32) (main_arg3 : FVec F S2048 .f32) (main_arg4 : FVec F S1x8192x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  let main_v4 : FVec F S1x8192x2048 .f32 := Host.absf main_arg1
  let main_cst_0 : FVec F S_ .f32 := constant S_ .f32 0x7F800000#32
  let main_v5 : FVec F S1x8192x2048 .f32 := broadcastInDim S1x8192x2048 ![] bcast_S_S1x8192x2048 main_cst_0
  let main_v6 : IVec S1x8192x2048 1 := cmpf .olt main_v4 main_v5
  let main_c_1 : IVec S_ 1 := constantI S_ 1 1#1
  let main_v7 : IVec S_ 1 := (fun x v => Host.reduce IntOp.andi x v reducesTo_S1x8192x2048_S_d0_1_2 h_S_) main_v6 main_c_1
  let main_v8 : IVec S_ 1 := andi main_v3 main_v7
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Pre_gmlp_finite.lean ====
abbrev S1x8192x6672 : Shape := ⟨3, ![1, 8192, 6672]⟩
abbrev S1x8192x2048 : Shape := ⟨3, ![1, 8192, 2048]⟩
abbrev S1x512 : Shape := ⟨2, ![1, 512]⟩
abbrev S1x4x128x128 : Shape := ⟨4, ![1, 4, 128, 128]⟩
abbrev S1x4x128 : Shape := ⟨3, ![1, 4, 128]⟩
abbrev S1x8192x1536 : Shape := ⟨3, ![1, 8192, 1536]⟩
abbrev S_ : Shape := ⟨0, ![]⟩
abbrev S1x8192x512 : Shape := ⟨3, ![1, 8192, 512]⟩

class Facts : Prop where
  slices_S1x8192x6672_S1x8192x1536_0_0_0 : S1x8192x6672.Slices ![0, 0, 0] S1x8192x1536
  bcast_S_S1x8192x1536 : S_.BroadcastsInDim S1x8192x1536 (![] : Fin 0 → Fin S1x8192x1536.rank)
  reducesTo_S1x8192x1536_S_d0_1_2 : S1x8192x1536.ReducesTo [0, 1, 2] S_
  h_S_ : 0 < S_.numel
  slices_S1x8192x2048_S1x8192x512_0_0_0 : S1x8192x2048.Slices ![0, 0, 0] S1x8192x512
  bcast_S_S1x8192x512 : S_.BroadcastsInDim S1x8192x512 (![] : Fin 0 → Fin S1x8192x512.rank)
  reducesTo_S1x8192x512_S_d0_1_2 : S1x8192x512.ReducesTo [0, 1, 2] S_
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_arg4 : FVec F S1x4x128x128 .f32) (main_arg5 : FVec F S1x4x128 .f32) (main_v15 : IVec S_ 1) (main_v16 : FVec F S1x512 .f32) (main_cst_4 : FVec F S_ .f32) : IVec S_ 1 :=
  let main_v17 : FVec F S1x512 .f32 := broadcastInDim S1x512 ![] bcast_S_S1x512 main_cst_4
  let main_v18 : IVec S1x512 1 := cmpf .olt main_v16 main_v17
  let main_c_5 : IVec S_ 1 := constantI S_ 1 1#1
  let main_v19 : IVec S_ 1 := (fun x v => Host.reduce IntOp.andi x v reducesTo_S1x512_S_d0_1 h_S_) main_v18 main_c_5
  let main_v20 : IVec S_ 1 := andi main_v15 main_v19
  let main_v21 : FVec F S1x4x128x128 .f32 := Host.absf main_arg4
  let main_cst_6 : FVec F S_ .f32 := constant S_ .f32 0x7F800000#32
  let main_v22 : FVec F S1x4x128x128 .f32 := broadcastInDim S1x4x128x128 ![] bcast_S_S1x4x128x128 main_cst_6
  let main_v23 : IVec S1x4x128x128 1 := cmpf .olt main_v21 main_v22
  let main_c_7 : IVec S_ 1 := constantI S_ 1 1#1
  let main_v24 : IVec S_ 1 := (fun x v => Host.reduce IntOp.andi x v reducesTo_S1x4x128x128_S_d0_1_2_3 h_S_) main_v23 main_c_7
  let main_v25 : IVec S_ 1 := andi main_v20 main_v24
  let main_v26 : FVec F S1x4x128 .f32 := Host.absf main_arg5
  let main_cst_8 : FVec F S_ .f32 := constant S_ .f32 0x7F800000#32
  let main_v27 : FVec F S1x4x128 .f32 := broadcastInDim S1x4x128 ![] bcast_S_S1x4x128 main_cst_8
  let main_v28 : IVec S1x4x128 1 := cmpf .olt main_v26 main_v27
  let main_c_9 : IVec S_ 1 := constantI S_ 1 1#1
  let main_v29 : IVec S_ 1 := (fun x v => Host.reduce IntOp.andi x v reducesTo_S1x4x128_S_d0_1_2 h_S_) main_v28 main_c_9
  let main_v30 : IVec S_ 1 := andi main_v25 main_v29
  main_v30

def fn {F : FTy → Type} [FloatOps F] (main_arg0 : FVec F S1x8192x6672 .f32) (main_arg1 : FVec F S1x8192x2048 .f32) (main_arg2 : FVec F S1x512 .f32) (main_arg3 : FVec F S1x512 .f32) (main_arg4 : FVec F S1x4x128x128 .f32) (main_arg5 : FVec F S1x4x128 .f32) : IVec S_ 1 :=
  let main_v0 : FVec F S1x8192x1536 .f32 := (extractStridedSlice S1x8192x1536 ![0, 0, 0] · slices_S1x8192x6672_S1x8192x1536_0_0_0) main_arg0
  let main_v1 : FVec F S1x8192x1536 .f32 := Host.absf main_v0
  let main_cst : FVec F S_ .f32 := constant S_ .f32 0x7F800000#32
  let main_v2 : FVec F S1x8192x1536 .f32 := broadcastInDim S1x8192x1536 ![] bcast_S_S1x8192x1536 main_cst
  let main_v3 : IVec S1x8192x1536 1 := cmpf .olt main_v1 main_v2
  let main_c : IVec S_ 1 := constantI S_ 1 1#1
  let main_v4 : IVec S_ 1 := (fun x v => Host.reduce IntOp.andi x v reducesTo_S1x8192x1536_S_d0_1_2 h_S_) main_v3 main_c
  let main_v5 : FVec F S1x8192x512 .f32 := (extractStridedSlice S1x8192x512 ![0, 0, 0] · slices_S1x8192x2048_S1x8192x512_0_0_0) main_arg1
  let main_v6 : FVec F S1x8192x512 .f32 := Host.absf main_v5
  let main_cst_0 : FVec F S_ .f32 := constant S_ .f32 0x7F800000#32
  let main_v7 : FVec F S1x8192x512 .f32 := broadcastInDim S1x8192x512 ![] bcast_S_S1x8192x512 main_cst_0
  let main_v8 : IVec S1x8192x512 1 := cmpf .olt main_v6 main_v7
  let main_c_1 : IVec S_ 1 := constantI S_ 1 1#1
  let main_v9 : IVec S_ 1 := (fun x v => Host.reduce IntOp.andi x v reducesTo_S1x8192x512_S_d0_1_2 h_S_) main_v8 main_c_1
  let main_v10 : IVec S_ 1 := andi main_v4 main_v9
  let main_v11 : FVec F S1x512 .f32 := Host.absf main_arg2
  let main_cst_2 : FVec F S_ .f32 := constant S_ .f32 0x7F800000#32
  let main_v12 : FVec F S1x512 .f32 := broadcastInDim S1x512 ![] bcast_S_S1x512 main_cst_2
  let main_v13 : IVec S1x512 1 := cmpf .olt main_v11 main_v12
  let main_c_3 : IVec S_ 1 := constantI S_ 1 1#1
  let main_v14 : IVec S_ 1 := (fun x v => Host.reduce IntOp.andi x v reducesTo_S1x512_S_d0_1 h_S_) main_v13 main_c_3
  let main_v15 : IVec S_ 1 := andi main_v10 main_v14
  let main_v16 : FVec F S1x512 .f32 := Host.absf main_arg3
  let main_cst_4 : FVec F S_ .f32 := constant S_ .f32 0x7F800000#32
  fn_part1 (F := F) main_arg4 main_arg5 main_v15 main_v16 main_cst_4
-- ==== Pre_in_norm_finite.lean ====
abbrev S1x8192x2048 : Shape := ⟨3, ![1, 8192, 2048]⟩
abbrev S1x2048 : Shape := ⟨2, ![1, 2048]⟩
abbrev S1x2048x6672 : Shape := ⟨3, ![1, 2048, 6672]⟩
abbrev S1x8192x6672 : Shape := ⟨3, ![1, 8192, 6672]⟩
abbrev S_ : Shape := ⟨0, ![]⟩

class Facts : Prop where
  bcast_S_S1x8192x2048 : S_.BroadcastsInDim S1x8192x2048 (![] : Fin 0 → Fin S1x8192x2048.rank)
  reducesTo_S1x8192x2048_S_d0_1_2 : S1x8192x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1x2048x6672 : S_.BroadcastsInDim S1x2048x6672 (![] : Fin 0 → Fin S1x2048x6672.rank)
  reducesTo_S1x2048x6672_S_d0_1_2 : S1x2048x6672.ReducesTo [0, 1, 2] S_
  bcast_S_S1x8192x6672 : S_.BroadcastsInDim S1x8192x6672 (![] : Fin 0 → Fin S1x8192x6672.rank)
  reducesTo_S1x8192x6672_S_d0_1_2 : S1x8192x6672.ReducesTo [0, 1, 2] S_

variable [Facts]

def fn_part1 {F : FTy → Type} [FloatOps F] (main_v13 : IVec S_ 1) (main_v16 : IVec S1x8192x6672 1) : IVec S_ 1 :=
  let main_c_5 : IVec S_ 1 := constantI S_ 1 1#1
  let main_v17 : IVec S_ 1 := (fun x v => Host.reduce IntOp.andi x v reducesTo_S1x8192x6672_S_d0_1_2 h_S_) main_v16 main_c_5
  let main_v18 : IVec S_ 1 := andi main_v13 main_v17
  main_v18

def fn {F : FTy → Type} [FloatOps F] (main_arg0 : FVec F S1x8192x2048 .f32) (main_arg1 : FVec F S1x2048 .f32) (main_arg2 : FVec F S1x2048x6672 .f32) (main_arg3 : FVec F S1x8192x6672 .f32) (main_arg4 : FVec F S1x8192x2048 .f32) : IVec S_ 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_c : IVec S_ 1 := constantI S_ 1 1#1
  let main_v3 : IVec S_ 1 := (fun x v => Host.reduce IntOp.andi x v reducesTo_S1x8192x2048_S_d0_1_2 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1x2048x6672 .f32 := Host.absf main_arg2
  let main_cst_2 : FVec F S_ .f32 := constant S_ .f32 0x7F800000#32
  let main_v10 : FVec F S1x2048x6672 .f32 := broadcastInDim S1x2048x6672 ![] bcast_S_S1x2048x6672 main_cst_2
  let main_v11 : IVec S1x2048x6672 1 := cmpf .olt main_v9 main_v10
  let main_c_3 : IVec S_ 1 := constantI S_ 1 1#1
  let main_v12 : IVec S_ 1 := (fun x v => Host.reduce IntOp.andi x v reducesTo_S1x2048x6672_S_d0_1_2 h_S_) main_v11 main_c_3
  let main_v13 : IVec S_ 1 := andi main_v8 main_v12
  let main_v14 : FVec F S1x8192x6672 .f32 := Host.absf main_arg3
  let main_cst_4 : FVec F S_ .f32 := constant S_ .f32 0x7F800000#32
  let main_v15 : FVec F S1x8192x6672 .f32 := broadcastInDim S1x8192x6672 ![] bcast_S_S1x8192x6672 main_cst_4
  let main_v16 : IVec S1x8192x6672 1 := cmpf .olt main_v14 main_v15
  fn_part1 (F := F) main_v13 main_v16
-- ==== Pre_xattn_finite.lean ====
abbrev S1x8192x6672 : Shape := ⟨3, ![1, 8192, 6672]⟩
abbrev S1x256x1024 : Shape := ⟨3, ![1, 256, 1024]⟩
abbrev S1x8192x2048 : Shape := ⟨3, ![1, 8192, 2048]⟩
abbrev S1x8192x1024 : Shape := ⟨3, ![1, 8192, 1024]⟩
abbrev S_ : Shape := ⟨0, ![]⟩
abbrev S1x8192x512 : Shape := ⟨3, ![1, 8192, 512]⟩

class Facts : Prop where
  slices_S1x8192x6672_S1x8192x1024_0_0_5648 : S1x8192x6672.Slices ![0, 0, 5648] S1x8192x1024
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x256x1024 : S_.BroadcastsInDim S1x256x1024 (![] : Fin 0 → Fin S1x256x1024.rank)
  reducesTo_S1x256x1024_S_d0_1_2 : S1x256x1024.ReducesTo [0, 1, 2] S_
  slices_S1x8192x2048_S1x8192x512_0_0_1536 : S1x8192x2048.Slices ![0, 0, 1536] S1x8192x512
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn {F : FTy → Type} [FloatOps F] (main_arg0 : FVec F S1x8192x6672 .f32) (main_arg1 : FVec F S1x256x1024 .f32) (main_arg2 : FVec F S1x8192x2048 .f32) : IVec S_ 1 :=
  let main_v0 : FVec F S1x8192x1024 .f32 := (extractStridedSlice S1x8192x1024 ![0, 0, 5648] · slices_S1x8192x6672_S1x8192x1024_0_0_5648) main_arg0
  let main_v1 : FVec F S1x8192x1024 .f32 := Host.absf main_v0
  let main_cst : FVec F S_ .f32 := constant S_ .f32 0x7F800000#32
  let main_v2 : FVec F S1x8192x1024 .f32 := broadcastInDim S1x8192x1024 ![] bcast_S_S1x8192x1024 main_cst
  let main_v3 : IVec S1x8192x1024 1 := cmpf .olt main_v1 main_v2
  let main_c : IVec S_ 1 := constantI S_ 1 1#1
  let main_v4 : IVec S_ 1 := (fun x v => Host.reduce IntOp.andi x v reducesTo_S1x8192x1024_S_d0_1_2 h_S_) main_v3 main_c
  let main_v5 : FVec F S1x256x1024 .f32 := Host.absf main_arg1
  let main_cst_0 : FVec F S_ .f32 := constant S_ .f32 0x7F800000#32
  let main_v6 : FVec F S1x256x1024 .f32 := broadcastInDim S1x256x1024 ![] bcast_S_S1x256x1024 main_cst_0
  let main_v7 : IVec S1x256x1024 1 := cmpf .olt main_v5 main_v6
  let main_c_1 : IVec S_ 1 := constantI S_ 1 1#1
  let main_v8 : IVec S_ 1 := (fun x v => Host.reduce IntOp.andi x v reducesTo_S1x256x1024_S_d0_1_2 h_S_) main_v7 main_c_1
  let main_v9 : IVec S_ 1 := andi main_v4 main_v8
  let main_v10 : FVec F S1x8192x512 .f32 := (extractStridedSlice S1x8192x512 ![0, 0, 1536] · slices_S1x8192x2048_S1x8192x512_0_0_1536) main_arg2
  let main_v11 : FVec F S1x8192x512 .f32 := Host.absf main_v10
  let main_cst_2 : FVec F S_ .f32 := constant S_ .f32 0x7F800000#32
  let main_v12 : FVec F S1x8192x512 .f32 := broadcastInDim S1x8192x512 ![] bcast_S_S1x8192x512 main_cst_2
  let main_v13 : IVec S1x8192x512 1 := cmpf .olt main_v11 main_v12
  let main_c_3 : IVec S_ 1 := constantI S_ 1 1#1
  let main_v14 : IVec S_ 1 := (fun x v => Host.reduce IntOp.andi x v reducesTo_S1x8192x512_S_d0_1_2 h_S_) main_v13 main_c_3
  let main_v15 : IVec S_ 1 := andi main_v9 main_v14
  main_v15
-- ==== MemKv.lean ====
abbrev S1x256x2048 : Shape := ⟨3, ![1, 256, 2048]⟩
abbrev S1x2048 : Shape := ⟨2, ![1, 2048]⟩
abbrev S1x2048x1024 : Shape := ⟨3, ![1, 2048, 1024]⟩
abbrev S1x256x1024 : Shape := ⟨3, ![1, 256, 1024]⟩
abbrev S256x2048 : Shape := ⟨2, ![256, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩
abbrev S2048 : Shape := ⟨1, ![2048]⟩

abbrev nBuf : Space → Nat
  | .hbm => 10
  | .vmem => 6
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x1024, .f32⟩
  | .hbm, ⟨3, _⟩ => ⟨S1x256x1024, .f32⟩
  | .hbm, ⟨4, _⟩ => ⟨S256x2048, .f32⟩
  | .hbm, ⟨5, _⟩ => ⟨S2048x1024, .f32⟩
  | .hbm, ⟨6, _⟩ => ⟨S2048x1024, .bf16⟩
  | .hbm, ⟨7, _⟩ => ⟨S256x1024, .f32⟩
  | .hbm, ⟨8, _⟩ => ⟨S2048x1024, .f32⟩
  | .hbm, ⟨9, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S256x1024, .f32⟩
  | .local _ .vmem, ⟨4, _⟩ => ⟨S2048x1024, .f32⟩
  | .local _ .vmem, ⟨5, _⟩ => ⟨S1x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemKvRefIdeal.lean ====
abbrev S1x256x2048 : Shape := ⟨3, ![1, 256, 2048]⟩
abbrev S1x2048 : Shape := ⟨2, ![1, 2048]⟩
abbrev S1x2048x1024 : Shape := ⟨3, ![1, 2048, 1024]⟩
abbrev S1x256x1024 : Shape := ⟨3, ![1, 256, 1024]⟩
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 37
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x1024, .f32⟩
  | .hbm, ⟨3, _⟩ => ⟨S1x256x1024, .f32⟩
  | .hbm, ⟨4, _⟩ => ⟨S256x2048, .f32⟩
  | .hbm, ⟨5, _⟩ => ⟨S2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S1x2048, .f32⟩
  | .hbm, ⟨20, _⟩ => ⟨S256x2048, .f32⟩
  | .hbm, ⟨21, _⟩ => ⟨S256x2048, .f32⟩
  | .hbm, ⟨22, _⟩ => ⟨S2048x1024, .f32⟩
  | .hbm, ⟨23, _⟩ => ⟨S256x1024, .f32⟩
  | .hbm, ⟨24, _⟩ => ⟨S256x1024, .f32⟩
  | .hbm, ⟨25, _⟩ => ⟨S1024x2048, .f32⟩
  | .hbm, ⟨26, _⟩ => ⟨S2048x1024, .f32⟩
  | .hbm, ⟨27, _⟩ => ⟨S256x2048, .f32⟩
  | .hbm, ⟨28, _⟩ => ⟨S1x2048x1024, .f32⟩
  | .hbm, ⟨29, _⟩ => ⟨S256x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x1024, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Xattn.lean ====
abbrev S1x8192x6672 : Shape := ⟨3, ![1, 8192, 6672]⟩
abbrev S1x256x1024 : Shape := ⟨3, ![1, 256, 1024]⟩
abbrev S1x8192x2048 : Shape := ⟨3, ![1, 8192, 2048]⟩
abbrev S8192x6672 : Shape := ⟨2, ![8192, 6672]⟩
abbrev S8192x4096 : Shape := ⟨2, ![8192, 4096]⟩
abbrev S8192x1536 : Shape := ⟨2, ![8192, 1536]⟩
abbrev S8192x1024 : Shape := ⟨2, ![8192, 1024]⟩
abbrev S8192x6656 : Shape := ⟨2, ![8192, 6656]⟩
abbrev S8192x2048 : Shape := ⟨2, ![8192, 2048]⟩
abbrev S8192x512 : Shape := ⟨2, ![8192, 512]⟩
abbrev S256x1024 : Shape := ⟨2, ![256, 1024]⟩
abbrev S512x512 : Shape := ⟨2, ![512, 512]⟩
abbrev S512x1024 : Shape := ⟨2, ![512, 1024]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 16
  | .vmem => 10
  | .smem => 0
  | _ => 0

abbrev bufTy : (tb : Table) → Fin (tcTables nBuf tb) → BufTy
  | .hbm, ⟨0, _⟩ => ⟨S1x8192x6672, .f32⟩
  | .hbm, ⟨1, _⟩ => ⟨S1x256x1024, .f32⟩
  | .hbm, ⟨2, _⟩ => ⟨S1x8192x2048, .f32⟩
  | .hbm, ⟨3, _⟩ => ⟨S8192x6672, .f32⟩
  | .hbm, ⟨4, _⟩ => ⟨S8192x4096, .f32⟩
  | .hbm, ⟨5, _⟩ => ⟨S8192x1536, .f32⟩
  | .hbm, ⟨6, _⟩ => ⟨S8192x1024, .f32⟩
  | .hbm, ⟨7, _⟩ => ⟨S8192x6656, .f32⟩
  | .hbm, ⟨8, _⟩ => ⟨S8192x2048, .f32⟩
  | .hbm, ⟨9, _⟩ => ⟨S8192x1024, .f32⟩
  | .hbm, ⟨10, _⟩ => ⟨S8192x512, .f32⟩
  | .hbm, ⟨11, _⟩ => ⟨S8192x512, .f32⟩
  | .hbm, ⟨12, _⟩ => ⟨S8192x2048, .f32⟩
  | .hbm, ⟨13, _⟩ => ⟨S256x1024, .f32⟩
  | .hbm, ⟨14, _⟩ => ⟨S8192x1024, .bf16⟩
  | .hbm, ⟨15, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S256x1024, .f32⟩
  | .local _ .vmem, ⟨7, _⟩ => ⟨S512x1024, .bf16⟩
  | .local _ .vmem, ⟨8, _⟩ => ⟨S512x1024, .bf16⟩
  | .local _ .vmem, ⟨9, _⟩ => ⟨S256x1024, .f32⟩
  | _, _ => ⟨S1x8192x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11_0 : Ref sig .tc := ⟨.hbm, 14, rfl⟩
abbrev main_v11_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== XattnRefIdeal.lean ====
abbrev S1x8192x6672 : Shape := ⟨3, ![1, 8192, 6672]⟩
abbrev S1x256x1024 : Shape := ⟨3, ![1, 256, 1024]⟩
abbrev S1x8192x2048 : Shape := ⟨3, ![1, 8192, 2048]⟩
abbrev S1x8192x1024 : Shape := ⟨3, ![1, 8192, 1024]⟩
abbrev S8192x1024 : Shape := ⟨2, ![8192, 1024]⟩
abbrev S256x1024 : Shape := ⟨2, ![256, 1024]⟩
abbrev S8192x512 : Shape := ⟨2, ![8192, 512]⟩
abbrev S256x512 : Shape := ⟨2, ![256, 512]⟩
abbrev S256x4x128 : Shape := ⟨3, ![256, 4, 128]⟩
abbrev S8192x4x128 : Shape := ⟨3, ![8192, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S1x8192x512 : Shape := ⟨3, ![1, 8192, 512]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 112
  | .vmem => 0
  | .smem => 0
  | _ => 0

abbrev bufTy : (tb : Table) → Fin (tcTables nBuf tb) → BufTy
  | .hbm, ⟨0, _⟩ => ⟨S1x8192x6672, .f32⟩
  | .hbm, ⟨1, _⟩ => ⟨S1x256x1024, .f32⟩
  | .hbm, ⟨2, _⟩ => ⟨S1x8192x2048, .f32⟩
  | .hbm, ⟨3, _⟩ => ⟨S1x8192x1024, .f32⟩
  | .hbm, ⟨4, _⟩ => ⟨S8192x1024, .f32⟩
  | .hbm, ⟨5, _⟩ => ⟨S256x1024, .f32⟩
  | .hbm, ⟨6, _⟩ => ⟨S8192x512, .f32⟩
  | .hbm, ⟨7, _⟩ => ⟨S8192x512, .f32⟩
  | .hbm, ⟨8, _⟩ => ⟨S256x512, .f32⟩
  | .hbm, ⟨9, _⟩ => ⟨S256x512, .f32⟩
  | .hbm, ⟨10, _⟩ => ⟨S256x4x128, .f32⟩
  | .hbm, ⟨11, _⟩ => ⟨S256x4x128, .f32⟩
  | .hbm, ⟨12, _⟩ => ⟨S8192x4x128, .f32⟩
  | .hbm, ⟨13, _⟩ => ⟨S4x8192x256, .f32⟩
  | .hbm, ⟨14, _⟩ => ⟨S_, .f32⟩
  | .hbm, ⟨15, _⟩ => ⟨S4x8192x256, .f32⟩
  | .hbm, ⟨16, _⟩ => ⟨S4x8192x256, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .i1⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S4x8192, .i1⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S_, .f32⟩
  | .hbm, ⟨39, _⟩ => ⟨S4x8192, .f32⟩
  | .hbm, ⟨40, _⟩ => ⟨S4x8192, .f32⟩
  | .hbm, ⟨41, _⟩ => ⟨S4x8192, .f32⟩
  | .hbm, ⟨42, _⟩ => ⟨S4x8192x1, .f32⟩
  | .hbm, ⟨43, _⟩ => ⟨S4x8192x256, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S4x8192x1, .f32⟩
  | .hbm, ⟨49, _⟩ => ⟨S4x8192x256, .f32⟩
  | .hbm, ⟨50, _⟩ => ⟨S4x8192x256, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x128x8192, .f32⟩
  | .hbm, ⟨56, _⟩ => ⟨S8192x4x128, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S8192x512, .f32⟩
  | .hbm, ⟨62, _⟩ => ⟨S8192x512, .f32⟩
  | .hbm, ⟨63, _⟩ => ⟨S_, .f32⟩
  | .hbm, ⟨64, _⟩ => ⟨S8192x512, .f32⟩
  | .hbm, ⟨65, _⟩ => ⟨S8192x512, .f32⟩
  | .hbm, ⟨66, _⟩ => ⟨S_, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S1x8192x512, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x4x128, .f32⟩
  | .hbm, ⟨81, _⟩ => ⟨S4x128x8192, .f32⟩
  | .hbm, ⟨82, _⟩ => ⟨S4x8192x256, .f32⟩
  | .hbm, ⟨83, _⟩ => ⟨S4x128x256, .f32⟩
  | .hbm, ⟨84, _⟩ => ⟨S256x4x128, .f32⟩
  | .hbm, ⟨85, _⟩ => ⟨S4x8192x256, .f32⟩
  | .hbm, ⟨86, _⟩ => ⟨S4x8192x256, .f32⟩
  | .hbm, ⟨87, _⟩ => ⟨S4x8192x256, .f32⟩
  | .hbm, ⟨88, _⟩ => ⟨S_, .f32⟩
  | .hbm, ⟨89, _⟩ => ⟨S4x8192, .f32⟩
  | .hbm, ⟨90, _⟩ => ⟨S4x8192x1, .f32⟩
  | .hbm, ⟨91, _⟩ => ⟨S4x8192x1, .f32⟩
  | .hbm, ⟨92, _⟩ => ⟨S4x8192x256, .f32⟩
  | .hbm, ⟨93, _⟩ => ⟨S4x8192x256, .f32⟩
  | .hbm, ⟨94, _⟩ => ⟨S_, .f32⟩
  | .hbm, ⟨95, _⟩ => ⟨S4x8192, .f32⟩
  | .hbm, ⟨96, _⟩ => ⟨S4x8192x256, .f32⟩
  | .hbm, ⟨97, _⟩ => ⟨S4x8192x256, .f32⟩
  | .hbm, ⟨98, _⟩ => ⟨S4x8192x256, .f32⟩
  | .hbm, ⟨99, _⟩ => ⟨S_, .f32⟩
  | .hbm, ⟨100, _⟩ => ⟨S4x8192x256, .f32⟩
  | .hbm, ⟨101, _⟩ => ⟨S4x8192x256, .f32⟩
  | .hbm, ⟨102, _⟩ => ⟨S4x256x128, .f32⟩
  | .hbm, ⟨103, _⟩ => ⟨S256x4x128, .f32⟩
  | .hbm, ⟨104, _⟩ => ⟨S4x8192x128, .f32⟩
  | .hbm, ⟨105, _⟩ => ⟨S8192x4x128, .f32⟩
  | .hbm, ⟨106, _⟩ => ⟨S8192x512, .f32⟩
  | .hbm, ⟨107, _⟩ => ⟨S256x512, .f32⟩
  | .hbm, ⟨108, _⟩ => ⟨S256x512, .f32⟩
  | .hbm, ⟨109, _⟩ => ⟨S256x1024, .f32⟩
  | .hbm, ⟨110, _⟩ => ⟨S8192x1024, .f32⟩
  | .hbm, ⟨111, _⟩ => ⟨S8192x1024, .bf16⟩
  | _, _ => ⟨S1x8192x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v44_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v44_1 : Ref sig .tc := ⟨.hbm, 69, rfl⟩
abbrev main_v44_0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]
-- ==== Gmlp.lean ====
abbrev S1x8192x6672 : Shape := ⟨3, ![1, 8192, 6672]⟩
abbrev S1x8192x2048 : Shape := ⟨3, ![1, 8192, 2048]⟩
abbrev S1x512 : Shape := ⟨2, ![1, 512]⟩
abbrev S1x4x128x128 : Shape := ⟨4, ![1, 4, 128, 128]⟩
abbrev S1x4x128 : Shape := ⟨3, ![1, 4, 128]⟩
abbrev S8192x6672 : Shape := ⟨2, ![8192, 6672]⟩
abbrev S8192x4096 : Shape := ⟨2, ![8192, 4096]⟩
abbrev S8192x1536 : Shape := ⟨2, ![8192, 1536]⟩
abbrev S8192x1024 : Shape := ⟨2, ![8192, 1024]⟩
abbrev S8192x6656 : Shape := ⟨2, ![8192, 6656]⟩
abbrev S8192x2048 : Shape := ⟨2, ![8192, 2048]⟩
abbrev S8192x512 : Shape := ⟨2, ![8192, 512]⟩
abbrev S4x128x128 : Shape := ⟨3, ![4, 128, 128]⟩
abbrev S4x128 : Shape := ⟨2, ![4, 128]⟩
abbrev S128x4 : Shape := ⟨2, ![128, 4]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 24
  | .vmem => 19
  | .smem => 0
  | _ => 0

abbrev bufTy : (tb : Table) → Fin (tcTables nBuf tb) → BufTy
  | .hbm, ⟨0, _⟩ => ⟨S1x8192x6672, .f32⟩
  | .hbm, ⟨1, _⟩ => ⟨S1x8192x2048, .f32⟩
  | .hbm, ⟨2, _⟩ => ⟨S1x512, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S8192x6672, .f32⟩
  | .hbm, ⟨7, _⟩ => ⟨S8192x4096, .f32⟩
  | .hbm, ⟨8, _⟩ => ⟨S8192x1536, .f32⟩
  | .hbm, ⟨9, _⟩ => ⟨S8192x1024, .f32⟩
  | .hbm, ⟨10, _⟩ => ⟨S8192x6656, .f32⟩
  | .hbm, ⟨11, _⟩ => ⟨S8192x2048, .f32⟩
  | .hbm, ⟨12, _⟩ => ⟨S8192x1024, .f32⟩
  | .hbm, ⟨13, _⟩ => ⟨S8192x512, .f32⟩
  | .hbm, ⟨14, _⟩ => ⟨S8192x512, .f32⟩
  | .hbm, ⟨15, _⟩ => ⟨S8192x2048, .f32⟩
  | .hbm, ⟨16, _⟩ => ⟨S4x128x128, .f32⟩
  | .hbm, ⟨17, _⟩ => ⟨S4x128, .f32⟩
  | .hbm, ⟨18, _⟩ => ⟨S128x4, .f32⟩
  | .hbm, ⟨19, _⟩ => ⟨S8192x1536, .bf16⟩
  | .hbm, ⟨20, _⟩ => ⟨S4x128x128, .f32⟩
  | .hbm, ⟨21, _⟩ => ⟨S128x4, .f32⟩
  | .hbm, ⟨22, _⟩ => ⟨S1x512, .f32⟩
  | .hbm, ⟨23, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S4x128x128, .f32⟩
  | .local _ .vmem, ⟨11, _⟩ => ⟨S128x4, .f32⟩
  | .local _ .vmem, ⟨12, _⟩ => ⟨S512x1536, .bf16⟩
  | .local _ .vmem, ⟨13, _⟩ => ⟨S512x1536, .bf16⟩
  | .local _ .vmem, ⟨14, _⟩ => ⟨S4x128x128, .f32⟩
  | .local _ .vmem, ⟨15, _⟩ => ⟨S128x4, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | _, _ => ⟨S1x8192x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GmlpIdeal.lean ====
variable {F : FTy → Type} [FloatOps F] [Named F]
def κ : String → Option EReal := fun
  | "gelu_cubic" => some ((8943 / 200000 : ℝ) : EReal)
  | "gelu_slope" => some ((26829 / 200000 : ℝ) : EReal)
  | _ => none
-- ==== GmlpRefIdeal.lean ====
abbrev S1x8192x6672 : Shape := ⟨3, ![1, 8192, 6672]⟩
abbrev S1x8192x2048 : Shape := ⟨3, ![1, 8192, 2048]⟩
abbrev S1x512 : Shape := ⟨2, ![1, 512]⟩
abbrev S1x4x128x128 : Shape := ⟨4, ![1, 4, 128, 128]⟩
abbrev S1x4x128 : Shape := ⟨3, ![1, 4, 128]⟩
abbrev S1x8192x1536 : Shape := ⟨3, ![1, 8192, 1536]⟩
abbrev S8192x1536 : Shape := ⟨2, ![8192, 1536]⟩
abbrev S8192x512 : Shape := ⟨2, ![8192, 512]⟩
abbrev S4x128x128 : Shape := ⟨3, ![4, 128, 128]⟩
abbrev S4x128 : Shape := ⟨2, ![4, 128]⟩
abbrev S512 : Shape := ⟨1, ![512]⟩
abbrev S_ : Shape := ⟨0, ![]⟩
abbrev S8192 : Shape := ⟨1, ![8192]⟩
abbrev S8192x1 : Shape := ⟨2, ![8192, 1]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩
abbrev S1x8192x512 : Shape := ⟨3, ![1, 8192, 512]⟩

abbrev nBuf : Space → Nat
  | .hbm => 251
  | .vmem => 0
  | .smem => 0
  | _ => 0

abbrev hbmTy0_0 (i : Nat) : BufTy := match i % 128 with
  | 0 => ⟨S1x8192x6672, .f32⟩
  | 1 => ⟨S1x8192x2048, .f32⟩
  | 2 => ⟨S1x512, .f32⟩
  | 3 => ⟨S1x512, .f32⟩
  | 4 => ⟨S1x4x128x128, .f32⟩
  | 5 => ⟨S1x4x128, .f32⟩
  | 6 => ⟨S1x8192x1536, .f32⟩
  | 7 => ⟨S8192x1536, .f32⟩
  | 8 => ⟨S8192x512, .f32⟩
  | 9 => ⟨S8192x512, .f32⟩
  | 10 => ⟨S8192x512, .f32⟩
  | 11 => ⟨S4x128x128, .f32⟩
  | 12 => ⟨S4x128, .f32⟩
  | 13 => ⟨S512, .f32⟩
  | 14 => ⟨S512, .f32⟩
  | 15 => ⟨S_, .f32⟩
  | 16 => ⟨S_, .f32⟩
  | 17 => ⟨S_, .f32⟩
  | 18 => ⟨S8192x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S8192x512, .f32⟩
  | 38 => ⟨S_, .f32⟩
  | 39 => ⟨S8192x512, .f32⟩
  | 40 => ⟨S8192x512, .f32⟩
  | 41 => ⟨S_, .f32⟩
  | 42 => ⟨S8192x512, .f32⟩
  | 43 => ⟨S8192x512, .f32⟩
  | 44 => ⟨S8192x512, .f32⟩
  | 45 => ⟨S_, .f32⟩
  | 46 => ⟨S_, .f32⟩
  | 47 => ⟨S_, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S8192x512, .f32⟩
  | 75 => ⟨S_, .f32⟩
  | 76 => ⟨S8192, .f32⟩
  | 77 => ⟨S8192x1, .f32⟩
  | 78 => ⟨S_, .f32⟩
  | 79 => ⟨S8192x1, .f32⟩
  | 80 => ⟨S8192x1, .f32⟩
  | 81 => ⟨S8192x512, .f32⟩
  | 82 => ⟨S8192x512, .f32⟩
  | 83 => ⟨S8192x512, .f32⟩
  | 84 => ⟨S_, .f32⟩
  | 85 => ⟨S8192, .f32⟩
  | 86 => ⟨S8192x1, .f32⟩
  | 87 => ⟨S_, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1, .f32⟩
  | 94 => ⟨S8192x1, .f32⟩
  | 95 => ⟨S_, .f32⟩
  | 96 => ⟨S8192x1, .f32⟩
  | 97 => ⟨S8192x1, .f32⟩
  | 98 => ⟨S8192x512, .f32⟩
  | 99 => ⟨S8192x512, .f32⟩
  | 100 => ⟨S1x512, .f32⟩
  | 101 => ⟨S8192x512, .f32⟩
  | 102 => ⟨S8192x512, .f32⟩
  | 103 => ⟨S1x512, .f32⟩
  | 104 => ⟨S8192x512, .f32⟩
  | 105 => ⟨S8192x512, .f32⟩
  | 106 => ⟨S64x128x4x128, .f32⟩
  | 107 => ⟨S_, .i1⟩
  | 108 => ⟨S128x128, .i1⟩
  | 109 => ⟨S128x128, .i32⟩
  | 110 => ⟨S_, .i32⟩
  | 111 => ⟨S128x128, .i32⟩
  | 112 => ⟨S128x128, .i32⟩
  | 113 => ⟨S128x128, .i32⟩
  | 114 => ⟨S128x128, .i1⟩
  | 115 => ⟨S_, .i1⟩
  | 116 => ⟨S128x128, .i1⟩
  | 117 => ⟨S128x128, .i1⟩
  | 118 => ⟨S1x128x128, .i1⟩
  | 119 => ⟨S_, .i32⟩
  | 120 => ⟨S_, .f32⟩
  | 121 => ⟨S4x128x128, .i1⟩
  | 122 => ⟨S4x128x128, .f32⟩
  | 123 => ⟨S4x128x128, .f32⟩
  | 124 => ⟨S_, .f32⟩
  | 125 => ⟨S4x128x128, .f32⟩
  | 126 => ⟨S4x64x128x128, .f32⟩
  | 127 => ⟨S64x128x4x128, .f32⟩
  | _ => ⟨S1x8192x6672, .f32⟩

abbrev hbmTy0_1 (i : Nat) : BufTy := match i % 128 with
  | 0 => ⟨S128x4, .f32⟩
  | 1 => ⟨S1x128x4x1, .f32⟩
  | 2 => ⟨S64x128x4x128, .f32⟩
  | 3 => ⟨S64x128x4x128, .f32⟩
  | 4 => ⟨S8192x512, .f32⟩
  | 5 => ⟨S8192x512, .f32⟩
  | 6 => ⟨S8192x512, .f32⟩
  | 7 => ⟨S8192x512, .f32⟩
  | 8 => ⟨S_, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S1x8192x512, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S64x128x4x128, .f32⟩
  | 31 => ⟨S_, .f32⟩
  | 32 => ⟨S128x4, .f32⟩
  | 33 => ⟨S1x128x4x1, .f32⟩
  | 34 => ⟨S_, .f32⟩
  | 35 => ⟨S128x4, .f32⟩
  | 36 => ⟨S4x128, .f32⟩
  | 37 => ⟨S4x64x128x128, .f32⟩
  | 38 => ⟨S4x128x128, .f32⟩
  | 39 => ⟨S4x64x128x128, .f32⟩
  | 40 => ⟨S64x128x4x128, .f32⟩
  | 41 => ⟨S_, .f32⟩
  | 42 => ⟨S4x128x128, .f32⟩
  | 43 => ⟨S4x128x128, .f32⟩
  | 44 => ⟨S8192x512, .f32⟩
  | 45 => ⟨S_, .f32⟩
  | 46 => ⟨S512, .f32⟩
  | 47 => ⟨S1x512, .f32⟩
  | 48 => ⟨S_, .f32⟩
  | 49 => ⟨S512, .f32⟩
  | 50 => ⟨S8192x512, .f32⟩
  | 51 => ⟨S_, .f32⟩
  | 52 => ⟨S512, .f32⟩
  | 53 => ⟨S1x512, .f32⟩
  | 54 => ⟨S8192x512, .f32⟩
  | 55 => ⟨S8192x512, .f32⟩
  | 56 => ⟨S_, .f32⟩
  | 57 => ⟨S512, .f32⟩
  | 58 => ⟨S8192x512, .f32⟩
  | 59 => ⟨S_, .f32⟩
  | 60 => ⟨S8192, .f32⟩
  | 61 => ⟨S8192x1, .f32⟩
  | 62 => ⟨S8192x512, .f32⟩
  | 63 => ⟨S8192x512, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S_, .f32⟩
  | 77 => ⟨S8192, .f32⟩
  | 78 => ⟨S8192x1, .f32⟩
  | 79 => ⟨S_, .f32⟩
  | 80 => ⟨S8192x1, .f32⟩
  | 81 => ⟨S8192x1, .f32⟩
  | 82 => ⟨S_, .f32⟩
  | 83 => ⟨S8192, .f32⟩
  | 84 => ⟨S8192x512, .f32⟩
  | 85 => ⟨S8192x512, .f32⟩
  | 86 => ⟨S8192x512, .f32⟩
  | 87 => ⟨S8192x512, .f32⟩
  | 88 => ⟨S_, .f32⟩
  | 89 => ⟨S8192x512, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S8192x512, .f32⟩
  | 96 => ⟨S8192x512, .f32⟩
  | 97 => ⟨S8192x512, .f32⟩
  | 98 => ⟨S8192x512, .f32⟩
  | 99 => ⟨S8192x512, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S8192x512, .f32⟩
  | 114 => ⟨S1x512, .f32⟩
  | 115 => ⟨S1x512, .f32⟩
  | 116 => ⟨S1x4x128, .f32⟩
  | 117 => ⟨S1x4x128x128, .f32⟩
  | 118 => ⟨S8192x1536, .f32⟩
  | 119 => ⟨S8192x1536, .bf16⟩
  | 120 => ⟨S4x128x128, .f32⟩
  | 121 => ⟨S4x128, .f32⟩
  | 122 => ⟨S128x4, .f32⟩
  | _ => ⟨S1x8192x6672, .f32⟩

abbrev hbmTy (i : Nat) : BufTy := match i / 128 with
  | 0 => hbmTy0_0 i
  | 1 => hbmTy0_1 i
  | _ => ⟨S1x8192x6672, .f32⟩

abbrev bufTy : (tb : Table) → Fin (tcTables nBuf tb) → BufTy
  | .hbm, ⟨i, _⟩ => hbmTy i
  | _, _ => ⟨S1x8192x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c : Ref sig .tc := ⟨.hbm, 107, rfl⟩
abbrev main_v79 : Ref sig .tc := ⟨.hbm, 108, rfl⟩
abbrev main_call0_v0 : Ref sig .tc := ⟨.hbm, 109, rfl⟩
abbrev main_call0_c : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_c_0 : Ref sig .tc := ⟨.hbm, 115, rfl⟩
abbrev main_call0_v5 : Ref sig .tc := ⟨.hbm, 116, rfl⟩
abbrev main_v80 : Ref sig .tc := ⟨.hbm, 117, rfl⟩
abbrev main_v81 : Ref sig .tc := ⟨.hbm, 118, rfl⟩
abbrev main_c_21 : Ref sig .tc := ⟨.hbm, 119, rfl⟩
abbrev main_call1_v0 : Ref sig .tc := ⟨.hbm, 120, rfl⟩
abbrev main_v82_1 : Ref sig .tc := ⟨.hbm, 121, rfl⟩
abbrev main_call1_v2 : Ref sig .tc := ⟨.hbm, 122, rfl⟩
abbrev main_v82_0 : Ref sig .tc := ⟨.hbm, 123, rfl⟩
abbrev main_call1_cst : Ref sig .tc := ⟨.hbm, 124, rfl⟩
abbrev main_v82_2 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_call2_v0 : Ref sig .tc := ⟨.hbm, 134, rfl⟩
abbrev main_call2_v1 : Ref sig .tc := ⟨.hbm, 135, rfl⟩
abbrev main_call2_cst : Ref sig .tc := ⟨.hbm, 136, rfl⟩
abbrev main_call2_v2 : Ref sig .tc := ⟨.hbm, 137, rfl⟩
abbrev main_call2_v3 : Ref sig .tc := ⟨.hbm, 138, rfl⟩
abbrev main_call2_cst_0 : Ref sig .tc := ⟨.hbm, 139, rfl⟩
abbrev main_call2_v4 : Ref sig .tc := ⟨.hbm, 140, rfl⟩
abbrev main_v91_2 : Ref sig .tc := ⟨.hbm, 141, rfl⟩
abbrev main_call2_cst_1 : Ref sig .tc := ⟨.hbm, 142, rfl⟩
abbrev main_call2_v6 : Ref sig .tc := ⟨.hbm, 143, rfl⟩
abbrev main_call2_v7 : Ref sig .tc := ⟨.hbm, 144, rfl⟩
abbrev main_v91_1 : Ref sig .tc := ⟨.hbm, 145, rfl⟩
abbrev main_v91_0 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_cst_22 : Ref sig .tc := ⟨.hbm, 159, rfl⟩
abbrev main_v101 : Ref sig .tc := ⟨.hbm, 160, rfl⟩
abbrev main_v102 : Ref sig .tc := ⟨.hbm, 161, rfl⟩
abbrev main_cst_23 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_call4_cst : Ref sig .tc := ⟨.hbm, 169, rfl⟩
abbrev main_call4_v0 : Ref sig .tc := ⟨.hbm, 170, rfl⟩
abbrev main_v109 : Ref sig .tc := ⟨.hbm, 171, rfl⟩
abbrev main_v110 : Ref sig .tc := ⟨.hbm, 172, rfl⟩
abbrev main_cst_24 : Ref sig .tc := ⟨.hbm, 173, rfl⟩
abbrev main_v111 : Ref sig .tc := ⟨.hbm, 174, rfl⟩
abbrev main_v112 : Ref sig .tc := ⟨.hbm, 175, rfl⟩
abbrev main_cst_25 : Ref sig .tc := ⟨.hbm, 176, rfl⟩
abbrev main_v113 : Ref sig .tc := ⟨.hbm, 177, rfl⟩
abbrev main_v114 : Ref sig .tc := ⟨.hbm, 178, rfl⟩
abbrev main_cst_26 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_cst_27 : Ref sig .tc := ⟨.hbm, 184, rfl⟩
abbrev main_v119 : Ref sig .tc := ⟨.hbm, 185, rfl⟩
abbrev main_v120 : Ref sig .tc := ⟨.hbm, 186, rfl⟩
abbrev main_cst_28 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_29 : Ref sig .tc := ⟨.hbm, 193, rfl⟩
abbrev main_v126 : Ref sig .tc := ⟨.hbm, 194, rfl⟩
abbrev main_v127 : Ref sig .tc := ⟨.hbm, 195, rfl⟩
abbrev main_cst_30 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_v134 : Ref sig .tc := ⟨.hbm, 203, rfl⟩
abbrev main_cst_31 : Ref sig .tc := ⟨.hbm, 204, rfl⟩
abbrev main_v135 : Ref sig .tc := ⟨.hbm, 205, rfl⟩
abbrev main_v136 : Ref sig .tc := ⟨.hbm, 206, rfl⟩
abbrev main_cst_32 : Ref sig .tc := ⟨.hbm, 207, rfl⟩
abbrev main_v137 : Ref sig .tc := ⟨.hbm, 208, rfl⟩
abbrev main_v138 : Ref sig .tc := ⟨.hbm, 209, rfl⟩
abbrev main_cst_33 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_cst_34 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_cst_35 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_36 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_cst_37 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩

abbrev nD : Nat := 1
abbrev τ : Topo := Topo.v7x

variable {F : FTy → Type} [FloatOps F]
-- ==== Final.lean ====
abbrev S1x8192x2048 : Shape := ⟨3, ![1, 8192, 2048]⟩
abbrev S1x2048x2048 : Shape := ⟨3, ![1, 2048, 2048]⟩
abbrev S2048 : Shape := ⟨1, ![2048]⟩
abbrev S8192x2048 : Shape := ⟨2, ![8192, 2048]⟩
abbrev S8192x512 : Shape := ⟨2, ![8192, 512]⟩
abbrev S8192x1024 : Shape := ⟨2, ![8192, 1024]⟩
abbrev S2048x2048 : Shape := ⟨2, ![2048, 2048]⟩
abbrev S1024x2048 : Shape := ⟨2, ![1024, 2048]⟩
abbrev S512x2048 : Shape := ⟨2, ![512, 2048]⟩
abbrev S1x2048 : Shape := ⟨2, ![1, 2048]⟩
abbrev S1x128 : Shape := ⟨2, ![1, 128]⟩
abbrev S256x2048 : Shape := ⟨2, ![256, 2048]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 24
  | .vmem => 20
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048x2048, .f32⟩
  | .hbm, ⟨3, _⟩ => ⟨S2048, .f32⟩
  | .hbm, ⟨4, _⟩ => ⟨S1x8192x2048, .f32⟩
  | .hbm, ⟨5, _⟩ => ⟨S8192x2048, .f32⟩
  | .hbm, ⟨6, _⟩ => ⟨S8192x2048, .bf16⟩
  | .hbm, ⟨7, _⟩ => ⟨S8192x512, .bf16⟩
  | .hbm, ⟨8, _⟩ => ⟨S8192x1024, .bf16⟩
  | .hbm, ⟨9, _⟩ => ⟨S8192x512, .bf16⟩
  | .hbm, ⟨10, _⟩ => ⟨S2048x2048, .f32⟩
  | .hbm, ⟨11, _⟩ => ⟨S2048x2048, .bf16⟩
  | .hbm, ⟨12, _⟩ => ⟨S1024x2048, .bf16⟩
  | .hbm, ⟨13, _⟩ => ⟨S512x2048, .bf16⟩
  | .hbm, ⟨14, _⟩ => ⟨S512x2048, .bf16⟩
  | .hbm, ⟨15, _⟩ => ⟨S2048x2048, .bf16⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .bf16⟩
  | .hbm, ⟨21, _⟩ => ⟨S8192x2048, .f32⟩
  | .hbm, ⟨22, _⟩ => ⟨S1x128, .f32⟩
  | .hbm, ⟨23, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .bf16⟩
  | .local _ .vmem, ⟨5, _⟩ => ⟨S256x1024, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .f32⟩
  | .local _ .vmem, ⟨17, _⟩ => ⟨S256x2048, .f32⟩
  | .local _ .vmem, ⟨18, _⟩ => ⟨S1x128, .f32⟩
  | .local _ .vmem, ⟨19, _⟩ => ⟨S1x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FinalRefIdeal.lean ====
abbrev S1x8192x2048 : Shape := ⟨3, ![1, 8192, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x2048 : Shape := ⟨2, ![1, 2048]⟩
abbrev S8192 : Shape := ⟨1, ![8192]⟩
abbrev S8192x2048 : Shape := ⟨2, ![8192, 2048]⟩
abbrev S8192x1024 : Shape := ⟨2, ![8192, 1024]⟩
abbrev S8192x512 : Shape := ⟨2, ![8192, 512]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x2048x2048, .f32⟩
  | .hbm, ⟨3, _⟩ => ⟨S2048, .f32⟩
  | .hbm, ⟨4, _⟩ => ⟨S1x8192x2048, .f32⟩
  | .hbm, ⟨5, _⟩ => ⟨S2048x2048, .f32⟩
  | .hbm, ⟨6, _⟩ => ⟨S1x8192x2048, .f32⟩
  | .hbm, ⟨7, _⟩ => ⟨S1x8192x2048, .f32⟩
  | .hbm, ⟨8, _⟩ => ⟨S1x8192x2048, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S_, .f32⟩
  | .hbm, ⟨21, _⟩ => ⟨S1x8192x1, .f32⟩
  | .hbm, ⟨22, _⟩ => ⟨S1x8192x1, .f32⟩
  | .hbm, ⟨23, _⟩ => ⟨S1x8192x2048, .f32⟩
  | .hbm, ⟨24, _⟩ => ⟨S1x8192x2048, .f32⟩
  | .hbm, ⟨25, _⟩ => ⟨S1x1x2048, .f32⟩
  | .hbm, ⟨26, _⟩ => ⟨S1x8192x2048, .f32⟩
  | .hbm, ⟨27, _⟩ => ⟨S1x8192x2048, .f32⟩
  | .hbm, ⟨28, _⟩ => ⟨S1x8192x2048, .f32⟩
  | .hbm, ⟨29, _⟩ => ⟨S1x8192x2048, .f32⟩
  | .hbm, ⟨30, _⟩ => ⟨S_, .f32⟩
  | .hbm, ⟨31, _⟩ => ⟨S1x8192x2048, .f32⟩
  | .hbm, ⟨32, _⟩ => ⟨S1x8192x2048, .f32⟩
  | .hbm, ⟨33, _⟩ => ⟨S_, .f32⟩
  | .hbm, ⟨34, _⟩ => ⟨S1x8192, .f32⟩
  | .hbm, ⟨35, _⟩ => ⟨S_, .f32⟩
  | .hbm, ⟨36, _⟩ => ⟨S1x8192, .f32⟩
  | .hbm, ⟨37, _⟩ => ⟨S1x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1x8192, .f32⟩
  | .hbm, ⟨46, _⟩ => ⟨S_, .f32⟩
  | .hbm, ⟨47, _⟩ => ⟨S1x8192, .f32⟩
  | .hbm, ⟨48, _⟩ => ⟨S1x8192, .f32⟩
  | .hbm, ⟨49, _⟩ => ⟨S1x8192x2048, .f32⟩
  | .hbm, ⟨50, _⟩ => ⟨S1x8192x2048, .f32⟩
  | .hbm, ⟨51, _⟩ => ⟨S1x8192x2048, .f32⟩
  | .hbm, ⟨52, _⟩ => ⟨S_, .f32⟩
  | .hbm, ⟨53, _⟩ => ⟨S1x2048, .f32⟩
  | .hbm, ⟨54, _⟩ => ⟨S1x1x2048, .f32⟩
  | .hbm, ⟨55, _⟩ => ⟨S1x8192x2048, .f32⟩
  | .hbm, ⟨56, _⟩ => ⟨S1x8192x2048, .f32⟩
  | .hbm, ⟨57, _⟩ => ⟨S_, .f32⟩
  | .hbm, ⟨58, _⟩ => ⟨S2048, .f32⟩
  | .hbm, ⟨59, _⟩ => ⟨S1x8192x2048, .f32⟩
  | .hbm, ⟨60, _⟩ => ⟨S_, .f32⟩
  | .hbm, ⟨61, _⟩ => ⟨S1x8192, .f32⟩
  | .hbm, ⟨62, _⟩ => ⟨S1x8192x1, .f32⟩
  | .hbm, ⟨63, _⟩ => ⟨S1x8192x2048, .f32⟩
  | .hbm, ⟨64, _⟩ => ⟨S1x8192x2048, .f32⟩
  | .hbm, ⟨65, _⟩ => ⟨S1x8192x1, .f32⟩
  | .hbm, ⟨66, _⟩ => ⟨S_, .f32⟩
  | .hbm, ⟨67, _⟩ => ⟨S1x8192x1, .f32⟩
  | .hbm, ⟨68, _⟩ => ⟨S1x8192x1, .f32⟩
  | .hbm, ⟨69, _⟩ => ⟨S_, .f32⟩
  | .hbm, ⟨70, _⟩ => ⟨S8192, .f32⟩
  | .hbm, ⟨71, _⟩ => ⟨S1x8192, .f32⟩
  | .hbm, ⟨72, _⟩ => ⟨S1x8192x2048, .f32⟩
  | .hbm, ⟨73, _⟩ => ⟨S1x8192x2048, .f32⟩
  | .hbm, ⟨74, _⟩ => ⟨S1x8192x2048, .f32⟩
  | .hbm, ⟨75, _⟩ => ⟨S1x8192x2048, .f32⟩
  | .hbm, ⟨76, _⟩ => ⟨S1x8192x2048, .f32⟩
  | .hbm, ⟨77, _⟩ => ⟨S1x8192x2048, .f32⟩
  | .hbm, ⟨78, _⟩ => ⟨S8192x2048, .f32⟩
  | .hbm, ⟨79, _⟩ => ⟨S8192x2048, .f32⟩
  | .hbm, ⟨80, _⟩ => ⟨S8192x2048, .bf16⟩
  | .hbm, ⟨81, _⟩ => ⟨S8192x2048, .f32⟩
  | .hbm, ⟨82, _⟩ => ⟨S8192x1024, .f32⟩
  | .hbm, ⟨83, _⟩ => ⟨S8192x512, .f32⟩
  | .hbm, ⟨84, _⟩ => ⟨S8192x512, .f32⟩
  | .hbm, ⟨85, _⟩ => ⟨S8192x2048, .f32⟩
  | .hbm, ⟨86, _⟩ => ⟨S1x128, .f32⟩
  | .hbm, ⟨87, _⟩ => ⟨S1x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== DnBack.lean ====
abbrev S8192x2048 : Shape := ⟨2, ![8192, 2048]⟩
abbrev S8192x1024 : Shape := ⟨2, ![8192, 1024]⟩
abbrev S8192x6656 : Shape := ⟨2, ![8192, 6656]⟩
abbrev S1x128 : Shape := ⟨2, ![1, 128]⟩
abbrev S8x8192x64 : Shape := ⟨3, ![8, 8192, 64]⟩
abbrev S128x8x128 : Shape := ⟨3, ![128, 8, 128]⟩
abbrev S8192x128 : Shape := ⟨2, ![8192, 128]⟩
abbrev S128x16x64 : Shape := ⟨3, ![128, 16, 64]⟩
abbrev S128x8x128x128 : Shape := ⟨4, ![128, 8, 128, 128]⟩
abbrev S256x1024 : Shape := ⟨2, ![256, 1024]⟩
abbrev S8x256x64 : Shape := ⟨3, ![8, 256, 64]⟩
abbrev S4x8x128 : Shape := ⟨3, ![4, 8, 128]⟩
abbrev S256x128 : Shape := ⟨2, ![256, 128]⟩
abbrev S4x16x64 : Shape := ⟨3, ![4, 16, 64]⟩
abbrev S4x8x128x128 : Shape := ⟨4, ![4, 8, 128, 128]⟩
abbrev S8x128x128 : Shape := ⟨3, ![8, 128, 128]⟩
abbrev S64x128 : Shape := ⟨2, ![64, 128]⟩
abbrev S64x1 : Shape := ⟨2, ![64, 1]⟩
abbrev S64x64 : Shape := ⟨2, ![64, 64]⟩
abbrev S64 : Shape := ⟨1, ![64]⟩
abbrev S128 : Shape := ⟨1, ![128]⟩
abbrev S1x128x128 : Shape := ⟨3, ![1, 128, 128]⟩
abbrev S128x128 : Shape := ⟨2, ![128, 128]⟩
abbrev S1x64x64 : Shape := ⟨3, ![1, 64, 64]⟩
abbrev S1x1x128 : Shape := ⟨3, ![1, 1, 128]⟩
abbrev S1x16x64 : Shape := ⟨3, ![1, 16, 64]⟩
abbrev S16x64 : Shape := ⟨2, ![16, 64]⟩
abbrev S1x64 : Shape := ⟨2, ![1, 64]⟩
abbrev S1x1 : Shape := ⟨2, ![1, 1]⟩
abbrev S1x1x128x128 : Shape := ⟨4, ![1, 1, 128, 128]⟩
abbrev S128x64 : Shape := ⟨2, ![128, 64]⟩
abbrev S64x256 : Shape := ⟨2, ![64, 256]⟩
abbrev S1 : Shape := ⟨1, ![1]⟩

abbrev nBuf : Space → Nat
  | .hbm => 23
  | .vmem => 45
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x6656, .f32⟩
  | .hbm, ⟨3, _⟩ => ⟨S1x128, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8x8192x64, .f32⟩
  | .hbm, ⟨8, _⟩ => ⟨S128x8x128, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x128, .f32⟩
  | .hbm, ⟨13, _⟩ => ⟨S128x16x64, .f32⟩
  | .hbm, ⟨14, _⟩ => ⟨S8x8192x64, .f32⟩
  | .hbm, ⟨15, _⟩ => ⟨S8192x1024, .bf16⟩
  | .hbm, ⟨16, _⟩ => ⟨S128x8x128x128, .bf16⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x128, .f32⟩
  | .hbm, ⟨21, _⟩ => ⟨S8192x1024, .bf16⟩
  | .hbm, ⟨22, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S8x256x64, .f32⟩
  | .local _ .vmem, ⟨14, _⟩ => ⟨S8x256x64, .f32⟩
  | .local _ .vmem, ⟨15, _⟩ => ⟨S4x8x128, .f32⟩
  | .local _ .vmem, ⟨16, _⟩ => ⟨S4x8x128, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x128, .f32⟩
  | .local _ .vmem, ⟨24, _⟩ => ⟨S256x128, .f32⟩
  | .local _ .vmem, ⟨25, _⟩ => ⟨S4x16x64, .f32⟩
  | .local _ .vmem, ⟨26, _⟩ => ⟨S4x16x64, .f32⟩
  | .local _ .vmem, ⟨27, _⟩ => ⟨S8x256x64, .f32⟩
  | .local _ .vmem, ⟨28, _⟩ => ⟨S8x256x64, .f32⟩
  | .local _ .vmem, ⟨29, _⟩ => ⟨S256x1024, .bf16⟩
  | .local _ .vmem, ⟨30, _⟩ => ⟨S256x1024, .bf16⟩
  | .local _ .vmem, ⟨31, _⟩ => ⟨S4x8x128x128, .bf16⟩
  | .local _ .vmem, ⟨32, _⟩ => ⟨S4x8x128x128, .bf16⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x128, .f32⟩
  | .local _ .vmem, ⟨40, _⟩ => ⟨S256x128, .f32⟩
  | .local _ .vmem, ⟨41, _⟩ => ⟨S256x1024, .bf16⟩
  | .local _ .vmem, ⟨42, _⟩ => ⟨S256x1024, .bf16⟩
  | .local _ .vmem, ⟨43, _⟩ => ⟨S1x128, .f32⟩
  | .local _ .vmem, ⟨44, _⟩ => ⟨S8x128x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev main_v0_4 : Ref sig .tc := ⟨.hbm, 21, rfl⟩
abbrev main_v0_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_2 : BitVec 32 := 0#32
  let c4_i32 : BitVec 32 := 4#32
  let v11 : BitVec 32 := Scalar.addi c0_i32_2 c4_i32
  let c1_i32 : BitVec 32 := 1#32
  ⟨c0_i32_2, v11, c1_i32⟩
def k0_mult1 (k0_t1 : Fin k0_t1_loop.trips) : BitVec 32 :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  v13
def k0_off1 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v16 : Index := Scalar.indexCast v14
  let c0_4 : Index := 0#32
  ![v16.toNat, 0]
def k0_off2 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v66 : Index := Scalar.indexCast v14
  let c128 : Index := 128#32
  ![v66.toNat, 128]
def k0_off3 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v116 : Index := Scalar.indexCast v14
  let c256 : Index := 256#32
  ![v116.toNat, 256]
def k0_off4 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v166 : Index := Scalar.indexCast v14
  let c384 : Index := 384#32
  ![v166.toNat, 384]
def k0_off5 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v216 : Index := Scalar.indexCast v14
  let c512 : Index := 512#32
  ![v216.toNat, 512]
def k0_off6 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v266 : Index := Scalar.indexCast v14
  let c640 : Index := 640#32
  ![v266.toNat, 640]
def k0_off7 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v316 : Index := Scalar.indexCast v14
  let c768 : Index := 768#32
  ![v316.toNat, 768]
def k0_off8 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v366 : Index := Scalar.indexCast v14
  let c896 : Index := 896#32
  ![v366.toNat, 896]
def k0_off9 (k0_t1 : Fin k0_t1_loop.trips) : Fin 3 → Nat :=
  let c0_114 : Index := 0#32
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v444 : Index := Scalar.indexCast v14
  let c0_115 : Index := 0#32
  ![0, v444.toNat, 0]
def k0_off10 (k0_t1 : Fin k0_t1_loop.trips) : Fin 3 → Nat :=
  let c1_119 : Index := 1#32
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v454 : Index := Scalar.indexCast v14
  let c0_120 : Index := 0#32
  ![1, v454.toNat, 0]
def k0_off11 (k0_t1 : Fin k0_t1_loop.trips) : Fin 3 → Nat :=
  let c2_124 : Index := 2#32
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v464 : Index := Scalar.indexCast v14
  let c0_125 : Index := 0#32
  ![2, v464.toNat, 0]
def k0_off12 (k0_t1 : Fin k0_t1_loop.trips) : Fin 3 → Nat :=
  let c3_129 : Index := 3#32
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v474 : Index := Scalar.indexCast v14
  let c0_130 : Index := 0#32
  ![3, v474.toNat, 0]
def k0_off13 (k0_t1 : Fin k0_t1_loop.trips) : Fin 3 → Nat :=
  let c4_134 : Index := 4#32
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v484 : Index := Scalar.indexCast v14
  let c0_135 : Index := 0#32
  ![4, v484.toNat, 0]
def k0_off14 (k0_t1 : Fin k0_t1_loop.trips) : Fin 3 → Nat :=
  let c5_139 : Index := 5#32
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v494 : Index := Scalar.indexCast v14
  let c0_140 : Index := 0#32
  ![5, v494.toNat, 0]
def k0_off15 (k0_t1 : Fin k0_t1_loop.trips) : Fin 3 → Nat :=
  let c6_144 : Index := 6#32
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v504 : Index := Scalar.indexCast v14
  let c0_145 : Index := 0#32
  ![6, v504.toNat, 0]
def k0_off16 (k0_t1 : Fin k0_t1_loop.trips) : Fin 3 → Nat :=
  let c7_149 : Index := 7#32
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v514 : Index := Scalar.indexCast v14
  let c0_150 : Index := 0#32
  ![7, v514.toNat, 0]
def k0_off17 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v527 : Index := Scalar.indexCast v12
  let c0_156 : Index := 0#32
  let c0_157 : Index := 0#32
  ![v527.toNat, 0, 0]
def k0_off18 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v536 : Index := Scalar.indexCast v12
  let c1_160 : Index := 1#32
  let c0_161 : Index := 0#32
  ![v536.toNat, 1, 0]
def k0_off19 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v545 : Index := Scalar.indexCast v12
  let c2_164 : Index := 2#32
  let c0_165 : Index := 0#32
  ![v545.toNat, 2, 0]
def k0_off20 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v554 : Index := Scalar.indexCast v12
  let c3_168 : Index := 3#32
  let c0_169 : Index := 0#32
  ![v554.toNat, 3, 0]
def k0_off21 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v563 : Index := Scalar.indexCast v12
  let c4_172 : Index := 4#32
  let c0_173 : Index := 0#32
  ![v563.toNat, 4, 0]
def k0_off22 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v572 : Index := Scalar.indexCast v12
  let c5_176 : Index := 5#32
  let c0_177 : Index := 0#32
  ![v572.toNat, 5, 0]
def k0_off23 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v581 : Index := Scalar.indexCast v12
  let c6_180 : Index := 6#32
  let c0_181 : Index := 0#32
  ![v581.toNat, 6, 0]
def k0_off24 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v590 : Index := Scalar.indexCast v12
  let c7_184 : Index := 7#32
  let c0_185 : Index := 0#32
  ![v590.toNat, 7, 0]
def k0_off25 (k0_t1 : Fin k0_t1_loop.trips) : Fin 2 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let c64_i32 : BitVec 32 := 64#32
  let v13 : BitVec 32 := Scalar.muli v12 c64_i32
  let v14 : BitVec 32 := v13
  let v652 : Index := Scalar.indexCast v14
  let c0_226 : Index := 0#32
  ![v652.toNat, 0]
def k0_off26 (k0_t1 : Fin k0_t1_loop.trips) : Fin 3 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v654 : Index := Scalar.indexCast v12
  let c0_227 : Index := 0#32
  let c0_228 : Index := 0#32
  ![v654.toNat, 0, 0]
def k0_off27 (k0_t1 : Fin k0_t1_loop.trips) : Fin 4 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v897 : Index := Scalar.indexCast v12
  let c0_261 : Index := 0#32
  let c0_262 : Index := 0#32
  let c0_263 : Index := 0#32
  ![v897.toNat, 0, 0, 0]
def k0_off28 (k0_t1 : Fin k0_t1_loop.trips) : Fin 4 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v900 : Index := Scalar.indexCast v12
  let c1_264 : Index := 1#32
  let c0_265 : Index := 0#32
  let c0_266 : Index := 0#32
  ![v900.toNat, 1, 0, 0]
def k0_off29 (k0_t1 : Fin k0_t1_loop.trips) : Fin 4 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v903 : Index := Scalar.indexCast v12
  let c2_267 : Index := 2#32
  let c0_268 : Index := 0#32
  let c0_269 : Index := 0#32
  ![v903.toNat, 2, 0, 0]
def k0_off30 (k0_t1 : Fin k0_t1_loop.trips) : Fin 4 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v906 : Index := Scalar.indexCast v12
  let c3_270 : Index := 3#32
  let c0_271 : Index := 0#32
  let c0_272 : Index := 0#32
  ![v906.toNat, 3, 0, 0]
def k0_off31 (k0_t1 : Fin k0_t1_loop.trips) : Fin 4 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v909 : Index := Scalar.indexCast v12
  let c4_273 : Index := 4#32
  let c0_274 : Index := 0#32
  let c0_275 : Index := 0#32
  ![v909.toNat, 4, 0, 0]
def k0_off32 (k0_t1 : Fin k0_t1_loop.trips) : Fin 4 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v912 : Index := Scalar.indexCast v12
  let c5_276 : Index := 5#32
  let c0_277 : Index := 0#32
  let c0_278 : Index := 0#32
  ![v912.toNat, 5, 0, 0]
def k0_off33 (k0_t1 : Fin k0_t1_loop.trips) : Fin 4 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v915 : Index := Scalar.indexCast v12
  let c6_279 : Index := 6#32
  let c0_280 : Index := 0#32
  let c0_281 : Index := 0#32
  ![v915.toNat, 6, 0, 0]
def k0_off34 (k0_t1 : Fin k0_t1_loop.trips) : Fin 4 → Nat :=
  let c3_i32 : BitVec 32 := 3#32
  let c0_i32_2 : BitVec 32 := 0#32
  let c1_i32 : BitVec 32 := 1#32
  let arg25 : BitVec 32 := Scf.iv c0_i32_2 c1_i32 k0_t1
  let v12 : BitVec 32 := Scalar.subi c3_i32 arg25
  let v918 : Index := Scalar.indexCast v12
  let c7_282 : Index := 7#32
  let c0_283 : Index := 0#32
  let c0_284 : Index := 0#32
  ![v918.toNat, 7, 0, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_19 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x16x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x8x128x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== DnPreBack.lean ====
abbrev S8192x6656 : Shape := ⟨2, ![8192, 6656]⟩
abbrev S8192x3072 : Shape := ⟨2, ![8192, 3072]⟩
abbrev S8192x128 : Shape := ⟨2, ![8192, 128]⟩
abbrev S4x3072 : Shape := ⟨2, ![4, 3072]⟩
abbrev S1x128 : Shape := ⟨2, ![1, 128]⟩
abbrev S8192x1024 : Shape := ⟨2, ![8192, 1024]⟩
abbrev S256x3072 : Shape := ⟨2, ![256, 3072]⟩
abbrev S256x128 : Shape := ⟨2, ![256, 128]⟩
abbrev S256x1024 : Shape := ⟨2, ![256, 1024]⟩
abbrev S8x3072 : Shape := ⟨2, ![8, 3072]⟩
abbrev S256 : Shape := ⟨1, ![256]⟩
abbrev S256x1 : Shape := ⟨2, ![256, 1]⟩
abbrev S8x128 : Shape := ⟨2, ![8, 128]⟩
abbrev S16x128 : Shape := ⟨2, ![16, 128]⟩
abbrev S128 : Shape := ⟨1, ![128]⟩
abbrev S248x128 : Shape := ⟨2, ![248, 128]⟩
abbrev S256x256 : Shape := ⟨2, ![256, 256]⟩

abbrev nBuf : Space → Nat
  | .hbm => 15
  | .vmem => 25
  | .smem => 0
  | _ => 0

abbrev bufTy : (tb : Table) → Fin (tcTables nBuf tb) → BufTy
  | .hbm, ⟨0, _⟩ => ⟨S8192x6656, .f32⟩
  | .hbm, ⟨1, _⟩ => ⟨S8192x3072, .f32⟩
  | .hbm, ⟨2, _⟩ => ⟨S8192x128, .f32⟩
  | .hbm, ⟨3, _⟩ => ⟨S4x3072, .f32⟩
  | .hbm, ⟨4, _⟩ => ⟨S1x128, .f32⟩
  | .hbm, ⟨5, _⟩ => ⟨S1x128, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x128, .f32⟩
  | .hbm, ⟨10, _⟩ => ⟨S8192x3072, .bf16⟩
  | .hbm, ⟨11, _⟩ => ⟨S8192x128, .bf16⟩
  | .hbm, ⟨12, _⟩ => ⟨S4x3072, .f32⟩
  | .hbm, ⟨13, _⟩ => ⟨S1x128, .f32⟩
  | .hbm, ⟨14, _⟩ => ⟨S1x128, .f32⟩
  | .local _ .vmem, ⟨0, _⟩ => ⟨S256x3072, .f32⟩
  | .local _ .vmem, ⟨1, _⟩ => ⟨S256x3072, .f32⟩
  | .local _ .vmem, ⟨2, _⟩ => ⟨S256x3072, .f32⟩
  | .local _ .vmem, ⟨3, _⟩ => ⟨S256x3072, .f32⟩
  | .local _ .vmem, ⟨4, _⟩ => ⟨S256x128, .f32⟩
  | .local _ .vmem, ⟨5, _⟩ => ⟨S256x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | .local _ .vmem, ⟨17, _⟩ => ⟨S256x3072, .bf16⟩
  | .local _ .vmem, ⟨18, _⟩ => ⟨S256x3072, .bf16⟩
  | .local _ .vmem, ⟨19, _⟩ => ⟨S256x128, .bf16⟩
  | .local _ .vmem, ⟨20, _⟩ => ⟨S256x128, .bf16⟩
  | .local _ .vmem, ⟨21, _⟩ => ⟨S4x3072, .f32⟩
  | .local _ .vmem, ⟨22, _⟩ => ⟨S1x128, .f32⟩
  | .local _ .vmem, ⟨23, _⟩ => ⟨S1x128, .f32⟩
  | .local _ .vmem, ⟨24, _⟩ => ⟨S8x3072, .f32⟩
  | _, _ => ⟨S8192x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== InNorm.lean ====
abbrev S1x8192x2048 : Shape := ⟨3, ![1, 8192, 2048]⟩
abbrev S1x2048 : Shape := ⟨2, ![1, 2048]⟩
abbrev S1x2048x6672 : Shape := ⟨3, ![1, 2048, 6672]⟩
abbrev S1x8192x6672 : Shape := ⟨3, ![1, 8192, 6672]⟩
abbrev S8192x6672 : Shape := ⟨2, ![8192, 6672]⟩
abbrev S2048x6672 : Shape := ⟨2, ![2048, 6672]⟩
abbrev S8192x3072 : Shape := ⟨2, ![8192, 3072]⟩
abbrev S8192x1024 : Shape := ⟨2, ![8192, 1024]⟩
abbrev S8192x1536 : Shape := ⟨2, ![8192, 1536]⟩
abbrev S8192x16 : Shape := ⟨2, ![8192, 16]⟩
abbrev S_ : Shape := ⟨0, ![]⟩
abbrev S8192x128 : Shape := ⟨2, ![8192, 128]⟩
abbrev S2048x4096 : Shape := ⟨2, ![2048, 4096]⟩
abbrev S2048x1536 : Shape := ⟨2, ![2048, 1536]⟩
abbrev S2048x1024 : Shape := ⟨2, ![2048, 1024]⟩
abbrev S2048x6656 : Shape := ⟨2, ![2048, 6656]⟩
abbrev S2048x16 : Shape := ⟨2, ![2048, 16]⟩
abbrev S2048x128 : Shape := ⟨2, ![2048, 128]⟩
abbrev S8192x2048 : Shape := ⟨2, ![8192, 2048]⟩
abbrev S256x3072 : Shape := ⟨2, ![256, 3072]⟩
abbrev S256x1024 : Shape := ⟨2, ![256, 1024]⟩
abbrev S256x1536 : Shape := ⟨2, ![256, 1536]⟩
abbrev S256x128 : Shape := ⟨2, ![256, 128]⟩
abbrev S256x2048 : Shape := ⟨2, ![256, 2048]⟩
abbrev S2048x3072 : Shape := ⟨2, ![2048, 3072]⟩
abbrev S256 : Shape := ⟨1, ![256]⟩
abbrev S256x1 : Shape := ⟨2, ![256, 1]⟩
abbrev S2048 : Shape := ⟨1, ![2048]⟩

abbrev nBuf : Space → Nat
  | .hbm => 29
  | .vmem => 20
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x6672, .f32⟩
  | .hbm, ⟨3, _⟩ => ⟨S1x8192x6672, .f32⟩
  | .hbm, ⟨4, _⟩ => ⟨S1x8192x2048, .f32⟩
  | .hbm, ⟨5, _⟩ => ⟨S8192x6672, .f32⟩
  | .hbm, ⟨6, _⟩ => ⟨S8192x6672, .bf16⟩
  | .hbm, ⟨7, _⟩ => ⟨S2048x6672, .f32⟩
  | .hbm, ⟨8, _⟩ => ⟨S2048x6672, .bf16⟩
  | .hbm, ⟨9, _⟩ => ⟨S8192x3072, .bf16⟩
  | .hbm, ⟨10, _⟩ => ⟨S8192x1024, .bf16⟩
  | .hbm, ⟨11, _⟩ => ⟨S8192x1536, .bf16⟩
  | .hbm, ⟨12, _⟩ => ⟨S8192x1024, .bf16⟩
  | .hbm, ⟨13, _⟩ => ⟨S8192x16, .bf16⟩
  | .hbm, ⟨14, _⟩ => ⟨S_, .i32⟩
  | .hbm, ⟨15, _⟩ => ⟨S_, .bf16⟩
  | .hbm, ⟨16, _⟩ => ⟨S8192x128, .bf16⟩
  | .hbm, ⟨17, _⟩ => ⟨S2048x4096, .bf16⟩
  | .hbm, ⟨18, _⟩ => ⟨S2048x1536, .bf16⟩
  | .hbm, ⟨19, _⟩ => ⟨S2048x1024, .bf16⟩
  | .hbm, ⟨20, _⟩ => ⟨S2048x6656, .bf16⟩
  | .hbm, ⟨21, _⟩ => ⟨S2048x16, .bf16⟩
  | .hbm, ⟨22, _⟩ => ⟨S_, .i32⟩
  | .hbm, ⟨23, _⟩ => ⟨S_, .bf16⟩
  | .hbm, ⟨24, _⟩ => ⟨S2048x128, .bf16⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048, .f32⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x1536, .bf16⟩
  | .local _ .vmem, ⟨5, _⟩ => ⟨S256x1536, .bf16⟩
  | .local _ .vmem, ⟨6, _⟩ => ⟨S256x1024, .bf16⟩
  | .local _ .vmem, ⟨7, _⟩ => ⟨S256x1024, .bf16⟩
  | .local _ .vmem, ⟨8, _⟩ => ⟨S256x128, .bf16⟩
  | .local _ .vmem, ⟨9, _⟩ => ⟨S256x128, .bf16⟩
  | .local _ .vmem, ⟨10, _⟩ => ⟨S2048x6656, .bf16⟩
  | .local _ .vmem, ⟨11, _⟩ => ⟨S2048x128, .bf16⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x6656 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InNormRefIdeal.lean ====
abbrev S1x8192x2048 : Shape := ⟨3, ![1, 8192, 2048]⟩
abbrev S1x2048 : Shape := ⟨2, ![1, 2048]⟩
abbrev S1x2048x6672 : Shape := ⟨3, ![1, 2048, 6672]⟩
abbrev S1x8192x6672 : Shape := ⟨3, ![1, 8192, 6672]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S2048x6672 : Shape := ⟨2, ![2048, 6672]⟩
abbrev S8192 : Shape := ⟨1, ![8192]⟩
abbrev S8192x2048 : Shape := ⟨2, ![8192, 2048]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x6672, .f32⟩
  | .hbm, ⟨3, _⟩ => ⟨S1x8192x6672, .f32⟩
  | .hbm, ⟨4, _⟩ => ⟨S1x8192x2048, .f32⟩
  | .hbm, ⟨5, _⟩ => ⟨S2048, .f32⟩
  | .hbm, ⟨6, _⟩ => ⟨S1x8192x2048, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x2048, .f32⟩
  | .hbm, ⟨22, _⟩ => ⟨S1x8192x2048, .f32⟩
  | .hbm, ⟨23, _⟩ => ⟨S1x1x2048, .f32⟩
  | .hbm, ⟨24, _⟩ => ⟨S1x8192x2048, .f32⟩
  | .hbm, ⟨25, _⟩ => ⟨S1x8192x2048, .f32⟩
  | .hbm, ⟨26, _⟩ => ⟨S2048x6672, .f32⟩
  | .hbm, ⟨27, _⟩ => ⟨S1x8192x6672, .f32⟩
  | .hbm, ⟨28, _⟩ => ⟨S1x8192x2048, .f32⟩
  | .hbm, ⟨29, _⟩ => ⟨S1x8192x2048, .f32⟩
  | .hbm, ⟨30, _⟩ => ⟨S_, .f32⟩
  | .hbm, ⟨31, _⟩ => ⟨S1x2048, .f32⟩
  | .hbm, ⟨32, _⟩ => ⟨S1x1x2048, .f32⟩
  | .hbm, ⟨33, _⟩ => ⟨S1x8192x2048, .f32⟩
  | .hbm, ⟨34, _⟩ => ⟨S1x8192x2048, .f32⟩
  | .hbm, ⟨35, _⟩ => ⟨S_, .f32⟩
  | .hbm, ⟨36, _⟩ => ⟨S2048, .f32⟩
  | .hbm, ⟨37, _⟩ => ⟨S1x8192x2048, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x2048, .f32⟩
  | .hbm, ⟨42, _⟩ => ⟨S1x8192x2048, .f32⟩
  | .hbm, ⟨43, _⟩ => ⟨S1x8192x2048, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x2048, .f32⟩
  | .hbm, ⟨52, _⟩ => ⟨S1x8192x2048, .f32⟩
  | .hbm, ⟨53, _⟩ => ⟨S1x8192x2048, .f32⟩
  | .hbm, ⟨54, _⟩ => ⟨S1x8192x2048, .f32⟩
  | .hbm, ⟨55, _⟩ => ⟨S1x8192x2048, .f32⟩
  | .hbm, ⟨56, _⟩ => ⟨S1x2048, .f32⟩
  | .hbm, ⟨57, _⟩ => ⟨S8192x2048, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== XattnFwd.lean ====
abbrev S1x8192x6672 : Shape := ⟨3, ![1, 8192, 6672]⟩
abbrev S1x256x1024 : Shape := ⟨3, ![1, 256, 1024]⟩
abbrev S8192x6672 : Shape := ⟨2, ![8192, 6672]⟩
abbrev S8192x4096 : Shape := ⟨2, ![8192, 4096]⟩
abbrev S8192x1536 : Shape := ⟨2, ![8192, 1536]⟩
abbrev S8192x1024 : Shape := ⟨2, ![8192, 1024]⟩
abbrev S8192x6656 : Shape := ⟨2, ![8192, 6656]⟩
abbrev S256x1024 : Shape := ⟨2, ![256, 1024]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x6672, .f32⟩
  | .hbm, ⟨1, _⟩ => ⟨S1x256x1024, .f32⟩
  | .hbm, ⟨2, _⟩ => ⟨S8192x6672, .f32⟩
  | .hbm, ⟨3, _⟩ => ⟨S8192x4096, .f32⟩
  | .hbm, ⟨4, _⟩ => ⟨S8192x1536, .f32⟩
  | .hbm, ⟨5, _⟩ => ⟨S8192x1024, .f32⟩
  | .hbm, ⟨6, _⟩ => ⟨S8192x6656, .f32⟩
  | .hbm, ⟨7, _⟩ => ⟨S256x1024, .f32⟩
  | .hbm, ⟨8, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S256x1024, .f32⟩
  | .local _ .vmem, ⟨5, _⟩ => ⟨S512x512, .bf16⟩
  | .local _ .vmem, ⟨6, _⟩ => ⟨S512x512, .bf16⟩
  | _, _ => ⟨S1x8192x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== XattnFwdRefIdeal.lean ====
abbrev S1x8192x6672 : Shape := ⟨3, ![1, 8192, 6672]⟩
abbrev S1x256x1024 : Shape := ⟨3, ![1, 256, 1024]⟩
abbrev S1x8192x1024 : Shape := ⟨3, ![1, 8192, 1024]⟩
abbrev S8192x1024 : Shape := ⟨2, ![8192, 1024]⟩
abbrev S256x1024 : Shape := ⟨2, ![256, 1024]⟩
abbrev S8192x512 : Shape := ⟨2, ![8192, 512]⟩
abbrev S256x512 : Shape := ⟨2, ![256, 512]⟩
abbrev S256x4x128 : Shape := ⟨3, ![256, 4, 128]⟩
abbrev S8192x4x128 : Shape := ⟨3, ![8192, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 44
  | .vmem => 0
  | .smem => 0
  | _ => 0

abbrev bufTy : (tb : Table) → Fin (tcTables nBuf tb) → BufTy
  | .hbm, ⟨0, _⟩ => ⟨S1x8192x6672, .f32⟩
  | .hbm, ⟨1, _⟩ => ⟨S1x256x1024, .f32⟩
  | .hbm, ⟨2, _⟩ => ⟨S1x8192x1024, .f32⟩
  | .hbm, ⟨3, _⟩ => ⟨S8192x1024, .f32⟩
  | .hbm, ⟨4, _⟩ => ⟨S256x1024, .f32⟩
  | .hbm, ⟨5, _⟩ => ⟨S8192x512, .f32⟩
  | .hbm, ⟨6, _⟩ => ⟨S8192x512, .f32⟩
  | .hbm, ⟨7, _⟩ => ⟨S256x512, .f32⟩
  | .hbm, ⟨8, _⟩ => ⟨S256x512, .f32⟩
  | .hbm, ⟨9, _⟩ => ⟨S256x4x128, .f32⟩
  | .hbm, ⟨10, _⟩ => ⟨S256x4x128, .f32⟩
  | .hbm, ⟨11, _⟩ => ⟨S8192x4x128, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S_, .f32⟩
  | .hbm, ⟨19, _⟩ => ⟨S4x8192, .f32⟩
  | .hbm, ⟨20, _⟩ => ⟨S4x8192, .f32⟩
  | .hbm, ⟨21, _⟩ => ⟨S4x8192x1, .f32⟩
  | .hbm, ⟨22, _⟩ => ⟨S4x8192x256, .f32⟩
  | .hbm, ⟨23, _⟩ => ⟨S4x8192x256, .f32⟩
  | .hbm, ⟨24, _⟩ => ⟨S4x8192x256, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x256, .f32⟩
  | .hbm, ⟨29, _⟩ => ⟨S4x8192x256, .f32⟩
  | .hbm, ⟨30, _⟩ => ⟨S4x128x8192, .f32⟩
  | .hbm, ⟨31, _⟩ => ⟨S8192x4x128, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .bf16⟩
  | _, _ => ⟨S1x8192x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== MemKvFwd.lean ====
abbrev S1x256x2048 : Shape := ⟨3, ![1, 256, 2048]⟩
abbrev S1x2048 : Shape := ⟨2, ![1, 2048]⟩
abbrev S1x2048x1024 : Shape := ⟨3, ![1, 2048, 1024]⟩
abbrev S256x2048 : Shape := ⟨2, ![256, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 4
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x1024, .f32⟩
  | .hbm, ⟨3, _⟩ => ⟨S256x2048, .f32⟩
  | .hbm, ⟨4, _⟩ => ⟨S2048x1024, .f32⟩
  | .hbm, ⟨5, _⟩ => ⟨S2048x1024, .bf16⟩
  | .hbm, ⟨6, _⟩ => ⟨S256x1024, .f32⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S256x1024, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== MemKvFwdRefIdeal.lean ====
abbrev S1x256x2048 : Shape := ⟨3, ![1, 256, 2048]⟩
abbrev S1x2048 : Shape := ⟨2, ![1, 2048]⟩
abbrev S1x2048x1024 : Shape := ⟨3, ![1, 2048, 1024]⟩
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S256x1024 : Shape := ⟨2, ![256, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S1x2048x1024, .f32⟩
  | .hbm, ⟨3, _⟩ => ⟨S256x2048, .f32⟩
  | .hbm, ⟨4, _⟩ => ⟨S2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x2048, .f32⟩
  | .hbm, ⟨17, _⟩ => ⟨S256x2048, .f32⟩
  | .hbm, ⟨18, _⟩ => ⟨S1x2048, .f32⟩
  | .hbm, ⟨19, _⟩ => ⟨S256x2048, .f32⟩
  | .hbm, ⟨20, _⟩ => ⟨S256x2048, .f32⟩
  | .hbm, ⟨21, _⟩ => ⟨S2048x1024, .f32⟩
  | .hbm, ⟨22, _⟩ => ⟨S256x1024, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== GmlpFwd.lean ====
abbrev S1x8192x6672 : Shape := ⟨3, ![1, 8192, 6672]⟩
abbrev S1x512 : Shape := ⟨2, ![1, 512]⟩
abbrev S1x4x128x128 : Shape := ⟨4, ![1, 4, 128, 128]⟩
abbrev S1x4x128 : Shape := ⟨3, ![1, 4, 128]⟩
abbrev S8192x6672 : Shape := ⟨2, ![8192, 6672]⟩
abbrev S8192x4096 : Shape := ⟨2, ![8192, 4096]⟩
abbrev S8192x1536 : Shape := ⟨2, ![8192, 1536]⟩
abbrev S8192x1024 : Shape := ⟨2, ![8192, 1024]⟩
abbrev S8192x6656 : Shape := ⟨2, ![8192, 6656]⟩
abbrev S4x128x128 : Shape := ⟨3, ![4, 128, 128]⟩
abbrev S4x128 : Shape := ⟨2, ![4, 128]⟩
abbrev S128x4 : Shape := ⟨2, ![128, 4]⟩
abbrev S8192x512 : Shape := ⟨2, ![8192, 512]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 14
  | .vmem => 12
  | .smem => 0
  | _ => 0

abbrev bufTy : (tb : Table) → Fin (tcTables nBuf tb) → BufTy
  | .hbm, ⟨0, _⟩ => ⟨S1x8192x6672, .f32⟩
  | .hbm, ⟨1, _⟩ => ⟨S1x512, .f32⟩
  | .hbm, ⟨2, _⟩ => ⟨S1x512, .f32⟩
  | .hbm, ⟨3, _⟩ => ⟨S1x4x128x128, .f32⟩
  | .hbm, ⟨4, _⟩ => ⟨S1x4x128, .f32⟩
  | .hbm, ⟨5, _⟩ => ⟨S8192x6672, .f32⟩
  | .hbm, ⟨6, _⟩ => ⟨S8192x4096, .f32⟩
  | .hbm, ⟨7, _⟩ => ⟨S8192x1536, .f32⟩
  | .hbm, ⟨8, _⟩ => ⟨S8192x1024, .f32⟩
  | .hbm, ⟨9, _⟩ => ⟨S8192x6656, .f32⟩
  | .hbm, ⟨10, _⟩ => ⟨S4x128x128, .f32⟩
  | .hbm, ⟨11, _⟩ => ⟨S4x128, .f32⟩
  | .hbm, ⟨12, _⟩ => ⟨S128x4, .f32⟩
  | .hbm, ⟨13, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S4x128x128, .f32⟩
  | .local _ .vmem, ⟨9, _⟩ => ⟨S128x4, .f32⟩
  | .local _ .vmem, ⟨10, _⟩ => ⟨S512x512, .bf16⟩
  | .local _ .vmem, ⟨11, _⟩ => ⟨S512x512, .bf16⟩
  | _, _ => ⟨S1x8192x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GmlpFwdIdeal.lean ====
variable {F : FTy → Type} [FloatOps F] [Named F]
def κ : String → Option EReal := fun
  | "gelu_cubic" => some ((8943 / 200000 : ℝ) : EReal)
  | _ => none
-- ==== GmlpFwdRefIdeal.lean ====
abbrev S1x8192x6672 : Shape := ⟨3, ![1, 8192, 6672]⟩
abbrev S1x512 : Shape := ⟨2, ![1, 512]⟩
abbrev S1x4x128x128 : Shape := ⟨4, ![1, 4, 128, 128]⟩
abbrev S1x4x128 : Shape := ⟨3, ![1, 4, 128]⟩
abbrev S1x8192x1536 : Shape := ⟨3, ![1, 8192, 1536]⟩
abbrev S8192x1536 : Shape := ⟨2, ![8192, 1536]⟩
abbrev S8192x512 : Shape := ⟨2, ![8192, 512]⟩
abbrev S4x128x128 : Shape := ⟨3, ![4, 128, 128]⟩
abbrev S4x128 : Shape := ⟨2, ![4, 128]⟩
abbrev S512 : Shape := ⟨1, ![512]⟩
abbrev S_ : Shape := ⟨0, ![]⟩
abbrev S8192 : Shape := ⟨1, ![8192]⟩
abbrev S8192x1 : Shape := ⟨2, ![8192, 1]⟩
abbrev S64x128x4x128 : Shape := ⟨4, ![64, 128, 4, 128]⟩
abbrev S128x128 : Shape := ⟨2, ![128, 128]⟩
abbrev S1x128x128 : Shape := ⟨3, ![1, 128, 128]⟩
abbrev S4x64x128x128 : Shape := ⟨4, ![4, 64, 128, 128]⟩
abbrev S128x4 : Shape := ⟨2, ![128, 4]⟩
abbrev S1x128x4x1 : Shape := ⟨4, ![1, 128, 4, 1]⟩

abbrev nBuf : Space → Nat
  | .hbm => 116
  | .vmem => 0
  | .smem => 0
  | _ => 0

abbrev bufTy : (tb : Table) → Fin (tcTables nBuf tb) → BufTy
  | .hbm, ⟨0, _⟩ => ⟨S1x8192x6672, .f32⟩
  | .hbm, ⟨1, _⟩ => ⟨S1x512, .f32⟩
  | .hbm, ⟨2, _⟩ => ⟨S1x512, .f32⟩
  | .hbm, ⟨3, _⟩ => ⟨S1x4x128x128, .f32⟩
  | .hbm, ⟨4, _⟩ => ⟨S1x4x128, .f32⟩
  | .hbm, ⟨5, _⟩ => ⟨S1x8192x1536, .f32⟩
  | .hbm, ⟨6, _⟩ => ⟨S8192x1536, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S4x128x128, .f32⟩
  | .hbm, ⟨11, _⟩ => ⟨S4x128, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x512, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x512, .f32⟩
  | .hbm, ⟨72, _⟩ => ⟨S8192x512, .f32⟩
  | .hbm, ⟨73, _⟩ => ⟨S1x512, .f32⟩
  | .hbm, ⟨74, _⟩ => ⟨S8192x512, .f32⟩
  | .hbm, ⟨75, _⟩ => ⟨S8192x512, .f32⟩
  | .hbm, ⟨76, _⟩ => ⟨S1x512, .f32⟩
  | .hbm, ⟨77, _⟩ => ⟨S8192x512, .f32⟩
  | .hbm, ⟨78, _⟩ => ⟨S8192x512, .f32⟩
  | .hbm, ⟨79, _⟩ => ⟨S64x128x4x128, .f32⟩
  | .hbm, ⟨80, _⟩ => ⟨S_, .i1⟩
  | .hbm, ⟨81, _⟩ => ⟨S128x128, .i1⟩
  | .hbm, ⟨82, _⟩ => ⟨S128x128, .i32⟩
  | .hbm, ⟨83, _⟩ => ⟨S_, .i32⟩
  | .hbm, ⟨84, _⟩ => ⟨S128x128, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S_, .i1⟩
  | .hbm, ⟨89, _⟩ => ⟨S128x128, .i1⟩
  | .hbm, ⟨90, _⟩ => ⟨S128x128, .i1⟩
  | .hbm, ⟨91, _⟩ => ⟨S1x128x128, .i1⟩
  | .hbm, ⟨92, _⟩ => ⟨S_, .i32⟩
  | .hbm, ⟨93, _⟩ => ⟨S_, .f32⟩
  | .hbm, ⟨94, _⟩ => ⟨S4x128x128, .i1⟩
  | .hbm, ⟨95, _⟩ => ⟨S4x128x128, .f32⟩
  | .hbm, ⟨96, _⟩ => ⟨S4x128x128, .f32⟩
  | .hbm, ⟨97, _⟩ => ⟨S4x64x128x128, .f32⟩
  | .hbm, ⟨98, _⟩ => ⟨S64x128x4x128, .f32⟩
  | .hbm, ⟨99, _⟩ => ⟨S128x4, .f32⟩
  | .hbm, ⟨100, _⟩ => ⟨S1x128x4x1, .f32⟩
  | .hbm, ⟨101, _⟩ => ⟨S64x128x4x128, .f32⟩
  | .hbm, ⟨102, _⟩ => ⟨S64x128x4x128, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S8192x512, .f32⟩
  | .hbm, ⟨107, _⟩ => ⟨S_, .f32⟩
  | .hbm, ⟨108, _⟩ => ⟨S8192x512, .f32⟩
  | .hbm, ⟨109, _⟩ => ⟨S8192x512, .f32⟩
  | .hbm, ⟨110, _⟩ => ⟨S_, .f32⟩
  | .hbm, ⟨111, _⟩ => ⟨S8192x512, .f32⟩
  | .hbm, ⟨112, _⟩ => ⟨S8192x512, .f32⟩
  | .hbm, ⟨113, _⟩ => ⟨S8192x512, .f32⟩
  | .hbm, ⟨114, _⟩ => ⟨S8192x512, .f32⟩
  | .hbm, ⟨115, _⟩ => ⟨S8192x512, .bf16⟩
  | _, _ => ⟨S1x8192x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c : Ref sig .tc := ⟨.hbm, 80, rfl⟩
abbrev main_v60 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_call2_v5 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩

abbrev nD : Nat := 1
abbrev τ : Topo := Topo.v7x

variable {F : FTy → Type} [FloatOps F]
-- ==== Adam.lean ====
abbrev S8x1x2048 : Shape := ⟨3, ![8, 1, 2048]⟩
abbrev S1x2048 : Shape := ⟨2, ![1, 2048]⟩
abbrev S1x1x2048 : Shape := ⟨3, ![1, 1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S8x1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRefIdeal.lean ====
abbrev S8x1x2048 : Shape := ⟨3, ![8, 1, 2048]⟩
abbrev S1x2048 : Shape := ⟨2, ![1, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S1x2048, .f32⟩
  | .hbm, ⟨32, _⟩ => ⟨S_, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S_, .f32⟩
  | .hbm, ⟨37, _⟩ => ⟨S1x2048, .f32⟩
  | .hbm, ⟨38, _⟩ => ⟨S1x2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== InProj.lean ====
abbrev S1x8192x2048 : Shape := ⟨3, ![1, 8192, 2048]⟩
abbrev S1x2048 : Shape := ⟨2, ![1, 2048]⟩
abbrev S1x2048x6672 : Shape := ⟨3, ![1, 2048, 6672]⟩
abbrev S2048x6672 : Shape := ⟨2, ![2048, 6672]⟩
abbrev S8192x2048 : Shape := ⟨2, ![8192, 2048]⟩
abbrev S2048x4096 : Shape := ⟨2, ![2048, 4096]⟩
abbrev S2048x1536 : Shape := ⟨2, ![2048, 1536]⟩
abbrev S2048x1024 : Shape := ⟨2, ![2048, 1024]⟩
abbrev S2048x6656 : Shape := ⟨2, ![2048, 6656]⟩
abbrev S2048x16 : Shape := ⟨2, ![2048, 16]⟩
abbrev S_ : Shape := ⟨0, ![]⟩
abbrev S2048x128 : Shape := ⟨2, ![2048, 128]⟩
abbrev S8192x6656 : Shape := ⟨2, ![8192, 6656]⟩
abbrev S8192x128 : Shape := ⟨2, ![8192, 128]⟩
abbrev S2048x8192 : Shape := ⟨2, ![2048, 8192]⟩
abbrev S256x2048 : Shape := ⟨2, ![256, 2048]⟩
abbrev S256x6656 : Shape := ⟨2, ![256, 6656]⟩
abbrev S256x128 : Shape := ⟨2, ![256, 128]⟩
abbrev S2048x256 : Shape := ⟨2, ![2048, 256]⟩
abbrev S256 : Shape := ⟨1, ![256]⟩
abbrev S256x1 : Shape := ⟨2, ![256, 1]⟩
abbrev S2048x1664 : Shape := ⟨2, ![2048, 1664]⟩
abbrev S256x1664 : Shape := ⟨2, ![256, 1664]⟩

abbrev nBuf : Space → Nat
  | .hbm => 17
  | .vmem => 11
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x6672, .f32⟩
  | .hbm, ⟨3, _⟩ => ⟨S2048x6672, .f32⟩
  | .hbm, ⟨4, _⟩ => ⟨S2048x6672, .bf16⟩
  | .hbm, ⟨5, _⟩ => ⟨S8192x2048, .f32⟩
  | .hbm, ⟨6, _⟩ => ⟨S2048x4096, .bf16⟩
  | .hbm, ⟨7, _⟩ => ⟨S2048x1536, .bf16⟩
  | .hbm, ⟨8, _⟩ => ⟨S2048x1024, .bf16⟩
  | .hbm, ⟨9, _⟩ => ⟨S2048x6656, .bf16⟩
  | .hbm, ⟨10, _⟩ => ⟨S2048x16, .bf16⟩
  | .hbm, ⟨11, _⟩ => ⟨S_, .i32⟩
  | .hbm, ⟨12, _⟩ => ⟨S_, .bf16⟩
  | .hbm, ⟨13, _⟩ => ⟨S2048x128, .bf16⟩
  | .hbm, ⟨14, _⟩ => ⟨S8192x6656, .f32⟩
  | .hbm, ⟨15, _⟩ => ⟨S8192x128, .f32⟩
  | .hbm, ⟨16, _⟩ => ⟨S2048x8192, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x6656, .bf16⟩
  | .local _ .vmem, ⟨4, _⟩ => ⟨S2048x128, .bf16⟩
  | .local _ .vmem, ⟨5, _⟩ => ⟨S256x6656, .f32⟩
  | .local _ .vmem, ⟨6, _⟩ => ⟨S256x6656, .f32⟩
  | .local _ .vmem, ⟨7, _⟩ => ⟨S256x128, .f32⟩
  | .local _ .vmem, ⟨8, _⟩ => ⟨S256x128, .f32⟩
  | .local _ .vmem, ⟨9, _⟩ => ⟨S2048x256, .bf16⟩
  | .local _ .vmem, ⟨10, _⟩ => ⟨S2048x256, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v9_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x6656 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjRefIdeal.lean ====
abbrev S1x8192x2048 : Shape := ⟨3, ![1, 8192, 2048]⟩
abbrev S1x2048 : Shape := ⟨2, ![1, 2048]⟩
abbrev S1x2048x6672 : Shape := ⟨3, ![1, 2048, 6672]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x6672 : Shape := ⟨2, ![2048, 6672]⟩
abbrev S8192x6672 : Shape := ⟨2, ![8192, 6672]⟩
abbrev S8192x4096 : Shape := ⟨2, ![8192, 4096]⟩
abbrev S8192x1536 : Shape := ⟨2, ![8192, 1536]⟩
abbrev S8192x1024 : Shape := ⟨2, ![8192, 1024]⟩
abbrev S8192x6656 : Shape := ⟨2, ![8192, 6656]⟩
abbrev S8192x16 : Shape := ⟨2, ![8192, 16]⟩
abbrev S8192x128 : Shape := ⟨2, ![8192, 128]⟩
abbrev S2048x8192 : Shape := ⟨2, ![2048, 8192]⟩

abbrev nBuf : Space → Nat
  | .hbm => 33
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x2048, .f32⟩
  | .hbm, ⟨2, _⟩ => ⟨S1x2048x6672, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x6672, .f32⟩
  | .hbm, ⟨22, _⟩ => ⟨S8192x6672, .f32⟩
  | .hbm, ⟨23, _⟩ => ⟨S8192x4096, .f32⟩
  | .hbm, ⟨24, _⟩ => ⟨S8192x1536, .f32⟩
  | .hbm, ⟨25, _⟩ => ⟨S8192x1024, .f32⟩
  | .hbm, ⟨26, _⟩ => ⟨S8192x6656, .f32⟩
  | .hbm, ⟨27, _⟩ => ⟨S8192x16, .f32⟩
  | .hbm, ⟨28, _⟩ => ⟨S_, .i32⟩
  | .hbm, ⟨29, _⟩ => ⟨S_, .f32⟩
  | .hbm, ⟨30, _⟩ => ⟨S8192x128, .f32⟩
  | .hbm, ⟨31, _⟩ => ⟨S2048x8192, .f32⟩
  | .hbm, ⟨32, _⟩ => ⟨S2048x8192, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== OutWeight.lean ====
abbrev S1x8192x2048 : Shape := ⟨3, ![1, 8192, 2048]⟩
abbrev S1x8192x1024 : Shape := ⟨3, ![1, 8192, 1024]⟩
abbrev S8192x1024 : Shape := ⟨2, ![8192, 1024]⟩
abbrev S8192x2048 : Shape := ⟨2, ![8192, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S1x8192x1024, .f32⟩
  | .hbm, ⟨3, _⟩ => ⟨S8192x1024, .f32⟩
  | .hbm, ⟨4, _⟩ => ⟨S8192x1024, .bf16⟩
  | .hbm, ⟨5, _⟩ => ⟨S8192x2048, .f32⟩
  | .hbm, ⟨6, _⟩ => ⟨S8192x2048, .bf16⟩
  | .hbm, ⟨7, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightRefIdeal.lean ====
abbrev S1x8192x2048 : Shape := ⟨3, ![1, 8192, 2048]⟩
abbrev S_ : Shape := ⟨0, ![]⟩
abbrev S1024x2048 : Shape := ⟨2, ![1024, 2048]⟩
abbrev S1x8192x1024 : Shape := ⟨3, ![1, 8192, 1024]⟩
abbrev S8192x1024 : Shape := ⟨2, ![8192, 1024]⟩
abbrev S8192x2048 : Shape := ⟨2, ![8192, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x2048, .f32⟩
  | .hbm, ⟨2, _⟩ => ⟨S_, .f32⟩
  | .hbm, ⟨3, _⟩ => ⟨S1024x2048, .f32⟩
  | .hbm, ⟨4, _⟩ => ⟨S1x8192x1024, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InWeight.lean ====
abbrev S1x8192x2048 : Shape := ⟨3, ![1, 8192, 2048]⟩
abbrev S1x8192x6672 : Shape := ⟨3, ![1, 8192, 6672]⟩
abbrev S8192x2048 : Shape := ⟨2, ![8192, 2048]⟩
abbrev S2048x8192 : Shape := ⟨2, ![2048, 8192]⟩
abbrev S1x8192x3072 : Shape := ⟨3, ![1, 8192, 3072]⟩
abbrev S8192x3072 : Shape := ⟨2, ![8192, 3072]⟩
abbrev S2048x3072 : Shape := ⟨2, ![2048, 3072]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S1x8192x6672, .f32⟩
  | .hbm, ⟨2, _⟩ => ⟨S8192x2048, .f32⟩
  | .hbm, ⟨3, _⟩ => ⟨S2048x8192, .f32⟩
  | .hbm, ⟨4, _⟩ => ⟨S2048x8192, .bf16⟩
  | .hbm, ⟨5, _⟩ => ⟨S1x8192x3072, .f32⟩
  | .hbm, ⟨6, _⟩ => ⟨S8192x3072, .f32⟩
  | .hbm, ⟨7, _⟩ => ⟨S8192x3072, .bf16⟩
  | .hbm, ⟨8, _⟩ => ⟨S2048x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightRefIdeal.lean ====
abbrev S1x8192x2048 : Shape := ⟨3, ![1, 8192, 2048]⟩
abbrev S1x8192x6672 : Shape := ⟨3, ![1, 8192, 6672]⟩
abbrev S_ : Shape := ⟨0, ![]⟩
abbrev S2048x3072 : Shape := ⟨2, ![2048, 3072]⟩
abbrev S8192x2048 : Shape := ⟨2, ![8192, 2048]⟩
abbrev S8192x3072 : Shape := ⟨2, ![8192, 3072]⟩
abbrev S1x8192x3072 : Shape := ⟨3, ![1, 8192, 3072]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S1x8192x6672, .f32⟩
  | .hbm, ⟨2, _⟩ => ⟨S_, .f32⟩
  | .hbm, ⟨3, _⟩ => ⟨S2048x3072, .f32⟩
  | .hbm, ⟨4, _⟩ => ⟨S8192x2048, .f32⟩
  | .hbm, ⟨5, _⟩ => ⟨S8192x3072, .f32⟩
  | .hbm, ⟨6, _⟩ => ⟨S1x8192x3072, .f32⟩
  | .hbm, ⟨7, _⟩ => ⟨S8192x3072, .f32⟩
  | .hbm, ⟨8, _⟩ => ⟨S3072x2048, .f32⟩
  | .hbm, ⟨9, _⟩ => ⟨S2048x3072, .f32⟩
  | .hbm, ⟨10, _⟩ => ⟨S2048x3072, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DnPre.lean ====
abbrev S1x8192x6672 : Shape := ⟨3, ![1, 8192, 6672]⟩
abbrev S1x4x3072 : Shape := ⟨3, ![1, 4, 3072]⟩
abbrev S1x8 : Shape := ⟨2, ![1, 8]⟩
abbrev S1x8192x16 : Shape := ⟨3, ![1, 8192, 16]⟩
abbrev S8192x16 : Shape := ⟨2, ![8192, 16]⟩
abbrev S_ : Shape := ⟨0, ![]⟩
abbrev S8192x128 : Shape := ⟨2, ![8192, 128]⟩
abbrev S8192x6672 : Shape := ⟨2, ![8192, 6672]⟩
abbrev S8192x4096 : Shape := ⟨2, ![8192, 4096]⟩
abbrev S8192x1536 : Shape := ⟨2, ![8192, 1536]⟩
abbrev S8192x1024 : Shape := ⟨2, ![8192, 1024]⟩
abbrev S8192x6656 : Shape := ⟨2, ![8192, 6656]⟩
abbrev S4x3072 : Shape := ⟨2, ![4, 3072]⟩
abbrev S1x128 : Shape := ⟨2, ![1, 128]⟩
abbrev S128x16x64 : Shape := ⟨3, ![128, 16, 64]⟩
abbrev S8192x3072 : Shape := ⟨2, ![8192, 3072]⟩
abbrev S256x3072 : Shape := ⟨2, ![256, 3072]⟩
abbrev S8x3072 : Shape := ⟨2, ![8, 3072]⟩
abbrev S256x128 : Shape := ⟨2, ![256, 128]⟩
abbrev S256x1024 : Shape := ⟨2, ![256, 1024]⟩
abbrev S4x16x64 : Shape := ⟨3, ![4, 16, 64]⟩
abbrev S8x128 : Shape := ⟨2, ![8, 128]⟩
abbrev S16x128 : Shape := ⟨2, ![16, 128]⟩
abbrev S248x128 : Shape := ⟨2, ![248, 128]⟩
abbrev S256 : Shape := ⟨1, ![256]⟩
abbrev S256x1 : Shape := ⟨2, ![256, 1]⟩
abbrev S256x256 : Shape := ⟨2, ![256, 256]⟩
abbrev S64x128 : Shape := ⟨2, ![64, 128]⟩
abbrev S128x64 : Shape := ⟨2, ![128, 64]⟩
abbrev S16x64 : Shape := ⟨2, ![16, 64]⟩
abbrev S1x16x64 : Shape := ⟨3, ![1, 16, 64]⟩

abbrev nBuf : Space → Nat
  | .hbm => 27
  | .vmem => 21
  | .smem => 0
  | _ => 0

abbrev bufTy : (tb : Table) → Fin (tcTables nBuf tb) → BufTy
  | .hbm, ⟨0, _⟩ => ⟨S1x8192x6672, .f32⟩
  | .hbm, ⟨1, _⟩ => ⟨S1x4x3072, .f32⟩
  | .hbm, ⟨2, _⟩ => ⟨S1x8, .f32⟩
  | .hbm, ⟨3, _⟩ => ⟨S1x8, .f32⟩
  | .hbm, ⟨4, _⟩ => ⟨S1x8192x16, .f32⟩
  | .hbm, ⟨5, _⟩ => ⟨S8192x16, .f32⟩
  | .hbm, ⟨6, _⟩ => ⟨S_, .i32⟩
  | .hbm, ⟨7, _⟩ => ⟨S_, .f32⟩
  | .hbm, ⟨8, _⟩ => ⟨S8192x128, .f32⟩
  | .hbm, ⟨9, _⟩ => ⟨S8192x6672, .f32⟩
  | .hbm, ⟨10, _⟩ => ⟨S8192x4096, .f32⟩
  | .hbm, ⟨11, _⟩ => ⟨S8192x1536, .f32⟩
  | .hbm, ⟨12, _⟩ => ⟨S8192x1024, .f32⟩
  | .hbm, ⟨13, _⟩ => ⟨S8192x6656, .f32⟩
  | .hbm, ⟨14, _⟩ => ⟨S4x3072, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x128, .f32⟩
  | .hbm, ⟨25, _⟩ => ⟨S128x16x64, .f32⟩
  | .hbm, ⟨26, _⟩ => ⟨S8192x3072, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S256x128, .f32⟩
  | .local _ .vmem, ⟨5, _⟩ => ⟨S256x128, .f32⟩
  | .local _ .vmem, ⟨6, _⟩ => ⟨S4x3072, .f32⟩
  | .local _ .vmem, ⟨7, _⟩ => ⟨S1x128, .f32⟩
  | .local _ .vmem, ⟨8, _⟩ => ⟨S1x128, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | .local _ .vmem, ⟨17, _⟩ => ⟨S4x16x64, .f32⟩
  | .local _ .vmem, ⟨18, _⟩ => ⟨S4x16x64, .f32⟩
  | .local _ .vmem, ⟨19, _⟩ => ⟨S256x3072, .f32⟩
  | .local _ .vmem, ⟨20, _⟩ => ⟨S256x3072, .f32⟩
  | _, _ => ⟨S1x8192x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== DnPreRefIdeal.lean ====
abbrev S1x8192x6672 : Shape := ⟨3, ![1, 8192, 6672]⟩
abbrev S1x4x3072 : Shape := ⟨3, ![1, 4, 3072]⟩
abbrev S1x8 : Shape := ⟨2, ![1, 8]⟩
abbrev S8192x6672 : Shape := ⟨2, ![8192, 6672]⟩
abbrev S4x3072 : Shape := ⟨2, ![4, 3072]⟩
abbrev S8192x3072 : Shape := ⟨2, ![8192, 3072]⟩
abbrev S8192x8 : Shape := ⟨2, ![8192, 8]⟩
abbrev S_ : Shape := ⟨0, ![]⟩
abbrev S8195x3072 : Shape := ⟨2, ![8195, 3072]⟩
abbrev S1x3072 : Shape := ⟨2, ![1, 3072]⟩
abbrev S3072 : Shape := ⟨1, ![3072]⟩
abbrev S8192x1024 : Shape := ⟨2, ![8192, 1024]⟩
abbrev S8192x8x128 : Shape := ⟨3, ![8192, 8, 128]⟩
abbrev S8192x8x1 : Shape := ⟨3, ![8192, 8, 1]⟩
abbrev S8 : Shape := ⟨1, ![8]⟩
abbrev S128x64x8 : Shape := ⟨3, ![128, 64, 8]⟩
abbrev S8192x16 : Shape := ⟨2, ![8192, 16]⟩
abbrev S8192x128 : Shape := ⟨2, ![8192, 128]⟩
abbrev S128x64x16 : Shape := ⟨3, ![128, 64, 16]⟩
abbrev S128x16x64 : Shape := ⟨3, ![128, 16, 64]⟩

abbrev nBuf : Space → Nat
  | .hbm => 124
  | .vmem => 0
  | .smem => 0
  | _ => 0

abbrev bufTy : (tb : Table) → Fin (tcTables nBuf tb) → BufTy
  | .hbm, ⟨0, _⟩ => ⟨S1x8192x6672, .f32⟩
  | .hbm, ⟨1, _⟩ => ⟨S1x4x3072, .f32⟩
  | .hbm, ⟨2, _⟩ => ⟨S1x8, .f32⟩
  | .hbm, ⟨3, _⟩ => ⟨S1x8, .f32⟩
  | .hbm, ⟨4, _⟩ => ⟨S8192x6672, .f32⟩
  | .hbm, ⟨5, _⟩ => ⟨S4x3072, .f32⟩
  | .hbm, ⟨6, _⟩ => ⟨S8192x3072, .f32⟩
  | .hbm, ⟨7, _⟩ => ⟨S8192x8, .f32⟩
  | .hbm, ⟨8, _⟩ => ⟨S8192x8, .f32⟩
  | .hbm, ⟨9, _⟩ => ⟨S_, .i32⟩
  | .hbm, ⟨10, _⟩ => ⟨S_, .f32⟩
  | .hbm, ⟨11, _⟩ => ⟨S8195x3072, .f32⟩
  | .hbm, ⟨12, _⟩ => ⟨S1x3072, .f32⟩
  | .hbm, ⟨13, _⟩ => ⟨S3072, .f32⟩
  | .hbm, ⟨14, _⟩ => ⟨S8192x3072, .f32⟩
  | .hbm, ⟨15, _⟩ => ⟨S1x3072, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S1x3072, .f32⟩
  | .hbm, ⟨22, _⟩ => ⟨S3072, .f32⟩
  | .hbm, ⟨23, _⟩ => ⟨S8192x3072, .f32⟩
  | .hbm, ⟨24, _⟩ => ⟨S1x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S1x3072, .f32⟩
  | .hbm, ⟨29, _⟩ => ⟨S3072, .f32⟩
  | .hbm, ⟨30, _⟩ => ⟨S8192x3072, .f32⟩
  | .hbm, ⟨31, _⟩ => ⟨S1x3072, .f32⟩
  | .hbm, ⟨32, _⟩ => ⟨S8192x3072, .f32⟩
  | .hbm, ⟨33, _⟩ => ⟨S8192x3072, .f32⟩
  | .hbm, ⟨34, _⟩ => ⟨S8192x3072, .f32⟩
  | .hbm, ⟨35, _⟩ => ⟨S1x3072, .f32⟩
  | .hbm, ⟨36, _⟩ => ⟨S3072, .f32⟩
  | .hbm, ⟨37, _⟩ => ⟨S8192x3072, .f32⟩
  | .hbm, ⟨38, _⟩ => ⟨S1x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S_, .f32⟩
  | .hbm, ⟨45, _⟩ => ⟨S8192x3072, .f32⟩
  | .hbm, ⟨46, _⟩ => ⟨S8192x3072, .f32⟩
  | .hbm, ⟨47, _⟩ => ⟨S_, .f32⟩
  | .hbm, ⟨48, _⟩ => ⟨S8192x3072, .f32⟩
  | .hbm, ⟨49, _⟩ => ⟨S8192x3072, .f32⟩
  | .hbm, ⟨50, _⟩ => ⟨S8192x3072, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x8x128, .f32⟩
  | .hbm, ⟨55, _⟩ => ⟨S8192x8x128, .f32⟩
  | .hbm, ⟨56, _⟩ => ⟨S_, .f32⟩
  | .hbm, ⟨57, _⟩ => ⟨S8192x8, .f32⟩
  | .hbm, ⟨58, _⟩ => ⟨S8192x8x1, .f32⟩
  | .hbm, ⟨59, _⟩ => ⟨S_, .f32⟩
  | .hbm, ⟨60, _⟩ => ⟨S8192x8x1, .f32⟩
  | .hbm, ⟨61, _⟩ => ⟨S8192x8x1, .f32⟩
  | .hbm, ⟨62, _⟩ => ⟨S8192x8x1, .f32⟩
  | .hbm, ⟨63, _⟩ => ⟨S8192x8x128, .f32⟩
  | .hbm, ⟨64, _⟩ => ⟨S8192x8x128, .f32⟩
  | .hbm, ⟨65, _⟩ => ⟨S_, .f32⟩
  | .hbm, ⟨66, _⟩ => ⟨S8192x8x128, .f32⟩
  | .hbm, ⟨67, _⟩ => ⟨S8192x8x128, .f32⟩
  | .hbm, ⟨68, _⟩ => ⟨S8192x8x128, .f32⟩
  | .hbm, ⟨69, _⟩ => ⟨S8192x8x128, .f32⟩
  | .hbm, ⟨70, _⟩ => ⟨S_, .f32⟩
  | .hbm, ⟨71, _⟩ => ⟨S8192x8, .f32⟩
  | .hbm, ⟨72, _⟩ => ⟨S8192x8x1, .f32⟩
  | .hbm, ⟨73, _⟩ => ⟨S_, .f32⟩
  | .hbm, ⟨74, _⟩ => ⟨S8192x8x1, .f32⟩
  | .hbm, ⟨75, _⟩ => ⟨S8192x8x1, .f32⟩
  | .hbm, ⟨76, _⟩ => ⟨S8192x8x1, .f32⟩
  | .hbm, ⟨77, _⟩ => ⟨S8192x8x128, .f32⟩
  | .hbm, ⟨78, _⟩ => ⟨S8192x8x128, .f32⟩
  | .hbm, ⟨79, _⟩ => ⟨S8, .f32⟩
  | .hbm, ⟨80, _⟩ => ⟨S8, .f32⟩
  | .hbm, ⟨81, _⟩ => ⟨S8, .f32⟩
  | .hbm, ⟨82, _⟩ => ⟨S8, .f32⟩
  | .hbm, ⟨83, _⟩ => ⟨S1x8, .f32⟩
  | .hbm, ⟨84, _⟩ => ⟨S8192x8, .f32⟩
  | .hbm, ⟨85, _⟩ => ⟨S8192x8, .f32⟩
  | .hbm, ⟨86, _⟩ => ⟨S_, .f32⟩
  | .hbm, ⟨87, _⟩ => ⟨S8192x8, .f32⟩
  | .hbm, ⟨88, _⟩ => ⟨S8192x8, .f32⟩
  | .hbm, ⟨89, _⟩ => ⟨S8192x8, .f32⟩
  | .hbm, ⟨90, _⟩ => ⟨S8192x8, .f32⟩
  | .hbm, ⟨91, _⟩ => ⟨S8192x8, .i1⟩
  | .hbm, ⟨92, _⟩ => ⟨S8192x8, .f32⟩
  | .hbm, ⟨93, _⟩ => ⟨S8192x8, .f32⟩
  | .hbm, ⟨94, _⟩ => ⟨S8192x8, .f32⟩
  | .hbm, ⟨95, _⟩ => ⟨S8192x8, .f32⟩
  | .hbm, ⟨96, _⟩ => ⟨S8192x8, .f32⟩
  | .hbm, ⟨97, _⟩ => ⟨S8192x8, .f32⟩
  | .hbm, ⟨98, _⟩ => ⟨S8192x8, .f32⟩
  | .hbm, ⟨99, _⟩ => ⟨S8192x8, .f32⟩
  | .hbm, ⟨100, _⟩ => ⟨S1x8, .f32⟩
  | .hbm, ⟨101, _⟩ => ⟨S8192x8, .f32⟩
  | .hbm, ⟨102, _⟩ => ⟨S8192x8, .f32⟩
  | .hbm, ⟨103, _⟩ => ⟨S8192x8, .f32⟩
  | .hbm, ⟨104, _⟩ => ⟨S8192x8, .f32⟩
  | .hbm, ⟨105, _⟩ => ⟨S_, .f32⟩
  | .hbm, ⟨106, _⟩ => ⟨S8192x8, .f32⟩
  | .hbm, ⟨107, _⟩ => ⟨S8192x8, .f32⟩
  | .hbm, ⟨108, _⟩ => ⟨S_, .f32⟩
  | .hbm, ⟨109, _⟩ => ⟨S8192x8, .f32⟩
  | .hbm, ⟨110, _⟩ => ⟨S8192x8, .f32⟩
  | .hbm, ⟨111, _⟩ => ⟨S128x64x8, .f32⟩
  | .hbm, ⟨112, _⟩ => ⟨S_, .f32⟩
  | .hbm, ⟨113, _⟩ => ⟨S_, .f32⟩
  | .hbm, ⟨114, _⟩ => ⟨S128x64x8, .f32⟩
  | .hbm, ⟨115, _⟩ => ⟨S8192x8, .f32⟩
  | .hbm, ⟨116, _⟩ => ⟨S8192x16, .f32⟩
  | .hbm, ⟨117, _⟩ => ⟨S8192x1024, .f32⟩
  | .hbm, ⟨118, _⟩ => ⟨S8192x1024, .f32⟩
  | .hbm, ⟨119, _⟩ => ⟨S_, .i32⟩
  | .hbm, ⟨120, _⟩ => ⟨S_, .f32⟩
  | .hbm, ⟨121, _⟩ => ⟨S8192x128, .f32⟩
  | .hbm, ⟨122, _⟩ => ⟨S128x64x16, .f32⟩
  | .hbm, ⟨123, _⟩ => ⟨S128x16x64, .f32⟩
  | _, _ => ⟨S1x8192x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_0 : Ref sig .tc := ⟨.hbm, 56, rfl⟩
abbrev main_v41 : Ref sig .tc := ⟨.hbm, 57, rfl⟩
abbrev main_v42 : Ref sig .tc := ⟨.hbm, 58, rfl⟩
abbrev main_cst_1 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_2 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_5 : Ref sig .tc := ⟨.hbm, 105, rfl⟩
abbrev main_v72 : Ref sig .tc := ⟨.hbm, 106, rfl⟩
abbrev main_v73 : Ref sig .tc := ⟨.hbm, 107, rfl⟩
abbrev main_cst_6 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call3_call0_cst : Ref sig .tc := ⟨.hbm, 112, rfl⟩
abbrev main_call3_call0_v0 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_7 : Ref sig .tc := ⟨.hbm, 119, rfl⟩
abbrev main_call4_v0 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]
-- ==== Proof.MemKvValue.lean ====
/-
  The gradient of the memory tokens' projection and norm (`memkv_bwd`): what the kernel's one point leaves in its two
  result arrays, and that it is what differentiating the reference's own lines gives.
-/
module

public import proofs.«01_k».proof.Proof.Gen.MemKvIdeal.Value
public import proofs.«01_k».proof.Proof.Gen.MemKvRefIdeal.Read
public import Idealize.ShloMosaic.Lib.Pointwise

@[expose] public section

set_option maxRecDepth 16384

noncomputable section

namespace Cert.MemKvIdeal.Value

open Cert.MemKvIdeal Cert.MemKvIdeal.Gen Idealize.ShloMosaic Idealize.ShloMosaic.TcCoe Idealize.SL.Sem
open Idealize.ShloMosaic.Pipeline (Dat)

theorem offsets_zero : (![0, 0] : Fin 2 → Nat) = fun _ => 0 := funext fun a => by fin_cases a <;> rfl

open Cert.MemKvRefIdeal.Read in
/-- The kernel's gradient of the weight is the reference's: the normed tokens, transposed, times the cotangent. -/
theorem weight_eq (mem : Vec Ideal S1x256x2048 .f32) (g : Vec Ideal S1x2048 .f32) (w : Vec Ideal S2048x1024 .bf16) (dkv : Vec Ideal S1x256x1024 .f32) :
    out0_4 (shapeCast S256x2048 mem shapeCasts_S1x256x2048_S256x2048) g w (shapeCast S256x1024 dkv shapeCasts_S1x256x1024_S256x1024)
      = val_main_v27 mem g dkv := by
  funext j
  idx_vars j
  unfold out0_4
  rw [View.canon_unit_zero offsets_zero]
  pointwise [k0_pay3, k0_pay1, k0_pay2, val_main_v27, val_main_v21, val_main_v19, val_main_v18, val_main_v17, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1]
  exact Finset.sum_congr rfl fun k _ => mul_comm _ _

open Cert.MemKvRefIdeal.Read in
/-- The kernel's gradient of the norm's scale is the reference's. -/
theorem scale_eq (mem : Vec Ideal S1x256x2048 .f32) (g : Vec Ideal S1x2048 .f32) (w : Vec Ideal S1x2048x1024 .f32) (dkv : Vec Ideal S1x256x1024 .f32) :
    out0_5 (shapeCast S256x2048 mem shapeCasts_S1x256x2048_S256x2048) g
        (truncf (F := Ideal) .bf16 (shapeCast S2048x1024 w shapeCasts_S1x2048x1024_S2048x1024) bitsLt_bf16_f32) (shapeCast S256x1024 dkv shapeCasts_S1x256x1024_S256x1024)
      = val_main_v26 mem w dkv := by
  funext j
  idx_vars j
  unfold out0_5
  rw [View.canon_unit_zero offsets_zero]
  pointwise [k0_pay4, k0_pay1, k0_pay2, val_main_v26, val_main_v25, val_main_v24, val_main_v23, val_main_v22, val_main_v20, val_main_v17, val_main_v15, val_main_v11,
    val_main_v10, val_main_v9, val_main_v8, val_main_v7, val_main_v6, val_main_v5, val_main_v4, val_main_v3, val_main_v2, val_main_v0,
    val_main_cst, val_main_cst_0, val_main_cst_1, val_main_cst_2, val_main_cst_3]
  rw [Fin.sum_univ_one]
  exact Finset.sum_congr rfl fun k _ => mul_comm _ _

/-! ## The two result arrays after the run -/

variable (m : (ℓ : Loc nD τ sig) → Buf (Elt Ideal) ℓ) (ρ : Dev nD → PrngReg)

theorem tokens_entry (c : Dev nD) : V m c main_v0 = shapeCast S256x2048 (m ((c : Thread nD τ).loc main_arg0)) shapeCasts_S1x256x2048_S256x2048 := by
  unfold V hostOps0
  after_results_simp <;> rfl

theorem weight_entry (c : Dev nD) :
    V m c main_v2 = truncf (F := Ideal) .bf16 (shapeCast S2048x1024 (m ((c : Thread nD τ).loc main_arg2) : Vec Ideal S1x2048x1024 .f32) shapeCasts_S1x2048x1024_S2048x1024) bitsLt_bf16_f32 := by
  unfold V hostOps0
  after_results_simp <;> rfl

theorem cotangent_entry (c : Dev nD) : V m c main_v3 = shapeCast S256x1024 (m ((c : Thread nD τ).loc main_arg3)) shapeCasts_S1x256x1024_S256x1024 := by
  unfold V hostOps0
  after_results_simp <;> rfl

theorem block0 (c : Dev nD) : iblk m c 0 t0_0 = V m c main_v0 :=
  Memref.read_access_unit_zero (Elt Ideal) main_v0 (funext fun a => Nat.zero_mul _) (fun a => by simp) _

theorem block1 (c : Dev nD) : iblk m c 1 t0_0 = V m c main_arg1 :=
  Memref.read_access_unit_zero (Elt Ideal) main_arg1 (funext fun a => Nat.zero_mul _) (fun a => by simp) _

theorem block2 (c : Dev nD) : iblk m c 2 t0_0 = V m c main_v2 :=
  Memref.read_access_unit_zero (Elt Ideal) main_v2 (funext fun a => Nat.zero_mul _) (fun a => by simp) _

theorem block3 (c : Dev nD) : iblk m c 3 t0_0 = V m c main_v3 :=
  Memref.read_access_unit_zero (Elt Ideal) main_v3 (funext fun a => Nat.zero_mul _) (fun a => by simp) _

theorem weight_final (c : Dev nD) : (dats m 0 c).arrAt 4 cfg0.N
    = Cert.MemKvRefIdeal.Read.val_main_v27 (m ((c : Thread nD τ).loc main_arg0)) (m ((c : Thread nD τ).loc main_arg1)) (m ((c : Thread nD τ).loc main_arg3)) := by
  refine Eq.trans ?_ (Eq.trans (blocks4 m c t0_0 (flush0_4 _)) ?_)
  · exact (Memref.read_access_unit_zero (Elt Ideal) main_v4_0 (funext fun a => Nat.zero_mul _) (fun a => by simp) _).symm
  rw [flushed4, ← weight_eq _ _ (V m c main_v2), ← tokens_entry, ← cotangent_entry, ← V_main_arg1 m c]
  exact congrArg _ (congr (congr (congr (congrArg out0_4 (block0 m c)) (block1 m c)) (block2 m c)) (block3 m c))

theorem scale_final (c : Dev nD) : (dats m 0 c).arrAt 5 cfg0.N
    = Cert.MemKvRefIdeal.Read.val_main_v26 (m ((c : Thread nD τ).loc main_arg0)) (m ((c : Thread nD τ).loc main_arg2)) (m ((c : Thread nD τ).loc main_arg3)) := by
  refine Eq.trans ?_ (Eq.trans (blocks5 m c t0_0 (flush0_5 _)) ?_)
  · exact (Memref.read_access_unit_zero (Elt Ideal) main_v4_1 (funext fun a => Nat.zero_mul _) (fun a => by simp) _).symm
  rw [flushed5, ← scale_eq _ (m ((c : Thread nD τ).loc main_arg1)), ← tokens_entry, ← cotangent_entry, ← weight_entry, ← V_main_arg1 m c]
  exact congrArg _ (congr (congr (congr (congrArg out0_5 (block0 m c)) (block1 m c)) (block2 m c)) (block3 m c))

end Cert.MemKvIdeal.Value

end
-- ==== Proof.MemKvClaims.lean ====
/-
  The claims about the memory tokens' projection and norm, backward (`MemKv`, its idealization and its reference).
-/
module

public import proofs.«01_k».proof.Defs
public import proofs.«01_k».proof.Proof.Gen.MemKv
public import proofs.«01_k».proof.Proof.Gen.MemKv.Frame
public import proofs.«01_k».proof.Proof.Gen.MemKvIdeal
public import proofs.«01_k».proof.Proof.Gen.MemKvRefIdeal
public import proofs.«01_k».proof.Proof.MemKvValue
public import Idealize.ShloMosaic.Lib.Quiescent

@[expose] public section

noncomputable section

namespace Cert.Proof

open Idealize.ShloMosaic Idealize.SL.Sem

theorem memkv_ref_quiescent : Cert.quiescent_MemKvRefIdeal := fun m ρ _ =>
  (θ_run Cert.MemKvRefIdeal.defs _ _).mono (fun r h => ⟨fun c => (h c).2.2, sem_eq_zero_of_no_sems (by decide) r.2⟩)
    (Cert.MemKvRefIdeal.Value.run (F := Ideal) m ρ)

theorem memkv_algebraic : Cert.algebraic_MemKvIdeal_MemKvRefIdeal := by
  intro m g m' g' _ hagree
  refine ⟨_, _, Cert.MemKvIdeal.Value.run_blocks (F := Ideal) m g, ?_⟩
  refine (θ_run Cert.MemKvRefIdeal.defs _ _).mono (fun r h c => ?_) (Cert.MemKvRefIdeal.Value.run (F := Ideal) m' g')
  obtain ⟨h0, h1, h2, h3⟩ := hagree c
  obtain ⟨hw, hg, hargs⟩ := h c
  rw [h0, h1, h3] at hw
  rw [h0, h2, h3] at hg
  exact ⟨hw.trans (Cert.MemKvIdeal.Value.weight_final m c).symm, hg.trans (Cert.MemKvIdeal.Value.scale_final m c).symm, hargs⟩

end Cert.Proof

end
-- ==== Proof.Extended.lean ====
/-
  Extended reals that are real numbers: sums, products, quotients and exponentials of them are real numbers again,
  a finite maximum of them is one, and an argument array that passes `|x| < ∞` everywhere holds nothing else.
-/
module

public import Idealize.ShloMosaic.Lib.IdealHost
public import Idealize.ShloMosaic.Lib.WordArith
public import Idealize.ShloMosaic.PureOps.Reduce

@[expose] public section

noncomputable section

namespace Cert.Extended

open Idealize.ShloMosaic
open scoped BigOperators

/-- `x` is a real number, neither infinity. -/
def IsReal (x : EReal) : Prop := ∃ r : ℝ, (r : EReal) = x

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_coe (r : ℝ) : IsReal (r : EReal) := ⟨r, rfl⟩

theorem IsReal.add {x y : EReal} : IsReal x → IsReal y → IsReal (x + y) := by
  rintro ⟨a, rfl⟩ ⟨b, rfl⟩; exact ⟨a + b, EReal.coe_add a b⟩

theorem IsReal.sub {x y : EReal} : IsReal x → IsReal y → IsReal (x - y) := by
  rintro ⟨a, rfl⟩ ⟨b, rfl⟩; exact ⟨a - b, EReal.coe_sub a b⟩

theorem IsReal.mul {x y : EReal} : IsReal x → IsReal y → IsReal (x * y) := by
  rintro ⟨a, rfl⟩ ⟨b, rfl⟩; exact ⟨a * b, EReal.coe_mul a b⟩

theorem IsReal.neg {x : EReal} : IsReal x → IsReal (-x) := by
  rintro ⟨a, rfl⟩; exact ⟨-a, EReal.coe_neg a⟩

theorem IsReal.sum {ι : Type*} {s : Finset ι} {f : ι → EReal} (h : ∀ i, IsReal (f i)) : IsReal (∑ i ∈ s, f i) := by
  choose a ha using h
  exact ⟨∑ i ∈ s, a i, by rw [coe_sum]; exact Finset.sum_congr rfl fun i _ => ha i⟩

theorem IsReal.logistic {x : EReal} : IsReal x → IsReal (Ideal.logistic x) := by
  rintro ⟨a, rfl⟩; rw [Ideal.logistic_coe]; exact isReal_coe _

theorem IsReal.exp {x : EReal} : IsReal x → IsReal (Ideal.exp x) := by
  rintro ⟨a, rfl⟩; exact isReal_coe _

theorem isReal_of_bounds {x : EReal} (h₁ : x ≠ ⊥) (h₂ : x ≠ ⊤) : IsReal x :=
  ⟨x.toReal, EReal.coe_toReal h₂ h₁⟩

/-- The maximum of a nonempty finite family of real numbers, started from `-∞`, is a real number. -/
theorem isReal_fold_max {ι : Type*} (s : Finset ι) (hs : s.Nonempty) (f : ι → EReal) (h : ∀ i, IsReal (f i)) :
    IsReal (s.fold max ⊥ f) := by
  classical
  have key : ∀ t : Finset ι, t.fold max ⊥ f = ⊥ ∧ t = ∅ ∨ IsReal (t.fold max ⊥ f) := by
    intro t
    induction t using Finset.induction_on with
    | empty => exact .inl ⟨rfl, rfl⟩
    | insert a t ha ih =>
      right
      rw [Finset.fold_insert ha]
      rcases ih with ⟨e, _⟩ | e
      · rw [e, max_bot_right]; exact h a
      · rcases max_choice (f a) (t.fold max ⊥ f) with e' | e' <;> rw [e']
        · exact h a
        · exact e
  rcases key s with ⟨_, e⟩ | e
  · exact absurd e hs.ne_empty
  · exact e

/-- The word of `-∞`. -/
theorem ofBits_neg_inf : Ideal.ofBits .f32 0xFF800000#32 = ⊥ := by
  simp only [Ideal.ofBits, Ideal.ieee]
  rw [if_pos (by decide), if_pos (by decide), if_pos (by decide)]

/-- The word of `∞`. -/
theorem ofBits_inf : Ideal.ofBits .f32 0x7F800000#32 = ⊤ := by
  simp only [Ideal.ofBits, Ideal.ieee]
  rw [if_pos (by decide), if_pos (by decide), if_neg (by decide)]

/-- A word whose exponent is not all ones is a real number. -/
theorem isReal_ofBits (b : BitVec 32) (h : (b.extractLsb' 23 8).toNat ≠ 2 ^ 8 - 1) : IsReal (Ideal.ofBits .f32 b) := by
  simp only [Ideal.ofBits, Ideal.ieee]
  rw [if_neg h]
  split <;> exact isReal_coe _

/-- `|x| < ∞` says that `x` is a real number. -/
theorem isReal_of_abs_lt {x : EReal} (h : Ideal.cmp .olt (max x (-x)) ⊤ = 1#1) : IsReal x := by
  simp only [Ideal.cmp, WordArith.ofBool_eq_one_iff, decide_eq_true_eq] at h
  refine isReal_of_bounds ?_ ?_ <;> rintro rfl <;> simp at h

instance : Std.Commutative (IntOp.andi (w := 1)) := ⟨by decide⟩
instance : Std.Associative (IntOp.andi (w := 1)) := ⟨by decide⟩

/-- Where the conjunction over an array is true, so is every element that enters it. -/
theorem forall_of_reduce_andi {s t u : Shape} {axes : List (Fin s.rank)} (x : IVec s 1) (init : u.Idx → BitVec 1)
    (h : s.ReducesTo axes t) (hu : 0 < u.numel) (j : t.Idx) (he : Host.reduce IntOp.andi x init h hu j = 1#1)
    (i : s.Idx) (hi : h.drop i = j) : x i = 1#1 := by
  classical
  rw [Host.reduce_eq_fold] at he
  have key : ∀ (S : Finset s.Idx) (b : BitVec 1), S.fold IntOp.andi b x = 1#1 → ∀ k ∈ S, x k = 1#1 := by
    intro S b
    induction S using Finset.induction_on with
    | empty => intro _ k hk; simp at hk
    | insert a S ha ih =>
      intro hS k hk
      rw [Finset.fold_insert ha] at hS
      have both : ∀ p q : BitVec 1, IntOp.andi p q = 1#1 → p = 1#1 ∧ q = 1#1 := by decide
      obtain ⟨h₁, h₂⟩ := both _ _ hS
      rcases Finset.mem_insert.mp hk with rfl | hk
      · exact h₁
      · exact ih h₂ k hk
  exact key _ _ he i (by simp [hi])

end Cert.Extended

end
-- ==== Proof.AttendRows.lean ====
/-
  Softmax attention of one query row against a memory of `256` keys and values, gated by `silu`, and its gradient, as
  functions of the row's numbers alone; and the one identity between the two ways of writing the gradient of the scores,
  `p * (g - sum (g * p))` and `(g / Z - sum (g / Z ^ 2 * e)) * e`.
-/
module

public import proofs.«01_k».proof.Proof.Extended

@[expose] public section

noncomputable section

namespace Cert.Attend

open Idealize.ShloMosaic Cert.Extended
open scoped BigOperators

/-- The reciprocal square root of the head width, as it is rounded. -/
def scale : EReal := Ideal.ofBits .f32 1035273459#32

/-- The scores of a query row. -/
def score (q : Fin 128 → EReal) (k : Fin 256 → Fin 128 → EReal) (j : Fin 256) : EReal := (∑ d, q d * k j d) * scale

/-- The greatest score. -/
def top (s : Fin 256 → EReal) : EReal := Finset.fold max (Ideal.ofBits FTy.f32 4286578688#32) s Finset.univ

def weight (s : Fin 256 → EReal) (j : Fin 256) : EReal := Ideal.exp (s j - top s)

def mass (s : Fin 256 → EReal) : EReal := ∑ j, weight s j

/-- The attention probabilities of a row of scores. -/
def prob (s : Fin 256 → EReal) (j : Fin 256) : EReal := Ideal.div (weight s j) (mass s)

/-- `silu`. -/
def gate (z : EReal) : EReal := z * Ideal.logistic z

/-- The derivative of `silu`. -/
def gateSlope (z : EReal) : EReal := Ideal.logistic z * (1 + z * (1 - Ideal.logistic z))

/-- The gradient that reaches probability `j` from the gated output. -/
def probGrad (z d : Fin 128 → EReal) (v : Fin 256 → Fin 128 → EReal) (j : Fin 256) : EReal :=
  ∑ l, d l * gate (z l) * v j l

/-- The gradient of the scores, before the scale, through the softmax. -/
def scoreGrad (s g : Fin 256 → EReal) (j : Fin 256) : EReal := prob s j * (g j - ∑ x, g x * prob s x) * scale

variable (q z d : Fin 128 → EReal) (k v : Fin 256 → Fin 128 → EReal)

/-- What flows back into a row's score `j` times the key. -/
def rowGrad (j : Fin 256) : EReal := scoreGrad (score q k) (probGrad z d v) j

/-- The gradient of the query. -/
def queryGrad (l : Fin 128) : EReal := ∑ j, rowGrad q z d k v j * k j l

/-- The gradient of the gate's argument. -/
def gateGrad (l : Fin 128) : EReal := d l * (∑ j, prob (score q k) j * v j l) * gateSlope (z l)

/-- The row's part of the gradient of key `j`. -/
def keyPart (j : Fin 256) (l : Fin 128) : EReal := rowGrad q z d k v j * q l

/-- The row's part of the gradient of value `j`. -/
def valuePart (j : Fin 256) (l : Fin 128) : EReal := prob (score q k) j * (d l * gate (z l))

theorem isReal_scale : IsReal scale := isReal_ofBits _ (by decide)

theorem isReal_top {s : Fin 256 → EReal} (h : ∀ j, IsReal (s j)) : IsReal (top s) := by
  have e : top s = Finset.fold max ⊥ s Finset.univ := congrArg (fun b => Finset.fold max b s Finset.univ) ofBits_neg_inf
  rw [e]
  exact isReal_fold_max _ ⟨0, Finset.mem_univ _⟩ s h

theorem isReal_score {q : Fin 128 → EReal} {k : Fin 256 → Fin 128 → EReal} (hq : ∀ l, IsReal (q l))
    (hk : ∀ j l, IsReal (k j l)) (j : Fin 256) : IsReal (score q k j) :=
  (IsReal.sum fun l => (hq l).mul (hk j l)).mul isReal_scale

theorem isReal_gate {x : EReal} (h : IsReal x) : IsReal (gate x) := h.mul h.logistic

theorem isReal_probGrad {z d : Fin 128 → EReal} {v : Fin 256 → Fin 128 → EReal} (hz : ∀ l, IsReal (z l))
    (hd : ∀ l, IsReal (d l)) (hv : ∀ j l, IsReal (v j l)) (j : Fin 256) : IsReal (probGrad z d v j) :=
  IsReal.sum fun l => ((hd l).mul (isReal_gate (hz l))).mul (hv j l)

/-- The weights of real scores are the exponentials of real numbers, and their mass is positive. -/
theorem weights_real {s : Fin 256 → EReal} (h : ∀ j, IsReal (s j)) :
    ∃ (e : Fin 256 → ℝ) (t : ℝ), (∀ j, weight s j = (e j : EReal)) ∧ mass s = (t : EReal) ∧ t ≠ 0 := by
  obtain ⟨m, hm⟩ := isReal_top h
  choose a ha using h
  refine ⟨fun j => Real.exp (a j - m), ∑ j, Real.exp (a j - m), fun j => ?_, ?_, ?_⟩
  · rw [weight, ← hm, ← ha, ← EReal.coe_sub, Ideal.exp_coe]
  · rw [mass, coe_sum]
    refine Finset.sum_congr rfl fun j _ => ?_
    rw [weight, ← hm, ← ha, ← EReal.coe_sub, Ideal.exp_coe]
  · exact (Finset.sum_pos (fun j _ => Real.exp_pos _) ⟨0, Finset.mem_univ _⟩).ne'

theorem isReal_prob {s : Fin 256 → EReal} (h : ∀ j, IsReal (s j)) (j : Fin 256) : IsReal (prob s j) := by
  obtain ⟨e, t, he, ht, h0⟩ := weights_real h
  rw [prob, he, ht, Ideal.div_coe h0]
  exact (isReal_coe _).mul (isReal_coe _)

/-- The gradient of the scores as differentiation of the quotient `e / Z` writes it. -/
theorem scoreGrad_eq_quotient {s g : Fin 256 → EReal} (hs : ∀ j, IsReal (s j)) (hg : ∀ j, IsReal (g j)) (j : Fin 256) :
    (Ideal.div (g j) (mass s) + ∑ _x : Fin 1, -∑ x, g x * Ideal.div 1 (mass s * mass s) * weight s x) * weight s j * scale
      = scoreGrad s g j := by
  obtain ⟨e, t, he, ht, h0⟩ := weights_real hs
  choose b hb using hg
  obtain ⟨c, hc⟩ := isReal_scale
  have h00 : t * t ≠ 0 := mul_ne_zero h0 h0
  simp only [scoreGrad, prob, he, ht, ← hb, ← hc, ← EReal.coe_mul, Ideal.div_coe h0, Ideal.div_coe h00, ← coe_sum,
    ← EReal.coe_sub, ← EReal.coe_neg, ← EReal.coe_add, ← EReal.coe_one]
  congr 1
  have e1 : ∑ x, b x * (1 * (1 / (t * t))) * e x = (∑ x, b x * (e x * (1 / t))) * (1 / t) := by
    rw [Finset.sum_mul]; exact Finset.sum_congr rfl fun x _ => by field_simp
  rw [e1]
  simp only [Finset.univ_unique, Finset.sum_singleton]
  ring

/-- The gradient of the gate's argument in its two summands. -/
theorem gateGrad_eq_two {z d x : EReal} (hz : IsReal z) (hd : IsReal d) (hx : IsReal x) :
    x * d * Ideal.logistic z + z * (x * d) * (Ideal.logistic z * (1 - Ideal.logistic z)) = d * x * gateSlope z := by
  obtain ⟨y, hy⟩ := hz.logistic
  obtain ⟨a, rfl⟩ := hz
  obtain ⟨b, rfl⟩ := hd
  obtain ⟨c, rfl⟩ := hx
  simp only [gateSlope, ← hy, ← EReal.coe_mul, ← EReal.coe_one, ← EReal.coe_sub, ← EReal.coe_add]
  congr 1
  ring

end Cert.Attend

end
-- ==== Proof.Pieces.lean ====
/-
  A list of stores read back, where a store at the bottom of the list is covered by the later ones.
-/
module

public import Idealize.ShloMosaic.Lib.Pipeline.ValueKit
public import Idealize.ShloMosaic.Lib.Pipeline.ReadBack

@[expose] public section

noncomputable section

namespace Cert.Pieces

open Idealize.ShloMosaic Idealize.SL.Sem

/-- A store under later stores that cover the buffer is not seen. -/
theorem canon_concat {S : Shape} {e : EltTy} (L : List (View.Piece (Elt Ideal) S e)) (p : View.Piece (Elt Ideal) S e) (y : S.Idx)
    (h : ∃ pc ∈ L, y ∈ pc.1.set) : View.canon (L ++ [p]) y = View.canon L y := by
  induction L with
  | nil => obtain ⟨_, h, _⟩ := h; exact absurd h List.not_mem_nil
  | cons q L ih =>
    by_cases hq : y ∈ q.1.set
    · obtain ⟨x, rfl⟩ : ∃ x, q.1.emb x = y := q.1.exists_idx_of_mem hq
      exact (View.canon_cons_emb q.1 q.2 (L ++ [p]) x).trans (View.canon_cons_emb q.1 q.2 L x).symm
    · rw [List.cons_append, View.canon_cons_of_not_mem q _ hq, View.canon_cons_of_not_mem q _ hq]
      obtain ⟨pc, hpc, hy⟩ := h
      rcases List.mem_cons.mp hpc with rfl | hpc
      · exact absurd hy hq
      · exact ih ⟨pc, hpc, hy⟩

end Cert.Pieces

end
-- ==== Proof.XattnBlocks.lean ====
/-
  The gradient of the memory cross-attention (`xattn_bwd`), one grid point at a time: what a point's body leaves in its
  two output blocks, as the row functions of `AttendRows` over the point's input blocks. The body treats the four heads
  one after the other in the same operations, so each fact is proved of the first head's payloads and holds of the others'.
-/
module

public import proofs.«01_k».proof.Proof.Gen.XattnIdeal.Value
public import proofs.«01_k».proof.Proof.AttendRows
public import proofs.«01_k».proof.Proof.Pieces
public import Idealize.ShloMosaic.Lib.Pointwise
public import Idealize.ShloMosaic.Lib.Pipeline.ValueKit
public import Idealize.ShloMosaic.Lib.Pipeline.ReadBack

@[expose] public section

set_option maxRecDepth 16384

noncomputable section

namespace Cert.XattnIdeal.Value

open Cert.XattnIdeal Cert.XattnIdeal.Gen Cert.Attend Idealize.ShloMosaic Idealize.ShloMosaic.TcCoe Idealize.SL.Sem
open scoped BigOperators

/-- Columns `o` to `o + 127` of a block. -/
abbrev slab {R C : ℕ} (X : Vec Ideal ⟨2, ![R, C]⟩ .f32) (o : ℕ)
    (inb : ∀ a, (![0, o] : Fin 2 → ℕ) a + (![R, 128] : Fin 2 → ℕ) a ≤ (![R, C] : Fin 2 → ℕ) a) : Vec Ideal ⟨2, ![R, 128]⟩ .f32 :=
  View.ld X (Rect.unit (s := ⟨2, ![R, C]⟩) ![0, o] ![R, 128] inb)

theorem slab_apply {R C : ℕ} (X : Vec Ideal ⟨2, ![R, C]⟩ .f32) (o : ℕ) (inb) (r : Fin R) (l : Fin 128) (h : o + l.val < C) :
    slab X o inb (ix2 r l) = X (ix2 r ⟨o + l.val, h⟩) :=
  View.ld_unit_apply_of X _ _ inb _ _ fun a => by
    fin_cases a
    · exact (Nat.zero_add _).symm
    · rfl

/-- Row `r` of a block. -/
abbrev row {R n : ℕ} (X : Vec Ideal ⟨2, ![R, n]⟩ .f32) (r : Fin R) : Fin n → EReal := fun l => X (ix2 r l)

/-- Head `h`'s columns of row `r` of a block of `512` columns. -/
abbrev cols (X : Vec Ideal S512x512 .f32) (r : Fin 512) (h : Fin 4) : Fin 128 → EReal :=
  fun l => X (ix2 r ⟨128 * h.val + l.val, by omega⟩)

/-- Head `h`'s keys. -/
abbrev keys (X : Vec Ideal S256x1024 .f32) (h : Fin 4) : Fin 256 → Fin 128 → EReal :=
  fun j l => X (ix2 j ⟨128 * h.val + l.val, by omega⟩)

/-- Head `h`'s values. -/
abbrev vals (X : Vec Ideal S256x1024 .f32) (h : Fin 4) : Fin 256 → Fin 128 → EReal :=
  fun j l => X (ix2 j ⟨512 + 128 * h.val + l.val, by omega⟩)

section Head

variable (q z d : Vec Ideal S512x128 .f32) (k v : Vec Ideal S256x128 .f32)

/-- One head's four stored payloads, as the first head computes them. -/
abbrev queryPay : FVec Ideal S512x128 .bf16 := k0_pay19 (k0_pay7 k) (k0_pay8 v) (k0_pay9 q k) (k0_pay11 z d)
abbrev gatePay : FVec Ideal S512x128 .bf16 := k0_pay16 (k0_pay12 q k v d) (k0_pay13 z) (k0_pay14 z) k0_pay15
abbrev valuePay (acc : Vec Ideal S256x128 .f32) : FVec Ideal S256x128 .f32 := k0_pay17 (k0_pay9 q k) (k0_pay11 z d) acc
abbrev keyPay (acc : Vec Ideal S256x128 .f32) : FVec Ideal S256x128 .f32 :=
  k0_pay20 (k0_pay5 q) (k0_pay8 v) (k0_pay9 q k) (k0_pay11 z d) acc

theorem prob_apply (r : Fin 512) (j : Fin 256) : k0_pay9 q k (ix2 r j) = prob (score (row q r) (row k)) j := by
  pointwise [k0_pay9, k0_pay5, k0_pay7]
  rfl

theorem gated_apply (r : Fin 512) (l : Fin 128) : k0_pay11 z d (ix2 r l) = row d r l * gate (row z r l) := by
  pointwise [k0_pay11, k0_pay10, k0_pay6]
  rfl

theorem rowGrad_apply (r : Fin 512) (j : Fin 256) :
    k0_pay18 (k0_pay8 v) (k0_pay9 q k) (k0_pay11 z d) (ix2 r j) = rowGrad (row q r) (row z r) (row d r) (row k) (row v) j := by
  pointwise [k0_pay18]
  simp only [prob_apply, gated_apply]
  pointwise [k0_pay8]
  rfl

theorem queryPay_apply (r : Fin 512) (l : Fin 128) :
    queryPay q z d k v (ix2 r l) = queryGrad (row q r) (row z r) (row d r) (row k) (row v) l := by
  pointwise [k0_pay19]
  simp only [rowGrad_apply]
  pointwise [k0_pay7]
  rfl

theorem gatePay_apply (r : Fin 512) (l : Fin 128) :
    gatePay q z d k v (ix2 r l) = gateGrad (row q r) (row z r) (row d r) (row k) (row v) l := by
  pointwise [k0_pay16, k0_pay12, k0_pay13, k0_pay14, k0_pay15, k0_pay6, k0_pay8, k0_pay10]
  simp only [prob_apply]
  rfl

theorem valuePay_apply (acc : Vec Ideal S256x128 .f32) (j : Fin 256) (l : Fin 128) :
    valuePay q z d k acc (ix2 j l)
      = acc (ix2 j l) + ∑ r : Fin 512, valuePart (row q r) (row z r) (row d r) (row k) j l := by
  pointwise [k0_pay17]
  simp only [prob_apply, gated_apply]
  rfl

theorem keyPay_apply (acc : Vec Ideal S256x128 .f32) (j : Fin 256) (l : Fin 128) :
    keyPay q z d k v acc (ix2 j l)
      = acc (ix2 j l) + ∑ r : Fin 512, keyPart (row q r) (row z r) (row d r) (row k) (row v) j l := by
  pointwise [k0_pay20]
  simp only [rowGrad_apply]
  pointwise [k0_pay5]
  rfl

end Head

variable (x0 x1 x2 : Vec Ideal S512x512 .f32) (x3 : Vec Ideal S256x1024 .f32)

/-! The four payloads of the head whose columns begin at `o`, at an element of that head. -/

theorem row_slab (X : Vec Ideal S512x512 .f32) (o : ℕ) (inb) (h : Fin 4) (ho : o = 128 * h.val) (r : Fin 512) :
    row (slab X o inb) r = cols X r h := by
  subst ho; exact funext fun l => slab_apply X _ inb r l (by omega)

theorem row_keys (o : ℕ) (inb) (h : Fin 4) (ho : o = 128 * h.val) : row (slab x3 o inb) = keys x3 h := by
  subst ho; exact funext fun j => funext fun l => slab_apply x3 _ inb j l (by omega)

theorem row_vals (o : ℕ) (inb) (h : Fin 4) (ho : o = 512 + 128 * h.val) : row (slab x3 o inb) = vals x3 h := by
  subst ho; exact funext fun j => funext fun l => slab_apply x3 _ inb j l (by omega)

theorem query_piece (o p : ℕ) (i0 i1 i2 i3 i4) (h : Fin 4) (ho : o = 128 * h.val) (hp : p = 512 + 128 * h.val) (x : S512x128.Idx)
    (r : Fin 512) (l : Fin 128) (hr : r.val = (x 0).val) (hl : l.val = (x 1).val) :
    queryPay (slab x0 o i0) (slab x1 o i1) (slab x2 o i2) (slab x3 o i3) (slab x3 p i4) x
      = queryGrad (cols x0 r h) (cols x1 r h) (cols x2 r h) (keys x3 h) (vals x3 h) l := by
  have e : x = ix2 r l := by funext a; fin_cases a <;> apply Fin.ext <;> simp [hr, hl]
  rw [e, queryPay_apply, row_slab x0 o i0 h ho, row_slab x1 o i1 h ho, row_slab x2 o i2 h ho, row_keys x3 o i3 h ho, row_vals x3 p i4 h hp]

theorem gate_piece (o p : ℕ) (i0 i1 i2 i3 i4) (h : Fin 4) (ho : o = 128 * h.val) (hp : p = 512 + 128 * h.val) (x : S512x128.Idx)
    (r : Fin 512) (l : Fin 128) (hr : r.val = (x 0).val) (hl : l.val = (x 1).val) :
    gatePay (slab x0 o i0) (slab x1 o i1) (slab x2 o i2) (slab x3 o i3) (slab x3 p i4) x
      = gateGrad (cols x0 r h) (cols x1 r h) (cols x2 r h) (keys x3 h) (vals x3 h) l := by
  have e : x = ix2 r l := by funext a; fin_cases a <;> apply Fin.ext <;> simp [hr, hl]
  rw [e, gatePay_apply, row_slab x0 o i0 h ho, row_slab x1 o i1 h ho, row_slab x2 o i2 h ho, row_keys x3 o i3 h ho, row_vals x3 p i4 h hp]

theorem value_piece (xo : Vec Ideal S256x1024 .f32) (o p : ℕ) (i0 i1 i2 i3 i4) (h : Fin 4) (ho : o = 128 * h.val) (hp : p = 512 + 128 * h.val)
    (x : S256x128.Idx) (j : Fin 256) (l : Fin 128) (hj : j.val = (x 0).val) (hl : l.val = (x 1).val) :
    valuePay (slab x0 o i0) (slab x1 o i1) (slab x2 o i2) (slab x3 o i3) (slab xo p i4) x
      = vals xo h j l + ∑ r : Fin 512, valuePart (cols x0 r h) (cols x1 r h) (cols x2 r h) (keys x3 h) j l := by
  have e : x = ix2 j l := by funext a; fin_cases a <;> apply Fin.ext <;> simp [hj, hl]
  have e' : slab xo p i4 (ix2 j l) = vals xo h j l := by subst hp; exact slab_apply xo _ i4 j l (by omega)
  rw [e, valuePay_apply, e']
  simp only [row_slab x0 o i0 h ho, row_slab x1 o i1 h ho, row_slab x2 o i2 h ho, row_keys x3 o i3 h ho]

theorem key_piece (xo : Vec Ideal S256x1024 .f32) (o p : ℕ) (i0 i1 i2 i3 i4 i5) (h : Fin 4) (ho : o = 128 * h.val) (hp : p = 512 + 128 * h.val)
    (x : S256x128.Idx) (j : Fin 256) (l : Fin 128) (hj : j.val = (x 0).val) (hl : l.val = (x 1).val) :
    keyPay (slab x0 o i0) (slab x1 o i1) (slab x2 o i2) (slab x3 o i3) (slab x3 p i4) (slab xo o i5) x
      = keys xo h j l + ∑ r : Fin 512, keyPart (cols x0 r h) (cols x1 r h) (cols x2 r h) (keys x3 h) (vals x3 h) j l := by
  have e : x = ix2 j l := by funext a; fin_cases a <;> apply Fin.ext <;> simp [hj, hl]
  have e' : slab xo o i5 (ix2 j l) = keys xo h j l := by subst ho; exact slab_apply xo _ i5 j l (by omega)
  rw [e, keyPay_apply, e']
  simp only [row_slab x0 o i0 h ho, row_slab x1 o i1 h ho, row_slab x2 o i2 h ho, row_keys x3 o i3 h ho, row_vals x3 p i4 h hp]

/-! ## The blocks -/

/-- At the first point the accumulator has just been filled with zeros. -/
theorem first_piece (y : S256x1024.Idx) (s : EReal) : k0_pay4 (F := Ideal) y + s = s := by
  pointwise [k0_pay4]

section Blocks

variable (c : Dev nD) (i : grid0.Coords)
  (a1 : Memref sig .tc .vmem S512x512 .f32) (h1 : a1.IsWhole) (a2 : Memref sig .tc .vmem S512x512 .f32) (h2 : a2.IsWhole)
  (a3 : Memref sig .tc .vmem S512x512 .f32) (h3 : a3.IsWhole) (a4 : Memref sig .tc .vmem S256x1024 .f32) (h4 : a4.IsWhole)
  (a5 : Memref sig .tc .vmem S512x1024 .bf16) (h5 : a5.IsWhole) (a6 : Memref sig .tc .vmem S256x1024 .f32) (h6 : a6.IsWhole)
  (xo : Vec Ideal S256x1024 .f32)

theorem first_query (hc : cond0_0 i) (y : S512x1024.Idx) (r : Fin 512) (h : Fin 4) (l : Fin 128) (hr : r.val = (y 0).val)
    (hy : (y 1).val = 128 * h.val + l.val) :
    out0_A_4 c i a1 h1 a2 h2 a3 h3 a4 h4 a5 h5 a6 h6 hc x0 x1 x2 x3 y = queryGrad (cols x0 r h) (cols x1 r h) (cols x2 r h) (keys x3 h) (vals x3 h) l := by
  have hl := l.isLt
  have hh := h.isLt
  frame_out
  canon_tiles x hx
  all_goals first
    | (exfalso; omega)
    | (have e : 0 = 128 * h.val := by omega
       exact (query_piece x0 x1 x2 x3 0 512 (by decide) (by decide) (by decide) (by decide) (by decide) h e (by omega) x r l (by omega) (by omega)))
    | (have e : 128 = 128 * h.val := by omega
       exact (query_piece x0 x1 x2 x3 128 640 (by decide) (by decide) (by decide) (by decide) (by decide) h e (by omega) x r l (by omega) (by omega)))
    | (have e : 256 = 128 * h.val := by omega
       exact (query_piece x0 x1 x2 x3 256 768 (by decide) (by decide) (by decide) (by decide) (by decide) h e (by omega) x r l (by omega) (by omega)))
    | (have e : 384 = 128 * h.val := by omega
       exact (query_piece x0 x1 x2 x3 384 896 (by decide) (by decide) (by decide) (by decide) (by decide) h e (by omega) x r l (by omega) (by omega)))

theorem first_gate (hc : cond0_0 i) (y : S512x1024.Idx) (r : Fin 512) (h : Fin 4) (l : Fin 128) (hr : r.val = (y 0).val)
    (hy : (y 1).val = 512 + 128 * h.val + l.val) :
    out0_A_4 c i a1 h1 a2 h2 a3 h3 a4 h4 a5 h5 a6 h6 hc x0 x1 x2 x3 y = gateGrad (cols x0 r h) (cols x1 r h) (cols x2 r h) (keys x3 h) (vals x3 h) l := by
  have hl := l.isLt
  have hh := h.isLt
  frame_out
  canon_tiles x hx
  all_goals first
    | (exfalso; omega)
    | (have e : 0 = 128 * h.val := by omega
       exact (gate_piece x0 x1 x2 x3 0 512 (by decide) (by decide) (by decide) (by decide) (by decide) h e (by omega) x r l (by omega) (by omega)))
    | (have e : 128 = 128 * h.val := by omega
       exact (gate_piece x0 x1 x2 x3 128 640 (by decide) (by decide) (by decide) (by decide) (by decide) h e (by omega) x r l (by omega) (by omega)))
    | (have e : 256 = 128 * h.val := by omega
       exact (gate_piece x0 x1 x2 x3 256 768 (by decide) (by decide) (by decide) (by decide) (by decide) h e (by omega) x r l (by omega) (by omega)))
    | (have e : 384 = 128 * h.val := by omega
       exact (gate_piece x0 x1 x2 x3 384 896 (by decide) (by decide) (by decide) (by decide) (by decide) h e (by omega) x r l (by omega) (by omega)))

theorem first_key (hc : cond0_0 i) (y : S256x1024.Idx) (j : Fin 256) (h : Fin 4) (l : Fin 128) (hj : j.val = (y 0).val)
    (hy : (y 1).val = 128 * h.val + l.val) :
    out0_A_5 c i a1 h1 a2 h2 a3 h3 a4 h4 a5 h5 a6 h6 hc x0 x1 x2 x3 y = ∑ r : Fin 512, keyPart (cols x0 r h) (cols x1 r h) (cols x2 r h) (keys x3 h) (vals x3 h) j l := by
  have hl := l.isLt
  have hh := h.isLt
  frame_open
  simp (disch := decide) only [↓ View.readCov_skip, ↓ View.readCov_cons_toLoadRect, ↓ View.readCov_fill]
  frame_out
  refine (Cert.Pieces.canon_concat [_, _, _, _, _, _, _, _] _ y ?_).trans ?_
  · exact View.cover_of_tiledL (s := S256x1024) _ ![256, 128] (by sl_kernel_rfl) y
  canon_tiles x hx
  all_goals first
    | (exfalso; omega)
    | (have e : 0 = 128 * h.val := by omega
       exact (key_piece x0 x1 x2 x3 (k0_pay4 (F := Ideal)) 0 512 (by decide) (by decide) (by decide) (by decide) (by decide) (by decide) h e (by omega) x j l (by omega) (by omega)).trans (first_piece _ _))
    | (have e : 128 = 128 * h.val := by omega
       exact (key_piece x0 x1 x2 x3 (k0_pay4 (F := Ideal)) 128 640 (by decide) (by decide) (by decide) (by decide) (by decide) (by decide) h e (by omega) x j l (by omega) (by omega)).trans (first_piece _ _))
    | (have e : 256 = 128 * h.val := by omega
       exact (key_piece x0 x1 x2 x3 (k0_pay4 (F := Ideal)) 256 768 (by decide) (by decide) (by decide) (by decide) (by decide) (by decide) h e (by omega) x j l (by omega) (by omega)).trans (first_piece _ _))
    | (have e : 384 = 128 * h.val := by omega
       exact (key_piece x0 x1 x2 x3 (k0_pay4 (F := Ideal)) 384 896 (by decide) (by decide) (by decide) (by decide) (by decide) (by decide) h e (by omega) x j l (by omega) (by omega)).trans (first_piece _ _))

theorem first_value (hc : cond0_0 i) (y : S256x1024.Idx) (j : Fin 256) (h : Fin 4) (l : Fin 128) (hj : j.val = (y 0).val)
    (hy : (y 1).val = 512 + 128 * h.val + l.val) :
    out0_A_5 c i a1 h1 a2 h2 a3 h3 a4 h4 a5 h5 a6 h6 hc x0 x1 x2 x3 y = ∑ r : Fin 512, valuePart (cols x0 r h) (cols x1 r h) (cols x2 r h) (keys x3 h) j l := by
  have hl := l.isLt
  have hh := h.isLt
  frame_open
  simp (disch := decide) only [↓ View.readCov_skip, ↓ View.readCov_cons_toLoadRect, ↓ View.readCov_fill]
  frame_out
  refine (Cert.Pieces.canon_concat [_, _, _, _, _, _, _, _] _ y ?_).trans ?_
  · exact View.cover_of_tiledL (s := S256x1024) _ ![256, 128] (by sl_kernel_rfl) y
  canon_tiles x hx
  all_goals first
    | (exfalso; omega)
    | (have e : 0 = 128 * h.val := by omega
       exact (value_piece x0 x1 x2 x3 (k0_pay4 (F := Ideal)) 0 512 (by decide) (by decide) (by decide) (by decide) (by decide) h e (by omega) x j l (by omega) (by omega)).trans (first_piece _ _))
    | (have e : 128 = 128 * h.val := by omega
       exact (value_piece x0 x1 x2 x3 (k0_pay4 (F := Ideal)) 128 640 (by decide) (by decide) (by decide) (by decide) (by decide) h e (by omega) x j l (by omega) (by omega)).trans (first_piece _ _))
    | (have e : 256 = 128 * h.val := by omega
       exact (value_piece x0 x1 x2 x3 (k0_pay4 (F := Ideal)) 256 768 (by decide) (by decide) (by decide) (by decide) (by decide) h e (by omega) x j l (by omega) (by omega)).trans (first_piece _ _))
    | (have e : 384 = 128 * h.val := by omega
       exact (value_piece x0 x1 x2 x3 (k0_pay4 (F := Ideal)) 384 896 (by decide) (by decide) (by decide) (by decide) (by decide) h e (by omega) x j l (by omega) (by omega)).trans (first_piece _ _))

theorem later_query (hc : ¬cond0_0 i) (y : S512x1024.Idx) (r : Fin 512) (h : Fin 4) (l : Fin 128) (hr : r.val = (y 0).val)
    (hy : (y 1).val = 128 * h.val + l.val) :
    out0_B_4 c i a1 h1 a2 h2 a3 h3 a4 h4 a5 h5 a6 h6 hc x0 x1 x2 x3 xo y = queryGrad (cols x0 r h) (cols x1 r h) (cols x2 r h) (keys x3 h) (vals x3 h) l := by
  have hl := l.isLt
  have hh := h.isLt
  frame_out
  canon_tiles x hx
  all_goals first
    | (exfalso; omega)
    | (have e : 0 = 128 * h.val := by omega
       exact (query_piece x0 x1 x2 x3 0 512 (by decide) (by decide) (by decide) (by decide) (by decide) h e (by omega) x r l (by omega) (by omega)))
    | (have e : 128 = 128 * h.val := by omega
       exact (query_piece x0 x1 x2 x3 128 640 (by decide) (by decide) (by decide) (by decide) (by decide) h e (by omega) x r l (by omega) (by omega)))
    | (have e : 256 = 128 * h.val := by omega
       exact (query_piece x0 x1 x2 x3 256 768 (by decide) (by decide) (by decide) (by decide) (by decide) h e (by omega) x r l (by omega) (by omega)))
    | (have e : 384 = 128 * h.val := by omega
       exact (query_piece x0 x1 x2 x3 384 896 (by decide) (by decide) (by decide) (by decide) (by decide) h e (by omega) x r l (by omega) (by omega)))

theorem later_gate (hc : ¬cond0_0 i) (y : S512x1024.Idx) (r : Fin 512) (h : Fin 4) (l : Fin 128) (hr : r.val = (y 0).val)
    (hy : (y 1).val = 512 + 128 * h.val + l.val) :
    out0_B_4 c i a1 h1 a2 h2 a3 h3 a4 h4 a5 h5 a6 h6 hc x0 x1 x2 x3 xo y = gateGrad (cols x0 r h) (cols x1 r h) (cols x2 r h) (keys x3 h) (vals x3 h) l := by
  have hl := l.isLt
  have hh := h.isLt
  frame_out
  canon_tiles x hx
  all_goals first
    | (exfalso; omega)
    | (have e : 0 = 128 * h.val := by omega
       exact (gate_piece x0 x1 x2 x3 0 512 (by decide) (by decide) (by decide) (by decide) (by decide) h e (by omega) x r l (by omega) (by omega)))
    | (have e : 128 = 128 * h.val := by omega
       exact (gate_piece x0 x1 x2 x3 128 640 (by decide) (by decide) (by decide) (by decide) (by decide) h e (by omega) x r l (by omega) (by omega)))
    | (have e : 256 = 128 * h.val := by omega
       exact (gate_piece x0 x1 x2 x3 256 768 (by decide) (by decide) (by decide) (by decide) (by decide) h e (by omega) x r l (by omega) (by omega)))
    | (have e : 384 = 128 * h.val := by omega
       exact (gate_piece x0 x1 x2 x3 384 896 (by decide) (by decide) (by decide) (by decide) (by decide) h e (by omega) x r l (by omega) (by omega)))

theorem later_key (hc : ¬cond0_0 i) (y : S256x1024.Idx) (j : Fin 256) (h : Fin 4) (l : Fin 128) (hj : j.val = (y 0).val)
    (hy : (y 1).val = 128 * h.val + l.val) :
    out0_B_5 c i a1 h1 a2 h2 a3 h3 a4 h4 a5 h5 a6 h6 hc x0 x1 x2 x3 xo y = keys xo h j l + ∑ r : Fin 512, keyPart (cols x0 r h) (cols x1 r h) (cols x2 r h) (keys x3 h) (vals x3 h) j l := by
  have hl := l.isLt
  have hh := h.isLt
  frame_out
  canon_tiles x hx
  all_goals first
    | (exfalso; omega)
    | (have e : 0 = 128 * h.val := by omega
       exact (key_piece x0 x1 x2 x3 xo 0 512 (by decide) (by decide) (by decide) (by decide) (by decide) (by decide) h e (by omega) x j l (by omega) (by omega)))
    | (have e : 128 = 128 * h.val := by omega
       exact (key_piece x0 x1 x2 x3 xo 128 640 (by decide) (by decide) (by decide) (by decide) (by decide) (by decide) h e (by omega) x j l (by omega) (by omega)))
    | (have e : 256 = 128 * h.val := by omega
       exact (key_piece x0 x1 x2 x3 xo 256 768 (by decide) (by decide) (by decide) (by decide) (by decide) (by decide) h e (by omega) x j l (by omega) (by omega)))
    | (have e : 384 = 128 * h.val := by omega
       exact (key_piece x0 x1 x2 x3 xo 384 896 (by decide) (by decide) (by decide) (by decide) (by decide) (by decide) h e (by omega) x j l (by omega) (by omega)))

theorem later_value (hc : ¬cond0_0 i) (y : S256x1024.Idx) (j : Fin 256) (h : Fin 4) (l : Fin 128) (hj : j.val = (y 0).val)
    (hy : (y 1).val = 512 + 128 * h.val + l.val) :
    out0_B_5 c i a1 h1 a2 h2 a3 h3 a4 h4 a5 h5 a6 h6 hc x0 x1 x2 x3 xo y = vals xo h j l + ∑ r : Fin 512, valuePart (cols x0 r h) (cols x1 r h) (cols x2 r h) (keys x3 h) j l := by
  have hl := l.isLt
  have hh := h.isLt
  frame_out
  canon_tiles x hx
  all_goals first
    | (exfalso; omega)
    | (have e : 0 = 128 * h.val := by omega
       exact (value_piece x0 x1 x2 x3 xo 0 512 (by decide) (by decide) (by decide) (by decide) (by decide) h e (by omega) x j l (by omega) (by omega)))
    | (have e : 128 = 128 * h.val := by omega
       exact (value_piece x0 x1 x2 x3 xo 128 640 (by decide) (by decide) (by decide) (by decide) (by decide) h e (by omega) x j l (by omega) (by omega)))
    | (have e : 256 = 128 * h.val := by omega
       exact (value_piece x0 x1 x2 x3 xo 256 768 (by decide) (by decide) (by decide) (by decide) (by decide) h e (by omega) x j l (by omega) (by omega)))
    | (have e : 384 = 128 * h.val := by omega
       exact (value_piece x0 x1 x2 x3 xo 384 896 (by decide) (by decide) (by decide) (by decide) (by decide) h e (by omega) x j l (by omega) (by omega)))

end Blocks

end Cert.XattnIdeal.Value

end
-- ==== Proof.XattnArrays.lean ====
/-
  The gradient of the memory cross-attention (`xattn_bwd`) after the whole grid: the kernel's two result arrays, element
  by element, as the row functions of `AttendRows` over its three arguments.
-/
module

public import proofs.«01_k».proof.Proof.XattnBlocks

@[expose] public section

set_option maxRecDepth 16384
set_option backward.proofsInPublic true

noncomputable section

namespace Cert.XattnIdeal.Value

open Cert.XattnIdeal Cert.XattnIdeal.Gen Cert.Attend Idealize.ShloMosaic Idealize.ShloMosaic.TcCoe Idealize.SL.Sem
open Idealize.ShloMosaic.Pipeline (Dat)
open scoped BigOperators

section Arguments

variable (P : Vec Ideal S1x8192x6672 .f32) (K : Vec Ideal S1x256x1024 .f32) (D : Vec Ideal S1x8192x2048 .f32)

/-- Token `s`'s query, output gate and cotangent of head `h`, and the memory's keys and values of that head. -/
abbrev queryOf (s : Fin 8192) (h : Fin 4) : Fin 128 → EReal := fun l => P (ix3 0 s ⟨5648 + (128 * h.val + l.val), by omega⟩)
abbrev gateOf (s : Fin 8192) (h : Fin 4) : Fin 128 → EReal := fun l => P (ix3 0 s ⟨6160 + (128 * h.val + l.val), by omega⟩)
abbrev cotOf (s : Fin 8192) (h : Fin 4) : Fin 128 → EReal := fun l => D (ix3 0 s ⟨1536 + (128 * h.val + l.val), by omega⟩)
abbrev keyOf (h : Fin 4) : Fin 256 → Fin 128 → EReal := fun j l => K (ix3 0 j ⟨128 * h.val + l.val, by omega⟩)
abbrev valOf (h : Fin 4) : Fin 256 → Fin 128 → EReal := fun j l => K (ix3 0 j ⟨512 + 128 * h.val + l.val, by omega⟩)

/-- The head and the lane that a column of one of the two halves of a result belongs to. -/
def headOf (a : Fin 1024) : Fin 4 := ⟨a.val % 512 / 128, by omega⟩
def laneOf (a : Fin 1024) : Fin 128 := ⟨a.val % 128, by omega⟩

theorem head_lane_first (a : Fin 1024) (h : a.val < 512) : a.val = 128 * (headOf a).val + (laneOf a).val := by
  simp only [headOf, laneOf]; omega

theorem head_lane_second (a : Fin 1024) (h : ¬a.val < 512) : a.val = 512 + 128 * (headOf a).val + (laneOf a).val := by
  simp only [headOf, laneOf]; omega

/-- The gradient of column `a` of token `s`'s own columns: of a query in the first half, of an output gate in the second. -/
def ownAt (s : Fin 8192) (a : Fin 1024) : EReal :=
  if a.val < 512 then
    queryGrad (queryOf P s (headOf a)) (gateOf P s (headOf a)) (cotOf D s (headOf a)) (keyOf K (headOf a)) (valOf K (headOf a)) (laneOf a)
  else
    gateGrad (queryOf P s (headOf a)) (gateOf P s (headOf a)) (cotOf D s (headOf a)) (keyOf K (headOf a)) (valOf K (headOf a)) (laneOf a)

/-- What token `s` adds to the gradient of column `a` of memory slot `j`: of a key in the first half, of a value in the second. -/
def kvTerm (s : Fin 8192) (j : Fin 256) (a : Fin 1024) : EReal :=
  if a.val < 512 then
    keyPart (queryOf P s (headOf a)) (gateOf P s (headOf a)) (cotOf D s (headOf a)) (keyOf K (headOf a)) (valOf K (headOf a)) j (laneOf a)
  else
    valuePart (queryOf P s (headOf a)) (gateOf P s (headOf a)) (cotOf D s (headOf a)) (keyOf K (headOf a)) j (laneOf a)

/-- The gradient of the projection's own columns. -/
def ownGrad : Vec Ideal S8192x1024 .bf16 := fun i => ownAt P K D (i 0) (i 1)

/-- The gradient of the memory's keys and values. -/
def kvGrad : Vec Ideal S256x1024 .f32 := fun i => ∑ s : Fin 8192, kvTerm P K D s (i 0) (i 1)

end Arguments

variable (m : (ℓ : Loc nD τ sig) → Buf (Elt Ideal) ℓ)

theorem proj_entry (c : Dev nD) (s : Fin 8192) (a : Fin 1024) :
    (V m c main_v4 : Vec Ideal S8192x6656 .f32) (ix2 s ⟨5632 + a.val, by omega⟩)
      = (m ((c : Thread nD τ).loc main_arg0) : Vec Ideal S1x8192x6672 .f32) (ix3 0 s ⟨5648 + a.val, by omega⟩) := by
  unfold V hostOps0
  after_results_simp
  pointwise
  rw [dif_neg (by omega), dif_neg (by omega)]
  after_results_simp
  pointwise
  blk_ext

theorem cot_entry (c : Dev nD) (s : Fin 8192) (a : Fin 512) :
    (V m c main_v9 : Vec Ideal S8192x2048 .f32) (ix2 s ⟨1536 + a.val, by omega⟩)
      = (m ((c : Thread nD τ).loc main_arg2) : Vec Ideal S1x8192x2048 .f32) (ix3 0 s ⟨1536 + a.val, by omega⟩) := by
  unfold V hostOps0
  after_results_simp
  pointwise
  rw [dif_neg (by omega), dif_neg (by omega)]
  after_results_simp
  pointwise
  blk_ext

theorem kv_entry (c : Dev nD) (s : Fin 256) (a : Fin 1024) :
    (V m c main_v10 : Vec Ideal S256x1024 .f32) (ix2 s a)
      = (m ((c : Thread nD τ).loc main_arg1) : Vec Ideal S1x256x1024 .f32) (ix3 0 s a) := by
  unfold V hostOps0
  after_results_simp
  pointwise

theorem idx0 : ∀ t : Fin cfg0.N, (cfg0.win 0).index t = ![t.val, 11] := by decide +kernel
theorem idx1 : ∀ t : Fin cfg0.N, (cfg0.win 1).index t = ![t.val, 12] := by decide +kernel
theorem idx2 : ∀ t : Fin cfg0.N, (cfg0.win 2).index t = ![t.val, 3] := by decide +kernel
theorem idx3 : ∀ t : Fin cfg0.N, (cfg0.win 3).index t = ![0, 0] := by decide +kernel
theorem idx4 : ∀ t : Fin cfg0.N, (cfg0.win 4).index t = ![t.val, 0] := by decide +kernel

/-- Row `r` of point `t`'s tile is token `512 t + r`. -/
abbrev tok (t : Fin cfg0.N) (r : Fin 512) : Fin 8192 := ⟨t.val * 512 + r.val, by have h : t.val < 16 := t.isLt; omega⟩

theorem block0 (c : Dev nD) (t : Fin cfg0.N) (r : Fin 512) (a : Fin 512) :
    (iblk m c 0 t : Vec Ideal S512x512 .f32) (ix2 r a) = (V m c main_v4 : Vec Ideal S8192x6656 .f32) (ix2 (tok t r) ⟨5632 + (⟨a.val, by omega⟩ : Fin 1024).val, by omega⟩) := by
  blk_ext [iblk, idx0 t]

theorem block1 (c : Dev nD) (t : Fin cfg0.N) (r : Fin 512) (a : Fin 512) :
    (iblk m c 1 t : Vec Ideal S512x512 .f32) (ix2 r a) = (V m c main_v4 : Vec Ideal S8192x6656 .f32) (ix2 (tok t r) ⟨5632 + (⟨512 + a.val, by omega⟩ : Fin 1024).val, by omega⟩) := by
  blk_ext [iblk, idx1 t]

theorem block2 (c : Dev nD) (t : Fin cfg0.N) (r : Fin 512) (a : Fin 512) :
    (iblk m c 2 t : Vec Ideal S512x512 .f32) (ix2 r a) = (V m c main_v9 : Vec Ideal S8192x2048 .f32) (ix2 (tok t r) ⟨1536 + a.val, by omega⟩) := by
  blk_ext [iblk, idx2 t]

theorem block3 (c : Dev nD) (t : Fin cfg0.N) (r : Fin 256) (a : Fin 1024) :
    (iblk m c 3 t : Vec Ideal S256x1024 .f32) (ix2 r a) = (V m c main_v10 : Vec Ideal S256x1024 .f32) (ix2 r a) := by
  blk_ext [iblk, idx3 t]

/-- The three arguments of a device. -/
abbrev projArg (c : Dev nD) : Vec Ideal S1x8192x6672 .f32 := m ((c : Thread nD τ).loc main_arg0)
abbrev kvArg (c : Dev nD) : Vec Ideal S1x256x1024 .f32 := m ((c : Thread nD τ).loc main_arg1)
abbrev cotArg (c : Dev nD) : Vec Ideal S1x8192x2048 .f32 := m ((c : Thread nD τ).loc main_arg2)

theorem queries_block (c : Dev nD) (t : Fin cfg0.N) (r : Fin 512) (h : Fin 4) : cols (iblk m c 0 t) r h = queryOf (projArg m c) (tok t r) h :=
  funext fun l => (block0 m c t r _).trans (proj_entry m c _ _)

theorem gates_block (c : Dev nD) (t : Fin cfg0.N) (r : Fin 512) (h : Fin 4) : cols (iblk m c 1 t) r h = gateOf (projArg m c) (tok t r) h := by
  funext l
  refine (block1 m c t r _).trans ((proj_entry m c _ _).trans ?_)
  blk_ext

theorem cots_block (c : Dev nD) (t : Fin cfg0.N) (r : Fin 512) (h : Fin 4) : cols (iblk m c 2 t) r h = cotOf (cotArg m c) (tok t r) h :=
  funext fun l => (block2 m c t r _).trans (cot_entry m c _ _)

theorem keys_block (c : Dev nD) (t : Fin cfg0.N) (h : Fin 4) : keys (iblk m c 3 t) h = keyOf (kvArg m c) h :=
  funext fun j => funext fun l => (block3 m c t j _).trans (kv_entry m c _ _)

theorem vals_block (c : Dev nD) (t : Fin cfg0.N) (h : Fin 4) : vals (iblk m c 3 t) h = valOf (kvArg m c) h :=
  funext fun j => funext fun l => (block3 m c t j _).trans (kv_entry m c _ _)

/-- A point leaves its tile of `ownGrad` in the first output's block. -/
theorem own_block (c : Dev nD) (t : Fin cfg0.N) (r : Fin 512) (a : Fin 1024) :
    (outsAt0 m c t.val t.isLt).1 (ix2 r a) = ownAt (projArg m c) (kvArg m c) (cotArg m c) (tok t r) a := by
  unfold ownAt
  rw [← queries_block, ← gates_block, ← cots_block, ← keys_block m c t, ← vals_block m c t]
  by_cases h0 : t.val % 16 = 0
  · rw [outsAt0_A m c t h0]
    dsimp only
    split
    · exact first_query (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
        (ix2 r a) r (headOf a) (laneOf a) rfl (head_lane_first a ‹_›)
    · exact first_gate (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
        (ix2 r a) r (headOf a) (laneOf a) rfl (head_lane_second a ‹_›)
  · rw [outsAt0_B m c t h0]
    dsimp only
    split
    · exact later_query (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (outsAt0 m c (t.val - 1) (Nat.lt_of_le_of_lt (Nat.sub_le _ _) t.isLt)).2 (fun h => h0 ((hcond0_0 t).mp h))
        (ix2 r a) r (headOf a) (laneOf a) rfl (head_lane_first a ‹_›)
    · exact later_gate (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (outsAt0 m c (t.val - 1) (Nat.lt_of_le_of_lt (Nat.sub_le _ _) t.isLt)).2 (fun h => h0 ((hcond0_0 t).mp h))
        (ix2 r a) r (headOf a) (laneOf a) rfl (head_lane_second a ‹_›)

/-- The first result: the gradient of the projection's own columns. -/
theorem own_final (c : Dev nD) : (dats m 0 c).arrAt 4 cfg0.N = ownGrad (projArg m c) (kvArg m c) (cotArg m c) := by
  refine (dats m 0 c).arrAt_eq_of_covers 4 _ (by decide +kernel) fun t hf y => ?_
  idx_vars y
  blk_simp
  rw [after0_4]
  have e : (win0_4.blk t).view.emb (ix2 y0 y1) = (ix2 (tok t y0) y1 : S8192x1024.Idx) := by blk_ext [idx4 t]
  exact (own_block m c t y0 y1).trans (congrArg (ownGrad (projArg m c) (kvArg m c) (cotArg m c)) e).symm

/-- What one tile adds to the gradient of the keys and values. -/
def tilePart (c : Dev nD) (t : Fin cfg0.N) : S256x1024.Idx → EReal :=
  fun i => ∑ r : Fin 512, kvTerm (projArg m c) (kvArg m c) (cotArg m c) (tok t r) (i 0) (i 1)

theorem tilePart_key (c : Dev nD) (t : Fin cfg0.N) (j : Fin 256) (a : Fin 1024) (h : a.val < 512) :
    tilePart m c t (ix2 j a) = ∑ r : Fin 512, keyPart (cols (iblk m c 0 t) r (headOf a)) (cols (iblk m c 1 t) r (headOf a))
      (cols (iblk m c 2 t) r (headOf a)) (keys (iblk m c 3 t) (headOf a)) (vals (iblk m c 3 t) (headOf a)) j (laneOf a) := by
  refine Finset.sum_congr rfl fun r _ => ?_
  rw [queries_block, gates_block, cots_block, keys_block, vals_block]
  exact if_pos h

theorem tilePart_value (c : Dev nD) (t : Fin cfg0.N) (j : Fin 256) (a : Fin 1024) (h : ¬a.val < 512) :
    tilePart m c t (ix2 j a) = ∑ r : Fin 512, valuePart (cols (iblk m c 0 t) r (headOf a)) (cols (iblk m c 1 t) r (headOf a))
      (cols (iblk m c 2 t) r (headOf a)) (keys (iblk m c 3 t) (headOf a)) j (laneOf a) := by
  refine Finset.sum_congr rfl fun r _ => ?_
  rw [queries_block, gates_block, cots_block, keys_block]
  exact if_neg h

theorem kv_first (c : Dev nD) (t : Fin cfg0.N) (h0 : t.val % 16 = 0) (j : Fin 256) (a : Fin 1024) :
    (outsAt0 m c t.val t.isLt).2 (ix2 j a) = tilePart m c t (ix2 j a) := by
  rw [outsAt0_A m c t h0]
  dsimp only
  by_cases h : a.val < 512
  · rw [tilePart_key m c t j a h]
    exact first_key (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
        (ix2 j a) j (headOf a) (laneOf a) rfl (head_lane_first a ‹_›)
  · rw [tilePart_value m c t j a h]
    exact first_value (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0)
        (ix2 j a) j (headOf a) (laneOf a) rfl (head_lane_second a ‹_›)

theorem kv_later (c : Dev nD) (t : Fin cfg0.N) (h0 : ¬t.val % 16 = 0) (j : Fin 256) (a : Fin 1024) :
    (outsAt0 m c t.val t.isLt).2 (ix2 j a)
      = (outsAt0 m c (t.val - 1) (Nat.lt_of_le_of_lt (Nat.sub_le _ _) t.isLt)).2 (ix2 j a) + tilePart m c t (ix2 j a) := by
  rw [outsAt0_B m c t h0]
  dsimp only
  by_cases h : a.val < 512
  · rw [tilePart_key m c t j a h]
    refine (later_key (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (outsAt0 m c (t.val - 1) (Nat.lt_of_le_of_lt (Nat.sub_le _ _) t.isLt)).2 (fun h => h0 ((hcond0_0 t).mp h))
        (ix2 j a) j (headOf a) (laneOf a) rfl (head_lane_first a ‹_›)).trans (congrArg (· + _) ?_)
    exact congrArg (fun b => (outsAt0 m c (t.val - 1) (Nat.lt_of_le_of_lt (Nat.sub_le _ _) t.isLt)).2 (ix2 j b)) (Fin.ext (head_lane_first a h).symm)
  · rw [tilePart_value m c t j a h]
    refine (later_value (iblk m c 0 t) (iblk m c 1 t) (iblk m c 2 t) (iblk m c 3 t) c (grid0.coords t) (ms0_0 t) (hs0_0 t) (ms0_1 t) (hs0_1 t) (ms0_2 t) (hs0_2 t) (ms0_3 t) (hs0_3 t) (ms0_4 t) (hs0_4 t) (ms0_5 t) (hs0_5 t) (outsAt0 m c (t.val - 1) (Nat.lt_of_le_of_lt (Nat.sub_le _ _) t.isLt)).2 (fun h => h0 ((hcond0_0 t).mp h))
        (ix2 j a) j (headOf a) (laneOf a) rfl (head_lane_second a ‹_›)).trans (congrArg (· + _) ?_)
    exact congrArg (fun b => (outsAt0 m c (t.val - 1) (Nat.lt_of_le_of_lt (Nat.sub_le _ _) t.isLt)).2 (ix2 j b)) (Fin.ext (head_lane_second a h).symm)

/-- The second result: the gradient of the memory's keys and values. -/
theorem kv_final (c : Dev nD) : (dats m 0 c).arrAt 5 cfg0.N = kvGrad (projArg m c) (kvArg m c) (cotArg m c) := by
  refine (dats m 0 c).arrAt_eq_of_after_last 5 t0_15 (by decide +kernel) _ fun i => ?_
  blk_simp
  rw [after0_5]
  refine (Pipeline.eq_sum_fin_of_reset_step_apply_last (fun n h => (outsAt0 m c n h).2) 16 (fun _ => 0) (tilePart m c)
    (fun t h i => ?_) (fun t h i => ?_) (by decide) t0_15 rfl i).trans ?_
  · idx_vars i
    rw [zero_add]
    exact kv_first m c t h _ _
  · idx_vars i
    exact kv_later m c t h _ _
  · rw [zero_add]
    exact Fin.sum_mul_add_fin 16 512 (fun s : Fin 8192 => kvTerm (projArg m c) (kvArg m c) (cotArg m c) s (i 0) (i 1))

end Cert.XattnIdeal.Value

end
-- ==== Proof.XattnRef.lean ====
/-
  The gradient of the memory cross-attention as the reference computes it by differentiating its own lines: its stages,
  element by element, and that at finite arguments they are the row functions of `AttendRows`.
-/
module

public import proofs.«01_k».proof.Proof.Gen.XattnRefIdeal.Read
public import proofs.«01_k».proof.Proof.XattnArrays

@[expose] public section

set_option maxRecDepth 16384
set_option backward.proofsInPublic true

noncomputable section

namespace Cert.XattnRefIdeal.Read

open Cert.XattnRefIdeal Cert.Attend Cert.Extended Idealize.ShloMosaic Idealize.ShloMosaic.TcCoe Idealize.SL.Sem
open Cert.XattnIdeal.Value (queryOf gateOf cotOf keyOf valOf headOf laneOf ownAt kvTerm ownGrad kvGrad)
open scoped BigOperators

variable (P : FVec Ideal S1x8192x6672 .f32) (K : FVec Ideal S1x256x1024 .f32) (D : FVec Ideal S1x8192x2048 .f32)

/-- A reduction along the last of three axes is the fold along that axis. -/
theorem reduce_last {α : Type} (f : α → α → α) [Std.Commutative f] [Std.Associative f] {A B C : ℕ} {u : Shape}
    (X : (⟨3, ![A, B, C]⟩ : Shape).Idx → α) (init : u.Idx → α)
    (h' : (⟨3, ![A, B, C]⟩ : Shape).ReducesTo [2] ⟨2, ![A, B]⟩) (h : (⟨3, ![A, B, C]⟩ : Shape).Reduces [2] ⟨2, ![A, B]⟩) (hu : 0 < u.numel)
    (a : Fin A) (b : Fin B) :
    Host.reduce f X init h' hu (ix2 a b) = Finset.fold f (init (Shape.Idx.first hu)) (fun c => X (ix3 a b c)) Finset.univ := by
  rw [Host.reduce_eq_fold_single f X init h' h hu]
  refine congrArg (fun g => Finset.fold f _ g Finset.univ) (funext fun c => congrArg X (funext fun x => Fin.ext ?_))
  rw [Shape.Reduces.lift_val]
  fin_cases x <;> simp [Shape.Reduces.liftVal]

theorem score_stage (h : Fin 4) (s : Fin 8192) (j : Fin 256) :
    val_main_v12 (F := Ideal) P K (ix3 h s j) = score (queryOf P s h) (keyOf K h) j := by
  pointwise [val_main_v12, val_main_v11, val_main_cst, val_main_v10, val_main_v9, val_main_v7, val_main_v5, val_main_v3, val_main_v2, val_main_v1, val_main_v0]
  simp only [Nat.mul_comm (h : ℕ) 128]
  rfl

theorem top_stage (h : Fin 4) (s : Fin 8192) :
    val_main_v20 (F := Ideal) P K (ix2 h s) = top (score (queryOf P s h) (keyOf K h)) := by
  rw [← funext (score_stage P K h s), val_main_v20_apply]
  unfold val_main_v13
  generalize val_main_v12 (F := Ideal) P K = X
  rw [reduce_last _ X _ _ (by decide) _ h s]
  have e : val_main_v19 (F := Ideal) (ix2 h s) = ⊥ := ofBits_neg_inf
  rw [e]
  exact max_bot_left _

theorem weight_stage (h : Fin 4) (s : Fin 8192) (j : Fin 256) :
    val_main_v33 (F := Ideal) P K (ix3 h s j) = weight (score (queryOf P s h) (keyOf K h)) j := by
  rw [weight, ← score_stage, ← top_stage]
  unfold val_main_v33 val_main_v32 val_main_v31 val_main_v30
  generalize val_main_v12 (F := Ideal) P K = X
  generalize val_main_v20 (F := Ideal) P K = Y
  pointwise

theorem mass_stage (h : Fin 4) (s : Fin 8192) : val_main_v35 (F := Ideal) P K (ix3 h s 0) = mass (score (queryOf P s h) (keyOf K h)) := by
  simp only [mass, ← weight_stage]
  unfold val_main_v35 val_main_v34
  generalize val_main_v33 (F := Ideal) P K = X
  pointwise [val_main_cst_8]

theorem prob_stage (h : Fin 4) (s : Fin 8192) (j : Fin 256) : val_main_v37 (F := Ideal) P K (ix3 h s j) = prob (score (queryOf P s h) (keyOf K h)) j := by
  rw [prob, ← weight_stage, ← mass_stage]
  unfold val_main_v37 val_main_v36
  generalize val_main_v33 (F := Ideal) P K = X
  generalize val_main_v35 (F := Ideal) P K = Y
  pointwise

theorem gate_stage (s : Fin 8192) (h : Fin 4) (l : Fin 128) :
    val_main_v44_0 (F := Ideal) P (ix2 s ⟨h.val * 128 + l.val, by omega⟩) = gate (gateOf P s h l) := by
  pointwise [val_main_v44_0, val_main_v44_2, val_main_call0_v4, val_main_call0_v3, val_main_call0_cst, val_main_call0_v2, val_main_call0_cst_0, val_main_call0_v1, val_main_call0_v0, val_main_v4, val_main_v1, val_main_v0]
  simp only [gateOf, Nat.mul_comm (h : ℕ) 128, ← Nat.add_assoc]
  rfl

theorem probGrad_stage (h : Fin 4) (s : Fin 8192) (j : Fin 256) :
    val_main_v53 (F := Ideal) P K D (ix3 h s j) = probGrad (gateOf P s h) (cotOf D s h) (valOf K h) j := by
  simp only [probGrad, ← gate_stage]
  unfold val_main_v53 val_main_v52 val_main_v51 val_main_v49
  generalize val_main_v44_0 (F := Ideal) P = Z
  pointwise [val_main_v8, val_main_v6, val_main_v2, val_main_v47, val_main_v46, val_main_v45]
  simp only [cotOf, valOf, Nat.mul_comm (h : ℕ) 128, Nat.add_assoc]

theorem scoreGrad_stage (h : Fin 4) (s : Fin 8192) (j : Fin 256) :
    val_main_v69 (F := Ideal) P K D (ix3 h s j) =
      (Ideal.div (val_main_v53 (F := Ideal) P K D (ix3 h s j)) (val_main_v35 (F := Ideal) P K (ix3 h s 0))
        + ∑ _x : Fin 1, -∑ x, val_main_v53 (F := Ideal) P K D (ix3 h s x) * Ideal.div 1 (val_main_v35 (F := Ideal) P K (ix3 h s 0) * val_main_v35 (F := Ideal) P K (ix3 h s 0)) * val_main_v33 (F := Ideal) P K (ix3 h s x))
        * val_main_v33 (F := Ideal) P K (ix3 h s j) * scale := by
  unfold val_main_v69 val_main_v67 val_main_v66 val_main_v65 val_main_v64 val_main_v63 val_main_v62 val_main_v61 val_main_v60 val_main_v59 val_main_v58 val_main_v57 val_main_v56
  unfold val_main_v40 val_main_v38
  generalize val_main_v33 (F := Ideal) P K = X
  generalize val_main_v35 (F := Ideal) P K = Y
  generalize val_main_v53 (F := Ideal) P K D = Z
  pointwise [val_main_v68, val_main_cst_12, val_main_cst_11, val_main_cst_10, val_main_v39, val_main_cst_9]
  rfl

theorem value_stage (s : Fin 8192) (h : Fin 4) (l : Fin 128) :
    val_main_v43 (F := Ideal) P K (ix2 s ⟨h.val * 128 + l.val, by omega⟩) = ∑ j, prob (score (queryOf P s h) (keyOf K h)) j * valOf K h j l := by
  simp only [← prob_stage]
  unfold val_main_v43 val_main_v42 val_main_v41
  generalize val_main_v37 (F := Ideal) P K = X
  pointwise [val_main_v8, val_main_v6, val_main_v2]
  simp only [valOf, Nat.mul_comm (h : ℕ) 128, Nat.add_assoc]
  exact Finset.sum_congr rfl fun x _ => mul_comm _ _

theorem gateGrad_stage (s : Fin 8192) (h : Fin 4) (l : Fin 128) :
    val_main_v50 (F := Ideal) P K D (ix2 s ⟨h.val * 128 + l.val, by omega⟩)
      = val_main_v43 (F := Ideal) P K (ix2 s ⟨h.val * 128 + l.val, by omega⟩) * cotOf D s h l * Ideal.logistic (gateOf P s h l)
        + gateOf P s h l * (val_main_v43 (F := Ideal) P K (ix2 s ⟨h.val * 128 + l.val, by omega⟩) * cotOf D s h l) * (Ideal.logistic (gateOf P s h l) * (1 - Ideal.logistic (gateOf P s h l))) := by
  unfold val_main_v50 val_main_call1_v1 val_main_call1_v2 val_main_call1_v0 val_main_v48
  generalize val_main_v43 (F := Ideal) P K = X
  pointwise [val_main_v44_1, val_main_call0_v7, val_main_call0_v6, val_main_call0_cst_1, val_main_v44_2, val_main_v47, val_main_v46, val_main_call0_v4, val_main_call0_v3, val_main_call0_cst, val_main_call0_v2, val_main_call0_cst_0, val_main_call0_v1, val_main_call0_v0, val_main_v4, val_main_v1, val_main_v0]
  simp only [gateOf, cotOf, Nat.mul_comm (h : ℕ) 128, ← Nat.add_assoc]
  rfl

theorem own_first_stage (s : Fin 8192) (h : Fin 4) (l : Fin 128) :
    val_main_v79 (F := Ideal) P K D (ix2 s ⟨h.val * 128 + l.val, by omega⟩) = ∑ j, val_main_v69 (F := Ideal) P K D (ix3 h s j) * keyOf K h j l := by
  unfold val_main_v79 val_main_v78 val_main_v74 val_main_v73 val_main_v72
  generalize val_main_v69 (F := Ideal) P K D = X
  generalize val_main_v50 (F := Ideal) P K D = Y
  pointwise [val_main_v7, val_main_v5, val_main_v2]
  rw [dif_pos (by omega)]
  simp only [keyOf, Nat.mul_comm (h : ℕ) 128]

theorem own_second_stage (s : Fin 8192) (h : Fin 4) (l : Fin 128) :
    val_main_v79 (F := Ideal) P K D (ix2 s ⟨512 + (h.val * 128 + l.val), by omega⟩) = val_main_v50 (F := Ideal) P K D (ix2 s ⟨h.val * 128 + l.val, by omega⟩) := by
  unfold val_main_v79 val_main_v78
  generalize val_main_v74 (F := Ideal) P K D = X
  generalize val_main_v50 (F := Ideal) P K D = Y
  pointwise

theorem kv_first_stage (j : Fin 256) (h : Fin 4) (l : Fin 128) :
    val_main_v77 (F := Ideal) P K D (ix2 j ⟨h.val * 128 + l.val, by omega⟩) = ∑ s, val_main_v69 (F := Ideal) P K D (ix3 h s j) * queryOf P s h l := by
  unfold val_main_v77 val_main_v76 val_main_v71 val_main_v70
  generalize val_main_v69 (F := Ideal) P K D = X
  generalize val_main_v75 (F := Ideal) P K D = Y
  pointwise [val_main_v9, val_main_v3, val_main_v1, val_main_v0]
  rw [dif_pos (by omega)]
  simp only [queryOf, Nat.mul_comm (h : ℕ) 128]

theorem kv_second_stage (j : Fin 256) (h : Fin 4) (l : Fin 128) :
    val_main_v77 (F := Ideal) P K D (ix2 j ⟨512 + (h.val * 128 + l.val), by omega⟩)
      = ∑ s, prob (score (queryOf P s h) (keyOf K h)) j * (cotOf D s h l * gate (gateOf P s h l)) := by
  simp only [← prob_stage, ← gate_stage]
  unfold val_main_v77 val_main_v75 val_main_v55 val_main_v54 val_main_v52 val_main_v51 val_main_v49
  generalize val_main_v76 (F := Ideal) P K D = X
  generalize val_main_v37 (F := Ideal) P K = Y
  generalize val_main_v44_0 (F := Ideal) P = Z
  pointwise [val_main_v47, val_main_v46]
  simp only [cotOf, Nat.mul_comm (h : ℕ) 128]
  exact Finset.sum_congr rfl fun x _ => mul_comm _ _

/-! ## At finite arguments -/

section Finite

variable (hP : ∀ (s : Fin 8192) (a : Fin 1024), IsReal (P (ix3 0 s ⟨5648 + a.val, by omega⟩)))
  (hK : ∀ (j : Fin 256) (a : Fin 1024), IsReal (K (ix3 0 j a)))
  (hD : ∀ (s : Fin 8192) (a : Fin 512), IsReal (D (ix3 0 s ⟨1536 + a.val, by omega⟩)))

include hP hK hD

theorem query_real (s : Fin 8192) (h : Fin 4) (l : Fin 128) : IsReal (queryOf P s h l) := hP s ⟨128 * h.val + l.val, by omega⟩

theorem gate_real (s : Fin 8192) (h : Fin 4) (l : Fin 128) : IsReal (gateOf P s h l) := by
  have := hP s ⟨512 + (128 * h.val + l.val), by omega⟩
  simpa only [gateOf, ← Nat.add_assoc] using this

theorem cot_real (s : Fin 8192) (h : Fin 4) (l : Fin 128) : IsReal (cotOf D s h l) := hD s ⟨128 * h.val + l.val, by omega⟩

theorem row_stage (h : Fin 4) (s : Fin 8192) (j : Fin 256) :
    val_main_v69 (F := Ideal) P K D (ix3 h s j) = rowGrad (queryOf P s h) (gateOf P s h) (cotOf D s h) (keyOf K h) (valOf K h) j := by
  rw [scoreGrad_stage]
  simp only [probGrad_stage, mass_stage, weight_stage]
  exact scoreGrad_eq_quotient (isReal_score (query_real P K D hP hK hD s h) fun j l => hK j _)
    (isReal_probGrad (gate_real P K D hP hK hD s h) (cot_real P K D hP hK hD s h) fun j l => hK j _) j

theorem own_eq : val_main_v79 (F := Ideal) P K D = ownGrad P K D := by
  funext i
  idx_vars i
  show _ = ownAt P K D i0 i1
  unfold ownAt
  split
  · next ha =>
    have e : i1 = ⟨(headOf i1).val * 128 + (laneOf i1).val, by omega⟩ := Fin.ext (by simp only [headOf, laneOf]; omega)
    refine (congrArg (fun a => val_main_v79 (F := Ideal) P K D (ix2 i0 a)) e).trans ((own_first_stage P K D i0 _ _).trans ?_)
    simp only [row_stage P K D hP hK hD]
    rfl
  · next ha =>
    have e : i1 = ⟨512 + ((headOf i1).val * 128 + (laneOf i1).val), by omega⟩ := Fin.ext (by simp only [headOf, laneOf]; omega)
    refine (congrArg (fun a => val_main_v79 (F := Ideal) P K D (ix2 i0 a)) e).trans
      ((own_second_stage P K D i0 _ _).trans ((gateGrad_stage P K D i0 _ _).trans ?_))
    rw [value_stage]
    exact gateGrad_eq_two (gate_real P K D hP hK hD i0 _ _) (cot_real P K D hP hK hD i0 _ _)
      (IsReal.sum fun j => (isReal_prob (isReal_score (query_real P K D hP hK hD i0 _) fun j l => hK j _) j).mul (hK j _))

theorem kv_eq : val_main_v77 (F := Ideal) P K D = kvGrad P K D := by
  funext i
  idx_vars i
  show _ = ∑ s, kvTerm P K D s i0 i1
  by_cases ha : i1.val < 512
  · have e : i1 = ⟨(headOf i1).val * 128 + (laneOf i1).val, by omega⟩ := Fin.ext (by simp only [headOf, laneOf]; omega)
    refine (congrArg (fun a => val_main_v77 (F := Ideal) P K D (ix2 i0 a)) e).trans ((kv_first_stage P K D i0 _ _).trans ?_)
    simp only [row_stage P K D hP hK hD, kvTerm, if_pos ha]
    rfl
  · have e : i1 = ⟨512 + ((headOf i1).val * 128 + (laneOf i1).val), by omega⟩ := Fin.ext (by simp only [headOf, laneOf]; omega)
    refine (congrArg (fun a => val_main_v77 (F := Ideal) P K D (ix2 i0 a)) e).trans ((kv_second_stage P K D i0 _ _).trans ?_)
    simp only [kvTerm, if_neg ha]
    rfl

end Finite

end Cert.XattnRefIdeal.Read

end
-- ==== Proof.XattnClaims.lean ====
/-
  The claims about the memory cross-attention, backward (`Xattn`, its idealization and its reference).
-/
module

public import proofs.«01_k».proof.Defs
public import proofs.«01_k».proof.Proof.Gen.Xattn
public import proofs.«01_k».proof.Proof.Gen.Xattn.Frame
public import proofs.«01_k».proof.Proof.Gen.XattnIdeal
public import proofs.«01_k».proof.Proof.Gen.XattnRefIdeal
public import proofs.«01_k».proof.Proof.XattnRef
public import Idealize.ShloMosaic.Lib.Quiescent

@[expose] public section

set_option maxRecDepth 16384
set_option backward.proofsInPublic true

noncomputable section

namespace Cert.Proof

open Idealize.ShloMosaic Idealize.ShloMosaic.TcCoe Idealize.SL.Sem Cert.Extended

theorem andi_one : ∀ a b : BitVec 1, IntOp.andi a b = 1#1 → a = 1#1 ∧ b = 1#1 := by decide

/-- The shapes of the precondition's own operations fit. -/
theorem xattn_finite_facts : Cert.Pre_xattn_finite.Facts := by
  constructor <;> decide

/-- Where the precondition holds, the columns of the projection, of the memory and of the cotangent that the attention
    reads are real numbers. -/
theorem xattn_finite_real [Cert.Pre_xattn_finite.Facts] (P : FVec Ideal Cert.Pre_xattn_finite.S1x8192x6672 .f32) (K : FVec Ideal Cert.Pre_xattn_finite.S1x256x1024 .f32)
    (D : FVec Ideal Cert.Pre_xattn_finite.S1x8192x2048 .f32) (h : Cert.Pre_xattn_finite.fn P K D = fun _ => 1#1) :
    (∀ (s : Fin 8192) (a : Fin 1024), IsReal (P (ix3 0 s ⟨5648 + a.val, by omega⟩)))
      ∧ (∀ (j : Fin 256) (a : Fin 1024), IsReal (K (ix3 0 j a)))
      ∧ (∀ (s : Fin 8192) (a : Fin 512), IsReal (D (ix3 0 s ⟨1536 + a.val, by omega⟩))) := by
  have h0 := congrFun h (fun a => a.elim0)
  obtain ⟨hab, hd⟩ := andi_one _ _ h0
  obtain ⟨ha, hb⟩ := andi_one _ _ hab
  refine ⟨fun s a => ?_, fun j a => ?_, fun s a => ?_⟩
  · have e : extractStridedSlice Pre_xattn_finite.S1x8192x1024 ![0, 0, 5648] P
        (by decide) (ix3 0 s a) = P (ix3 0 s ⟨5648 + a.val, by omega⟩) := by pointwise
    have := forall_of_reduce_andi _ _ _ _ _ ha (ix3 0 s a) (funext fun x => x.elim0)
    refine isReal_of_abs_lt ?_
    rw [← e, ← ofBits_inf]
    exact this
  · have := forall_of_reduce_andi _ _ _ _ _ hb (ix3 0 j a) (funext fun x => x.elim0)
    refine isReal_of_abs_lt ?_
    rw [← ofBits_inf]
    exact this
  · have e : extractStridedSlice Pre_xattn_finite.S1x8192x512 ![0, 0, 1536] D
        (by decide) (ix3 0 s a) = D (ix3 0 s ⟨1536 + a.val, by omega⟩) := by pointwise
    have := forall_of_reduce_andi _ _ _ _ _ hd (ix3 0 s a) (funext fun x => x.elim0)
    refine isReal_of_abs_lt ?_
    rw [← e, ← ofBits_inf]
    exact this

theorem xattn_ref_quiescent : Cert.quiescent_XattnRefIdeal := fun m ρ _ =>
  (θ_run Cert.XattnRefIdeal.defs _ _).mono (fun r h => ⟨fun c => (h c).2.2, sem_eq_zero_of_no_sems (by decide) r.2⟩)
    (Cert.XattnRefIdeal.Value.run (F := Ideal) m ρ)

theorem xattn_algebraic : Cert.algebraic_XattnIdeal_XattnRefIdeal_pre_xattn_finite (hPre_xattn_finite := xattn_finite_facts) := by
  haveI := xattn_finite_facts
  intro m g m' g' hfin hagree
  refine ⟨_, _, Cert.XattnIdeal.Value.run_blocks (F := Ideal) m g, ?_⟩
  refine (θ_run Cert.XattnRefIdeal.defs _ _).mono (fun r h c => ?_) (Cert.XattnRefIdeal.Value.run (F := Ideal) m' g')
  obtain ⟨h0, h1, h2⟩ := hagree c
  obtain ⟨ho, hk, hargs⟩ := h c
  obtain ⟨hP, hK, hD⟩ := xattn_finite_real _ _ _ (hfin c)
  rw [Cert.XattnRefIdeal.Read.val_main_v79_eq, h0, h1, h2, Cert.XattnRefIdeal.Read.own_eq _ _ _ hP hK hD] at ho
  rw [Cert.XattnRefIdeal.Read.val_main_v77_eq, h0, h1, h2, Cert.XattnRefIdeal.Read.kv_eq _ _ _ hP hK hD] at hk
  exact ⟨ho.trans (Cert.XattnIdeal.Value.own_final m c).symm, hk.trans (Cert.XattnIdeal.Value.kv_final m c).symm, hargs⟩

end Cert.Proof

end
-- ==== Proof.GatingRows.lean ====
/-
  Spatial gating of one chunk of 128 tokens and its gradient, as functions of the chunk's numbers alone: the activations, the
  normalised row, the masked mixing of the tokens of a chunk, and what the gradient sends to each of them. The identities at the
  end say that the same gradients, written as differentiation writes them, are equal where all numbers are real.
-/
module

public import proofs.«01_k».proof.Proof.Extended

@[expose] public section

noncomputable section

namespace Cert.Gating

open Idealize.ShloMosaic Cert.Extended
open scoped BigOperators

/-! ## Constants -/

abbrev half : EReal := Ideal.ofBits .f32 0x3F000000#32
abbrev minusHalf : EReal := Ideal.ofBits .f32 0xBF000000#32
abbrev three : EReal := Ideal.ofBits .f32 0x40400000#32
/-- The width of a row, 512. -/
abbrev width : EReal := Ideal.ofBits .f32 0x44000000#32
/-- The small number added to a variance. -/
abbrev eps : EReal := Ideal.ofBits .f32 0x358637BD#32
/-- The square root of `2 / π`, as it is rounded. -/
abbrev root : EReal := Ideal.ofBits .f32 0x3F4C422A#32
/-- The cubic coefficient of the activation, 0.044715, and three times it. -/
abbrev cubic : EReal := ((8943 / 200000 : ℝ) : EReal)
abbrev cubicSlope : EReal := ((26829 / 200000 : ℝ) : EReal)

/-! ## The functions -/

abbrev bend (x : EReal) : EReal := Ideal.tanh (root * (x + cubic * x * x * x))

/-- The activation of `u` and `v`. -/
def gelu (x : EReal) : EReal := half * x * (1 + bend x)

def geluSlope (x : EReal) : EReal :=
  half * (1 + bend x) + half * x * (1 - bend x * bend x) * root * (1 + cubicSlope * x * x)

/-- The gate, `z` times its logistic. -/
def gate (z : EReal) : EReal := z * Ideal.logistic z

def gateSlope (z : EReal) : EReal := Ideal.logistic z * (1 + z * (1 - Ideal.logistic z))

def mean (f : Fin 512 → EReal) : EReal := Ideal.div (∑ j, f j) width

def centre (f : Fin 512 → EReal) (j : Fin 512) : EReal := f j - mean f

def spread (f : Fin 512 → EReal) : EReal := Ideal.rsqrt (mean (fun j => centre f j * centre f j) + eps)

/-- A row with its mean taken off, over its deviation. -/
def hat (f : Fin 512 → EReal) (j : Fin 512) : EReal := centre f j * spread f

/-- What a gradient `d` at the normalised row `hat f` is at the row itself. -/
def hatGrad (f d : Fin 512 → EReal) (j : Fin 512) : EReal :=
  spread f * (d j - mean d - hat f j * mean (fun x => d x * hat f x))

/-- Lane `l` of channel group `g`, and the group of a lane. -/
abbrev lane (g : Fin 4) (l : Fin 128) : Fin 512 := ⟨128 * g.val + l.val, by omega⟩
abbrev groupOf (j : Fin 512) : Fin 4 := ⟨j.val / 128, by omega⟩

/-- The parameters of the gating: the norm's scale and shift, the mixing weights and the bias. -/
structure Params where
  scale : Fin 512 → EReal
  shift : Fin 512 → EReal
  mix : Fin 4 → Fin 128 → Fin 128 → EReal
  bias : Fin 128 → Fin 4 → EReal

/-- The columns of a chunk that enter, and the gradient of its result. -/
structure Chunk where
  u : Fin 128 → Fin 512 → EReal
  v : Fin 128 → Fin 512 → EReal
  z : Fin 128 → Fin 512 → EReal
  d : Fin 128 → Fin 512 → EReal

variable (p : Params) (k : Chunk)

/-- The mixing weights on and below the diagonal. -/
def Params.causal (g : Fin 4) (t s : Fin 128) : EReal := if s ≤ t then p.mix g t s else 0

def Chunk.rowOf (s : Fin 128) (j : Fin 512) : EReal := gelu (k.v s j)

def normed (s : Fin 128) (j : Fin 512) : EReal := hat (k.rowOf s) j * p.scale j + p.shift j

/-- The mixed tokens. -/
def mixed (t : Fin 128) (j : Fin 512) : EReal := (∑ s, p.causal (groupOf j) t s * normed p k s j) + p.bias t (groupOf j)

def mixedGrad (t : Fin 128) (j : Fin 512) : EReal := k.d t j * gelu (k.u t j) * gate (k.z t j)

def normedGrad (s : Fin 128) (j : Fin 512) : EReal := ∑ t, p.causal (groupOf j) t s * mixedGrad k t j

def uGrad (t : Fin 128) (j : Fin 512) : EReal := k.d t j * mixed p k t j * gate (k.z t j) * geluSlope (k.u t j)

def zGrad (t : Fin 128) (j : Fin 512) : EReal := k.d t j * gelu (k.u t j) * mixed p k t j * gateSlope (k.z t j)

def vGrad (s : Fin 128) (j : Fin 512) : EReal :=
  hatGrad (k.rowOf s) (fun x => normedGrad p k s x * p.scale x) j * geluSlope (k.v s j)

/-- What one chunk adds to the gradients of the parameters. -/
def mixPart (g : Fin 4) (t s : Fin 128) : EReal := ∑ l, mixedGrad k t (lane g l) * normed p k s (lane g l)

def biasPart (t : Fin 128) (g : Fin 4) : EReal := ∑ l, mixedGrad k t (lane g l)

def scalePart (s : Fin 128) (j : Fin 512) : EReal := normedGrad p k s j * hat (k.rowOf s) j

/-! ## Real numbers -/

structure Params.Real : Prop where
  scale : ∀ j, IsReal (p.scale j)
  shift : ∀ j, IsReal (p.shift j)
  mix : ∀ g t s, IsReal (p.mix g t s)
  bias : ∀ t g, IsReal (p.bias t g)

structure Chunk.Real : Prop where
  u : ∀ s j, IsReal (k.u s j)
  v : ∀ s j, IsReal (k.v s j)
  z : ∀ s j, IsReal (k.z s j)
  d : ∀ s j, IsReal (k.d s j)

theorem half_eq : half = ((1 / 2 : ℝ) : EReal) := by
  simp [half, Ideal.ofBits, Ideal.ieee]
  rw [← EReal.coe_mul]
  congr 1
  norm_num

theorem minusHalf_eq : minusHalf = ((-(1 / 2) : ℝ) : EReal) := by
  simp [minusHalf, Ideal.ofBits, Ideal.ieee]
  rw [← EReal.coe_mul]
  congr 1
  norm_num

theorem three_eq : three = ((3 : ℝ) : EReal) := by
  simp [three, Ideal.ofBits, Ideal.ieee]
  rw [← EReal.coe_mul]
  congr 1
  norm_num

theorem width_eq : width = ((512 : ℝ) : EReal) := by
  simp [width, Ideal.ofBits, Ideal.ieee]
  rw [← EReal.coe_mul]
  congr 1
  norm_num

theorem eps_pos : ∃ e : ℝ, 0 < e ∧ eps = (e : EReal) := by
  refine ⟨_, ?_, by simp [eps, Ideal.ofBits, Ideal.ieee]; rfl⟩
  positivity

theorem isReal_root : IsReal root := isReal_ofBits _ (by decide)

theorem IsReal.bend {x : EReal} (h : IsReal x) : IsReal (bend x) := by
  obtain ⟨c, hc⟩ := isReal_root
  obtain ⟨x, rfl⟩ := h
  rw [Gating.bend, ← hc]
  simp only [← EReal.coe_mul, ← EReal.coe_add, Ideal.tanh_coe]
  exact isReal_coe _

theorem isReal_one : IsReal 1 := isReal_coe 1
theorem isReal_half : IsReal half := half_eq ▸ isReal_coe _

theorem isReal_gelu {x : EReal} (h : IsReal x) : IsReal (gelu x) :=
  (isReal_half.mul h).mul (isReal_one.add (IsReal.bend h))

theorem isReal_gate {x : EReal} (h : IsReal x) : IsReal (gate x) := h.mul h.logistic

/-- The activation with its factor one half inside, and with `x ^ 3` formed first. -/
theorem gelu_eq {x : EReal} (h : IsReal x) : x * (half * (1 + Ideal.tanh (root * (x + cubic * (x * x * x))))) = gelu x := by
  obtain ⟨c, hc⟩ := isReal_root
  obtain ⟨x, rfl⟩ := h
  simp only [gelu, bend, ← hc, half_eq, ← EReal.coe_mul, ← EReal.coe_add, ← EReal.coe_one, Ideal.tanh_coe]
  rw [show 8943 / 200000 * (x * x * x) = 8943 / 200000 * x * x * x by ring]
  congr 1
  ring

/-- The three summands in which differentiation writes the gradient of the activation. -/
theorem geluSlope_eq {x d t : EReal} (h : IsReal x) (hd : IsReal d) (ht : t = Ideal.tanh (root * (x + cubic * (x * x * x)))) :
    d * (half * (1 + t)) + root * (half * (x * d) * ((1 + t) * (1 - t)))
      + cubic * (root * (half * (x * d) * ((1 + t) * (1 - t)))) * (three * (x * x)) = d * geluSlope x := by
  subst ht
  obtain ⟨c, hc⟩ := isReal_root
  obtain ⟨x, rfl⟩ := h
  obtain ⟨d, rfl⟩ := hd
  simp only [geluSlope, bend, ← hc, half_eq, three_eq, ← EReal.coe_mul, ← EReal.coe_add, ← EReal.coe_sub, ← EReal.coe_one, Ideal.tanh_coe]
  rw [show 8943 / 200000 * (x * x * x) = 8943 / 200000 * x * x * x by ring]
  congr 1
  ring

/-- The two summands in which differentiation writes the gradient of the gate. -/
theorem gateSlope_eq {z d x y : EReal} (hz : IsReal z) (hd : IsReal d) (hx : IsReal x) (hy : IsReal y) :
    x * y * d * Ideal.logistic z + z * (x * y * d) * (Ideal.logistic z * (1 - Ideal.logistic z)) = d * x * y * gateSlope z := by
  obtain ⟨w, hw⟩ := hz.logistic
  obtain ⟨a, rfl⟩ := hz
  obtain ⟨b, rfl⟩ := hd
  obtain ⟨c, rfl⟩ := hx
  obtain ⟨e, rfl⟩ := hy
  simp only [gateSlope, ← hw, ← EReal.coe_mul, ← EReal.coe_one, ← EReal.coe_sub, ← EReal.coe_add]
  congr 1
  ring

section Row

variable {f : Fin 512 → EReal} (hf : ∀ j, IsReal (f j))

theorem mean_coe (f : Fin 512 → ℝ) : mean (fun j => (f j : EReal)) = (((∑ j, f j) / 512 : ℝ) : EReal) := by
  rw [mean, width_eq, ← coe_sum, Ideal.div_coe (by norm_num), ← EReal.coe_mul]
  congr 1
  ring

/-- The row in real numbers: its centre sums to zero, and its deviation's inverse squares to the inverse of the variance. -/
theorem row_real (hf : ∀ j, IsReal (f j)) :
    ∃ (c : Fin 512 → ℝ) (r q : ℝ), (∀ j, centre f j = (c j : EReal)) ∧ spread f = (r : EReal) ∧ ∑ j, c j = 0 ∧ q ≠ 0 ∧ r * r * q = 1
      ∧ mean (fun j => centre f j * centre f j) + eps = (q : EReal) := by
  choose a ha using hf
  obtain ⟨e, he, hee⟩ := eps_pos
  obtain rfl : (fun j => (a j : EReal)) = f := funext ha
  have hc : ∀ j, centre (fun j => (a j : EReal)) j = ((a j - (∑ j, a j) / 512 : ℝ) : EReal) := fun j => by
    rw [centre, mean_coe, ← EReal.coe_sub]
  have hq : mean (fun j => centre (fun j => (a j : EReal)) j * centre (fun j => (a j : EReal)) j) + eps
      = (((∑ j, (a j - (∑ j, a j) / 512) * (a j - (∑ j, a j) / 512)) / 512 + e : ℝ) : EReal) := by
    simp only [hc, ← EReal.coe_mul]
    rw [mean_coe, hee, ← EReal.coe_add]
  have hpos : 0 < (∑ j, (a j - (∑ j, a j) / 512) * (a j - (∑ j, a j) / 512)) / 512 + e :=
    add_pos_of_nonneg_of_pos (div_nonneg (Finset.sum_nonneg fun j _ => mul_self_nonneg _) (by norm_num)) he
  refine ⟨_, (Real.sqrt ((∑ j, (a j - (∑ j, a j) / 512) * (a j - (∑ j, a j) / 512)) / 512 + e))⁻¹, _, hc, ?_, ?_, hpos.ne', ?_, hq⟩
  · rw [spread, hq, Ideal.rsqrt_coe, if_neg hpos.not_gt, if_neg hpos.ne']
  · rw [Finset.sum_sub_distrib]
    simp
    ring
  · have := Real.mul_self_sqrt hpos.le
    rw [← mul_inv, this]
    exact inv_mul_cancel₀ hpos.ne'

theorem isReal_hat (hf : ∀ j, IsReal (f j)) (j : Fin 512) : IsReal (hat f j) := by
  obtain ⟨c, r, q, hc, hr, -⟩ := row_real hf
  rw [hat, hc, hr]
  exact (isReal_coe _).mul (isReal_coe _)

theorem isReal_mean {f : Fin 512 → EReal} (hf : ∀ j, IsReal (f j)) : IsReal (mean f) := by
  choose a ha using hf
  obtain rfl : (fun j => (a j : EReal)) = f := funext ha
  rw [mean_coe]
  exact isReal_coe _

theorem isReal_hatGrad {d : Fin 512 → EReal} (hf : ∀ j, IsReal (f j)) (hd : ∀ j, IsReal (d j)) (j : Fin 512) : IsReal (hatGrad f d j) := by
  obtain ⟨c, r, q, hc, hr, -⟩ := row_real hf
  have hs : IsReal (spread f) := hr ▸ isReal_coe r
  exact hs.mul (((hd j).sub (isReal_mean hd)).sub ((isReal_hat hf j).mul (isReal_mean fun x => (hd x).mul (isReal_hat hf x))))

/-- The gradient of a normalised row in the terms in which differentiation writes it. -/
theorem hatGrad_eq {d : Fin 512 → EReal} (hf : ∀ j, IsReal (f j)) (hd : ∀ j, IsReal (d j)) (j : Fin 512) (K : EReal) (w : Fin 512 → EReal)
    (hK : K = Ideal.div ((∑ x, centre f x * d x) * (minusHalf * Ideal.div (spread f) (mean (fun j => centre f j * centre f j) + eps))) width)
    (hw : ∀ x, w x = d x * spread f + centre f x * K + K * centre f x) :
    w j + Ideal.div (∑ x, -w x) width = hatGrad f d j := by
  obtain ⟨c, r, q, hc, hr, h0, hq, hrq, hqe⟩ := row_real hf
  choose a ha using hd
  obtain rfl : (fun j => (a j : EReal)) = d := funext ha
  have hK' : K = (((∑ x, c x * a x) * (-(1 / 2) * (r * (1 / q))) / 512 : ℝ) : EReal) := by
    rw [hK, hqe, hr]
    simp only [hc, minusHalf_eq, width_eq, ← EReal.coe_mul, ← coe_sum]
    rw [Ideal.div_coe hq, ← EReal.coe_mul, ← EReal.coe_mul, ← EReal.coe_mul, Ideal.div_coe (by norm_num), ← EReal.coe_mul]
    congr 1
    ring
  have hw' : ∀ x, w x = ((a x * r + 2 * c x * ((∑ x, c x * a x) * (-(1 / 2) * (r * (1 / q))) / 512) : ℝ) : EReal) := fun x => by
    rw [hw, hc, hr, hK']
    simp only [← EReal.coe_mul, ← EReal.coe_add]
    congr 1
    ring
  simp only [hatGrad, hat, hw', hc, hr, ← EReal.coe_mul, ← EReal.coe_neg, ← coe_sum, width_eq]
  rw [mean_coe, mean_coe, Ideal.div_coe (by norm_num)]
  simp only [← EReal.coe_mul, ← EReal.coe_sub, ← EReal.coe_add]
  congr 1
  have e1 : ∑ x, -(a x * r + 2 * c x * ((∑ x, c x * a x) * (-(1 / 2) * (r * (1 / q))) / 512)) = -((∑ x, a x) * r) := by
    rw [Finset.sum_neg_distrib, Finset.sum_add_distrib, ← Finset.sum_mul, ← Finset.sum_mul, ← Finset.mul_sum, h0]
    ring
  have e2 : ∑ x, a x * (c x * r) = (∑ x, c x * a x) * r := by
    rw [Finset.sum_mul]; exact Finset.sum_congr rfl fun x _ => by ring
  rw [e1, e2, show (1 / q : ℝ) = r * r by field_simp; linarith]
  ring

end Row

section Chunks

variable {p k}

theorem Params.Real.causal (hp : p.Real) (g : Fin 4) (t s : Fin 128) : IsReal (p.causal g t s) := by
  unfold Params.causal
  split
  · exact hp.mix g t s
  · exact isReal_coe 0

theorem Chunk.Real.rowOf (hk : k.Real) (s : Fin 128) (j : Fin 512) : IsReal (k.rowOf s j) := isReal_gelu (hk.v s j)

theorem isReal_normed (hp : p.Real) (hk : k.Real) (s : Fin 128) (j : Fin 512) : IsReal (normed p k s j) :=
  ((isReal_hat (hk.rowOf s) j).mul (hp.scale j)).add (hp.shift j)

theorem isReal_mixed (hp : p.Real) (hk : k.Real) (t : Fin 128) (j : Fin 512) : IsReal (mixed p k t j) :=
  (IsReal.sum fun s => (hp.causal _ t s).mul (isReal_normed hp hk s j)).add (hp.bias _ _)

theorem isReal_mixedGrad (hk : k.Real) (t : Fin 128) (j : Fin 512) : IsReal (mixedGrad k t j) :=
  ((hk.d t j).mul (isReal_gelu (hk.u t j))).mul (isReal_gate (hk.z t j))

theorem isReal_normedGrad (hp : p.Real) (hk : k.Real) (s : Fin 128) (j : Fin 512) : IsReal (normedGrad p k s j) :=
  IsReal.sum fun t => (hp.causal _ t s).mul (isReal_mixedGrad hk t j)

end Chunks

end Cert.Gating

end
-- ==== Proof.GmlpBlocks.lean ====
/-
  The gradient of the spatial gating (`gmlp_bwd`), one grid point at a time: what a point's body leaves in its five output
  blocks, as the functions of `GatingRows` over the four chunks of 128 tokens of the point's blocks. The body treats the
  sixteen pairs of a channel group and a chunk one after the other in the same operations, so each fact is proved of the first
  pair's payloads and holds of the others'.
-/
module

public import proofs.«01_k».proof.Proof.Gen.GmlpIdeal.Value
public import proofs.«01_k».proof.Proof.GatingRows
public import proofs.«01_k».proof.Proof.Pieces
public import Idealize.ShloMosaic.Lib.WordCmp
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GmlpIdeal.Value

open Cert.GmlpIdeal Cert.GmlpIdeal.Gen Cert.Gating Cert.Pieces Idealize.ShloMosaic Idealize.ShloMosaic.TcCoe Idealize.SL.Sem
open scoped BigOperators

/-- The named constants. -/
theorem named_cubic : (Named.named κ "gelu_cubic" 0x3D372713#32 : Ideal .f32) = cubic := rfl
theorem named_slope : (Named.named κ "gelu_slope" 0x3E095D4F#32 : Ideal .f32) = cubicSlope := rfl

/-- The `128 × 128` tile of a block at row `o` and column `e`. -/
abbrev tile (X : Vec Ideal S512x512 .f32) (o e : ℕ)
    (inb : ∀ a, (![o, e] : Fin 2 → ℕ) a + (![128, 128] : Fin 2 → ℕ) a ≤ (![512, 512] : Fin 2 → ℕ) a) : Vec Ideal S128x128 .f32 :=
  View.ld X (Rect.unit (s := S512x512) ![o, e] ![128, 128] inb)

theorem tile_apply (X : Vec Ideal S512x512 .f32) (o e : ℕ) (inb) (s l : Fin 128) (r : Fin 512) (j : Fin 512)
    (hr : r.val = o + s.val) (hj : j.val = e + l.val) : tile X o e inb (ix2 s l) = X (ix2 r j) :=
  View.ld_unit_apply_of X _ _ inb _ _ fun a => by
    fin_cases a
    · exact hr
    · exact hj

/-- Row `s` of chunk `q` of a block. -/
abbrev tok (q : Fin 4) (s : Fin 128) : Fin 512 := ⟨128 * q.val + s.val, by omega⟩

/-- The parameters, and chunk `q` of a point's blocks. -/
abbrev params (x4 x5 : Vec Ideal S1x512 .f32) (x6 : Vec Ideal S4x128x128 .f32) (x7 : Vec Ideal S128x4 .f32) : Params where
  scale j := x4 (ix2 0 j)
  shift j := x5 (ix2 0 j)
  mix g t s := x6 (ix3 g t s)
  bias t g := x7 (ix2 t g)

abbrev chunk (x0 x1 x2 x3 : Vec Ideal S512x512 .f32) (q : Fin 4) : Chunk where
  u s j := x0 (ix2 (tok q s) j)
  v s j := x1 (ix2 (tok q s) j)
  z s j := x2 (ix2 (tok q s) j)
  d s j := x3 (ix2 (tok q s) j)

/-- The row numbers of a `128 × 128` tile. -/
abbrev rowIds : IVec S128x128 32 := iota .tc S128x128 32 [0] iota_S128x128_d0_w32

section Norm

variable (x1 : Vec Ideal S512x512 .f32) (x4 x5 : Vec Ideal S1x512 .f32)

theorem centre_apply (r j : Fin 512) : k0_pay7 (F := Ideal) x1 (ix2 r j) = centre (fun j => gelu (x1 (ix2 r j))) j := by
  pointwise [k0_pay7, k0_pay6, named_cubic]
  rfl

theorem spread_apply (r : Fin 512) (a : Fin 1) : k0_pay8 (F := Ideal) x1 (ix2 r a) = spread (fun j => gelu (x1 (ix2 r j))) := by
  pointwise [k0_pay8]
  simp only [centre_apply]
  rfl

theorem hat_apply (r j : Fin 512) : k0_pay9 (F := Ideal) x1 (ix2 r j) = hat (fun j => gelu (x1 (ix2 r j))) j := by
  pointwise [k0_pay9]
  rw [centre_apply, spread_apply]
  rfl

theorem normed_apply (r j : Fin 512) :
    k0_pay10 (F := Ideal) x1 x4 x5 (ix2 r j) = hat (fun j => gelu (x1 (ix2 r j))) j * x4 (ix2 0 j) + x5 (ix2 0 j) := by
  pointwise [k0_pay10]
  rw [hat_apply]

end Norm

section Piece

variable (u z d n : Vec Ideal S128x128 .f32) (w : FVec Ideal S128x128 .bf16) (b : Vec Ideal S128x1 .f32) (t s l : Fin 128)

theorem mixedGrad_at : k0_pay23 (F := Ideal) u z d (ix2 t l) = d (ix2 t l) * gelu (u (ix2 t l)) * gate (z (ix2 t l)) := by
  pointwise [k0_pay23, k0_pay20, k0_pay21, k0_pay18, k0_pay22, k0_pay19, named_cubic]
  rfl

theorem weights_at (W : Vec Ideal S1x128x128 .f32) :
    k0_pay12 (F := Ideal) rowIds W (ix2 t s) = if s ≤ t then W (ix3 0 t s) else 0 := by
  have ht := t.isLt
  have hs := s.isLt
  pointwise [k0_pay12, k0_pay11]
  rw [WordCmp.cmpi_sge_ofNat (by omega) (by omega)]
  by_cases h : s ≤ t
  · rw [if_pos h]
    have : (s : ℕ) ≤ t := h
    simp [this, Scalar.select]
  · rw [if_neg h]
    have : ¬(s : ℕ) ≤ t := h
    simp [this, Scalar.select]

theorem normedGrad_at (e : FVec Ideal S128x128 .f32) : k0_pay30 (F := Ideal) w e (ix2 s l) = ∑ t, w (ix2 t s) * e (ix2 t l) := by
  pointwise [k0_pay30]

theorem uGrad_at (m : FVec Ideal S128x128 .f32) : k0_pay25 (F := Ideal) u m (ix2 t l) = m (ix2 t l) * geluSlope (u (ix2 t l)) := by
  pointwise [k0_pay25, named_cubic, named_slope]
  rfl

/-- The mixed tokens of a tile. -/
abbrev mixedPay : FVec Ideal S128x128 .f32 :=
  addf (matmul dot_S128x128_S128x128_S128x128_1_0_0_1_n_n none w (truncf .bf16 n bitsLt_bf16_f32) (constant S128x128 .f32 0x00000000#32))
    (broadcastTo S128x128 (k0_pay13 b) broadcasts_S128x1_S128x128)

theorem mixed_at : mixedPay n w b (ix2 t l) = (∑ s, w (ix2 t s) * n (ix2 s l)) + b (ix2 t 0) := by
  pointwise [k0_pay13]

/-- A tile's part of the gradient of `z`. -/
abbrev zPay (m : FVec Ideal S128x128 .f32) : FVec Ideal S128x128 .bf16 := k0_pay26 m (k0_pay19 z) (k0_pay20 d) (k0_pay21 u)

theorem zGrad_at (m : FVec Ideal S128x128 .f32) :
    zPay u z d m (ix2 t l) = d (ix2 t l) * gelu (u (ix2 t l)) * m (ix2 t l) * gateSlope (z (ix2 t l)) := by
  pointwise [k0_pay26, k0_pay20, k0_pay21, k0_pay18, k0_pay19, named_cubic]
  rfl

/-- A tile's part of the gradient of `u`. -/
abbrev uPay (m : FVec Ideal S128x128 .f32) : FVec Ideal S128x128 .bf16 := k0_pay25 (k0_pay18 u) (mulf (mulf (k0_pay20 d) m) (k0_pay22 z))

theorem uPay_at (m : FVec Ideal S128x128 .f32) :
    uPay u z d m (ix2 t l) = d (ix2 t l) * m (ix2 t l) * gate (z (ix2 t l)) * geluSlope (u (ix2 t l)) := by
  refine (uGrad_at _ t l _).trans ?_
  pointwise [k0_pay18, k0_pay20, k0_pay22, k0_pay19]
  rfl

theorem mixGrad_at (acc : FVec Ideal S128x128 .f32) (e : FVec Ideal S128x128 .f32) :
    k0_pay28 (F := Ideal) acc n (k0_pay27 e) (ix2 t s) = acc (ix2 t s) + ∑ l, e (ix2 t l) * n (ix2 s l) := by
  pointwise [k0_pay28, k0_pay27]

theorem biasGrad_at (acc : FVec Ideal S128x1 .f32) (e : FVec Ideal S128x128 .f32) (a : Fin 1) :
    k0_pay29 (F := Ideal) acc e (ix2 t a) = acc (ix2 t a) + ∑ l, e (ix2 t l) := by
  pointwise [k0_pay29]

end Piece

/-- The fills of the accumulators. -/
theorem mix_fill (y) (b : EReal) : k0_pay2 (F := Ideal) y + b = b := by
  rw [show k0_pay2 (F := Ideal) y = 0 from Ideal.ofBits_zero .f32, zero_add]
theorem bias_fill (y) (b : EReal) : k0_pay3 (F := Ideal) y + b = b := by
  rw [show k0_pay3 (F := Ideal) y = 0 from Ideal.ofBits_zero .f32, zero_add]
theorem scale_fill (y) (b : EReal) : k0_pay4 (F := Ideal) y + b = b := by
  rw [show k0_pay4 (F := Ideal) y = 0 from Ideal.ofBits_zero .f32, zero_add]
theorem shift_fill (y) (b : EReal) : k0_pay5 (F := Ideal) y + b = b := by
  rw [show k0_pay5 (F := Ideal) y = 0 from Ideal.ofBits_zero .f32, zero_add]

section Tile

variable (x0 x1 x2 x3 : Vec Ideal S512x512 .f32) (x4 x5 : Vec Ideal S1x512 .f32) (x6 : Vec Ideal S4x128x128 .f32) (x7 : Vec Ideal S128x4 .f32)
variable (q g : Fin 4)

theorem inTile : ∀ a, (![128 * q.val, 128 * g.val] : Fin 2 → ℕ) a + (![128, 128] : Fin 2 → ℕ) a ≤ (![512, 512] : Fin 2 → ℕ) a := by
  intro a
  have hq := q.isLt
  have hg := g.isLt
  fin_cases a
  · show 128 * q.val + 128 ≤ 512; omega
  · show 128 * g.val + 128 ≤ 512; omega

theorem inMix : ∀ a, (![g.val, 0, 0] : Fin 3 → ℕ) a + (![1, 128, 128] : Fin 3 → ℕ) a ≤ (![4, 128, 128] : Fin 3 → ℕ) a := by
  intro a
  have hg := g.isLt
  fin_cases a
  · show g.val + 1 ≤ 4; omega
  · exact le_refl _
  · exact le_refl _

theorem inBias : ∀ a, (![0, g.val] : Fin 2 → ℕ) a + (![128, 1] : Fin 2 → ℕ) a ≤ (![128, 4] : Fin 2 → ℕ) a := by
  intro a
  have hg := g.isLt
  fin_cases a
  · exact le_refl _
  · show g.val + 1 ≤ 4; omega

theorem slices : S512x512.Slices ![128 * q.val, 128 * g.val] S128x128 := by
  revert q g; decide

/-- Chunk `q` and channel group `g`: the tile of a block, of the normalised rows, the masked weights and the bias. -/
abbrev at_ (X : Vec Ideal S512x512 .f32) : Vec Ideal S128x128 .f32 := tile X (128 * q.val) (128 * g.val) (inTile q g)
abbrev normedTile : Vec Ideal S128x128 .f32 :=
  extractStridedSlice S128x128 ![128 * q.val, 128 * g.val] (k0_pay10 (F := Ideal) x1 x4 x5) (slices q g)
abbrev weightTile : FVec Ideal S128x128 .bf16 :=
  k0_pay12 rowIds (View.ld x6 (Rect.unit (s := S4x128x128) ![g.val, 0, 0] ![1, 128, 128] (inMix g)))
abbrev biasTile : Vec Ideal S128x1 .f32 := View.ld x7 (Rect.unit (s := S128x4) ![0, g.val] ![128, 1] (inBias g))

abbrev mixedTile : FVec Ideal S128x128 .f32 := mixedPay (normedTile x1 x4 x5 q g) (weightTile x6 g) (biasTile x7 g)
abbrev mixedGradTile : FVec Ideal S128x128 .f32 := k0_pay23 (at_ q g x0) (at_ q g x2) (at_ q g x3)
abbrev normedGradTile : FVec Ideal S128x128 .f32 := k0_pay30 (weightTile x6 g) (mixedGradTile x0 x2 x3 q g)

theorem at_apply (X : Vec Ideal S512x512 .f32) (s l : Fin 128) : at_ q g X (ix2 s l) = X (ix2 (tok q s) (lane g l)) :=
  tile_apply X _ _ _ s l _ _ rfl rfl

theorem normedTile_apply (s l : Fin 128) :
    normedTile x1 x4 x5 q g (ix2 s l) = normed (params x4 x5 x6 x7) (chunk x0 x1 x2 x3 q) s (lane g l) := by
  refine Eq.trans (b := k0_pay10 (F := Ideal) x1 x4 x5 (ix2 (tok q s) (lane g l))) ?_ (normed_apply x1 x4 x5 _ _)
  pointwise

theorem group_lane (l : Fin 128) : groupOf (lane g l) = g := by
  apply Fin.ext
  show (128 * g.val + l.val) / 128 = g.val
  omega

theorem weightTile_apply (t s l : Fin 128) : weightTile x6 g (ix2 t s) = (params x4 x5 x6 x7).causal (groupOf (lane g l)) t s := by
  rw [group_lane]
  refine (weights_at t s _).trans ?_
  unfold Params.causal
  congr 1
  exact View.ld_unit_apply_of x6 _ _ (inMix g) _ (ix3 g t s) fun a => by
    fin_cases a
    · rfl
    · exact (Nat.zero_add _).symm
    · exact (Nat.zero_add _).symm

theorem biasTile_apply (t : Fin 128) (a : Fin 1) : biasTile x7 g (ix2 t a) = x7 (ix2 t g) :=
  View.ld_unit_apply_of x7 _ _ (inBias g) _ (ix2 t g) fun b => by
    fin_cases b
    · exact (Nat.zero_add _).symm
    · show g.val = g.val + a.val
      omega

theorem mixedTile_apply (t l : Fin 128) :
    mixedTile x1 x4 x5 x6 x7 q g (ix2 t l) = mixed (params x4 x5 x6 x7) (chunk x0 x1 x2 x3 q) t (lane g l) := by
  refine (mixed_at _ _ _ t l).trans ?_
  rw [biasTile_apply, mixed, group_lane]
  refine congrArg (· + _) (Finset.sum_congr rfl fun s _ => ?_)
  rw [weightTile_apply x4 x5 x6 x7 g t s l, group_lane, normedTile_apply x0 x1 x2 x3 x4 x5 x6 x7]

theorem mixedGradTile_apply (t l : Fin 128) :
    mixedGradTile x0 x2 x3 q g (ix2 t l) = mixedGrad (chunk x0 x1 x2 x3 q) t (lane g l) := by
  refine (mixedGrad_at _ _ _ t l).trans ?_
  rw [at_apply, at_apply, at_apply]
  rfl

theorem normedGradTile_apply (s l : Fin 128) :
    normedGradTile x0 x2 x3 x6 q g (ix2 s l) = normedGrad (params x4 x5 x6 x7) (chunk x0 x1 x2 x3 q) s (lane g l) := by
  refine (normedGrad_at _ s l _).trans (Finset.sum_congr rfl fun t _ => ?_)
  rw [weightTile_apply x4 x5 x6 x7 g t s l, mixedGradTile_apply x0 x1 x2 x3]

variable (x : S128x128.Idx) (t l : Fin 128)

theorem pair_eq (ht : t.val = (x 0).val) (hl : l.val = (x 1).val) : x = ix2 t l := by
  have e0 : x 0 = t := Fin.ext ht.symm
  have e1 : x 1 = l := Fin.ext hl.symm
  funext a
  fin_cases a
  · exact e0
  · exact e1

theorem u_piece (ht : t.val = (x 0).val) (hl : l.val = (x 1).val) :
    uPay (at_ q g x0) (at_ q g x2) (at_ q g x3) (mixedTile x1 x4 x5 x6 x7 q g) x
      = uGrad (params x4 x5 x6 x7) (chunk x0 x1 x2 x3 q) t (lane g l) := by
  rw [pair_eq x t l ht hl]
  refine (uPay_at _ _ _ t l _).trans ?_
  rw [at_apply, at_apply, at_apply, mixedTile_apply x0 x1 x2 x3]
  rfl

theorem z_piece (ht : t.val = (x 0).val) (hl : l.val = (x 1).val) :
    zPay (at_ q g x0) (at_ q g x2) (at_ q g x3) (mixedTile x1 x4 x5 x6 x7 q g) x
      = zGrad (params x4 x5 x6 x7) (chunk x0 x1 x2 x3 q) t (lane g l) := by
  rw [pair_eq x t l ht hl]
  refine (zGrad_at _ _ _ t l _).trans ?_
  rw [at_apply, at_apply, at_apply, mixedTile_apply x0 x1 x2 x3]
  rfl

/-- A channel group's part of the gradient of the weights: four chunks added up from zero, masked. -/
abbrev mixPay (acc : Vec Ideal S1x128x128 .f32) : FVec Ideal S1x128x128 .f32 :=
  shapeCast S1x128x128 (addf (k0_pay297 acc) (select (k0_pay11 rowIds)
    (k0_pay28 (k0_pay28 (k0_pay28 (k0_pay28 k0_pay14
      (normedTile x1 x4 x5 0 g) (k0_pay27 (mixedGradTile x0 x2 x3 0 g)))
      (normedTile x1 x4 x5 1 g) (k0_pay27 (mixedGradTile x0 x2 x3 1 g)))
      (normedTile x1 x4 x5 2 g) (k0_pay27 (mixedGradTile x0 x2 x3 2 g)))
      (normedTile x1 x4 x5 3 g) (k0_pay27 (mixedGradTile x0 x2 x3 3 g)))
    k0_pay14)) shapeCasts_S128x128_S1x128x128

/-- A channel group's part of the gradient of the bias. -/
abbrev biasPay (acc : Vec Ideal S128x1 .f32) : FVec Ideal S128x1 .f32 :=
  addf (k0_pay13 acc) (k0_pay29 (k0_pay29 (k0_pay29 (k0_pay29 k0_pay15
    (mixedGradTile x0 x2 x3 0 g)) (mixedGradTile x0 x2 x3 1 g)) (mixedGradTile x0 x2 x3 2 g)) (mixedGradTile x0 x2 x3 3 g))

theorem mixPay_apply (acc : Vec Ideal S1x128x128 .f32) (a : Fin 1) (t s : Fin 128) :
    mixPay x0 x1 x2 x3 x4 x5 g acc (ix3 a t s)
      = acc (ix3 0 t s) + if s ≤ t then ∑ q, mixPart (params x4 x5 x6 x7) (chunk x0 x1 x2 x3 q) g t s else 0 := by
  have ht := t.isLt
  have hs := s.isLt
  pointwise [k0_pay297, k0_pay11, k0_pay14]
  simp only [mixGrad_at, mixedGradTile_apply x0 x1 x2 x3, normedTile_apply x0 x1 x2 x3 x4 x5 x6 x7]
  rw [WordCmp.cmpi_sge_ofNat (by omega) (by omega)]
  by_cases h : s ≤ t
  · rw [if_pos h, Fin.sum_univ_four]
    have : (s : ℕ) ≤ t := h
    simp [this, Scalar.select, mixPart, broadcast]
  · rw [if_neg h]
    have : ¬(s : ℕ) ≤ t := h
    simp [this, Scalar.select]

theorem biasPay_apply (acc : Vec Ideal S128x1 .f32) (a : Fin 1) (t : Fin 128) :
    biasPay x0 x2 x3 g acc (ix2 t a) = acc (ix2 t a) + ∑ q, biasPart (chunk x0 x1 x2 x3 q) t g := by
  pointwise [k0_pay13]
  simp only [biasGrad_at, mixedGradTile_apply x0 x1 x2 x3]
  pointwise [k0_pay15]
  rw [Fin.sum_univ_four]
  rfl

theorem mix_piece (X : Vec Ideal S4x128x128 .f32) (x : S1x128x128.Idx) (t s : Fin 128) (ht : t.val = (x 1).val) (hs : s.val = (x 2).val) :
    mixPay x0 x1 x2 x3 x4 x5 g (View.ld X (Rect.unit (s := S4x128x128) ![g.val, 0, 0] ![1, 128, 128] (inMix g))) x
      = X (ix3 g t s) + if s ≤ t then ∑ q, mixPart (params x4 x5 x6 x7) (chunk x0 x1 x2 x3 q) g t s else 0 := by
  have e : x = ix3 (x 0) t s := by
    have e1 : x 1 = t := Fin.ext ht.symm
    have e2 : x 2 = s := Fin.ext hs.symm
    funext a
    fin_cases a
    · rfl
    · exact e1
    · exact e2
  rw [e]
  refine (mixPay_apply x0 x1 x2 x3 x4 x5 x6 x7 g _ (x 0) t s).trans (congrArg (· + _) ?_)
  exact View.ld_unit_apply_of X _ _ (inMix g) _ (ix3 g t s) fun a => by
    fin_cases a
    · rfl
    · exact (Nat.zero_add _).symm
    · exact (Nat.zero_add _).symm

theorem bias_piece (X : Vec Ideal S128x4 .f32) (x : S128x1.Idx) (t : Fin 128) (ht : t.val = (x 0).val) :
    biasPay x0 x2 x3 g (biasTile X g) x = X (ix2 t g) + ∑ q, biasPart (chunk x0 x1 x2 x3 q) t g := by
  have e : x = ix2 t (x 1) := by
    have e0 : x 0 = t := Fin.ext ht.symm
    funext a
    fin_cases a
    · exact e0
    · rfl
  rw [e]
  exact (biasPay_apply x0 x1 x2 x3 g _ (x 1) t).trans (congrArg (· + _) (biasTile_apply X g t (x 1)))

end Tile

section Rows

variable (x0 x1 x2 x3 : Vec Ideal S512x512 .f32) (x4 x5 : Vec Ideal S1x512 .f32) (x6 : Vec Ideal S4x128x128 .f32) (x7 : Vec Ideal S128x4 .f32)
variable (D : Vec Ideal S512x512 .f32)

/-- The stored gradients of the normalised rows, tile by tile, the last first. -/
abbrev gradTiles : List (View.Piece (Elt Ideal) S512x512 .f32) :=
  List.ofFn fun n : Fin 16 =>
    ⟨Rect.unit (s := S512x512) ![128 * (3 - n.val % 4), 128 * (3 - n.val / 4)] ![128, 128]
      (inTile ⟨3 - n.val % 4, by omega⟩ ⟨3 - n.val / 4, by omega⟩),
      normedGradTile x0 x2 x3 x6 ⟨3 - n.val % 4, by omega⟩ ⟨3 - n.val / 4, by omega⟩⟩

/-- A block's gradient of the normalised rows. -/
abbrev rowGrad (r j : Fin 512) : EReal :=
  normedGrad (params x4 x5 x6 x7) (chunk x0 x1 x2 x3 ⟨r.val / 128, by omega⟩) ⟨r.val % 128, by omega⟩ j

theorem gradTiles_apply (r j : Fin 512) : View.canon (gradTiles x0 x2 x3 x6) (ix2 r j) = rowGrad x0 x1 x2 x3 x4 x5 x6 x7 r j := by
  canon_tiles x hx
  · have h0 : r.val = 128 * (3 - k.val % 4) + (x 0).val := hx0
    have h1 : j.val = 128 * (3 - k.val / 4) + (x 1).val := hx1
    have hk := k.isLt
    rw [pair_eq x (x 0) (x 1) rfl rfl]
    refine (normedGradTile_apply x0 x1 x2 x3 x4 x5 x6 x7 _ _ (x 0) (x 1)).trans ?_
    congr 1
    · congr 1
      exact Fin.ext (show 3 - k.val % 4 = r.val / 128 by omega)
    · exact Fin.ext (show (x 0).val = r.val % 128 by omega)
    · exact Fin.ext h1.symm
  · refine ⟨⟨(3 - j.val / 128) * 4 + (3 - r.val / 128), by omega⟩, fun a => ?_⟩
    fin_cases a
    · show 128 * (3 - ((3 - j.val / 128) * 4 + (3 - r.val / 128)) % 4) ≤ r.val ∧ r.val < 128 * (3 - ((3 - j.val / 128) * 4 + (3 - r.val / 128)) % 4) + 128
      omega
    · show 128 * (3 - ((3 - j.val / 128) * 4 + (3 - r.val / 128)) / 4) ≤ j.val ∧ j.val < 128 * (3 - ((3 - j.val / 128) * 4 + (3 - r.val / 128)) / 4) + 128
      omega

/-- The stored gradient of `v`, from the gradient `D` of the normalised rows. -/
abbrev vPay : FVec Ideal S512x512 .bf16 :=
  k0_pay1 (k0_pay6 x1)
    (k0_pay306 (k0_pay8 x1) (k0_pay9 x1)
      (subf (mulf D (broadcastTo S512x512 x4 broadcasts_S1x512_S512x512))
        (broadcastTo S512x512
          (divf (shapeCast S512x1 (multiReduction .add [1] S512 (mulf D (broadcastTo S512x512 x4 broadcasts_S1x512_S512x512))
              0x00000000#32 reduces_S512x512_S512 (.inl rfl) rfl) shapeCasts_S512_S512x1)
            (broadcast S512x1 (Scalar.ofBits .f32 0x44000000#32)))
          broadcasts_S512x1_S512x512))
      (shapeCast S512x1
        (multiReduction .add [1] S512 (mulf (mulf D (broadcastTo S512x512 x4 broadcasts_S1x512_S512x512)) (k0_pay9 x1))
          0x00000000#32 reduces_S512x512_S512 (.inl rfl) rfl) shapeCasts_S512_S512x1))
    (k0_pay307 (k0_pay6 x1)) (k0_pay308 (k0_pay6 x1))

theorem vPay_apply (G : Fin 512 → EReal) (r j : Fin 512) (hD : ∀ j, D (ix2 r j) = G j) :
    vPay x1 x4 D (ix2 r j) = hatGrad (fun j => gelu (x1 (ix2 r j))) (fun j => G j * x4 (ix2 0 j)) j * geluSlope (x1 (ix2 r j)) := by
  pointwise [k0_pay1, k0_pay306, k0_pay307, k0_pay308, k0_pay6, named_cubic, named_slope]
  simp only [hD, hat_apply, spread_apply]
  rfl

theorem v_piece (hD : ∀ r j, D (ix2 r j) = rowGrad x0 x1 x2 x3 x4 x5 x6 x7 r j) (x : S512x512.Idx) (q : Fin 4) (t : Fin 128) (j : Fin 512)
    (ht : 128 * q.val + t.val = (x 0).val) (hl : j.val = (x 1).val) :
    vPay x1 x4 D x = vGrad (params x4 x5 x6 x7) (chunk x0 x1 x2 x3 q) t j := by
  have e : x = ix2 (tok q t) j := by
    have e0 : x 0 = tok q t := Fin.ext ht.symm
    have e1 : x 1 = j := Fin.ext hl.symm
    funext a
    fin_cases a
    · exact e0
    · exact e1
  rw [e]
  refine vPay_apply x1 x4 D _ _ _ fun j => (hD _ j).trans ?_
  have hq : (⟨(tok q t).val / 128, by omega⟩ : Fin 4) = q := Fin.ext (show (128 * q.val + t.val) / 128 = q.val by omega)
  have hr : (⟨(tok q t).val % 128, by omega⟩ : Fin 128) = t := Fin.ext (show (128 * q.val + t.val) % 128 = t.val by omega)
  rw [rowGrad, hq, hr]

theorem scale_row (hD : ∀ r j, D (ix2 r j) = rowGrad x0 x1 x2 x3 x4 x5 x6 x7 r j) (acc : Vec Ideal S1x512 .f32) (j : Fin 512) :
    addf (shapeCast S1x512 acc shapeCasts_S1x512_S1x512) (shapeCast S1x512 (multiReduction .add [0] S512 (mulf D (k0_pay9 (F := Ideal) x1))
      0x00000000#32 reduces_S512x512_S512_2 (.inl rfl) rfl) shapeCasts_S512_S1x512) (ix2 0 j)
      = acc (ix2 0 j) + ∑ r : Fin 512, rowGrad x0 x1 x2 x3 x4 x5 x6 x7 r j * hat (fun j => gelu (x1 (ix2 r j))) j := by
  pointwise
  simp only [hD, hat_apply]

theorem shift_row (hD : ∀ r j, D (ix2 r j) = rowGrad x0 x1 x2 x3 x4 x5 x6 x7 r j) (acc : Vec Ideal S1x512 .f32) (j : Fin 512) :
    addf (F := Ideal) (φ := .f32) (shapeCast S1x512 acc shapeCasts_S1x512_S1x512) (shapeCast S1x512 (multiReduction .add [0] S512 (D : FVec Ideal S512x512 .f32)
      0x00000000#32 reduces_S512x512_S512_2 (.inl rfl) rfl) shapeCasts_S512_S1x512) (ix2 0 j)
      = acc (ix2 0 j) + ∑ r : Fin 512, rowGrad x0 x1 x2 x3 x4 x5 x6 x7 r j := by
  pointwise
  simp only [hD]

end Rows

/-! ## The blocks -/

section Blocks

variable (c : Dev nD) (i : grid0.Coords)
  (a1 : Memref sig .tc .vmem S512x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S512x512 .f32) (h4 : a4.IsWhole)
  (a5 : Memref sig .tc .vmem S1x512 .f32) (h5 : a5.IsWhole)
  (a6 : Memref sig .tc .vmem S1x512 .f32) (h6 : a6.IsWhole)
  (a7 : Memref sig .tc .vmem S4x128x128 .f32) (h7 : a7.IsWhole)
  (a8 : Memref sig .tc .vmem S128x4 .f32) (h8 : a8.IsWhole)
  (a9 : Memref sig .tc .vmem S512x1536 .bf16) (h9 : a9.IsWhole)
  (a10 : Memref sig .tc .vmem S4x128x128 .f32) (h10 : a10.IsWhole)
  (a11 : Memref sig .tc .vmem S128x4 .f32) (h11 : a11.IsWhole)
  (a12 : Memref sig .tc .vmem S1x512 .f32) (h12 : a12.IsWhole)
  (a13 : Memref sig .tc .vmem S1x512 .f32) (h13 : a13.IsWhole)
  (a14 : Memref sig .tc .vmem S512x512 .f32) (h14 : a14.IsWhole)
  (x0 x1 x2 x3 : Vec Ideal S512x512 .f32) (x4 x5 : Vec Ideal S1x512 .f32) (x6 : Vec Ideal S4x128x128 .f32) (x7 : Vec Ideal S128x4 .f32)
  (xo9 : Vec Ideal S4x128x128 .f32) (xo10 : Vec Ideal S128x4 .f32) (xo11 xo12 : Vec Ideal S1x512 .f32)

/-- The gradients of the normalised rows, read back. -/
theorem read_back (D) (hD : a14.view.readCov (Val := Elt Ideal) (gradTiles x0 x2 x3 x6)
    (Rect.unit (s := S512x512) ![0, 0] ![512, 512] inb_S512x512_S512x512_0_0).toLoadRect = D) (r j : Fin 512) :
    D (ix2 r j) = rowGrad x0 x1 x2 x3 x4 x5 x6 x7 r j := by
  rw [← hD, View.readCov_eq_canon_ld]
  · refine Eq.trans (View.ld_unit_apply_of _ _ _ inb_S512x512_S512x512_0_0 _ (ix2 r j) fun a => ?_) (gradTiles_apply x0 x1 x2 x3 x4 x5 x6 x7 r j)
    fin_cases a
    · exact (Nat.zero_add _).symm
    · exact (Nat.zero_add _).symm
  · exact View.cover_of_tiledL _ ![128, 128] (by sl_kernel_rfl)

section Gradients

variable (hc : ¬cond0_0 i) (y : S512x1536.Idx) (q : Fin 4) (t : Fin 128)

set_option maxHeartbeats 1600000 in
theorem own_u (g : Fin 4) (l : Fin 128) (ht : (y 0).val = 128 * q.val + t.val) (hl : (y 1).val = 128 * g.val + l.val) :
    out0_B_8 c i a1 h1 a2 h2 a3 h3 a4 h4 a5 h5 a6 h6 a7 h7 a8 h8 a9 h9 a10 h10 a11 h11 a12 h12 a13 h13 a14 h14 hc x0 x1 x2 x3 x4 x5 x6 x7 xo9 xo10 xo11 xo12 y
      = uGrad (params x4 x5 x6 x7) (chunk x0 x1 x2 x3 q) t (lane g l) := by
  have hq := q.isLt
  have hg := g.isLt
  frame_out
  canon_tiles x hx using (View.cover_of_tiledBy _ ![128, 128] (by sl_kernel_rfl) y)
  all_goals try (exfalso; omega)
  all_goals first
    | (have e : q.val = 0 ∧ g.val = 0 := by omega
       obtain rfl : q = 0 := Fin.ext e.1
       obtain rfl : g = 0 := Fin.ext e.2
       exact u_piece x0 x1 x2 x3 x4 x5 x6 x7 0 0 x t l (by omega) (by omega))
    | (have e : q.val = 0 ∧ g.val = 1 := by omega
       obtain rfl : q = 0 := Fin.ext e.1
       obtain rfl : g = 1 := Fin.ext e.2
       exact u_piece x0 x1 x2 x3 x4 x5 x6 x7 0 1 x t l (by omega) (by omega))
    | (have e : q.val = 0 ∧ g.val = 2 := by omega
       obtain rfl : q = 0 := Fin.ext e.1
       obtain rfl : g = 2 := Fin.ext e.2
       exact u_piece x0 x1 x2 x3 x4 x5 x6 x7 0 2 x t l (by omega) (by omega))
    | (have e : q.val = 0 ∧ g.val = 3 := by omega
       obtain rfl : q = 0 := Fin.ext e.1
       obtain rfl : g = 3 := Fin.ext e.2
       exact u_piece x0 x1 x2 x3 x4 x5 x6 x7 0 3 x t l (by omega) (by omega))
    | (have e : q.val = 1 ∧ g.val = 0 := by omega
       obtain rfl : q = 1 := Fin.ext e.1
       obtain rfl : g = 0 := Fin.ext e.2
       exact u_piece x0 x1 x2 x3 x4 x5 x6 x7 1 0 x t l (by omega) (by omega))
    | (have e : q.val = 1 ∧ g.val = 1 := by omega
       obtain rfl : q = 1 := Fin.ext e.1
       obtain rfl : g = 1 := Fin.ext e.2
       exact u_piece x0 x1 x2 x3 x4 x5 x6 x7 1 1 x t l (by omega) (by omega))
    | (have e : q.val = 1 ∧ g.val = 2 := by omega
       obtain rfl : q = 1 := Fin.ext e.1
       obtain rfl : g = 2 := Fin.ext e.2
       exact u_piece x0 x1 x2 x3 x4 x5 x6 x7 1 2 x t l (by omega) (by omega))
    | (have e : q.val = 1 ∧ g.val = 3 := by omega
       obtain rfl : q = 1 := Fin.ext e.1
       obtain rfl : g = 3 := Fin.ext e.2
       exact u_piece x0 x1 x2 x3 x4 x5 x6 x7 1 3 x t l (by omega) (by omega))
    | (have e : q.val = 2 ∧ g.val = 0 := by omega
       obtain rfl : q = 2 := Fin.ext e.1
       obtain rfl : g = 0 := Fin.ext e.2
       exact u_piece x0 x1 x2 x3 x4 x5 x6 x7 2 0 x t l (by omega) (by omega))
    | (have e : q.val = 2 ∧ g.val = 1 := by omega
       obtain rfl : q = 2 := Fin.ext e.1
       obtain rfl : g = 1 := Fin.ext e.2
       exact u_piece x0 x1 x2 x3 x4 x5 x6 x7 2 1 x t l (by omega) (by omega))
    | (have e : q.val = 2 ∧ g.val = 2 := by omega
       obtain rfl : q = 2 := Fin.ext e.1
       obtain rfl : g = 2 := Fin.ext e.2
       exact u_piece x0 x1 x2 x3 x4 x5 x6 x7 2 2 x t l (by omega) (by omega))
    | (have e : q.val = 2 ∧ g.val = 3 := by omega
       obtain rfl : q = 2 := Fin.ext e.1
       obtain rfl : g = 3 := Fin.ext e.2
       exact u_piece x0 x1 x2 x3 x4 x5 x6 x7 2 3 x t l (by omega) (by omega))
    | (have e : q.val = 3 ∧ g.val = 0 := by omega
       obtain rfl : q = 3 := Fin.ext e.1
       obtain rfl : g = 0 := Fin.ext e.2
       exact u_piece x0 x1 x2 x3 x4 x5 x6 x7 3 0 x t l (by omega) (by omega))
    | (have e : q.val = 3 ∧ g.val = 1 := by omega
       obtain rfl : q = 3 := Fin.ext e.1
       obtain rfl : g = 1 := Fin.ext e.2
       exact u_piece x0 x1 x2 x3 x4 x5 x6 x7 3 1 x t l (by omega) (by omega))
    | (have e : q.val = 3 ∧ g.val = 2 := by omega
       obtain rfl : q = 3 := Fin.ext e.1
       obtain rfl : g = 2 := Fin.ext e.2
       exact u_piece x0 x1 x2 x3 x4 x5 x6 x7 3 2 x t l (by omega) (by omega))
    | (have e : q.val = 3 ∧ g.val = 3 := by omega
       obtain rfl : q = 3 := Fin.ext e.1
       obtain rfl : g = 3 := Fin.ext e.2
       exact u_piece x0 x1 x2 x3 x4 x5 x6 x7 3 3 x t l (by omega) (by omega))

set_option maxHeartbeats 1600000 in
theorem own_z (g : Fin 4) (l : Fin 128) (ht : (y 0).val = 128 * q.val + t.val) (hl : (y 1).val = 1024 + (128 * g.val + l.val)) :
    out0_B_8 c i a1 h1 a2 h2 a3 h3 a4 h4 a5 h5 a6 h6 a7 h7 a8 h8 a9 h9 a10 h10 a11 h11 a12 h12 a13 h13 a14 h14 hc x0 x1 x2 x3 x4 x5 x6 x7 xo9 xo10 xo11 xo12 y
      = zGrad (params x4 x5 x6 x7) (chunk x0 x1 x2 x3 q) t (lane g l) := by
  have hq := q.isLt
  have hg := g.isLt
  frame_out
  canon_tiles x hx using (View.cover_of_tiledBy _ ![128, 128] (by sl_kernel_rfl) y)
  all_goals try (exfalso; omega)
  all_goals first
    | (have e : q.val = 0 ∧ g.val = 0 := by omega
       obtain rfl : q = 0 := Fin.ext e.1
       obtain rfl : g = 0 := Fin.ext e.2
       exact z_piece x0 x1 x2 x3 x4 x5 x6 x7 0 0 x t l (by omega) (by omega))
    | (have e : q.val = 0 ∧ g.val = 1 := by omega
       obtain rfl : q = 0 := Fin.ext e.1
       obtain rfl : g = 1 := Fin.ext e.2
       exact z_piece x0 x1 x2 x3 x4 x5 x6 x7 0 1 x t l (by omega) (by omega))
    | (have e : q.val = 0 ∧ g.val = 2 := by omega
       obtain rfl : q = 0 := Fin.ext e.1
       obtain rfl : g = 2 := Fin.ext e.2
       exact z_piece x0 x1 x2 x3 x4 x5 x6 x7 0 2 x t l (by omega) (by omega))
    | (have e : q.val = 0 ∧ g.val = 3 := by omega
       obtain rfl : q = 0 := Fin.ext e.1
       obtain rfl : g = 3 := Fin.ext e.2
       exact z_piece x0 x1 x2 x3 x4 x5 x6 x7 0 3 x t l (by omega) (by omega))
    | (have e : q.val = 1 ∧ g.val = 0 := by omega
       obtain rfl : q = 1 := Fin.ext e.1
       obtain rfl : g = 0 := Fin.ext e.2
       exact z_piece x0 x1 x2 x3 x4 x5 x6 x7 1 0 x t l (by omega) (by omega))
    | (have e : q.val = 1 ∧ g.val = 1 := by omega
       obtain rfl : q = 1 := Fin.ext e.1
       obtain rfl : g = 1 := Fin.ext e.2
       exact z_piece x0 x1 x2 x3 x4 x5 x6 x7 1 1 x t l (by omega) (by omega))
    | (have e : q.val = 1 ∧ g.val = 2 := by omega
       obtain rfl : q = 1 := Fin.ext e.1
       obtain rfl : g = 2 := Fin.ext e.2
       exact z_piece x0 x1 x2 x3 x4 x5 x6 x7 1 2 x t l (by omega) (by omega))
    | (have e : q.val = 1 ∧ g.val = 3 := by omega
       obtain rfl : q = 1 := Fin.ext e.1
       obtain rfl : g = 3 := Fin.ext e.2
       exact z_piece x0 x1 x2 x3 x4 x5 x6 x7 1 3 x t l (by omega) (by omega))
    | (have e : q.val = 2 ∧ g.val = 0 := by omega
       obtain rfl : q = 2 := Fin.ext e.1
       obtain rfl : g = 0 := Fin.ext e.2
       exact z_piece x0 x1 x2 x3 x4 x5 x6 x7 2 0 x t l (by omega) (by omega))
    | (have e : q.val = 2 ∧ g.val = 1 := by omega
       obtain rfl : q = 2 := Fin.ext e.1
       obtain rfl : g = 1 := Fin.ext e.2
       exact z_piece x0 x1 x2 x3 x4 x5 x6 x7 2 1 x t l (by omega) (by omega))
    | (have e : q.val = 2 ∧ g.val = 2 := by omega
       obtain rfl : q = 2 := Fin.ext e.1
       obtain rfl : g = 2 := Fin.ext e.2
       exact z_piece x0 x1 x2 x3 x4 x5 x6 x7 2 2 x t l (by omega) (by omega))
    | (have e : q.val = 2 ∧ g.val = 3 := by omega
       obtain rfl : q = 2 := Fin.ext e.1
       obtain rfl : g = 3 := Fin.ext e.2
       exact z_piece x0 x1 x2 x3 x4 x5 x6 x7 2 3 x t l (by omega) (by omega))
    | (have e : q.val = 3 ∧ g.val = 0 := by omega
       obtain rfl : q = 3 := Fin.ext e.1
       obtain rfl : g = 0 := Fin.ext e.2
       exact z_piece x0 x1 x2 x3 x4 x5 x6 x7 3 0 x t l (by omega) (by omega))
    | (have e : q.val = 3 ∧ g.val = 1 := by omega
       obtain rfl : q = 3 := Fin.ext e.1
       obtain rfl : g = 1 := Fin.ext e.2
       exact z_piece x0 x1 x2 x3 x4 x5 x6 x7 3 1 x t l (by omega) (by omega))
    | (have e : q.val = 3 ∧ g.val = 2 := by omega
       obtain rfl : q = 3 := Fin.ext e.1
       obtain rfl : g = 2 := Fin.ext e.2
       exact z_piece x0 x1 x2 x3 x4 x5 x6 x7 3 2 x t l (by omega) (by omega))
    | (have e : q.val = 3 ∧ g.val = 3 := by omega
       obtain rfl : q = 3 := Fin.ext e.1
       obtain rfl : g = 3 := Fin.ext e.2
       exact z_piece x0 x1 x2 x3 x4 x5 x6 x7 3 3 x t l (by omega) (by omega))

theorem own_v (j : Fin 512) (ht : (y 0).val = 128 * q.val + t.val) (hl : (y 1).val = 512 + j.val) :
    out0_B_8 c i a1 h1 a2 h2 a3 h3 a4 h4 a5 h5 a6 h6 a7 h7 a8 h8 a9 h9 a10 h10 a11 h11 a12 h12 a13 h13 a14 h14 hc x0 x1 x2 x3 x4 x5 x6 x7 xo9 xo10 xo11 xo12 y
      = vGrad (params x4 x5 x6 x7) (chunk x0 x1 x2 x3 q) t j := by
  have hq := q.isLt
  have hj := j.isLt
  frame_out
  canon_tiles x hx using (View.cover_of_tiledBy _ ![128, 128] (by sl_kernel_rfl) y)
  all_goals try (exfalso; omega)
  exact v_piece x0 x1 x2 x3 x4 x5 x6 x7 _ (read_back a14 x0 x1 x2 x3 x4 x5 x6 x7 _ rfl) x q t j (by omega) (by omega)

end Gradients

/-! ### What a point adds to the gradients of the parameters -/

section Parameters

variable (hc : ¬cond0_0 i)

theorem later_mix (y : S4x128x128.Idx) (g : Fin 4) (t s : Fin 128) (hy : (y 0).val = g.val) (ht : (y 1).val = t.val) (hs : (y 2).val = s.val) :
    out0_B_9 c i a1 h1 a2 h2 a3 h3 a4 h4 a5 h5 a6 h6 a7 h7 a8 h8 a9 h9 a10 h10 a11 h11 a12 h12 a13 h13 a14 h14 hc x0 x1 x2 x3 x4 x5 x6 x7 xo9 xo10 xo11 xo12 y
      = xo9 (ix3 g t s) + (if s ≤ t then ∑ q, mixPart (params x4 x5 x6 x7) (chunk x0 x1 x2 x3 q) g t s else 0) := by
  have hg := g.isLt
  frame_out
  canon_tiles x hx
  all_goals try (exfalso; omega)
  all_goals first
    | (have e : g.val = 0 := by omega
       obtain rfl : g = 0 := Fin.ext e
       exact (mix_piece x0 x1 x2 x3 x4 x5 x6 x7 0 xo9 x t s (by omega) (by omega)))
    | (have e : g.val = 1 := by omega
       obtain rfl : g = 1 := Fin.ext e
       exact (mix_piece x0 x1 x2 x3 x4 x5 x6 x7 1 xo9 x t s (by omega) (by omega)))
    | (have e : g.val = 2 := by omega
       obtain rfl : g = 2 := Fin.ext e
       exact (mix_piece x0 x1 x2 x3 x4 x5 x6 x7 2 xo9 x t s (by omega) (by omega)))
    | (have e : g.val = 3 := by omega
       obtain rfl : g = 3 := Fin.ext e
       exact (mix_piece x0 x1 x2 x3 x4 x5 x6 x7 3 xo9 x t s (by omega) (by omega)))

theorem later_bias (y : S128x4.Idx) (t : Fin 128) (g : Fin 4) (ht : (y 0).val = t.val) (hy : (y 1).val = g.val) :
    out0_B_10 c i a1 h1 a2 h2 a3 h3 a4 h4 a5 h5 a6 h6 a7 h7 a8 h8 a9 h9 a10 h10 a11 h11 a12 h12 a13 h13 a14 h14 hc x0 x1 x2 x3 x4 x5 x6 x7 xo9 xo10 xo11 xo12 y
      = xo10 (ix2 t g) + ∑ q, biasPart (chunk x0 x1 x2 x3 q) t g := by
  have hg := g.isLt
  frame_out
  canon_tiles x hx
  all_goals try (exfalso; omega)
  all_goals first
    | (have e : g.val = 0 := by omega
       obtain rfl : g = 0 := Fin.ext e
       exact (bias_piece x0 x1 x2 x3 0 xo10 x t (by omega)))
    | (have e : g.val = 1 := by omega
       obtain rfl : g = 1 := Fin.ext e
       exact (bias_piece x0 x1 x2 x3 1 xo10 x t (by omega)))
    | (have e : g.val = 2 := by omega
       obtain rfl : g = 2 := Fin.ext e
       exact (bias_piece x0 x1 x2 x3 2 xo10 x t (by omega)))
    | (have e : g.val = 3 := by omega
       obtain rfl : g = 3 := Fin.ext e
       exact (bias_piece x0 x1 x2 x3 3 xo10 x t (by omega)))

theorem later_scale (j : Fin 512) :
    out0_B_11 c i a1 h1 a2 h2 a3 h3 a4 h4 a5 h5 a6 h6 a7 h7 a8 h8 a9 h9 a10 h10 a11 h11 a12 h12 a13 h13 a14 h14 hc x0 x1 x2 x3 x4 x5 x6 x7 xo9 xo10 xo11 xo12 (ix2 0 j)
      = xo11 (ix2 0 j) + ∑ r : Fin 512, rowGrad x0 x1 x2 x3 x4 x5 x6 x7 r j * hat (fun j => gelu (x1 (ix2 r j))) j := by
  frame_out
  exact scale_row x0 x1 x2 x3 x4 x5 x6 x7 _ (read_back a14 x0 x1 x2 x3 x4 x5 x6 x7 _ rfl) xo11 j

theorem later_shift (j : Fin 512) :
    out0_B_12 c i a1 h1 a2 h2 a3 h3 a4 h4 a5 h5 a6 h6 a7 h7 a8 h8 a9 h9 a10 h10 a11 h11 a12 h12 a13 h13 a14 h14 hc x0 x1 x2 x3 x4 x5 x6 x7 xo9 xo10 xo11 xo12 (ix2 0 j)
      = xo12 (ix2 0 j) + ∑ r : Fin 512, rowGrad x0 x1 x2 x3 x4 x5 x6 x7 r j := by
  frame_out
  exact shift_row x0 x1 x2 x3 x4 x5 x6 x7 _ (read_back a14 x0 x1 x2 x3 x4 x5 x6 x7 _ rfl) xo12 j

end Parameters

section First

variable (hc : cond0_0 i)

set_option maxHeartbeats 1600000 in
theorem first_mix (y : S4x128x128.Idx) (g : Fin 4) (t s : Fin 128) (hy : (y 0).val = g.val) (ht : (y 1).val = t.val) (hs : (y 2).val = s.val) :
    out0_A_9 c i a1 h1 a2 h2 a3 h3 a4 h4 a5 h5 a6 h6 a7 h7 a8 h8 a9 h9 a10 h10 a11 h11 a12 h12 a13 h13 a14 h14 hc x0 x1 x2 x3 x4 x5 x6 x7 y
      = if s ≤ t then ∑ q, mixPart (params x4 x5 x6 x7) (chunk x0 x1 x2 x3 q) g t s else 0 := by
  have hg := g.isLt
  frame_open
  simp (disch := decide) only [↓ View.readCov_skip, ↓ View.readCov_cons_toLoadRect, ↓ View.readCov_fill]
  frame_out
  refine (canon_concat [_, _, _, _] _ y ?_).trans ?_
  · exact View.cover_of_tiledL (s := S4x128x128) _ ![1, 128, 128] (by sl_kernel_rfl) y
  canon_tiles x hx
  all_goals try (exfalso; omega)
  all_goals first
    | (have e : g.val = 0 := by omega
       obtain rfl : g = 0 := Fin.ext e
       exact (mix_piece x0 x1 x2 x3 x4 x5 x6 x7 0 (k0_pay2 (F := Ideal)) x t s (by omega) (by omega)).trans (mix_fill _ _))
    | (have e : g.val = 1 := by omega
       obtain rfl : g = 1 := Fin.ext e
       exact (mix_piece x0 x1 x2 x3 x4 x5 x6 x7 1 (k0_pay2 (F := Ideal)) x t s (by omega) (by omega)).trans (mix_fill _ _))
    | (have e : g.val = 2 := by omega
       obtain rfl : g = 2 := Fin.ext e
       exact (mix_piece x0 x1 x2 x3 x4 x5 x6 x7 2 (k0_pay2 (F := Ideal)) x t s (by omega) (by omega)).trans (mix_fill _ _))
    | (have e : g.val = 3 := by omega
       obtain rfl : g = 3 := Fin.ext e
       exact (mix_piece x0 x1 x2 x3 x4 x5 x6 x7 3 (k0_pay2 (F := Ideal)) x t s (by omega) (by omega)).trans (mix_fill _ _))

set_option maxHeartbeats 1600000 in
theorem first_bias (y : S128x4.Idx) (t : Fin 128) (g : Fin 4) (ht : (y 0).val = t.val) (hy : (y 1).val = g.val) :
    out0_A_10 c i a1 h1 a2 h2 a3 h3 a4 h4 a5 h5 a6 h6 a7 h7 a8 h8 a9 h9 a10 h10 a11 h11 a12 h12 a13 h13 a14 h14 hc x0 x1 x2 x3 x4 x5 x6 x7 y
      = ∑ q, biasPart (chunk x0 x1 x2 x3 q) t g := by
  have hg := g.isLt
  frame_open
  simp (disch := decide) only [↓ View.readCov_skip, ↓ View.readCov_cons_toLoadRect, ↓ View.readCov_fill]
  frame_out
  refine (canon_concat [_, _, _, _] _ y ?_).trans ?_
  · exact View.cover_of_tiledL (s := S128x4) _ ![128, 1] (by sl_kernel_rfl) y
  canon_tiles x hx
  all_goals try (exfalso; omega)
  all_goals first
    | (have e : g.val = 0 := by omega
       obtain rfl : g = 0 := Fin.ext e
       exact (bias_piece x0 x1 x2 x3 0 (k0_pay3 (F := Ideal)) x t (by omega)).trans (bias_fill _ _))
    | (have e : g.val = 1 := by omega
       obtain rfl : g = 1 := Fin.ext e
       exact (bias_piece x0 x1 x2 x3 1 (k0_pay3 (F := Ideal)) x t (by omega)).trans (bias_fill _ _))
    | (have e : g.val = 2 := by omega
       obtain rfl : g = 2 := Fin.ext e
       exact (bias_piece x0 x1 x2 x3 2 (k0_pay3 (F := Ideal)) x t (by omega)).trans (bias_fill _ _))
    | (have e : g.val = 3 := by omega
       obtain rfl : g = 3 := Fin.ext e
       exact (bias_piece x0 x1 x2 x3 3 (k0_pay3 (F := Ideal)) x t (by omega)).trans (bias_fill _ _))

theorem first_scale (j : Fin 512) :
    out0_A_11 c i a1 h1 a2 h2 a3 h3 a4 h4 a5 h5 a6 h6 a7 h7 a8 h8 a9 h9 a10 h10 a11 h11 a12 h12 a13 h13 a14 h14 hc x0 x1 x2 x3 x4 x5 x6 x7 (ix2 0 j)
      = ∑ r : Fin 512, rowGrad x0 x1 x2 x3 x4 x5 x6 x7 r j * hat (fun j => gelu (x1 (ix2 r j))) j := by
  frame_open
  simp (disch := decide) only [↓ View.readCov_skip, ↓ View.readCov_cons_toLoadRect, ↓ View.readCov_fill]
  frame_out
  exact (scale_row x0 x1 x2 x3 x4 x5 x6 x7 _ (read_back a14 x0 x1 x2 x3 x4 x5 x6 x7 _ rfl) (k0_pay4 (F := Ideal)) j).trans (scale_fill _ _)

theorem first_shift (j : Fin 512) :
    out0_A_12 c i a1 h1 a2 h2 a3 h3 a4 h4 a5 h5 a6 h6 a7 h7 a8 h8 a9 h9 a10 h10 a11 h11 a12 h12 a13 h13 a14 h14 hc x0 x1 x2 x3 x4 x5 x6 x7 (ix2 0 j)
      = ∑ r : Fin 512, rowGrad x0 x1 x2 x3 x4 x5 x6 x7 r j := by
  frame_open
  simp (disch := decide) only [↓ View.readCov_skip, ↓ View.readCov_cons_toLoadRect, ↓ View.readCov_fill]
  frame_out
  exact (shift_row x0 x1 x2 x3 x4 x5 x6 x7 _ (read_back a14 x0 x1 x2 x3 x4 x5 x6 x7 _ rfl) (k0_pay5 (F := Ideal)) j).trans (shift_fill _ _)

end First

end Blocks

end Cert.GmlpIdeal.Value

end
-- ==== Proof.GmlpArrays.lean ====
/-
  The gradient of the spatial gating (`gmlp_bwd`) after the whole grid: the kernel's five result arrays, element by element, as
  the functions of `GatingRows` over its six arguments.
-/
module

public import proofs.«01_k».proof.Proof.GmlpBlocks

@[expose] public section

set_option maxRecDepth 16384
set_option backward.proofsInPublic true

noncomputable section

namespace Cert.GmlpIdeal.Value

open Cert.GmlpIdeal Cert.GmlpIdeal.Gen Cert.Gating Idealize.ShloMosaic Idealize.ShloMosaic.TcCoe Idealize.SL.Sem
open Idealize.ShloMosaic.Pipeline (Dat)
open scoped BigOperators

section Arguments

variable (P : Vec Ideal S1x8192x6672 .f32) (D : Vec Ideal S1x8192x2048 .f32) (G B : Vec Ideal S1x512 .f32)
  (W : Vec Ideal S1x4x128x128 .f32) (C : Vec Ideal S1x4x128 .f32)

/-- Token `s` of chunk `q` of the sequence. -/
abbrev token (q : Fin 64) (s : Fin 128) : Fin 8192 := ⟨128 * q.val + s.val, by omega⟩

/-- The parameters, and chunk `q`, in the program's arguments. -/
abbrev paramsOf : Params where
  scale j := G (ix2 0 j)
  shift j := B (ix2 0 j)
  mix g t s := W (ix4 0 g t s)
  bias t g := C (ix3 0 g t)

abbrev chunkOf (q : Fin 64) : Chunk where
  u s j := P (ix3 0 (token q s) ⟨j.val, by omega⟩)
  v s j := P (ix3 0 (token q s) ⟨512 + j.val, by omega⟩)
  z s j := P (ix3 0 (token q s) ⟨1024 + j.val, by omega⟩)
  d s j := D (ix3 0 (token q s) ⟨j.val, by omega⟩)

/-- The chunk of a token, and its place in it. -/
abbrev chunkIx (s : Fin 8192) : Fin 64 := ⟨s.val / 128, by omega⟩
abbrev placeIx (s : Fin 8192) : Fin 128 := ⟨s.val % 128, by omega⟩

/-- The gradient of column `a` of token `s`: of `u`, `v` and `z` in turn. -/
def ownAt (s : Fin 8192) (a : Fin 1536) : EReal :=
  if h : a.val < 512 then uGrad (paramsOf G B W C) (chunkOf P D (chunkIx s)) (placeIx s) ⟨a.val, h⟩
  else if h : a.val < 1024 then vGrad (paramsOf G B W C) (chunkOf P D (chunkIx s)) (placeIx s) ⟨a.val - 512, by omega⟩
  else zGrad (paramsOf G B W C) (chunkOf P D (chunkIx s)) (placeIx s) ⟨a.val - 1024, by omega⟩

/-- What a chunk adds to the gradient of the weights, and what a token adds to those of the norm's shift and scale. -/
def mixTerm (q : Fin 64) (g : Fin 4) (t s : Fin 128) : EReal :=
  if s ≤ t then mixPart (paramsOf G B W C) (chunkOf P D q) g t s else 0
def shiftTerm (s : Fin 8192) (j : Fin 512) : EReal := normedGrad (paramsOf G B W C) (chunkOf P D (chunkIx s)) (placeIx s) j
def scaleTerm (s : Fin 8192) (j : Fin 512) : EReal :=
  shiftTerm P D G B W C s j * hat ((chunkOf P D (chunkIx s)).rowOf (placeIx s)) j

def ownGrad : Vec Ideal S8192x1536 .bf16 := fun i => ownAt P D G B W C (i 0) (i 1)
def mixGrad : Vec Ideal S4x128x128 .f32 := fun i => ∑ q : Fin 64, mixTerm P D G B W C q (i 0) (i 1) (i 2)
def biasGrad : Vec Ideal S128x4 .f32 := fun i => ∑ q : Fin 64, biasPart (chunkOf P D q) (i 0) (i 1)
def scaleGrad : Vec Ideal S1x512 .f32 := fun i => ∑ s : Fin 8192, scaleTerm P D G B W C s (i 1)
def shiftGrad : Vec Ideal S1x512 .f32 := fun i => ∑ s : Fin 8192, shiftTerm P D G B W C s (i 1)

end Arguments

variable (m : (ℓ : Loc nD τ sig) → Buf (Elt Ideal) ℓ)

/-- The six arguments of a device. -/
abbrev projArg (c : Dev nD) : Vec Ideal S1x8192x6672 .f32 := m ((c : Thread nD τ).loc main_arg0)
abbrev cotArg (c : Dev nD) : Vec Ideal S1x8192x2048 .f32 := m ((c : Thread nD τ).loc main_arg1)
abbrev scaleArg (c : Dev nD) : Vec Ideal S1x512 .f32 := m ((c : Thread nD τ).loc main_arg2)
abbrev shiftArg (c : Dev nD) : Vec Ideal S1x512 .f32 := m ((c : Thread nD τ).loc main_arg3)
abbrev mixArg (c : Dev nD) : Vec Ideal S1x4x128x128 .f32 := m ((c : Thread nD τ).loc main_arg4)
abbrev biasArg (c : Dev nD) : Vec Ideal S1x4x128 .f32 := m ((c : Thread nD τ).loc main_arg5)

theorem proj_entry (c : Dev nD) (s : Fin 8192) (a : Fin 1536) :
    (V m c main_v4 : Vec Ideal S8192x6656 .f32) (ix2 s ⟨4096 + a.val, by omega⟩) = projArg m c (ix3 0 s ⟨a.val, by omega⟩) := by
  unfold V hostOps0
  after_results_simp
  pointwise
  after_results_simp
  pointwise
  blk_ext

theorem cot_entry (c : Dev nD) (s : Fin 8192) (a : Fin 512) :
    (V m c main_v9 : Vec Ideal S8192x2048 .f32) (ix2 s ⟨1024 + a.val, by omega⟩) = cotArg m c (ix3 0 s ⟨a.val, by omega⟩) := by
  unfold V hostOps0
  after_results_simp
  pointwise
  after_results_simp
  pointwise
  blk_ext

theorem mix_entry (c : Dev nD) (g : Fin 4) (t s : Fin 128) :
    (V m c main_v10 : Vec Ideal S4x128x128 .f32) (ix3 g t s) = mixArg m c (ix4 0 g t s) := by
  unfold V hostOps0
  after_results_simp
  pointwise

theorem bias_entry (c : Dev nD) (t : Fin 128) (g : Fin 4) :
    (V m c main_v12 : Vec Ideal S128x4 .f32) (ix2 t g) = biasArg m c (ix3 0 g t) := by
  unfold V hostOps0
  after_results_simp
  pointwise

theorem idx0 : ∀ t : Fin cfg0.N, (cfg0.win 0).index t = ![t.val, 8] := by decide +kernel
theorem idx1 : ∀ t : Fin cfg0.N, (cfg0.win 1).index t = ![t.val, 9] := by decide +kernel
theorem idx2 : ∀ t : Fin cfg0.N, (cfg0.win 2).index t = ![t.val, 10] := by decide +kernel
theorem idx3 : ∀ t : Fin cfg0.N, (cfg0.win 3).index t = ![t.val, 2] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0, 0] := by decide +kernel
theorem idx7 : ∀ t : Fin cfg0.N, (cfg0.win 7).index t = ![0, 0] := by decide +kernel
theorem idx8 : ∀ t : Fin cfg0.N, (cfg0.win 8).index t = ![t.val, 0] := by decide +kernel

/-- Row `r` of point `t`'s tile is token `512 t + r`, and chunk `q` of the tile is chunk `4 t + q`. -/
abbrev tokenAt (t : Fin cfg0.N) (r : Fin 512) : Fin 8192 := ⟨t.val * 512 + r.val, by have h : t.val < 16 := t.isLt; omega⟩
abbrev chunkAt (t : Fin cfg0.N) (q : Fin 4) : Fin 64 := ⟨t.val * 4 + q.val, by have h : t.val < 16 := t.isLt; omega⟩

theorem u_block (c : Dev nD) (t : Fin cfg0.N) (q : Fin 4) (s : Fin 128) (j : Fin 512) :
    (iblk m c 0 t : Vec Ideal S512x512 .f32) (ix2 (tok q s) j) = projArg m c (ix3 0 (token (chunkAt t q) s) ⟨j.val, by omega⟩) := by
  refine Eq.trans ?_ (proj_entry m c (token (chunkAt t q) s) ⟨j.val, by omega⟩)
  blk_ext [iblk, idx0 t]

theorem v_block (c : Dev nD) (t : Fin cfg0.N) (q : Fin 4) (s : Fin 128) (j : Fin 512) :
    (iblk m c 1 t : Vec Ideal S512x512 .f32) (ix2 (tok q s) j) = projArg m c (ix3 0 (token (chunkAt t q) s) ⟨512 + j.val, by omega⟩) := by
  refine Eq.trans ?_ (proj_entry m c (token (chunkAt t q) s) ⟨512 + j.val, by omega⟩)
  blk_ext [iblk, idx1 t]

theorem z_block (c : Dev nD) (t : Fin cfg0.N) (q : Fin 4) (s : Fin 128) (j : Fin 512) :
    (iblk m c 2 t : Vec Ideal S512x512 .f32) (ix2 (tok q s) j) = projArg m c (ix3 0 (token (chunkAt t q) s) ⟨1024 + j.val, by omega⟩) := by
  refine Eq.trans ?_ (proj_entry m c (token (chunkAt t q) s) ⟨1024 + j.val, by omega⟩)
  blk_ext [iblk, idx2 t]

theorem d_block (c : Dev nD) (t : Fin cfg0.N) (q : Fin 4) (s : Fin 128) (j : Fin 512) :
    (iblk m c 3 t : Vec Ideal S512x512 .f32) (ix2 (tok q s) j) = cotArg m c (ix3 0 (token (chunkAt t q) s) ⟨j.val, by omega⟩) := by
  refine Eq.trans ?_ (cot_entry m c (token (chunkAt t q) s) ⟨j.val, by omega⟩)
  blk_ext [iblk, idx3 t]

theorem scale_block (c : Dev nD) (t : Fin cfg0.N) (j : Fin 512) :
    (iblk m c 4 t : Vec Ideal S1x512 .f32) (ix2 0 j) = scaleArg m c (ix2 0 j) := by
  refine Eq.trans (b := (V m c main_arg2 : Vec Ideal S1x512 .f32) (ix2 0 j)) ?_ ?_
  · blk_ext [iblk, idx4 t]
  · unfold V hostOps0
    after_results_simp

theorem shift_block (c : Dev nD) (t : Fin cfg0.N) (j : Fin 512) :
    (iblk m c 5 t : Vec Ideal S1x512 .f32) (ix2 0 j) = shiftArg m c (ix2 0 j) := by
  refine Eq.trans (b := (V m c main_arg3 : Vec Ideal S1x512 .f32) (ix2 0 j)) ?_ ?_
  · blk_ext [iblk, idx5 t]
  · unfold V hostOps0
    after_results_simp

theorem mix_block (c : Dev nD) (t : Fin cfg0.N) (g : Fin 4) (r s : Fin 128) :
    (iblk m c 6 t : Vec Ideal S4x128x128 .f32) (ix3 g r s) = mixArg m c (ix4 0 g r s) := by
  refine Eq.trans ?_ (mix_entry m c g r s)
  blk_ext [iblk, idx6 t]

theorem bias_block (c : Dev nD) (t : Fin cfg0.N) (r : Fin 128) (g : Fin 4) :
    (iblk m c 7 t : Vec Ideal S128x4 .f32) (ix2 r g) = biasArg m c (ix3 0 g r) := by
  refine Eq.trans ?_ (bias_entry m c r g)
  blk_ext [iblk, idx7 t]

/-- The parameters and chunk `q` of a device, in its arguments. -/
abbrev paramsAt (c : Dev nD) : Params := paramsOf (scaleArg m c) (shiftArg m c) (mixArg m c) (biasArg m c)
abbrev chunksAt (c : Dev nD) : Fin 64 → Chunk := chunkOf (projArg m c) (cotArg m c)

theorem params_block (c : Dev nD) (t : Fin cfg0.N) : params (iblk m c 4 t) (iblk m c 5 t) (iblk m c 6 t) (iblk m c 7 t) = paramsAt m c := by
  unfold params paramsAt paramsOf
  congr 1
  · exact funext fun j => scale_block m c t j
  · exact funext fun j => shift_block m c t j
  · exact funext fun g => funext fun r => funext fun s => mix_block m c t g r s
  · exact funext fun r => funext fun g => bias_block m c t r g

theorem chunk_block (c : Dev nD) (t : Fin cfg0.N) (q : Fin 4) :
    chunk (iblk m c 0 t) (iblk m c 1 t) (iblk m c 2 t) (iblk m c 3 t) q = chunksAt m c (chunkAt t q) := by
  unfold chunk chunksAt chunkOf
  congr 1
  · exact funext fun s => funext fun j => u_block m c t q s j
  · exact funext fun s => funext fun j => v_block m c t q s j
  · exact funext fun s => funext fun j => z_block m c t q s j
  · exact funext fun s => funext fun j => d_block m c t q s j

/-- The first point's body leaves in the first block what the later ones' would. -/
theorem own_first (c : Dev nD) (i i' : grid0.Coords)
  (a1 : Memref sig .tc .vmem S512x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S512x512 .f32) (h4 : a4.IsWhole)
  (a5 : Memref sig .tc .vmem S1x512 .f32) (h5 : a5.IsWhole)
  (a6 : Memref sig .tc .vmem S1x512 .f32) (h6 : a6.IsWhole)
  (a7 : Memref sig .tc .vmem S4x128x128 .f32) (h7 : a7.IsWhole)
  (a8 : Memref sig .tc .vmem S128x4 .f32) (h8 : a8.IsWhole)
  (a9 : Memref sig .tc .vmem S512x1536 .bf16) (h9 : a9.IsWhole)
  (a10 : Memref sig .tc .vmem S4x128x128 .f32) (h10 : a10.IsWhole)
  (a11 : Memref sig .tc .vmem S128x4 .f32) (h11 : a11.IsWhole)
  (a12 : Memref sig .tc .vmem S1x512 .f32) (h12 : a12.IsWhole)
  (a13 : Memref sig .tc .vmem S1x512 .f32) (h13 : a13.IsWhole)
  (a14 : Memref sig .tc .vmem S512x512 .f32) (h14 : a14.IsWhole)
  (x0 x1 x2 x3 : Vec Ideal S512x512 .f32) (x4 x5 : Vec Ideal S1x512 .f32) (x6 : Vec Ideal S4x128x128 .f32) (x7 : Vec Ideal S128x4 .f32)
  (xo9 : Vec Ideal S4x128x128 .f32) (xo10 : Vec Ideal S128x4 .f32) (xo11 xo12 : Vec Ideal S1x512 .f32)
  (hc : cond0_0 i) (hc' : ¬cond0_0 i') :
    out0_A_8 c i a1 h1 a2 h2 a3 h3 a4 h4 a5 h5 a6 h6 a7 h7 a8 h8 a9 h9 a10 h10 a11 h11 a12 h12 a13 h13 a14 h14 hc x0 x1 x2 x3 x4 x5 x6 x7
      = out0_B_8 c i' a1 h1 a2 h2 a3 h3 a4 h4 a5 h5 a6 h6 a7 h7 a8 h8 a9 h9 a10 h10 a11 h11 a12 h12 a13 h13 a14 h14 hc' x0 x1 x2 x3 x4 x5 x6 x7 xo9 xo10 xo11 xo12 := rfl

theorem one_later : ¬cond0_0 (grid0.coords t0_15) := by decide +kernel

theorem own_tile (c : Dev nD) (t : Fin cfg0.N) (i : grid0.Coords)
  (a1 : Memref sig .tc .vmem S512x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S512x512 .f32) (h4 : a4.IsWhole)
  (a5 : Memref sig .tc .vmem S1x512 .f32) (h5 : a5.IsWhole)
  (a6 : Memref sig .tc .vmem S1x512 .f32) (h6 : a6.IsWhole)
  (a7 : Memref sig .tc .vmem S4x128x128 .f32) (h7 : a7.IsWhole)
  (a8 : Memref sig .tc .vmem S128x4 .f32) (h8 : a8.IsWhole)
  (a9 : Memref sig .tc .vmem S512x1536 .bf16) (h9 : a9.IsWhole)
  (a10 : Memref sig .tc .vmem S4x128x128 .f32) (h10 : a10.IsWhole)
  (a11 : Memref sig .tc .vmem S128x4 .f32) (h11 : a11.IsWhole)
  (a12 : Memref sig .tc .vmem S1x512 .f32) (h12 : a12.IsWhole)
  (a13 : Memref sig .tc .vmem S1x512 .f32) (h13 : a13.IsWhole)
  (a14 : Memref sig .tc .vmem S512x512 .f32) (h14 : a14.IsWhole)
  (xo9 : Vec Ideal S4x128x128 .f32) (xo10 : Vec Ideal S128x4 .f32) (xo11 xo12 : Vec Ideal S1x512 .f32)
  (hc : ¬cond0_0 i) (r : Fin 512) (a : Fin 1536) :
    out0_B_8 c i a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) xo9 xo10 xo11 xo12 (ix2 r a)
      = ownAt (projArg m c) (cotArg m c) (scaleArg m c) (shiftArg m c) (mixArg m c) (biasArg m c) (tokenAt t r) a := by
  have ht : t.val < 16 := t.isLt
  have eq : chunkIx (tokenAt t r) = chunkAt t ⟨r.val / 128, by omega⟩ := Fin.ext (show (t.val * 512 + r.val) / 128 = t.val * 4 + r.val / 128 by omega)
  have ep : placeIx (tokenAt t r) = ⟨r.val % 128, by omega⟩ := Fin.ext (show (t.val * 512 + r.val) % 128 = r.val % 128 by omega)
  have er : r.val = 128 * (r.val / 128) + r.val % 128 := by omega
  unfold ownAt
  have main : chunkOf (projArg m c) (cotArg m c) (chunkAt t ⟨r.val / 128, by omega⟩) = _ := (chunk_block m c t _).symm
  have par : paramsOf (scaleArg m c) (shiftArg m c) (mixArg m c) (biasArg m c) = _ := (params_block m c t).symm
  rw [eq, ep, main, par]
  split
  · rename_i h
    have ea : a.val = 128 * (a.val / 128) + a.val % 128 := by omega
    refine (own_u c i a1 h1 a2 h2 a3 h3 a4 h4 a5 h5 a6 h6 a7 h7 a8 h8 a9 h9 a10 h10 a11 h11 a12 h12 a13 h13 a14 h14 (iblk m c 0 t) (iblk m c 1 t) (iblk m c 2 t) (iblk m c 3 t) (iblk m c 4 t) (iblk m c 5 t) (iblk m c 6 t) (iblk m c 7 t) xo9 xo10 xo11 xo12 hc (ix2 r a) ⟨r.val / 128, by omega⟩ ⟨r.val % 128, by omega⟩
      ⟨a.val / 128, by omega⟩ ⟨a.val % 128, by omega⟩ er ea).trans ?_
    exact congrArg _ (Fin.ext ea.symm)
  · split
    · rename_i hu h
      have ea : a.val = 512 + (a.val - 512) := by omega
      exact own_v c i a1 h1 a2 h2 a3 h3 a4 h4 a5 h5 a6 h6 a7 h7 a8 h8 a9 h9 a10 h10 a11 h11 a12 h12 a13 h13 a14 h14 (iblk m c 0 t) (iblk m c 1 t) (iblk m c 2 t) (iblk m c 3 t) (iblk m c 4 t) (iblk m c 5 t) (iblk m c 6 t) (iblk m c 7 t) xo9 xo10 xo11 xo12 hc (ix2 r a) ⟨r.val / 128, by omega⟩ ⟨r.val % 128, by omega⟩
        ⟨a.val - 512, by omega⟩ er ea
    · rename_i hu h
      have ea : a.val = 1024 + (128 * ((a.val - 1024) / 128) + (a.val - 1024) % 128) := by omega
      have eb : 128 * ((a.val - 1024) / 128) + (a.val - 1024) % 128 = a.val - 1024 := by omega
      refine (own_z c i a1 h1 a2 h2 a3 h3 a4 h4 a5 h5 a6 h6 a7 h7 a8 h8 a9 h9 a10 h10 a11 h11 a12 h12 a13 h13 a14 h14 (iblk m c 0 t) (iblk m c 1 t) (iblk m c 2 t) (iblk m c 3 t) (iblk m c 4 t) (iblk m c 5 t) (iblk m c 6 t) (iblk m c 7 t) xo9 xo10 xo11 xo12 hc (ix2 r a) ⟨r.val / 128, by omega⟩ ⟨r.val % 128, by omega⟩
        ⟨(a.val - 1024) / 128, by omega⟩ ⟨(a.val - 1024) % 128, by omega⟩ er ea).trans ?_
      exact congrArg _ (Fin.ext eb)

theorem own_tile_first (c : Dev nD) (t : Fin cfg0.N) (i : grid0.Coords)
  (a1 : Memref sig .tc .vmem S512x512 .f32) (h1 : a1.IsWhole)
  (a2 : Memref sig .tc .vmem S512x512 .f32) (h2 : a2.IsWhole)
  (a3 : Memref sig .tc .vmem S512x512 .f32) (h3 : a3.IsWhole)
  (a4 : Memref sig .tc .vmem S512x512 .f32) (h4 : a4.IsWhole)
  (a5 : Memref sig .tc .vmem S1x512 .f32) (h5 : a5.IsWhole)
  (a6 : Memref sig .tc .vmem S1x512 .f32) (h6 : a6.IsWhole)
  (a7 : Memref sig .tc .vmem S4x128x128 .f32) (h7 : a7.IsWhole)
  (a8 : Memref sig .tc .vmem S128x4 .f32) (h8 : a8.IsWhole)
  (a9 : Memref sig .tc .vmem S512x1536 .bf16) (h9 : a9.IsWhole)
  (a10 : Memref sig .tc .vmem S4x128x128 .f32) (h10 : a10.IsWhole)
  (a11 : Memref sig .tc .vmem S128x4 .f32) (h11 : a11.IsWhole)
  (a12 : Memref sig .tc .vmem S1x512 .f32) (h12 : a12.IsWhole)
  (a13 : Memref sig .tc .vmem S1x512 .f32) (h13 : a13.IsWhole)
  (a14 : Memref sig .tc .vmem S512x512 .f32) (h14 : a14.IsWhole)
  (hc : cond0_0 i) (r : Fin 512) (a : Fin 1536) :
    out0_A_8 c i a1 h1 a2 h2 a3 h3 a4 h4 a5 h5 a6 h6 a7 h7 a8 h8 a9 h9 a10 h10 a11 h11 a12 h12 a13 h13 a14 h14 hc (iblk m c 0 t) (iblk m c 1 t) (iblk m c 2 t) (iblk m c 3 t) (iblk m c 4 t) (iblk m c 5 t) (iblk m c 6 t) (iblk m c 7 t) (ix2 r a)
      = ownAt (projArg m c) (cotArg m c) (scaleArg m c) (shiftArg m c) (mixArg m c) (biasArg m c) (tokenAt t r) a :=
  (congrFun (own_first c i (grid0.coords t0_15) a1 h1 a2 h2 a3 h3 a4 h4 a5 h5 a6 h6 a7 h7 a8 h8 a9 h9 a10 h10 a11 h11 a12 h12 a13 h13 a14 h14 (iblk m c 0 t) (iblk m c 1 t) (iblk m c 2 t) (iblk m c 3 t) (iblk m c 4 t) (iblk m c 5 t) (iblk m c 6 t) (iblk m c 7 t) (k0_pay2 (F := Ideal)) (k0_pay3 (F := Ideal)) (k0_pay4 (F := Ideal)) (k0_pay5 (F := Ideal)) hc one_later) (ix2 r a)).trans
    (own_tile m c t (grid0.coords t0_15) a1 h1 a2 h2 a3 h3 a4 h4 a5 h5 a6 h6 a7 h7 a8 h8 a9 h9 a10 h10 a11 h11 a12 h12 a13 h13 a14 h14 (k0_pay2 (F := Ideal)) (k0_pay3 (F := Ideal)) (k0_pay4 (F := Ideal)) (k0_pay5 (F := Ideal)) one_later r a)

/-- A point leaves its tile of `ownGrad` in the first output's block. -/
theorem own_block (c : Dev nD) (t : Fin cfg0.N) (r : Fin 512) (a : Fin 1536) :
    (outsAt0 m c t.val t.isLt).1 (ix2 r a)
      = ownAt (projArg m c) (cotArg m c) (scaleArg m c) (shiftArg m c) (mixArg m c) (biasArg m c) (tokenAt t r) a := by
  by_cases h0 : t.val % 16 = 0
  · rw [outsAt0_A m c t h0]
    dsimp only
    exact own_tile_first m c t (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) ((hcond0_0 t).mpr h0) r a
  · rw [outsAt0_B m c t h0]
    dsimp only
    exact own_tile m c t (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) r a

/-- The first result: the gradient of the projection's own columns. -/
theorem own_final (c : Dev nD) : (dats m 0 c).arrAt 8 cfg0.N
    = ownGrad (projArg m c) (cotArg m c) (scaleArg m c) (shiftArg m c) (mixArg m c) (biasArg m c) := by
  refine (dats m 0 c).arrAt_eq_of_covers 8 _ (by decide +kernel) fun t hf y => ?_
  idx_vars y
  blk_simp
  rw [after0_8]
  have e : (win0_8.blk t).view.emb (ix2 y0 y1) = (ix2 (tokenAt t y0) y1 : S8192x1536.Idx) := by blk_ext [idx8 t]
  exact (own_block m c t y0 y1).trans (congrArg (ownGrad (projArg m c) (cotArg m c) (scaleArg m c) (shiftArg m c) (mixArg m c) (biasArg m c)) e).symm

section Sums

variable (c : Dev nD) (t : Fin cfg0.N)

/-- What one tile adds to the gradients of the parameters. -/
def mixTile : S4x128x128.Idx → EReal := fun i => ∑ q : Fin 4, mixTerm (projArg m c) (cotArg m c) (scaleArg m c) (shiftArg m c) (mixArg m c) (biasArg m c) (chunkAt t q) (i 0) (i 1) (i 2)
def biasTotal : S128x4.Idx → EReal := fun i => ∑ q : Fin 4, biasPart (chunksAt m c (chunkAt t q)) (i 0) (i 1)
def scaleTile : S1x512.Idx → EReal := fun i => ∑ r : Fin 512, scaleTerm (projArg m c) (cotArg m c) (scaleArg m c) (shiftArg m c) (mixArg m c) (biasArg m c) (tokenAt t r) (i 1)
def shiftTile : S1x512.Idx → EReal := fun i => ∑ r : Fin 512, shiftTerm (projArg m c) (cotArg m c) (scaleArg m c) (shiftArg m c) (mixArg m c) (biasArg m c) (tokenAt t r) (i 1)

theorem mix_tile (g : Fin 4) (r s : Fin 128) :
    (if s ≤ r then ∑ q, mixPart (params (iblk m c 4 t) (iblk m c 5 t) (iblk m c 6 t) (iblk m c 7 t)) (chunk (iblk m c 0 t) (iblk m c 1 t) (iblk m c 2 t) (iblk m c 3 t) q) g r s else 0)
      = mixTile m c t (ix3 g r s) := by
  rw [params_block]
  simp only [chunk_block]
  show _ = ∑ q : Fin 4, mixTerm _ _ _ _ _ _ (chunkAt t q) g r s
  unfold mixTerm
  split
  · rfl
  · exact Finset.sum_const_zero.symm

theorem bias_tile (r : Fin 128) (g : Fin 4) :
    ∑ q, biasPart (chunk (iblk m c 0 t) (iblk m c 1 t) (iblk m c 2 t) (iblk m c 3 t) q) r g = biasTotal m c t (ix2 r g) := by
  simp only [chunk_block]
  rfl

theorem shift_token (r j : Fin 512) : rowGrad (iblk m c 0 t) (iblk m c 1 t) (iblk m c 2 t) (iblk m c 3 t) (iblk m c 4 t) (iblk m c 5 t) (iblk m c 6 t) (iblk m c 7 t) r j
    = shiftTerm (projArg m c) (cotArg m c) (scaleArg m c) (shiftArg m c) (mixArg m c) (biasArg m c) (tokenAt t r) j := by
  have eq : chunkIx (tokenAt t r) = chunkAt t ⟨r.val / 128, by omega⟩ := Fin.ext (show (t.val * 512 + r.val) / 128 = t.val * 4 + r.val / 128 by omega)
  have ep : placeIx (tokenAt t r) = ⟨r.val % 128, by omega⟩ := Fin.ext (show (t.val * 512 + r.val) % 128 = r.val % 128 by omega)
  unfold shiftTerm rowGrad
  rw [eq, ep, params_block, chunk_block]

theorem hat_token (r j : Fin 512) : hat (fun j => gelu ((iblk m c 1 t : Vec Ideal S512x512 .f32) (ix2 r j))) j
    = hat ((chunksAt m c (chunkIx (tokenAt t r))).rowOf (placeIx (tokenAt t r))) j := by
  have e : (fun j => gelu ((iblk m c 1 t : Vec Ideal S512x512 .f32) (ix2 r j))) = (chunksAt m c (chunkIx (tokenAt t r))).rowOf (placeIx (tokenAt t r)) := by
    funext j
    have er : r = tok ⟨r.val / 128, by omega⟩ ⟨r.val % 128, by omega⟩ := Fin.ext (show r.val = 128 * (r.val / 128) + r.val % 128 by omega)
    have eq : chunkIx (tokenAt t r) = chunkAt t ⟨r.val / 128, by omega⟩ := Fin.ext (show (t.val * 512 + r.val) / 128 = t.val * 4 + r.val / 128 by omega)
    have ep : placeIx (tokenAt t r) = ⟨r.val % 128, by omega⟩ := Fin.ext (show (t.val * 512 + r.val) % 128 = r.val % 128 by omega)
    rw [eq, ep]
    refine Eq.trans (congrArg (fun r => gelu ((iblk m c 1 t : Vec Ideal S512x512 .f32) (ix2 r j))) er) ?_
    exact congrArg gelu (v_block m c t _ _ j)
  rw [e]

theorem mix_first (h0 : t.val % 16 = 0) (g : Fin 4) (r s : Fin 128) : (outsAt0 m c t.val t.isLt).2.1 (ix3 g r s) = mixTile m c t (ix3 g r s) := by
  rw [outsAt0_A m c t h0]
  dsimp only
  exact (first_mix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) (ix3 g r s) g r s rfl rfl rfl).trans (mix_tile m c t g r s)

theorem mix_later (h0 : ¬t.val % 16 = 0) (g : Fin 4) (r s : Fin 128) : (outsAt0 m c t.val t.isLt).2.1 (ix3 g r s)
      = (outsAt0 m c (t.val - 1) (Nat.lt_of_le_of_lt (Nat.sub_le _ _) t.isLt)).2.1 (ix3 g r s) + mixTile m c t (ix3 g r s) := by
  rw [outsAt0_B m c t h0]
  dsimp only
  exact (later_mix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (ix3 g r s) g r s rfl rfl rfl).trans (congrArg (_ + ·) (mix_tile m c t g r s))

theorem bias_first (h0 : t.val % 16 = 0) (r : Fin 128) (g : Fin 4) : (outsAt0 m c t.val t.isLt).2.2.1 (ix2 r g) = biasTotal m c t (ix2 r g) := by
  rw [outsAt0_A m c t h0]
  dsimp only
  exact (first_bias c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) (ix2 r g) r g rfl rfl).trans (bias_tile m c t r g)

theorem bias_later (h0 : ¬t.val % 16 = 0) (r : Fin 128) (g : Fin 4) : (outsAt0 m c t.val t.isLt).2.2.1 (ix2 r g)
      = (outsAt0 m c (t.val - 1) (Nat.lt_of_le_of_lt (Nat.sub_le _ _) t.isLt)).2.2.1 (ix2 r g) + biasTotal m c t (ix2 r g) := by
  rw [outsAt0_B m c t h0]
  dsimp only
  exact (later_bias c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) (ix2 r g) r g rfl rfl).trans (congrArg (_ + ·) (bias_tile m c t r g))

theorem scale_first (h0 : t.val % 16 = 0) (j : Fin 512) : (outsAt0 m c t.val t.isLt).2.2.2.1 (ix2 0 j) = scaleTile m c t (ix2 0 j) := by
  rw [outsAt0_A m c t h0]
  dsimp only
  exact (first_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) j).trans (Finset.sum_congr rfl fun r _ => congrArg₂ (· * ·) (shift_token m c t r j) (hat_token m c t r j))

theorem scale_later (h0 : ¬t.val % 16 = 0) (j : Fin 512) : (outsAt0 m c t.val t.isLt).2.2.2.1 (ix2 0 j)
      = (outsAt0 m c (t.val - 1) (Nat.lt_of_le_of_lt (Nat.sub_le _ _) t.isLt)).2.2.2.1 (ix2 0 j) + scaleTile m c t (ix2 0 j) := by
  rw [outsAt0_B m c t h0]
  dsimp only
  exact (later_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) j).trans (congrArg (_ + ·) (Finset.sum_congr rfl fun r _ => congrArg₂ (· * ·) (shift_token m c t r j) (hat_token m c t r j)))

theorem shift_first (h0 : t.val % 16 = 0) (j : Fin 512) : (outsAt0 m c t.val t.isLt).2.2.2.2 (ix2 0 j) = shiftTile m c t (ix2 0 j) := by
  rw [outsAt0_A m c t h0]
  dsimp only
  exact (first_shift c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) ((hcond0_0 t).mpr h0) j).trans (Finset.sum_congr rfl fun r _ => shift_token m c t r j)

theorem shift_later (h0 : ¬t.val % 16 = 0) (j : Fin 512) : (outsAt0 m c t.val t.isLt).2.2.2.2 (ix2 0 j)
      = (outsAt0 m c (t.val - 1) (Nat.lt_of_le_of_lt (Nat.sub_le _ _) t.isLt)).2.2.2.2 (ix2 0 j) + shiftTile m c t (ix2 0 j) := by
  rw [outsAt0_B m c t h0]
  dsimp only
  exact (later_shift c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (fun h => h0 ((hcond0_0 t).mp h)) j).trans (congrArg (_ + ·) (Finset.sum_congr rfl fun r _ => shift_token m c t r j))

end Sums

theorem mix_final (c : Dev nD) : (dats m 0 c).arrAt 9 cfg0.N = mixGrad (projArg m c) (cotArg m c) (scaleArg m c) (shiftArg m c) (mixArg m c) (biasArg m c) := by
  refine (dats m 0 c).arrAt_eq_of_after_last 9 t0_15 (by decide +kernel) _ fun i => ?_
  blk_simp
  rw [after0_9]
  refine (Pipeline.eq_sum_fin_of_reset_step_apply_last (fun n h => (outsAt0 m c n h).2.1) 16 (fun _ => 0) (mixTile m c)
    (fun t h i => ?_) (fun t h i => ?_) (by decide) t0_15 rfl i).trans ?_
  · idx_vars i
    rw [zero_add]
    exact mix_first m c t h _ _ _
  · idx_vars i
    exact mix_later m c t h _ _ _
  · rw [zero_add]
    exact Fin.sum_mul_add_fin 16 4 (fun q : Fin 64 => mixTerm (projArg m c) (cotArg m c) (scaleArg m c) (shiftArg m c) (mixArg m c) (biasArg m c) q (i 0) (i 1) (i 2))

theorem bias_final (c : Dev nD) : (dats m 0 c).arrAt 10 cfg0.N = biasGrad (projArg m c) (cotArg m c) := by
  refine (dats m 0 c).arrAt_eq_of_after_last 10 t0_15 (by decide +kernel) _ fun i => ?_
  blk_simp
  rw [after0_10]
  refine (Pipeline.eq_sum_fin_of_reset_step_apply_last (fun n h => (outsAt0 m c n h).2.2.1) 16 (fun _ => 0) (biasTotal m c)
    (fun t h i => ?_) (fun t h i => ?_) (by decide) t0_15 rfl i).trans ?_
  · idx_vars i
    rw [zero_add]
    exact bias_first m c t h _ _
  · idx_vars i
    exact bias_later m c t h _ _
  · rw [zero_add]
    exact Fin.sum_mul_add_fin 16 4 (fun q : Fin 64 => biasPart (chunksAt m c q) (i 0) (i 1))

theorem scale_final (c : Dev nD) : (dats m 0 c).arrAt 11 cfg0.N = scaleGrad (projArg m c) (cotArg m c) (scaleArg m c) (shiftArg m c) (mixArg m c) (biasArg m c) := by
  refine (dats m 0 c).arrAt_eq_of_after_last 11 t0_15 (by decide +kernel) _ fun i => ?_
  blk_simp
  rw [after0_11]
  refine (Pipeline.eq_sum_fin_of_reset_step_apply_last (fun n h => (outsAt0 m c n h).2.2.2.1) 16 (fun _ => 0) (scaleTile m c)
    (fun t h i => ?_) (fun t h i => ?_) (by decide) t0_15 rfl i).trans ?_
  · idx_vars i
    obtain rfl : i0 = 0 := Fin.ext (by omega)
    rw [zero_add]
    exact scale_first m c t h _
  · idx_vars i
    obtain rfl : i0 = 0 := Fin.ext (by omega)
    exact scale_later m c t h _
  · rw [zero_add]
    exact Fin.sum_mul_add_fin 16 512 (fun s : Fin 8192 => scaleTerm (projArg m c) (cotArg m c) (scaleArg m c) (shiftArg m c) (mixArg m c) (biasArg m c) s (i 1))

theorem shift_final (c : Dev nD) : (dats m 0 c).arrAt 12 cfg0.N = shiftGrad (projArg m c) (cotArg m c) (scaleArg m c) (shiftArg m c) (mixArg m c) (biasArg m c) := by
  refine (dats m 0 c).arrAt_eq_of_after_last 12 t0_15 (by decide +kernel) _ fun i => ?_
  blk_simp
  rw [after0_12]
  refine (Pipeline.eq_sum_fin_of_reset_step_apply_last (fun n h => (outsAt0 m c n h).2.2.2.2) 16 (fun _ => 0) (shiftTile m c)
    (fun t h i => ?_) (fun t h i => ?_) (by decide) t0_15 rfl i).trans ?_
  · idx_vars i
    obtain rfl : i0 = 0 := Fin.ext (by omega)
    rw [zero_add]
    exact shift_first m c t h _
  · idx_vars i
    obtain rfl : i0 = 0 := Fin.ext (by omega)
    exact shift_later m c t h _
  · rw [zero_add]
    exact Fin.sum_mul_add_fin 16 512 (fun s : Fin 8192 => shiftTerm (projArg m c) (cotArg m c) (scaleArg m c) (shiftArg m c) (mixArg m c) (biasArg m c) s (i 1))

end Cert.GmlpIdeal.Value

end
-- ==== Proof.GmlpRef.lean ====
/-
  The gradient of the spatial gating as the reference computes it by differentiating its own lines: its stages, element by
  element, and that at finite arguments they are the functions of `GatingRows`.
-/
module

public import proofs.«01_k».proof.Proof.Gen.GmlpRefIdeal.Read
public import proofs.«01_k».proof.Proof.GmlpArrays

@[expose] public section

set_option maxRecDepth 16384
set_option backward.proofsInPublic true

noncomputable section

namespace Cert.GmlpRefIdeal.Read

open Cert.GmlpRefIdeal Cert.Gating Cert.Extended Idealize.ShloMosaic Idealize.ShloMosaic.TcCoe Idealize.SL.Sem
open Cert.GmlpIdeal.Value (token paramsOf chunkOf chunkIx placeIx ownAt mixTerm shiftTerm scaleTerm ownGrad mixGrad biasGrad scaleGrad shiftGrad)
open scoped BigOperators

variable (P : FVec Ideal S1x8192x6672 .f32) (D : FVec Ideal S1x8192x2048 .f32) (G B : FVec Ideal S1x512 .f32)
  (W : FVec Ideal S1x4x128x128 .f32) (C : FVec Ideal S1x4x128 .f32)

/-- A sum over the first and last of four axes. -/
theorem reduce_outer {A₁ A₂ A₃ A₄ : ℕ} (h : (⟨4, ![A₁, A₂, A₃, A₄]⟩ : Shape).ReducesTo [0, 3] ⟨2, ![A₂, A₃]⟩)
    (x : (⟨4, ![A₁, A₂, A₃, A₄]⟩ : Shape).Idx → EReal) (init : EReal) (b : Fin A₂) (c : Fin A₃) :
    Ideal.hostReduceAdd h x init (ix2 b c) = init + ∑ a, ∑ d, x (ix4 a b c d) := by
  refine congrArg (init + ·) ((Finset.sum_filter_eq_sum_of_fiber _ (fun k : Fin A₁ × Fin A₄ => ix4 k.1 b c k.2)
    (fun _ _ e => Prod.ext (congrFun e 0) (congrFun e 3)) (fun i => ⟨fun e => ⟨(i 0, i 3), funext fun a => Fin.ext ?_⟩, ?_⟩) x).trans ?_)
  · match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl
  · simp only [Fintype.sum_prod_type]

/-- The reference's cubic coefficient is the number itself. -/
theorem coefficient : Ideal.div (Ideal.ofBits .f32 0x472EAB00#32) (Ideal.ofBits .f32 0x49742400#32) = cubic := by
  have h1 : Ideal.ofBits .f32 0x472EAB00#32 = ((44715 : ℝ) : EReal) := by
    simp [Ideal.ofBits, Ideal.ieee]
    rw [← EReal.coe_mul]
    congr 1
    norm_num
  have h2 : Ideal.ofBits .f32 0x49742400#32 = ((1000000 : ℝ) : EReal) := by
    simp [Ideal.ofBits, Ideal.ieee]
    rw [← EReal.coe_mul]
    congr 1
    norm_num
  rw [h1, h2, Ideal.div_coe (by norm_num), ← EReal.coe_mul]
  congr 1
  norm_num

theorem u_stage (s : Fin 8192) (j : Fin 512) : val_main_v2 (F := Ideal) P (ix2 s j) = P (ix3 0 s ⟨j.val, by omega⟩) := by
  pointwise [val_main_v2, val_main_v1, val_main_v0]

theorem v_stage (s : Fin 8192) (j : Fin 512) : val_main_v3 (F := Ideal) P (ix2 s j) = P (ix3 0 s ⟨512 + j.val, by omega⟩) := by
  pointwise [val_main_v3, val_main_v1, val_main_v0]

theorem z_stage (s : Fin 8192) (j : Fin 512) : val_main_v4 (F := Ideal) P (ix2 s j) = P (ix3 0 s ⟨1024 + j.val, by omega⟩) := by
  pointwise [val_main_v4, val_main_v1, val_main_v0]

theorem d_stage (s : Fin 8192) (j : Fin 512) : val_main_v94 (F := Ideal) D (ix2 s j) = D (ix3 0 s ⟨j.val, by omega⟩) := by
  pointwise [val_main_v94, val_main_v93]

theorem u_bend_stage (s : Fin 8192) (j : Fin 512) : val_main_v20 (F := Ideal) P (ix2 s j)
    = Ideal.tanh (root * (val_main_v2 (F := Ideal) P (ix2 s j) + cubic * (val_main_v2 (F := Ideal) P (ix2 s j) * val_main_v2 (F := Ideal) P (ix2 s j) * val_main_v2 (F := Ideal) P (ix2 s j)))) := by
  unfold val_main_v20 val_main_v19 val_main_v17 val_main_v16 val_main_v11 val_main_v10
  generalize val_main_v2 (F := Ideal) P = X
  pointwise [val_main_v18, val_main_v15, val_main_v9, val_main_cst_2, val_main_cst, val_main_cst_0]
  rw [coefficient]

theorem v_bend_stage (s : Fin 8192) (j : Fin 512) : val_main_v42 (F := Ideal) P (ix2 s j)
    = Ideal.tanh (root * (val_main_v3 (F := Ideal) P (ix2 s j) + cubic * (val_main_v3 (F := Ideal) P (ix2 s j) * val_main_v3 (F := Ideal) P (ix2 s j) * val_main_v3 (F := Ideal) P (ix2 s j)))) := by
  unfold val_main_v42 val_main_v41 val_main_v39 val_main_v38 val_main_v33 val_main_v32
  generalize val_main_v3 (F := Ideal) P = X
  pointwise [val_main_v40, val_main_v37, val_main_v31, val_main_cst_10, val_main_cst_7, val_main_cst_8]
  rw [coefficient]

theorem u_gelu_stage (s : Fin 8192) (j : Fin 512) : val_main_v30 (F := Ideal) P (ix2 s j)
    = val_main_v2 (F := Ideal) P (ix2 s j) * (half * (1 + val_main_v20 (F := Ideal) P (ix2 s j))) := by
  unfold val_main_v30 val_main_v29 val_main_v27
  generalize val_main_v2 (F := Ideal) P = X
  generalize val_main_v20 (F := Ideal) P = Y
  pointwise [val_main_v28, val_main_v26, val_main_cst_6, val_main_cst_5]

theorem v_gelu_stage (s : Fin 8192) (j : Fin 512) : val_main_v52 (F := Ideal) P (ix2 s j)
    = val_main_v3 (F := Ideal) P (ix2 s j) * (half * (1 + val_main_v42 (F := Ideal) P (ix2 s j))) := by
  unfold val_main_v52 val_main_v51 val_main_v49
  generalize val_main_v3 (F := Ideal) P = X
  generalize val_main_v42 (F := Ideal) P = Y
  pointwise [val_main_v50, val_main_v48, val_main_cst_14, val_main_cst_13]

theorem centre_stage (s : Fin 8192) (j : Fin 512) : val_main_v58 (F := Ideal) P (ix2 s j)
    = centre (fun j => val_main_v52 (F := Ideal) P (ix2 s j)) j := by
  unfold val_main_v58 val_main_v57 val_main_v56 val_main_v54 val_main_v53
  generalize val_main_v52 (F := Ideal) P = X
  pointwise [val_main_v55, val_main_cst_16, val_main_cst_15]
  rfl

theorem variance_stage (s : Fin 8192) : val_main_v65 (F := Ideal) P (ix2 s 0)
    = mean (fun j => val_main_v58 (F := Ideal) P (ix2 s j) * val_main_v58 (F := Ideal) P (ix2 s j)) + eps := by
  unfold val_main_v65 val_main_v63 val_main_v61 val_main_v60 val_main_v59
  generalize val_main_v58 (F := Ideal) P = X
  pointwise [val_main_v62, val_main_v64, val_main_cst_18, val_main_cst_19, val_main_cst_17]
  rfl

theorem spread_stage (s : Fin 8192) : val_main_v66 (F := Ideal) P (ix2 s 0) = Ideal.rsqrt (val_main_v65 (F := Ideal) P (ix2 s 0)) := by
  pointwise [val_main_v66]

theorem hat_stage (s : Fin 8192) (j : Fin 512) : val_main_v71 (F := Ideal) P (ix2 s j)
    = val_main_v58 (F := Ideal) P (ix2 s j) * val_main_v66 (F := Ideal) P (ix2 s 0) := by
  unfold val_main_v71 val_main_v70
  generalize val_main_v58 (F := Ideal) P = X
  generalize val_main_v66 (F := Ideal) P = Y
  pointwise

theorem normed_stage (s : Fin 8192) (j : Fin 512) : val_main_v77 (F := Ideal) P G B (ix2 s j)
    = val_main_v71 (F := Ideal) P (ix2 s j) * G (ix2 0 j) + B (ix2 0 j) := by
  unfold val_main_v77 val_main_v74
  generalize val_main_v71 (F := Ideal) P = X
  pointwise [val_main_v76, val_main_v75, val_main_v73, val_main_v72, val_main_v8, val_main_v7]

theorem mask_stage (g : Fin 4) (t s : Fin 128) : (val_main_v82_1 (F := Ideal) (ix3 g t s) : BitVec 1) = if s ≤ t then 1#1 else 0#1 := by
  pointwise [val_main_v82_1, val_main_v81, val_main_v80, val_main_v79, val_main_call0_v5, val_main_call0_c_0, val_main_call0_v4, val_main_call0_v3, val_main_call0_v2, val_main_call0_v1, val_main_call0_c, val_main_call0_v0, val_main_c]
  have ht := t.isLt
  have hs := s.isLt
  rw [show IntOp.addi (BitVec.ofNat 32 t.val) 0#32 = BitVec.ofNat 32 t.val from BitVec.add_zero _, WordCmp.cmpi_sge_ofNat (by omega) (by omega)]
  by_cases h : s ≤ t
  · rw [if_pos h]
    have : (s : ℕ) ≤ t := h
    simp [this, Scalar.select]
  · rw [if_neg h]
    have : ¬(s : ℕ) ≤ t := h
    simp [this, Scalar.select]

theorem causal_stage (g : Fin 4) (t s : Fin 128) : val_main_v82_0 (F := Ideal) W (ix3 g t s) = (paramsOf G B W C).causal g t s := by
  pointwise [val_main_v82_0, val_main_v5, val_main_call1_v2, val_main_call1_v0, val_main_c_21]
  rw [mask_stage, Params.causal]
  split
  · rfl
  · show ((((0#32 : BitVec 32).toInt : ℤ) : ℝ) : EReal) = 0
    simp

theorem mixed_stage (q : Fin 64) (t : Fin 128) (g : Fin 4) (l : Fin 128) : val_main_v89 (F := Ideal) P G B W C (ix2 (token q t) (lane g l))
    = (∑ s, val_main_v77 (F := Ideal) P G B (ix2 (token q s) (lane g l)) * val_main_v82_0 (F := Ideal) W (ix3 g t s)) + C (ix3 0 g t) := by
  unfold val_main_v89 val_main_v88 val_main_v84 val_main_v83 val_main_v78
  generalize val_main_v77 (F := Ideal) P G B = X
  generalize val_main_v82_0 (F := Ideal) W = Y
  pointwise [val_main_v87, val_main_v86, val_main_v85, val_main_v6]
  have e1 : (128 * q.val + t.val) / 128 = q.val := by omega
  have e2 : (128 * q.val + t.val) % 128 = t.val := by omega
  have e3 : (128 * g.val + l.val) / 128 = g.val := by omega
  have e4 : (128 * g.val + l.val) % 128 = l.val := by omega
  simp only [e1, e2, e3, e4, Nat.mul_comm _ 128]

theorem gate_stage (s : Fin 8192) (j : Fin 512) : val_main_v91_0 (F := Ideal) P (ix2 s j) = gate (val_main_v4 (F := Ideal) P (ix2 s j)) := by
  unfold val_main_v91_0 val_main_v91_2 val_main_call2_v3 val_main_call2_v1 val_main_call2_v0
  generalize val_main_v4 (F := Ideal) P = X
  pointwise [val_main_call2_v4, val_main_call2_cst_0, val_main_call2_v2, val_main_call2_cst]
  rfl

theorem zGrad_stage (s : Fin 8192) (j : Fin 512) : val_main_v97 (F := Ideal) P D G B W C (ix2 s j)
    = val_main_v30 (F := Ideal) P (ix2 s j) * val_main_v89 (F := Ideal) P G B W C (ix2 s j) * val_main_v94 (F := Ideal) D (ix2 s j) * Ideal.logistic (val_main_v4 (F := Ideal) P (ix2 s j))
      + val_main_v4 (F := Ideal) P (ix2 s j) * (val_main_v30 (F := Ideal) P (ix2 s j) * val_main_v89 (F := Ideal) P G B W C (ix2 s j) * val_main_v94 (F := Ideal) D (ix2 s j))
        * (Ideal.logistic (val_main_v4 (F := Ideal) P (ix2 s j)) * (1 - Ideal.logistic (val_main_v4 (F := Ideal) P (ix2 s j)))) := by
  unfold val_main_v97 val_main_call3_v1 val_main_call3_v2 val_main_call3_v0 val_main_v95 val_main_v90 val_main_v91_1 val_main_call2_v7 val_main_v91_2 val_main_call2_v3 val_main_call2_v1 val_main_call2_v0
  generalize val_main_v4 (F := Ideal) P = X
  generalize val_main_v30 (F := Ideal) P = Y
  generalize val_main_v89 (F := Ideal) P G B W C = Z
  generalize val_main_v94 (F := Ideal) D = V
  pointwise [val_main_call2_v4, val_main_call2_cst_0, val_main_call2_v2, val_main_call2_cst, val_main_call2_v6, val_main_call2_cst_1]
  rfl

theorem mixedGrad_stage (s : Fin 8192) (j : Fin 512) : val_main_v98 (F := Ideal) P D (ix2 s j)
    = val_main_v30 (F := Ideal) P (ix2 s j) * (val_main_v94 (F := Ideal) D (ix2 s j) * val_main_v91_0 (F := Ideal) P (ix2 s j)) := by
  pointwise [val_main_v98, val_main_v96]

theorem gated_stage (s : Fin 8192) (j : Fin 512) : val_main_v99 (F := Ideal) P D G B W C (ix2 s j)
    = val_main_v94 (F := Ideal) D (ix2 s j) * val_main_v91_0 (F := Ideal) P (ix2 s j) * val_main_v89 (F := Ideal) P G B W C (ix2 s j) := by
  unfold val_main_v99 val_main_v96
  generalize val_main_v89 (F := Ideal) P G B W C = Z
  pointwise

theorem bias_stage (t : Fin 128) (g : Fin 4) : val_main_v174 (F := Ideal) P D (ix2 t g)
    = ∑ q : Fin 64, ∑ l, val_main_v98 (F := Ideal) P D (ix2 (token q t) (lane g l)) := by
  unfold val_main_v174 val_main_v173 val_main_v168 val_main_v104 val_main_v103 val_main_v102 val_main_v101 val_main_v100
  generalize val_main_v98 (F := Ideal) P D = X
  pointwise [val_main_cst_23, val_main_cst_22]
  rw [reduce_outer]
  pointwise
  refine (Fin.sum_univ_one _).trans ((Fin.sum_univ_one _).trans ?_)
  rw [reduce_outer, zero_add]
  refine Finset.sum_congr rfl fun q _ => Finset.sum_congr rfl fun l _ => ?_
  pointwise
  simp only [Nat.mul_comm _ 128]

theorem mixGrad_stage (g : Fin 4) (t s : Fin 128) : val_main_v172 (F := Ideal) P D G B (ix3 g t s)
    = if s ≤ t then ∑ q : Fin 64, ∑ l, val_main_v98 (F := Ideal) P D (ix2 (token q t) (lane g l)) * val_main_v77 (F := Ideal) P G B (ix2 (token q s) (lane g l)) else 0 := by
  unfold val_main_v172 val_main_v169 val_main_v109 val_main_v106 val_main_v105 val_main_v100 val_main_v78
  generalize val_main_v77 (F := Ideal) P G B = X
  generalize val_main_v98 (F := Ideal) P D = Y
  pointwise [val_main_call4_v0, val_main_call4_cst]
  rw [mask_stage]
  simp only [Nat.mul_comm _ 128]
  split
  · rfl
  · rfl

theorem normedGrad_stage (q : Fin 64) (s : Fin 128) (g : Fin 4) (l : Fin 128) : val_main_v110 (F := Ideal) P D W (ix2 (token q s) (lane g l))
    = ∑ t, val_main_v98 (F := Ideal) P D (ix2 (token q t) (lane g l)) * val_main_v82_0 (F := Ideal) W (ix3 g t s) := by
  unfold val_main_v110 val_main_v108 val_main_v107 val_main_v105 val_main_v100
  generalize val_main_v82_0 (F := Ideal) W = X
  generalize val_main_v98 (F := Ideal) P D = Y
  pointwise
  have e1 : (128 * q.val + s.val) / 128 = q.val := by omega
  have e2 : (128 * q.val + s.val) % 128 = s.val := by omega
  have e3 : (128 * g.val + l.val) / 128 = g.val := by omega
  have e4 : (128 * g.val + l.val) % 128 = l.val := by omega
  simp only [e1, e2, e3, e4, Nat.mul_comm _ 128]

theorem shift_stage (j : Fin 512) : val_main_v166 (F := Ideal) P D W (ix2 0 j) = ∑ s, val_main_v110 (F := Ideal) P D W (ix2 s j) := by
  unfold val_main_v166 val_main_v113 val_main_v112 val_main_v111
  generalize val_main_v110 (F := Ideal) P D W = X
  pointwise [val_main_cst_25, val_main_cst_24]
  exact Fin.sum_univ_one _

theorem scale_stage (j : Fin 512) : val_main_v167 (F := Ideal) P D W (ix2 0 j)
    = ∑ s, val_main_v71 (F := Ideal) P (ix2 s j) * val_main_v110 (F := Ideal) P D W (ix2 s j) := by
  unfold val_main_v167 val_main_v119 val_main_v116 val_main_v115 val_main_v114
  generalize val_main_v110 (F := Ideal) P D W = X
  generalize val_main_v71 (F := Ideal) P = Y
  pointwise [val_main_cst_27, val_main_cst_26]
  exact Fin.sum_univ_one _

theorem hatCot_stage (s : Fin 8192) (j : Fin 512) : val_main_v118 (F := Ideal) P D G W (ix2 s j) = val_main_v110 (F := Ideal) P D W (ix2 s j) * G (ix2 0 j) := by
  unfold val_main_v118
  generalize val_main_v110 (F := Ideal) P D W = X
  pointwise [val_main_v117, val_main_v72, val_main_v7]

theorem factor_stage (s : Fin 8192) : val_main_v128 (F := Ideal) P D G W (ix1 s)
    = Ideal.div ((∑ j, val_main_v58 (F := Ideal) P (ix2 s j) * val_main_v118 (F := Ideal) P D G W (ix2 s j))
        * (minusHalf * Ideal.div (val_main_v66 (F := Ideal) P (ix2 s 0)) (val_main_v65 (F := Ideal) P (ix2 s 0)))) width := by
  unfold val_main_v128 val_main_v127 val_main_v125 val_main_v122 val_main_v121 val_main_v120 val_main_v69 val_main_v67
  generalize val_main_v58 (F := Ideal) P = X
  generalize val_main_v65 (F := Ideal) P = Y
  generalize val_main_v66 (F := Ideal) P = Z
  generalize val_main_v118 (F := Ideal) P D G W = V
  pointwise [val_main_v68, val_main_v126, val_main_cst_20, val_main_cst_29, val_main_cst_30, val_main_cst_28]
  exact Fin.sum_univ_one _

theorem direct_stage (s : Fin 8192) (j : Fin 512) : val_main_v133 (F := Ideal) P D G W (ix2 s j)
    = val_main_v118 (F := Ideal) P D G W (ix2 s j) * val_main_v66 (F := Ideal) P (ix2 s 0)
      + val_main_v58 (F := Ideal) P (ix2 s j) * val_main_v128 (F := Ideal) P D G W (ix1 s)
      + val_main_v128 (F := Ideal) P D G W (ix1 s) * val_main_v58 (F := Ideal) P (ix2 s j) := by
  unfold val_main_v133 val_main_v132 val_main_v131 val_main_v130 val_main_v129 val_main_v124 val_main_v123
  generalize val_main_v58 (F := Ideal) P = X
  generalize val_main_v66 (F := Ideal) P = Z
  generalize val_main_v118 (F := Ideal) P D G W = V
  generalize val_main_v128 (F := Ideal) P D G W = U
  pointwise

theorem hatGrad_stage (s : Fin 8192) (j : Fin 512) : val_main_v141 (F := Ideal) P D G W (ix2 s j)
    = val_main_v133 (F := Ideal) P D G W (ix2 s j) + Ideal.div (∑ x, -val_main_v133 (F := Ideal) P D G W (ix2 s x)) width := by
  unfold val_main_v141 val_main_v140 val_main_v139 val_main_v138 val_main_v136 val_main_v135 val_main_v134
  generalize val_main_v133 (F := Ideal) P D G W = X
  pointwise [val_main_v137, val_main_cst_32, val_main_cst_33, val_main_cst_31]
  exact congrArg (_ + ·) (Fin.sum_univ_one _)

theorem vGrad_stage (s : Fin 8192) (j : Fin 512) : val_main_v153 (F := Ideal) P D G W (ix2 s j)
    = val_main_v141 (F := Ideal) P D G W (ix2 s j) * (half * (1 + val_main_v42 (F := Ideal) P (ix2 s j)))
      + root * (half * (val_main_v3 (F := Ideal) P (ix2 s j) * val_main_v141 (F := Ideal) P D G W (ix2 s j)) * ((1 + val_main_v42 (F := Ideal) P (ix2 s j)) * (1 - val_main_v42 (F := Ideal) P (ix2 s j))))
      + cubic * (root * (half * (val_main_v3 (F := Ideal) P (ix2 s j) * val_main_v141 (F := Ideal) P D G W (ix2 s j)) * ((1 + val_main_v42 (F := Ideal) P (ix2 s j)) * (1 - val_main_v42 (F := Ideal) P (ix2 s j)))))
        * (three * (val_main_v3 (F := Ideal) P (ix2 s j) * val_main_v3 (F := Ideal) P (ix2 s j))) := by
  unfold val_main_v153 val_main_v152 val_main_v151 val_main_v149 val_main_v148 val_main_v146 val_main_v145 val_main_v143 val_main_v142 val_main_v51 val_main_v49 val_main_v47 val_main_v46 val_main_v44 val_main_v36 val_main_v34
  generalize val_main_v141 (F := Ideal) P D G W = X
  generalize val_main_v42 (F := Ideal) P = Y
  generalize val_main_v3 (F := Ideal) P = Z
  pointwise [val_main_v50, val_main_v48, val_main_v45, val_main_v43, val_main_v35, val_main_v150, val_main_v147, val_main_v144, val_main_v31, val_main_cst_14, val_main_cst_13, val_main_cst_12, val_main_cst_11, val_main_cst_9, val_main_cst_35, val_main_cst_34, val_main_cst_7, val_main_cst_8]
  rw [coefficient]

theorem uGrad_stage (s : Fin 8192) (j : Fin 512) : val_main_v165 (F := Ideal) P D G B W C (ix2 s j)
    = val_main_v99 (F := Ideal) P D G B W C (ix2 s j) * (half * (1 + val_main_v20 (F := Ideal) P (ix2 s j)))
      + root * (half * (val_main_v2 (F := Ideal) P (ix2 s j) * val_main_v99 (F := Ideal) P D G B W C (ix2 s j)) * ((1 + val_main_v20 (F := Ideal) P (ix2 s j)) * (1 - val_main_v20 (F := Ideal) P (ix2 s j))))
      + cubic * (root * (half * (val_main_v2 (F := Ideal) P (ix2 s j) * val_main_v99 (F := Ideal) P D G B W C (ix2 s j)) * ((1 + val_main_v20 (F := Ideal) P (ix2 s j)) * (1 - val_main_v20 (F := Ideal) P (ix2 s j)))))
        * (three * (val_main_v2 (F := Ideal) P (ix2 s j) * val_main_v2 (F := Ideal) P (ix2 s j))) := by
  unfold val_main_v165 val_main_v164 val_main_v163 val_main_v161 val_main_v160 val_main_v158 val_main_v157 val_main_v155 val_main_v154 val_main_v29 val_main_v27 val_main_v25 val_main_v24 val_main_v22 val_main_v14 val_main_v12
  generalize val_main_v99 (F := Ideal) P D G B W C = X
  generalize val_main_v20 (F := Ideal) P = Y
  generalize val_main_v2 (F := Ideal) P = Z
  pointwise [val_main_v28, val_main_v26, val_main_v23, val_main_v21, val_main_v13, val_main_v162, val_main_v159, val_main_v156, val_main_v9, val_main_cst_6, val_main_cst_5, val_main_cst_4, val_main_cst_3, val_main_cst_1, val_main_cst_37, val_main_cst_36, val_main_cst, val_main_cst_0]
  rw [coefficient]

/-! ## At finite arguments -/

theorem token_self (s : Fin 8192) : token (chunkIx s) (placeIx s) = s := Fin.ext (show 128 * (s.val / 128) + s.val % 128 = s.val by omega)
theorem chunk_token (q : Fin 64) (t : Fin 128) : chunkIx (token q t) = q := Fin.ext (show (128 * q.val + t.val) / 128 = q.val by omega)
theorem place_token (q : Fin 64) (t : Fin 128) : placeIx (token q t) = t := Fin.ext (show (128 * q.val + t.val) % 128 = t.val by omega)
theorem group_lane (g : Fin 4) (l : Fin 128) : groupOf (lane g l) = g := Fin.ext (show (128 * g.val + l.val) / 128 = g.val by omega)
theorem lane_self (j : Fin 512) : lane (groupOf j) ⟨j.val % 128, by omega⟩ = j := Fin.ext (show 128 * (j.val / 128) + j.val % 128 = j.val by omega)

section Finite

variable {P D G B W C} (hp : (paramsOf G B W C).Real) (hk : ∀ q, (chunkOf P D q).Real)

include hk

theorem gelu_u (q : Fin 64) (t : Fin 128) (j : Fin 512) : val_main_v30 (F := Ideal) P (ix2 (token q t) j) = gelu ((chunkOf P D q).u t j) := by
  rw [u_gelu_stage, u_bend_stage, u_stage]
  exact gelu_eq ((hk q).u t j)

theorem gelu_v (q : Fin 64) (t : Fin 128) : (fun j => val_main_v52 (F := Ideal) P (ix2 (token q t) j)) = (chunkOf P D q).rowOf t := by
  funext j
  rw [v_gelu_stage, v_bend_stage, v_stage]
  exact gelu_eq ((hk q).v t j)

theorem centre_v (q : Fin 64) (t : Fin 128) : (fun j => val_main_v58 (F := Ideal) P (ix2 (token q t) j)) = centre ((chunkOf P D q).rowOf t) := by
  rw [← gelu_v hk]
  exact funext fun j => centre_stage P _ j

theorem variance_v (q : Fin 64) (t : Fin 128) : val_main_v65 (F := Ideal) P (ix2 (token q t) 0)
    = mean (fun j => centre ((chunkOf P D q).rowOf t) j * centre ((chunkOf P D q).rowOf t) j) + eps := by
  rw [variance_stage, ← centre_v hk]

theorem spread_v (q : Fin 64) (t : Fin 128) : val_main_v66 (F := Ideal) P (ix2 (token q t) 0) = spread ((chunkOf P D q).rowOf t) := by
  rw [spread_stage, variance_v hk]
  rfl

theorem hat_v (q : Fin 64) (t : Fin 128) (j : Fin 512) : val_main_v71 (F := Ideal) P (ix2 (token q t) j) = hat ((chunkOf P D q).rowOf t) j := by
  rw [hat_stage, spread_v hk]
  exact congrArg (· * _) (congrFun (centre_v hk q t) j)

theorem normed_v (q : Fin 64) (t : Fin 128) (j : Fin 512) : val_main_v77 (F := Ideal) P G B (ix2 (token q t) j)
    = normed (paramsOf G B W C) (chunkOf P D q) t j := by
  rw [normed_stage, hat_v hk]
  rfl

theorem mixed_v (q : Fin 64) (t : Fin 128) (j : Fin 512) : val_main_v89 (F := Ideal) P G B W C (ix2 (token q t) j)
    = mixed (paramsOf G B W C) (chunkOf P D q) t j := by
  have main : ∀ g l, val_main_v89 (F := Ideal) P G B W C (ix2 (token q t) (lane g l)) = mixed (paramsOf G B W C) (chunkOf P D q) t (lane g l) := fun g l => by
    rw [mixed_stage, mixed, group_lane]
    refine congrArg (· + _) (Finset.sum_congr rfl fun s _ => ?_)
    rw [normed_v (W := W) (C := C) hk, causal_stage G B W C, mul_comm]
  rw [← lane_self j]
  exact main _ _

theorem mixedGrad_v (q : Fin 64) (t : Fin 128) (j : Fin 512) : val_main_v98 (F := Ideal) P D (ix2 (token q t) j) = mixedGrad (chunkOf P D q) t j := by
  rw [mixedGrad_stage, gelu_u hk, d_stage, gate_stage, z_stage, mixedGrad, mul_left_comm, mul_assoc]

theorem normedGrad_v (q : Fin 64) (t : Fin 128) (j : Fin 512) : val_main_v110 (F := Ideal) P D W (ix2 (token q t) j)
    = normedGrad (paramsOf G B W C) (chunkOf P D q) t j := by
  have main : ∀ g l, val_main_v110 (F := Ideal) P D W (ix2 (token q t) (lane g l)) = normedGrad (paramsOf G B W C) (chunkOf P D q) t (lane g l) := fun g l => by
    rw [normedGrad_stage, normedGrad, group_lane]
    refine Finset.sum_congr rfl fun s _ => ?_
    rw [mixedGrad_v hk, causal_stage G B W C, mul_comm]
  rw [← lane_self j]
  exact main _ _

theorem hatCot_v (q : Fin 64) (t : Fin 128) (j : Fin 512) : val_main_v118 (F := Ideal) P D G W (ix2 (token q t) j)
    = normedGrad (paramsOf G B W C) (chunkOf P D q) t j * (paramsOf G B W C).scale j := by
  rw [hatCot_stage, normedGrad_v (G := G) (B := B) (C := C) hk]

include hp

theorem hatGrad_v (q : Fin 64) (t : Fin 128) (j : Fin 512) : val_main_v141 (F := Ideal) P D G W (ix2 (token q t) j)
    = hatGrad ((chunkOf P D q).rowOf t) (fun x => normedGrad (paramsOf G B W C) (chunkOf P D q) t x * (paramsOf G B W C).scale x) j := by
  rw [hatGrad_stage]
  refine hatGrad_eq ((hk q).rowOf t) (fun x => (isReal_normedGrad hp (hk q) t x).mul (hp.scale x)) j (val_main_v128 (F := Ideal) P D G W (ix1 (token q t)))
    (fun x => val_main_v133 (F := Ideal) P D G W (ix2 (token q t) x)) ?_ fun x => ?_
  · rw [factor_stage, spread_v hk, variance_v hk]
    refine congrArg (fun S => Ideal.div (S * _) width) (Finset.sum_congr rfl fun x _ => ?_)
    rw [hatCot_v (B := B) (C := C) hk]
    exact congrArg (· * _) (congrFun (centre_v hk q t) x)
  · rw [direct_stage, hatCot_v (B := B) (C := C) hk, spread_v hk]
    have e := congrFun (centre_v hk q t) x
    dsimp only at e
    rw [e]

theorem vGrad_v (q : Fin 64) (t : Fin 128) (j : Fin 512) : val_main_v153 (F := Ideal) P D G W (ix2 (token q t) j)
    = vGrad (paramsOf G B W C) (chunkOf P D q) t j := by
  rw [vGrad_stage, hatGrad_v hp hk, v_stage]
  refine geluSlope_eq ((hk q).v t j) ?_ ?_
  · exact isReal_hatGrad ((hk q).rowOf t) (fun x => (isReal_normedGrad hp (hk q) t x).mul (hp.scale x)) j
  · rw [v_bend_stage, v_stage]

theorem uGrad_v (q : Fin 64) (t : Fin 128) (j : Fin 512) : val_main_v165 (F := Ideal) P D G B W C (ix2 (token q t) j)
    = uGrad (paramsOf G B W C) (chunkOf P D q) t j := by
  rw [uGrad_stage, gated_stage, d_stage, gate_stage, z_stage, mixed_v hk, u_stage, mul_right_comm (D _)]
  refine geluSlope_eq ((hk q).u t j) ((((hk q).d t j).mul (isReal_mixed hp (hk q) t j)).mul (isReal_gate ((hk q).z t j))) ?_
  rw [u_bend_stage, u_stage]

theorem zGrad_v (q : Fin 64) (t : Fin 128) (j : Fin 512) : val_main_v97 (F := Ideal) P D G B W C (ix2 (token q t) j)
    = zGrad (paramsOf G B W C) (chunkOf P D q) t j := by
  rw [zGrad_stage, gelu_u hk, mixed_v hk, d_stage, z_stage]
  exact gateSlope_eq ((hk q).z t j) ((hk q).d t j) (isReal_gelu ((hk q).u t j)) (isReal_mixed hp (hk q) t j)

/-- The five results of the reference. -/
theorem own_result : val_main_v171 (F := Ideal) P D G B W C = ownGrad P D G B W C := by
  funext i
  idx_vars i
  show val_main_v171 (F := Ideal) P D G B W C (ix2 i0 i1) = ownAt P D G B W C i0 i1
  have eu := fun j => uGrad_v hp hk (chunkIx i0) (placeIx i0) j
  have ev := fun j => vGrad_v hp hk (chunkIx i0) (placeIx i0) j
  have ez := fun j => zGrad_v hp hk (chunkIx i0) (placeIx i0) j
  rw [token_self] at eu ev ez
  unfold ownAt
  simp only [← eu, ← ev, ← ez]
  unfold val_main_v171 val_main_v170
  generalize val_main_v165 (F := Ideal) P D G B W C = X
  generalize val_main_v153 (F := Ideal) P D G W = Y
  generalize val_main_v97 (F := Ideal) P D G B W C = Z
  pointwise
  by_cases h1 : i1.val < 512
  · rw [dif_pos h1, dif_pos h1]
  · rw [dif_neg h1, dif_neg h1]
    by_cases h2 : i1.val < 1024
    · rw [dif_pos (show i1.val - 512 < 512 by omega), dif_pos h2]
    · rw [dif_neg (show ¬i1.val - 512 < 512 by omega), dif_neg h2]
      rfl

omit hp

theorem mix_result : val_main_v172 (F := Ideal) P D G B = mixGrad P D G B W C := by
  funext i
  idx_vars i
  show val_main_v172 (F := Ideal) P D G B (ix3 i0 i1 i2) = ∑ q : Fin 64, mixTerm P D G B W C q i0 i1 i2
  rw [mixGrad_stage]
  unfold mixTerm
  split
  · refine Finset.sum_congr rfl fun q _ => Finset.sum_congr rfl fun l _ => ?_
    rw [mixedGrad_v hk, normed_v (W := W) (C := C) hk]
  · exact Finset.sum_const_zero.symm

theorem bias_result : val_main_v174 (F := Ideal) P D = biasGrad P D := by
  funext i
  idx_vars i
  show val_main_v174 (F := Ideal) P D (ix2 i0 i1) = ∑ q : Fin 64, biasPart (chunkOf P D q) i0 i1
  rw [bias_stage]
  exact Finset.sum_congr rfl fun q _ => Finset.sum_congr rfl fun l _ => mixedGrad_v hk q i0 _

theorem shift_term (s : Fin 8192) (j : Fin 512) : val_main_v110 (F := Ideal) P D W (ix2 s j) = shiftTerm P D G B W C s j := by
  have e := normedGrad_v (G := G) (B := B) (W := W) (C := C) hk (chunkIx s) (placeIx s) j
  rw [token_self] at e
  exact e

theorem scale_result : val_main_v167 (F := Ideal) P D W = scaleGrad P D G B W C := by
  funext i
  idx_vars i
  obtain rfl : i0 = 0 := Fin.ext (by omega)
  show val_main_v167 (F := Ideal) P D W (ix2 0 i1) = ∑ s : Fin 8192, scaleTerm P D G B W C s i1
  rw [scale_stage]
  refine Finset.sum_congr rfl fun s _ => ?_
  have e := hat_v hk (chunkIx s) (placeIx s) i1
  rw [token_self] at e
  rw [e, shift_term (G := G) (B := B) (C := C) hk, mul_comm]
  rfl

theorem shift_result : val_main_v166 (F := Ideal) P D W = shiftGrad P D G B W C := by
  funext i
  idx_vars i
  obtain rfl : i0 = 0 := Fin.ext (by omega)
  show val_main_v166 (F := Ideal) P D W (ix2 0 i1) = ∑ s : Fin 8192, shiftTerm P D G B W C s i1
  rw [shift_stage]
  exact Finset.sum_congr rfl fun s _ => shift_term hk s i1

end Finite

end Cert.GmlpRefIdeal.Read

end
-- ==== Proof.GmlpClaims.lean ====
/-
  The claims about the spatial gating of the gMLP branch, backward (`Gmlp`, its idealization and its reference).
-/
module

public import proofs.«01_k».proof.Defs
public import proofs.«01_k».proof.Proof.Gen.Gmlp
public import proofs.«01_k».proof.Proof.Gen.Gmlp.Frame
public import proofs.«01_k».proof.Proof.Gen.GmlpIdeal
public import proofs.«01_k».proof.Proof.Gen.GmlpRefIdeal
public import proofs.«01_k».proof.Proof.GmlpRef
public import proofs.«01_k».proof.Proof.XattnClaims
public import Idealize.ShloMosaic.Lib.Quiescent

@[expose] public section

set_option maxRecDepth 16384
set_option backward.proofsInPublic true

noncomputable section

namespace Cert.Proof

open Idealize.ShloMosaic Idealize.ShloMosaic.TcCoe Idealize.SL.Sem Cert.Extended

/-- The shapes of the precondition's own operations fit. -/
theorem gmlp_finite_facts : Cert.Pre_gmlp_finite.Facts := by
  constructor <;> decide

/-- Where the precondition holds, the columns of the projection and of the cotangent that the gating reads, and its
    parameters, are real numbers. -/
theorem gmlp_finite_real [Cert.Pre_gmlp_finite.Facts] (P : FVec Ideal Cert.Pre_gmlp_finite.S1x8192x6672 .f32) (D : FVec Ideal Cert.Pre_gmlp_finite.S1x8192x2048 .f32)
    (G B : FVec Ideal Cert.Pre_gmlp_finite.S1x512 .f32) (W : FVec Ideal Cert.Pre_gmlp_finite.S1x4x128x128 .f32) (C : FVec Ideal Cert.Pre_gmlp_finite.S1x4x128 .f32)
    (h : Cert.Pre_gmlp_finite.fn P D G B W C = fun _ => 1#1) :
    (∀ (s : Fin 8192) (a : Fin 1536), IsReal (P (ix3 0 s ⟨a.val, by omega⟩)))
      ∧ (∀ (s : Fin 8192) (a : Fin 512), IsReal (D (ix3 0 s ⟨a.val, by omega⟩)))
      ∧ (∀ j : Fin 512, IsReal (G (ix2 0 j))) ∧ (∀ j : Fin 512, IsReal (B (ix2 0 j)))
      ∧ (∀ (g : Fin 4) (t s : Fin 128), IsReal (W (ix4 0 g t s))) ∧ (∀ (g : Fin 4) (t : Fin 128), IsReal (C (ix3 0 g t))) := by
  have h0 := congrFun h (fun a => a.elim0)
  obtain ⟨h1, hc⟩ := andi_one _ _ h0
  obtain ⟨h2, hw⟩ := andi_one _ _ h1
  obtain ⟨h3, hb⟩ := andi_one _ _ h2
  obtain ⟨h4, hg⟩ := andi_one _ _ h3
  obtain ⟨hp, hd⟩ := andi_one _ _ h4
  refine ⟨fun s a => ?_, fun s a => ?_, fun j => ?_, fun j => ?_, fun g t s => ?_, fun g t => ?_⟩
  · have e : extractStridedSlice Pre_gmlp_finite.S1x8192x1536 ![0, 0, 0] P
        (by decide) (ix3 0 s a) = P (ix3 0 s ⟨a.val, by omega⟩) := by pointwise
    refine isReal_of_abs_lt ?_
    rw [← e, ← ofBits_inf]
    exact forall_of_reduce_andi _ _ _ _ _ hp (ix3 0 s a) (funext fun x => x.elim0)
  · have e : extractStridedSlice Pre_gmlp_finite.S1x8192x512 ![0, 0, 0] D
        (by decide) (ix3 0 s a) = D (ix3 0 s ⟨a.val, by omega⟩) := by pointwise
    refine isReal_of_abs_lt ?_
    rw [← e, ← ofBits_inf]
    exact forall_of_reduce_andi _ _ _ _ _ hd (ix3 0 s a) (funext fun x => x.elim0)
  · refine isReal_of_abs_lt ?_
    rw [← ofBits_inf]
    exact forall_of_reduce_andi _ _ _ _ _ hg (ix2 0 j) (funext fun x => x.elim0)
  · refine isReal_of_abs_lt ?_
    rw [← ofBits_inf]
    exact forall_of_reduce_andi _ _ _ _ _ hb (ix2 0 j) (funext fun x => x.elim0)
  · refine isReal_of_abs_lt ?_
    rw [← ofBits_inf]
    exact forall_of_reduce_andi _ _ _ _ _ hw (ix4 0 g t s) (funext fun x => x.elim0)
  · refine isReal_of_abs_lt ?_
    rw [← ofBits_inf]
    exact forall_of_reduce_andi _ _ _ _ _ hc (ix3 0 g t) (funext fun x => x.elim0)

theorem gmlp_preserves : Cert.preserves_Gmlp_GmlpIdeal :=
  ⟨IdealRules.named_const.statement Cert.GmlpIdeal.κ "gelu_cubic" .f32 _ _ rfl, IdealRules.named_const.statement Cert.GmlpIdeal.κ "gelu_slope" .f32 _ _ rfl⟩

theorem gmlp_ref_quiescent : Cert.quiescent_GmlpRefIdeal := fun m ρ _ =>
  (θ_run Cert.GmlpRefIdeal.defs _ _).mono (fun r h => ⟨fun c => (h c).2.2.2.2.2, sem_eq_zero_of_no_sems (by decide) r.2⟩)
    (Cert.GmlpRefIdeal.Value.run (F := Ideal) m ρ)

theorem gmlp_algebraic : Cert.algebraic_GmlpIdeal_GmlpRefIdeal_pre_gmlp_finite (hPre_gmlp_finite := gmlp_finite_facts) := by
  haveI := gmlp_finite_facts
  intro m g m' g' hfin hagree
  refine ⟨_, _, _, _, _, Cert.GmlpIdeal.Value.run_blocks (F := Ideal) m g, ?_⟩
  refine (θ_run Cert.GmlpRefIdeal.defs _ _).mono (fun r h c => ?_) (Cert.GmlpRefIdeal.Value.run (F := Ideal) m' g')
  obtain ⟨h0, h1, h2, h3, h4, h5⟩ := hagree c
  replace h0 : StableHlo.launchContents m' c (Proc.devRef .tc Cert.GmlpRefIdeal.main_arg0) = Cert.GmlpIdeal.Value.projArg m c := h0
  replace h1 : StableHlo.launchContents m' c (Proc.devRef .tc Cert.GmlpRefIdeal.main_arg1) = Cert.GmlpIdeal.Value.cotArg m c := h1
  replace h2 : StableHlo.launchContents m' c (Proc.devRef .tc Cert.GmlpRefIdeal.main_arg2) = Cert.GmlpIdeal.Value.scaleArg m c := h2
  replace h3 : StableHlo.launchContents m' c (Proc.devRef .tc Cert.GmlpRefIdeal.main_arg3) = Cert.GmlpIdeal.Value.shiftArg m c := h3
  replace h4 : StableHlo.launchContents m' c (Proc.devRef .tc Cert.GmlpRefIdeal.main_arg4) = Cert.GmlpIdeal.Value.mixArg m c := h4
  replace h5 : StableHlo.launchContents m' c (Proc.devRef .tc Cert.GmlpRefIdeal.main_arg5) = Cert.GmlpIdeal.Value.biasArg m c := h5
  obtain ⟨ho, hw, hb, hs, ht, hargs⟩ := h c
  obtain ⟨rP, rD, rG, rB, rW, rC⟩ := gmlp_finite_real _ _ _ _ _ _ (hfin c)
  have hp : (Cert.GmlpIdeal.Value.paramsAt m c).Real := ⟨rG, rB, rW, fun t g => rC g t⟩
  have hk : ∀ q, (Cert.GmlpIdeal.Value.chunksAt m c q).Real := fun q =>
    ⟨fun s j => rP _ ⟨j.val, by omega⟩, fun s j => rP _ ⟨512 + j.val, by omega⟩, fun s j => rP _ ⟨1024 + j.val, by omega⟩, fun s j => rD _ j⟩
  refine ⟨ho.trans ((Cert.GmlpRefIdeal.Read.val_main_v171_eq _).trans ?_), hw.trans ((Cert.GmlpRefIdeal.Read.val_main_v172_eq _).trans ?_),
    hb.trans ((Cert.GmlpRefIdeal.Read.val_main_v174_eq _).trans ?_), hs.trans ((Cert.GmlpRefIdeal.Read.val_main_v167_eq _).trans ?_),
    ht.trans ((Cert.GmlpRefIdeal.Read.val_main_v166_eq _).trans ?_), hargs⟩
  · rw [Cert.GmlpIdeal.Value.own_final m c, h0, h1, h2, h3, h4, h5]
    exact Cert.GmlpRefIdeal.Read.own_result hp hk
  · rw [Cert.GmlpIdeal.Value.mix_final m c, h0, h1, h2, h3]
    exact Cert.GmlpRefIdeal.Read.mix_result (W := _) (C := _) hk
  · rw [Cert.GmlpIdeal.Value.bias_final m c, h0, h1]
    exact Cert.GmlpRefIdeal.Read.bias_result hk
  · rw [Cert.GmlpIdeal.Value.scale_final m c, h0, h1, h4]
    exact Cert.GmlpRefIdeal.Read.scale_result hk
  · rw [Cert.GmlpIdeal.Value.shift_final m c, h0, h1, h4]
    exact Cert.GmlpRefIdeal.Read.shift_result hk

end Cert.Proof

end
-- ==== Proof.FinalRows.lean ====
/-
  A row after its last norm, the loss of its token and the gradients, as functions of the row's numbers alone. The identities at
  the end say that the gradients as differentiation writes them are equal to these where all numbers are real.
-/
module

public import proofs.«01_k».proof.Proof.GatingRows

@[expose] public section

noncomputable section

namespace Cert.LastNorm

open Idealize.ShloMosaic Cert.Extended
open Cert.Gating (half minusHalf eps half_eq minusHalf_eq eps_pos)
open scoped BigOperators

/-- The width of a row, 2048, its inverse and two. -/
abbrev width : EReal := Ideal.ofBits .f32 0x45000000#32
abbrev widthInv : EReal := Ideal.ofBits .f32 0x3A000000#32
abbrev two : EReal := Ideal.ofBits .f32 0x40000000#32

def mean (f : Fin 2048 → EReal) : EReal := Ideal.div (∑ j, f j) width

def scale (f : Fin 2048 → EReal) : EReal := Ideal.rsqrt (mean (fun j => f j * f j) + eps)

def hat (f : Fin 2048 → EReal) (j : Fin 2048) : EReal := f j * scale f

/-- The gradient at a row before its norm, where `d` is the gradient at the row over its root mean square. -/
def normGrad (f d : Fin 2048 → EReal) (j : Fin 2048) : EReal := scale f * (d j - hat f j * mean (fun l => d l * hat f l))

variable (f g t : Fin 2048 → EReal)

/-- How far the normed row is from its target. -/
def err (j : Fin 2048) : EReal := hat f j * g j - t j

/-- The loss of the row's token. -/
def tokenLoss : EReal := half * mean (fun j => err f g t j * err f g t j)

/-- The gradient at the normed row. -/
def outGrad (j : Fin 2048) : EReal := err f g t j * widthInv

def gainPart (j : Fin 2048) : EReal := outGrad f g t j * hat f j

/-- The gradient at the row before the norm. -/
def rowGrad (j : Fin 2048) : EReal :=
  scale f * (outGrad f g t j * g j - hat f j * mean (fun l => outGrad f g t l * g l * hat f l))

theorem width_eq : width = ((2048 : ℝ) : EReal) := by
  simp [width, Ideal.ofBits, Ideal.ieee]
  rw [← EReal.coe_mul]
  congr 1
  norm_num

theorem widthInv_eq : widthInv = ((1 / 2048 : ℝ) : EReal) := by
  simp [widthInv, Ideal.ofBits, Ideal.ieee]
  rw [← EReal.coe_mul]
  congr 1
  norm_num

theorem two_eq : two = ((2 : ℝ) : EReal) := by
  simp [two, Ideal.ofBits, Ideal.ieee]
  rw [← EReal.coe_mul]
  congr 1
  norm_num

theorem mean_coe (f : Fin 2048 → ℝ) : mean (fun j => (f j : EReal)) = (((∑ j, f j) / 2048 : ℝ) : EReal) := by
  rw [mean, width_eq, ← coe_sum, Ideal.div_coe (by norm_num), ← EReal.coe_mul]
  congr 1
  ring

theorem isReal_mean {f : Fin 2048 → EReal} (hf : ∀ j, IsReal (f j)) : IsReal (mean f) := by
  choose a ha using hf
  obtain rfl : (fun j => (a j : EReal)) = f := funext ha
  rw [mean_coe]
  exact isReal_coe _

variable {f g t}

/-- The scale of a row of real numbers squares to the inverse of the mean square. -/
theorem scale_real (hf : ∀ j, IsReal (f j)) :
    ∃ r q : ℝ, scale f = (r : EReal) ∧ q ≠ 0 ∧ r * r * q = 1 ∧ mean (fun j => f j * f j) + eps = (q : EReal) := by
  choose a ha using hf
  obtain ⟨e, he, hee⟩ := eps_pos
  obtain rfl : (fun j => (a j : EReal)) = f := funext ha
  have hq : mean (fun j => (a j : EReal) * (a j : EReal)) + eps = (((∑ j, a j * a j) / 2048 + e : ℝ) : EReal) := by
    simp only [← EReal.coe_mul]
    rw [mean_coe, hee, ← EReal.coe_add]
  have hpos : 0 < (∑ j, a j * a j) / 2048 + e :=
    add_pos_of_nonneg_of_pos (div_nonneg (Finset.sum_nonneg fun j _ => mul_self_nonneg _) (by norm_num)) he
  refine ⟨(Real.sqrt ((∑ j, a j * a j) / 2048 + e))⁻¹, _, ?_, hpos.ne', ?_, hq⟩
  · rw [scale, hq, Ideal.rsqrt_coe, if_neg hpos.not_gt, if_neg hpos.ne']
  · have := Real.mul_self_sqrt hpos.le
    rw [← mul_inv, this]
    exact inv_mul_cancel₀ hpos.ne'

theorem isReal_hat (hf : ∀ j, IsReal (f j)) (j : Fin 2048) : IsReal (hat f j) := by
  obtain ⟨r, q, hr, -⟩ := scale_real hf
  exact (hf j).mul (hr ▸ isReal_coe r)

/-- The gradient at a row before its norm in the terms in which differentiation writes it. -/
theorem normGrad_eq {d : Fin 2048 → EReal} (hf : ∀ j, IsReal (f j)) (hd : ∀ j, IsReal (d j)) (j : Fin 2048) (K : EReal)
    (hK : K = Ideal.div ((∑ l, f l * d l) * (minusHalf * Ideal.div (scale f) (mean (fun j => f j * f j) + eps))) width) :
    d j * scale f + f j * K + K * f j = normGrad f d j := by
  obtain ⟨r, q, hr, hq, hrq, hqe⟩ := scale_real hf
  choose a ha using hf
  choose d' hd' using hd
  rw [hqe, hr] at hK
  simp only [normGrad, hat, ← hd', hr, ← ha, minusHalf_eq, width_eq, ← EReal.coe_mul, ← coe_sum] at hK ⊢
  rw [Ideal.div_coe hq, ← EReal.coe_mul, ← EReal.coe_mul, ← EReal.coe_mul, Ideal.div_coe (by norm_num), ← EReal.coe_mul] at hK
  rw [hK, mean_coe]
  simp only [← EReal.coe_mul, ← EReal.coe_sub, ← EReal.coe_add]
  congr 1
  have e2 : ∑ x, d' x * (a x * r) = (∑ x, a x * d' x) * r := by
    rw [Finset.sum_mul]; exact Finset.sum_congr rfl fun x _ => by ring
  rw [e2, show (1 / q : ℝ) = r * r by field_simp; linarith]
  ring

variable (hf : ∀ j, IsReal (f j)) (hg : ∀ j, IsReal (g j)) (ht : ∀ j, IsReal (t j))
include hf hg ht

theorem isReal_err (j : Fin 2048) : IsReal (err f g t j) := ((isReal_hat hf j).mul (hg j)).sub (ht j)

theorem isReal_outGrad (j : Fin 2048) : IsReal (outGrad f g t j) := (isReal_err hf hg ht j).mul (widthInv_eq ▸ isReal_coe _)

theorem isReal_tokenMean : IsReal (mean (fun j => err f g t j * err f g t j)) :=
  isReal_mean fun j => (isReal_err hf hg ht j).mul (isReal_err hf hg ht j)

theorem outGrad_eq (j : Fin 2048) : Ideal.div half width * (two * err f g t j) = outGrad f g t j := by
  obtain ⟨e, he⟩ := isReal_err hf hg ht j
  rw [outGrad, ← he, half_eq, two_eq, width_eq, widthInv_eq, Ideal.div_coe (by norm_num)]
  simp only [← EReal.coe_mul]
  congr 1
  ring

theorem rowGrad_eq (j : Fin 2048) (K : EReal)
    (hK : K = Ideal.div ((∑ l, f l * (outGrad f g t l * g l)) * (minusHalf * Ideal.div (scale f) (mean (fun j => f j * f j) + eps))) width) :
    outGrad f g t j * g j * scale f + f j * K + K * f j = rowGrad f g t j :=
  normGrad_eq hf (fun l => (isReal_outGrad hf hg ht l).mul (hg l)) j K hK

end Cert.LastNorm

end
-- ==== Proof.FinalBlocks.lean ====
/-
  The output product, the last norm and the loss (`final`), one grid point at a time: what a point's body leaves in its five
  output blocks, as the functions of `FinalRows` of the rows of the point's blocks.
-/
module

public import proofs.«01_k».proof.Proof.Gen.FinalIdeal.Value
public import proofs.«01_k».proof.Proof.FinalRows
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FinalIdeal.Value

open Cert.FinalIdeal Cert.FinalIdeal.Gen Cert.LastNorm Idealize.ShloMosaic Idealize.ShloMosaic.TcCoe Idealize.SL.Sem
open scoped BigOperators

section Payloads

variable (x0 x1 : Vec Ideal S256x2048 .f32) (x2 : Vec Ideal S256x1024 .bf16) (x3 x4 : Vec Ideal S256x512 .bf16)
  (x5 : Vec Ideal S2048x2048 .bf16) (x6 : Vec Ideal S1x2048 .f32)

/-- Row `r` of a point: its input and the product of its branches with the weight. -/
abbrev row (r : Fin 256) (j : Fin 2048) : EReal := k0_pay4 (F := Ideal) x2 x3 x4 x0 x5 (ix2 r j)
abbrev gain (j : Fin 2048) : EReal := x6 (ix2 0 j)
abbrev target (r : Fin 256) (j : Fin 2048) : EReal := x1 (ix2 r j)

/-- The branches side by side. -/
def branches (r : Fin 256) (k : Fin 2048) : EReal :=
  if h : k.val < 1024 then x2 (ix2 r ⟨k.val, h⟩)
  else if h : k.val - 1024 < 512 then x3 (ix2 r ⟨k.val - 1024, h⟩) else x4 (ix2 r ⟨k.val - 1024 - 512, by omega⟩)

theorem row_apply (r : Fin 256) (j : Fin 2048) :
    row x0 x2 x3 x4 x5 r j = x0 (ix2 r j) + ∑ k : Fin 2048, branches x2 x3 x4 r k * x5 (ix2 k j) := by
  unfold row
  pointwise [k0_pay4]
  rfl

theorem scale_apply (r : Fin 256) (a : Fin 1) : k0_pay5 (F := Ideal) x2 x3 x4 x0 x5 (ix2 r a) = scale (row x0 x2 x3 x4 x5 r) := by
  unfold k0_pay5
  generalize hX : k0_pay4 (F := Ideal) x2 x3 x4 x0 x5 = X
  have hr : row x0 x2 x3 x4 x5 r = fun j => X (ix2 r j) := funext fun j => by rw [← hX]
  rw [hr]
  pointwise []
  rfl

theorem hat_apply (r : Fin 256) (j : Fin 2048) : k0_pay6 (F := Ideal) x2 x3 x4 x0 x5 (ix2 r j) = hat (row x0 x2 x3 x4 x5 r) j := by
  pointwise [k0_pay6]
  rw [scale_apply]
  rfl

theorem err_apply (r : Fin 256) (j : Fin 2048) :
    k0_pay8 (F := Ideal) x2 x3 x4 x0 x5 x6 x1 (ix2 r j) = err (row x0 x2 x3 x4 x5 r) (gain x6) (target x1 r) j := by
  pointwise [k0_pay8, k0_pay7]
  rw [hat_apply]
  rfl

theorem loss_apply (acc : Vec Ideal S1x128 .f32) (l : Fin 128) :
    k0_pay10 (F := Ideal) (k0_pay9 x2 x3 x4 x0 x5 x6 x1) (Scalar.ofBits .f32 0x45000000#32) acc (ix2 0 l)
      = acc (ix2 0 l) + ∑ r : Fin 256, tokenLoss (row x0 x2 x3 x4 x5 r) (gain x6) (target x1 r) := by
  pointwise [k0_pay10, k0_pay9]
  simp only [err_apply]
  rfl

theorem gain_apply (acc : Vec Ideal S1x2048 .f32) (j : Fin 2048) :
    k0_pay12 (F := Ideal) (k0_pay6 x2 x3 x4 x0 x5) (k0_pay8 x2 x3 x4 x0 x5 x6 x1) acc (ix2 0 j)
      = acc (ix2 0 j) + ∑ r : Fin 256, gainPart (row x0 x2 x3 x4 x5 r) (gain x6) (target x1 r) j := by
  pointwise [k0_pay12, k0_pay11]
  simp only [err_apply, hat_apply]
  rfl

theorem rowGrad_apply (r : Fin 256) (j : Fin 2048) :
    k0_pay13 (F := Ideal) (k0_pay5 x2 x3 x4 x0 x5) (k0_pay6 x2 x3 x4 x0 x5) (k0_pay7 x6) (k0_pay8 x2 x3 x4 x0 x5 x6 x1) (ix2 r j)
      = rowGrad (row x0 x2 x3 x4 x5 r) (gain x6) (target x1 r) j := by
  pointwise [k0_pay13, k0_pay11, k0_pay7]
  simp only [err_apply, hat_apply, scale_apply]
  rfl

theorem branchGrad_apply (r : Fin 256) (k : Fin 2048) :
    k0_pay1 (F := Ideal) (k0_pay14 (k0_pay5 x2 x3 x4 x0 x5) (k0_pay6 x2 x3 x4 x0 x5) (k0_pay7 x6) (k0_pay8 x2 x3 x4 x0 x5 x6 x1)) x5 (ix2 r k)
      = ∑ j : Fin 2048, rowGrad (row x0 x2 x3 x4 x5 r) (gain x6) (target x1 r) j * x5 (ix2 k j) := by
  pointwise [k0_pay1, k0_pay14]
  simp only [rowGrad_apply]

theorem loss_fill (y) (b : EReal) : k0_pay2 (F := Ideal) y + b = b := by pointwise [k0_pay2]
theorem gain_fill (y) (b : EReal) : k0_pay3 (F := Ideal) y + b = b := by pointwise [k0_pay3]

end Payloads

section Cases

variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S256x1024 .bf16) (h3 : a3.IsWhole)
  (a4 : Memref sig .tc .vmem S256x512 .bf16) (h4 : a4.IsWhole)
  (a5 : Memref sig .tc .vmem S256x512 .bf16) (h5 : a5.IsWhole)
  (a6 : Memref sig .tc .vmem S2048x2048 .bf16) (h6 : a6.IsWhole)
  (a7 : Memref sig .tc .vmem S1x2048 .f32) (h7 : a7.IsWhole)
  (a8 : Memref sig .tc .vmem S256x2048 .f32) (h8 : a8.IsWhole)
  (a9 : Memref sig .tc .vmem S256x2048 .bf16) (h9 : a9.IsWhole)
  (a10 : Memref sig .tc .vmem S256x2048 .f32) (h10 : a10.IsWhole)
  (a11 : Memref sig .tc .vmem S1x128 .f32) (h11 : a11.IsWhole)
  (a12 : Memref sig .tc .vmem S1x2048 .f32) (h12 : a12.IsWhole)
  (x0 x1 : Vec Ideal S256x2048 .f32) (x2 : Vec Ideal S256x1024 .bf16) (x3 x4 : Vec Ideal S256x512 .bf16)
  (x5 : Vec Ideal S2048x2048 .bf16) (x6 : Vec Ideal S1x2048 .f32) (xo10 : Vec Ideal S1x128 .f32) (xo11 : Vec Ideal S1x2048 .f32)

section Later

variable (hc : ¬cond0_0 i)

theorem later_row (r : Fin 256) (j : Fin 2048) : out0_B_7 c i a1 h1 a2 h2 a3 h3 a4 h4 a5 h5 a6 h6 a7 h7 a8 h8 a9 h9 a10 h10 a11 h11 a12 h12 hc x0 x1 x2 x3 x4 x5 x6 xo10 xo11 (ix2 r j) = rowGrad (row x0 x2 x3 x4 x5 r) (gain x6) (target x1 r) j := by
  frame_out
  exact rowGrad_apply x0 x1 x2 x3 x4 x5 x6 r j

theorem later_rowRounded (r : Fin 256) (j : Fin 2048) : out0_B_8 c i a1 h1 a2 h2 a3 h3 a4 h4 a5 h5 a6 h6 a7 h7 a8 h8 a9 h9 a10 h10 a11 h11 a12 h12 hc x0 x1 x2 x3 x4 x5 x6 xo10 xo11 (ix2 r j) = rowGrad (row x0 x2 x3 x4 x5 r) (gain x6) (target x1 r) j := by
  frame_out
  exact rowGrad_apply x0 x1 x2 x3 x4 x5 x6 r j

theorem later_branch (r : Fin 256) (k : Fin 2048) :
    out0_B_9 c i a1 h1 a2 h2 a3 h3 a4 h4 a5 h5 a6 h6 a7 h7 a8 h8 a9 h9 a10 h10 a11 h11 a12 h12 hc x0 x1 x2 x3 x4 x5 x6 xo10 xo11 (ix2 r k) = ∑ j : Fin 2048, rowGrad (row x0 x2 x3 x4 x5 r) (gain x6) (target x1 r) j * x5 (ix2 k j) := by
  frame_out
  exact branchGrad_apply x0 x1 x2 x3 x4 x5 x6 r k

theorem later_loss (l : Fin 128) : out0_B_10 c i a1 h1 a2 h2 a3 h3 a4 h4 a5 h5 a6 h6 a7 h7 a8 h8 a9 h9 a10 h10 a11 h11 a12 h12 hc x0 x1 x2 x3 x4 x5 x6 xo10 xo11 (ix2 0 l) = xo10 (ix2 0 l) + ∑ r : Fin 256, tokenLoss (row x0 x2 x3 x4 x5 r) (gain x6) (target x1 r) := by
  frame_out
  exact loss_apply x0 x1 x2 x3 x4 x5 x6 xo10 l

theorem later_gain (j : Fin 2048) : out0_B_11 c i a1 h1 a2 h2 a3 h3 a4 h4 a5 h5 a6 h6 a7 h7 a8 h8 a9 h9 a10 h10 a11 h11 a12 h12 hc x0 x1 x2 x3 x4 x5 x6 xo10 xo11 (ix2 0 j) = xo11 (ix2 0 j) + ∑ r : Fin 256, gainPart (row x0 x2 x3 x4 x5 r) (gain x6) (target x1 r) j := by
  frame_out
  exact gain_apply x0 x1 x2 x3 x4 x5 x6 xo11 j

end Later

section First

variable (hc : cond0_0 i)

theorem first_row (r : Fin 256) (j : Fin 2048) : out0_A_7 c i a1 h1 a2 h2 a3 h3 a4 h4 a5 h5 a6 h6 a7 h7 a8 h8 a9 h9 a10 h10 a11 h11 a12 h12 hc x0 x1 x2 x3 x4 x5 x6 (ix2 r j) = rowGrad (row x0 x2 x3 x4 x5 r) (gain x6) (target x1 r) j := by
  frame_out
  exact rowGrad_apply x0 x1 x2 x3 x4 x5 x6 r j

theorem first_rowRounded (r : Fin 256) (j : Fin 2048) : out0_A_8 c i a1 h1 a2 h2 a3 h3 a4 h4 a5 h5 a6 h6 a7 h7 a8 h8 a9 h9 a10 h10 a11 h11 a12 h12 hc x0 x1 x2 x3 x4 x5 x6 (ix2 r j) = rowGrad (row x0 x2 x3 x4 x5 r) (gain x6) (target x1 r) j := by
  frame_out
  exact rowGrad_apply x0 x1 x2 x3 x4 x5 x6 r j

theorem first_branch (r : Fin 256) (k : Fin 2048) :
    out0_A_9 c i a1 h1 a2 h2 a3 h3 a4 h4 a5 h5 a6 h6 a7 h7 a8 h8 a9 h9 a10 h10 a11 h11 a12 h12 hc x0 x1 x2 x3 x4 x5 x6 (ix2 r k) = ∑ j : Fin 2048, rowGrad (row x0 x2 x3 x4 x5 r) (gain x6) (target x1 r) j * x5 (ix2 k j) := by
  frame_out
  exact branchGrad_apply x0 x1 x2 x3 x4 x5 x6 r k

theorem first_loss (l : Fin 128) : out0_A_10 c i a1 h1 a2 h2 a3 h3 a4 h4 a5 h5 a6 h6 a7 h7 a8 h8 a9 h9 a10 h10 a11 h11 a12 h12 hc x0 x1 x2 x3 x4 x5 x6 (ix2 0 l) = ∑ r : Fin 256, tokenLoss (row x0 x2 x3 x4 x5 r) (gain x6) (target x1 r) := by
  frame_open
  simp (disch := decide) only [↓ View.readCov_skip, ↓ View.readCov_cons_toLoadRect, ↓ View.readCov_fill]
  frame_out
  exact (loss_apply x0 x1 x2 x3 x4 x5 x6 (k0_pay2 (F := Ideal)) l).trans (loss_fill _ _)

theorem first_gain (j : Fin 2048) : out0_A_11 c i a1 h1 a2 h2 a3 h3 a4 h4 a5 h5 a6 h6 a7 h7 a8 h8 a9 h9 a10 h10 a11 h11 a12 h12 hc x0 x1 x2 x3 x4 x5 x6 (ix2 0 j) = ∑ r : Fin 256, gainPart (row x0 x2 x3 x4 x5 r) (gain x6) (target x1 r) j := by
  frame_open
  simp (disch := decide) only [↓ View.readCov_skip, ↓ View.readCov_cons_toLoadRect, ↓ View.readCov_fill]
  frame_out
  exact (gain_apply x0 x1 x2 x3 x4 x5 x6 (k0_pay3 (F := Ideal)) j).trans (gain_fill _ _)

end First

end Cases

end Cert.FinalIdeal.Value

end
-- ==== Proof.FinalArrays.lean ====
/-
  The output product, the last norm and the loss (`final`) after the whole grid: the kernel's five result arrays, element by
  element, as the functions of `FinalRows` over its five arguments.
-/
module

public import proofs.«01_k».proof.Proof.FinalBlocks

@[expose] public section

set_option maxRecDepth 16384
set_option backward.proofsInPublic true

noncomputable section

namespace Cert.FinalIdeal.Value

open Cert.FinalIdeal Cert.FinalIdeal.Gen Cert.LastNorm Idealize.ShloMosaic Idealize.ShloMosaic.TcCoe Idealize.SL.Sem
open Idealize.ShloMosaic.Pipeline (Dat)
open scoped BigOperators

/-- The kernel keeps the branches in another order: the column of the arguments that is its column `k`, and the other way. -/
def place (k : Fin 2048) : Fin 2048 :=
  if k.val < 1024 then ⟨(k.val + 512) % 2048, by omega⟩ else if k.val < 1536 then ⟨k.val - 1024, by omega⟩ else k
def unplace (k : Fin 2048) : Fin 2048 :=
  if k.val < 512 then ⟨(k.val + 1024) % 2048, by omega⟩ else if k.val < 1536 then ⟨k.val - 512, by omega⟩ else k

def placeEquiv : Fin 2048 ≃ Fin 2048 where
  toFun := place
  invFun := unplace
  left_inv k := by
    have h := k.isLt
    unfold place unplace
    ext
    split_ifs <;> simp_all <;> omega
  right_inv k := by
    have h := k.isLt
    unfold place unplace
    ext
    split_ifs <;> simp_all <;> omega

section Arguments

variable (X M : Vec Ideal S1x8192x2048 .f32) (W : Vec Ideal S1x2048x2048 .f32) (G : Vec Ideal S2048 .f32) (T : Vec Ideal S1x8192x2048 .f32)

/-- Token `s` before its last norm: its input and the product of its branches with the weight. -/
def tokenRow (s : Fin 8192) (j : Fin 2048) : EReal := X (ix3 0 s j) + ∑ k : Fin 2048, M (ix3 0 s k) * W (ix3 0 k j)
abbrev gainOf (j : Fin 2048) : EReal := G (ix1 j)
abbrev targetOf (s : Fin 8192) (j : Fin 2048) : EReal := T (ix3 0 s j)

def tokenGrad (s : Fin 8192) (j : Fin 2048) : EReal := rowGrad (tokenRow X M W s) (gainOf G) (targetOf T s) j
def tokenGain (s : Fin 8192) (j : Fin 2048) : EReal := gainPart (tokenRow X M W s) (gainOf G) (targetOf T s) j
def lossAt (s : Fin 8192) : EReal := tokenLoss (tokenRow X M W s) (gainOf G) (targetOf T s)

def inGrad : Vec Ideal S8192x2048 .f32 := fun i => tokenGrad X M W G T (i 0) (i 1)
def roundedGrad : Vec Ideal S8192x2048 .bf16 := fun i => tokenGrad X M W G T (i 0) (i 1)
def branchGrad : Vec Ideal S8192x2048 .f32 := fun i => ∑ j : Fin 2048, tokenGrad X M W G T (i 0) j * W (ix3 0 (place (i 1)) j)
def lossSum : Vec Ideal S1x128 .f32 := fun _ => ∑ s : Fin 8192, lossAt X M W G T s
def gainGrad : Vec Ideal S1x2048 .f32 := fun i => ∑ s : Fin 8192, tokenGain X M W G T s (i 1)

end Arguments

variable (m : (ℓ : Loc nD τ sig) → Buf (Elt Ideal) ℓ)

/-- The five arguments of a device. -/
abbrev inArg (c : Dev nD) : Vec Ideal S1x8192x2048 .f32 := m ((c : Thread nD τ).loc main_arg0)
abbrev mixedArg (c : Dev nD) : Vec Ideal S1x8192x2048 .f32 := m ((c : Thread nD τ).loc main_arg1)
abbrev weightArg (c : Dev nD) : Vec Ideal S1x2048x2048 .f32 := m ((c : Thread nD τ).loc main_arg2)
abbrev gainArg (c : Dev nD) : Vec Ideal S2048 .f32 := m ((c : Thread nD τ).loc main_arg3)
abbrev targetArg (c : Dev nD) : Vec Ideal S1x8192x2048 .f32 := m ((c : Thread nD τ).loc main_arg4)

theorem in_entry (c : Dev nD) (s : Fin 8192) (j : Fin 2048) :
    (V m c main_v11 : Vec Ideal S8192x2048 .f32) (ix2 s j) = inArg m c (ix3 0 s j) := by
  unfold V hostOps0
  after_results_simp
  pointwise

theorem target_entry (c : Dev nD) (s : Fin 8192) (j : Fin 2048) :
    (V m c main_v12 : Vec Ideal S8192x2048 .f32) (ix2 s j) = targetArg m c (ix3 0 s j) := by
  unfold V hostOps0
  after_results_simp
  pointwise

theorem gain_entry (c : Dev nD) (j : Fin 2048) :
    (V m c main_v13 : Vec Ideal S1x2048 .f32) (ix2 0 j) = gainArg m c (ix1 j) := by
  unfold V hostOps0
  after_results_simp
  pointwise

theorem middle_entry (c : Dev nD) (s : Fin 8192) (k : Fin 1024) :
    (V m c main_v3 : Vec Ideal S8192x1024 .bf16) (ix2 s k) = mixedArg m c (ix3 0 s ⟨512 + k.val, by omega⟩) := by
  unfold V hostOps0
  after_results_simp
  pointwise

theorem first_entry (c : Dev nD) (s : Fin 8192) (k : Fin 512) :
    (V m c main_v2 : Vec Ideal S8192x512 .bf16) (ix2 s k) = mixedArg m c (ix3 0 s ⟨k.val, by omega⟩) := by
  unfold V hostOps0
  after_results_simp
  pointwise

theorem last_entry (c : Dev nD) (s : Fin 8192) (k : Fin 512) :
    (V m c main_v4 : Vec Ideal S8192x512 .bf16) (ix2 s k) = mixedArg m c (ix3 0 s ⟨1536 + k.val, by omega⟩) := by
  unfold V hostOps0
  after_results_simp
  pointwise

theorem weight_entry (c : Dev nD) (k j : Fin 2048) :
    (V m c main_v10 : Vec Ideal S2048x2048 .bf16) (ix2 k j) = weightArg m c (ix3 0 (place k) j) := by
  have h := k.isLt
  unfold V hostOps0
  after_results_simp
  pointwise
  after_results_simp
  pointwise
  unfold place
  by_cases h1 : k.val < 1024
  · rw [dif_pos h1, if_pos h1]
    exact congrArg (fun k => weightArg m c (ix3 0 k j)) (Fin.ext (by dsimp only; omega))
  rw [dif_neg h1, if_neg h1]
  by_cases h2 : k.val < 1536
  · rw [dif_pos (by omega), if_pos h2]
  · rw [dif_neg (by omega), if_neg h2]
    exact congrArg (fun k => weightArg m c (ix3 0 k j)) (Fin.ext (by dsimp only; omega))

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![t.val, 0] := by decide +kernel
theorem idx8 : ∀ t : Fin cfg0.N, (cfg0.win 8).index t = ![t.val, 0] := by decide +kernel
theorem idx9 : ∀ t : Fin cfg0.N, (cfg0.win 9).index t = ![t.val, 0] := by decide +kernel

abbrev lastPoint : Fin cfg0.N := ⟨31, by decide⟩

/-- Row `r` of point `t`'s tile is token `256 t + r`. -/
abbrev tokenAt (t : Fin cfg0.N) (r : Fin 256) : Fin 8192 := ⟨t.val * 256 + r.val, by have h : t.val < 32 := t.isLt; omega⟩

theorem in_block (c : Dev nD) (t : Fin cfg0.N) (r : Fin 256) (j : Fin 2048) : (iblk m c 0 t : Vec Ideal S256x2048 .f32) (ix2 r j) = inArg m c (ix3 0 (tokenAt t r) j) := by
  refine Eq.trans ?_ (in_entry m c (tokenAt t r) j)
  blk_ext [iblk, idx0 t]

theorem target_block (c : Dev nD) (t : Fin cfg0.N) (r : Fin 256) (j : Fin 2048) : (iblk m c 1 t : Vec Ideal S256x2048 .f32) (ix2 r j) = targetArg m c (ix3 0 (tokenAt t r) j) := by
  refine Eq.trans ?_ (target_entry m c (tokenAt t r) j)
  blk_ext [iblk, idx1 t]

theorem middle_block (c : Dev nD) (t : Fin cfg0.N) (r : Fin 256) (k : Fin 1024) : (iblk m c 2 t : Vec Ideal S256x1024 .bf16) (ix2 r k) = mixedArg m c (ix3 0 (tokenAt t r) ⟨512 + k.val, by omega⟩) := by
  refine Eq.trans ?_ (middle_entry m c (tokenAt t r) k)
  blk_ext [iblk, idx2 t]

theorem first_block (c : Dev nD) (t : Fin cfg0.N) (r : Fin 256) (k : Fin 512) : (iblk m c 3 t : Vec Ideal S256x512 .bf16) (ix2 r k) = mixedArg m c (ix3 0 (tokenAt t r) ⟨k.val, by omega⟩) := by
  refine Eq.trans ?_ (first_entry m c (tokenAt t r) k)
  blk_ext [iblk, idx3 t]

theorem last_block (c : Dev nD) (t : Fin cfg0.N) (r : Fin 256) (k : Fin 512) : (iblk m c 4 t : Vec Ideal S256x512 .bf16) (ix2 r k) = mixedArg m c (ix3 0 (tokenAt t r) ⟨1536 + k.val, by omega⟩) := by
  refine Eq.trans ?_ (last_entry m c (tokenAt t r) k)
  blk_ext [iblk, idx4 t]

theorem weight_block (c : Dev nD) (t : Fin cfg0.N) (k j : Fin 2048) : (iblk m c 5 t : Vec Ideal S2048x2048 .bf16) (ix2 k j) = weightArg m c (ix3 0 (place k) j) := by
  refine Eq.trans ?_ (weight_entry m c k j)
  blk_ext [iblk, idx5 t]

theorem gain_block (c : Dev nD) (t : Fin cfg0.N) (j : Fin 2048) : (iblk m c 6 t : Vec Ideal S1x2048 .f32) (ix2 0 j) = gainArg m c (ix1 j) := by
  refine Eq.trans ?_ (gain_entry m c j)
  blk_ext [iblk, idx6 t]

/-- The branches of a row, in the kernel's order, are those of its token. -/
theorem branches_block (c : Dev nD) (t : Fin cfg0.N) (r : Fin 256) (k : Fin 2048) :
    branches (iblk m c 2 t) (iblk m c 3 t) (iblk m c 4 t) r k = mixedArg m c (ix3 0 (tokenAt t r) (place k)) := by
  have h := k.isLt
  unfold branches
  rw [place]
  split_ifs
  · rw [middle_block]
    exact congrArg (fun k => mixedArg m c (ix3 0 (tokenAt t r) k)) (Fin.ext (by dsimp only; omega))
  · rw [first_block]
  · omega
  · omega
  · rw [last_block]
    exact congrArg (fun k => mixedArg m c (ix3 0 (tokenAt t r) k)) (Fin.ext (by dsimp only; omega))

theorem row_block (c : Dev nD) (t : Fin cfg0.N) (r : Fin 256) :
    row (iblk m c 0 t) (iblk m c 2 t) (iblk m c 3 t) (iblk m c 4 t) (iblk m c 5 t) r = tokenRow (inArg m c) (mixedArg m c) (weightArg m c) (tokenAt t r) := by
  funext j
  rw [row_apply, in_block, tokenRow]
  refine congrArg (_ + ·) ?_
  simp only [branches_block, weight_block]
  exact Equiv.sum_comp placeEquiv (fun k => mixedArg m c (ix3 0 (tokenAt t r) k) * weightArg m c (ix3 0 k j))

theorem gain_eq (c : Dev nD) (t : Fin cfg0.N) : gain (iblk m c 6 t) = gainOf (gainArg m c) := funext fun j => gain_block m c t j
theorem target_eq (c : Dev nD) (t : Fin cfg0.N) (r : Fin 256) : target (iblk m c 1 t) r = targetOf (targetArg m c) (tokenAt t r) :=
  funext fun j => target_block m c t r j

theorem in_out (c : Dev nD) (t : Fin cfg0.N) (r : Fin 256) (j : Fin 2048) : (outsAt0 m c t.val t.isLt).1 (ix2 r j) = tokenGrad (inArg m c) (mixedArg m c) (weightArg m c) (gainArg m c) (targetArg m c) (tokenAt t r) j := by
  by_cases h0 : t.val % 32 = 0
  · rw [outsAt0_A m c t h0]
    dsimp only
    refine (first_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) ((hcond0_0 t).mpr h0) r j).trans ?_
    rw [row_block, gain_eq, target_eq]
    rfl
  · rw [outsAt0_B m c t h0]
    dsimp only
    refine (later_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) _ _ (fun h => h0 ((hcond0_0 t).mp h)) r j).trans ?_
    rw [row_block, gain_eq, target_eq]
    rfl

theorem rounded_out (c : Dev nD) (t : Fin cfg0.N) (r : Fin 256) (j : Fin 2048) : (outsAt0 m c t.val t.isLt).2.1 (ix2 r j) = tokenGrad (inArg m c) (mixedArg m c) (weightArg m c) (gainArg m c) (targetArg m c) (tokenAt t r) j := by
  by_cases h0 : t.val % 32 = 0
  · rw [outsAt0_A m c t h0]
    dsimp only
    refine (first_rowRounded c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) ((hcond0_0 t).mpr h0) r j).trans ?_
    rw [row_block, gain_eq, target_eq]
    rfl
  · rw [outsAt0_B m c t h0]
    dsimp only
    refine (later_rowRounded c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) _ _ (fun h => h0 ((hcond0_0 t).mp h)) r j).trans ?_
    rw [row_block, gain_eq, target_eq]
    rfl

theorem branch_out (c : Dev nD) (t : Fin cfg0.N) (r : Fin 256) (k : Fin 2048) : (outsAt0 m c t.val t.isLt).2.2.1 (ix2 r k) = ∑ j : Fin 2048, tokenGrad (inArg m c) (mixedArg m c) (weightArg m c) (gainArg m c) (targetArg m c) (tokenAt t r) j * weightArg m c (ix3 0 (place k) j) := by
  by_cases h0 : t.val % 32 = 0
  · rw [outsAt0_A m c t h0]
    dsimp only
    refine (first_branch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) ((hcond0_0 t).mpr h0) r k).trans ?_
    rw [row_block, gain_eq, target_eq]
    simp only [weight_block]
    rfl
  · rw [outsAt0_B m c t h0]
    dsimp only
    refine (later_branch c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) _ _ (fun h => h0 ((hcond0_0 t).mp h)) r k).trans ?_
    rw [row_block, gain_eq, target_eq]
    simp only [weight_block]
    rfl

theorem in_final (c : Dev nD) : (dats m 0 c).arrAt 7 cfg0.N = inGrad (inArg m c) (mixedArg m c) (weightArg m c) (gainArg m c) (targetArg m c) := by
  refine (dats m 0 c).arrAt_eq_of_covers 7 _ (by decide +kernel) fun t hf y => ?_
  idx_vars y
  blk_simp
  rw [after0_7]
  have e : (win0_7.blk t).view.emb (ix2 y0 y1) = (ix2 (tokenAt t y0) y1 : S8192x2048.Idx) := by blk_ext [idx7 t]
  exact (in_out m c t y0 y1).trans (congrArg (inGrad (inArg m c) (mixedArg m c) (weightArg m c) (gainArg m c) (targetArg m c)) e).symm

theorem rounded_final (c : Dev nD) : (dats m 0 c).arrAt 8 cfg0.N = roundedGrad (inArg m c) (mixedArg m c) (weightArg m c) (gainArg m c) (targetArg m c) := by
  refine (dats m 0 c).arrAt_eq_of_covers 8 _ (by decide +kernel) fun t hf y => ?_
  idx_vars y
  blk_simp
  rw [after0_8]
  have e : (win0_8.blk t).view.emb (ix2 y0 y1) = (ix2 (tokenAt t y0) y1 : S8192x2048.Idx) := by blk_ext [idx8 t]
  exact (rounded_out m c t y0 y1).trans (congrArg (roundedGrad (inArg m c) (mixedArg m c) (weightArg m c) (gainArg m c) (targetArg m c)) e).symm

theorem branch_final (c : Dev nD) : (dats m 0 c).arrAt 9 cfg0.N = branchGrad (inArg m c) (mixedArg m c) (weightArg m c) (gainArg m c) (targetArg m c) := by
  refine (dats m 0 c).arrAt_eq_of_covers 9 _ (by decide +kernel) fun t hf y => ?_
  idx_vars y
  blk_simp
  rw [after0_9]
  have e : (win0_9.blk t).view.emb (ix2 y0 y1) = (ix2 (tokenAt t y0) y1 : S8192x2048.Idx) := by blk_ext [idx9 t]
  exact (branch_out m c t y0 y1).trans (congrArg (branchGrad (inArg m c) (mixedArg m c) (weightArg m c) (gainArg m c) (targetArg m c)) e).symm

/-- What a tile adds to the loss. -/
def lossTile (c : Dev nD) (t : Fin cfg0.N) : S1x128.Idx → EReal := fun i => ∑ r : Fin 256, lossAt (inArg m c) (mixedArg m c) (weightArg m c) (gainArg m c) (targetArg m c) (tokenAt t r)

theorem loss_first (c : Dev nD) (t : Fin cfg0.N) (h0 : t.val % 32 = 0) (j : Fin 128) : (outsAt0 m c t.val t.isLt).2.2.2.1 (ix2 0 j) = lossTile m c t (ix2 0 j) := by
  rw [outsAt0_A m c t h0]
  dsimp only
  refine (first_loss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) ((hcond0_0 t).mpr h0) j).trans ?_
  simp only [row_block, gain_eq, target_eq]
  rfl

theorem loss_later (c : Dev nD) (t : Fin cfg0.N) (h0 : ¬t.val % 32 = 0) (j : Fin 128) : (outsAt0 m c t.val t.isLt).2.2.2.1 (ix2 0 j)
      = (outsAt0 m c (t.val - 1) (Nat.lt_of_le_of_lt (Nat.sub_le _ _) t.isLt)).2.2.2.1 (ix2 0 j) + lossTile m c t (ix2 0 j) := by
  rw [outsAt0_B m c t h0]
  dsimp only
  refine (later_loss c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) _ _ (fun h => h0 ((hcond0_0 t).mp h)) j).trans ?_
  simp only [row_block, gain_eq, target_eq]
  rfl

theorem loss_final (c : Dev nD) : (dats m 0 c).arrAt 10 cfg0.N = lossSum (inArg m c) (mixedArg m c) (weightArg m c) (gainArg m c) (targetArg m c) := by
  refine (dats m 0 c).arrAt_eq_of_after_last 10 lastPoint (by decide +kernel) _ fun i => ?_
  blk_simp
  rw [after0_10]
  refine (Pipeline.eq_sum_fin_of_reset_step_apply_last (fun n h => (outsAt0 m c n h).2.2.2.1) 32 (fun _ => 0) (lossTile m c)
    (fun t h i => ?_) (fun t h i => ?_) (by decide) lastPoint rfl i).trans ?_
  · idx_vars i
    obtain rfl : i0 = 0 := Fin.ext (by omega)
    rw [zero_add]
    exact loss_first m c t h _
  · idx_vars i
    obtain rfl : i0 = 0 := Fin.ext (by omega)
    exact loss_later m c t h _
  · rw [zero_add]
    exact Fin.sum_mul_add_fin 32 256 (fun s : Fin 8192 => lossAt (inArg m c) (mixedArg m c) (weightArg m c) (gainArg m c) (targetArg m c) s)

/-- What a tile adds to the gradient of the norm’s scale. -/
def gainTile (c : Dev nD) (t : Fin cfg0.N) : S1x2048.Idx → EReal := fun i => ∑ r : Fin 256, tokenGain (inArg m c) (mixedArg m c) (weightArg m c) (gainArg m c) (targetArg m c) (tokenAt t r) (i 1)

theorem gain_first (c : Dev nD) (t : Fin cfg0.N) (h0 : t.val % 32 = 0) (j : Fin 2048) : (outsAt0 m c t.val t.isLt).2.2.2.2 (ix2 0 j) = gainTile m c t (ix2 0 j) := by
  rw [outsAt0_A m c t h0]
  dsimp only
  refine (first_gain c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) ((hcond0_0 t).mpr h0) j).trans ?_
  simp only [row_block, gain_eq, target_eq]
  rfl

theorem gain_later (c : Dev nD) (t : Fin cfg0.N) (h0 : ¬t.val % 32 = 0) (j : Fin 2048) : (outsAt0 m c t.val t.isLt).2.2.2.2 (ix2 0 j)
      = (outsAt0 m c (t.val - 1) (Nat.lt_of_le_of_lt (Nat.sub_le _ _) t.isLt)).2.2.2.2 (ix2 0 j) + gainTile m c t (ix2 0 j) := by
  rw [outsAt0_B m c t h0]
  dsimp only
  refine (later_gain c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) _ _ (fun h => h0 ((hcond0_0 t).mp h)) j).trans ?_
  simp only [row_block, gain_eq, target_eq]
  rfl

theorem gain_final (c : Dev nD) : (dats m 0 c).arrAt 11 cfg0.N = gainGrad (inArg m c) (mixedArg m c) (weightArg m c) (gainArg m c) (targetArg m c) := by
  refine (dats m 0 c).arrAt_eq_of_after_last 11 lastPoint (by decide +kernel) _ fun i => ?_
  blk_simp
  rw [after0_11]
  refine (Pipeline.eq_sum_fin_of_reset_step_apply_last (fun n h => (outsAt0 m c n h).2.2.2.2) 32 (fun _ => 0) (gainTile m c)
    (fun t h i => ?_) (fun t h i => ?_) (by decide) lastPoint rfl i).trans ?_
  · idx_vars i
    obtain rfl : i0 = 0 := Fin.ext (by omega)
    rw [zero_add]
    exact gain_first m c t h _
  · idx_vars i
    obtain rfl : i0 = 0 := Fin.ext (by omega)
    exact gain_later m c t h _
  · rw [zero_add]
    exact Fin.sum_mul_add_fin 32 256 (fun s : Fin 8192 => tokenGain (inArg m c) (mixedArg m c) (weightArg m c) (gainArg m c) (targetArg m c) s (i 1))

end Cert.FinalIdeal.Value

end
-- ==== Proof.FinalRef.lean ====
/-
  The loss and the gradients of the last norm and the output product as the reference computes them by differentiating its own
  lines: its stages, element by element, and that at finite arguments they are the functions of `FinalRows`.
-/
module

public import proofs.«01_k».proof.Proof.Gen.FinalRefIdeal.Read
public import proofs.«01_k».proof.Proof.FinalArrays

@[expose] public section

set_option maxRecDepth 16384
set_option backward.proofsInPublic true

noncomputable section

namespace Cert.FinalRefIdeal.Read

open Cert.FinalRefIdeal Cert.LastNorm Cert.Extended Idealize.ShloMosaic Idealize.ShloMosaic.TcCoe Idealize.SL.Sem
open Cert.Gating (half minusHalf eps half_eq)
open Cert.FinalIdeal.Value (place tokenRow gainOf targetOf tokenGrad tokenGain lossAt inGrad roundedGrad branchGrad lossSum gainGrad)
open scoped BigOperators

variable (X M : FVec Ideal S1x8192x2048 .f32) (W : FVec Ideal S1x2048x2048 .f32) (G : FVec Ideal S2048 .f32) (T : FVec Ideal S1x8192x2048 .f32)

/-- A sum over the first and last of three axes, where these have one element each. -/
theorem reduce_ends {A : ℕ} (h : (⟨3, ![1, A, 1]⟩ : Shape).ReducesTo [0, 2] ⟨1, ![A]⟩)
    (x : (⟨3, ![1, A, 1]⟩ : Shape).Idx → EReal) (init : EReal) (b : Fin A) :
    Ideal.hostReduceAdd h x init (ix1 b) = init + x (ix3 0 b 0) := by
  refine congrArg (init + ·) ((Finset.sum_filter_eq_sum_of_fiber _ (fun _ : Unit => ix3 0 b 0)
    (fun _ _ _ => rfl) (fun i => ⟨fun e => ⟨(), funext fun a => Fin.ext ?_⟩, ?_⟩) x).trans ?_)
  · match a with
    | ⟨0, _⟩ => exact (Nat.lt_one_iff.mp (i 0).isLt).symm
    | ⟨1, _⟩ => exact (congrArg Fin.val (congrFun e 0)).symm
    | ⟨2, _⟩ => exact (Nat.lt_one_iff.mp (i 2).isLt).symm
  · rintro ⟨k, rfl⟩
    funext b
    apply Fin.ext
    match b with
    | ⟨0, _⟩ => rfl
  · simp

/-- A sum over the first two of three axes, where these have one element each. -/
theorem reduce_front {A : ℕ} (h : (⟨3, ![1, 1, A]⟩ : Shape).ReducesTo [0, 1] ⟨1, ![A]⟩)
    (x : (⟨3, ![1, 1, A]⟩ : Shape).Idx → EReal) (init : EReal) (b : Fin A) :
    Ideal.hostReduceAdd h x init (ix1 b) = init + x (ix3 0 0 b) := by
  refine congrArg (init + ·) ((Finset.sum_filter_eq_sum_of_fiber _ (fun _ : Unit => ix3 0 0 b)
    (fun _ _ _ => rfl) (fun i => ⟨fun e => ⟨(), funext fun a => Fin.ext ?_⟩, ?_⟩) x).trans ?_)
  · match a with
    | ⟨0, _⟩ => exact (Nat.lt_one_iff.mp (i 0).isLt).symm
    | ⟨1, _⟩ => exact (Nat.lt_one_iff.mp (i 1).isLt).symm
    | ⟨2, _⟩ => exact (congrArg Fin.val (congrFun e 0)).symm
  · rintro ⟨k, rfl⟩
    funext b
    apply Fin.ext
    match b with
    | ⟨0, _⟩ => rfl
  · simp

theorem row_stage (s : Fin 8192) (j : Fin 2048) : val_main_v2 (F := Ideal) X M W (ix3 0 s j) = tokenRow X M W s j := by
  pointwise [val_main_v2, val_main_v1, val_main_v0]
  rfl

theorem var_stage (s : Fin 8192) (a : Fin 1) :
    val_main_v9 (F := Ideal) X M W (ix3 0 s a) = mean (fun j => tokenRow X M W s j * tokenRow X M W s j) + eps := by
  pointwise [val_main_v9, val_main_v8, val_main_v7, val_main_v6, val_main_v5, val_main_v4, val_main_v3, val_main_cst, val_main_cst_0, val_main_cst_1]
  simp only [row_stage]
  rfl

theorem scale_stage (s : Fin 8192) (a : Fin 1) : val_main_v10 (F := Ideal) X M W (ix3 0 s a) = scale (tokenRow X M W s) := by
  pointwise [val_main_v10]
  rw [var_stage]
  rfl

theorem slope_stage (s : Fin 8192) (a : Fin 1) : val_main_v13 (F := Ideal) X M W (ix3 0 s a)
    = minusHalf * Ideal.div (scale (tokenRow X M W s)) (mean (fun j => tokenRow X M W s j * tokenRow X M W s j) + eps) := by
  pointwise [val_main_v13, val_main_v12, val_main_v11, val_main_cst_2]
  rw [scale_stage, var_stage]

theorem hat_stage (s : Fin 8192) (j : Fin 2048) : val_main_v15 (F := Ideal) X M W (ix3 0 s j) = hat (tokenRow X M W s) j := by
  pointwise [val_main_v15, val_main_v14]
  rw [row_stage, scale_stage]
  rfl

theorem gain_stage (s : Fin 8192) (j : Fin 2048) : val_main_v17 (F := Ideal) G (ix3 0 s j) = G (ix1 j) := by
  pointwise [val_main_v17, val_main_v16]

theorem err_stage (s : Fin 8192) (j : Fin 2048) :
    val_main_v19 (F := Ideal) X M W G T (ix3 0 s j) = err (tokenRow X M W s) (gainOf G) (targetOf T s) j := by
  pointwise [val_main_v19, val_main_v18]
  rw [hat_stage, gain_stage]
  rfl

theorem mean_stage (s : Fin 8192) : val_main_v25 (F := Ideal) X M W G T (ix2 0 s)
    = mean (fun j => err (tokenRow X M W s) (gainOf G) (targetOf T s) j * err (tokenRow X M W s) (gainOf G) (targetOf T s) j) := by
  pointwise [val_main_v25, val_main_v24, val_main_v23, val_main_v20, val_main_cst_4, val_main_cst_5]
  simp only [err_stage]
  rfl

theorem loss_stage (i : S_.Idx) : val_main_v27 (F := Ideal) X M W G T i
    = half * ∑ s : Fin 8192, mean (fun j => err (tokenRow X M W s) (gainOf G) (targetOf T s) j * err (tokenRow X M W s) (gainOf G) (targetOf T s) j) := by
  pointwise [val_main_v27, val_main_v26, val_main_cst_6, val_main_cst_7]
  refine congrArg (half * ·) ((Fin.sum_univ_one _).trans (Finset.sum_congr rfl fun s _ => ?_))
  exact mean_stage X M W G T s

section Finite

variable (hX : ∀ s j, IsReal (tokenRow X M W s j)) (hG : ∀ j, IsReal (G (ix1 j))) (hT : ∀ s j, IsReal (T (ix3 0 s j)))
include hX hG hT

theorem outGrad_stage (s : Fin 8192) (j : Fin 2048) :
    val_main_v33 (F := Ideal) X M W G T (ix3 0 s j) = outGrad (tokenRow X M W s) (gainOf G) (targetOf T s) j := by
  pointwise [val_main_v33, val_main_v32, val_main_v31, val_main_v30, val_main_v29, val_main_v28, val_main_v22, val_main_v21, val_main_cst_3, val_main_cst_8, val_main_cst_9, val_main_cst_10]
  rw [err_stage]
  exact outGrad_eq (hX s) hG (hT s) j

theorem normGrad_stage (s : Fin 8192) (j : Fin 2048) :
    val_main_v38 (F := Ideal) X M W G T (ix3 0 s j) = outGrad (tokenRow X M W s) (gainOf G) (targetOf T s) j * gainOf G j := by
  pointwise [val_main_v38, val_main_v37, val_main_v16]
  rw [outGrad_stage X M W G T hX hG hT]

theorem slopeSum_stage (s : Fin 8192) (j : Fin 2048) : val_main_v50 (F := Ideal) X M W G T (ix3 0 s j)
    = Ideal.div ((∑ l, tokenRow X M W s l * (outGrad (tokenRow X M W s) (gainOf G) (targetOf T s) l * gainOf G l))
        * (minusHalf * Ideal.div (scale (tokenRow X M W s)) (mean (fun j => tokenRow X M W s j * tokenRow X M W s j) + eps))) width := by
  pointwise [val_main_v50, val_main_v49, val_main_v48, val_main_v47, val_main_v46, val_main_v45, val_main_v42, val_main_v41, val_main_v40, val_main_cst_13, val_main_cst_14, val_main_cst_15]
  refine (reduce_ends _ _ _ _).trans ?_
  rw [zero_add]
  pointwise []
  simp only [row_stage, normGrad_stage X M W G T hX hG hT, slope_stage]

theorem grad_stage (s : Fin 8192) (j : Fin 2048) : val_main_v54 (F := Ideal) X M W G T (ix3 0 s j) = tokenGrad X M W G T s j := by
  pointwise [val_main_v54, val_main_v53, val_main_v52, val_main_v51, val_main_v44, val_main_v43]
  rw [normGrad_stage X M W G T hX hG hT, row_stage, scale_stage, slopeSum_stage X M W G T hX hG hT]
  exact rowGrad_eq (hX s) hG (hT s) j _ rfl

theorem in_result : val_main_v56 (F := Ideal) X M W G T = inGrad X M W G T := by
  funext i
  idx_vars i
  pointwise [val_main_v56]
  exact grad_stage X M W G T hX hG hT _ _

theorem rounded_result : val_main_v58 (F := Ideal) X M W G T = roundedGrad X M W G T := by
  funext i
  idx_vars i
  pointwise [val_main_v58, val_main_v57]
  exact grad_stage X M W G T hX hG hT _ _

theorem branch_stage (s : Fin 8192) (k : Fin 2048) :
    val_main_v55 (F := Ideal) X M W G T (ix3 0 s k) = ∑ j : Fin 2048, tokenGrad X M W G T s j * W (ix3 0 k j) := by
  pointwise [val_main_v55, val_main_v0]
  simp only [grad_stage X M W G T hX hG hT]

theorem branch_result : val_main_v63 (F := Ideal) X M W G T = branchGrad X M W G T := by
  funext i
  idx_vars i
  pointwise [val_main_v63, val_main_v62, val_main_v61, val_main_v60, val_main_v59]
  simp only [branch_stage X M W G T hX hG hT]
  have h := i1.isLt
  show _ = ∑ j : Fin 2048, tokenGrad X M W G T i0 j * W (ix3 0 (place i1) j)
  unfold place
  by_cases h1 : i1.val < 1024
  · rw [dif_pos h1, if_pos h1]
    exact congrArg (fun k => ∑ j : Fin 2048, tokenGrad X M W G T i0 j * W (ix3 0 k j)) (Fin.ext (by dsimp only; omega))
  rw [dif_neg h1, if_neg h1]
  by_cases h2 : i1.val < 1536
  · rw [dif_pos (by omega), if_pos h2]
  · rw [dif_neg (by omega), if_neg h2]
    exact congrArg (fun k => ∑ j : Fin 2048, tokenGrad X M W G T i0 j * W (ix3 0 k j)) (Fin.ext (by dsimp only; omega))

theorem loss_result : val_main_v64 (F := Ideal) X M W G T = lossSum X M W G T := by
  funext i
  idx_vars i
  pointwise [val_main_v64]
  rw [loss_stage]
  show _ = ∑ s : Fin 8192, half * mean _
  have hm : ∀ s : Fin 8192, IsReal (mean (fun j => err (tokenRow X M W s) (gainOf G) (targetOf T s) j * err (tokenRow X M W s) (gainOf G) (targetOf T s) j)) :=
    fun s => isReal_tokenMean (hX s) hG (hT s)
  choose e he using hm
  simp only [← he, half_eq, ← coe_sum, ← EReal.coe_mul, Finset.mul_sum]

theorem gain_result : val_main_v65 (F := Ideal) X M W G T = gainGrad X M W G T := by
  funext i
  idx_vars i
  pointwise [val_main_v65, val_main_v39, val_main_v36, val_main_v35, val_main_v34, val_main_cst_11, val_main_cst_12]
  refine (reduce_front _ _ _ _).trans ?_
  rw [zero_add]
  pointwise []
  refine Finset.sum_congr rfl fun s _ => ?_
  rw [hat_stage, outGrad_stage X M W G T hX hG hT]
  exact mul_comm _ _

end Finite

end Cert.FinalRefIdeal.Read

end
-- ==== Proof.FinalClaims.lean ====
/-
  The claims about the output product, the last norm and the loss (`Final`, its idealization and its reference).
-/
module

public import proofs.«01_k».proof.Defs
public import proofs.«01_k».proof.Proof.Gen.Final
public import proofs.«01_k».proof.Proof.Gen.Final.Frame
public import proofs.«01_k».proof.Proof.Gen.FinalIdeal
public import proofs.«01_k».proof.Proof.Gen.FinalRefIdeal
public import proofs.«01_k».proof.Proof.FinalRef
public import proofs.«01_k».proof.Proof.XattnClaims
public import Idealize.ShloMosaic.Lib.Quiescent

@[expose] public section

set_option maxRecDepth 16384
set_option backward.proofsInPublic true

noncomputable section

namespace Cert.Proof

open Idealize.ShloMosaic Idealize.ShloMosaic.TcCoe Idealize.SL.Sem Cert.Extended

/-- The shapes of the precondition's own operations fit. -/
theorem final_finite_facts : Cert.Pre_final_finite.Facts := by
  constructor <;> decide

/-- Where the precondition holds, every number of the five arguments is real. -/
theorem final_finite_real [Cert.Pre_final_finite.Facts] (X M : FVec Ideal Cert.Pre_final_finite.S1x8192x2048 .f32) (W : FVec Ideal Cert.Pre_final_finite.S1x2048x2048 .f32)
    (G : FVec Ideal Cert.Pre_final_finite.S2048 .f32) (T : FVec Ideal Cert.Pre_final_finite.S1x8192x2048 .f32)
    (h : Cert.Pre_final_finite.fn X M W G T = fun _ => 1#1) :
    (∀ i, IsReal (X i)) ∧ (∀ i, IsReal (M i)) ∧ (∀ i, IsReal (W i)) ∧ (∀ i, IsReal (G i)) ∧ (∀ i, IsReal (T i)) := by
  have h0 := congrFun h (fun a => a.elim0)
  obtain ⟨h1, ht⟩ := andi_one _ _ h0
  obtain ⟨h2, hg⟩ := andi_one _ _ h1
  obtain ⟨h3, hw⟩ := andi_one _ _ h2
  obtain ⟨hx, hm⟩ := andi_one _ _ h3
  refine ⟨fun i => ?_, fun i => ?_, fun i => ?_, fun i => ?_, fun i => ?_⟩ <;> refine isReal_of_abs_lt ?_ <;> rw [← ofBits_inf]
  · exact forall_of_reduce_andi _ _ _ _ _ hx i (funext fun x => x.elim0)
  · exact forall_of_reduce_andi _ _ _ _ _ hm i (funext fun x => x.elim0)
  · exact forall_of_reduce_andi _ _ _ _ _ hw i (funext fun x => x.elim0)
  · exact forall_of_reduce_andi _ _ _ _ _ hg i (funext fun x => x.elim0)
  · exact forall_of_reduce_andi _ _ _ _ _ ht i (funext fun x => x.elim0)

theorem final_ref_quiescent : Cert.quiescent_FinalRefIdeal := fun m ρ _ =>
  (θ_run Cert.FinalRefIdeal.defs _ _).mono (fun r h => ⟨fun c => (h c).2.2.2.2.2, sem_eq_zero_of_no_sems (by decide) r.2⟩)
    (Cert.FinalRefIdeal.Value.run (F := Ideal) m ρ)

theorem final_algebraic : Cert.algebraic_FinalIdeal_FinalRefIdeal_pre_final_finite (hPre_final_finite := final_finite_facts) := by
  haveI := final_finite_facts
  intro m g m' g' hfin hagree
  refine ⟨_, _, _, _, _, Cert.FinalIdeal.Value.run_blocks (F := Ideal) m g, ?_⟩
  refine (θ_run Cert.FinalRefIdeal.defs _ _).mono (fun r h c => ?_) (Cert.FinalRefIdeal.Value.run (F := Ideal) m' g')
  obtain ⟨h0, h1, h2, h3, h4⟩ := hagree c
  replace h0 : m' ((c.tc : Thread Cert.FinalRefIdeal.nD Cert.FinalRefIdeal.τ).loc Cert.FinalRefIdeal.main_arg0) = Cert.FinalIdeal.Value.inArg m c := h0
  replace h1 : m' ((c.tc : Thread Cert.FinalRefIdeal.nD Cert.FinalRefIdeal.τ).loc Cert.FinalRefIdeal.main_arg1) = Cert.FinalIdeal.Value.mixedArg m c := h1
  replace h2 : m' ((c.tc : Thread Cert.FinalRefIdeal.nD Cert.FinalRefIdeal.τ).loc Cert.FinalRefIdeal.main_arg2) = Cert.FinalIdeal.Value.weightArg m c := h2
  replace h3 : m' ((c.tc : Thread Cert.FinalRefIdeal.nD Cert.FinalRefIdeal.τ).loc Cert.FinalRefIdeal.main_arg3) = Cert.FinalIdeal.Value.gainArg m c := h3
  replace h4 : m' ((c.tc : Thread Cert.FinalRefIdeal.nD Cert.FinalRefIdeal.τ).loc Cert.FinalRefIdeal.main_arg4) = Cert.FinalIdeal.Value.targetArg m c := h4
  obtain ⟨ho, hr, hb, hl, hn, hargs⟩ := h c
  obtain ⟨rX, rM, rW, rG, rT⟩ := final_finite_real _ _ _ _ _ (hfin c)
  have hx : ∀ s j, IsReal (Cert.FinalIdeal.Value.tokenRow (Cert.FinalIdeal.Value.inArg m c) (Cert.FinalIdeal.Value.mixedArg m c) (Cert.FinalIdeal.Value.weightArg m c) s j) :=
    fun s j => (rX _).add (IsReal.sum fun k => (rM _).mul (rW _))
  have hg : ∀ j : Fin 2048, IsReal (Cert.FinalIdeal.Value.gainArg m c (ix1 j)) := fun j => rG _
  have ht : ∀ (s : Fin 8192) (j : Fin 2048), IsReal (Cert.FinalIdeal.Value.targetArg m c (ix3 0 s j)) := fun s j => rT _
  replace hl := hl.trans (Cert.FinalRefIdeal.Read.val_main_v64_eq (F := Ideal) (m' ((c.tc : Thread Cert.FinalRefIdeal.nD Cert.FinalRefIdeal.τ).loc Cert.FinalRefIdeal.main_arg0)) (m' ((c.tc : Thread Cert.FinalRefIdeal.nD Cert.FinalRefIdeal.τ).loc Cert.FinalRefIdeal.main_arg1)) (m' ((c.tc : Thread Cert.FinalRefIdeal.nD Cert.FinalRefIdeal.τ).loc Cert.FinalRefIdeal.main_arg2)) (m' ((c.tc : Thread Cert.FinalRefIdeal.nD Cert.FinalRefIdeal.τ).loc Cert.FinalRefIdeal.main_arg3)) (m' ((c.tc : Thread Cert.FinalRefIdeal.nD Cert.FinalRefIdeal.τ).loc Cert.FinalRefIdeal.main_arg4)))
  replace hn := hn.trans (Cert.FinalRefIdeal.Read.val_main_v65_eq (F := Ideal) (m' ((c.tc : Thread Cert.FinalRefIdeal.nD Cert.FinalRefIdeal.τ).loc Cert.FinalRefIdeal.main_arg0)) (m' ((c.tc : Thread Cert.FinalRefIdeal.nD Cert.FinalRefIdeal.τ).loc Cert.FinalRefIdeal.main_arg1)) (m' ((c.tc : Thread Cert.FinalRefIdeal.nD Cert.FinalRefIdeal.τ).loc Cert.FinalRefIdeal.main_arg2)) (m' ((c.tc : Thread Cert.FinalRefIdeal.nD Cert.FinalRefIdeal.τ).loc Cert.FinalRefIdeal.main_arg3)) (m' ((c.tc : Thread Cert.FinalRefIdeal.nD Cert.FinalRefIdeal.τ).loc Cert.FinalRefIdeal.main_arg4)))
  refine ⟨ho.trans ((Cert.FinalRefIdeal.Read.val_main_v56_eq m' c).trans ?_), hr.trans ((Cert.FinalRefIdeal.Read.val_main_v58_eq m' c).trans ?_),
    hb.trans ((Cert.FinalRefIdeal.Read.val_main_v63_eq m' c).trans ?_), hl.trans ?_,
    hn.trans ?_, hargs⟩
  · rw [Cert.FinalIdeal.Value.in_final m c, h0, h1, h2, h3, h4]
    exact Cert.FinalRefIdeal.Read.in_result _ _ _ _ _ hx hg ht
  · rw [Cert.FinalIdeal.Value.rounded_final m c, h0, h1, h2, h3, h4]
    exact Cert.FinalRefIdeal.Read.rounded_result _ _ _ _ _ hx hg ht
  · rw [Cert.FinalIdeal.Value.branch_final m c, h0, h1, h2, h3, h4]
    exact Cert.FinalRefIdeal.Read.branch_result _ _ _ _ _ hx hg ht
  · rw [Cert.FinalIdeal.Value.loss_final m c, h0, h1, h2, h3, h4]
    exact Cert.FinalRefIdeal.Read.loss_result _ _ _ _ _ hx hg ht
  · rw [Cert.FinalIdeal.Value.gain_final m c, h0, h1, h2, h3, h4]
    exact Cert.FinalRefIdeal.Read.gain_result _ _ _ _ _ hx hg ht

end Cert.Proof

end
-- ==== Proof.InNormBlocks.lean ====
/-
  The gradient of the norm of a layer's input (`dh_rms`), one grid point at a time: what a point's body leaves in its two output
  blocks, as the functions of `FinalRows` of the rows of the point's blocks.
-/
module

public import proofs.«01_k».proof.Proof.Gen.InNormIdeal.Value
public import proofs.«01_k».proof.Proof.FinalRows
public import Idealize.ShloMosaic.Lib.Pointwise
public import Idealize.ShloMosaic.Lib.Pipeline.ValueKit
public import Idealize.ShloMosaic.Lib.Pipeline.ReadBack

@[expose] public section

set_option maxRecDepth 16384
set_option backward.proofsInPublic true

noncomputable section

namespace Cert.InNormIdeal.Value

open Cert.InNormIdeal Cert.InNormIdeal.Gen Cert.LastNorm Idealize.ShloMosaic Idealize.ShloMosaic.TcCoe Idealize.SL.Sem
open scoped BigOperators

section Payloads

variable (x0 : Vec Ideal S256x3072 .bf16) (x1 : Vec Ideal S256x1024 .bf16) (x2 : Vec Ideal S256x1536 .bf16) (x3 : Vec Ideal S256x1024 .bf16)
  (x4 : Vec Ideal S256x128 .bf16) (x5 : Vec Ideal S2048x6656 .bf16) (x6 : Vec Ideal S2048x128 .bf16) (x7 x8 : Vec Ideal S256x2048 .f32)
  (x9 : Vec Ideal S1x2048 .f32)

/-- Columns `o` and on of the weight. -/
abbrev strip (X : Vec Ideal S2048x6656 .bf16) (o n : ℕ)
    (inb : ∀ a, (![0, o] : Fin 2 → ℕ) a + (![2048, n] : Fin 2 → ℕ) a ≤ (![2048, 6656] : Fin 2 → ℕ) a) : Vec Ideal ⟨2, ![2048, n]⟩ .bf16 :=
  View.ld X (Rect.unit (s := S2048x6656) ![0, o] ![2048, n] inb)

theorem strip_apply (X : Vec Ideal S2048x6656 .bf16) (o n : ℕ) (inb) (j : Fin 2048) (l : Fin n) (h : o + l.val < 6656) :
    strip X o n inb (ix2 j l) = X (ix2 j ⟨o + l.val, h⟩) :=
  View.ld_unit_apply_of X _ _ inb _ _ fun a => by
    fin_cases a
    · exact (Nat.zero_add _).symm
    · rfl

/-- The gradient at a row after its norm, in the two parts in which the body makes it. -/
abbrev partA : FVec Ideal S256x2048 .f32 :=
  k0_pay8 x4 x6 x0 (strip x5 0 3072 (by decide)) x1 (strip x5 3072 1024 (by decide)) x2 (strip x5 4096 1536 (by decide))
abbrev partB : FVec Ideal S256x2048 .f32 := k0_pay9 x3 (strip x5 5632 1024 (by decide))

def outRow (r : Fin 256) (j : Fin 2048) : EReal :=
  (∑ k : Fin 128, x4 (ix2 r k) * x6 (ix2 j k)) + (∑ k : Fin 3072, x0 (ix2 r k) * x5 (ix2 j ⟨k.val, by omega⟩))
    + (∑ k : Fin 1024, x1 (ix2 r k) * x5 (ix2 j ⟨3072 + k.val, by omega⟩))
    + (∑ k : Fin 1536, x2 (ix2 r k) * x5 (ix2 j ⟨4096 + k.val, by omega⟩))
    + (∑ k : Fin 1024, x3 (ix2 r k) * x5 (ix2 j ⟨5632 + k.val, by omega⟩))

/-- Row `r` of the input, and the norm's scale. -/
abbrev inRow (r : Fin 256) (j : Fin 2048) : EReal := x7 (ix2 r j)
abbrev gain (j : Fin 2048) : EReal := x9 (ix2 0 j)

theorem out_apply (r : Fin 256) (j : Fin 2048) :
    k0_pay1 (F := Ideal) (partA x0 x1 x2 x4 x5 x6) (partB x3 x5) (ix2 r j) = outRow x0 x1 x2 x3 x4 x5 x6 r j := by
  pointwise [k0_pay1, k0_pay8, k0_pay9]
  unfold outRow
  refine congrArg₂ (· + ·) (congrArg₂ (· + ·) (congrArg₂ (· + ·) (congrArg₂ (· + ·) rfl ?_) ?_) ?_) ?_ <;>
    refine Finset.sum_congr rfl fun k _ => congrArg (_ * ·) ?_
  · exact (strip_apply x5 0 3072 _ j k (by omega)).trans (congrArg (fun k => x5 (ix2 j k)) (Fin.ext (Nat.zero_add _)))
  · exact strip_apply x5 3072 1024 _ j k (by omega)
  · exact strip_apply x5 4096 1536 _ j k (by omega)
  · exact strip_apply x5 5632 1024 _ j k (by omega)

theorem scale_apply (r : Fin 256) (a : Fin 1) : k0_pay3 (F := Ideal) x7 (ix2 r a) = scale (inRow x7 r) := by
  pointwise [k0_pay3, k0_pay2]
  rfl

theorem hat_apply (r : Fin 256) (j : Fin 2048) : k0_pay4 (F := Ideal) x7 (ix2 r j) = hat (inRow x7 r) j := by
  pointwise [k0_pay4, k0_pay2]
  rw [scale_apply]
  rfl

theorem gain_apply (acc : Vec Ideal S1x2048 .f32) (j : Fin 2048) :
    k0_pay5 (F := Ideal) (partA x0 x1 x2 x4 x5 x6) (partB x3 x5) x7 acc (ix2 0 j)
      = acc (ix2 0 j) + ∑ r : Fin 256, outRow x0 x1 x2 x3 x4 x5 x6 r j * hat (inRow x7 r) j := by
  generalize hA : partA x0 x1 x2 x4 x5 x6 = A
  generalize hB : partB x3 x5 = B
  pointwise [k0_pay5]
  simp only [← hA, ← hB, out_apply, hat_apply]

theorem row_apply (r : Fin 256) (j : Fin 2048) :
    k0_pay6 (F := Ideal) (partA x0 x1 x2 x4 x5 x6) (partB x3 x5) x7 x9 x8 (ix2 r j)
      = x8 (ix2 r j) + normGrad (inRow x7 r) (fun l => outRow x0 x1 x2 x3 x4 x5 x6 r l * gain x9 l) j := by
  generalize hA : partA x0 x1 x2 x4 x5 x6 = A
  generalize hB : partB x3 x5 = B
  pointwise [k0_pay6]
  simp only [← hA, ← hB, out_apply, hat_apply, scale_apply]
  rfl

theorem gain_fill (y) (b : EReal) : k0_pay7 (F := Ideal) y + b = b := by pointwise [k0_pay7]

end Payloads

section Cases

variable (c : Dev nD) (i : grid0.Coords)
  (a1 : Memref sig .tc .vmem S256x3072 .bf16) (h1 : a1.IsWhole)
  (a2 : Memref sig .tc .vmem S256x1024 .bf16) (h2 : a2.IsWhole)
  (a3 : Memref sig .tc .vmem S256x1536 .bf16) (h3 : a3.IsWhole)
  (a4 : Memref sig .tc .vmem S256x1024 .bf16) (h4 : a4.IsWhole)
  (a5 : Memref sig .tc .vmem S256x128 .bf16) (h5 : a5.IsWhole)
  (a6 : Memref sig .tc .vmem S2048x6656 .bf16) (h6 : a6.IsWhole)
  (a7 : Memref sig .tc .vmem S2048x128 .bf16) (h7 : a7.IsWhole)
  (a8 : Memref sig .tc .vmem S256x2048 .f32) (h8 : a8.IsWhole)
  (a9 : Memref sig .tc .vmem S256x2048 .f32) (h9 : a9.IsWhole)
  (a10 : Memref sig .tc .vmem S1x2048 .f32) (h10 : a10.IsWhole)
  (a11 : Memref sig .tc .vmem S256x2048 .f32) (h11 : a11.IsWhole)
  (a12 : Memref sig .tc .vmem S1x2048 .f32) (h12 : a12.IsWhole)
  (x0 : Vec Ideal S256x3072 .bf16) (x1 : Vec Ideal S256x1024 .bf16) (x2 : Vec Ideal S256x1536 .bf16) (x3 : Vec Ideal S256x1024 .bf16)
  (x4 : Vec Ideal S256x128 .bf16) (x5 : Vec Ideal S2048x6656 .bf16) (x6 : Vec Ideal S2048x128 .bf16) (x7 x8 : Vec Ideal S256x2048 .f32)
  (x9 : Vec Ideal S1x2048 .f32) (xo : Vec Ideal S1x2048 .f32)

theorem later_row (hc : ¬cond0_0 i) (r : Fin 256) (j : Fin 2048) :
    out0_B_10 c i a1 h1 a2 h2 a3 h3 a4 h4 a5 h5 a6 h6 a7 h7 a8 h8 a9 h9 a10 h10 a11 h11 a12 h12 hc x0 x1 x2 x3 x4 x5 x6 x7 x8 x9 xo (ix2 r j) = x8 (ix2 r j) + normGrad (inRow x7 r) (fun l => outRow x0 x1 x2 x3 x4 x5 x6 r l * gain x9 l) j := by
  frame_out
  exact row_apply x0 x1 x2 x3 x4 x5 x6 x7 x8 x9 r j

theorem later_gain (hc : ¬cond0_0 i) (j : Fin 2048) :
    out0_B_11 c i a1 h1 a2 h2 a3 h3 a4 h4 a5 h5 a6 h6 a7 h7 a8 h8 a9 h9 a10 h10 a11 h11 a12 h12 hc x0 x1 x2 x3 x4 x5 x6 x7 x8 x9 xo (ix2 0 j) = xo (ix2 0 j) + ∑ r : Fin 256, outRow x0 x1 x2 x3 x4 x5 x6 r j * hat (inRow x7 r) j := by
  frame_out
  exact gain_apply x0 x1 x2 x3 x4 x5 x6 x7 xo j

theorem first_row (hc : cond0_0 i) (r : Fin 256) (j : Fin 2048) :
    out0_A_10 c i a1 h1 a2 h2 a3 h3 a4 h4 a5 h5 a6 h6 a7 h7 a8 h8 a9 h9 a10 h10 a11 h11 a12 h12 hc x0 x1 x2 x3 x4 x5 x6 x7 x8 x9 (ix2 r j) = x8 (ix2 r j) + normGrad (inRow x7 r) (fun l => outRow x0 x1 x2 x3 x4 x5 x6 r l * gain x9 l) j := by
  frame_out
  exact row_apply x0 x1 x2 x3 x4 x5 x6 x7 x8 x9 r j

theorem first_gain (hc : cond0_0 i) (j : Fin 2048) :
    out0_A_11 c i a1 h1 a2 h2 a3 h3 a4 h4 a5 h5 a6 h6 a7 h7 a8 h8 a9 h9 a10 h10 a11 h11 a12 h12 hc x0 x1 x2 x3 x4 x5 x6 x7 x8 x9 (ix2 0 j) = ∑ r : Fin 256, outRow x0 x1 x2 x3 x4 x5 x6 r j * hat (inRow x7 r) j := by
  frame_open
  simp (disch := decide) only [↓ View.readCov_skip, ↓ View.readCov_cons_toLoadRect, ↓ View.readCov_fill]
  frame_out
  exact (gain_apply x0 x1 x2 x3 x4 x5 x6 x7 (k0_pay7 (F := Ideal)) j).trans (gain_fill _ _)

end Cases

end Cert.InNormIdeal.Value

end
-- ==== Proof.InNormArrays.lean ====
/-
  The gradient of the norm of a layer's input (`dh_rms`) after the whole grid: the kernel's two result arrays, element by element, as
  the functions of `FinalRows` over its five arguments.
-/
module

public import proofs.«01_k».proof.Proof.InNormBlocks

@[expose] public section

set_option maxRecDepth 16384
set_option backward.proofsInPublic true

noncomputable section

namespace Cert.InNormIdeal.Value

open Cert.InNormIdeal Cert.InNormIdeal.Gen Cert.LastNorm Idealize.ShloMosaic Idealize.ShloMosaic.TcCoe Idealize.SL.Sem
open Idealize.ShloMosaic.Pipeline (Dat)
open scoped BigOperators

/-- The kernel keeps the weight's columns in another order: the column of the argument that is its column `k`. -/
def place (k : Fin 6656) : Fin 6672 :=
  if k.val < 4096 then ⟨(1536 + k.val) % 6672, by omega⟩ else if k.val < 5632 then ⟨k.val - 4096, by omega⟩ else ⟨k.val + 16, by omega⟩

theorem zero_word : FloatOps.sitofp (F := Ideal) .bf16 0#32 = (0 : EReal) := by
  show ((((0#32 : BitVec 32).toInt : ℤ) : ℝ) : EReal) = 0
  simp

theorem sum_strip (t : ℕ → EReal) (T : Fin 6672 → EReal) (ht : ∀ k : Fin 6672, T k = t k.val) (o n : ℕ) (h : o + n ≤ 6672) :
    ∑ k : Fin n, T ⟨o + k.val, by omega⟩ = ∑ k ∈ Finset.range n, t (o + k) :=
  (Finset.sum_congr rfl fun k _ => ht _).trans (Fin.sum_univ_eq_sum_range (fun k => t (o + k)) n)

/-- A sum over the columns, in the strips and the order in which the body takes them. -/
theorem sum_strips (T : Fin 6672 → EReal) :
    (∑ k : Fin 128, if h : k.val < 16 then T ⟨5632 + k.val, by omega⟩ else 0) + (∑ k : Fin 3072, T ⟨1536 + k.val, by omega⟩)
      + (∑ k : Fin 1024, T ⟨4608 + k.val, by omega⟩) + (∑ k : Fin 1536, T ⟨k.val, by omega⟩) + (∑ k : Fin 1024, T ⟨5648 + k.val, by omega⟩)
      = ∑ k, T k := by
  obtain ⟨t, ht⟩ : ∃ t : ℕ → EReal, ∀ k : Fin 6672, T k = t k.val :=
    ⟨fun n => if h : n < 6672 then T ⟨n, h⟩ else 0, fun k => by dsimp only; rw [dif_pos k.isLt]⟩
  have h0 : (∑ k : Fin 128, if h : k.val < 16 then T ⟨5632 + k.val, by omega⟩ else 0) = ∑ k ∈ Finset.range 16, t (5632 + k) := by
    refine (Finset.sum_congr rfl fun k _ => ?_).trans ((Fin.sum_univ_eq_sum_range (fun k => if k < 16 then t (5632 + k) else 0) 128).trans ?_)
    · by_cases h : k.val < 16
      · rw [dif_pos h, if_pos h, ht]
      · rw [dif_neg h, if_neg h]
    · rw [show 128 = 16 + 112 from rfl, Finset.sum_range_add,
        Finset.sum_congr rfl fun k hk => if_pos (Finset.mem_range.mp hk), Finset.sum_eq_zero fun k _ => if_neg (by omega), add_zero]
  have h3 : ∑ k : Fin 1536, T ⟨k.val, by omega⟩ = ∑ k ∈ Finset.range 1536, t k :=
    (Finset.sum_congr rfl fun k _ => ht _).trans (Fin.sum_univ_eq_sum_range t 1536)
  rw [h0, h3, sum_strip t T ht 1536 3072 (by decide), sum_strip t T ht 4608 1024 (by decide), sum_strip t T ht 5648 1024 (by decide),
    Finset.sum_congr rfl fun k _ => ht k, Fin.sum_univ_eq_sum_range t 6672,
    show 6672 = 1536 + 3072 + 1024 + 16 + 1024 from rfl, Finset.sum_range_add, Finset.sum_range_add, Finset.sum_range_add, Finset.sum_range_add]
  abel

section Arguments

variable (X : Vec Ideal S1x8192x2048 .f32) (G : Vec Ideal S1x2048 .f32) (W : Vec Ideal S1x2048x6672 .f32) (D : Vec Ideal S1x8192x6672 .f32)

/-- Token `s` before its norm, and the gradient at it after the norm. -/
abbrev tokenRow (s : Fin 8192) (j : Fin 2048) : EReal := X (ix3 0 s j)
def outGradOf (s : Fin 8192) (j : Fin 2048) : EReal := ∑ k : Fin 6672, D (ix3 0 s k) * W (ix3 0 j k)

def tokenGrad (s : Fin 8192) (j : Fin 2048) : EReal := normGrad (tokenRow X s) (fun l => outGradOf W D s l * G (ix2 0 l)) j
def tokenGain (s : Fin 8192) (j : Fin 2048) : EReal := outGradOf W D s j * hat (tokenRow X s) j

def inGrad (E : Vec Ideal S1x8192x2048 .f32) : Vec Ideal S8192x2048 .f32 := fun i => E (ix3 0 (i 0) (i 1)) + tokenGrad X G W D (i 0) (i 1)
def gainGrad : Vec Ideal S1x2048 .f32 := fun i => ∑ s : Fin 8192, tokenGain X W D s (i 1)

end Arguments

variable (m : (ℓ : Loc nD τ sig) → Buf (Elt Ideal) ℓ)

/-- The five arguments of a device. -/
abbrev inArg (c : Dev nD) : Vec Ideal S1x8192x2048 .f32 := m ((c : Thread nD τ).loc main_arg0)
abbrev scaleArg (c : Dev nD) : Vec Ideal S1x2048 .f32 := m ((c : Thread nD τ).loc main_arg1)
abbrev weightArg (c : Dev nD) : Vec Ideal S1x2048x6672 .f32 := m ((c : Thread nD τ).loc main_arg2)
abbrev projArg (c : Dev nD) : Vec Ideal S1x8192x6672 .f32 := m ((c : Thread nD τ).loc main_arg3)
abbrev laterArg (c : Dev nD) : Vec Ideal S1x8192x2048 .f32 := m ((c : Thread nD τ).loc main_arg4)

theorem qkv_entry (c : Dev nD) (s : Fin 8192) (k : Fin 3072) :
    (V m c main_v4 : Vec Ideal S8192x3072 .bf16) (ix2 s k) = projArg m c (ix3 0 s ⟨1536 + k.val, by omega⟩) := by
  unfold V hostOps0 hostOps0_1 hostOps0_2 hostOps0_3 hostOps0_4
  simp only [List.flatten_cons, List.flatten_nil, List.append_nil, List.cons_append, List.nil_append]
  after_results_simp
  pointwise

theorem dz_entry (c : Dev nD) (s : Fin 8192) (k : Fin 1024) :
    (V m c main_v5 : Vec Ideal S8192x1024 .bf16) (ix2 s k) = projArg m c (ix3 0 s ⟨4608 + k.val, by omega⟩) := by
  unfold V hostOps0 hostOps0_1 hostOps0_2 hostOps0_3 hostOps0_4
  simp only [List.flatten_cons, List.flatten_nil, List.append_nil, List.cons_append, List.nil_append]
  after_results_simp
  pointwise

theorem front_entry (c : Dev nD) (s : Fin 8192) (k : Fin 1536) :
    (V m c main_v6 : Vec Ideal S8192x1536 .bf16) (ix2 s k) = projArg m c (ix3 0 s ⟨k.val, by omega⟩) := by
  unfold V hostOps0 hostOps0_1 hostOps0_2 hostOps0_3 hostOps0_4
  simp only [List.flatten_cons, List.flatten_nil, List.append_nil, List.cons_append, List.nil_append]
  after_results_simp
  pointwise

theorem back_entry (c : Dev nD) (s : Fin 8192) (k : Fin 1024) :
    (V m c main_v7 : Vec Ideal S8192x1024 .bf16) (ix2 s k) = projArg m c (ix3 0 s ⟨5648 + k.val, by omega⟩) := by
  unfold V hostOps0 hostOps0_1 hostOps0_2 hostOps0_3 hostOps0_4
  simp only [List.flatten_cons, List.flatten_nil, List.append_nil, List.cons_append, List.nil_append]
  after_results_simp
  pointwise

theorem rates_entry (c : Dev nD) (s : Fin 8192) (k : Fin 128) :
    (V m c main_v9 : Vec Ideal S8192x128 .bf16) (ix2 s k) = if h : k.val < 16 then projArg m c (ix3 0 s ⟨5632 + k.val, by omega⟩) else 0 := by
  unfold V hostOps0 hostOps0_1 hostOps0_2 hostOps0_3 hostOps0_4
  simp only [List.flatten_cons, List.flatten_nil, List.append_nil, List.cons_append, List.nil_append]
  after_results_simp
  show (pad S8192x128 ![0, 0] ![0, 112] ![0, 0] (extractStridedSlice S8192x16 ![0, 5632]
    (shapeCast S8192x6672 (projArg m c) shapeCasts_S1x8192x6672_S8192x6672) slices_S8192x6672_S8192x16_0_5632)
    (sitofp (F := Ideal) .bf16 (constantI S_ 32 0#32)) pads_S8192x16_S8192x128_000_01120 h_S_) (ix2 s k) = _
  pointwise
  rw [zero_word]

theorem rateWeight_entry (c : Dev nD) (j : Fin 2048) (k : Fin 128) :
    (V m c main_v15 : Vec Ideal S2048x128 .bf16) (ix2 j k) = if h : k.val < 16 then weightArg m c (ix3 0 j ⟨5632 + k.val, by omega⟩) else 0 := by
  unfold V hostOps0 hostOps0_1 hostOps0_2 hostOps0_3 hostOps0_4
  simp only [List.flatten_cons, List.flatten_nil, List.append_nil, List.cons_append, List.nil_append]
  after_results_simp
  show (pad S2048x128 ![0, 0] ![0, 112] ![0, 0] (extractStridedSlice S2048x16 ![0, 5632]
    (shapeCast S2048x6672 (weightArg m c) shapeCasts_S1x2048x6672_S2048x6672) slices_S2048x6672_S2048x16_0_5632)
    (sitofp (F := Ideal) .bf16 (constantI S_ 32 0#32)) pads_S2048x16_S2048x128_000_01120 h_S_) (ix2 j k) = _
  pointwise
  rw [zero_word]

theorem weight_entry (c : Dev nD) (j : Fin 2048) (k : Fin 6656) :
    (V m c main_v13 : Vec Ideal S2048x6656 .bf16) (ix2 j k) = weightArg m c (ix3 0 j (place k)) := by
  unfold V hostOps0 hostOps0_1 hostOps0_2 hostOps0_3 hostOps0_4
  simp only [List.flatten_cons, List.flatten_nil, List.append_nil, List.cons_append, List.nil_append]
  after_results_simp
  pointwise
  after_results_simp
  pointwise
  unfold place
  by_cases h1 : k.val < 4096
  · rw [dif_pos h1, if_pos h1]
    exact congrArg (fun k => weightArg m c (ix3 0 j k)) (Fin.ext (by dsimp only; omega))
  rw [dif_neg h1, if_neg h1]
  by_cases h2 : k.val < 5632
  · rw [dif_pos (by omega), if_pos h2]
  · rw [dif_neg (by omega), if_neg h2]
    exact congrArg (fun k => weightArg m c (ix3 0 j k)) (Fin.ext (by dsimp only; omega))

theorem in_entry (c : Dev nD) (s : Fin 8192) (j : Fin 2048) :
    (V m c main_v16 : Vec Ideal S8192x2048 .f32) (ix2 s j) = inArg m c (ix3 0 s j) := by
  unfold V hostOps0 hostOps0_1 hostOps0_2 hostOps0_3 hostOps0_4
  simp only [List.flatten_cons, List.flatten_nil, List.append_nil, List.cons_append, List.nil_append]
  after_results_simp
  pointwise

theorem later_entry (c : Dev nD) (s : Fin 8192) (j : Fin 2048) :
    (V m c main_v17 : Vec Ideal S8192x2048 .f32) (ix2 s j) = laterArg m c (ix3 0 s j) := by
  unfold V hostOps0 hostOps0_1 hostOps0_2 hostOps0_3 hostOps0_4
  simp only [List.flatten_cons, List.flatten_nil, List.append_nil, List.cons_append, List.nil_append]
  after_results_simp
  pointwise

theorem gain_entry (c : Dev nD) (j : Fin 2048) :
    (V m c main_arg1 : Vec Ideal S1x2048 .f32) (ix2 0 j) = scaleArg m c (ix2 0 j) := by
  unfold V hostOps0 hostOps0_1 hostOps0_2 hostOps0_3 hostOps0_4
  simp only [List.flatten_cons, List.flatten_nil, List.append_nil, List.cons_append, List.nil_append]
  after_results_simp

theorem idx0 : ∀ t : Fin cfg0.N, (cfg0.win 0).index t = ![t.val, 0] := by decide +kernel
theorem idx1 : ∀ t : Fin cfg0.N, (cfg0.win 1).index t = ![t.val, 0] := by decide +kernel
theorem idx2 : ∀ t : Fin cfg0.N, (cfg0.win 2).index t = ![t.val, 0] := by decide +kernel
theorem idx3 : ∀ t : Fin cfg0.N, (cfg0.win 3).index t = ![t.val, 0] := by decide +kernel
theorem idx4 : ∀ t : Fin cfg0.N, (cfg0.win 4).index t = ![t.val, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![t.val, 0] := by decide +kernel
theorem idx8 : ∀ t : Fin cfg0.N, (cfg0.win 8).index t = ![t.val, 0] := by decide +kernel
theorem idx9 : ∀ t : Fin cfg0.N, (cfg0.win 9).index t = ![0, 0] := by decide +kernel
theorem idx10 : ∀ t : Fin cfg0.N, (cfg0.win 10).index t = ![t.val, 0] := by decide +kernel

abbrev lastPoint : Fin cfg0.N := ⟨31, by decide⟩

/-- Row `r` of point `t`'s tile is token `256 t + r`. -/
abbrev tokenAt (t : Fin cfg0.N) (r : Fin 256) : Fin 8192 := ⟨t.val * 256 + r.val, by have h : t.val < 32 := t.isLt; omega⟩

theorem qkv_block (c : Dev nD) (t : Fin cfg0.N) (r : Fin 256) (k : Fin 3072) :
    (iblk m c 0 t : Vec Ideal S256x3072 .bf16) (ix2 r k) = projArg m c (ix3 0 (tokenAt t r) ⟨1536 + k.val, by omega⟩) := by
  refine Eq.trans ?_ (qkv_entry m c (tokenAt t r) k)
  blk_ext [iblk, idx0 t]

theorem dz_block (c : Dev nD) (t : Fin cfg0.N) (r : Fin 256) (k : Fin 1024) :
    (iblk m c 1 t : Vec Ideal S256x1024 .bf16) (ix2 r k) = projArg m c (ix3 0 (tokenAt t r) ⟨4608 + k.val, by omega⟩) := by
  refine Eq.trans ?_ (dz_entry m c (tokenAt t r) k)
  blk_ext [iblk, idx1 t]

theorem front_block (c : Dev nD) (t : Fin cfg0.N) (r : Fin 256) (k : Fin 1536) :
    (iblk m c 2 t : Vec Ideal S256x1536 .bf16) (ix2 r k) = projArg m c (ix3 0 (tokenAt t r) ⟨k.val, by omega⟩) := by
  refine Eq.trans ?_ (front_entry m c (tokenAt t r) k)
  blk_ext [iblk, idx2 t]

theorem back_block (c : Dev nD) (t : Fin cfg0.N) (r : Fin 256) (k : Fin 1024) :
    (iblk m c 3 t : Vec Ideal S256x1024 .bf16) (ix2 r k) = projArg m c (ix3 0 (tokenAt t r) ⟨5648 + k.val, by omega⟩) := by
  refine Eq.trans ?_ (back_entry m c (tokenAt t r) k)
  blk_ext [iblk, idx3 t]

theorem rates_block (c : Dev nD) (t : Fin cfg0.N) (r : Fin 256) (k : Fin 128) :
    (iblk m c 4 t : Vec Ideal S256x128 .bf16) (ix2 r k) = if h : k.val < 16 then projArg m c (ix3 0 (tokenAt t r) ⟨5632 + k.val, by omega⟩) else 0 := by
  refine Eq.trans ?_ (rates_entry m c (tokenAt t r) k)
  blk_ext [iblk, idx4 t]

theorem in_block (c : Dev nD) (t : Fin cfg0.N) (r : Fin 256) (j : Fin 2048) :
    (iblk m c 7 t : Vec Ideal S256x2048 .f32) (ix2 r j) = inArg m c (ix3 0 (tokenAt t r) j) := by
  refine Eq.trans ?_ (in_entry m c (tokenAt t r) j)
  blk_ext [iblk, idx7 t]

theorem later_block (c : Dev nD) (t : Fin cfg0.N) (r : Fin 256) (j : Fin 2048) :
    (iblk m c 8 t : Vec Ideal S256x2048 .f32) (ix2 r j) = laterArg m c (ix3 0 (tokenAt t r) j) := by
  refine Eq.trans ?_ (later_entry m c (tokenAt t r) j)
  blk_ext [iblk, idx8 t]

theorem weight_block (c : Dev nD) (t : Fin cfg0.N) (j : Fin 2048) (k : Fin 6656) :
    (iblk m c 5 t : Vec Ideal S2048x6656 .bf16) (ix2 j k) = weightArg m c (ix3 0 j (place k)) := by
  refine Eq.trans ?_ (weight_entry m c j k)
  blk_ext [iblk, idx5 t]

theorem rateWeight_block (c : Dev nD) (t : Fin cfg0.N) (j : Fin 2048) (k : Fin 128) :
    (iblk m c 6 t : Vec Ideal S2048x128 .bf16) (ix2 j k) = if h : k.val < 16 then weightArg m c (ix3 0 j ⟨5632 + k.val, by omega⟩) else 0 := by
  refine Eq.trans ?_ (rateWeight_entry m c j k)
  blk_ext [iblk, idx6 t]

theorem gain_block (c : Dev nD) (t : Fin cfg0.N) : gain (iblk m c 9 t) = fun j => scaleArg m c (ix2 0 j) := by
  funext j
  show (iblk m c 9 t : Vec Ideal S1x2048 .f32) (ix2 0 j) = _
  refine Eq.trans ?_ (gain_entry m c j)
  blk_ext [iblk, idx9 t]

theorem in_row (c : Dev nD) (t : Fin cfg0.N) (r : Fin 256) : inRow (iblk m c 7 t) r = tokenRow (inArg m c) (tokenAt t r) :=
  funext fun j => in_block m c t r j

/-- The gradient at a row after its norm is that at its token. -/
theorem out_row (c : Dev nD) (t : Fin cfg0.N) (r : Fin 256) :
    outRow (iblk m c 0 t) (iblk m c 1 t) (iblk m c 2 t) (iblk m c 3 t) (iblk m c 4 t) (iblk m c 5 t) (iblk m c 6 t) r = outGradOf (weightArg m c) (projArg m c) (tokenAt t r) := by
  funext j
  unfold outRow outGradOf
  rw [← sum_strips]
  refine congrArg₂ (· + ·) (congrArg₂ (· + ·) (congrArg₂ (· + ·) (congrArg₂ (· + ·) ?_ ?_) ?_) ?_) ?_ <;>
    refine Finset.sum_congr rfl fun k _ => ?_
  · rw [rates_block, rateWeight_block]
    by_cases h : k.val < 16
    · rw [dif_pos h, dif_pos h, dif_pos h]
    · rw [dif_neg h, dif_neg h, dif_neg h, zero_mul]
  · have h := k.isLt
    rw [qkv_block, weight_block, place, if_pos (by dsimp only; omega)]
    exact congrArg (fun l => _ * weightArg m c (ix3 0 j l)) (Fin.ext (by dsimp only; omega))
  · have h := k.isLt
    rw [dz_block, weight_block, place, if_pos (by dsimp only; omega)]
    exact congrArg (fun l => _ * weightArg m c (ix3 0 j l)) (Fin.ext (by dsimp only; omega))
  · have h := k.isLt
    rw [front_block, weight_block, place, if_neg (by dsimp only; omega), if_pos (by dsimp only; omega)]
    exact congrArg (fun l => _ * weightArg m c (ix3 0 j l)) (Fin.ext (by dsimp only; omega))
  · have h := k.isLt
    rw [back_block, weight_block, place, if_neg (by dsimp only; omega), if_neg (by dsimp only; omega)]
    exact congrArg (fun l => _ * weightArg m c (ix3 0 j l)) (Fin.ext (by dsimp only; omega))

theorem in_out (c : Dev nD) (t : Fin cfg0.N) (r : Fin 256) (j : Fin 2048) :
    (outsAt0 m c t.val t.isLt).1 (ix2 r j) = inGrad (inArg m c) (scaleArg m c) (weightArg m c) (projArg m c) (laterArg m c) (ix2 (tokenAt t r) j) := by
  by_cases h0 : t.val % 32 = 0
  · rw [outsAt0_A m c t h0]
    dsimp only
    refine (first_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) r j).trans ?_
    rw [later_block, in_row, out_row, gain_block]
    rfl
  · rw [outsAt0_B m c t h0]
    dsimp only
    refine (later_row c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) _ (fun h => h0 ((hcond0_0 t).mp h)) r j).trans ?_
    rw [later_block, in_row, out_row, gain_block]
    rfl

theorem in_final (c : Dev nD) : (dats m 0 c).arrAt 10 cfg0.N = inGrad (inArg m c) (scaleArg m c) (weightArg m c) (projArg m c) (laterArg m c) := by
  refine (dats m 0 c).arrAt_eq_of_covers 10 _ (by decide +kernel) fun t hf y => ?_
  idx_vars y
  blk_simp
  rw [after0_10]
  have e : (win0_10.blk t).view.emb (ix2 y0 y1) = (ix2 (tokenAt t y0) y1 : S8192x2048.Idx) := by blk_ext [idx10 t]
  exact (in_out m c t y0 y1).trans (congrArg (inGrad (inArg m c) (scaleArg m c) (weightArg m c) (projArg m c) (laterArg m c)) e).symm

/-- What a tile adds to the gradient of the norm’s scale. -/
def gainTile (c : Dev nD) (t : Fin cfg0.N) : S1x2048.Idx → EReal := fun i => ∑ r : Fin 256, tokenGain (inArg m c) (weightArg m c) (projArg m c) (tokenAt t r) (i 1)

theorem gain_first (c : Dev nD) (t : Fin cfg0.N) (h0 : t.val % 32 = 0) (j : Fin 2048) : (outsAt0 m c t.val t.isLt).2 (ix2 0 j) = gainTile m c t (ix2 0 j) := by
  rw [outsAt0_A m c t h0]
  dsimp only
  refine (first_gain c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) j).trans ?_
  simp only [in_row, out_row]
  rfl

theorem gain_step (c : Dev nD) (t : Fin cfg0.N) (h0 : ¬t.val % 32 = 0) (j : Fin 2048) : (outsAt0 m c t.val t.isLt).2 (ix2 0 j)
      = (outsAt0 m c (t.val - 1) (Nat.lt_of_le_of_lt (Nat.sub_le _ _) t.isLt)).2 (ix2 0 j) + gainTile m c t (ix2 0 j) := by
  rw [outsAt0_B m c t h0]
  dsimp only
  refine (later_gain c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (iblk m c 9 t) _ (fun h => h0 ((hcond0_0 t).mp h)) j).trans ?_
  simp only [in_row, out_row]
  rfl

theorem gain_final (c : Dev nD) : (dats m 0 c).arrAt 11 cfg0.N = gainGrad (inArg m c) (weightArg m c) (projArg m c) := by
  refine (dats m 0 c).arrAt_eq_of_after_last 11 lastPoint (by decide +kernel) _ fun i => ?_
  blk_simp
  rw [after0_11]
  refine (Pipeline.eq_sum_fin_of_reset_step_apply_last (fun n h => (outsAt0 m c n h).2) 32 (fun _ => 0) (gainTile m c)
    (fun t h i => ?_) (fun t h i => ?_) (by decide) lastPoint rfl i).trans ?_
  · idx_vars i
    obtain rfl : i0 = 0 := Fin.ext (by omega)
    rw [zero_add]
    exact gain_first m c t h _
  · idx_vars i
    obtain rfl : i0 = 0 := Fin.ext (by omega)
    exact gain_step m c t h _
  · rw [zero_add]
    exact Fin.sum_mul_add_fin 32 256 (fun s : Fin 8192 => tokenGain (inArg m c) (weightArg m c) (projArg m c) s (i 1))

end Cert.InNormIdeal.Value

end
-- ==== Proof.InNormRef.lean ====
/-
  The gradient of the norm of a layer's input as the reference computes it by differentiating its own lines: its stages, element by
  element, and that at finite arguments they are the functions of `FinalRows`.
-/
module

public import proofs.«01_k».proof.Proof.Gen.InNormRefIdeal.Read
public import proofs.«01_k».proof.Proof.InNormArrays
public import proofs.«01_k».proof.Proof.FinalRef

@[expose] public section

set_option maxRecDepth 16384
set_option backward.proofsInPublic true

noncomputable section

namespace Cert.InNormRefIdeal.Read

open Cert.InNormRefIdeal Cert.LastNorm Cert.Extended Idealize.ShloMosaic Idealize.ShloMosaic.TcCoe Idealize.SL.Sem
open Cert.Gating (half minusHalf eps half_eq)
open Cert.InNormIdeal.Value (tokenRow outGradOf tokenGrad tokenGain inGrad gainGrad)
open Cert.FinalRefIdeal.Read (reduce_ends reduce_front)
open scoped BigOperators

variable (X : FVec Ideal S1x8192x2048 .f32) (G : FVec Ideal S1x2048 .f32) (W : FVec Ideal S1x2048x6672 .f32)
  (D : FVec Ideal S1x8192x6672 .f32) (E : FVec Ideal S1x8192x2048 .f32)

theorem var_stage (s : Fin 8192) (a : Fin 1) :
    val_main_v7 (F := Ideal) X (ix3 0 s a) = mean (fun j => tokenRow X s j * tokenRow X s j) + eps := by
  pointwise [val_main_v7, val_main_v6, val_main_v5, val_main_v4, val_main_v3, val_main_v2, val_main_v1, val_main_cst, val_main_cst_0, val_main_cst_1]
  rfl

theorem scale_stage (s : Fin 8192) (a : Fin 1) : val_main_v8 (F := Ideal) X (ix3 0 s a) = scale (tokenRow X s) := by
  pointwise [val_main_v8]
  rw [var_stage]
  rfl

theorem slope_stage (s : Fin 8192) (a : Fin 1) : val_main_v11 (F := Ideal) X (ix3 0 s a)
    = minusHalf * Ideal.div (scale (tokenRow X s)) (mean (fun j => tokenRow X s j * tokenRow X s j) + eps) := by
  pointwise [val_main_v11, val_main_v10, val_main_v9, val_main_cst_2]
  rw [scale_stage, var_stage]

theorem hat_stage (s : Fin 8192) (j : Fin 2048) : val_main_v13 (F := Ideal) X (ix3 0 s j) = hat (tokenRow X s) j := by
  pointwise [val_main_v13, val_main_v12]
  rw [scale_stage]
  rfl

theorem out_stage (s : Fin 8192) (j : Fin 2048) : val_main_v19 (F := Ideal) W D (ix3 0 s j) = outGradOf W D s j := by
  pointwise [val_main_v19, val_main_v17]
  rfl

theorem norm_stage (s : Fin 8192) (j : Fin 2048) : val_main_v24 (F := Ideal) G W D (ix3 0 s j) = outGradOf W D s j * G (ix2 0 j) := by
  pointwise [val_main_v24, val_main_v23, val_main_v14, val_main_v0]
  rw [out_stage]

theorem slopeSum_stage (s : Fin 8192) (j : Fin 2048) : val_main_v37 (F := Ideal) X G W D (ix3 0 s j)
    = Ideal.div ((∑ l, tokenRow X s l * (outGradOf W D s l * G (ix2 0 l)))
        * (minusHalf * Ideal.div (scale (tokenRow X s)) (mean (fun j => tokenRow X s j * tokenRow X s j) + eps))) width := by
  pointwise [val_main_v37, val_main_v36, val_main_v35, val_main_v34, val_main_v33, val_main_v32, val_main_v28, val_main_v27, val_main_v26, val_main_cst_3, val_main_cst_4, val_main_cst_5, val_main_cst_6, val_main_cst_7]
  refine (reduce_ends _ _ _ _).trans ?_
  rw [zero_add]
  pointwise []
  simp only [norm_stage, slope_stage]

section Finite

variable (hX : ∀ i, IsReal (X i)) (hG : ∀ i, IsReal (G i)) (hW : ∀ i, IsReal (W i)) (hD : ∀ i, IsReal (D i))
include hX hG hW hD

theorem grad_stage (s : Fin 8192) (j : Fin 2048) : val_main_v41 (F := Ideal) X G W D E (ix3 0 s j) = E (ix3 0 s j) + tokenGrad X G W D s j := by
  have hd : ∀ l : Fin 2048, IsReal (outGradOf W D s l * G (ix2 0 l)) := fun l => (IsReal.sum fun k => (hD _).mul (hW _)).mul (hG _)
  pointwise [val_main_v41, val_main_v40, val_main_v39, val_main_v38, val_main_v31, val_main_v30, val_main_v29]
  rw [norm_stage, scale_stage, slopeSum_stage, add_assoc, add_assoc, ← add_assoc (_ * scale _)]
  exact congrArg (E (ix3 0 s j) + ·) (normGrad_eq (f := tokenRow X s) (fun l => hX _) hd j _ rfl)

theorem in_result : val_main_v43 (F := Ideal) X G W D E = inGrad X G W D E := by
  funext i
  idx_vars i
  pointwise [val_main_v43]
  exact grad_stage X G W D E hX hG hW hD _ _

end Finite

theorem gain_result : val_main_v42 (F := Ideal) X W D = gainGrad X W D := by
  funext i
  idx_vars i
  pointwise [val_main_v42, val_main_v25, val_main_v22, val_main_v21, val_main_v20, val_main_cst_3, val_main_cst_4, val_main_cst_5, val_main_cst_6, val_main_cst_7]
  refine (reduce_front _ _ _ _).trans ?_
  rw [zero_add]
  pointwise []
  refine Finset.sum_congr rfl fun s _ => ?_
  rw [hat_stage, out_stage]
  exact mul_comm _ _

end Cert.InNormRefIdeal.Read

end
-- ==== Proof.InNormClaims.lean ====
/-
  The claims about the gradient of the norm of a layer's input (`InNorm`, its idealization and its reference).
-/
module

public import proofs.«01_k».proof.Defs
public import proofs.«01_k».proof.Proof.Gen.InNorm
public import proofs.«01_k».proof.Proof.Gen.InNorm.Frame
public import proofs.«01_k».proof.Proof.Gen.InNormIdeal
public import proofs.«01_k».proof.Proof.Gen.InNormRefIdeal
public import proofs.«01_k».proof.Proof.InNormRef
public import proofs.«01_k».proof.Proof.XattnClaims
public import Idealize.ShloMosaic.Lib.Quiescent

@[expose] public section

set_option maxRecDepth 16384
set_option backward.proofsInPublic true

noncomputable section

namespace Cert.Proof

open Idealize.ShloMosaic Idealize.ShloMosaic.TcCoe Idealize.SL.Sem Cert.Extended

/-- The shapes of the precondition's own operations fit. -/
theorem in_norm_finite_facts : Cert.Pre_in_norm_finite.Facts := by
  constructor <;> decide

/-- Where the precondition holds, every number of the first four arguments is real. -/
theorem in_norm_finite_real [Cert.Pre_in_norm_finite.Facts] (X : FVec Ideal Cert.Pre_in_norm_finite.S1x8192x2048 .f32) (G : FVec Ideal Cert.Pre_in_norm_finite.S1x2048 .f32)
    (W : FVec Ideal Cert.Pre_in_norm_finite.S1x2048x6672 .f32) (D : FVec Ideal Cert.Pre_in_norm_finite.S1x8192x6672 .f32) (E : FVec Ideal Cert.Pre_in_norm_finite.S1x8192x2048 .f32)
    (h : Cert.Pre_in_norm_finite.fn X G W D E = fun _ => 1#1) :
    (∀ i, IsReal (X i)) ∧ (∀ i, IsReal (G i)) ∧ (∀ i, IsReal (W i)) ∧ (∀ i, IsReal (D i)) := by
  have h0 := congrFun h (fun a => a.elim0)
  obtain ⟨h1, hd⟩ := andi_one _ _ h0
  obtain ⟨h2, hw⟩ := andi_one _ _ h1
  obtain ⟨hx, hg⟩ := andi_one _ _ h2
  refine ⟨fun i => ?_, fun i => ?_, fun i => ?_, fun i => ?_⟩ <;> refine isReal_of_abs_lt ?_ <;> rw [← ofBits_inf]
  · exact forall_of_reduce_andi _ _ _ _ _ hx i (funext fun x => x.elim0)
  · exact forall_of_reduce_andi _ _ _ _ _ hg i (funext fun x => x.elim0)
  · exact forall_of_reduce_andi _ _ _ _ _ hw i (funext fun x => x.elim0)
  · exact forall_of_reduce_andi _ _ _ _ _ hd i (funext fun x => x.elim0)

theorem in_norm_ref_quiescent : Cert.quiescent_InNormRefIdeal := fun m ρ _ =>
  (θ_run Cert.InNormRefIdeal.defs _ _).mono (fun r h => ⟨fun c => (h c).2.2, sem_eq_zero_of_no_sems (by decide) r.2⟩)
    (Cert.InNormRefIdeal.Value.run (F := Ideal) m ρ)

theorem in_norm_algebraic : Cert.algebraic_InNormIdeal_InNormRefIdeal_pre_in_norm_finite (hPre_in_norm_finite := in_norm_finite_facts) := by
  haveI := in_norm_finite_facts
  intro m g m' g' hfin hagree
  refine ⟨_, _, Cert.InNormIdeal.Value.run_blocks (F := Ideal) m g, ?_⟩
  refine (θ_run Cert.InNormRefIdeal.defs _ _).mono (fun r h c => ?_) (Cert.InNormRefIdeal.Value.run (F := Ideal) m' g')
  obtain ⟨h0, h1, h2, h3, h4⟩ := hagree c
  replace h0 : m' ((c.tc : Thread Cert.InNormRefIdeal.nD Cert.InNormRefIdeal.τ).loc Cert.InNormRefIdeal.main_arg0) = Cert.InNormIdeal.Value.inArg m c := h0
  replace h1 : m' ((c.tc : Thread Cert.InNormRefIdeal.nD Cert.InNormRefIdeal.τ).loc Cert.InNormRefIdeal.main_arg1) = Cert.InNormIdeal.Value.scaleArg m c := h1
  replace h2 : m' ((c.tc : Thread Cert.InNormRefIdeal.nD Cert.InNormRefIdeal.τ).loc Cert.InNormRefIdeal.main_arg2) = Cert.InNormIdeal.Value.weightArg m c := h2
  replace h3 : m' ((c.tc : Thread Cert.InNormRefIdeal.nD Cert.InNormRefIdeal.τ).loc Cert.InNormRefIdeal.main_arg3) = Cert.InNormIdeal.Value.projArg m c := h3
  replace h4 : m' ((c.tc : Thread Cert.InNormRefIdeal.nD Cert.InNormRefIdeal.τ).loc Cert.InNormRefIdeal.main_arg4) = Cert.InNormIdeal.Value.laterArg m c := h4
  obtain ⟨ho, hn, hargs⟩ := h c
  obtain ⟨rX, rG, rW, rD⟩ := in_norm_finite_real _ _ _ _ _ (hfin c)
  replace hn := hn.trans (Cert.InNormRefIdeal.Read.val_main_v42_eq (F := Ideal) (m' ((c.tc : Thread Cert.InNormRefIdeal.nD Cert.InNormRefIdeal.τ).loc Cert.InNormRefIdeal.main_arg0)) (m' ((c.tc : Thread Cert.InNormRefIdeal.nD Cert.InNormRefIdeal.τ).loc Cert.InNormRefIdeal.main_arg2)) (m' ((c.tc : Thread Cert.InNormRefIdeal.nD Cert.InNormRefIdeal.τ).loc Cert.InNormRefIdeal.main_arg3)))
  refine ⟨ho.trans ((Cert.InNormRefIdeal.Read.val_main_v43_eq m' c).trans ?_), hn.trans ?_, hargs⟩
  · rw [Cert.InNormIdeal.Value.in_final m c, h0, h1, h2, h3, h4]
    exact Cert.InNormRefIdeal.Read.in_result _ _ _ _ _ rX rG rW rD
  · rw [Cert.InNormIdeal.Value.gain_final m c, h0, h2, h3]
    exact Cert.InNormRefIdeal.Read.gain_result _ _ _

end Cert.Proof

end
-- ==== Proof.XattnFwdValue.lean ====
/-
  The memory cross-attention, forward (`xattn_fwd`): the kernel's result array, element by element, as a function of its two
  arguments, and that it is what the reference's lines give. The body treats the four heads one after the other in the same
  operations, so what is read of the first head's payload holds of the others'.
-/
module

public import proofs.«01_k».proof.Proof.Gen.XattnFwdIdeal.Value
public import proofs.«01_k».proof.Proof.Gen.XattnFwdRefIdeal.Read
public import proofs.«01_k».proof.Proof.XattnRef

@[expose] public section

set_option maxRecDepth 16384
set_option backward.proofsInPublic true

noncomputable section

namespace Cert.Attend

open Idealize.ShloMosaic
open scoped BigOperators

/-- The gated output of a query row. -/
def attended (q z : Fin 128 → EReal) (k v : Fin 256 → Fin 128 → EReal) (l : Fin 128) : EReal :=
  (∑ j, prob (score q k) j * v j l) * gate (z l)

end Cert.Attend

namespace Cert.XattnFwdIdeal.Value

open Cert.XattnFwdIdeal Cert.XattnFwdIdeal.Gen Cert.Attend Idealize.ShloMosaic Idealize.ShloMosaic.TcCoe Idealize.SL.Sem
open Cert.XattnIdeal.Value (slab row cols keys vals row_slab row_keys row_vals queryOf gateOf keyOf valOf)
open Idealize.ShloMosaic.Pipeline (Dat)
open scoped BigOperators

/-- One head's stored payload. -/
theorem head_apply (q z : Vec Ideal S512x128 .f32) (k v : Vec Ideal S256x128 .f32) (r : Fin 512) (l : Fin 128) :
    k0_pay2 q k v z (ix2 r l) = attended (row q r) (row z r) (row k) (row v) l := by
  pointwise [k0_pay2]
  rfl

variable (x0 x1 : Vec Ideal S512x512 .f32) (x2 : Vec Ideal S256x1024 .f32)

/-- The payload of the head whose columns begin at `o`. -/
theorem head_piece (o p : ℕ) (i0 i1 i2 i3) (h : Fin 4) (ho : o = 128 * h.val) (hp : p = 512 + 128 * h.val) (x : S512x128.Idx)
    (r : Fin 512) (l : Fin 128) (hr : r.val = (x 0).val) (hl : l.val = (x 1).val) :
    k0_pay2 (slab x0 o i0) (slab x2 o i2) (slab x2 p i3) (slab x1 o i1) x
      = attended (cols x0 r h) (cols x1 r h) (keys x2 h) (vals x2 h) l := by
  have e : x = ix2 r l := by funext a; fin_cases a <;> apply Fin.ext <;> simp [hr, hl]
  rw [e, head_apply, row_slab x0 o i0 h ho, row_slab x1 o i1 h ho, row_keys x2 o i2 h ho, row_vals x2 p i3 h hp]

theorem block_apply (y : S512x512.Idx) (r : Fin 512) (h : Fin 4) (l : Fin 128) (hr : r.val = (y 0).val)
    (hy : (y 1).val = 128 * h.val + l.val) :
    out0_3 x0 x1 x2 y = attended (cols x0 r h) (cols x1 r h) (keys x2 h) (vals x2 h) l := by
  have hl := l.isLt
  have hh := h.isLt
  unfold out0_3
  canon_tiles x hx
  all_goals first
    | (exfalso; omega)
    | (have e : 0 = 128 * h.val := by omega
       exact (head_piece x0 x1 x2 0 512 (by decide) (by decide) (by decide) (by decide) h e (by omega) x r l (by omega) (by omega)))
    | (have e : 128 = 128 * h.val := by omega
       exact (head_piece x0 x1 x2 128 640 (by decide) (by decide) (by decide) (by decide) h e (by omega) x r l (by omega) (by omega)))
    | (have e : 256 = 128 * h.val := by omega
       exact (head_piece x0 x1 x2 256 768 (by decide) (by decide) (by decide) (by decide) h e (by omega) x r l (by omega) (by omega)))
    | (have e : 384 = 128 * h.val := by omega
       exact (head_piece x0 x1 x2 384 896 (by decide) (by decide) (by decide) (by decide) h e (by omega) x r l (by omega) (by omega)))

section Arguments

variable (P : Vec Ideal S1x8192x6672 .f32) (K : Vec Ideal S1x256x1024 .f32)

/-- The head and the lane of a column of the result. -/
def headOf (a : Fin 512) : Fin 4 := ⟨a.val / 128, by omega⟩
def laneOf (a : Fin 512) : Fin 128 := ⟨a.val % 128, by omega⟩

theorem head_lane (a : Fin 512) : a.val = 128 * (headOf a).val + (laneOf a).val := by
  simp only [headOf, laneOf]; omega

/-- The gated attention of token `s` in column `a`. -/
def outAt (s : Fin 8192) (a : Fin 512) : EReal :=
  attended (queryOf P s (headOf a)) (gateOf P s (headOf a)) (keyOf K (headOf a)) (valOf K (headOf a)) (laneOf a)

/-- The whole result. -/
def outGrid : Vec Ideal S8192x512 .bf16 := fun i => outAt P K (i 0) (i 1)

end Arguments

variable (m : (ℓ : Loc nD τ sig) → Buf (Elt Ideal) ℓ)

/-- The two arguments of a device. -/
abbrev projArg (c : Dev nD) : Vec Ideal S1x8192x6672 .f32 := m ((c : Thread nD τ).loc main_arg0)
abbrev kvArg (c : Dev nD) : Vec Ideal S1x256x1024 .f32 := m ((c : Thread nD τ).loc main_arg1)

theorem proj_entry (c : Dev nD) (s : Fin 8192) (a : Fin 1024) :
    (V m c main_v4 : Vec Ideal S8192x6656 .f32) (ix2 s ⟨5632 + a.val, by omega⟩) = projArg m c (ix3 0 s ⟨5648 + a.val, by omega⟩) := by
  unfold V hostOps0
  after_results_simp
  pointwise
  rw [dif_neg (by omega), dif_neg (by omega)]
  after_results_simp
  pointwise
  blk_ext

theorem kv_entry (c : Dev nD) (s : Fin 256) (a : Fin 1024) :
    (V m c main_v5 : Vec Ideal S256x1024 .f32) (ix2 s a) = kvArg m c (ix3 0 s a) := by
  unfold V hostOps0
  after_results_simp
  pointwise

theorem idx0 : ∀ t : Fin cfg0.N, (cfg0.win 0).index t = ![t.val, 11] := by decide +kernel
theorem idx1 : ∀ t : Fin cfg0.N, (cfg0.win 1).index t = ![t.val, 12] := by decide +kernel
theorem idx2 : ∀ t : Fin cfg0.N, (cfg0.win 2).index t = ![0, 0] := by decide +kernel
theorem idx3 : ∀ t : Fin cfg0.N, (cfg0.win 3).index t = ![t.val, 0] := by decide +kernel

/-- Row `r` of point `t`'s tile is token `512 t + r`. -/
abbrev tok (t : Fin cfg0.N) (r : Fin 512) : Fin 8192 := ⟨t.val * 512 + r.val, by have h : t.val < 16 := t.isLt; omega⟩

theorem block0 (c : Dev nD) (t : Fin cfg0.N) (r : Fin 512) (a : Fin 512) :
    (iblk m c 0 t : Vec Ideal S512x512 .f32) (ix2 r a) = (V m c main_v4 : Vec Ideal S8192x6656 .f32) (ix2 (tok t r) ⟨5632 + (⟨a.val, by omega⟩ : Fin 1024).val, by omega⟩) := by
  blk_ext [iblk, idx0 t]

theorem block1 (c : Dev nD) (t : Fin cfg0.N) (r : Fin 512) (a : Fin 512) :
    (iblk m c 1 t : Vec Ideal S512x512 .f32) (ix2 r a) = (V m c main_v4 : Vec Ideal S8192x6656 .f32) (ix2 (tok t r) ⟨5632 + (⟨512 + a.val, by omega⟩ : Fin 1024).val, by omega⟩) := by
  blk_ext [iblk, idx1 t]

theorem block2 (c : Dev nD) (t : Fin cfg0.N) (r : Fin 256) (a : Fin 1024) :
    (iblk m c 2 t : Vec Ideal S256x1024 .f32) (ix2 r a) = (V m c main_v5 : Vec Ideal S256x1024 .f32) (ix2 r a) := by
  blk_ext [iblk, idx2 t]

theorem queries_block (c : Dev nD) (t : Fin cfg0.N) (r : Fin 512) (h : Fin 4) : cols (iblk m c 0 t) r h = queryOf (projArg m c) (tok t r) h :=
  funext fun l => (block0 m c t r _).trans (proj_entry m c _ _)

theorem gates_block (c : Dev nD) (t : Fin cfg0.N) (r : Fin 512) (h : Fin 4) : cols (iblk m c 1 t) r h = gateOf (projArg m c) (tok t r) h := by
  funext l
  refine (block1 m c t r _).trans ((proj_entry m c _ _).trans ?_)
  blk_ext

theorem keys_block (c : Dev nD) (t : Fin cfg0.N) (h : Fin 4) : keys (iblk m c 2 t) h = keyOf (kvArg m c) h :=
  funext fun j => funext fun l => (block2 m c t j _).trans (kv_entry m c j _)

theorem vals_block (c : Dev nD) (t : Fin cfg0.N) (h : Fin 4) : vals (iblk m c 2 t) h = valOf (kvArg m c) h :=
  funext fun j => funext fun l => (block2 m c t j _).trans (kv_entry m c j _)

/-- The result array after the whole grid. -/
theorem out_final (c : Dev nD) : (dats m 0 c).arrAt 3 cfg0.N = outGrid (projArg m c) (kvArg m c) := by
  refine (dats m 0 c).arrAt_eq_of_covers 3 _ (by decide +kernel) fun t hf y => ?_
  idx_vars y
  blk_simp
  rw [after0_3]
  have e : (win0_3.blk t).view.emb (ix2 y0 y1) = (ix2 (tok t y0) y1 : S8192x512.Idx) := by blk_ext [idx3 t]
  refine (block_apply (iblk m c 0 t) (iblk m c 1 t) (iblk m c 2 t) (ix2 y0 y1) y0 (headOf y1) (laneOf y1) rfl (head_lane y1)).trans ?_
  rw [queries_block, gates_block, keys_block, vals_block]
  exact (congrArg (outGrid (projArg m c) (kvArg m c)) e).symm

end Cert.XattnFwdIdeal.Value

namespace Cert.XattnFwdRefIdeal.Read

open Cert.XattnFwdRefIdeal Cert.Attend Idealize.ShloMosaic Idealize.ShloMosaic.TcCoe Idealize.SL.Sem
open Cert.XattnIdeal.Value (queryOf gateOf keyOf valOf)
open Cert.XattnFwdIdeal.Value (headOf laneOf head_lane outAt outGrid)
open Cert.XattnRefIdeal.Read (reduce_last)
open Cert.Extended
open scoped BigOperators

variable (P : FVec Ideal S1x8192x6672 .f32) (K : FVec Ideal S1x256x1024 .f32)

theorem score_stage (h : Fin 4) (s : Fin 8192) (j : Fin 256) :
    val_main_v12 (F := Ideal) P K (ix3 h s j) = score (queryOf P s h) (keyOf K h) j := by
  pointwise [val_main_v12, val_main_v11, val_main_cst, val_main_v10, val_main_v9, val_main_v7, val_main_v5, val_main_v3, val_main_v2, val_main_v1, val_main_v0]
  simp only [Nat.mul_comm (h : ℕ) 128]
  rfl

theorem top_stage (h : Fin 4) (s : Fin 8192) :
    val_main_v15 (F := Ideal) P K (ix2 h s) = top (score (queryOf P s h) (keyOf K h)) := by
  rw [← funext (score_stage P K h s), val_main_v15_apply]
  unfold val_main_v13
  generalize val_main_v12 (F := Ideal) P K = X
  rw [reduce_last _ X _ _ (by decide) _ h s]
  have e : val_main_v14 (F := Ideal) (ix2 h s) = ⊥ := ofBits_neg_inf
  rw [e]
  exact max_bot_left _

theorem prob_stage (h : Fin 4) (s : Fin 8192) (j : Fin 256) :
    val_main_v23 (F := Ideal) P K (ix3 h s j) = prob (score (queryOf P s h) (keyOf K h)) j := by
  simp only [prob, mass, weight, ← top_stage, ← score_stage]
  unfold val_main_v23 val_main_v22 val_main_v21 val_main_v20 val_main_v19 val_main_v18 val_main_v17 val_main_v16
  generalize val_main_v12 (F := Ideal) P K = X
  generalize val_main_v15 (F := Ideal) P K = Y
  pointwise [val_main_cst_2]

theorem out_stage (s : Fin 8192) (h : Fin 4) (l : Fin 128) :
    val_main_v29 (F := Ideal) P K (ix2 s ⟨128 * h.val + l.val, by omega⟩)
      = attended (queryOf P s h) (gateOf P s h) (keyOf K h) (valOf K h) l := by
  unfold val_main_v29 val_main_v28 val_main_v26 val_main_v25 val_main_v24
  simp only [attended, ← prob_stage]
  generalize val_main_v23 (F := Ideal) P K = X
  pointwise [val_main_v8, val_main_v6, val_main_v2, val_main_v27, val_main_call0_v5, val_main_call0_v4, val_main_call0_v3, val_main_call0_cst, val_main_call0_v2, val_main_call0_cst_0, val_main_call0_v1, val_main_call0_v0, val_main_v4, val_main_v1, val_main_v0]
  have e1 : (128 * h.val + l.val) / 128 = h.val := by omega
  have e2 : (128 * h.val + l.val) % 128 = l.val := by omega
  simp only [e1, e2, valOf, Nat.mul_comm (h : ℕ) 128, Nat.add_assoc]
  refine congrArg₂ (· * ·) (Finset.sum_congr rfl fun j _ => mul_comm _ _) ?_
  simp only [gate, gateOf, ← Nat.add_assoc]
  rfl

/-- The reference's result is the same function. -/
theorem out_eq : val_main_v29 (F := Ideal) P K = outGrid P K := by
  funext i
  idx_vars i
  have e : i1 = ⟨128 * (headOf i1).val + (laneOf i1).val, by omega⟩ := Fin.ext (head_lane i1)
  exact (congrArg (fun a => val_main_v29 (F := Ideal) P K (ix2 i0 a)) e).trans (out_stage P K i0 _ _)

end Cert.XattnFwdRefIdeal.Read

end
-- ==== Proof.XattnFwdClaims.lean ====
/-
  The claims of the memory cross-attention, forward (`xattn_fwd`): the kernel's array and the reference's are one function of the
  two arguments, at every value.
-/
module

public import proofs.«01_k».proof.Defs
public import proofs.«01_k».proof.Proof.Gen.XattnFwd
public import proofs.«01_k».proof.Proof.Gen.XattnFwd.Frame
public import proofs.«01_k».proof.Proof.Gen.XattnFwdIdeal
public import proofs.«01_k».proof.Proof.Gen.XattnFwdRefIdeal
public import proofs.«01_k».proof.Proof.XattnFwdValue
public import Idealize.ShloMosaic.Lib.Quiescent

@[expose] public section

set_option maxRecDepth 16384

noncomputable section

namespace Cert.Proof

open Idealize.ShloMosaic Idealize.SL.Sem

theorem xattn_fwd_ref_quiescent : Cert.quiescent_XattnFwdRefIdeal := fun m ρ _ =>
  (θ_run Cert.XattnFwdRefIdeal.defs _ _).mono (fun r h => ⟨fun c => (h c).2, sem_eq_zero_of_no_sems (by decide) r.2⟩)
    (Cert.XattnFwdRefIdeal.Value.run (F := Ideal) m ρ)

theorem xattn_fwd_algebraic : Cert.algebraic_XattnFwdIdeal_XattnFwdRefIdeal := by
  intro m g m' g' _ hagree
  refine ⟨_, Cert.XattnFwdIdeal.Value.run_blocks (F := Ideal) m g, ?_⟩
  refine (θ_run Cert.XattnFwdRefIdeal.defs _ _).mono (fun r h c => ?_) (Cert.XattnFwdRefIdeal.Value.run (F := Ideal) m' g')
  obtain ⟨h0, h1⟩ := hagree c
  obtain ⟨hw, hargs⟩ := h c
  rw [Cert.XattnFwdRefIdeal.Read.val_main_v29_eq, h0, h1, Cert.XattnFwdRefIdeal.Read.out_eq] at hw
  exact ⟨hw.trans (Cert.XattnFwdIdeal.Value.out_final m c).symm, hargs⟩

end Cert.Proof

end
-- ==== Proof.MemKvFwdClaims.lean ====
/-
  The memory tokens' norm and projection, forward (`memkv_fwd`): what the kernel's one point leaves in its result array, that it
  is what the reference's lines give, and the claims.
-/
module

public import proofs.«01_k».proof.Defs
public import proofs.«01_k».proof.Proof.Gen.MemKvFwd
public import proofs.«01_k».proof.Proof.Gen.MemKvFwd.Frame
public import proofs.«01_k».proof.Proof.Gen.MemKvFwdIdeal
public import proofs.«01_k».proof.Proof.Gen.MemKvFwdIdeal.Value
public import proofs.«01_k».proof.Proof.Gen.MemKvFwdRefIdeal
public import proofs.«01_k».proof.Proof.Gen.MemKvFwdRefIdeal.Read
public import Idealize.ShloMosaic.Lib.Pointwise
public import Idealize.ShloMosaic.Lib.Quiescent

@[expose] public section

set_option maxRecDepth 16384

noncomputable section

namespace Cert.MemKvFwdIdeal.Value

open Cert.MemKvFwdIdeal Cert.MemKvFwdIdeal.Gen Idealize.ShloMosaic Idealize.ShloMosaic.TcCoe Idealize.SL.Sem
open Idealize.ShloMosaic.Pipeline (Dat)

variable (m : (ℓ : Loc nD τ sig) → Buf (Elt Ideal) ℓ)

open Cert.MemKvFwdRefIdeal.Read in
/-- The kernel's product is the reference's. -/
theorem product_eq (mem : Vec Ideal S1x256x2048 .f32) (g : Vec Ideal S1x2048 .f32) (w : Vec Ideal S1x2048x1024 .f32) :
    out0_3 (shapeCast S256x2048 mem shapeCasts_S1x256x2048_S256x2048) g
        (truncf (F := Ideal) .bf16 (shapeCast S2048x1024 w shapeCasts_S1x2048x1024_S2048x1024) bitsLt_bf16_f32)
      = val_main_v16 mem g w := by
  funext j
  idx_vars j
  unfold out0_3
  rw [View.canon_unit_zero (funext fun a => by fin_cases a <;> rfl)]
  pointwise [k0_pay1, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1]

theorem tokens_entry (c : Dev nD) : V m c main_v0 = shapeCast S256x2048 (m ((c : Thread nD τ).loc main_arg0)) shapeCasts_S1x256x2048_S256x2048 := by
  unfold V hostOps0
  after_results_simp <;> rfl

theorem weight_entry (c : Dev nD) :
    V m c main_v2 = truncf (F := Ideal) .bf16 (shapeCast S2048x1024 (m ((c : Thread nD τ).loc main_arg2) : Vec Ideal S1x2048x1024 .f32) shapeCasts_S1x2048x1024_S2048x1024) bitsLt_bf16_f32 := by
  unfold V hostOps0
  after_results_simp <;> rfl

theorem product_final (c : Dev nD) : (dats m 0 c).arrAt 3 cfg0.N
    = Cert.MemKvFwdRefIdeal.Read.val_main_v16 (m ((c : Thread nD τ).loc main_arg0)) (m ((c : Thread nD τ).loc main_arg1)) (m ((c : Thread nD τ).loc main_arg2)) := by
  refine Eq.trans ?_ (Eq.trans (blocks3 m c t0_0 (flush0_3 _)) ?_)
  · exact (Memref.read_access_unit_zero (Elt Ideal) main_v3 (funext fun a => Nat.zero_mul _) (fun a => by simp) _).symm
  rw [flushed3, ← product_eq, ← tokens_entry, ← weight_entry, ← V_main_arg1 m c]
  refine congrArg _ (congr (congr (congrArg out0_3 ?_) ?_) ?_)
  · exact Memref.read_access_unit_zero (Elt Ideal) main_v0 (funext fun a => Nat.zero_mul _) (fun a => by simp) _
  · exact Memref.read_access_unit_zero (Elt Ideal) main_arg1 (funext fun a => Nat.zero_mul _) (fun a => by simp) _
  · exact Memref.read_access_unit_zero (Elt Ideal) main_v2 (funext fun a => Nat.zero_mul _) (fun a => by simp) _

end Cert.MemKvFwdIdeal.Value

namespace Cert.Proof

open Idealize.ShloMosaic Idealize.SL.Sem

theorem memkv_fwd_ref_quiescent : Cert.quiescent_MemKvFwdRefIdeal := fun m ρ _ =>
  (θ_run Cert.MemKvFwdRefIdeal.defs _ _).mono (fun r h => ⟨fun c => (h c).2, sem_eq_zero_of_no_sems (by decide) r.2⟩)
    (Cert.MemKvFwdRefIdeal.Value.run (F := Ideal) m ρ)

theorem memkv_fwd_algebraic : Cert.algebraic_MemKvFwdIdeal_MemKvFwdRefIdeal := by
  intro m g m' g' _ hagree
  refine ⟨_, Cert.MemKvFwdIdeal.Value.run_blocks (F := Ideal) m g, ?_⟩
  refine (θ_run Cert.MemKvFwdRefIdeal.defs _ _).mono (fun r h c => ?_) (Cert.MemKvFwdRefIdeal.Value.run (F := Ideal) m' g')
  obtain ⟨h0, h1, h2⟩ := hagree c
  obtain ⟨hw, hargs⟩ := h c
  rw [Cert.MemKvFwdRefIdeal.Read.val_main_v16_eq, h0, h1, h2] at hw
  exact ⟨hw.trans (Cert.MemKvFwdIdeal.Value.product_final m c).symm, hargs⟩

end Cert.Proof

end
-- ==== Proof.GmlpFwdValue.lean ====
/-
  The spatial gating, forward (`gmlp_fwd`): the kernel's result array, element by element, as a function of its five arguments.
  The body treats the sixteen pairs of a channel group and a chunk of 128 tokens in the same operations.
-/
module

public import proofs.«01_k».proof.Proof.Gen.GmlpFwdIdeal.Value
public import proofs.«01_k».proof.Proof.GmlpRef

@[expose] public section

set_option maxRecDepth 16384
set_option backward.proofsInPublic true

noncomputable section

namespace Cert.Gating

open Idealize.ShloMosaic
open scoped BigOperators

/-- The gated result of a chunk. -/
def gated (p : Params) (k : Chunk) (t : Fin 128) (j : Fin 512) : EReal := gelu (k.u t j) * mixed p k t j * gate (k.z t j)

/-- The activation with its factor one half inside, and with `x ^ 3` formed first, at every value. -/
theorem gelu_forward (x : EReal) : x * (half * (1 + Ideal.tanh (root * (x + cubic * (x * x * x))))) = gelu x := by
  have e : cubic * (x * x * x) = cubic * x * x * x := by simp only [mul_assoc]
  rw [e, gelu, bend, ← mul_assoc, mul_comm x half]

end Cert.Gating

namespace Cert.GmlpFwdIdeal.Value

open Cert.GmlpFwdIdeal Cert.GmlpFwdIdeal.Gen Cert.Gating Idealize.ShloMosaic Idealize.ShloMosaic.TcCoe Idealize.SL.Sem
open Cert.GmlpIdeal.Value (tile tok params inTile inMix inBias slices at_ at_apply group_lane pair_eq token paramsOf chunkIx placeIx)
open Idealize.ShloMosaic.Pipeline (Dat)
open scoped BigOperators

theorem named_cubic : (Named.named κ "gelu_cubic" 0x3D372713#32 : Ideal .f32) = cubic := rfl

/-- Chunk `q` of a point's blocks. -/
abbrev chunk (x0 x1 x2 : Vec Ideal S512x512 .f32) (q : Fin 4) : Chunk where
  u s j := x0 (ix2 (tok q s) j)
  v s j := x1 (ix2 (tok q s) j)
  z s j := x2 (ix2 (tok q s) j)
  d _ _ := 0

section Piece

variable (u z n : Vec Ideal S128x128 .f32) (w : FVec Ideal S128x128 .bf16) (b : Vec Ideal S128x1 .f32) (t s l : Fin 128)

theorem normed_at (x1 : Vec Ideal S512x512 .f32) (x3 x4 : Vec Ideal S1x512 .f32) (r j : Fin 512) :
    k0_pay2 (F := Ideal) x1 x3 x4 (ix2 r j) = hat (fun j => gelu (x1 (ix2 r j))) j * x3 (ix2 0 j) + x4 (ix2 0 j) := by
  pointwise [k0_pay2, named_cubic]
  rfl

theorem weights_at (W : Vec Ideal S1x128x128 .f32) :
    k0_pay4 (F := Ideal) k0_pay3 W (ix2 t s) = if s ≤ t then W (ix3 0 t s) else 0 := by
  have ht := t.isLt
  have hs := s.isLt
  pointwise [k0_pay4, k0_pay3]
  rw [WordCmp.cmpi_sge_ofNat (by omega) (by omega)]
  by_cases h : s ≤ t
  · rw [if_pos h]
    have : (s : ℕ) ≤ t := h
    simp [this, Scalar.select]
  · rw [if_neg h]
    have : ¬(s : ℕ) ≤ t := h
    simp [this, Scalar.select]

/-- The mixed tokens of a tile, and its gated result. -/
abbrev mixedPay : FVec Ideal S128x128 .f32 :=
  addf (matmul dot_S128x128_S128x128_S128x128_1_0_0_1_n_n none w (truncf .bf16 n bitsLt_bf16_f32) (constant S128x128 .f32 0x00000000#32))
    (broadcastTo S128x128 (k0_pay5 b) broadcasts_S128x1_S128x128)

theorem mixed_at : mixedPay n w b (ix2 t l) = (∑ s, w (ix2 t s) * n (ix2 s l)) + b (ix2 t 0) := by
  pointwise [k0_pay5]

abbrev gatedPay (m : FVec Ideal S128x128 .f32) : FVec Ideal S128x128 .bf16 := k0_pay9 m (k0_pay8 u) half z

theorem gated_at (m : FVec Ideal S128x128 .f32) : gatedPay u z m (ix2 t l) = gelu (u (ix2 t l)) * m (ix2 t l) * gate (z (ix2 t l)) := by
  pointwise [k0_pay9, k0_pay8, named_cubic]
  rfl

end Piece

section Tile

variable (x0 x1 x2 : Vec Ideal S512x512 .f32) (x3 x4 : Vec Ideal S1x512 .f32) (x5 : Vec Ideal S4x128x128 .f32) (x6 : Vec Ideal S128x4 .f32)
variable (q g : Fin 4)

abbrev normedTile : Vec Ideal S128x128 .f32 :=
  extractStridedSlice S128x128 ![128 * q.val, 128 * g.val] (k0_pay2 (F := Ideal) x1 x3 x4) (slices q g)
abbrev weightTile : FVec Ideal S128x128 .bf16 :=
  k0_pay4 k0_pay3 (View.ld x5 (Rect.unit (s := S4x128x128) ![g.val, 0, 0] ![1, 128, 128] (inMix g)))
abbrev biasTile : Vec Ideal S128x1 .f32 := View.ld x6 (Rect.unit (s := S128x4) ![0, g.val] ![128, 1] (inBias g))
abbrev mixedTile : FVec Ideal S128x128 .f32 := mixedPay (normedTile x1 x3 x4 q g) (weightTile x5 g) (biasTile x6 g)

theorem normedTile_apply (s l : Fin 128) :
    normedTile x1 x3 x4 q g (ix2 s l) = normed (params x3 x4 x5 x6) (chunk x0 x1 x2 q) s (lane g l) := by
  refine Eq.trans (b := k0_pay2 (F := Ideal) x1 x3 x4 (ix2 (tok q s) (lane g l))) ?_ (normed_at x1 x3 x4 _ _)
  pointwise

theorem weightTile_apply (t s : Fin 128) : weightTile x5 g (ix2 t s) = (params x3 x4 x5 x6).causal g t s := by
  refine (weights_at t s _).trans ?_
  unfold Params.causal
  congr 1
  exact View.ld_unit_apply_of x5 _ _ (inMix g) _ (ix3 g t s) fun a => by
    fin_cases a
    · rfl
    · exact (Nat.zero_add _).symm
    · exact (Nat.zero_add _).symm

theorem biasTile_apply (t : Fin 128) (a : Fin 1) : biasTile x6 g (ix2 t a) = x6 (ix2 t g) :=
  View.ld_unit_apply_of x6 _ _ (inBias g) _ (ix2 t g) fun b => by
    fin_cases b
    · exact (Nat.zero_add _).symm
    · show g.val = g.val + a.val
      omega

theorem mixedTile_apply (t l : Fin 128) :
    mixedTile x1 x3 x4 x5 x6 q g (ix2 t l) = mixed (params x3 x4 x5 x6) (chunk x0 x1 x2 q) t (lane g l) := by
  refine (mixed_at _ _ _ t l).trans ?_
  rw [biasTile_apply, mixed, group_lane]
  refine congrArg (· + _) (Finset.sum_congr rfl fun s _ => ?_)
  rw [weightTile_apply x3 x4 x5 x6 g t s, normedTile_apply x0 x1 x2 x3 x4 x5 x6]

variable (x : S128x128.Idx) (t l : Fin 128)

theorem piece (ht : t.val = (x 0).val) (hl : l.val = (x 1).val) :
    gatedPay (at_ q g x0) (at_ q g x2) (mixedTile x1 x3 x4 x5 x6 q g) x = gated (params x3 x4 x5 x6) (chunk x0 x1 x2 q) t (lane g l) := by
  rw [pair_eq x t l ht hl]
  refine (gated_at _ _ t l _).trans ?_
  rw [at_apply, at_apply, mixedTile_apply x0 x1 x2]
  rfl

set_option maxHeartbeats 1600000 in
theorem block_apply (y : S512x512.Idx) (ht : (y 0).val = 128 * q.val + t.val) (hl : (y 1).val = 128 * g.val + l.val) :
    out0_7 x0 x1 x2 x3 x4 x5 x6 y = gated (params x3 x4 x5 x6) (chunk x0 x1 x2 q) t (lane g l) := by
  have h1 := t.isLt
  have h2 := l.isLt
  have h3 := q.isLt
  have h4 := g.isLt
  unfold_out out0_7
  have hz : (![0, 0] : Fin 2 → ℕ) = fun _ => 0 := funext fun a => by fin_cases a <;> rfl
  rw [View.ld_unit_zero (S := S512x512) hz _ x1, View.ld_unit_zero (S := S1x512) hz _ x3, View.ld_unit_zero (S := S1x512) hz _ x4]
  canon_tiles x hx using (View.cover_of_tiledBy _ ![128, 128] (by sl_kernel_rfl) y)
  all_goals try (exfalso; omega)
  all_goals first
    | (have e : q.val = 0 ∧ g.val = 0 := by omega
       obtain rfl : q = 0 := Fin.ext e.1
       obtain rfl : g = 0 := Fin.ext e.2
       exact piece x0 x1 x2 x3 x4 x5 x6 0 0 x t l (by omega) (by omega))
    | (have e : q.val = 0 ∧ g.val = 1 := by omega
       obtain rfl : q = 0 := Fin.ext e.1
       obtain rfl : g = 1 := Fin.ext e.2
       exact piece x0 x1 x2 x3 x4 x5 x6 0 1 x t l (by omega) (by omega))
    | (have e : q.val = 0 ∧ g.val = 2 := by omega
       obtain rfl : q = 0 := Fin.ext e.1
       obtain rfl : g = 2 := Fin.ext e.2
       exact piece x0 x1 x2 x3 x4 x5 x6 0 2 x t l (by omega) (by omega))
    | (have e : q.val = 0 ∧ g.val = 3 := by omega
       obtain rfl : q = 0 := Fin.ext e.1
       obtain rfl : g = 3 := Fin.ext e.2
       exact piece x0 x1 x2 x3 x4 x5 x6 0 3 x t l (by omega) (by omega))
    | (have e : q.val = 1 ∧ g.val = 0 := by omega
       obtain rfl : q = 1 := Fin.ext e.1
       obtain rfl : g = 0 := Fin.ext e.2
       exact piece x0 x1 x2 x3 x4 x5 x6 1 0 x t l (by omega) (by omega))
    | (have e : q.val = 1 ∧ g.val = 1 := by omega
       obtain rfl : q = 1 := Fin.ext e.1
       obtain rfl : g = 1 := Fin.ext e.2
       exact piece x0 x1 x2 x3 x4 x5 x6 1 1 x t l (by omega) (by omega))
    | (have e : q.val = 1 ∧ g.val = 2 := by omega
       obtain rfl : q = 1 := Fin.ext e.1
       obtain rfl : g = 2 := Fin.ext e.2
       exact piece x0 x1 x2 x3 x4 x5 x6 1 2 x t l (by omega) (by omega))
    | (have e : q.val = 1 ∧ g.val = 3 := by omega
       obtain rfl : q = 1 := Fin.ext e.1
       obtain rfl : g = 3 := Fin.ext e.2
       exact piece x0 x1 x2 x3 x4 x5 x6 1 3 x t l (by omega) (by omega))
    | (have e : q.val = 2 ∧ g.val = 0 := by omega
       obtain rfl : q = 2 := Fin.ext e.1
       obtain rfl : g = 0 := Fin.ext e.2
       exact piece x0 x1 x2 x3 x4 x5 x6 2 0 x t l (by omega) (by omega))
    | (have e : q.val = 2 ∧ g.val = 1 := by omega
       obtain rfl : q = 2 := Fin.ext e.1
       obtain rfl : g = 1 := Fin.ext e.2
       exact piece x0 x1 x2 x3 x4 x5 x6 2 1 x t l (by omega) (by omega))
    | (have e : q.val = 2 ∧ g.val = 2 := by omega
       obtain rfl : q = 2 := Fin.ext e.1
       obtain rfl : g = 2 := Fin.ext e.2
       exact piece x0 x1 x2 x3 x4 x5 x6 2 2 x t l (by omega) (by omega))
    | (have e : q.val = 2 ∧ g.val = 3 := by omega
       obtain rfl : q = 2 := Fin.ext e.1
       obtain rfl : g = 3 := Fin.ext e.2
       exact piece x0 x1 x2 x3 x4 x5 x6 2 3 x t l (by omega) (by omega))
    | (have e : q.val = 3 ∧ g.val = 0 := by omega
       obtain rfl : q = 3 := Fin.ext e.1
       obtain rfl : g = 0 := Fin.ext e.2
       exact piece x0 x1 x2 x3 x4 x5 x6 3 0 x t l (by omega) (by omega))
    | (have e : q.val = 3 ∧ g.val = 1 := by omega
       obtain rfl : q = 3 := Fin.ext e.1
       obtain rfl : g = 1 := Fin.ext e.2
       exact piece x0 x1 x2 x3 x4 x5 x6 3 1 x t l (by omega) (by omega))
    | (have e : q.val = 3 ∧ g.val = 2 := by omega
       obtain rfl : q = 3 := Fin.ext e.1
       obtain rfl : g = 2 := Fin.ext e.2
       exact piece x0 x1 x2 x3 x4 x5 x6 3 2 x t l (by omega) (by omega))
    | (have e : q.val = 3 ∧ g.val = 3 := by omega
       obtain rfl : q = 3 := Fin.ext e.1
       obtain rfl : g = 3 := Fin.ext e.2
       exact piece x0 x1 x2 x3 x4 x5 x6 3 3 x t l (by omega) (by omega))

end Tile

section Arguments

variable (P : Vec Ideal S1x8192x6672 .f32) (G B : Vec Ideal S1x512 .f32) (W : Vec Ideal S1x4x128x128 .f32) (C : Vec Ideal S1x4x128 .f32)

/-- Chunk `q` in the program's arguments. -/
abbrev chunkOf (q : Fin 64) : Chunk where
  u s j := P (ix3 0 (token q s) ⟨j.val, by omega⟩)
  v s j := P (ix3 0 (token q s) ⟨512 + j.val, by omega⟩)
  z s j := P (ix3 0 (token q s) ⟨1024 + j.val, by omega⟩)
  d _ _ := 0

/-- The whole result. -/
def outGrid : Vec Ideal S8192x512 .bf16 := fun i => gated (paramsOf G B W C) (chunkOf P (chunkIx (i 0))) (placeIx (i 0)) (i 1)

end Arguments

variable (m : (ℓ : Loc nD τ sig) → Buf (Elt Ideal) ℓ)

/-- The five arguments of a device. -/
abbrev projArg (c : Dev nD) : Vec Ideal S1x8192x6672 .f32 := m ((c : Thread nD τ).loc main_arg0)
abbrev scaleArg (c : Dev nD) : Vec Ideal S1x512 .f32 := m ((c : Thread nD τ).loc main_arg1)
abbrev shiftArg (c : Dev nD) : Vec Ideal S1x512 .f32 := m ((c : Thread nD τ).loc main_arg2)
abbrev mixArg (c : Dev nD) : Vec Ideal S1x4x128x128 .f32 := m ((c : Thread nD τ).loc main_arg3)
abbrev biasArg (c : Dev nD) : Vec Ideal S1x4x128 .f32 := m ((c : Thread nD τ).loc main_arg4)

theorem proj_entry (c : Dev nD) (s : Fin 8192) (a : Fin 1536) :
    (V m c main_v4 : Vec Ideal S8192x6656 .f32) (ix2 s ⟨4096 + a.val, by omega⟩) = projArg m c (ix3 0 s ⟨a.val, by omega⟩) := by
  unfold V hostOps0
  after_results_simp
  pointwise
  after_results_simp
  pointwise
  blk_ext

theorem mix_entry (c : Dev nD) (g : Fin 4) (t s : Fin 128) :
    (V m c main_v5 : Vec Ideal S4x128x128 .f32) (ix3 g t s) = mixArg m c (ix4 0 g t s) := by
  unfold V hostOps0
  after_results_simp
  pointwise

theorem bias_entry (c : Dev nD) (t : Fin 128) (g : Fin 4) :
    (V m c main_v7 : Vec Ideal S128x4 .f32) (ix2 t g) = biasArg m c (ix3 0 g t) := by
  unfold V hostOps0
  after_results_simp
  pointwise

theorem idx0 : ∀ t : Fin cfg0.N, (cfg0.win 0).index t = ![t.val, 8] := by decide +kernel
theorem idx1 : ∀ t : Fin cfg0.N, (cfg0.win 1).index t = ![t.val, 9] := by decide +kernel
theorem idx2 : ∀ t : Fin cfg0.N, (cfg0.win 2).index t = ![t.val, 10] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0, 0] := by decide +kernel
theorem idx6 : ∀ t : Fin cfg0.N, (cfg0.win 6).index t = ![0, 0] := by decide +kernel
theorem idx7 : ∀ t : Fin cfg0.N, (cfg0.win 7).index t = ![t.val, 0] := by decide +kernel

/-- Row `r` of point `t`'s tile is token `512 t + r`, and chunk `q` of the tile is chunk `4 t + q`. -/
abbrev tokenAt (t : Fin cfg0.N) (r : Fin 512) : Fin 8192 := ⟨t.val * 512 + r.val, by have h : t.val < 16 := t.isLt; omega⟩
abbrev chunkAt (t : Fin cfg0.N) (q : Fin 4) : Fin 64 := ⟨t.val * 4 + q.val, by have h : t.val < 16 := t.isLt; omega⟩

theorem u_block (c : Dev nD) (t : Fin cfg0.N) (q : Fin 4) (s : Fin 128) (j : Fin 512) :
    (iblk m c 0 t : Vec Ideal S512x512 .f32) (ix2 (tok q s) j) = projArg m c (ix3 0 (token (chunkAt t q) s) ⟨j.val, by omega⟩) := by
  refine Eq.trans ?_ (proj_entry m c (token (chunkAt t q) s) ⟨j.val, by omega⟩)
  blk_ext [iblk, idx0 t]

theorem v_block (c : Dev nD) (t : Fin cfg0.N) (q : Fin 4) (s : Fin 128) (j : Fin 512) :
    (iblk m c 1 t : Vec Ideal S512x512 .f32) (ix2 (tok q s) j) = projArg m c (ix3 0 (token (chunkAt t q) s) ⟨512 + j.val, by omega⟩) := by
  refine Eq.trans ?_ (proj_entry m c (token (chunkAt t q) s) ⟨512 + j.val, by omega⟩)
  blk_ext [iblk, idx1 t]

theorem z_block (c : Dev nD) (t : Fin cfg0.N) (q : Fin 4) (s : Fin 128) (j : Fin 512) :
    (iblk m c 2 t : Vec Ideal S512x512 .f32) (ix2 (tok q s) j) = projArg m c (ix3 0 (token (chunkAt t q) s) ⟨1024 + j.val, by omega⟩) := by
  refine Eq.trans ?_ (proj_entry m c (token (chunkAt t q) s) ⟨1024 + j.val, by omega⟩)
  blk_ext [iblk, idx2 t]

theorem scale_block (c : Dev nD) (t : Fin cfg0.N) (j : Fin 512) :
    (iblk m c 3 t : Vec Ideal S1x512 .f32) (ix2 0 j) = scaleArg m c (ix2 0 j) := by
  refine Eq.trans (b := (V m c main_arg1 : Vec Ideal S1x512 .f32) (ix2 0 j)) ?_ ?_
  · blk_ext [iblk, idx3 t]
  · unfold V hostOps0
    after_results_simp

theorem shift_block (c : Dev nD) (t : Fin cfg0.N) (j : Fin 512) :
    (iblk m c 4 t : Vec Ideal S1x512 .f32) (ix2 0 j) = shiftArg m c (ix2 0 j) := by
  refine Eq.trans (b := (V m c main_arg2 : Vec Ideal S1x512 .f32) (ix2 0 j)) ?_ ?_
  · blk_ext [iblk, idx4 t]
  · unfold V hostOps0
    after_results_simp

theorem mix_block (c : Dev nD) (t : Fin cfg0.N) (g : Fin 4) (r s : Fin 128) :
    (iblk m c 5 t : Vec Ideal S4x128x128 .f32) (ix3 g r s) = mixArg m c (ix4 0 g r s) := by
  refine Eq.trans ?_ (mix_entry m c g r s)
  blk_ext [iblk, idx5 t]

theorem bias_block (c : Dev nD) (t : Fin cfg0.N) (r : Fin 128) (g : Fin 4) :
    (iblk m c 6 t : Vec Ideal S128x4 .f32) (ix2 r g) = biasArg m c (ix3 0 g r) := by
  refine Eq.trans ?_ (bias_entry m c r g)
  blk_ext [iblk, idx6 t]

theorem params_block (c : Dev nD) (t : Fin cfg0.N) :
    params (iblk m c 3 t) (iblk m c 4 t) (iblk m c 5 t) (iblk m c 6 t) = paramsOf (scaleArg m c) (shiftArg m c) (mixArg m c) (biasArg m c) := by
  unfold params paramsOf
  congr 1
  · exact funext fun j => scale_block m c t j
  · exact funext fun j => shift_block m c t j
  · exact funext fun g => funext fun r => funext fun s => mix_block m c t g r s
  · exact funext fun r => funext fun g => bias_block m c t r g

theorem chunk_block (c : Dev nD) (t : Fin cfg0.N) (q : Fin 4) :
    chunk (iblk m c 0 t) (iblk m c 1 t) (iblk m c 2 t) q = chunkOf (projArg m c) (chunkAt t q) := by
  unfold chunk chunkOf
  congr 1
  · exact funext fun s => funext fun j => u_block m c t q s j
  · exact funext fun s => funext fun j => v_block m c t q s j
  · exact funext fun s => funext fun j => z_block m c t q s j

theorem tile_apply (c : Dev nD) (t : Fin cfg0.N) (r a : Fin 512) :
    out0_7 (iblk m c 0 t) (iblk m c 1 t) (iblk m c 2 t) (iblk m c 3 t) (iblk m c 4 t) (iblk m c 5 t) (iblk m c 6 t) (ix2 r a)
      = gated (paramsOf (scaleArg m c) (shiftArg m c) (mixArg m c) (biasArg m c)) (chunkOf (projArg m c) (chunkIx (tokenAt t r))) (placeIx (tokenAt t r)) a := by
  have ht : t.val < 16 := t.isLt
  have eq : chunkIx (tokenAt t r) = chunkAt t ⟨r.val / 128, by omega⟩ := Fin.ext (show (t.val * 512 + r.val) / 128 = t.val * 4 + r.val / 128 by omega)
  have ep : placeIx (tokenAt t r) = ⟨r.val % 128, by omega⟩ := Fin.ext (show (t.val * 512 + r.val) % 128 = r.val % 128 by omega)
  have er : r.val = 128 * (r.val / 128) + r.val % 128 := by omega
  have ea : a.val = 128 * (a.val / 128) + a.val % 128 := by omega
  rw [eq, ep, ← chunk_block, ← params_block m c t]
  refine (block_apply (iblk m c 0 t) (iblk m c 1 t) (iblk m c 2 t) (iblk m c 3 t) (iblk m c 4 t) (iblk m c 5 t) (iblk m c 6 t)
    ⟨r.val / 128, by omega⟩ ⟨a.val / 128, by omega⟩ ⟨r.val % 128, by omega⟩ ⟨a.val % 128, by omega⟩ (ix2 r a) er ea).trans ?_
  exact congrArg _ (Fin.ext ea.symm)

/-- The result array after the whole grid. -/
theorem out_final (c : Dev nD) :
    (dats m 0 c).arrAt 7 cfg0.N = outGrid (projArg m c) (scaleArg m c) (shiftArg m c) (mixArg m c) (biasArg m c) := by
  refine (dats m 0 c).arrAt_eq_of_covers 7 _ (by decide +kernel) fun t hf y => ?_
  idx_vars y
  blk_simp
  rw [after0_7]
  have e : (win0_7.blk t).view.emb (ix2 y0 y1) = (ix2 (tokenAt t y0) y1 : S8192x512.Idx) := by blk_ext [idx7 t]
  exact (tile_apply m c t y0 y1).trans
    (congrArg (outGrid (projArg m c) (scaleArg m c) (shiftArg m c) (mixArg m c) (biasArg m c)) e).symm

end Cert.GmlpFwdIdeal.Value

end
-- ==== Proof.GmlpFwdClaims.lean ====
/-
  The claims of the spatial gating, forward (`gmlp_fwd`): the reference's stages, element by element, that its result is the
  kernel's at every value of the arguments, and the claims.
-/
module

public import proofs.«01_k».proof.Defs
public import proofs.«01_k».proof.Proof.Gen.GmlpFwd
public import proofs.«01_k».proof.Proof.Gen.GmlpFwd.Frame
public import proofs.«01_k».proof.Proof.Gen.GmlpFwdIdeal
public import proofs.«01_k».proof.Proof.Gen.GmlpFwdRefIdeal
public import proofs.«01_k».proof.Proof.Gen.GmlpFwdRefIdeal.Read
public import proofs.«01_k».proof.Proof.GmlpFwdValue
public import Idealize.ShloMosaic.Lib.Quiescent

@[expose] public section

set_option maxRecDepth 16384
set_option backward.proofsInPublic true

noncomputable section

namespace Cert.GmlpFwdRefIdeal.Read

open Cert.GmlpFwdRefIdeal Cert.Gating Cert.Extended Idealize.ShloMosaic Idealize.ShloMosaic.TcCoe Idealize.SL.Sem
open Cert.GmlpIdeal.Value (token paramsOf chunkIx placeIx)
open Cert.GmlpFwdIdeal.Value (chunkOf outGrid)
open Cert.GmlpRefIdeal.Read (coefficient)
open scoped BigOperators

variable (P : FVec Ideal S1x8192x6672 .f32) (G B : FVec Ideal S1x512 .f32) (W : FVec Ideal S1x4x128x128 .f32) (C : FVec Ideal S1x4x128 .f32)

theorem u_stage (s : Fin 8192) (j : Fin 512) : val_main_v2 (F := Ideal) P (ix2 s j) = P (ix3 0 s ⟨j.val, by omega⟩) := by
  pointwise [val_main_v2, val_main_v1, val_main_v0]

theorem v_stage (s : Fin 8192) (j : Fin 512) : val_main_v3 (F := Ideal) P (ix2 s j) = P (ix3 0 s ⟨512 + j.val, by omega⟩) := by
  pointwise [val_main_v3, val_main_v1, val_main_v0]

theorem z_stage (s : Fin 8192) (j : Fin 512) : val_main_v4 (F := Ideal) P (ix2 s j) = P (ix3 0 s ⟨1024 + j.val, by omega⟩) := by
  pointwise [val_main_v4, val_main_v1, val_main_v0]

theorem u_gelu_stage (s : Fin 8192) (j : Fin 512) : val_main_v22 (F := Ideal) P (ix2 s j) = gelu (val_main_v2 (F := Ideal) P (ix2 s j)) := by
  rw [← gelu_forward]
  unfold val_main_v22 val_main_v21 val_main_v19 val_main_v17 val_main_v16 val_main_v14 val_main_v13 val_main_v11 val_main_v10
  generalize val_main_v2 (F := Ideal) P = X
  pointwise [val_main_v20, val_main_v18, val_main_v15, val_main_v12, val_main_v9, val_main_cst, val_main_cst_0, val_main_cst_1, val_main_cst_2, val_main_cst_3]
  rw [coefficient]

theorem v_gelu_stage (s : Fin 8192) (j : Fin 512) : val_main_v36 (F := Ideal) P (ix2 s j) = gelu (val_main_v3 (F := Ideal) P (ix2 s j)) := by
  rw [← gelu_forward]
  unfold val_main_v36 val_main_v35 val_main_v33 val_main_v31 val_main_v30 val_main_v28 val_main_v27 val_main_v25 val_main_v24
  generalize val_main_v3 (F := Ideal) P = X
  pointwise [val_main_v34, val_main_v32, val_main_v29, val_main_v26, val_main_v23, val_main_cst_4, val_main_cst_5, val_main_cst_6, val_main_cst_7, val_main_cst_8]
  rw [coefficient]

theorem centre_stage (s : Fin 8192) (j : Fin 512) : val_main_v42 (F := Ideal) P (ix2 s j)
    = centre (fun j => val_main_v36 (F := Ideal) P (ix2 s j)) j := by
  unfold val_main_v42 val_main_v41 val_main_v40 val_main_v38 val_main_v37
  generalize val_main_v36 (F := Ideal) P = X
  pointwise [val_main_v39, val_main_cst_9, val_main_cst_10]
  rfl

theorem spread_stage (s : Fin 8192) : val_main_v50 (F := Ideal) P (ix2 s 0)
    = Ideal.rsqrt (mean (fun j => val_main_v42 (F := Ideal) P (ix2 s j) * val_main_v42 (F := Ideal) P (ix2 s j)) + eps) := by
  unfold val_main_v50 val_main_v49 val_main_v47 val_main_v45 val_main_v44 val_main_v43
  generalize val_main_v42 (F := Ideal) P = X
  pointwise [val_main_v46, val_main_v48, val_main_cst_11, val_main_cst_12, val_main_cst_13]
  rfl

theorem hat_stage (s : Fin 8192) (j : Fin 512) : val_main_v52 (F := Ideal) P (ix2 s j)
    = hat (fun j => val_main_v36 (F := Ideal) P (ix2 s j)) j := by
  simp only [hat, spread, ← centre_stage]
  rw [← spread_stage]
  unfold val_main_v52 val_main_v51
  generalize val_main_v42 (F := Ideal) P = X
  generalize val_main_v50 (F := Ideal) P = Y
  pointwise

theorem normed_stage (q : Fin 64) (s : Fin 128) (j : Fin 512) : val_main_v58 (F := Ideal) P G B (ix2 (token q s) j)
    = normed (paramsOf G B W C) (chunkOf P q) s j := by
  refine Eq.trans (b := val_main_v52 (F := Ideal) P (ix2 (token q s) j) * G (ix2 0 j) + B (ix2 0 j)) ?_ ?_
  · unfold val_main_v58 val_main_v55
    generalize val_main_v52 (F := Ideal) P = X
    pointwise [val_main_v57, val_main_v56, val_main_v54, val_main_v53, val_main_v8, val_main_v7]
  · rw [hat_stage]
    simp only [v_gelu_stage, v_stage]
    rfl

theorem mask_stage (g : Fin 4) (t s : Fin 128) : (val_main_call1_v1 (F := Ideal) (ix3 g t s) : BitVec 1) = if s ≤ t then 1#1 else 0#1 := by
  pointwise [val_main_call1_v1, val_main_v62, val_main_v61, val_main_v60, val_main_call0_v5, val_main_call0_c_0, val_main_call0_v4, val_main_call0_v3, val_main_call0_v2, val_main_call0_v1, val_main_call0_c, val_main_call0_v0, val_main_c]
  have ht := t.isLt
  have hs := s.isLt
  rw [show IntOp.addi (BitVec.ofNat 32 t.val) 0#32 = BitVec.ofNat 32 t.val from BitVec.add_zero _, WordCmp.cmpi_sge_ofNat (by omega) (by omega)]
  by_cases h : s ≤ t
  · rw [if_pos h]
    have : (s : ℕ) ≤ t := h
    simp [this, Scalar.select]
  · rw [if_neg h]
    have : ¬(s : ℕ) ≤ t := h
    simp [this, Scalar.select]

theorem causal_stage (g : Fin 4) (t s : Fin 128) : val_main_v63 (F := Ideal) W (ix3 g t s) = (paramsOf G B W C).causal g t s := by
  pointwise [val_main_v63, val_main_v5, val_main_call1_v2, val_main_call1_v0, val_main_c_14]
  rw [mask_stage, Params.causal]
  split
  · rfl
  · show ((((0#32 : BitVec 32).toInt : ℤ) : ℝ) : EReal) = 0
    simp

theorem mixed_stage (q : Fin 64) (t : Fin 128) (g : Fin 4) (l : Fin 128) : val_main_v70 (F := Ideal) P G B W C (ix2 (token q t) (lane g l))
    = mixed (paramsOf G B W C) (chunkOf P q) t (lane g l) := by
  refine Eq.trans (b := (∑ s, val_main_v58 (F := Ideal) P G B (ix2 (token q s) (lane g l)) * val_main_v63 (F := Ideal) W (ix3 g t s)) + C (ix3 0 g t)) ?_ ?_
  · unfold val_main_v70 val_main_v69 val_main_v65 val_main_v64 val_main_v59
    generalize val_main_v58 (F := Ideal) P G B = X
    generalize val_main_v63 (F := Ideal) W = Y
    pointwise [val_main_v68, val_main_v67, val_main_v66, val_main_v6]
    have e1 : (128 * q.val + t.val) / 128 = q.val := by omega
    have e2 : (128 * q.val + t.val) % 128 = t.val := by omega
    have e3 : (128 * g.val + l.val) / 128 = g.val := by omega
    have e4 : (128 * g.val + l.val) % 128 = l.val := by omega
    simp only [e1, e2, e3, e4, Nat.mul_comm _ 128]
  · rw [mixed, Cert.GmlpIdeal.Value.group_lane]
    refine congrArg (· + _) (Finset.sum_congr rfl fun s _ => ?_)
    rw [normed_stage P G B W C, causal_stage G B W C, mul_comm]

theorem gate_stage (s : Fin 8192) (j : Fin 512) : val_main_v72 (F := Ideal) P (ix2 s j) = gate (val_main_v4 (F := Ideal) P (ix2 s j)) := by
  unfold val_main_v72 val_main_call2_v5 val_main_call2_v3 val_main_call2_v1 val_main_call2_v0
  generalize val_main_v4 (F := Ideal) P = X
  pointwise [val_main_call2_v4, val_main_call2_cst_0, val_main_call2_v2, val_main_call2_cst]
  rfl

/-- The reference's result is the same function. -/
theorem out_eq : val_main_v74 (F := Ideal) P G B W C = outGrid P G B W C := by
  funext i
  idx_vars i
  have e0 : i0 = token (chunkIx i0) (placeIx i0) := Fin.ext (by show i0.val = 128 * (i0.val / 128) + i0.val % 128; omega)
  have e1 : i1 = lane ⟨i1.val / 128, by omega⟩ ⟨i1.val % 128, by omega⟩ := Fin.ext (by show i1.val = 128 * (i1.val / 128) + i1.val % 128; omega)
  refine Eq.trans (b := val_main_v22 (F := Ideal) P (ix2 i0 i1) * val_main_v70 (F := Ideal) P G B W C (ix2 i0 i1) * val_main_v72 (F := Ideal) P (ix2 i0 i1)) ?_ ?_
  · unfold val_main_v74 val_main_v73 val_main_v71
    generalize val_main_v22 (F := Ideal) P = X
    generalize val_main_v70 (F := Ideal) P G B W C = Y
    generalize val_main_v72 (F := Ideal) P = Z
    pointwise
  · show _ = gated (paramsOf G B W C) (chunkOf P (chunkIx i0)) (placeIx i0) i1
    have em : val_main_v70 (F := Ideal) P G B W C (ix2 i0 i1) = mixed (paramsOf G B W C) (chunkOf P (chunkIx i0)) (placeIx i0) i1 :=
      (congrArg₂ (fun a b => val_main_v70 (F := Ideal) P G B W C (ix2 a b)) e0 e1).trans
        ((mixed_stage P G B W C _ _ _ _).trans (congrArg (mixed _ _ _) e1.symm))
    have eu : P (ix3 0 i0 ⟨i1.val, by omega⟩) = (chunkOf P (chunkIx i0)).u (placeIx i0) i1 :=
      congrArg (fun a => P (ix3 0 a ⟨i1.val, by omega⟩)) e0
    have ez : P (ix3 0 i0 ⟨1024 + i1.val, by omega⟩) = (chunkOf P (chunkIx i0)).z (placeIx i0) i1 :=
      congrArg (fun a => P (ix3 0 a ⟨1024 + i1.val, by omega⟩)) e0
    rw [u_gelu_stage, gate_stage, u_stage, z_stage, em, eu, ez, gated]

end Cert.GmlpFwdRefIdeal.Read

namespace Cert.Proof

open Idealize.ShloMosaic Idealize.SL.Sem

theorem gmlp_fwd_preserves : Cert.preserves_GmlpFwd_GmlpFwdIdeal :=
  IdealRules.named_const.statement Cert.GmlpFwdIdeal.κ "gelu_cubic" .f32 _ _ rfl

theorem gmlp_fwd_ref_quiescent : Cert.quiescent_GmlpFwdRefIdeal := fun m ρ _ =>
  (θ_run Cert.GmlpFwdRefIdeal.defs _ _).mono (fun r h => ⟨fun c => (h c).2, sem_eq_zero_of_no_sems (by decide) r.2⟩)
    (Cert.GmlpFwdRefIdeal.Value.run (F := Ideal) m ρ)

theorem gmlp_fwd_algebraic : Cert.algebraic_GmlpFwdIdeal_GmlpFwdRefIdeal := by
  intro m g m' g' _ hagree
  refine ⟨_, Cert.GmlpFwdIdeal.Value.run_blocks (F := Ideal) m g, ?_⟩
  refine (θ_run Cert.GmlpFwdRefIdeal.defs _ _).mono (fun r h c => ?_) (Cert.GmlpFwdRefIdeal.Value.run (F := Ideal) m' g')
  obtain ⟨h0, h1, h2, h3, h4⟩ := hagree c
  obtain ⟨hw, hargs⟩ := h c
  rw [Cert.GmlpFwdRefIdeal.Read.val_main_v74_eq, h0, h1, h2, h3, h4, Cert.GmlpFwdRefIdeal.Read.out_eq] at hw
  exact ⟨hw.trans (Cert.GmlpFwdIdeal.Value.out_final m c).symm, hargs⟩

end Cert.Proof

end
-- ==== Proof.AdamValue.lean ====
/-
  The optimiser's step (`adam`): the kernel's four result arrays are the reference's, as functions of the four arguments.
  The kernel adds the eight parts one after the other; the reference sums them along their axis.
-/
module

public import proofs.«01_k».proof.Proof.Gen.AdamIdeal.Value
public import proofs.«01_k».proof.Proof.Gen.AdamRefIdeal.Run
public import proofs.«01_k».proof.Proof.Gen.AdamRefIdeal.Read
public import Idealize.ShloMosaic.Lib.Pointwise

@[expose] public section

set_option maxRecDepth 16384
set_option backward.proofsInPublic true

noncomputable section

namespace Cert.AdamIdeal.Value

open Cert.AdamIdeal Cert.AdamIdeal.Gen Idealize.ShloMosaic Idealize.ShloMosaic.TcCoe Idealize.SL.Sem
open scoped BigOperators

/-- The eight devices' parts of a gradient. -/
abbrev Parts := Vec Ideal S8x1x2048 .f32
/-- A parameter, its gradient or one of its moments. -/
abbrev Row := Vec Ideal S1x2048 .f32

theorem offsets_zero : (![0, 0] : Fin S1x2048.rank → Nat) = fun _ => 0 := by decide

/-- The sum of the eight parts. -/
theorem total_eq (a0 : Parts) (a1 a2 a3 : Row) : G4 a0 a1 a2 a3 = Cert.AdamRefIdeal.Read.val_main_v0 (F := Ideal) a0 := by
  funext j
  idx_vars j
  rw [Cert.AdamRefIdeal.Read.val_main_v0_apply]
  pointwise [G4, k0_pay4]
  have z : Cert.AdamRefIdeal.Read.val_main_cst (F := Ideal) (Shape.Idx.first Cert.AdamRefIdeal.Gen.h_S_) = 0 := Ideal.ofBits_zero .f32
  have p (k : Fin 8) : a0 (Cert.AdamRefIdeal.Read.idx_main_v0 (ix2 j0 j1) k) = a0 (ix3 k 0 j1) := by
    refine congrArg a0 (funext fun a => ?_)
    fin_cases a
    · rfl
    · exact Fin.ext (by simp)
    · rfl
  simp only [z, p, Fin.sum_univ_eight]
  exact (zero_add _).symm

/-- The new first moment. -/
theorem first_eq (a0 : Parts) (a1 a2 a3 : Row) : G6 a0 a1 a2 a3 = Cert.AdamRefIdeal.Read.val_main_v5 (F := Ideal) a0 a2 := by
  have e : k0_pay7 a0 a1 a2 a3 = Cert.AdamRefIdeal.Read.val_main_v0 (F := Ideal) a0 := total_eq a0 a1 a2 a3
  unfold G6 k0_pay8
  rw [e, View.ld_unit_zero (S := S1x2048) offsets_zero _ a2]
  rfl

/-- The new second moment. -/
theorem second_eq (a0 : Parts) (a1 a2 a3 : Row) : G7 a0 a1 a2 a3 = Cert.AdamRefIdeal.Read.val_main_v11 (F := Ideal) a0 a3 := by
  have e : k0_pay7 a0 a1 a2 a3 = Cert.AdamRefIdeal.Read.val_main_v0 (F := Ideal) a0 := total_eq a0 a1 a2 a3
  unfold G7
  rw [e]
  rfl

/-- The change of the parameter, from the two new moments. -/
theorem change_eq (a0 : Parts) (a1 a2 a3 : Row) : G5 a0 a1 a2 a3 = Cert.AdamRefIdeal.Read.val_main_v24 (F := Ideal) a0 a1 a2 a3 := by
  have em : k0_pay1 (k0_pay7 a0 a1 a2 a3) (k0_pay8 a0 a1 a2 a3) (k0_pay9 a0 a1 a2 a3) = _ := first_eq a0 a1 a2 a3
  have ev : k0_pay2 (k0_pay7 a0 a1 a2 a3) a3 = _ := second_eq a0 a1 a2 a3
  unfold G5 k0_pay3
  rw [em, ev]
  rfl

end Cert.AdamIdeal.Value

end
-- ==== Proof.AdamClaims.lean ====
/-
  The claims about the optimiser's step (`Adam`, its idealization and its reference).
-/
module

public import proofs.«01_k».proof.Defs
public import proofs.«01_k».proof.Proof.Gen.Adam
public import proofs.«01_k».proof.Proof.Gen.Adam.Frame
public import proofs.«01_k».proof.Proof.Gen.AdamIdeal
public import proofs.«01_k».proof.Proof.Gen.AdamRefIdeal
public import proofs.«01_k».proof.Proof.AdamValue
public import Idealize.ShloMosaic.Lib.Quiescent

@[expose] public section

set_option maxRecDepth 16384
set_option backward.proofsInPublic true

noncomputable section

namespace Cert.Proof

open Idealize.ShloMosaic Idealize.ShloMosaic.TcCoe Idealize.SL.Sem

theorem adam_ref_quiescent : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

theorem adam_algebraic : Cert.algebraic_AdamIdeal_AdamRefIdeal := by
  intro m g m' g' _ hagree
  refine ⟨_, _, _, _, Cert.AdamIdeal.Value.run (F := Ideal) m g, ?_⟩
  refine (θ_run Cert.AdamRefIdeal.defs _ _).mono (fun r h c => ?_) (Cert.AdamRefIdeal.Value.run (F := Ideal) m' g')
  obtain ⟨h0, h1, h2, h3⟩ := hagree c
  obtain ⟨hg, hd, hm, hv, hargs⟩ := h c
  rw [h0] at hg
  rw [h0, h1, h2, h3] at hd
  rw [h0, h2] at hm
  rw [h0, h3] at hv
  exact ⟨(hg.trans (Cert.AdamRefIdeal.Read.val_main_v0_eq _)).trans (Cert.AdamIdeal.Value.total_eq _ _ _ _).symm,
    (hd.trans (Cert.AdamRefIdeal.Read.val_main_v24_eq _ _ _ _)).trans (Cert.AdamIdeal.Value.change_eq _ _ _ _).symm,
    (hm.trans (Cert.AdamRefIdeal.Read.val_main_v5_eq _ _)).trans (Cert.AdamIdeal.Value.first_eq _ _ _ _).symm,
    (hv.trans (Cert.AdamRefIdeal.Read.val_main_v11_eq _ _)).trans (Cert.AdamIdeal.Value.second_eq _ _ _ _).symm, hargs⟩

end Cert.Proof

end
-- ==== Proof.InProjValue.lean ====
/-
  The norm of the input and its projection, forward (`inproj`): the kernel's three result arrays, element by element, as functions
  of its three arguments.
-/
module

public import proofs.«01_k».proof.Proof.Gen.InProjIdeal.Value
public import proofs.«01_k».proof.Proof.Gen.InProjRefIdeal.Read
public import proofs.«01_k».proof.Proof.FinalRows
public import Idealize.ShloMosaic.Lib.Pointwise
public import Idealize.ShloMosaic.Lib.Pipeline.ValueKit
public import Idealize.ShloMosaic.Lib.Pipeline.ReadBack

@[expose] public section

set_option maxRecDepth 16384
set_option backward.proofsInPublic true

noncomputable section

namespace Cert.InProjIdeal.Value

open Cert.InProjIdeal Cert.InProjIdeal.Gen Cert.LastNorm Idealize.ShloMosaic Idealize.ShloMosaic.TcCoe Idealize.SL.Sem
open Idealize.ShloMosaic.Pipeline (Dat)
open scoped BigOperators

section Blocks

variable (x0 : Vec Ideal S256x2048 .f32) (x1 : Vec Ideal S1x2048 .f32) (x2 : Vec Ideal S2048x6656 .bf16) (x3 : Vec Ideal S2048x128 .bf16)

/-- A point's row after the norm. -/
def normRow (r : Fin 256) (j : Fin 2048) : EReal := hat (fun l => x0 (ix2 r l)) j * x1 (ix2 0 j)

theorem norm_apply (r : Fin 256) (j : Fin 2048) : k0_pay3 (View.ld x0 r0_0) (View.ld x1 r0_1) (ix2 r j) = normRow x0 x1 r j := by
  pointwise [k0_pay3]
  rfl

/-- The product with 1664 columns of the weight that begin at `o`. -/
theorem piece_apply (o : ℕ) (i) (z : S256x1664.Idx) (r : Fin 256) (k : Fin 6656) (hr : r.val = (z 0).val) (hk : k.val = o + (z 1).val) :
    k0_pay1 (k0_pay4 (View.ld x0 r0_0) (View.ld x1 r0_1)) (View.ld x2 (Rect.unit (s := S2048x6656) ![0, o] S2048x1664.size i)) z
      = ∑ j, normRow x0 x1 r j * x2 (ix2 j k) := by
  idx_vars z
  obtain rfl : r = z0 := Fin.ext hr
  have b : o + z1.val < 6656 := hk ▸ k.isLt
  obtain rfl : k = ⟨o + z1.val, b⟩ := Fin.ext hk
  pointwise [k0_pay1, k0_pay4]
  exact Finset.sum_congr rfl fun j _ => congrArg (· * _) (norm_apply x0 x1 r j)

theorem main_apply (y : S256x6656.Idx) : out0_4 x0 x1 x2 x3 y = ∑ j, normRow x0 x1 (y 0) j * x2 (ix2 j (y 1)) := by
  unfold out0_4
  canon_tiles x hx
  · exact piece_apply x0 x1 x2 4992 (by decide) x (y 0) (y 1) hx0 hx1
  · exact piece_apply x0 x1 x2 3328 (by decide) x (y 0) (y 1) hx0 hx1
  · exact piece_apply x0 x1 x2 1664 (by decide) x (y 0) (y 1) hx0 hx1
  · exact piece_apply x0 x1 x2 0 (by decide) x (y 0) (y 1) hx0 (hx1.trans (Nat.zero_add _).symm)

theorem small_apply (r : Fin 256) (k : Fin 128) : out0_5 x0 x1 x2 x3 (ix2 r k) = ∑ j, normRow x0 x1 r j * x3 (ix2 j k) := by
  unfold out0_5
  rw [View.canon_unit_zero (funext fun a => by fin_cases a <;> rfl)]
  pointwise [k0_pay6, k0_pay4, k0_pay3]
  rfl

theorem turned_apply (j : Fin 2048) (r : Fin 256) : out0_6 x0 x1 x2 x3 (ix2 j r) = normRow x0 x1 r j := by
  unfold out0_6
  rw [View.canon_unit_zero (funext fun a => by fin_cases a <;> rfl)]
  pointwise [k0_pay5, k0_pay3]
  rfl

end Blocks

/-- The column of the projection that stands at column `k` of the kernel's own order. -/
def column (k : Fin 6656) : Fin 6672 :=
  if k.val < 4096 then ⟨(1536 + k.val) % 6672, by omega⟩ else if k.val < 5632 then ⟨k.val - 4096, by omega⟩ else ⟨k.val + 16, by omega⟩

theorem pad_zero : FloatOps.sitofp (F := Ideal) .bf16 0#32 = (0 : EReal) := by
  show ((((0#32 : BitVec 32).toInt : ℤ) : ℝ) : EReal) = 0
  simp

section Arguments

variable (X : Vec Ideal S1x8192x2048 .f32) (G : Vec Ideal S1x2048 .f32) (W : Vec Ideal S1x2048x6672 .f32)

/-- Token `s` after the norm, and its projection. -/
def normAt (s : Fin 8192) (j : Fin 2048) : EReal := hat (fun l => X (ix3 0 s l)) j * G (ix2 0 j)
def projAt (s : Fin 8192) (k : Fin 6672) : EReal := ∑ j, normAt X G s j * W (ix3 0 j k)

/-- The three results. -/
def mainGrid : Vec Ideal S8192x6656 .f32 := fun i => projAt X G W (i 0) (column (i 1))
def smallGrid : Vec Ideal S8192x128 .f32 := fun i => if h : (i 1).val < 16 then projAt X G W (i 0) ⟨5632 + (i 1).val, by omega⟩ else 0
def turnedGrid : Vec Ideal S2048x8192 .bf16 := fun i => normAt X G (i 1) (i 0)

end Arguments

variable (m : (ℓ : Loc nD τ sig) → Buf (Elt Ideal) ℓ)

/-- The three arguments of a device. -/
abbrev inArg (c : Dev nD) : Vec Ideal S1x8192x2048 .f32 := m ((c : Thread nD τ).loc main_arg0)
abbrev gainArg (c : Dev nD) : Vec Ideal S1x2048 .f32 := m ((c : Thread nD τ).loc main_arg1)
abbrev weightArg (c : Dev nD) : Vec Ideal S1x2048x6672 .f32 := m ((c : Thread nD τ).loc main_arg2)

theorem in_entry (c : Dev nD) (s : Fin 8192) (j : Fin 2048) : (V m c main_v2 : Vec Ideal S8192x2048 .f32) (ix2 s j) = inArg m c (ix3 0 s j) := by
  unfold V hostOps0 hostOps0_1
  simp only [List.flatten_cons, List.flatten_nil, List.append_nil, List.cons_append, List.nil_append]
  after_results_simp
  pointwise

theorem gain_entry (c : Dev nD) (j : Fin 2048) : (V m c main_arg1 : Vec Ideal S1x2048 .f32) (ix2 0 j) = gainArg m c (ix2 0 j) := by
  unfold V hostOps0 hostOps0_1
  simp only [List.flatten_cons, List.flatten_nil, List.append_nil, List.cons_append, List.nil_append]
  after_results_simp

theorem weight_entry (c : Dev nD) (j : Fin 2048) (k : Fin 6656) :
    (V m c main_v6 : Vec Ideal S2048x6656 .bf16) (ix2 j k) = weightArg m c (ix3 0 j (column k)) := by
  unfold V hostOps0 hostOps0_1
  simp only [List.flatten_cons, List.flatten_nil, List.append_nil, List.cons_append, List.nil_append]
  after_results_simp
  pointwise
  after_results_simp
  pointwise
  unfold column
  by_cases h1 : k.val < 4096
  · rw [dif_pos h1, if_pos h1]
    exact congrArg (fun k => weightArg m c (ix3 0 j k)) (Fin.ext (by dsimp only; omega))
  rw [dif_neg h1, if_neg h1]
  by_cases h2 : k.val < 5632
  · rw [dif_pos (by omega), if_pos h2]
  · rw [dif_neg (by omega), if_neg h2]
    exact congrArg (fun k => weightArg m c (ix3 0 j k)) (Fin.ext (by dsimp only; omega))

theorem small_entry (c : Dev nD) (j : Fin 2048) (k : Fin 128) :
    (V m c main_v8 : Vec Ideal S2048x128 .bf16) (ix2 j k) = if h : k.val < 16 then weightArg m c (ix3 0 j ⟨5632 + k.val, by omega⟩) else 0 := by
  unfold V hostOps0 hostOps0_1
  simp only [List.flatten_cons, List.flatten_nil, List.append_nil, List.cons_append, List.nil_append]
  after_results_simp
  show (pad S2048x128 ![0, 0] ![0, 112] ![0, 0] (extractStridedSlice S2048x16 ![0, 5632]
    (shapeCast S2048x6672 (weightArg m c) shapeCasts_S1x2048x6672_S2048x6672) slices_S2048x6672_S2048x16_0_5632)
    (sitofp (F := Ideal) .bf16 (constantI S_ 32 0#32)) pads_S2048x16_S2048x128_000_01120 h_S_) (ix2 j k) = _
  pointwise
  rw [pad_zero]

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![0, 0] := by decide +kernel
theorem idx3 : ∀ t : Fin cfg0.N, (cfg0.win 3).index t = ![0, 0] := by decide +kernel
theorem idx4 : ∀ t : Fin cfg0.N, (cfg0.win 4).index t = ![t.val, 0] := by decide +kernel
theorem idx5 : ∀ t : Fin cfg0.N, (cfg0.win 5).index t = ![t.val, 0] := by decide +kernel
theorem idx6 : ∀ t : Fin cfg0.N, (cfg0.win 6).index t = ![0, t.val] := by decide +kernel

/-- Row `r` of point `t`'s tile is token `256 t + r`. -/
abbrev tok (t : Fin cfg0.N) (r : Fin 256) : Fin 8192 := ⟨t.val * 256 + r.val, by have h : t.val < 32 := t.isLt; omega⟩

theorem in_block (c : Dev nD) (t : Fin cfg0.N) (r : Fin 256) (j : Fin 2048) :
    (iblk m c 0 t : Vec Ideal S256x2048 .f32) (ix2 r j) = inArg m c (ix3 0 (tok t r) j) := by
  refine Eq.trans ?_ (in_entry m c (tok t r) j)
  blk_ext [iblk, idx0 t]

theorem gain_block (c : Dev nD) (t : Fin cfg0.N) (j : Fin 2048) : (iblk m c 1 t : Vec Ideal S1x2048 .f32) (ix2 0 j) = gainArg m c (ix2 0 j) := by
  refine Eq.trans ?_ (gain_entry m c j)
  blk_ext [iblk, idx1 t]

theorem weight_block (c : Dev nD) (t : Fin cfg0.N) (j : Fin 2048) (k : Fin 6656) :
    (iblk m c 2 t : Vec Ideal S2048x6656 .bf16) (ix2 j k) = weightArg m c (ix3 0 j (column k)) := by
  refine Eq.trans ?_ (weight_entry m c j k)
  blk_ext [iblk, idx2 t]

theorem small_block (c : Dev nD) (t : Fin cfg0.N) (j : Fin 2048) (k : Fin 128) :
    (iblk m c 3 t : Vec Ideal S2048x128 .bf16) (ix2 j k) = if h : k.val < 16 then weightArg m c (ix3 0 j ⟨5632 + k.val, by omega⟩) else 0 := by
  refine Eq.trans ?_ (small_entry m c j k)
  blk_ext [iblk, idx3 t]

theorem norm_block (c : Dev nD) (t : Fin cfg0.N) (r : Fin 256) (j : Fin 2048) :
    normRow (iblk m c 0 t) (iblk m c 1 t) r j = normAt (inArg m c) (gainArg m c) (tok t r) j := by
  unfold normRow normAt
  rw [gain_block, funext (in_block m c t r)]

theorem main_final (c : Dev nD) : (dats m 0 c).arrAt 4 cfg0.N = mainGrid (inArg m c) (gainArg m c) (weightArg m c) := by
  refine (dats m 0 c).arrAt_eq_of_covers 4 _ (by decide +kernel) fun t hf y => ?_
  idx_vars y
  blk_simp
  rw [after0_4]
  have e : (win0_4.blk t).view.emb (ix2 y0 y1) = (ix2 (tok t y0) y1 : S8192x6656.Idx) := by blk_ext [idx4 t]
  refine (main_apply (iblk m c 0 t) (iblk m c 1 t) (iblk m c 2 t) (iblk m c 3 t) (ix2 y0 y1)).trans ?_
  refine Eq.trans ?_ (congrArg (mainGrid (inArg m c) (gainArg m c) (weightArg m c)) e).symm
  refine Finset.sum_congr rfl fun j _ => congrArg₂ (· * ·) (norm_block m c t y0 j) (weight_block m c t j y1)

theorem small_final (c : Dev nD) : (dats m 0 c).arrAt 5 cfg0.N = smallGrid (inArg m c) (gainArg m c) (weightArg m c) := by
  refine (dats m 0 c).arrAt_eq_of_covers 5 _ (by decide +kernel) fun t hf y => ?_
  idx_vars y
  blk_simp
  rw [after0_5]
  have e : (win0_5.blk t).view.emb (ix2 y0 y1) = (ix2 (tok t y0) y1 : S8192x128.Idx) := by blk_ext [idx5 t]
  refine (small_apply (iblk m c 0 t) (iblk m c 1 t) (iblk m c 2 t) (iblk m c 3 t) y0 y1).trans ?_
  refine Eq.trans ?_ (congrArg (smallGrid (inArg m c) (gainArg m c) (weightArg m c)) e).symm
  simp only [norm_block, small_block]
  show _ = if h : y1.val < 16 then projAt (inArg m c) (gainArg m c) (weightArg m c) (tok t y0) ⟨5632 + y1.val, by omega⟩ else 0
  by_cases h : y1.val < 16
  · simp only [dif_pos h]
    rfl
  · simp only [dif_neg h, mul_zero, Finset.sum_const_zero]

theorem turned_final (c : Dev nD) : (dats m 0 c).arrAt 6 cfg0.N = turnedGrid (inArg m c) (gainArg m c) := by
  refine (dats m 0 c).arrAt_eq_of_covers 6 _ (by decide +kernel) fun t hf y => ?_
  idx_vars y
  blk_simp
  rw [after0_6]
  have e : (win0_6.blk t).view.emb (ix2 y0 y1) = (ix2 y0 (tok t y1) : S2048x8192.Idx) := by blk_ext [idx6 t]
  refine (turned_apply (iblk m c 0 t) (iblk m c 1 t) (iblk m c 2 t) (iblk m c 3 t) y0 y1).trans ?_
  refine Eq.trans ?_ (congrArg (turnedGrid (inArg m c) (gainArg m c)) e).symm
  exact norm_block m c t y1 y0

end Cert.InProjIdeal.Value

namespace Cert.InProjRefIdeal.Read

open Cert.InProjRefIdeal Cert.LastNorm Idealize.ShloMosaic Idealize.ShloMosaic.TcCoe Idealize.SL.Sem
open Cert.InProjIdeal.Value (column normAt projAt mainGrid smallGrid turnedGrid)
open scoped BigOperators

variable (X : FVec Ideal S1x8192x2048 .f32) (G : FVec Ideal S1x2048 .f32) (W : FVec Ideal S1x2048x6672 .f32)

theorem norm_stage (s : Fin 8192) (j : Fin 2048) : val_main_v14 (F := Ideal) X G (ix2 s j) = normAt X G s j := by
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  rfl

theorem proj_stage (s : Fin 8192) (k : Fin 6672) : val_main_v16 (F := Ideal) X G W (ix2 s k) = projAt X G W s k := by
  pointwise [val_main_v16, val_main_v15]
  exact Finset.sum_congr rfl fun j _ => congrArg (· * _) (norm_stage X G s j)

theorem main_result : val_main_v20 (F := Ideal) X G W = mainGrid X G W := by
  funext i
  idx_vars i
  pointwise [val_main_v20, val_main_v19, val_main_v18, val_main_v17]
  simp only [proj_stage]
  show _ = projAt X G W i0 (column i1)
  unfold column
  by_cases h1 : i1.val < 4096
  · rw [dif_pos h1, if_pos h1]
    exact congrArg (projAt X G W i0) (Fin.ext (by dsimp only; omega))
  rw [dif_neg h1, if_neg h1]
  by_cases h2 : i1.val < 5632
  · rw [dif_pos (by omega), if_pos h2]
  · rw [dif_neg (by omega), if_neg h2]
    exact congrArg (projAt X G W i0) (Fin.ext (by dsimp only; omega))

theorem small_result : val_main_v22 (F := Ideal) X G W = smallGrid X G W := by
  have z : FloatOps.sitofp (F := Ideal) .f32 0#32 = (0 : EReal) := by
    show ((((0#32 : BitVec 32).toInt : ℤ) : ℝ) : EReal) = 0
    simp
  funext i
  idx_vars i
  pointwise [val_main_v22, val_main_v21, val_main_call0_v0, val_main_c]
  simp only [proj_stage]
  rw [z]
  rfl

theorem turned_result : val_main_v24 (F := Ideal) X G = turnedGrid X G := by
  funext i
  idx_vars i
  pointwise [val_main_v24, val_main_v23]
  exact norm_stage X G i1 i0

end Cert.InProjRefIdeal.Read

end
-- ==== Proof.InProjClaims.lean ====
/-
  The claims about the norm of the input and its projection (`InProj`, its idealization and its reference).
-/
module

public import proofs.«01_k».proof.Defs
public import proofs.«01_k».proof.Proof.Gen.InProj
public import proofs.«01_k».proof.Proof.Gen.InProj.Frame
public import proofs.«01_k».proof.Proof.Gen.InProjIdeal
public import proofs.«01_k».proof.Proof.Gen.InProjRefIdeal
public import proofs.«01_k».proof.Proof.Gen.InProjRefIdeal.Run
public import proofs.«01_k».proof.Proof.InProjValue
public import Idealize.ShloMosaic.Lib.Quiescent

@[expose] public section

set_option maxRecDepth 16384
set_option backward.proofsInPublic true

noncomputable section

namespace Cert.Proof

open Idealize.ShloMosaic Idealize.ShloMosaic.TcCoe Idealize.SL.Sem

theorem in_proj_ref_quiescent : Cert.quiescent_InProjRefIdeal := fun m ρ _ =>
  (θ_run Cert.InProjRefIdeal.defs _ _).mono (fun r h => ⟨fun c => (h c).2.2.2, sem_eq_zero_of_no_sems (by decide) r.2⟩)
    (Cert.InProjRefIdeal.Value.run (F := Ideal) m ρ)

theorem in_proj_algebraic : Cert.algebraic_InProjIdeal_InProjRefIdeal := by
  intro m g m' g' _ hagree
  refine ⟨_, _, _, Cert.InProjIdeal.Value.run_blocks (F := Ideal) m g, ?_⟩
  refine (θ_run Cert.InProjRefIdeal.defs _ _).mono (fun r h c => ?_) (Cert.InProjRefIdeal.Value.run (F := Ideal) m' g')
  obtain ⟨h0, h1, h2⟩ := hagree c
  obtain ⟨hm, hs, ht, hargs⟩ := h c
  rw [Cert.InProjRefIdeal.Read.val_main_v20_eq, h0, h1, h2, Cert.InProjRefIdeal.Read.main_result] at hm
  rw [Cert.InProjRefIdeal.Read.val_main_v22_eq, h0, h1, h2, Cert.InProjRefIdeal.Read.small_result] at hs
  rw [Cert.InProjRefIdeal.Read.val_main_v24_eq, h0, h1, Cert.InProjRefIdeal.Read.turned_result] at ht
  exact ⟨hm.trans (Cert.InProjIdeal.Value.main_final m c).symm, hs.trans (Cert.InProjIdeal.Value.small_final m c).symm,
    ht.trans (Cert.InProjIdeal.Value.turned_final m c).symm, hargs⟩

end Cert.Proof

end
-- ==== Proof.OutWeightValue.lean ====
/-
  The weight gradient of the output projection for the delta rule's rows (`dw_out_b`):
  the kernel's result array, element by element, as a function of its two arguments.
-/
module

public import proofs.«01_k».proof.Proof.Gen.OutWeightIdeal.Value
public import proofs.«01_k».proof.Proof.Gen.OutWeightRefIdeal.Read
public import Idealize.ShloMosaic.Lib.Pointwise
public import Idealize.ShloMosaic.Lib.Pipeline.ValueKit
public import Idealize.ShloMosaic.Lib.Pipeline.ReadBack

@[expose] public section

set_option maxRecDepth 16384
set_option backward.proofsInPublic true

noncomputable section

namespace Cert.OutWeightIdeal.Value

open Cert.OutWeightIdeal Cert.OutWeightIdeal.Gen Idealize.ShloMosaic Idealize.ShloMosaic.TcCoe Idealize.SL.Sem
open Idealize.ShloMosaic.Pipeline (Dat)
open scoped BigOperators

section Cases

variable (c : Dev nD) (i : grid0.Coords)
  (a3 : Memref sig .tc .vmem S4096x1024 .bf16) (h3 : a3.IsWhole)
  (a4 : Memref sig .tc .vmem S4096x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S4096x1024 .bf16) (x1 : Vec Ideal S4096x1024 .bf16) (s : Vec Ideal S1024x1024 .f32)

/-- The product over a point's 4096 tokens, at an element. -/
def pointSum (p q : Fin 1024) : EReal := ∑ k : Fin 4096, x0 (ix2 k p) * x1 (ix2 k q)

/-- A point's step: the sum so far, and the product over the point's 4096 tokens. -/
theorem step_apply (p q : Fin 1024) : k0_pay2 (F := Ideal) s x0 x1 (ix2 p q) = s (ix2 p q) + pointSum x0 x1 p q := by
  pointwise [k0_pay2]
  rfl

theorem fill_apply (y) : k0_pay1 (F := Ideal) y = 0 := by
  pointwise [k0_pay1]

/-- The first point of a block leaves its own product in the scratch. -/
theorem first_apply (hc0 : cond0_0 i) (hc1 : ¬cond0_1 i) (p q : Fin 1024) :
    sout0_A_0 (F := Ideal) c i a3 h3 a4 h4 a5 h5 a6 h6 hc0 hc1 x0 x1 (ix2 p q) = pointSum x0 x1 p q := by
  unfold sout0_A_0
  frame_open
  simp (disch := decide) only [↓ View.readCov_skip, ↓ View.readCov_cons_toLoadRect, ↓ View.readCov_fill]
  frame_out
  refine (step_apply x0 x1 (k0_pay1 (F := Ideal)) p q).trans ?_
  rw [fill_apply, zero_add]

/-- The second point writes out the scratch and its own product. -/
theorem second_apply (hc0 : ¬cond0_0 i) (hc1 : cond0_1 i) (p q : Fin 1024) :
    out0_B_2 (F := Ideal) c i a3 h3 a4 h4 a5 h5 a6 h6 hc0 hc1 x0 x1 s (ix2 p q) = s (ix2 p q) + pointSum x0 x1 p q := by
  unfold out0_B_2
  frame_open
  simp (disch := decide) only [↓ View.readCov_skip, ↓ View.readCov_cons_toLoadRect, ↓ View.readCov_fill]
  frame_out
  pointwise [k0_pay3]
  exact step_apply x0 x1 s p q

end Cases

/-- The gradient of the weight: the product of the two sides over all tokens. -/
def weightGrad (A : Vec Ideal S1x8192x2048 .f32) (B : Vec Ideal S1x8192x2048 .f32) : Vec Ideal S1024x2048 .bf16 :=
  fun i => ∑ k : Fin 8192, A (ix3 0 k ⟨512 + (i 0).val, by have h : (i 0).val < 1024 := (i 0).isLt; omega⟩) * B (ix3 0 k (i 1))

theorem sum_halves (f : Fin 8192 → EReal) :
    ∑ k : Fin 8192, f k = ∑ k : Fin 4096, f ⟨k.val, by omega⟩ + ∑ k : Fin 4096, f ⟨4096 + k.val, by omega⟩ :=
  Fin.sum_univ_add (a := 4096) (b := 4096) f

variable (m : (ℓ : Loc nD τ sig) → Buf (Elt Ideal) ℓ)

/-- The two arguments of a device. -/
abbrev leftArg (c : Dev nD) : Vec Ideal S1x8192x2048 .f32 := m ((c : Thread nD τ).loc main_arg0)
abbrev rightArg (c : Dev nD) : Vec Ideal S1x8192x2048 .f32 := m ((c : Thread nD τ).loc main_arg1)

theorem left_entry (c : Dev nD) (s : Fin 8192) (p : Fin 1024) : (V m c main_v2 : Vec Ideal S8192x1024 .bf16) (ix2 s p) = leftArg m c (ix3 0 s ⟨512 + p.val, by omega⟩) := by
  unfold V hostOps0
  after_results_simp
  pointwise

theorem right_entry (c : Dev nD) (s : Fin 8192) (p : Fin 2048) : (V m c main_v4 : Vec Ideal S8192x2048 .bf16) (ix2 s p) = rightArg m c (ix3 0 s p) := by
  unfold V hostOps0
  after_results_simp
  pointwise

theorem idx0 : ∀ t : Fin cfg0.N, (cfg0.win 0).index t = ![t.val % 2, 0] := by decide +kernel
theorem idx1 : ∀ t : Fin cfg0.N, (cfg0.win 1).index t = ![t.val % 2, t.val / 2] := by decide +kernel
theorem idx2 : ∀ t : Fin cfg0.N, (cfg0.win 2).index t = ![0, t.val / 2] := by decide +kernel

/-- The token of row `k` of point `t`. -/
abbrev tok (t : Fin cfg0.N) (k : Fin 4096) : Fin 8192 := ⟨t.val % 2 * 4096 + k.val, by omega⟩
/-- The place of `p` in the block of 1024 that point `t` belongs to. -/
abbrev place (t : Fin cfg0.N) (p : Fin 1024) : Fin 2048 := ⟨t.val / 2 * 1024 + p.val, by have h : t.val < 4 := t.isLt; omega⟩

theorem left_block (c : Dev nD) (t : Fin cfg0.N) (k : Fin 4096) (p : Fin 1024) : (iblk m c 0 t : Vec Ideal S4096x1024 .bf16) (ix2 k p) = leftArg m c (ix3 0 (tok t k) ⟨512 + p.val, by omega⟩) := by
  refine Eq.trans ?_ (left_entry m c (tok t k) p)
  blk_ext [iblk, idx0 t]

theorem right_block (c : Dev nD) (t : Fin cfg0.N) (k : Fin 4096) (q : Fin 1024) : (iblk m c 1 t : Vec Ideal S4096x1024 .bf16) (ix2 k q) = rightArg m c (ix3 0 (tok t k) (place t q)) := by
  refine Eq.trans ?_ (right_entry m c (tok t k) (place t q))
  blk_ext [iblk, idx1 t]

theorem weight_final (c : Dev nD) : (dats m 0 c).arrAt 2 cfg0.N = weightGrad (leftArg m c) (rightArg m c) := by
  refine (dats m 0 c).arrAt_eq_of_covers 2 _ (by decide +kernel) fun t hf y => ?_
  have h1 : t.val % 2 = 1 := (flush0_2 t).mp hf
  have hN : t.val < 4 := t.isLt
  have h0 : ¬t.val % 2 = 0 := by omega
  idx_vars y
  blk_simp
  rw [after0_2]
  have e : (win0_2.blk t).view.emb (ix2 y0 y1) = (ix2 y0 (place t y1) : S1024x2048.Idx) := by blk_ext [idx2 t]
  refine Eq.trans ?_ (congrArg (weightGrad (leftArg m c) (rightArg m c)) e).symm
  rw [outsAt0_B m c t h0 h1]
  dsimp only
  rw [second_apply]
  let u : Fin cfg0.N := ⟨t.val - 1, Nat.lt_of_le_of_lt (Nat.sub_le _ _) t.isLt⟩
  have u0 : u.val % 2 = 0 := by show (t.val - 1) % 2 = 0; omega
  have u1 : ¬u.val % 2 = 1 := by omega
  have first : (outsAt0 m c (t.val - 1) (Nat.lt_of_le_of_lt (Nat.sub_le _ _) t.isLt)).2 (ix2 y0 y1)
      = pointSum (iblk m c 0 u) (iblk m c 1 u) y0 y1 := by
    show (outsAt0 m c u.val u.isLt).2 (ix2 y0 y1) = _
    rw [outsAt0_A m c u u0 u1]
    dsimp only
    rw [first_apply]
  have q : u.val / 2 = t.val / 2 := by show (t.val - 1) / 2 = t.val / 2; omega
  rw [first]
  unfold pointSum
  refine Eq.trans ?_ (sum_halves _).symm
  refine congrArg₂ (· + ·) (Finset.sum_congr rfl fun k _ => ?_) (Finset.sum_congr rfl fun k _ => ?_)
  · rw [left_block, right_block]
    have ek : tok u k = (⟨k.val, by omega⟩ : Fin 8192) := Fin.ext (by dsimp only [tok]; omega)
    have ep : place u y1 = place t y1 := Fin.ext (by dsimp only [place]; omega)
    rw [ek, ep]
    rfl
  · rw [left_block, right_block]
    have ek : tok t k = (⟨4096 + k.val, by omega⟩ : Fin 8192) := Fin.ext (by dsimp only [tok]; omega)
    rw [ek]
    rfl

end Cert.OutWeightIdeal.Value

namespace Cert.OutWeightRefIdeal.Read

open Cert.OutWeightRefIdeal Idealize.ShloMosaic Idealize.ShloMosaic.TcCoe Idealize.SL.Sem
open Cert.OutWeightIdeal.Value (weightGrad)
open scoped BigOperators

theorem weight_result (A : FVec Ideal S1x8192x2048 .f32) (B : FVec Ideal S1x8192x2048 .f32) : val_main_v7 (F := Ideal) A B = weightGrad A B := by
  funext i
  idx_vars i
  pointwise [val_main_v7, val_main_v6, val_main_v5, val_main_v4, val_main_v2, val_main_v1]
  exact Finset.sum_congr rfl fun k _ => mul_comm _ _

end Cert.OutWeightRefIdeal.Read

end
-- ==== Proof.OutWeightClaims.lean ====
/-
  The claims about one weight gradient of the output projection (`OutWeight`, its idealization and its reference).
-/
module

public import proofs.«01_k».proof.Defs
public import proofs.«01_k».proof.Proof.Gen.OutWeight
public import proofs.«01_k».proof.Proof.Gen.OutWeight.Frame
public import proofs.«01_k».proof.Proof.Gen.OutWeightIdeal
public import proofs.«01_k».proof.Proof.Gen.OutWeightRefIdeal
public import proofs.«01_k».proof.Proof.Gen.OutWeightRefIdeal.Run
public import proofs.«01_k».proof.Proof.OutWeightValue
public import Idealize.ShloMosaic.Lib.Quiescent

@[expose] public section

set_option maxRecDepth 16384
set_option backward.proofsInPublic true

noncomputable section

namespace Cert.Proof

open Idealize.ShloMosaic Idealize.ShloMosaic.TcCoe Idealize.SL.Sem

theorem out_weight_ref_quiescent : Cert.quiescent_OutWeightRefIdeal := fun m ρ _ =>
  (θ_run Cert.OutWeightRefIdeal.defs _ _).mono (fun r h => ⟨fun c => (h c).2, sem_eq_zero_of_no_sems (by decide) r.2⟩)
    (Cert.OutWeightRefIdeal.Value.run (F := Ideal) m ρ)

theorem out_weight_algebraic : Cert.algebraic_OutWeightIdeal_OutWeightRefIdeal := by
  intro m g m' g' _ hagree
  refine ⟨_, Cert.OutWeightIdeal.Value.run_blocks (F := Ideal) m g, ?_⟩
  refine (θ_run Cert.OutWeightRefIdeal.defs _ _).mono (fun r h c => ?_) (Cert.OutWeightRefIdeal.Value.run (F := Ideal) m' g')
  obtain ⟨h0, h1⟩ := hagree c
  obtain ⟨hw, hargs⟩ := h c
  rw [Cert.OutWeightRefIdeal.Read.val_main_v7_eq, h0, h1, Cert.OutWeightRefIdeal.Read.weight_result] at hw
  exact ⟨hw.trans (Cert.OutWeightIdeal.Value.weight_final m c).symm, hargs⟩

end Cert.Proof

end
-- ==== Proof.InWeightValue.lean ====
/-
  The weight gradient of the input projection for the columns of the convolution (`dw_in_qkv`):
  the kernel's result array, element by element, as a function of its two arguments.
-/
module

public import proofs.«01_k».proof.Proof.Gen.InWeightIdeal.Value
public import proofs.«01_k».proof.Proof.Gen.InWeightRefIdeal.Read
public import Idealize.ShloMosaic.Lib.Pointwise
public import Idealize.ShloMosaic.Lib.Pipeline.ValueKit
public import Idealize.ShloMosaic.Lib.Pipeline.ReadBack

@[expose] public section

set_option maxRecDepth 16384
set_option backward.proofsInPublic true

noncomputable section

namespace Cert.InWeightIdeal.Value

open Cert.InWeightIdeal Cert.InWeightIdeal.Gen Idealize.ShloMosaic Idealize.ShloMosaic.TcCoe Idealize.SL.Sem
open Idealize.ShloMosaic.Pipeline (Dat)
open scoped BigOperators

section Cases

variable (c : Dev nD) (i : grid0.Coords)
  (a3 : Memref sig .tc .vmem S1024x4096 .bf16) (h3 : a3.IsWhole)
  (a4 : Memref sig .tc .vmem S4096x1024 .bf16) (h4 : a4.IsWhole)
  (a5 : Memref sig .tc .vmem S1024x1024 .bf16) (h5 : a5.IsWhole)
  (a6 : Memref sig .tc .vmem S1024x1024 .f32) (h6 : a6.IsWhole)
  (x0 : Vec Ideal S1024x4096 .bf16) (x1 : Vec Ideal S4096x1024 .bf16) (s : Vec Ideal S1024x1024 .f32)

/-- The product over a point's 4096 tokens, at an element. -/
def pointSum (p q : Fin 1024) : EReal := ∑ k : Fin 4096, x0 (ix2 p k) * x1 (ix2 k q)

/-- A point's step: the sum so far, and the product over the point's 4096 tokens. -/
theorem step_apply (p q : Fin 1024) : k0_pay2 (F := Ideal) s x0 x1 (ix2 p q) = s (ix2 p q) + pointSum x0 x1 p q := by
  pointwise [k0_pay2]
  rfl

theorem fill_apply (y) : k0_pay1 (F := Ideal) y = 0 := by
  pointwise [k0_pay1]

/-- The first point of a block leaves its own product in the scratch. -/
theorem first_apply (hc0 : cond0_0 i) (hc1 : ¬cond0_1 i) (p q : Fin 1024) :
    sout0_A_0 (F := Ideal) c i a3 h3 a4 h4 a5 h5 a6 h6 hc0 hc1 x0 x1 (ix2 p q) = pointSum x0 x1 p q := by
  unfold sout0_A_0
  frame_open
  simp (disch := decide) only [↓ View.readCov_skip, ↓ View.readCov_cons_toLoadRect, ↓ View.readCov_fill]
  frame_out
  refine (step_apply x0 x1 (k0_pay1 (F := Ideal)) p q).trans ?_
  rw [fill_apply, zero_add]

/-- The second point writes out the scratch and its own product. -/
theorem second_apply (hc0 : ¬cond0_0 i) (hc1 : cond0_1 i) (p q : Fin 1024) :
    out0_B_2 (F := Ideal) c i a3 h3 a4 h4 a5 h5 a6 h6 hc0 hc1 x0 x1 s (ix2 p q) = s (ix2 p q) + pointSum x0 x1 p q := by
  unfold out0_B_2
  frame_open
  simp (disch := decide) only [↓ View.readCov_skip, ↓ View.readCov_cons_toLoadRect, ↓ View.readCov_fill]
  frame_out
  pointwise [k0_pay3]
  exact step_apply x0 x1 s p q

end Cases

/-- The gradient of the weight: the product of the two sides over all tokens. -/
def weightGrad (A : Vec Ideal S1x8192x2048 .f32) (B : Vec Ideal S1x8192x6672 .f32) : Vec Ideal S2048x3072 .bf16 :=
  fun i => ∑ k : Fin 8192, A (ix3 0 k (i 0)) * B (ix3 0 k ⟨1536 + (i 1).val, by have h : (i 1).val < 3072 := (i 1).isLt; omega⟩)

theorem sum_halves (f : Fin 8192 → EReal) :
    ∑ k : Fin 8192, f k = ∑ k : Fin 4096, f ⟨k.val, by omega⟩ + ∑ k : Fin 4096, f ⟨4096 + k.val, by omega⟩ :=
  Fin.sum_univ_add (a := 4096) (b := 4096) f

variable (m : (ℓ : Loc nD τ sig) → Buf (Elt Ideal) ℓ)

/-- The two arguments of a device. -/
abbrev leftArg (c : Dev nD) : Vec Ideal S1x8192x2048 .f32 := m ((c : Thread nD τ).loc main_arg0)
abbrev rightArg (c : Dev nD) : Vec Ideal S1x8192x6672 .f32 := m ((c : Thread nD τ).loc main_arg1)

theorem left_entry (c : Dev nD) (p : Fin 2048) (s : Fin 8192) : (V m c main_v2 : Vec Ideal S2048x8192 .bf16) (ix2 p s) = leftArg m c (ix3 0 s p) := by
  unfold V hostOps0
  after_results_simp
  pointwise

theorem right_entry (c : Dev nD) (s : Fin 8192) (q : Fin 3072) : (V m c main_v5 : Vec Ideal S8192x3072 .bf16) (ix2 s q) = rightArg m c (ix3 0 s ⟨1536 + q.val, by omega⟩) := by
  unfold V hostOps0
  after_results_simp
  pointwise

theorem idx0 : ∀ t : Fin cfg0.N, (cfg0.win 0).index t = ![t.val / 6, t.val % 2] := by decide +kernel
theorem idx1 : ∀ t : Fin cfg0.N, (cfg0.win 1).index t = ![t.val % 2, t.val / 2 % 3] := by decide +kernel
theorem idx2 : ∀ t : Fin cfg0.N, (cfg0.win 2).index t = ![t.val / 6, t.val / 2 % 3] := by decide +kernel

/-- The token of row `k` of point `t`. -/
abbrev tok (t : Fin cfg0.N) (k : Fin 4096) : Fin 8192 := ⟨t.val % 2 * 4096 + k.val, by omega⟩
/-- The row and the column of an element of the block that point `t` belongs to. -/
abbrev place (t : Fin cfg0.N) (p : Fin 1024) : Fin 2048 := ⟨t.val / 6 * 1024 + p.val, by have h : t.val < 12 := t.isLt; omega⟩
abbrev col (t : Fin cfg0.N) (q : Fin 1024) : Fin 3072 := ⟨t.val / 2 % 3 * 1024 + q.val, by omega⟩

theorem left_block (c : Dev nD) (t : Fin cfg0.N) (p : Fin 1024) (k : Fin 4096) : (iblk m c 0 t : Vec Ideal S1024x4096 .bf16) (ix2 p k) = leftArg m c (ix3 0 (tok t k) (place t p)) := by
  refine Eq.trans ?_ (left_entry m c (place t p) (tok t k))
  blk_ext [iblk, idx0 t]

theorem right_block (c : Dev nD) (t : Fin cfg0.N) (k : Fin 4096) (q : Fin 1024) : (iblk m c 1 t : Vec Ideal S4096x1024 .bf16) (ix2 k q) = rightArg m c (ix3 0 (tok t k) ⟨1536 + (col t q).val, by omega⟩) := by
  refine Eq.trans ?_ (right_entry m c (tok t k) (col t q))
  blk_ext [iblk, idx1 t]

theorem weight_final (c : Dev nD) : (dats m 0 c).arrAt 2 cfg0.N = weightGrad (leftArg m c) (rightArg m c) := by
  refine (dats m 0 c).arrAt_eq_of_covers 2 _ (by decide +kernel) fun t hf y => ?_
  have h1 : t.val % 2 = 1 := (flush0_2 t).mp hf
  have hN : t.val < 12 := t.isLt
  have h0 : ¬t.val % 2 = 0 := by omega
  idx_vars y
  blk_simp
  rw [after0_2]
  have e : (win0_2.blk t).view.emb (ix2 y0 y1) = (ix2 (place t y0) (col t y1) : S2048x3072.Idx) := by blk_ext [idx2 t]
  refine Eq.trans ?_ (congrArg (weightGrad (leftArg m c) (rightArg m c)) e).symm
  rw [outsAt0_B m c t h0 h1]
  dsimp only
  rw [second_apply]
  let u : Fin cfg0.N := ⟨t.val - 1, Nat.lt_of_le_of_lt (Nat.sub_le _ _) t.isLt⟩
  have u0 : u.val % 2 = 0 := by show (t.val - 1) % 2 = 0; omega
  have u1 : ¬u.val % 2 = 1 := by omega
  have first : (outsAt0 m c (t.val - 1) (Nat.lt_of_le_of_lt (Nat.sub_le _ _) t.isLt)).2 (ix2 y0 y1)
      = pointSum (iblk m c 0 u) (iblk m c 1 u) y0 y1 := by
    show (outsAt0 m c u.val u.isLt).2 (ix2 y0 y1) = _
    rw [outsAt0_A m c u u0 u1]
    dsimp only
    rw [first_apply]
  have q : u.val / 6 = t.val / 6 := by show (t.val - 1) / 6 = t.val / 6; omega
  have q' : u.val / 2 = t.val / 2 := by show (t.val - 1) / 2 = t.val / 2; omega
  rw [first]
  unfold pointSum
  refine Eq.trans ?_ (sum_halves _).symm
  refine congrArg₂ (· + ·) (Finset.sum_congr rfl fun k _ => ?_) (Finset.sum_congr rfl fun k _ => ?_)
  · rw [left_block, right_block]
    have ek : tok u k = (⟨k.val, by omega⟩ : Fin 8192) := Fin.ext (by dsimp only [tok]; omega)
    have ep : place u y0 = place t y0 := Fin.ext (by dsimp only [place]; omega)
    have eq : (⟨1536 + (col u y1).val, by omega⟩ : Fin 6672) = ⟨1536 + (col t y1).val, by omega⟩ := Fin.ext (by dsimp only [col]; rw [q'])
    rw [ek, ep, eq]
    rfl
  · rw [left_block, right_block]
    have ek : tok t k = (⟨4096 + k.val, by omega⟩ : Fin 8192) := Fin.ext (by dsimp only [tok]; omega)
    rw [ek]
    rfl

end Cert.InWeightIdeal.Value

namespace Cert.InWeightRefIdeal.Read

open Cert.InWeightRefIdeal Idealize.ShloMosaic Idealize.ShloMosaic.TcCoe Idealize.SL.Sem
open Cert.InWeightIdeal.Value (weightGrad)
open scoped BigOperators

theorem weight_result (A : FVec Ideal S1x8192x2048 .f32) (B : FVec Ideal S1x8192x6672 .f32) : val_main_v7 (F := Ideal) A B = weightGrad A B := by
  funext i
  idx_vars i
  pointwise [val_main_v7, val_main_v6, val_main_v5, val_main_v4, val_main_v3, val_main_v1]
  exact Finset.sum_congr rfl fun k _ => mul_comm _ _

end Cert.InWeightRefIdeal.Read

end
-- ==== Proof.InWeightClaims.lean ====
/-
  The claims about one weight gradient of the input projection (`InWeight`, its idealization and its reference).
-/
module

public import proofs.«01_k».proof.Defs
public import proofs.«01_k».proof.Proof.Gen.InWeight
public import proofs.«01_k».proof.Proof.Gen.InWeight.Frame
public import proofs.«01_k».proof.Proof.Gen.InWeightIdeal
public import proofs.«01_k».proof.Proof.Gen.InWeightRefIdeal
public import proofs.«01_k».proof.Proof.Gen.InWeightRefIdeal.Run
public import proofs.«01_k».proof.Proof.InWeightValue
public import Idealize.ShloMosaic.Lib.Quiescent

@[expose] public section

set_option maxRecDepth 16384
set_option backward.proofsInPublic true

noncomputable section

namespace Cert.Proof

open Idealize.ShloMosaic Idealize.ShloMosaic.TcCoe Idealize.SL.Sem

theorem in_weight_ref_quiescent : Cert.quiescent_InWeightRefIdeal := fun m ρ _ =>
  (θ_run Cert.InWeightRefIdeal.defs _ _).mono (fun r h => ⟨fun c => (h c).2, sem_eq_zero_of_no_sems (by decide) r.2⟩)
    (Cert.InWeightRefIdeal.Value.run (F := Ideal) m ρ)

theorem in_weight_algebraic : Cert.algebraic_InWeightIdeal_InWeightRefIdeal := by
  intro m g m' g' _ hagree
  refine ⟨_, Cert.InWeightIdeal.Value.run_blocks (F := Ideal) m g, ?_⟩
  refine (θ_run Cert.InWeightRefIdeal.defs _ _).mono (fun r h c => ?_) (Cert.InWeightRefIdeal.Value.run (F := Ideal) m' g')
  obtain ⟨h0, h1⟩ := hagree c
  obtain ⟨hw, hargs⟩ := h c
  rw [Cert.InWeightRefIdeal.Read.val_main_v7_eq, h0, h1, Cert.InWeightRefIdeal.Read.weight_result] at hw
  exact ⟨hw.trans (Cert.InWeightIdeal.Value.weight_final m c).symm, hargs⟩

end Cert.Proof

end
-- ==== Proof.DnPreBlocks.lean ====
/-
  What comes before the delta rule, forward (`dn_pre`), at one point of the grid: the kernel's six result blocks, element by element, as functions
  of the six blocks it reads.
-/
module

public import proofs.«01_k».proof.Proof.Gen.DnPreIdeal.Value
public import Idealize.ShloMosaic.Lib.Pointwise
public import Idealize.ShloMosaic.Lib.Pipeline.ValueKit
public import Idealize.ShloMosaic.Lib.Pipeline.ReadBack

@[expose] public section

set_option maxRecDepth 16384
set_option backward.proofsInPublic true

noncomputable section

namespace Cert.DnPreIdeal.Value

open Cert.DnPreIdeal Cert.DnPreIdeal.Gen Idealize.ShloMosaic Idealize.ShloMosaic.TcCoe Idealize.SL.Sem
open Idealize.ShloMosaic.Pipeline (Dat)
open scoped BigOperators

theorem select_positive (i : grid0.Coords) (a b : Ideal .f32) :
    Scalar.select (Scalar.cmpi .sgt (BitVec.ofNat 32 (i 0).val) 0#32) a b = if 0 < (i 0).val then a else b := by
  have key : ∀ n : Fin 32, Scalar.cmpi .sgt (BitVec.ofNat 32 n.val) 0#32 = if 0 < n.val then 1#1 else 0#1 := by decide
  have := key (i 0)
  rw [this]
  split_ifs <;> rfl

/-- The row `j` before row `r` of a tile `x`: for the first rows it is in the tile `h` of the eight
rows before, and zero for the first tile. -/
def back (i : grid0.Coords) (x : Vec Ideal S256x128 .f32) (h : Vec Ideal S8x128 .f32) (j : ℕ) (r : Fin 256) (l : Fin 128) : EReal :=
  if _ : j ≤ r.val then x (ix2 ⟨r.val - j, by omega⟩ l)
  else if 0 < (i 0).val then h (ix2 ⟨8 + r.val - j, by omega⟩ l) else 0

/-- The tile of the convolution of a tile `x` of 256 rows and 128 channels, with the taps `w0` … `w3`. -/
def convTile (i : grid0.Coords) (x : Vec Ideal S256x128 .f32) (h : Vec Ideal S8x128 .f32) (w0 w1 w2 w3 : Vec Ideal S1x128 .f32) :
    Vec Ideal S256x128 .f32 :=
  k0_pay8 (F := Ideal) (k0_pay4 x) (k0_pay5 i x h) (k0_pay6 i x h w3 w0) (k0_pay7 x w3 w0 w1) w1 w2 w2

theorem conv_apply (i : grid0.Coords) (w0 w1 w2 w3 : Vec Ideal S1x128 .f32) (x : Vec Ideal S256x128 .f32) (h : Vec Ideal S8x128 .f32)
    (r : Fin 256) (l : Fin 128) :
    convTile i x h w0 w1 w2 w3 (ix2 r l)
      = w3 (ix2 0 l) * back i x h 0 r l + w0 (ix2 0 l) * back i x h 3 r l + w1 (ix2 0 l) * back i x h 2 r l
        + w2 (ix2 0 l) * back i x h 1 r l := by
  unfold convTile
  pointwise [k0_pay8, k0_pay7, k0_pay6, k0_pay5, k0_pay4]
  unfold back
  obtain ⟨r, hr⟩ := r
  by_cases h8 : r < 8
  · simp only [select_positive]
    interval_cases r <;> simp
  · have e3 : (8 + (r - 8) + 256 - 3) % 256 = r - 3 := by omega
    have e2 : (8 + (r - 8) + 256 - 2) % 256 = r - 2 := by omega
    have e1 : (8 + (r - 8) + 256 - 1) % 256 = r - 1 := by omega
    have e0 : 8 + (r - 8) = r := by omega
    have l3 : 3 ≤ r := by omega
    have l2 : 2 ≤ r := by omega
    have l1 : 1 ≤ r := by omega
    have q (m m' : ℕ) (p : m < 256) (p' : m' < 256) (e : m = m') : x (ix2 ⟨m, p⟩ l) = x (ix2 ⟨m', p'⟩ l) := by
      subst e
      rfl
    dsimp only
    rw [dif_neg h8, dif_pos l3, dif_pos l2, dif_pos l1, dif_pos (Nat.zero_le r), q _ _ _ _ e3, q _ _ _ _ e2, q _ _ _ _ e1, q _ _ _ _ e0]
    rfl

/-- The tile of the values: the convolution times its logistic. -/
def vTile (i : grid0.Coords) (x : Vec Ideal S256x128 .f32) (h : Vec Ideal S8x128 .f32) (w0 w1 w2 w3 : Vec Ideal S1x128 .f32) :
    FVec Ideal S256x128 .f32 :=
  mulf (convTile i x h w0 w1 w2 w3) (logistic (convTile i x h w0 w1 w2 w3))

/-- The tile of the queries: normed and scaled. -/
def qTile (i : grid0.Coords) (x : Vec Ideal S256x128 .f32) (h : Vec Ideal S8x128 .f32) (w0 w1 w2 w3 : Vec Ideal S1x128 .f32) :
    Vec Ideal S256x128 .f32 :=
  k0_pay9 (F := Ideal) (k0_pay4 x) (k0_pay5 i x h) (k0_pay6 i x h w3 w0) (k0_pay7 x w3 w0 w1) w1 w2 w2

/-- The tile of the keys: normed. -/
def kTile (i : grid0.Coords) (x : Vec Ideal S256x128 .f32) (h : Vec Ideal S8x128 .f32) (w0 w1 w2 w3 : Vec Ideal S1x128 .f32) :
    Vec Ideal S256x128 .f32 :=
  k0_pay64 (F := Ideal) (k0_pay58 (BitVec.ofNat 32 (i 0).val) x h)
    (k0_pay60 (k0_pay57 x) (k0_pay58 (BitVec.ofNat 32 (i 0).val) x h) w3 w0 w1) (k0_pay61 (k0_pay57 x) (k0_pay59 w3) w0 w1 w2)
    (k0_pay62 w2)

def silu (y : EReal) : EReal := y * Ideal.logistic y

theorem v_apply (i : grid0.Coords) (w0 w1 w2 w3 : Vec Ideal S1x128 .f32) (x : Vec Ideal S256x128 .f32) (h : Vec Ideal S8x128 .f32)
    (r : Fin 256) (l : Fin 128) : vTile i x h w0 w1 w2 w3 (ix2 r l) = silu (convTile i x h w0 w1 w2 w3 (ix2 r l)) := by
  unfold vTile
  pointwise
  rfl

theorem q_apply (i : grid0.Coords) (w0 w1 w2 w3 : Vec Ideal S1x128 .f32) (x : Vec Ideal S256x128 .f32) (h : Vec Ideal S8x128 .f32)
    (r : Fin 256) (l : Fin 128) :
    qTile i x h w0 w1 w2 w3 (ix2 r l)
      = silu (convTile i x h w0 w1 w2 w3 (ix2 r l))
        * (Ideal.rsqrt (∑ m : Fin 128, silu (convTile i x h w0 w1 w2 w3 (ix2 r m)) * silu (convTile i x h w0 w1 w2 w3 (ix2 r m))
            + Ideal.ofBits .f32 0x358637BD#32) * Ideal.ofBits .f32 0x3DB504F3#32) := by
  unfold qTile
  pointwise [k0_pay9]
  rfl

theorem k_apply (i : grid0.Coords) (w0 w1 w2 w3 : Vec Ideal S1x128 .f32) (x : Vec Ideal S256x128 .f32) (h : Vec Ideal S8x128 .f32)
    (r : Fin 256) (l : Fin 128) :
    kTile i x h w0 w1 w2 w3 (ix2 r l)
      = silu (convTile i x h w0 w1 w2 w3 (ix2 r l))
        * Ideal.rsqrt (∑ m : Fin 128, silu (convTile i x h w0 w1 w2 w3 (ix2 r m)) * silu (convTile i x h w0 w1 w2 w3 (ix2 r m))
            + Ideal.ofBits .f32 0x358637BD#32) := by
  have e : k0_pay63 (F := Ideal) (k0_pay58 (BitVec.ofNat 32 (i 0).val) x h)
      (k0_pay60 (k0_pay57 x) (k0_pay58 (BitVec.ofNat 32 (i 0).val) x h) w3 w0 w1) (k0_pay61 (k0_pay57 x) (k0_pay59 w3) w0 w1 w2)
      (k0_pay62 w2) = convTile i x h w0 w1 w2 w3 := rfl
  unfold kTile
  pointwise [k0_pay64]
  rw [e]
  rfl

section tiles
variable (i : grid0.Coords) (x0 : Vec Ideal S256x3072 .f32) (x1 : Vec Ideal S8x3072 .f32) (x3 : Vec Ideal S4x3072 .f32)

/-- The row `j` before row `r` of a block of all channels, in one channel. -/
def before (j : ℕ) (r : Fin 256) (ch : Fin 3072) : EReal :=
  if _ : j ≤ r.val then x0 (ix2 ⟨r.val - j, by omega⟩ ch)
  else if 0 < (i 0).val then x1 (ix2 ⟨8 + r.val - j, by omega⟩ ch) else 0

/-- The convolution of a block at a row and a channel. -/
def convAt (r : Fin 256) (ch : Fin 3072) : EReal :=
  x3 (ix2 3 ch) * before i x0 x1 0 r ch + x3 (ix2 0 ch) * before i x0 x1 3 r ch + x3 (ix2 1 ch) * before i x0 x1 2 r ch
    + x3 (ix2 2 ch) * before i x0 x1 1 r ch

variable (o : ℕ) (p0 : ∀ a, ![0, o] a + ![256, 128] a ≤ S256x3072.size a) (p1 : ∀ a, ![0, o] a + ![8, 128] a ≤ S8x3072.size a)
  (q0 : ∀ a, ![0, o] a + ![1, 128] a ≤ S4x3072.size a) (q1 : ∀ a, ![1, o] a + ![1, 128] a ≤ S4x3072.size a)
  (q2 : ∀ a, ![2, o] a + ![1, 128] a ≤ S4x3072.size a) (q3 : ∀ a, ![3, o] a + ![1, 128] a ≤ S4x3072.size a)

abbrev xs : Vec Ideal S256x128 .f32 := View.ld x0 (Rect.unit (s := S256x3072) ![0, o] ![256, 128] p0)
abbrev hs : Vec Ideal S8x128 .f32 := View.ld x1 (Rect.unit (s := S8x3072) ![0, o] ![8, 128] p1)
abbrev ws (k : ℕ) (q : ∀ a, ![k, o] a + ![1, 128] a ≤ S4x3072.size a) : Vec Ideal S1x128 .f32 :=
  View.ld x3 (Rect.unit (s := S4x3072) ![k, o] ![1, 128] q)

include p0 in
theorem o_lt (l : Fin 128) : o + l.val < 3072 := by
  have := p0 1
  change o + 128 ≤ 3072 at this
  omega

theorem xs_apply (r : Fin 256) (l : Fin 128) : xs x0 o p0 (ix2 r l) = x0 (ix2 r ⟨o + l.val, o_lt o p0 l⟩) :=
  View.ld_unit_apply_of x0 _ _ p0 _ (ix2 r ⟨o + l.val, o_lt o p0 l⟩) fun a => by
    fin_cases a
    · exact (Nat.zero_add _).symm
    · rfl

theorem hs_apply (r : Fin 8) (l : Fin 128) : hs x1 o p1 (ix2 r l) = x1 (ix2 r ⟨o + l.val, o_lt o p0 l⟩) :=
  View.ld_unit_apply_of x1 _ _ p1 _ (ix2 r ⟨o + l.val, o_lt o p0 l⟩) fun a => by
    fin_cases a
    · exact (Nat.zero_add _).symm
    · rfl

theorem ws_apply (k : Fin 4) (q) (l : Fin 128) : ws x3 o k.val q (ix2 0 l) = x3 (ix2 k ⟨o + l.val, o_lt o p0 l⟩) :=
  View.ld_unit_apply_of x3 _ _ q _ (ix2 k ⟨o + l.val, o_lt o p0 l⟩) fun a => by
    fin_cases a <;> rfl

theorem conv_at (r : Fin 256) (l : Fin 128) :
    convTile i (xs x0 o p0) (hs x1 o p1) (ws x3 o 0 q0) (ws x3 o 1 q1) (ws x3 o 2 q2) (ws x3 o 3 q3) (ix2 r l)
      = convAt i x0 x1 x3 r ⟨o + l.val, o_lt o p0 l⟩ := by
  have b (j : ℕ) : back i (xs x0 o p0) (hs x1 o p1) j r l = before i x0 x1 j r ⟨o + l.val, o_lt o p0 l⟩ := by
    unfold back before
    split_ifs
    · exact xs_apply x0 o p0 _ l
    · exact hs_apply x1 o p0 p1 _ l
    · rfl
  rw [conv_apply, b, b, b, b]
  unfold convAt
  rw [← ws_apply x3 o p0 0 q0, ← ws_apply x3 o p0 1 q1, ← ws_apply x3 o p0 2 q2, ← ws_apply x3 o p0 3 q3]
  rfl

/-- The sum of the squares of the head that holds a channel. -/
def squares (r : Fin 256) (ch : Fin 3072) : EReal :=
  ∑ m : Fin 128, silu (convAt i x0 x1 x3 r ⟨128 * (ch.val / 128) + m.val, by omega⟩)
    * silu (convAt i x0 x1 x3 r ⟨128 * (ch.val / 128) + m.val, by omega⟩)

theorem squares_at (hd : 128 ∣ o) (r : Fin 256) (l : Fin 128) :
    ∑ m : Fin 128, silu (convAt i x0 x1 x3 r ⟨o + m.val, o_lt o p0 m⟩) * silu (convAt i x0 x1 x3 r ⟨o + m.val, o_lt o p0 m⟩)
      = squares i x0 x1 x3 r ⟨o + l.val, o_lt o p0 l⟩ := by
  obtain ⟨n, rfl⟩ := hd
  have e : (128 * n + l.val) / 128 = n := by omega
  unfold squares
  simp only [e]

theorem conv_piece (z : S256x128.Idx) (r : Fin 256) (ch : Fin 3072) (hr : r.val = (z 0).val) (hc : ch.val = o + (z 1).val) :
    convTile i (xs x0 o p0) (hs x1 o p1) (ws x3 o 0 q0) (ws x3 o 1 q1) (ws x3 o 2 q2) (ws x3 o 3 q3) z = convAt i x0 x1 x3 r ch := by
  obtain rfl : r = z 0 := Fin.ext hr
  obtain rfl : ch = ⟨o + (z 1).val, o_lt o p0 (z 1)⟩ := Fin.ext hc
  idx_vars z
  exact conv_at i x0 x1 x3 o p0 p1 q0 q1 q2 q3 _ _

theorem v_piece (z : S256x128.Idx) (r : Fin 256) (ch : Fin 3072) (hr : r.val = (z 0).val) (hc : ch.val = o + (z 1).val) :
    vTile i (xs x0 o p0) (hs x1 o p1) (ws x3 o 0 q0) (ws x3 o 1 q1) (ws x3 o 2 q2) (ws x3 o 3 q3) z
      = silu (convAt i x0 x1 x3 r ch) := by
  obtain rfl : r = z 0 := Fin.ext hr
  obtain rfl : ch = ⟨o + (z 1).val, o_lt o p0 (z 1)⟩ := Fin.ext hc
  idx_vars z
  exact (v_apply i _ _ _ _ _ _ _ _).trans (congrArg silu (conv_at i x0 x1 x3 o p0 p1 q0 q1 q2 q3 _ _))

theorem q_at (hd : 128 ∣ o) (r : Fin 256) (l : Fin 128) :
    qTile i (xs x0 o p0) (hs x1 o p1) (ws x3 o 0 q0) (ws x3 o 1 q1) (ws x3 o 2 q2) (ws x3 o 3 q3) (ix2 r l)
      = silu (convAt i x0 x1 x3 r ⟨o + l.val, o_lt o p0 l⟩)
        * (Ideal.rsqrt (squares i x0 x1 x3 r ⟨o + l.val, o_lt o p0 l⟩ + Ideal.ofBits .f32 0x358637BD#32) * Ideal.ofBits .f32 0x3DB504F3#32) := by
  rw [← squares_at i x0 x1 x3 o p0 hd r l, q_apply]
  simp only [conv_at i x0 x1 x3 o p0 p1 q0 q1 q2 q3]

theorem q_piece (hd : 128 ∣ o) (z : S256x128.Idx) (r : Fin 256) (ch : Fin 3072) (hr : r.val = (z 0).val) (hc : ch.val = o + (z 1).val) :
    qTile i (xs x0 o p0) (hs x1 o p1) (ws x3 o 0 q0) (ws x3 o 1 q1) (ws x3 o 2 q2) (ws x3 o 3 q3) z
      = silu (convAt i x0 x1 x3 r ch)
        * (Ideal.rsqrt (squares i x0 x1 x3 r ch + Ideal.ofBits .f32 0x358637BD#32) * Ideal.ofBits .f32 0x3DB504F3#32) := by
  obtain rfl : r = z 0 := Fin.ext hr
  obtain rfl : ch = ⟨o + (z 1).val, o_lt o p0 (z 1)⟩ := Fin.ext hc
  idx_vars z
  exact q_at i x0 x1 x3 o p0 p1 q0 q1 q2 q3 hd _ _

theorem k_at (hd : 128 ∣ o) (r : Fin 256) (l : Fin 128) :
    kTile i (xs x0 o p0) (hs x1 o p1) (ws x3 o 0 q0) (ws x3 o 1 q1) (ws x3 o 2 q2) (ws x3 o 3 q3) (ix2 r l)
      = silu (convAt i x0 x1 x3 r ⟨o + l.val, o_lt o p0 l⟩)
        * Ideal.rsqrt (squares i x0 x1 x3 r ⟨o + l.val, o_lt o p0 l⟩ + Ideal.ofBits .f32 0x358637BD#32) := by
  rw [← squares_at i x0 x1 x3 o p0 hd r l, k_apply]
  simp only [conv_at i x0 x1 x3 o p0 p1 q0 q1 q2 q3]

theorem k_piece (hd : 128 ∣ o) (z : S256x128.Idx) (r : Fin 256) (ch : Fin 3072) (hr : r.val = (z 0).val) (hc : ch.val = o + (z 1).val) :
    kTile i (xs x0 o p0) (hs x1 o p1) (ws x3 o 0 q0) (ws x3 o 1 q1) (ws x3 o 2 q2) (ws x3 o 3 q3) z
      = silu (convAt i x0 x1 x3 r ch) * Ideal.rsqrt (squares i x0 x1 x3 r ch + Ideal.ofBits .f32 0x358637BD#32) := by
  obtain rfl : r = z 0 := Fin.ext hr
  obtain rfl : ch = ⟨o + (z 1).val, o_lt o p0 (z 1)⟩ := Fin.ext hc
  idx_vars z
  exact k_at i x0 x1 x3 o p0 p1 q0 q1 q2 q3 hd _ _

end tiles

/-- The decay of a row and a lane, before the running sum. -/
def decay (ab : Vec Ideal S256x128 .f32) (al dt : Vec Ideal S1x128 .f32) (r : Fin 256) (l : Fin 128) : EReal :=
  (0 - Ideal.exp (al (ix2 0 l)))
    * (max (ab (ix2 r l) + dt (ix2 0 l)) 0 + Ideal.log1p (Ideal.exp (0 - @FloatOps.absf Ideal _ FTy.f32 (ab (ix2 r l) + dt (ix2 0 l)))))

/-- The gates of a block of rows. -/
abbrev gateTile (ab : Vec Ideal S256x128 .f32) (al dt : Vec Ideal S1x128 .f32) : FVec Ideal S256x128 .f32 :=
  k0_pay183 (k0_pay181 ab) (iota Kind.tc S256x128 32 [1] iota_S256x128_d1_w32) k0_pay182 al dt

/-- The gates at a row and a lane: the running sum of the decays of the chunk in lanes 0 to 7, the
logistic in lanes 8 to 15. -/
def gateAt (ab : Vec Ideal S256x128 .f32) (al dt : Vec Ideal S1x128 .f32) (r : Fin 256) (l : Fin 128) : EReal :=
  if l.val < 8 then ∑ m : Fin 256, if m.val / 64 = r.val / 64 ∧ m ≤ r then decay ab al dt m l else 0
  else if l.val < 16 then Ideal.logistic (ab (ix2 r l)) else 0

theorem gate_apply (ab : Vec Ideal S256x128 .f32) (al dt : Vec Ideal S1x128 .f32) (r : Fin 256) (l : Fin 128) :
    gateTile ab al dt (ix2 r l) = gateAt ab al dt r l := by
  have sh : ∀ m : Fin 256, IntOp.shrui ArithUnit.vector (BitVec.ofNat 32 m.val) 6#32 = BitVec.ofNat 32 (m.val / 64) := by decide +kernel
  have mask (m : Fin 256) :
      IntOp.andi
          (IntOp.cmpi CmpIPredicate.eq (IntOp.shrui ArithUnit.vector (BitVec.ofNat 32 r.val) 6#32)
            (IntOp.shrui ArithUnit.vector (BitVec.ofNat 32 m.val) 6#32))
          (IntOp.cmpi CmpIPredicate.sge (BitVec.ofNat 32 r.val) (BitVec.ofNat 32 m.val))
        = BitVec.ofBool (decide (m.val / 64 = r.val / 64 ∧ m ≤ r)) := by
    rw [sh, sh, WordCmp.cmpi_sge_ofNat (by omega) (by omega), WordCmp.cmpi_eq_ofNat (by omega) (by omega), WordCmp.andi_ofBool]
    congr 1
    rw [← Bool.decide_and]
    exact decide_eq_decide.mpr ⟨fun h => ⟨h.1.symm, h.2⟩, fun h => ⟨h.1.symm, h.2⟩⟩
  pointwise [k0_pay183, k0_pay181, k0_pay182]
  unfold gateAt
  simp only [mask]
  rw [WordCmp.cmpi_slt_ofNat (by omega) (by omega), WordCmp.cmpi_slt_ofNat (by omega) (by omega)]
  by_cases h8 : l.val < 8
  · rw [if_pos h8]
    simp only [h8, decide_true, WordCmp.select_ofBool, if_true]
    refine Finset.sum_congr rfl fun m _ => ?_
    by_cases h : m.val / 64 = r.val / 64 ∧ m ≤ r
    · rw [if_pos h, decide_eq_true h, if_pos rfl]; rfl
    · rw [if_neg h, decide_eq_false h]; rfl
  · rw [if_neg h8]
    simp only [h8, decide_false, WordCmp.select_ofBool, Bool.false_eq_true, if_false]
    by_cases h16 : l.val < 16
    · rw [if_pos h16, decide_eq_true h16, if_pos rfl]
    · rw [if_neg h16, decide_eq_false h16]; rfl

section blocks
variable (c : Dev nD) (i : grid0.Coords)
  (a1 : Memref sig .tc .vmem S256x3072 .f32) (h1 : a1.IsWhole)
  (a2 : Memref sig .tc .vmem S8x3072 .f32) (h2 : a2.IsWhole)
  (a3 : Memref sig .tc .vmem S256x128 .f32) (h3 : a3.IsWhole)
  (a4 : Memref sig .tc .vmem S4x3072 .f32) (h4 : a4.IsWhole)
  (a5 : Memref sig .tc .vmem S1x128 .f32) (h5 : a5.IsWhole)
  (a6 : Memref sig .tc .vmem S1x128 .f32) (h6 : a6.IsWhole)
  (a7 : Memref sig .tc .vmem S256x1024 .f32) (h7 : a7.IsWhole)
  (a8 : Memref sig .tc .vmem S256x1024 .f32) (h8 : a8.IsWhole)
  (a9 : Memref sig .tc .vmem S256x1024 .f32) (h9 : a9.IsWhole)
  (a10 : Memref sig .tc .vmem S256x128 .f32) (h10 : a10.IsWhole)
  (a11 : Memref sig .tc .vmem S4x16x64 .f32) (h11 : a11.IsWhole)
  (a12 : Memref sig .tc .vmem S256x3072 .f32) (h12 : a12.IsWhole)
  (x0 : Vec Ideal S256x3072 .f32) (x1 : Vec Ideal S8x3072 .f32) (x2 : Vec Ideal S256x128 .f32) (x3 : Vec Ideal S4x3072 .f32)
  (x4 x5 : Vec Ideal S1x128 .f32)

theorem block6 (y : S256x1024.Idx) :
    out0_A_6 (F := Ideal) c i a1 h1 a2 h2 a3 h3 a4 h4 a5 h5 a6 h6 a7 h7 a8 h8 a9 h9 a10 h10 a11 h11 a12 h12 x0 x1 x2 x3 x4 x5 y
      = silu (convAt i x0 x1 x3 (y 0) ⟨0 + (y 1).val, by have : (y 1).val < 1024 := (y 1).isLt; omega⟩)
        * (Ideal.rsqrt (squares i x0 x1 x3 (y 0) ⟨0 + (y 1).val, by have : (y 1).val < 1024 := (y 1).isLt; omega⟩ + Ideal.ofBits .f32 0x358637BD#32) * Ideal.ofBits .f32 0x3DB504F3#32) := by
  have b1 : (y 1).val < 1024 := (y 1).isLt
  frame_out
  canon_tiles x hx
  · exact q_piece i x0 x1 x3 896 _ _ _ _ _ _ (by decide) x (y 0) ⟨0 + (y 1).val, by omega⟩ hx0 (by change 0 + (y 1).val = 896 + (x 1).val; omega)
  · exact q_piece i x0 x1 x3 768 _ _ _ _ _ _ (by decide) x (y 0) ⟨0 + (y 1).val, by omega⟩ hx0 (by change 0 + (y 1).val = 768 + (x 1).val; omega)
  · exact q_piece i x0 x1 x3 640 _ _ _ _ _ _ (by decide) x (y 0) ⟨0 + (y 1).val, by omega⟩ hx0 (by change 0 + (y 1).val = 640 + (x 1).val; omega)
  · exact q_piece i x0 x1 x3 512 _ _ _ _ _ _ (by decide) x (y 0) ⟨0 + (y 1).val, by omega⟩ hx0 (by change 0 + (y 1).val = 512 + (x 1).val; omega)
  · exact q_piece i x0 x1 x3 384 _ _ _ _ _ _ (by decide) x (y 0) ⟨0 + (y 1).val, by omega⟩ hx0 (by change 0 + (y 1).val = 384 + (x 1).val; omega)
  · exact q_piece i x0 x1 x3 256 _ _ _ _ _ _ (by decide) x (y 0) ⟨0 + (y 1).val, by omega⟩ hx0 (by change 0 + (y 1).val = 256 + (x 1).val; omega)
  · exact q_piece i x0 x1 x3 128 _ _ _ _ _ _ (by decide) x (y 0) ⟨0 + (y 1).val, by omega⟩ hx0 (by change 0 + (y 1).val = 128 + (x 1).val; omega)
  · exact q_piece i x0 x1 x3 0 _ _ _ _ _ _ (by decide) x (y 0) ⟨0 + (y 1).val, by omega⟩ hx0 (by change 0 + (y 1).val = 0 + (x 1).val; omega)

theorem block7 (y : S256x1024.Idx) :
    out0_A_7 (F := Ideal) c i a1 h1 a2 h2 a3 h3 a4 h4 a5 h5 a6 h6 a7 h7 a8 h8 a9 h9 a10 h10 a11 h11 a12 h12 x0 x1 x2 x3 x4 x5 y
      = silu (convAt i x0 x1 x3 (y 0) ⟨1024 + (y 1).val, by have : (y 1).val < 1024 := (y 1).isLt; omega⟩)
        * Ideal.rsqrt (squares i x0 x1 x3 (y 0) ⟨1024 + (y 1).val, by have : (y 1).val < 1024 := (y 1).isLt; omega⟩ + Ideal.ofBits .f32 0x358637BD#32) := by
  have b1 : (y 1).val < 1024 := (y 1).isLt
  frame_out
  canon_tiles x hx
  · exact k_piece i x0 x1 x3 1920 _ _ _ _ _ _ (by decide) x (y 0) ⟨1024 + (y 1).val, by omega⟩ hx0 (by change 1024 + (y 1).val = 1920 + (x 1).val; omega)
  · exact k_piece i x0 x1 x3 1792 _ _ _ _ _ _ (by decide) x (y 0) ⟨1024 + (y 1).val, by omega⟩ hx0 (by change 1024 + (y 1).val = 1792 + (x 1).val; omega)
  · exact k_piece i x0 x1 x3 1664 _ _ _ _ _ _ (by decide) x (y 0) ⟨1024 + (y 1).val, by omega⟩ hx0 (by change 1024 + (y 1).val = 1664 + (x 1).val; omega)
  · exact k_piece i x0 x1 x3 1536 _ _ _ _ _ _ (by decide) x (y 0) ⟨1024 + (y 1).val, by omega⟩ hx0 (by change 1024 + (y 1).val = 1536 + (x 1).val; omega)
  · exact k_piece i x0 x1 x3 1408 _ _ _ _ _ _ (by decide) x (y 0) ⟨1024 + (y 1).val, by omega⟩ hx0 (by change 1024 + (y 1).val = 1408 + (x 1).val; omega)
  · exact k_piece i x0 x1 x3 1280 _ _ _ _ _ _ (by decide) x (y 0) ⟨1024 + (y 1).val, by omega⟩ hx0 (by change 1024 + (y 1).val = 1280 + (x 1).val; omega)
  · exact k_piece i x0 x1 x3 1152 _ _ _ _ _ _ (by decide) x (y 0) ⟨1024 + (y 1).val, by omega⟩ hx0 (by change 1024 + (y 1).val = 1152 + (x 1).val; omega)
  · exact k_piece i x0 x1 x3 1024 _ _ _ _ _ _ (by decide) x (y 0) ⟨1024 + (y 1).val, by omega⟩ hx0 (by change 1024 + (y 1).val = 1024 + (x 1).val; omega)

theorem block8 (y : S256x1024.Idx) :
    out0_A_8 (F := Ideal) c i a1 h1 a2 h2 a3 h3 a4 h4 a5 h5 a6 h6 a7 h7 a8 h8 a9 h9 a10 h10 a11 h11 a12 h12 x0 x1 x2 x3 x4 x5 y
      = silu (convAt i x0 x1 x3 (y 0) ⟨2048 + (y 1).val, by have : (y 1).val < 1024 := (y 1).isLt; omega⟩) := by
  have b1 : (y 1).val < 1024 := (y 1).isLt
  frame_out
  canon_tiles x hx
  · exact v_piece i x0 x1 x3 2944 _ _ _ _ _ _ x (y 0) ⟨2048 + (y 1).val, by omega⟩ hx0 (by change 2048 + (y 1).val = 2944 + (x 1).val; omega)
  · exact v_piece i x0 x1 x3 2816 _ _ _ _ _ _ x (y 0) ⟨2048 + (y 1).val, by omega⟩ hx0 (by change 2048 + (y 1).val = 2816 + (x 1).val; omega)
  · exact v_piece i x0 x1 x3 2688 _ _ _ _ _ _ x (y 0) ⟨2048 + (y 1).val, by omega⟩ hx0 (by change 2048 + (y 1).val = 2688 + (x 1).val; omega)
  · exact v_piece i x0 x1 x3 2560 _ _ _ _ _ _ x (y 0) ⟨2048 + (y 1).val, by omega⟩ hx0 (by change 2048 + (y 1).val = 2560 + (x 1).val; omega)
  · exact v_piece i x0 x1 x3 2432 _ _ _ _ _ _ x (y 0) ⟨2048 + (y 1).val, by omega⟩ hx0 (by change 2048 + (y 1).val = 2432 + (x 1).val; omega)
  · exact v_piece i x0 x1 x3 2304 _ _ _ _ _ _ x (y 0) ⟨2048 + (y 1).val, by omega⟩ hx0 (by change 2048 + (y 1).val = 2304 + (x 1).val; omega)
  · exact v_piece i x0 x1 x3 2176 _ _ _ _ _ _ x (y 0) ⟨2048 + (y 1).val, by omega⟩ hx0 (by change 2048 + (y 1).val = 2176 + (x 1).val; omega)
  · exact v_piece i x0 x1 x3 2048 _ _ _ _ _ _ x (y 0) ⟨2048 + (y 1).val, by omega⟩ hx0 (by change 2048 + (y 1).val = 2048 + (x 1).val; omega)

theorem block11 (y : S256x3072.Idx) :
    out0_A_11 (F := Ideal) c i a1 h1 a2 h2 a3 h3 a4 h4 a5 h5 a6 h6 a7 h7 a8 h8 a9 h9 a10 h10 a11 h11 a12 h12 x0 x1 x2 x3 x4 x5 y
      = convAt i x0 x1 x3 (y 0) ⟨0 + (y 1).val, by have : (y 1).val < 3072 := (y 1).isLt; omega⟩ := by
  have b1 : (y 1).val < 3072 := (y 1).isLt
  frame_out
  canon_tiles x hx
  · exact conv_piece i x0 x1 x3 2944 _ _ _ _ _ _ x (y 0) ⟨0 + (y 1).val, by omega⟩ hx0 (by change 0 + (y 1).val = 2944 + (x 1).val; omega)
  · exact conv_piece i x0 x1 x3 2816 _ _ _ _ _ _ x (y 0) ⟨0 + (y 1).val, by omega⟩ hx0 (by change 0 + (y 1).val = 2816 + (x 1).val; omega)
  · exact conv_piece i x0 x1 x3 2688 _ _ _ _ _ _ x (y 0) ⟨0 + (y 1).val, by omega⟩ hx0 (by change 0 + (y 1).val = 2688 + (x 1).val; omega)
  · exact conv_piece i x0 x1 x3 2560 _ _ _ _ _ _ x (y 0) ⟨0 + (y 1).val, by omega⟩ hx0 (by change 0 + (y 1).val = 2560 + (x 1).val; omega)
  · exact conv_piece i x0 x1 x3 2432 _ _ _ _ _ _ x (y 0) ⟨0 + (y 1).val, by omega⟩ hx0 (by change 0 + (y 1).val = 2432 + (x 1).val; omega)
  · exact conv_piece i x0 x1 x3 2304 _ _ _ _ _ _ x (y 0) ⟨0 + (y 1).val, by omega⟩ hx0 (by change 0 + (y 1).val = 2304 + (x 1).val; omega)
  · exact conv_piece i x0 x1 x3 2176 _ _ _ _ _ _ x (y 0) ⟨0 + (y 1).val, by omega⟩ hx0 (by change 0 + (y 1).val = 2176 + (x 1).val; omega)
  · exact conv_piece i x0 x1 x3 2048 _ _ _ _ _ _ x (y 0) ⟨0 + (y 1).val, by omega⟩ hx0 (by change 0 + (y 1).val = 2048 + (x 1).val; omega)
  · exact conv_piece i x0 x1 x3 1920 _ _ _ _ _ _ x (y 0) ⟨0 + (y 1).val, by omega⟩ hx0 (by change 0 + (y 1).val = 1920 + (x 1).val; omega)
  · exact conv_piece i x0 x1 x3 1792 _ _ _ _ _ _ x (y 0) ⟨0 + (y 1).val, by omega⟩ hx0 (by change 0 + (y 1).val = 1792 + (x 1).val; omega)
  · exact conv_piece i x0 x1 x3 1664 _ _ _ _ _ _ x (y 0) ⟨0 + (y 1).val, by omega⟩ hx0 (by change 0 + (y 1).val = 1664 + (x 1).val; omega)
  · exact conv_piece i x0 x1 x3 1536 _ _ _ _ _ _ x (y 0) ⟨0 + (y 1).val, by omega⟩ hx0 (by change 0 + (y 1).val = 1536 + (x 1).val; omega)
  · exact conv_piece i x0 x1 x3 1408 _ _ _ _ _ _ x (y 0) ⟨0 + (y 1).val, by omega⟩ hx0 (by change 0 + (y 1).val = 1408 + (x 1).val; omega)
  · exact conv_piece i x0 x1 x3 1280 _ _ _ _ _ _ x (y 0) ⟨0 + (y 1).val, by omega⟩ hx0 (by change 0 + (y 1).val = 1280 + (x 1).val; omega)
  · exact conv_piece i x0 x1 x3 1152 _ _ _ _ _ _ x (y 0) ⟨0 + (y 1).val, by omega⟩ hx0 (by change 0 + (y 1).val = 1152 + (x 1).val; omega)
  · exact conv_piece i x0 x1 x3 1024 _ _ _ _ _ _ x (y 0) ⟨0 + (y 1).val, by omega⟩ hx0 (by change 0 + (y 1).val = 1024 + (x 1).val; omega)
  · exact conv_piece i x0 x1 x3 896 _ _ _ _ _ _ x (y 0) ⟨0 + (y 1).val, by omega⟩ hx0 (by change 0 + (y 1).val = 896 + (x 1).val; omega)
  · exact conv_piece i x0 x1 x3 768 _ _ _ _ _ _ x (y 0) ⟨0 + (y 1).val, by omega⟩ hx0 (by change 0 + (y 1).val = 768 + (x 1).val; omega)
  · exact conv_piece i x0 x1 x3 640 _ _ _ _ _ _ x (y 0) ⟨0 + (y 1).val, by omega⟩ hx0 (by change 0 + (y 1).val = 640 + (x 1).val; omega)
  · exact conv_piece i x0 x1 x3 512 _ _ _ _ _ _ x (y 0) ⟨0 + (y 1).val, by omega⟩ hx0 (by change 0 + (y 1).val = 512 + (x 1).val; omega)
  · exact conv_piece i x0 x1 x3 384 _ _ _ _ _ _ x (y 0) ⟨0 + (y 1).val, by omega⟩ hx0 (by change 0 + (y 1).val = 384 + (x 1).val; omega)
  · exact conv_piece i x0 x1 x3 256 _ _ _ _ _ _ x (y 0) ⟨0 + (y 1).val, by omega⟩ hx0 (by change 0 + (y 1).val = 256 + (x 1).val; omega)
  · exact conv_piece i x0 x1 x3 128 _ _ _ _ _ _ x (y 0) ⟨0 + (y 1).val, by omega⟩ hx0 (by change 0 + (y 1).val = 128 + (x 1).val; omega)
  · exact conv_piece i x0 x1 x3 0 _ _ _ _ _ _ x (y 0) ⟨0 + (y 1).val, by omega⟩ hx0 (by change 0 + (y 1).val = 0 + (x 1).val; omega)

theorem block9 (y : S256x128.Idx) :
    out0_A_9 (F := Ideal) c i a1 h1 a2 h2 a3 h3 a4 h4 a5 h5 a6 h6 a7 h7 a8 h8 a9 h9 a10 h10 a11 h11 a12 h12 x0 x1 x2 x3 x4 x5 y
      = gateAt x2 x4 x5 (y 0) (y 1) := by
  frame_out
  rw [← ix2_eta y]
  exact gate_apply x2 x4 x5 (y 0) (y 1)

theorem block10 (y : S4x16x64.Idx) :
    out0_A_10 (F := Ideal) c i a1 h1 a2 h2 a3 h3 a4 h4 a5 h5 a6 h6 a7 h7 a8 h8 a9 h9 a10 h10 a11 h11 a12 h12 x0 x1 x2 x3 x4 x5 y
      = gateAt x2 x4 x5 ⟨64 * (y 0).val + (y 2).val, by have : (y 0).val < 4 := (y 0).isLt; have : (y 2).val < 64 := (y 2).isLt; omega⟩
        ⟨(y 1).val, by have : (y 1).val < 16 := (y 1).isLt; omega⟩ := by
  have b0 : (y 0).val < 4 := (y 0).isLt
  have b1 : (y 1).val < 16 := (y 1).isLt
  have b2 : (y 2).val < 64 := (y 2).isLt
  frame_out
  canon_tiles x hx
  · rw [← ix3_eta x]
    generalize hG : k0_pay183 (F := Ideal) _ _ _ _ _ = G
    pointwise [k0_pay3]
    rw [← hG]
    refine (gate_apply x2 x4 x5 _ _).trans ?_
    refine congrArg₂ (gateAt x2 x4 x5) (Fin.ext ?_) (Fin.ext ?_)
    · change 192 + (x 2).val = 64 * (y 0).val + (y 2).val
      omega
    · change (x 1).val = (y 1).val
      omega
  · rw [← ix3_eta x]
    generalize hG : k0_pay183 (F := Ideal) _ _ _ _ _ = G
    pointwise [k0_pay2]
    rw [← hG]
    refine (gate_apply x2 x4 x5 _ _).trans ?_
    refine congrArg₂ (gateAt x2 x4 x5) (Fin.ext ?_) (Fin.ext ?_)
    · change 128 + (x 2).val = 64 * (y 0).val + (y 2).val
      omega
    · change (x 1).val = (y 1).val
      omega
  · rw [← ix3_eta x]
    generalize hG : k0_pay183 (F := Ideal) _ _ _ _ _ = G
    pointwise [k0_pay1, k0_pay185]
    rw [← hG]
    refine (gate_apply x2 x4 x5 _ _).trans ?_
    refine congrArg₂ (gateAt x2 x4 x5) (Fin.ext ?_) (Fin.ext ?_)
    · change 64 + (x 2).val = 64 * (y 0).val + (y 2).val
      omega
    · change (x 1).val = (y 1).val
      omega
  · rw [← ix3_eta x]
    generalize hG : k0_pay183 (F := Ideal) _ _ _ _ _ = G
    pointwise [k0_pay184]
    rw [← hG]
    refine (gate_apply x2 x4 x5 _ _).trans ?_
    refine congrArg₂ (gateAt x2 x4 x5) (Fin.ext ?_) (Fin.ext ?_)
    · change (x 2).val = 64 * (y 0).val + (y 2).val
      omega
    · change (x 1).val = (y 1).val
      omega
end blocks

end Cert.DnPreIdeal.Value

end
-- ==== Proof.DnPreValue.lean ====
/-
  What comes before the delta rule, forward (`dn_pre`): the kernel's six result arrays, element by element, as functions of its
  four arguments, and that they are what the reference's lines give.
-/
module

public import proofs.«01_k».proof.Proof.DnPreBlocks
public import proofs.«01_k».proof.Proof.Gen.DnPreRefIdeal.Read

@[expose] public section

set_option maxRecDepth 16384
set_option backward.proofsInPublic true

noncomputable section

namespace Cert.DnPreIdeal.Value

open Cert.DnPreIdeal Cert.DnPreIdeal.Gen Idealize.ShloMosaic Idealize.ShloMosaic.TcCoe Idealize.SL.Sem
open Idealize.ShloMosaic.Pipeline (Dat)
open scoped BigOperators

section spec
variable (P : Vec Ideal S1x8192x6672 .f32) (W : Vec Ideal S1x4x3072 .f32) (A D : Vec Ideal S1x8 .f32)

/-- The row `j` before row `s` in a channel of the convolution, zero before the first row. -/
def tap (j : ℕ) (s : Fin 8192) (ch : Fin 3072) : EReal :=
  if _ : j ≤ s.val then P (ix3 0 ⟨s.val - j, by omega⟩ ⟨1536 + ch.val, by omega⟩) else 0

/-- The convolution. -/
def mixed (s : Fin 8192) (ch : Fin 3072) : EReal :=
  W (ix3 0 3 ch) * tap P 0 s ch + W (ix3 0 0 ch) * tap P 3 s ch + W (ix3 0 1 ch) * tap P 2 s ch + W (ix3 0 2 ch) * tap P 1 s ch

/-- The sum of the squares of the head that holds a channel. -/
def energy (s : Fin 8192) (ch : Fin 3072) : EReal :=
  ∑ m : Fin 128, silu (mixed P W s ⟨128 * (ch.val / 128) + m.val, by omega⟩) * silu (mixed P W s ⟨128 * (ch.val / 128) + m.val, by omega⟩)

def queryAt (s : Fin 8192) (a : Fin 1024) : EReal :=
  silu (mixed P W s ⟨0 + a.val, by omega⟩)
    * (Ideal.rsqrt (energy P W s ⟨0 + a.val, by omega⟩ + Ideal.ofBits .f32 0x358637BD#32) * Ideal.ofBits .f32 0x3DB504F3#32)

def keyAt (s : Fin 8192) (a : Fin 1024) : EReal :=
  silu (mixed P W s ⟨1024 + a.val, by omega⟩)
    * Ideal.rsqrt (energy P W s ⟨1024 + a.val, by omega⟩ + Ideal.ofBits .f32 0x358637BD#32)

def valueAt (s : Fin 8192) (a : Fin 1024) : EReal := silu (mixed P W s ⟨2048 + a.val, by omega⟩)

/-- The decay of a row and a head. -/
def logDecay (s : Fin 8192) (h : Fin 8) : EReal :=
  (0 - Ideal.exp (A (ix2 0 h)))
    * (max (P (ix3 0 s ⟨5632 + h.val, by omega⟩) + D (ix2 0 h)) 0
      + Ideal.log1p (Ideal.exp (0 - @FloatOps.absf Ideal _ FTy.f32 (P (ix3 0 s ⟨5632 + h.val, by omega⟩) + D (ix2 0 h)))))

/-- The gates of a row: the running sums of the decays of its chunk of 64 rows, then the write strengths. -/
def gatesAt (s : Fin 8192) (l : Fin 128) : EReal :=
  if h : l.val < 8 then ∑ k : Fin 64, if k.val ≤ s.val % 64 then logDecay P A D ⟨64 * (s.val / 64) + k.val, by omega⟩ ⟨l.val, h⟩ else 0
  else if l.val < 16 then Ideal.logistic (P (ix3 0 s ⟨5632 + l.val, by omega⟩)) else 0

def queryGrid : Vec Ideal S8192x1024 .f32 := fun i => queryAt P W (i 0) (i 1)
def keyGrid : Vec Ideal S8192x1024 .f32 := fun i => keyAt P W (i 0) (i 1)
def valueGrid : Vec Ideal S8192x1024 .f32 := fun i => valueAt P W (i 0) (i 1)
def gatesGrid : Vec Ideal S8192x128 .f32 := fun i => gatesAt P A D (i 0) (i 1)
def turnedAt (b : Fin 128) (l : Fin 16) (r : Fin 64) : EReal :=
  gatesAt P A D ⟨64 * b.val + r.val, by omega⟩ ⟨l.val, by omega⟩
def turnedGrid : Vec Ideal S128x16x64 .f32 := fun i => turnedAt P A D (i 0) (i 1) (i 2)
def mixedGrid : Vec Ideal S8192x3072 .f32 := fun i => mixed P W (i 0) (i 1)

end spec

variable (m : (ℓ : Loc nD τ sig) → Buf (Elt Ideal) ℓ)

/-- The four arguments of a device. -/
abbrev projArg (c : Dev nD) : Vec Ideal S1x8192x6672 .f32 := m ((c : Thread nD τ).loc main_arg0)
abbrev convArg (c : Dev nD) : Vec Ideal S1x4x3072 .f32 := m ((c : Thread nD τ).loc main_arg1)
abbrev logArg (c : Dev nD) : Vec Ideal S1x8 .f32 := m ((c : Thread nD τ).loc main_arg2)
abbrev biasArg (c : Dev nD) : Vec Ideal S1x8 .f32 := m ((c : Thread nD τ).loc main_arg3)

theorem zero_word : FloatOps.sitofp (F := Ideal) .f32 0#32 = (0 : EReal) := by
  show ((((0#32 : BitVec 32).toInt : ℤ) : ℝ) : EReal) = 0
  simp

theorem own_entry (c : Dev nD) (s : Fin 8192) (a : Fin 3072) :
    (V m c main_v7 : Vec Ideal S8192x6656 .f32) (ix2 s ⟨a.val, by omega⟩) = projArg m c (ix3 0 s ⟨1536 + a.val, by omega⟩) := by
  unfold V hostOps0 hostOps0_1 hostOps0_2 hostOps0_3 hostOps0_4 hostOps0_5
  simp only [List.flatten_cons, List.flatten_nil, List.append_nil, List.cons_append, List.nil_append]
  after_results_simp
  pointwise
  rw [dif_pos (by omega)]
  after_results_simp
  pointwise

theorem gate_entry (c : Dev nD) (s : Fin 8192) (l : Fin 128) :
    (V m c main_v2 : Vec Ideal S8192x128 .f32) (ix2 s l)
      = if h : l.val < 16 then projArg m c (ix3 0 s ⟨5632 + l.val, by omega⟩) else 0 := by
  unfold V hostOps0 hostOps0_1 hostOps0_2 hostOps0_3 hostOps0_4 hostOps0_5
  simp only [List.flatten_cons, List.flatten_nil, List.append_nil, List.cons_append, List.nil_append]
  after_results_simp
  show (pad S8192x128 ![0, 0] ![0, 112] ![0, 0] (shapeCast S8192x16 (extractStridedSlice S1x8192x16 ![0, 0, 5632]
    (projArg m c) slices_S1x8192x6672_S1x8192x16_0_0_5632) shapeCasts_S1x8192x16_S8192x16)
    (sitofp (F := Ideal) .f32 (constantI S_ 32 0#32)) pads_S8192x16_S8192x128_000_01120 h_S_) (ix2 s l) = _
  pointwise
  rw [zero_word]

theorem conv_entry (c : Dev nD) (k : Fin 4) (a : Fin 3072) :
    (V m c main_v8 : Vec Ideal S4x3072 .f32) (ix2 k a) = convArg m c (ix3 0 k a) := by
  unfold V hostOps0 hostOps0_1 hostOps0_2 hostOps0_3 hostOps0_4 hostOps0_5
  simp only [List.flatten_cons, List.flatten_nil, List.append_nil, List.cons_append, List.nil_append]
  after_results_simp
  pointwise

theorem log_entry (c : Dev nD) (h : Fin 8) :
    (V m c main_v9 : Vec Ideal S1x128 .f32) (ix2 0 ⟨h.val, by omega⟩) = logArg m c (ix2 0 h) := by
  unfold V hostOps0 hostOps0_1 hostOps0_2 hostOps0_3 hostOps0_4 hostOps0_5
  simp only [List.flatten_cons, List.flatten_nil, List.append_nil, List.cons_append, List.nil_append]
  after_results_simp
  show (pad S1x128 ![0, 0] ![0, 120] ![0, 0] (logArg m c) (sitofp (F := Ideal) .f32 (constantI S_ 32 0#32))
    pads_S1x8_S1x128_000_01200 h_S_) (ix2 0 ⟨h.val, by omega⟩) = _
  pointwise

theorem bias_entry (c : Dev nD) (h : Fin 8) :
    (V m c main_v10 : Vec Ideal S1x128 .f32) (ix2 0 ⟨h.val, by omega⟩) = biasArg m c (ix2 0 h) := by
  unfold V hostOps0 hostOps0_1 hostOps0_2 hostOps0_3 hostOps0_4 hostOps0_5
  simp only [List.flatten_cons, List.flatten_nil, List.append_nil, List.cons_append, List.nil_append]
  after_results_simp
  show (pad S1x128 ![0, 0] ![0, 120] ![0, 0] (biasArg m c) (sitofp (F := Ideal) .f32 (constantI S_ 32 0#32))
    pads_S1x8_S1x128_000_01200 h_S_) (ix2 0 ⟨h.val, by omega⟩) = _
  pointwise

theorem idx0 : ∀ t : Fin cfg0.N, (cfg0.win 0).index t = ![t.val, 0] := by decide +kernel
theorem idx1 : ∀ t : Fin cfg0.N, (cfg0.win 1).index t = ![t.val * 32 - 1, 0] := by decide +kernel
theorem idx2 : ∀ t : Fin cfg0.N, (cfg0.win 2).index t = ![t.val, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![t.val, 0] := by decide +kernel
theorem idx7 : ∀ t : Fin cfg0.N, (cfg0.win 7).index t = ![t.val, 0] := by decide +kernel
theorem idx8 : ∀ t : Fin cfg0.N, (cfg0.win 8).index t = ![t.val, 0] := by decide +kernel
theorem idx9 : ∀ t : Fin cfg0.N, (cfg0.win 9).index t = ![t.val, 0] := by decide +kernel
theorem idx10 : ∀ t : Fin cfg0.N, (cfg0.win 10).index t = ![t.val, 0, 0] := by decide +kernel
theorem idx11 : ∀ t : Fin cfg0.N, (cfg0.win 11).index t = ![t.val, 0] := by decide +kernel
theorem point : ∀ t : Fin cfg0.N, (grid0.coords t 0).val = t.val := by decide +kernel

/-- Row `r` of point `t`'s tile is row `256 t + r`. -/
abbrev tok (t : Fin cfg0.N) (r : Fin 256) : Fin 8192 := ⟨t.val * 256 + r.val, by have h : t.val < 32 := t.isLt; omega⟩

theorem rows_block (c : Dev nD) (t : Fin cfg0.N) (r : Fin 256) (a : Fin 3072) :
    (X0_0 m c t : Vec Ideal S256x3072 .f32) (ix2 r a) = projArg m c (ix3 0 (tok t r) ⟨1536 + a.val, by omega⟩) := by
  refine Eq.trans ?_ (own_entry m c (tok t r) a)
  unfold X0_0 Pipeline.Window.fill
  rw [dif_pos (moved0_0 t _)]
  blk_ext [iblk, idx0 t]

theorem halo_block (c : Dev nD) (t : Fin cfg0.N) (r : Fin 8) (a : Fin 3072) :
    (X0_1 m c t : Vec Ideal S8x3072 .f32) (ix2 r a)
      = projArg m c (ix3 0 ⟨(t.val * 32 - 1) * 8 + r.val, by have h : t.val < 32 := t.isLt; omega⟩ ⟨1536 + a.val, by omega⟩) := by
  refine Eq.trans ?_ (own_entry m c ⟨(t.val * 32 - 1) * 8 + r.val, by have h : t.val < 32 := t.isLt; omega⟩ a)
  unfold X0_1 Pipeline.Window.fill
  rw [dif_pos (moved0_1 t _)]
  blk_ext [iblk, idx1 t]

theorem gate_block (c : Dev nD) (t : Fin cfg0.N) (r : Fin 256) (l : Fin 128) :
    (iblk m c 2 t : Vec Ideal S256x128 .f32) (ix2 r l)
      = if h : l.val < 16 then projArg m c (ix3 0 (tok t r) ⟨5632 + l.val, by omega⟩) else 0 := by
  refine Eq.trans ?_ (gate_entry m c (tok t r) l)
  blk_ext [iblk, idx2 t]

theorem conv_block (c : Dev nD) (t : Fin cfg0.N) (k : Fin 4) (a : Fin 3072) :
    (iblk m c 3 t : Vec Ideal S4x3072 .f32) (ix2 k a) = convArg m c (ix3 0 k a) := by
  refine Eq.trans ?_ (conv_entry m c k a)
  blk_ext [iblk, idx3 t]

theorem log_block (c : Dev nD) (t : Fin cfg0.N) (h : Fin 8) :
    (iblk m c 4 t : Vec Ideal S1x128 .f32) (ix2 0 ⟨h.val, by omega⟩) = logArg m c (ix2 0 h) := by
  refine Eq.trans ?_ (log_entry m c h)
  blk_ext [iblk, idx4 t]

theorem bias_block (c : Dev nD) (t : Fin cfg0.N) (h : Fin 8) :
    (iblk m c 5 t : Vec Ideal S1x128 .f32) (ix2 0 ⟨h.val, by omega⟩) = biasArg m c (ix2 0 h) := by
  refine Eq.trans ?_ (bias_entry m c h)
  blk_ext [iblk, idx5 t]

theorem before_block (c : Dev nD) (t : Fin cfg0.N) (j : ℕ) (hj : j ≤ 8) (r : Fin 256) (ch : Fin 3072) :
    before (grid0.coords t) (X0_0 m c t) (X0_1 m c t) j r ch = tap (projArg m c) j (tok t r) ch := by
  have ht : t.val < 32 := t.isLt
  unfold before tap
  rw [point t]
  by_cases h : j ≤ r.val
  · rw [dif_pos h, dif_pos (show j ≤ (tok t r).val by change j ≤ t.val * 256 + r.val; omega)]
    refine (rows_block m c t _ ch).trans ?_
    refine congrArg (fun s => projArg m c (ix3 0 s _)) (Fin.ext ?_)
    change t.val * 256 + (r.val - j) = t.val * 256 + r.val - j
    omega
  · rw [dif_neg h]
    by_cases h0 : 0 < t.val
    · rw [if_pos h0, dif_pos (show j ≤ (tok t r).val by change j ≤ t.val * 256 + r.val; omega)]
      refine (halo_block m c t _ ch).trans ?_
      refine congrArg (fun s => projArg m c (ix3 0 s _)) (Fin.ext ?_)
      change (t.val * 32 - 1) * 8 + (8 + r.val - j) = t.val * 256 + r.val - j
      omega
    · rw [if_neg h0, dif_neg (show ¬j ≤ (tok t r).val by change ¬j ≤ t.val * 256 + r.val; omega)]

theorem mixed_block (c : Dev nD) (t : Fin cfg0.N) (r : Fin 256) (ch : Fin 3072) :
    convAt (grid0.coords t) (X0_0 m c t) (X0_1 m c t) (iblk m c 3 t) r ch = mixed (projArg m c) (convArg m c) (tok t r) ch := by
  unfold convAt mixed
  rw [before_block m c t 0 (by omega), before_block m c t 1 (by omega), before_block m c t 2 (by omega), before_block m c t 3 (by omega),
    ← conv_block m c t 0, ← conv_block m c t 1, ← conv_block m c t 2, ← conv_block m c t 3]

theorem energy_block (c : Dev nD) (t : Fin cfg0.N) (r : Fin 256) (ch : Fin 3072) :
    squares (grid0.coords t) (X0_0 m c t) (X0_1 m c t) (iblk m c 3 t) r ch = energy (projArg m c) (convArg m c) (tok t r) ch := by
  unfold squares energy
  simp only [mixed_block]

/-- The rows of a tile of 256 in the chunk of a row, up to it, are the rows of the chunk up to it. -/
theorem chunk_sum (f : Fin 256 → EReal) (r : Fin 256) :
    (∑ n : Fin 256, if n.val / 64 = r.val / 64 ∧ n ≤ r then f n else 0)
      = ∑ k : Fin 64, if k.val ≤ r.val % 64 then f ⟨64 * (r.val / 64) + k.val, by omega⟩ else 0 := by
  rw [← Finset.sum_filter, ← Finset.sum_filter]
  refine Finset.sum_bij' (fun n _ => ⟨n.val % 64, by omega⟩) (fun k _ => ⟨64 * (r.val / 64) + k.val, by omega⟩) ?_ ?_ ?_ ?_ ?_
  · intro n hn
    obtain ⟨h1, h2⟩ := (Finset.mem_filter.mp hn).2
    have h3 : n.val ≤ r.val := h2
    exact Finset.mem_filter.mpr ⟨Finset.mem_univ _, by change n.val % 64 ≤ r.val % 64; omega⟩
  · intro k hk
    have := (Finset.mem_filter.mp hk).2
    refine Finset.mem_filter.mpr ⟨Finset.mem_univ _, ?_, ?_⟩
    · change (64 * (r.val / 64) + k.val) / 64 = r.val / 64
      omega
    · change 64 * (r.val / 64) + k.val ≤ r.val
      omega
  · intro n hn
    obtain ⟨h1, _⟩ := (Finset.mem_filter.mp hn).2
    exact Fin.ext (by change 64 * (r.val / 64) + n.val % 64 = n.val; omega)
  · intro k _
    exact Fin.ext (by change (64 * (r.val / 64) + k.val) % 64 = k.val; omega)
  · intro n hn
    obtain ⟨h1, _⟩ := (Finset.mem_filter.mp hn).2
    exact congrArg f (Fin.ext (by change n.val = 64 * (r.val / 64) + n.val % 64; omega))

theorem decay_block (c : Dev nD) (t : Fin cfg0.N) (r : Fin 256) (h : Fin 8) :
    decay (iblk m c 2 t) (iblk m c 4 t) (iblk m c 5 t) r ⟨h.val, by omega⟩ = logDecay (projArg m c) (logArg m c) (biasArg m c) (tok t r) h := by
  have hh : h.val < 16 := by omega
  have e := gate_block m c t r ⟨h.val, by omega⟩
  rw [dif_pos hh] at e
  unfold decay logDecay
  rw [e, log_block m c t h, bias_block m c t h]

theorem gates_block (c : Dev nD) (t : Fin cfg0.N) (r : Fin 256) (l : Fin 128) :
    gateAt (iblk m c 2 t) (iblk m c 4 t) (iblk m c 5 t) r l = gatesAt (projArg m c) (logArg m c) (biasArg m c) (tok t r) l := by
  unfold gateAt gatesAt
  by_cases h8 : l.val < 8
  · rw [if_pos h8, dif_pos h8, chunk_sum]
    have e1 : (tok t r).val % 64 = r.val % 64 := by change (t.val * 256 + r.val) % 64 = r.val % 64; omega
    rw [e1]
    refine Finset.sum_congr rfl fun k _ => ?_
    refine congrArg (fun x => if k.val ≤ r.val % 64 then x else 0) ?_
    refine (decay_block m c t _ ⟨l.val, h8⟩).trans ?_
    refine congrArg (fun s => logDecay (projArg m c) (logArg m c) (biasArg m c) s ⟨l.val, h8⟩) (Fin.ext ?_)
    change t.val * 256 + (64 * (r.val / 64) + k.val) = 64 * ((t.val * 256 + r.val) / 64) + k.val
    omega
  · rw [if_neg h8, dif_neg h8]
    by_cases h16 : l.val < 16
    · rw [if_pos h16, if_pos h16, gate_block, dif_pos h16]
    · rw [if_neg h16, if_neg h16]

theorem query_tile (c : Dev nD) (t : Fin cfg0.N) (r : Fin 256) (a : Fin 1024) :
    silu (convAt (grid0.coords t) (X0_0 m c t) (X0_1 m c t) (iblk m c 3 t) r ⟨0 + a.val, by omega⟩)
        * (Ideal.rsqrt (squares (grid0.coords t) (X0_0 m c t) (X0_1 m c t) (iblk m c 3 t) r ⟨0 + a.val, by omega⟩
            + Ideal.ofBits .f32 0x358637BD#32) * Ideal.ofBits .f32 0x3DB504F3#32)
      = queryAt (projArg m c) (convArg m c) (tok t r) a := by
  rw [mixed_block, energy_block]
  rfl

theorem key_tile (c : Dev nD) (t : Fin cfg0.N) (r : Fin 256) (a : Fin 1024) :
    silu (convAt (grid0.coords t) (X0_0 m c t) (X0_1 m c t) (iblk m c 3 t) r ⟨1024 + a.val, by omega⟩)
        * Ideal.rsqrt (squares (grid0.coords t) (X0_0 m c t) (X0_1 m c t) (iblk m c 3 t) r ⟨1024 + a.val, by omega⟩
            + Ideal.ofBits .f32 0x358637BD#32)
      = keyAt (projArg m c) (convArg m c) (tok t r) a := by
  rw [mixed_block, energy_block]
  rfl

theorem value_tile (c : Dev nD) (t : Fin cfg0.N) (r : Fin 256) (a : Fin 1024) :
    silu (convAt (grid0.coords t) (X0_0 m c t) (X0_1 m c t) (iblk m c 3 t) r ⟨2048 + a.val, by omega⟩)
      = valueAt (projArg m c) (convArg m c) (tok t r) a := by
  rw [mixed_block]
  rfl

theorem turned_tile (c : Dev nD) (t : Fin cfg0.N) (b : Fin 4) (l : Fin 16) (r : Fin 64) :
    gateAt (iblk m c 2 t) (iblk m c 4 t) (iblk m c 5 t) ⟨64 * b.val + r.val, by omega⟩ ⟨l.val, by omega⟩
      = turnedAt (projArg m c) (logArg m c) (biasArg m c) ⟨t.val * 4 + b.val, by have h : t.val < 32 := t.isLt; omega⟩ l r := by
  rw [gates_block]
  refine congrArg (fun s => gatesAt (projArg m c) (logArg m c) (biasArg m c) s _) (Fin.ext ?_)
  change t.val * 256 + (64 * b.val + r.val) = 64 * (t.val * 4 + b.val) + r.val
  omega

theorem mixed_tile (c : Dev nD) (t : Fin cfg0.N) (r : Fin 256) (a : Fin 3072) :
    convAt (grid0.coords t) (X0_0 m c t) (X0_1 m c t) (iblk m c 3 t) r ⟨0 + a.val, by omega⟩
      = mixed (projArg m c) (convArg m c) (tok t r) a := by
  rw [mixed_block]
  exact congrArg (mixed (projArg m c) (convArg m c) (tok t r)) (Fin.ext (Nat.zero_add _))

theorem query_final (c : Dev nD) : (dats m 0 c).arrAt 6 cfg0.N = queryGrid (projArg m c) (convArg m c) := by
  refine (dats m 0 c).arrAt_eq_of_covers 6 _ (by decide +kernel) fun t hf y => ?_
  idx_vars y
  blk_simp
  rw [after0_6]
  have e : (win0_6.blk t).view.emb (ix2 y0 y1) = (ix2 (tok t y0) y1 : S8192x1024.Idx) := by blk_ext [idx6 t]
  refine (Value.block6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t)
    (iblk m c 4 t) (iblk m c 5 t) (ix2 y0 y1)).trans ?_
  refine (query_tile m c t y0 y1).trans ?_
  exact (congrArg (queryGrid (projArg m c) (convArg m c)) e).symm

theorem key_final (c : Dev nD) : (dats m 0 c).arrAt 7 cfg0.N = keyGrid (projArg m c) (convArg m c) := by
  refine (dats m 0 c).arrAt_eq_of_covers 7 _ (by decide +kernel) fun t hf y => ?_
  idx_vars y
  blk_simp
  rw [after0_7]
  have e : (win0_7.blk t).view.emb (ix2 y0 y1) = (ix2 (tok t y0) y1 : S8192x1024.Idx) := by blk_ext [idx7 t]
  refine (Value.block7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t)
    (iblk m c 4 t) (iblk m c 5 t) (ix2 y0 y1)).trans ?_
  refine (key_tile m c t y0 y1).trans ?_
  exact (congrArg (keyGrid (projArg m c) (convArg m c)) e).symm

theorem value_final (c : Dev nD) : (dats m 0 c).arrAt 8 cfg0.N = valueGrid (projArg m c) (convArg m c) := by
  refine (dats m 0 c).arrAt_eq_of_covers 8 _ (by decide +kernel) fun t hf y => ?_
  idx_vars y
  blk_simp
  rw [after0_8]
  have e : (win0_8.blk t).view.emb (ix2 y0 y1) = (ix2 (tok t y0) y1 : S8192x1024.Idx) := by blk_ext [idx8 t]
  refine (Value.block8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t)
    (iblk m c 4 t) (iblk m c 5 t) (ix2 y0 y1)).trans ?_
  refine (value_tile m c t y0 y1).trans ?_
  exact (congrArg (valueGrid (projArg m c) (convArg m c)) e).symm

theorem gates_final (c : Dev nD) : (dats m 0 c).arrAt 9 cfg0.N = gatesGrid (projArg m c) (logArg m c) (biasArg m c) := by
  refine (dats m 0 c).arrAt_eq_of_covers 9 _ (by decide +kernel) fun t hf y => ?_
  idx_vars y
  blk_simp
  rw [after0_9]
  have e : (win0_9.blk t).view.emb (ix2 y0 y1) = (ix2 (tok t y0) y1 : S8192x128.Idx) := by blk_ext [idx9 t]
  refine (Value.block9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t)
    (iblk m c 4 t) (iblk m c 5 t) (ix2 y0 y1)).trans ?_
  refine (gates_block m c t y0 y1).trans ?_
  exact (congrArg (gatesGrid (projArg m c) (logArg m c) (biasArg m c)) e).symm

theorem turned_final (c : Dev nD) : (dats m 0 c).arrAt 10 cfg0.N = turnedGrid (projArg m c) (logArg m c) (biasArg m c) := by
  refine (dats m 0 c).arrAt_eq_of_covers 10 _ (by decide +kernel) fun t hf y => ?_
  idx_vars y
  blk_simp
  rw [after0_10]
  have e : (win0_10.blk t).view.emb (ix3 y0 y1 y2) = (ix3 ⟨t.val * 4 + y0.val, by have h : t.val < 32 := t.isLt; omega⟩ y1 y2 : S128x16x64.Idx) := by blk_ext [idx10 t]
  refine (Value.block10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t)
    (iblk m c 4 t) (iblk m c 5 t) (ix3 y0 y1 y2)).trans ?_
  refine (turned_tile m c t y0 y1 y2).trans ?_
  exact (congrArg (turnedGrid (projArg m c) (logArg m c) (biasArg m c)) e).symm

theorem mixed_final (c : Dev nD) : (dats m 0 c).arrAt 11 cfg0.N = mixedGrid (projArg m c) (convArg m c) := by
  refine (dats m 0 c).arrAt_eq_of_covers 11 _ (by decide +kernel) fun t hf y => ?_
  idx_vars y
  blk_simp
  rw [after0_11]
  have e : (win0_11.blk t).view.emb (ix2 y0 y1) = (ix2 (tok t y0) y1 : S8192x3072.Idx) := by blk_ext [idx11 t]
  refine (Value.block11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (X0_0 m c t) (X0_1 m c t) (iblk m c 2 t) (iblk m c 3 t)
    (iblk m c 4 t) (iblk m c 5 t) (ix2 y0 y1)).trans ?_
  refine (mixed_tile m c t y0 y1).trans ?_
  exact (congrArg (mixedGrid (projArg m c) (convArg m c)) e).symm

end Cert.DnPreIdeal.Value

namespace Cert.DnPreRefIdeal.Read

open Cert.DnPreRefIdeal Idealize.ShloMosaic Idealize.ShloMosaic.TcCoe Idealize.SL.Sem
open Cert.DnPreIdeal.Value (zero_word tap mixed energy silu queryAt keyAt valueAt logDecay gatesAt turnedAt queryGrid keyGrid valueGrid gatesGrid turnedGrid mixedGrid)
open scoped BigOperators

theorem fold_sum (n : ℕ) (f : Fin n → EReal) : (List.finRange n).foldl (fun r k => r + f k) 0 = ∑ k, f k := by
  rw [Fin.sum_univ_def, List.sum_eq_foldl, List.foldl_map]

/-- The positions of a window: one, sixty-four, one. -/
abbrev Win : Shape := ⟨3, ![1, 64, 1]⟩

/-- The coordinate of a window's position in the padded operand. -/
def place (j : S128x64x8.Idx) (w : Win.Idx) (a : Fin 3) : ℕ := (j a).val * (![1, 1, 1] : Fin 3 → ℕ) a + (w a).val

/-- What a window's position holds: the operand's element, or zero in the padding. -/
def cell (x : S128x64x8.Idx → EReal) (j : S128x64x8.Idx) (w : Win.Idx) : EReal :=
  if hin : ∀ a : Fin 3, (![0, 63, 0] : Fin 3 → ℕ) a ≤ place j w a ∧ place j w a - (![0, 63, 0] : Fin 3 → ℕ) a < S128x64x8.size a
    then x (fun a => ⟨place j w a - (![0, 63, 0] : Fin 3 → ℕ) a, (hin a).2⟩) else 0

/-- The positions of a window are its rows. -/
def winRows : Fin 64 ≃ Win.Idx where
  toFun k := ix3 (0 : Fin 1) k (0 : Fin 1)
  invFun w := w 1
  left_inv _ := rfl
  right_inv w := by
    funext a
    fin_cases a
    · exact Subsingleton.elim (α := Fin 1) _ _
    · rfl
    · exact Subsingleton.elim (α := Fin 1) _ _

theorem cell_row (x : S128x64x8.Idx → EReal) (b : Fin 128) (r k : Fin 64) (l : Fin 8) :
    cell x (ix3 b r l) (winRows k) = if hk : 63 ≤ r.val + k.val then x (ix3 b ⟨r.val + k.val - 63, by omega⟩ l) else 0 := by
  have hb := b.isLt
  have hl := l.isLt
  unfold cell
  by_cases hk : 63 ≤ r.val + k.val
  · rw [dif_pos hk]
    refine (dif_pos (fun a => ?_)).trans ?_
    · fin_cases a
      · change 0 ≤ b.val * 1 + 0 ∧ b.val * 1 + 0 - 0 < 128
        omega
      · change 63 ≤ r.val * 1 + k.val ∧ r.val * 1 + k.val - 63 < 64
        omega
      · change 0 ≤ l.val * 1 + 0 ∧ l.val * 1 + 0 - 0 < 8
        omega
    · refine congrArg x (funext fun a => Fin.ext ?_)
      fin_cases a
      · change b.val * 1 + 0 - 0 = b.val
        omega
      · change r.val * 1 + k.val - 63 = r.val + k.val - 63
        omega
      · change l.val * 1 + 0 - 0 = l.val
        omega
  · rw [dif_neg hk]
    refine dif_neg fun hin => hk ?_
    have := (hin 1).1
    change 63 ≤ r.val * 1 + k.val at this
    omega

theorem shift_sum (g : Fin 64 → EReal) (r : Fin 64) :
    ∑ k : Fin 64, (if hk : 63 ≤ r.val + k.val then g ⟨r.val + k.val - 63, by omega⟩ else 0) = ∑ k : Fin 64, if k ≤ r then g k else 0 := by
  refine Eq.trans (b := ∑ k ∈ Finset.univ.filter (fun k : Fin 64 => 63 ≤ r.val + k.val), g ⟨r.val + k.val - 63, by omega⟩) ?_ ?_
  · rw [Finset.sum_filter]
    refine Finset.sum_congr rfl fun k _ => ?_
    split_ifs <;> rfl
  rw [← Finset.sum_filter]
  refine Finset.sum_bij' (fun k _ => ⟨r.val + k.val - 63, by omega⟩) (fun k _ => ⟨(k.val + 63 - r.val) % 64, by omega⟩) ?_ ?_ ?_ ?_ ?_
  · intro k hk
    have := (Finset.mem_filter.mp hk).2
    exact Finset.mem_filter.mpr ⟨Finset.mem_univ _, by change r.val + k.val - 63 ≤ r.val; omega⟩
  · intro k hk
    have q : k.val ≤ r.val := (Finset.mem_filter.mp hk).2
    refine Finset.mem_filter.mpr ⟨Finset.mem_univ _, ?_⟩
    change 63 ≤ r.val + (k.val + 63 - r.val) % 64
    omega
  · intro k hk
    have := (Finset.mem_filter.mp hk).2
    exact Fin.ext (by change (r.val + k.val - 63 + 63 - r.val) % 64 = k.val; omega)
  · intro k hk
    have q : k.val ≤ r.val := (Finset.mem_filter.mp hk).2
    exact Fin.ext (by change r.val + (k.val + 63 - r.val) % 64 - 63 = k.val; omega)
  · intro k _
    rfl

/-- A running sum over the middle axis, as a sum over windows of the operand padded below. -/
theorem window_sum (x : S128x64x8.Idx → EReal) (h) (b : Fin 128) (r : Fin 64) (l : Fin 8) :
    Ideal.hostReduceWindowAdd (s := S128x64x8) (t := S128x64x8) ![1, 64, 1] ![1, 1, 1] ![0, 63, 0] ![0, 0, 0] h x 0 (ix3 b r l)
      = ∑ k : Fin 64, if k ≤ r then x (ix3 b k l) else 0 := by
  have start : Ideal.hostReduceWindowAdd (s := S128x64x8) (t := S128x64x8) ![1, 64, 1] ![1, 1, 1] ![0, 63, 0] ![0, 0, 0] h x 0 (ix3 b r l)
      = ∑ n, cell x (ix3 b r l) (Win.rowMajor.symm n) := by
    unfold Ideal.hostReduceWindowAdd Host.reduceWindow
    dsimp only
    refine Eq.trans ?_ (fold_sum Win.numel fun n => cell x (ix3 b r l) (Win.rowMajor.symm n))
    refine congrArg (fun g => List.foldl g (0 : EReal) (List.finRange Win.numel)) (funext fun a => funext fun n => congrArg (a + ·) ?_)
    unfold cell place
    split_ifs with h1 h2 h2
    · rfl
    · exact absurd h1 h2
    · exact absurd h2 h1
    · rfl
  rw [start]
  rw [Equiv.sum_comp Win.rowMajor.symm (cell x (ix3 b r l)), ← Equiv.sum_comp winRows (cell x (ix3 b r l))]
  simp only [cell_row]
  exact shift_sum (fun k => x (ix3 b k l)) r

variable (P : FVec Ideal S1x8192x6672 .f32) (W : FVec Ideal S1x4x3072 .f32) (A D : FVec Ideal S1x8 .f32)

theorem mixed_stage (s : Fin 8192) (ch : Fin 3072) : val_main_v34 (F := Ideal) P W (ix2 s ch) = mixed P W s ch := by
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15, val_main_v14, val_main_v13, val_main_v12, val_main_cst, val_main_v11, val_main_v10,
    val_main_v9, val_main_v8, val_main_v7, val_main_v6, val_main_v5, val_main_call0_v0, val_main_c, val_main_v2, val_main_v1, val_main_v0]
  have t0 : P (ix3 0 s ⟨1536 + ch.val, by omega⟩) = tap P 0 s ch := by
    unfold tap
    rw [dif_pos (Nat.zero_le _)]
    rfl
  have t (j k : ℕ) (hjk : k + j = 3) :
      (if h : 3 ≤ k + s.val ∧ k + s.val - 3 < 8192 then P (ix3 0 ⟨k + s.val - 3, h.2⟩ ⟨1536 + ch.val, by omega⟩)
        else FloatOps.sitofp (F := Ideal) .f32 0#32) = tap P j s ch := by
    unfold tap
    by_cases h : j ≤ s.val
    · rw [dif_pos h, dif_pos ⟨by omega, by omega⟩]
      exact congrArg (fun q => P (ix3 0 q _)) (Fin.ext (by change k + s.val - 3 = s.val - j; omega))
    · rw [dif_neg h, dif_neg (by omega), zero_word]
  have t3 := t 3 0 rfl
  simp only [Nat.zero_add] at t3
  rw [t3, t 2 1 rfl, t 1 2 rfl, t0]
  unfold mixed
  rw [add_comm, ← add_assoc, ← add_assoc]

theorem silu_stage (s : Fin 8192) (ch : Fin 3072) : val_main_v35 (F := Ideal) P W (ix2 s ch) = silu (mixed P W s ch) := by
  rw [← mixed_stage]
  unfold val_main_v35 val_main_call1_v5 val_main_call1_v3 val_main_call1_v1 val_main_call1_v0
  generalize val_main_v34 (F := Ideal) P W = X
  pointwise [val_main_call1_v4, val_main_call1_v2, val_main_call1_cst, val_main_call1_cst_0]
  rfl

theorem query_stage (s : Fin 8192) (h : Fin 8) (l : Fin 128) :
    val_main_v80 (F := Ideal) P W (ix2 s ⟨128 * h.val + l.val, by omega⟩) = queryAt P W s ⟨128 * h.val + l.val, by omega⟩ := by
  unfold queryAt energy
  simp only [← silu_stage]
  unfold val_main_v80 val_main_v49 val_main_v47 val_main_v46 val_main_v45 val_main_v44 val_main_v42 val_main_v41 val_main_v40 val_main_v39 val_main_v36
  generalize val_main_v35 (F := Ideal) P W = X
  pointwise [val_main_v48, val_main_cst_2, val_main_v43, val_main_cst_1, val_main_cst_0]
  have e : (128 * h.val + l.val) / 128 = h.val := by omega
  simp only [Nat.zero_add, e, mul_assoc, Nat.mul_comm h.val 128]

theorem key_stage (s : Fin 8192) (h : Fin 8) (l : Fin 128) :
    val_main_v81 (F := Ideal) P W (ix2 s ⟨128 * h.val + l.val, by omega⟩) = keyAt P W s ⟨128 * h.val + l.val, by omega⟩ := by
  unfold keyAt energy
  simp only [← silu_stage]
  unfold val_main_v81 val_main_v58 val_main_v57 val_main_v56 val_main_v55 val_main_v53 val_main_v52 val_main_v51 val_main_v50 val_main_v37
  generalize val_main_v35 (F := Ideal) P W = X
  pointwise [val_main_v54, val_main_cst_4, val_main_cst_3]
  have e : (1024 + (128 * h.val + l.val)) / 128 = 8 + h.val := by omega
  have e' (x : ℕ) : 128 * (8 + h.val) + x = 1024 + (128 * h.val + x) := by omega
  simp only [e, e', Nat.mul_comm h.val 128]

theorem split (a : Fin 1024) : ∃ (h : Fin 8) (l : Fin 128), a = ⟨128 * h.val + l.val, by omega⟩ :=
  ⟨⟨a.val / 128, by omega⟩, ⟨a.val % 128, by omega⟩, Fin.ext (by change a.val = 128 * (a.val / 128) + a.val % 128; omega)⟩

theorem query_eq : val_main_v80 (F := Ideal) P W = queryGrid P W := by
  funext i
  idx_vars i
  obtain ⟨h, l, rfl⟩ := split i1
  exact query_stage P W i0 h l

theorem key_eq : val_main_v81 (F := Ideal) P W = keyGrid P W := by
  funext i
  idx_vars i
  obtain ⟨h, l, rfl⟩ := split i1
  exact key_stage P W i0 h l

theorem value_eq : val_main_v38 (F := Ideal) P W = valueGrid P W := by
  funext i
  idx_vars i
  refine Eq.trans ?_ (silu_stage P W i0 ⟨2048 + i1.val, by omega⟩)
  unfold val_main_v38
  generalize val_main_v35 (F := Ideal) P W = X
  pointwise

theorem mixed_eq : val_main_v34 (F := Ideal) P W = mixedGrid P W := by
  funext i
  idx_vars i
  exact mixed_stage P W i0 i1

theorem decay_stage (s : Fin 8192) (h : Fin 8) : val_main_v69 (F := Ideal) P A D (ix2 s h) = logDecay P A D s h := by
  pointwise [val_main_v69, val_main_v68, val_main_v67, val_main_v66, val_main_call2_v11, val_main_call2_v10, val_main_call2_v9,
    val_main_call2_v8, val_main_call2_v7, val_main_call2_v6, val_main_call2_v5, val_main_call2_v4, val_main_call2_v3, val_main_call2_v2,
    val_main_call2_v1, val_main_call2_v0, val_main_call2_cst, val_main_v65, val_main_v64, val_main_v63, val_main_v62, val_main_v61,
    val_main_v60, val_main_v59, val_main_v3, val_main_v0]
  rw [if_neg (fun h => h rfl)]
  unfold logDecay
  rw [zero_sub, zero_sub]

theorem sums_stage (b : Fin 128) (r : Fin 64) (h : Fin 8) :
    val_main_v77 (F := Ideal) P A D (ix3 b r h) = ∑ k : Fin 64, if k ≤ r then logDecay P A D ⟨64 * b.val + k.val, by omega⟩ h else 0 := by
  have z : val_main_call3_call0_v0 (F := Ideal) (fun a => a.elim0) = (0 : EReal) := Ideal.ofBits_zero .f32
  have start : val_main_v77 (F := Ideal) P A D (ix3 b r h)
      = Ideal.hostReduceWindowAdd (s := S128x64x8) (t := S128x64x8) ![1, 64, 1] ![1, 1, 1] ![0, 63, 0] ![0, 0, 0] (by decide)
          (val_main_v76 (F := Ideal) P A D) (val_main_call3_call0_v0 (F := Ideal) (fun a => a.elim0)) (ix3 b r h) := rfl
  rw [start, z, window_sum]
  refine Finset.sum_congr rfl fun k _ => ?_
  refine congrArg (fun x => if k ≤ r then x else 0) ?_
  rw [← decay_stage]
  unfold val_main_v76
  generalize val_main_v69 (F := Ideal) P A D = X
  pointwise
  simp only [Nat.mul_comm b.val 64]

theorem strength_stage (s : Fin 8192) (h : Fin 8) :
    val_main_v75 (F := Ideal) P (ix2 s h) = Ideal.logistic (P (ix3 0 s ⟨5640 + h.val, by omega⟩)) := by
  pointwise [val_main_v75, val_main_v74, val_main_cst_6, val_main_v73, val_main_v72, val_main_cst_5, val_main_v71, val_main_v70, val_main_v4, val_main_v0]
  rfl

theorem gates_stage (s : Fin 8192) (l : Fin 16) :
    val_main_v79 (F := Ideal) P A D (ix2 s l) = gatesAt P A D s ⟨l.val, by omega⟩ := by
  unfold gatesAt
  by_cases h8 : l.val < 8
  · rw [dif_pos h8]
    refine Eq.trans ?_ (sums_stage P A D ⟨s.val / 64, by omega⟩ ⟨s.val % 64, by omega⟩ ⟨l.val, h8⟩)
    unfold val_main_v79 val_main_v78
    generalize val_main_v77 (F := Ideal) P A D = X
    generalize val_main_v75 (F := Ideal) P = Y
    pointwise
    rw [dif_pos h8]
  · have h16 : l.val < 16 := l.isLt
    rw [dif_neg h8, if_pos h16]
    have e : 5640 + (l.val - 8) = 5632 + l.val := by omega
    have g := strength_stage P s ⟨l.val - 8, by omega⟩
    simp only [e] at g
    refine Eq.trans ?_ g
    unfold val_main_v79 val_main_v78
    generalize val_main_v77 (F := Ideal) P A D = X
    generalize val_main_v75 (F := Ideal) P = Y
    pointwise
    rw [dif_neg h8]

theorem gates_eq : val_main_v82 (F := Ideal) P A D = gatesGrid P A D := by
  funext i
  idx_vars i
  change _ = gatesAt P A D i0 i1
  by_cases h : i1.val < 16
  · refine Eq.trans ?_ (gates_stage P A D i0 ⟨i1.val, h⟩)
    unfold val_main_v82
    generalize val_main_v79 (F := Ideal) P A D = X
    pointwise [val_main_call4_v0, val_main_c_7]
    rw [dif_pos h]
  · unfold gatesAt
    rw [dif_neg (by omega), if_neg h]
    unfold val_main_v82
    generalize val_main_v79 (F := Ideal) P A D = X
    pointwise [val_main_call4_v0, val_main_c_7]
    rw [dif_neg h]
    exact zero_word

theorem turned_eq : val_main_v84 (F := Ideal) P A D = turnedGrid P A D := by
  funext i
  idx_vars i
  refine Eq.trans ?_ (gates_stage P A D ⟨64 * i0.val + i2.val, by omega⟩ i1)
  unfold val_main_v84 val_main_v83
  generalize val_main_v79 (F := Ideal) P A D = X
  pointwise
  simp only [Nat.mul_comm i0.val 64]

end Cert.DnPreRefIdeal.Read

end
-- ==== Proof.DnPreClaims.lean ====
/-
  The claims about what comes before the delta rule, forward (`DnPre`, its idealization and its reference).
-/
module

public import proofs.«01_k».proof.Defs
public import proofs.«01_k».proof.Proof.Gen.DnPre
public import proofs.«01_k».proof.Proof.Gen.DnPre.Frame
public import proofs.«01_k».proof.Proof.Gen.DnPreIdeal
public import proofs.«01_k».proof.Proof.Gen.DnPreRefIdeal
public import proofs.«01_k».proof.Proof.Gen.DnPreRefIdeal.Run
public import proofs.«01_k».proof.Proof.DnPreValue
public import Idealize.ShloMosaic.Lib.Quiescent

@[expose] public section

set_option maxRecDepth 16384
set_option backward.proofsInPublic true

noncomputable section

namespace Cert.Proof

open Idealize.ShloMosaic Idealize.ShloMosaic.TcCoe Idealize.SL.Sem

theorem dn_pre_ref_quiescent : Cert.quiescent_DnPreRefIdeal := fun m ρ _ =>
  (θ_run Cert.DnPreRefIdeal.defs _ _).mono (fun r h => ⟨fun c => (h c).2.2.2.2.2.2, sem_eq_zero_of_no_sems (by decide) r.2⟩)
    (Cert.DnPreRefIdeal.Value.run (F := Ideal) m ρ)

theorem dn_pre_algebraic : Cert.algebraic_DnPreIdeal_DnPreRefIdeal := by
  intro m g m' g' _ hagree
  refine ⟨_, _, _, _, _, _, Cert.DnPreIdeal.Value.run_blocks (F := Ideal) m g, ?_⟩
  refine (θ_run Cert.DnPreRefIdeal.defs _ _).mono (fun r h c => ?_) (Cert.DnPreRefIdeal.Value.run (F := Ideal) m' g')
  obtain ⟨h0, h1, h2, h3⟩ := hagree c
  obtain ⟨hq, hk, hv, hg, ht, hy, hargs⟩ := h c
  rw [Cert.DnPreRefIdeal.Read.val_main_v80_eq, h0, h1, Cert.DnPreRefIdeal.Read.query_eq] at hq
  rw [Cert.DnPreRefIdeal.Read.val_main_v81_eq, h0, h1, Cert.DnPreRefIdeal.Read.key_eq] at hk
  rw [Cert.DnPreRefIdeal.Read.val_main_v38_eq, h0, h1, Cert.DnPreRefIdeal.Read.value_eq] at hv
  rw [Cert.DnPreRefIdeal.Read.val_main_v82_eq, h0, h2, h3, Cert.DnPreRefIdeal.Read.gates_eq] at hg
  rw [Cert.DnPreRefIdeal.Read.val_main_v84_eq, h0, h2, h3, Cert.DnPreRefIdeal.Read.turned_eq] at ht
  rw [Cert.DnPreRefIdeal.Read.val_main_v34_eq, h0, h1, Cert.DnPreRefIdeal.Read.mixed_eq] at hy
  exact ⟨hq.trans (Cert.DnPreIdeal.Value.query_final m c).symm, hk.trans (Cert.DnPreIdeal.Value.key_final m c).symm,
    hv.trans (Cert.DnPreIdeal.Value.value_final m c).symm, hg.trans (Cert.DnPreIdeal.Value.gates_final m c).symm,
    ht.trans (Cert.DnPreIdeal.Value.turned_final m c).symm, hy.trans (Cert.DnPreIdeal.Value.mixed_final m c).symm, hargs⟩

end Cert.Proof

end
-- ==== Proof.DnBackIdealLoop.lean ====
/-
  The counted loop of the backward pass of the gated delta rule: before and after every trip the buffers it reads hold
  what they held and the buffers it writes hold some contents.
-/
module

public import proofs.«01_k».proof.Proof.Gen.DnBackIdeal.Loops
public import Idealize.ShloMosaic.Adequacy
public import Idealize.ShloMosaic.Init
public import proofs.«01_k».proof.Proof.Gen.DnBackIdeal.Frame

@[expose] public section

set_option warn.classDefReducibility false

noncomputable section

namespace Cert.DnBackIdeal.DnLoop

open Cert.DnBackIdeal Cert.DnBackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop's buffers hold before trip `k`. -/
def inv (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S8x256x64 .f32) (harg8 : arg8.IsWhole) (arg9 : Memref sig .tc .vmem S4x8x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x128 .f32) (harg13 : arg13.IsWhole) (arg14 : Memref sig .tc .vmem S4x16x64 .f32) (harg14 : arg14.IsWhole) (arg15 : Memref sig .tc .vmem S8x256x64 .f32) (harg15 : arg15.IsWhole) (arg16 : Memref sig .tc .vmem S256x1024 .bf16) (harg16 : arg16.IsWhole) (arg17 : Memref sig .tc .vmem S4x8x128x128 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x128 .f32) (harg21 : arg21.IsWhole) (arg22 : Memref sig .tc .vmem S256x1024 .bf16) (harg22 : arg22.IsWhole) (arg23 : Memref sig .tc .vmem S1x128 .f32) (harg23 : arg23.IsWhole) (arg24 : Memref sig .tc .vmem S8x128x128 .f32) (harg24 : arg24.IsWhole)
    (x1 : arg1.view.ty.Contents (Elt F)) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x9 : arg9.view.ty.Contents (Elt F)) (x10 : arg10.view.ty.Contents (Elt F)) (x11 : arg11.view.ty.Contents (Elt F)) (x12 : arg12.view.ty.Contents (Elt F)) (x13 : arg13.view.ty.Contents (Elt F)) (x14 : arg14.view.ty.Contents (Elt F)) (x15 : arg15.view.ty.Contents (Elt F)) (x16 : arg16.view.ty.Contents (Elt F)) (x17 : arg17.view.ty.Contents (Elt F)) (k : ℕ) (_ : Unit) : sProp 𝕄 :=
  iprop((arg1.view.loc (c : Thread nD τ) ↦[arg1.view.set]{fullShare} x1)
    ∗ (arg2.view.loc (c : Thread nD τ) ↦[arg2.view.set]{fullShare} x2)
    ∗ (arg3.view.loc (c : Thread nD τ) ↦[arg3.view.set]{fullShare} x3)
    ∗ (arg4.view.loc (c : Thread nD τ) ↦[arg4.view.set]{fullShare} x4)
    ∗ (arg5.view.loc (c : Thread nD τ) ↦[arg5.view.set]{fullShare} x5)
    ∗ (arg6.view.loc (c : Thread nD τ) ↦[arg6.view.set]{fullShare} x6)
    ∗ (arg7.view.loc (c : Thread nD τ) ↦[arg7.view.set]{fullShare} x7)
    ∗ (arg8.view.loc (c : Thread nD τ) ↦[arg8.view.set]{fullShare} x8)
    ∗ (arg9.view.loc (c : Thread nD τ) ↦[arg9.view.set]{fullShare} x9)
    ∗ (arg10.view.loc (c : Thread nD τ) ↦[arg10.view.set]{fullShare} x10)
    ∗ (arg11.view.loc (c : Thread nD τ) ↦[arg11.view.set]{fullShare} x11)
    ∗ (arg12.view.loc (c : Thread nD τ) ↦[arg12.view.set]{fullShare} x12)
    ∗ (arg13.view.loc (c : Thread nD τ) ↦[arg13.view.set]{fullShare} x13)
    ∗ (arg14.view.loc (c : Thread nD τ) ↦[arg14.view.set]{fullShare} x14)
    ∗ (arg15.view.loc (c : Thread nD τ) ↦[arg15.view.set]{fullShare} x15)
    ∗ (arg16.view.loc (c : Thread nD τ) ↦[arg16.view.set]{fullShare} x16)
    ∗ (arg17.view.loc (c : Thread nD τ) ↦[arg17.view.set]{fullShare} x17)
    ∗ (∃ f, arg18.view.loc (c : Thread nD τ) ↦[arg18.view.set]{fullShare} f)
    ∗ (∃ f, arg19.view.loc (c : Thread nD τ) ↦[arg19.view.set]{fullShare} f)
    ∗ (∃ f, arg20.view.loc (c : Thread nD τ) ↦[arg20.view.set]{fullShare} f)
    ∗ (∃ f, arg21.view.loc (c : Thread nD τ) ↦[arg21.view.set]{fullShare} f)
    ∗ (∃ f, arg22.view.loc (c : Thread nD τ) ↦[arg22.view.set]{fullShare} f)
    ∗ (∃ f, arg23.view.loc (c : Thread nD τ) ↦[arg23.view.set]{fullShare} f)
    ∗ (∃ f, arg24.view.loc (c : Thread nD τ) ↦[arg24.view.set]{fullShare} f))

set_option maxRecDepth 65536 in
set_option maxHeartbeats 40000000 in
/-- One trip. -/
theorem trip (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S8x256x64 .f32) (harg8 : arg8.IsWhole) (arg9 : Memref sig .tc .vmem S4x8x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x128 .f32) (harg13 : arg13.IsWhole) (arg14 : Memref sig .tc .vmem S4x16x64 .f32) (harg14 : arg14.IsWhole) (arg15 : Memref sig .tc .vmem S8x256x64 .f32) (harg15 : arg15.IsWhole) (arg16 : Memref sig .tc .vmem S256x1024 .bf16) (harg16 : arg16.IsWhole) (arg17 : Memref sig .tc .vmem S4x8x128x128 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x128 .f32) (harg21 : arg21.IsWhole) (arg22 : Memref sig .tc .vmem S256x1024 .bf16) (harg22 : arg22.IsWhole) (arg23 : Memref sig .tc .vmem S1x128 .f32) (harg23 : arg23.IsWhole) (arg24 : Memref sig .tc .vmem S8x128x128 .f32) (harg24 : arg24.IsWhole) (v3 : Vec F S1x128 .f32) (v4 : IVec S64x128 32)
    (x1 : arg1.view.ty.Contents (Elt F)) (x2 : arg2.view.ty.Contents (Elt F)) (x3 : arg3.view.ty.Contents (Elt F)) (x4 : arg4.view.ty.Contents (Elt F)) (x5 : arg5.view.ty.Contents (Elt F)) (x6 : arg6.view.ty.Contents (Elt F)) (x7 : arg7.view.ty.Contents (Elt F)) (x8 : arg8.view.ty.Contents (Elt F)) (x9 : arg9.view.ty.Contents (Elt F)) (x10 : arg10.view.ty.Contents (Elt F)) (x11 : arg11.view.ty.Contents (Elt F)) (x12 : arg12.view.ty.Contents (Elt F)) (x13 : arg13.view.ty.Contents (Elt F)) (x14 : arg14.view.ty.Contents (Elt F)) (x15 : arg15.view.ty.Contents (Elt F)) (x16 : arg16.view.ty.Contents (Elt F)) (x17 : arg17.view.ty.Contents (Elt F)) (k : Fin k0_t1_loop.trips) (acc : Unit) :
    inv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 k.val acc ⊢
      wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v3 v4 k acc)
        (inv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x1 x2 x3 x4 x5 x6 x7 x8 x9 x10 x11 x12 x13 x14 x15 x16 x17 (k.val + 1)) := by
  unfold inv k0_t1_body
  iintro ⟨H1, H2, H3, H4, H5, H6, H7, H8, H9, H10, H11, H12, H13, H14, H15, H16, H17, ⟨%f18, H18⟩, ⟨%f19, H19⟩, ⟨%f20, H20⟩, ⟨%f21, H21⟩, ⟨%f22, H22⟩, ⟨%f23, H23⟩, ⟨%f24, H24⟩⟩
  sl_exec_parts
  sl_step
  sl_close

end Cert.DnBackIdeal.DnLoop

end
-- ==== Proof.DnBackIdealFrame.lean ====
/-
  The frame of the backward pass of the gated delta rule: launched on any memory it terminates, leaves its arguments as
  they were and every counter at zero.  Nothing is said of what it writes.
-/
module

public import proofs.«01_k».proof.Proof.DnBackIdealLoop
public import Idealize.ShloMosaic.Lib.Claim

@[expose] public section

set_option maxRecDepth 65536

noncomputable section

namespace Cert.DnBackIdeal.DnFrame

open Cert.DnBackIdeal Cert.DnBackIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The condition of the body's case distinction: the first grid point. -/
abbrev first (i : grid0.Coords) : Prop :=
  (Scalar.cmpi .ne (Scalar.extui (Scalar.cmpi .eq (BitVec.ofNat 32 (i 0).val) 0#32)) 0#32) = 1#1

set_option maxHeartbeats 40000000 in
/-- The body on any buffers, at the first point: what it reads is as it was, what it writes holds something. -/
theorem run_first (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S8x256x64 .f32) (harg8 : arg8.IsWhole) (arg9 : Memref sig .tc .vmem S4x8x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x128 .f32) (harg13 : arg13.IsWhole) (arg14 : Memref sig .tc .vmem S4x16x64 .f32) (harg14 : arg14.IsWhole) (arg15 : Memref sig .tc .vmem S8x256x64 .f32) (harg15 : arg15.IsWhole) (arg16 : Memref sig .tc .vmem S256x1024 .bf16) (harg16 : arg16.IsWhole) (arg17 : Memref sig .tc .vmem S4x8x128x128 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x128 .f32) (harg21 : arg21.IsWhole) (arg22 : Memref sig .tc .vmem S256x1024 .bf16) (harg22 : arg22.IsWhole) (arg23 : Memref sig .tc .vmem S1x128 .f32) (harg23 : arg23.IsWhole) (arg24 : Memref sig .tc .vmem S8x128x128 .f32) (harg24 : arg24.IsWhole)
    (hc0 : first i)
    (x1 : S256x1024.Idx → Elt F .f32) (x2 : S256x1024.Idx → Elt F .f32) (x3 : S256x1024.Idx → Elt F .f32) (x4 : S1x128.Idx → Elt F .f32) (x5 : S256x1024.Idx → Elt F .bf16) (x6 : S256x1024.Idx → Elt F .bf16) (x7 : S256x1024.Idx → Elt F .bf16) (x8 : S8x256x64.Idx → Elt F .f32) (x9 : S4x8x128.Idx → Elt F .f32) (x10 : S256x1024.Idx → Elt F .f32) (x11 : S256x1024.Idx → Elt F .f32) (x12 : S256x1024.Idx → Elt F .f32) (x13 : S256x128.Idx → Elt F .f32) (x14 : S4x16x64.Idx → Elt F .f32) (x15 : S8x256x64.Idx → Elt F .f32) (x16 : S256x1024.Idx → Elt F .bf16) (x17 : S4x8x128x128.Idx → Elt F .bf16) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)
      ∗ ((owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)) -∗ K ⟨⟩))
      ⊢ wp frame (wpE (defs₀ (F := F)) Variants.none (c : Thread nD τ) none) Set.univ (cc0_dn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_dn_bwd_eq_skeleton]; unfold cc0_dn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0)
  sl_for (DnLoop.inv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17)) $$ [H1 H2 H3 H4 H5 H6 H7 H8 H9 H10 H11 H12 H13 H14 H15 H16 H17 H18 H19 H20 H21 H22 H23 H24]
  · intro k acc; exact DnLoop.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) k acc
  · unfold DnLoop.inv
    sl_close
  iintro %acc HI
  unfold DnLoop.inv
  icases HI with ⟨H1, H2, H3, H4, H5, H6, H7, H8, H9, H10, H11, H12, H13, H14, H15, H16, H17, ⟨%f18, H18⟩, ⟨%f19, H19⟩, ⟨%f20, H20⟩, ⟨%f21, H21⟩, ⟨%f22, H22⟩, ⟨%f23, H23⟩, ⟨%f24, H24⟩⟩
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

set_option maxHeartbeats 40000000 in
/-- The body on any buffers, at a later point: what it reads is as it was, what it writes holds something. -/
theorem run_later (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x128 .f32) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S8x256x64 .f32) (harg8 : arg8.IsWhole) (arg9 : Memref sig .tc .vmem S4x8x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x128 .f32) (harg13 : arg13.IsWhole) (arg14 : Memref sig .tc .vmem S4x16x64 .f32) (harg14 : arg14.IsWhole) (arg15 : Memref sig .tc .vmem S8x256x64 .f32) (harg15 : arg15.IsWhole) (arg16 : Memref sig .tc .vmem S256x1024 .bf16) (harg16 : arg16.IsWhole) (arg17 : Memref sig .tc .vmem S4x8x128x128 .bf16) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x128 .f32) (harg21 : arg21.IsWhole) (arg22 : Memref sig .tc .vmem S256x1024 .bf16) (harg22 : arg22.IsWhole) (arg23 : Memref sig .tc .vmem S1x128 .f32) (harg23 : arg23.IsWhole) (arg24 : Memref sig .tc .vmem S8x128x128 .f32) (harg24 : arg24.IsWhole)
    (hc0 : ¬ first i)
    (x1 : S256x1024.Idx → Elt F .f32) (x2 : S256x1024.Idx → Elt F .f32) (x3 : S256x1024.Idx → Elt F .f32) (x4 : S1x128.Idx → Elt F .f32) (x5 : S256x1024.Idx → Elt F .bf16) (x6 : S256x1024.Idx → Elt F .bf16) (x7 : S256x1024.Idx → Elt F .bf16) (x8 : S8x256x64.Idx → Elt F .f32) (x9 : S4x8x128.Idx → Elt F .f32) (x10 : S256x1024.Idx → Elt F .f32) (x11 : S256x1024.Idx → Elt F .f32) (x12 : S256x1024.Idx → Elt F .f32) (x13 : S256x128.Idx → Elt F .f32) (x14 : S4x16x64.Idx → Elt F .f32) (x15 : S8x256x64.Idx → Elt F .f32) (x16 : S256x1024.Idx → Elt F .bf16) (x17 : S4x8x128x128.Idx → Elt F .bf16) (K : PUnit → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)
      ∗ ((owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg5 fullShare x5
      ∗ owns (c : Thread nD τ) arg6 fullShare x6
      ∗ owns (c : Thread nD τ) arg7 fullShare x7
      ∗ owns (c : Thread nD τ) arg8 fullShare x8
      ∗ owns (c : Thread nD τ) arg9 fullShare x9
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare x16
      ∗ owns (c : Thread nD τ) arg17 fullShare x17
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (∃ d, owns (c : Thread nD τ) arg24 fullShare d)) -∗ K ⟨⟩))
      ⊢ wp frame (wpE (defs₀ (F := F)) Variants.none (c : Thread nD τ) none) Set.univ (cc0_dn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_dn_bwd_eq_skeleton]; unfold cc0_dn_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  sl_exec (disch := first | sl_exact hc0)
  sl_for (DnLoop.inv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17)) $$ [H1 H2 H3 H4 H5 H6 H7 H8 H9 H10 H11 H12 H13 H14 H15 H16 H17 H18 H19 H20 H21 H22 H23 H24]
  · intro k acc; exact DnLoop.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 _ _ (harg1.unread x1) (harg2.unread x2) (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) k acc
  · unfold DnLoop.inv
    sl_close
  iintro %acc HI
  unfold DnLoop.inv
  icases HI with ⟨H1, H2, H3, H4, H5, H6, H7, H8, H9, H10, H11, H12, H13, H14, H15, H16, H17, ⟨%f18, H18⟩, ⟨%f19, H19⟩, ⟨%f20, H20⟩, ⟨%f21, H21⟩, ⟨%f22, H22⟩, ⟨%f23, H23⟩, ⟨%f24, H24⟩⟩
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; · ipureintro; exact harg17.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

variable (m : (ℓ : Loc nD τ sig) → Buf (Elt F) ℓ) (ρ : Dev nD → PrngReg)

/-- The windows of the arrays the call writes. -/
def forgets0 : Fin 23 → Bool := fun w => w.val == 17 || w.val == 18 || w.val == 19 || w.val == 20 || w.val == 21 || w.val == 22

/-- The contents of the pipeline's buffers: each input at its block, nothing named of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨n + 23, h⟩ => absurd h (by change ¬ (n + 23 < 23); omega)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare d)
    ∗ (∃ d, owns (c : Thread nD τ) (st0_18 t) fullShare d)
    ∗ (∃ d, owns (c : Thread nD τ) (st0_19 t) fullShare d)
    ∗ (∃ d, owns (c : Thread nD τ) (st0_20 t) fullShare d)
    ∗ (∃ d, owns (c : Thread nD τ) (st0_21 t) fullShare d)
    ∗ (∃ d, owns (c : Thread nD τ) (st0_22 t) fullShare d))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ (∃ d, owns (c : Thread nD τ) (st0_17 t) fullShare d)
    ∗ (∃ d, owns (c : Thread nD τ) (st0_18 t) fullShare d)
    ∗ (∃ d, owns (c : Thread nD τ) (st0_19 t) fullShare d)
    ∗ (∃ d, owns (c : Thread nD τ) (st0_20 t) fullShare d)
    ∗ (∃ d, owns (c : Thread nD τ) (st0_21 t) fullShare d)
    ∗ (∃ d, owns (c : Thread nD τ) (st0_22 t) fullShare d))

/-- Between points: the carried buffer at some contents, and the generator. -/
theorem carried_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

set_option maxHeartbeats 4000000 in
/-- The body at a generic point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, carried_eq]
  by_cases h0 : first (grid0.coords t)
  · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (run_first c (grid0.coords t) _ _ _ _ _ _ _ _ _ _ _ _ _ _ _ _ _ _ _ _ _ _ _ _ _ _ _ _ _ _ _ _ _ _ _ _ _ _ _ _ _ _ _ _ _ _ _ _ h0 (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS]; · iexact HS
    iintro ⟨H0, H1, H2, H3, H4, H5, H6, H7, H8, H9, H10, H11, H12, H13, H14, H15, H16, H17, H18, H19, H20, H21, H22, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
    iapply (run_later c (grid0.coords t) _ _ _ _ _ _ _ _ _ _ _ _ _ _ _ _ _ _ _ _ _ _ _ _ _ _ _ _ _ _ _ _ _ _ _ _ _ _ _ _ _ _ _ _ _ _ _ _ h0 (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [HS]; · iexact HS
    iintro ⟨H0, H1, H2, H3, H4, H5, H6, H7, H8, H9, H10, H11, H12, H13, H14, H15, H16, H17, H18, H19, H20, H21, H22, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every execution of the program terminates, with its inputs unchanged and every counter at zero. -/
theorem run_main : θ_run defs (onTc (τ := τ) (main (F := F))) (s₀ m ρ)
    (fun r => (Pipeline.RDat.FramePost (cfgs 0) (fun c => (dats m 0 c).toRForget forgets0) (V m)) r
      ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c =>
      ⟨(((dats m 0 c).toRForget_arrAt_iff (fgt := forgets0) (w := 0) rfl _ _).mp ((h.1 c).1 0)).trans (((dats m 0 c).arrAt_in 0 rfl _).trans ((A_eq m c 0).trans (V_main_arg0 m c))),
        (((dats m 0 c).toRForget_arrAt_iff (fgt := forgets0) (w := 1) rfl _ _).mp ((h.1 c).1 1)).trans (((dats m 0 c).arrAt_in 1 rfl _).trans ((A_eq m c 1).trans (V_main_arg1 m c))),
        (((dats m 0 c).toRForget_arrAt_iff (fgt := forgets0) (w := 2) rfl _ _).mp ((h.1 c).1 2)).trans (((dats m 0 c).arrAt_in 2 rfl _).trans ((A_eq m c 2).trans (V_main_arg2 m c))),
        (((dats m 0 c).toRForget_arrAt_iff (fgt := forgets0) (w := 3) rfl _ _).mp ((h.1 c).1 3)).trans (((dats m 0 c).arrAt_in 3 rfl _).trans ((A_eq m c 3).trans (V_main_arg3 m c))),
        (((dats m 0 c).toRForget_arrAt_iff (fgt := forgets0) (w := 4) rfl _ _).mp ((h.1 c).1 4)).trans (((dats m 0 c).arrAt_in 4 rfl _).trans ((A_eq m c 4).trans (V_main_arg4 m c))),
        (((dats m 0 c).toRForget_arrAt_iff (fgt := forgets0) (w := 5) rfl _ _).mp ((h.1 c).1 5)).trans (((dats m 0 c).arrAt_in 5 rfl _).trans ((A_eq m c 5).trans (V_main_arg5 m c))),
        (((dats m 0 c).toRForget_arrAt_iff (fgt := forgets0) (w := 6) rfl _ _).mp ((h.1 c).1 6)).trans (((dats m 0 c).arrAt_in 6 rfl _).trans ((A_eq m c 6).trans (V_main_arg6 m c))),
        (((dats m 0 c).toRForget_arrAt_iff (fgt := forgets0) (w := 7) rfl _ _).mp ((h.1 c).1 7)).trans (((dats m 0 c).arrAt_in 7 rfl _).trans ((A_eq m c 7).trans (V_main_arg7 m c))),
        (((dats m 0 c).toRForget_arrAt_iff (fgt := forgets0) (w := 8) rfl _ _).mp ((h.1 c).1 8)).trans (((dats m 0 c).arrAt_in 8 rfl _).trans ((A_eq m c 8).trans (V_main_arg8 m c))),
        (((dats m 0 c).toRForget_arrAt_iff (fgt := forgets0) (w := 9) rfl _ _).mp ((h.1 c).1 9)).trans (((dats m 0 c).arrAt_in 9 rfl _).trans ((A_eq m c 9).trans (V_main_arg9 m c))),
        (((dats m 0 c).toRForget_arrAt_iff (fgt := forgets0) (w := 10) rfl _ _).mp ((h.1 c).1 10)).trans (((dats m 0 c).arrAt_in 10 rfl _).trans ((A_eq m c 10).trans (V_main_arg10 m c))),
        (((dats m 0 c).toRForget_arrAt_iff (fgt := forgets0) (w := 11) rfl _ _).mp ((h.1 c).1 11)).trans (((dats m 0 c).arrAt_in 11 rfl _).trans ((A_eq m c 11).trans (V_main_arg11 m c))),
        (((dats m 0 c).toRForget_arrAt_iff (fgt := forgets0) (w := 12) rfl _ _).mp ((h.1 c).1 12)).trans (((dats m 0 c).arrAt_in 12 rfl _).trans ((A_eq m c 12).trans (V_main_arg12 m c))),
        (((dats m 0 c).toRForget_arrAt_iff (fgt := forgets0) (w := 13) rfl _ _).mp ((h.1 c).1 13)).trans (((dats m 0 c).arrAt_in 13 rfl _).trans ((A_eq m c 13).trans (V_main_arg13 m c))),
        (((dats m 0 c).toRForget_arrAt_iff (fgt := forgets0) (w := 14) rfl _ _).mp ((h.1 c).1 14)).trans (((dats m 0 c).arrAt_in 14 rfl _).trans ((A_eq m c 14).trans (V_main_arg14 m c))),
        (((dats m 0 c).toRForget_arrAt_iff (fgt := forgets0) (w := 15) rfl _ _).mp ((h.1 c).1 15)).trans (((dats m 0 c).arrAt_in 15 rfl _).trans ((A_eq m c 15).trans (V_main_arg15 m c))),
        (((dats m 0 c).toRForget_arrAt_iff (fgt := forgets0) (w := 16) rfl _ _).mp ((h.1 c).1 16)).trans (((dats m 0 c).arrAt_in 16 rfl _).trans ((A_eq m c 16).trans (V_main_arg16 m c)))⟩, h.2⟩) (run_main m ρ)

end Cert.DnBackIdeal.DnFrame

end
-- ==== Proof.lean ====
/-
  The claim of this certificate, put together from the claims of its pairs of programs.
-/
module

public import proofs.«01_k».proof.Defs
public import proofs.«01_k».proof.Proof.MemKvClaims
public import proofs.«01_k».proof.Proof.XattnClaims
public import proofs.«01_k».proof.Proof.GmlpClaims
public import proofs.«01_k».proof.Proof.FinalClaims
public import proofs.«01_k».proof.Proof.InNormClaims
public import proofs.«01_k».proof.Proof.XattnFwdClaims
public import proofs.«01_k».proof.Proof.MemKvFwdClaims
public import proofs.«01_k».proof.Proof.GmlpFwdClaims
public import proofs.«01_k».proof.Proof.AdamClaims
public import proofs.«01_k».proof.Proof.InProjClaims
public import proofs.«01_k».proof.Proof.OutWeightClaims
public import proofs.«01_k».proof.Proof.InWeightClaims
public import proofs.«01_k».proof.Proof.DnPreClaims
public import proofs.«01_k».proof.Proof.DnBackFrame
public import proofs.«01_k».proof.Proof.DnBackIdealFrame
public import proofs.«01_k».proof.Proof.Gen.DnPreBack.Frame
public import proofs.«01_k».proof.Proof.Gen.DnPreBackIdeal.Frame

@[expose] public section

noncomputable section

namespace Cert.Proof

theorem claim : Cert.Claim :=
  ⟨Cert.MemKv.Gen.facts, Cert.MemKvIdeal.Gen.facts, Cert.MemKvRefIdeal.Gen.facts,
    Cert.Xattn.Gen.facts, Cert.XattnIdeal.Gen.facts, Cert.XattnRefIdeal.Gen.facts,
    Cert.Gmlp.Gen.facts, Cert.GmlpIdeal.Gen.facts, Cert.GmlpRefIdeal.Gen.facts,
    Cert.Final.Gen.facts, Cert.FinalIdeal.Gen.facts, Cert.FinalRefIdeal.Gen.facts,
    Cert.DnBack.Gen.facts, Cert.DnBackIdeal.Gen.facts, Cert.DnPreBack.Gen.facts, Cert.DnPreBackIdeal.Gen.facts,
    Cert.InNorm.Gen.facts, Cert.InNormIdeal.Gen.facts, Cert.InNormRefIdeal.Gen.facts,
    Cert.XattnFwd.Gen.facts, Cert.XattnFwdIdeal.Gen.facts, Cert.XattnFwdRefIdeal.Gen.facts,
    Cert.MemKvFwd.Gen.facts, Cert.MemKvFwdIdeal.Gen.facts, Cert.MemKvFwdRefIdeal.Gen.facts,
    Cert.GmlpFwd.Gen.facts, Cert.GmlpFwdIdeal.Gen.facts, Cert.GmlpFwdRefIdeal.Gen.facts,
    Cert.Adam.Gen.facts, Cert.AdamIdeal.Gen.facts, Cert.AdamRefIdeal.Gen.facts,
    Cert.InProj.Gen.facts, Cert.InProjIdeal.Gen.facts, Cert.InProjRefIdeal.Gen.facts,
    Cert.OutWeight.Gen.facts, Cert.OutWeightIdeal.Gen.facts, Cert.OutWeightRefIdeal.Gen.facts,
    Cert.InWeight.Gen.facts, Cert.InWeightIdeal.Gen.facts, Cert.InWeightRefIdeal.Gen.facts,
    Cert.DnPre.Gen.facts, Cert.DnPreIdeal.Gen.facts, Cert.DnPreRefIdeal.Gen.facts,
    xattn_finite_facts, gmlp_finite_facts, final_finite_facts, in_norm_finite_facts,
    fun m ρ _ => Cert.MemKv.Gen.frame m ρ, fun m ρ _ => Cert.MemKvIdeal.Gen.frame m ρ, memkv_ref_quiescent,
    fun m ρ _ => Cert.Xattn.Gen.frame m ρ, fun m ρ _ => Cert.XattnIdeal.Gen.frame m ρ, fun m ρ _ => Cert.XattnIdeal.Gen.frame m ρ,
    xattn_ref_quiescent, fun m ρ _ => xattn_ref_quiescent m ρ trivial,
    fun m ρ _ => Cert.Gmlp.Gen.frame m ρ, fun m ρ _ => Cert.GmlpIdeal.Gen.frame m ρ, fun m ρ _ => Cert.GmlpIdeal.Gen.frame m ρ,
    gmlp_ref_quiescent, fun m ρ _ => gmlp_ref_quiescent m ρ trivial,
    fun m ρ _ => Cert.Final.Gen.frame m ρ, fun m ρ _ => Cert.FinalIdeal.Gen.frame m ρ, fun m ρ _ => Cert.FinalIdeal.Gen.frame m ρ,
    final_ref_quiescent, fun m ρ _ => final_ref_quiescent m ρ trivial,
    fun m ρ _ => Cert.DnBack.DnFrame.frame m ρ, fun m ρ _ => Cert.DnBackIdeal.DnFrame.frame m ρ,
    fun m ρ _ => Cert.DnPreBack.Gen.frame m ρ, fun m ρ _ => Cert.DnPreBackIdeal.Gen.frame m ρ,
    fun m ρ _ => Cert.InNorm.Gen.frame m ρ, fun m ρ _ => Cert.InNormIdeal.Gen.frame m ρ, fun m ρ _ => Cert.InNormIdeal.Gen.frame m ρ,
    in_norm_ref_quiescent, fun m ρ _ => in_norm_ref_quiescent m ρ trivial,
    fun m ρ _ => Cert.XattnFwd.Gen.frame m ρ, fun m ρ _ => Cert.XattnFwdIdeal.Gen.frame m ρ, xattn_fwd_ref_quiescent,
    fun m ρ _ => Cert.MemKvFwd.Gen.frame m ρ, fun m ρ _ => Cert.MemKvFwdIdeal.Gen.frame m ρ, memkv_fwd_ref_quiescent,
    fun m ρ _ => Cert.GmlpFwd.Gen.frame m ρ, fun m ρ _ => Cert.GmlpFwdIdeal.Gen.frame m ρ, gmlp_fwd_ref_quiescent,
    fun m ρ _ => Cert.Adam.Gen.frame m ρ, fun m ρ _ => Cert.AdamIdeal.Gen.frame m ρ, adam_ref_quiescent,
    fun m ρ _ => Cert.InProj.Gen.frame m ρ, fun m ρ _ => Cert.InProjIdeal.Gen.frame m ρ, in_proj_ref_quiescent,
    fun m ρ _ => Cert.OutWeight.Gen.frame m ρ, fun m ρ _ => Cert.OutWeightIdeal.Gen.frame m ρ, out_weight_ref_quiescent,
    fun m ρ _ => Cert.InWeight.Gen.frame m ρ, fun m ρ _ => Cert.InWeightIdeal.Gen.frame m ρ, in_weight_ref_quiescent,
    fun m ρ _ => Cert.DnPre.Gen.frame m ρ, fun m ρ _ => Cert.DnPreIdeal.Gen.frame m ρ, dn_pre_ref_quiescent,
    trivial, memkv_algebraic,
    trivial, xattn_algebraic,
    gmlp_preserves, gmlp_algebraic,
    trivial, final_algebraic,
    trivial, trivial,
    trivial, in_norm_algebraic,
    trivial, xattn_fwd_algebraic,
    trivial, memkv_fwd_algebraic,
    gmlp_fwd_preserves, gmlp_fwd_algebraic,
    trivial, adam_algebraic,
    trivial, in_proj_algebraic,
    trivial, out_weight_algebraic,
    trivial, in_weight_algebraic,
    trivial, dn_pre_algebraic⟩

end Cert.Proof

end
